-- ==== Defs.lean ====
def Pre_GradH (m : (ℓ : Loc Cert.GradH.nD Cert.GradH.τ Cert.GradH.sig) → Buf (Elt Bits) ℓ) : Prop :=
  True

def Pre_GradHIdeal (m : (ℓ : Loc Cert.GradHIdeal.nD Cert.GradHIdeal.τ Cert.GradHIdeal.sig) → Buf (Elt Ideal) ℓ) : Prop :=
  True

def Pre_GradHRefIdeal (m : (ℓ : Loc Cert.GradHRefIdeal.nD Cert.GradHRefIdeal.τ Cert.GradHRefIdeal.sig) → Buf (Elt Ideal) ℓ) : Prop :=
  True

def Pre_GradWIn (m : (ℓ : Loc Cert.GradWIn.nD Cert.GradWIn.τ Cert.GradWIn.sig) → Buf (Elt Bits) ℓ) : Prop :=
  True

def Pre_GradWInIdeal (m : (ℓ : Loc Cert.GradWInIdeal.nD Cert.GradWInIdeal.τ Cert.GradWInIdeal.sig) → Buf (Elt Ideal) ℓ) : Prop :=
  True

def Pre_GradWInRefIdeal (m : (ℓ : Loc Cert.GradWInRefIdeal.nD Cert.GradWInRefIdeal.τ Cert.GradWInRefIdeal.sig) → Buf (Elt Ideal) ℓ) : Prop :=
  True

def Pre_GradWOut (m : (ℓ : Loc Cert.GradWOut.nD Cert.GradWOut.τ Cert.GradWOut.sig) → Buf (Elt Bits) ℓ) : Prop :=
  True

def Pre_GradWOutIdeal (m : (ℓ : Loc Cert.GradWOutIdeal.nD Cert.GradWOutIdeal.τ Cert.GradWOutIdeal.sig) → Buf (Elt Ideal) ℓ) : Prop :=
  True

def Pre_GradWOutRefIdeal (m : (ℓ : Loc Cert.GradWOutRefIdeal.nD Cert.GradWOutRefIdeal.τ Cert.GradWOutRefIdeal.sig) → Buf (Elt Ideal) ℓ) : Prop :=
  True

def Pre_GradWAttn (m : (ℓ : Loc Cert.GradWAttn.nD Cert.GradWAttn.τ Cert.GradWAttn.sig) → Buf (Elt Bits) ℓ) : Prop :=
  True

def Pre_GradWAttnIdeal (m : (ℓ : Loc Cert.GradWAttnIdeal.nD Cert.GradWAttnIdeal.τ Cert.GradWAttnIdeal.sig) → Buf (Elt Ideal) ℓ) : Prop :=
  True

def Pre_GradWAttnRefIdeal (m : (ℓ : Loc Cert.GradWAttnRefIdeal.nD Cert.GradWAttnRefIdeal.τ Cert.GradWAttnRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamAttn (m : (ℓ : Loc Cert.AdamAttn.nD Cert.AdamAttn.τ Cert.AdamAttn.sig) → Buf (Elt Bits) ℓ) : Prop :=
  True

def Pre_AdamAttnIdeal (m : (ℓ : Loc Cert.AdamAttnIdeal.nD Cert.AdamAttnIdeal.τ Cert.AdamAttnIdeal.sig) → Buf (Elt Ideal) ℓ) : Prop :=
  True

def Pre_AdamAttnRefIdeal (m : (ℓ : Loc Cert.AdamAttnRefIdeal.nD Cert.AdamAttnRefIdeal.τ Cert.AdamAttnRefIdeal.sig) → Buf (Elt Ideal) ℓ) : Prop :=
  True

def Pre_AdamAda (m : (ℓ : Loc Cert.AdamAda.nD Cert.AdamAda.τ Cert.AdamAda.sig) → Buf (Elt Bits) ℓ) : Prop :=
  True

def Pre_AdamAdaIdeal (m : (ℓ : Loc Cert.AdamAdaIdeal.nD Cert.AdamAdaIdeal.τ Cert.AdamAdaIdeal.sig) → Buf (Elt Ideal) ℓ) : Prop :=
  True

def Pre_AdamAdaRefIdeal (m : (ℓ : Loc Cert.AdamAdaRefIdeal.nD Cert.AdamAdaRefIdeal.τ Cert.AdamAdaRefIdeal.sig) → Buf (Elt Ideal) ℓ) : Prop :=
  True

def Pre_AdamRest (m : (ℓ : Loc Cert.AdamRest.nD Cert.AdamRest.τ Cert.AdamRest.sig) → Buf (Elt Bits) ℓ) : Prop :=
  True

def Pre_AdamRestIdeal (m : (ℓ : Loc Cert.AdamRestIdeal.nD Cert.AdamRestIdeal.τ Cert.AdamRestIdeal.sig) → Buf (Elt Ideal) ℓ) : Prop :=
  True

def Pre_AdamRestRefIdeal (m : (ℓ : Loc Cert.AdamRestRefIdeal.nD Cert.AdamRestRefIdeal.τ Cert.AdamRestRefIdeal.sig) → Buf (Elt Ideal) ℓ) : Prop :=
  True

def Pre_FinalSums (m : (ℓ : Loc Cert.FinalSums.nD Cert.FinalSums.τ Cert.FinalSums.sig) → Buf (Elt Bits) ℓ) : Prop :=
  True

def Pre_FinalSumsIdeal (m : (ℓ : Loc Cert.FinalSumsIdeal.nD Cert.FinalSumsIdeal.τ Cert.FinalSumsIdeal.sig) → Buf (Elt Ideal) ℓ) : Prop :=
  True

def Pre_FinalSumsRefIdeal (m : (ℓ : Loc Cert.FinalSumsRefIdeal.nD Cert.FinalSumsRefIdeal.τ Cert.FinalSumsRefIdeal.sig) → Buf (Elt Ideal) ℓ) : Prop :=
  True

def Pre_PairSums [hPre_in_mesh : Cert.Pre_in_mesh.Facts] (m : (ℓ : Loc Cert.PairSums.nD Cert.PairSums.τ Cert.PairSums.sig) → Buf (Elt Bits) ℓ) : Prop :=
  ∀ c : Dev Cert.PairSums.nD,
    (Cert.Pre_in_mesh.fn (F := Bits) (m ((c.tc : Thread Cert.PairSums.nD Cert.PairSums.τ).loc Cert.PairSums.main_arg0)) (m ((c.tc : Thread Cert.PairSums.nD Cert.PairSums.τ).loc Cert.PairSums.main_arg1)) (m ((c.tc : Thread Cert.PairSums.nD Cert.PairSums.τ).loc Cert.PairSums.main_arg2))) = (fun _ => 1#1)

def Pre_PairSumsIdeal [hPre_in_mesh : Cert.Pre_in_mesh.Facts] (m : (ℓ : Loc Cert.PairSumsIdeal.nD Cert.PairSumsIdeal.τ Cert.PairSumsIdeal.sig) → Buf (Elt Ideal) ℓ) : Prop :=
  ∀ c : Dev Cert.PairSumsIdeal.nD,
    (Cert.Pre_in_mesh.fn (F := Ideal) (m ((c.tc : Thread Cert.PairSumsIdeal.nD Cert.PairSumsIdeal.τ).loc Cert.PairSumsIdeal.main_arg0)) (m ((c.tc : Thread Cert.PairSumsIdeal.nD Cert.PairSumsIdeal.τ).loc Cert.PairSumsIdeal.main_arg1)) (m ((c.tc : Thread Cert.PairSumsIdeal.nD Cert.PairSumsIdeal.τ).loc Cert.PairSumsIdeal.main_arg2))) = (fun _ => 1#1)

def Pre_PairSumsRefIdeal [hPre_in_mesh : Cert.Pre_in_mesh.Facts] (m : (ℓ : Loc Cert.PairSumsRefIdeal.nD Cert.PairSumsRefIdeal.τ Cert.PairSumsRefIdeal.sig) → Buf (Elt Ideal) ℓ) : Prop :=
  ∀ c : Dev Cert.PairSumsRefIdeal.nD,
    (Cert.Pre_in_mesh.fn (F := Ideal) (m ((c.tc : Thread Cert.PairSumsRefIdeal.nD Cert.PairSumsRefIdeal.τ).loc Cert.PairSumsRefIdeal.main_arg0)) (m ((c.tc : Thread Cert.PairSumsRefIdeal.nD Cert.PairSumsRefIdeal.τ).loc Cert.PairSumsRefIdeal.main_arg1)) (m ((c.tc : Thread Cert.PairSumsRefIdeal.nD Cert.PairSumsRefIdeal.τ).loc Cert.PairSumsRefIdeal.main_arg2))) = (fun _ => 1#1)

def Pre_PairRest [hPre_in_mesh_rest : Cert.Pre_in_mesh_rest.Facts] (m : (ℓ : Loc Cert.PairRest.nD Cert.PairRest.τ Cert.PairRest.sig) → Buf (Elt Bits) ℓ) : Prop :=
  ∀ c : Dev Cert.PairRest.nD,
    (Cert.Pre_in_mesh_rest.fn (F := Bits) (m ((c.tc : Thread Cert.PairRest.nD Cert.PairRest.τ).loc Cert.PairRest.main_arg0)) (m ((c.tc : Thread Cert.PairRest.nD Cert.PairRest.τ).loc Cert.PairRest.main_arg1)) (m ((c.tc : Thread Cert.PairRest.nD Cert.PairRest.τ).loc Cert.PairRest.main_arg2)) (m ((c.tc : Thread Cert.PairRest.nD Cert.PairRest.τ).loc Cert.PairRest.main_arg3)) (m ((c.tc : Thread Cert.PairRest.nD Cert.PairRest.τ).loc Cert.PairRest.main_arg4)) (m ((c.tc : Thread Cert.PairRest.nD Cert.PairRest.τ).loc Cert.PairRest.main_arg5)) (m ((c.tc : Thread Cert.PairRest.nD Cert.PairRest.τ).loc Cert.PairRest.main_arg6))) = (fun _ => 1#1)

def Pre_PairRestIdeal [hPre_in_mesh_rest : Cert.Pre_in_mesh_rest.Facts] (m : (ℓ : Loc Cert.PairRestIdeal.nD Cert.PairRestIdeal.τ Cert.PairRestIdeal.sig) → Buf (Elt Ideal) ℓ) : Prop :=
  ∀ c : Dev Cert.PairRestIdeal.nD,
    (Cert.Pre_in_mesh_rest.fn (F := Ideal) (m ((c.tc : Thread Cert.PairRestIdeal.nD Cert.PairRestIdeal.τ).loc Cert.PairRestIdeal.main_arg0)) (m ((c.tc : Thread Cert.PairRestIdeal.nD Cert.PairRestIdeal.τ).loc Cert.PairRestIdeal.main_arg1)) (m ((c.tc : Thread Cert.PairRestIdeal.nD Cert.PairRestIdeal.τ).loc Cert.PairRestIdeal.main_arg2)) (m ((c.tc : Thread Cert.PairRestIdeal.nD Cert.PairRestIdeal.τ).loc Cert.PairRestIdeal.main_arg3)) (m ((c.tc : Thread Cert.PairRestIdeal.nD Cert.PairRestIdeal.τ).loc Cert.PairRestIdeal.main_arg4)) (m ((c.tc : Thread Cert.PairRestIdeal.nD Cert.PairRestIdeal.τ).loc Cert.PairRestIdeal.main_arg5)) (m ((c.tc : Thread Cert.PairRestIdeal.nD Cert.PairRestIdeal.τ).loc Cert.PairRestIdeal.main_arg6))) = (fun _ => 1#1)

def Pre_PairRestRefIdeal [hPre_in_mesh_rest : Cert.Pre_in_mesh_rest.Facts] (m : (ℓ : Loc Cert.PairRestRefIdeal.nD Cert.PairRestRefIdeal.τ Cert.PairRestRefIdeal.sig) → Buf (Elt Ideal) ℓ) : Prop :=
  ∀ c : Dev Cert.PairRestRefIdeal.nD,
    (Cert.Pre_in_mesh_rest.fn (F := Ideal) (m ((c.tc : Thread Cert.PairRestRefIdeal.nD Cert.PairRestRefIdeal.τ).loc Cert.PairRestRefIdeal.main_arg0)) (m ((c.tc : Thread Cert.PairRestRefIdeal.nD Cert.PairRestRefIdeal.τ).loc Cert.PairRestRefIdeal.main_arg1)) (m ((c.tc : Thread Cert.PairRestRefIdeal.nD Cert.PairRestRefIdeal.τ).loc Cert.PairRestRefIdeal.main_arg2)) (m ((c.tc : Thread Cert.PairRestRefIdeal.nD Cert.PairRestRefIdeal.τ).loc Cert.PairRestRefIdeal.main_arg3)) (m ((c.tc : Thread Cert.PairRestRefIdeal.nD Cert.PairRestRefIdeal.τ).loc Cert.PairRestRefIdeal.main_arg4)) (m ((c.tc : Thread Cert.PairRestRefIdeal.nD Cert.PairRestRefIdeal.τ).loc Cert.PairRestRefIdeal.main_arg5)) (m ((c.tc : Thread Cert.PairRestRefIdeal.nD Cert.PairRestRefIdeal.τ).loc Cert.PairRestRefIdeal.main_arg6))) = (fun _ => 1#1)

def quiescent_GradH [hGradH : Cert.GradH.Facts] : Prop :=
  ∀ (m : (ℓ : Loc Cert.GradH.nD Cert.GradH.τ Cert.GradH.sig) → Buf (Elt Bits) ℓ) (g : Dev Cert.GradH.nD → PrngReg), Pre_GradH m →
    θ_run (Cert.GradH.defs (F := Bits)) (onTc (τ := Cert.GradH.τ) (Cert.GradH.main (F := Bits))) ⟨m, fun _ => 0, g⟩ (fun r => (∀ c : Dev Cert.GradH.nD,
      r.2.mem ((c.tc : Thread Cert.GradH.nD Cert.GradH.τ).loc Cert.GradH.main_arg0) = m ((c.tc : Thread Cert.GradH.nD Cert.GradH.τ).loc Cert.GradH.main_arg0)
      ∧ r.2.mem ((c.tc : Thread Cert.GradH.nD Cert.GradH.τ).loc Cert.GradH.main_arg1) = m ((c.tc : Thread Cert.GradH.nD Cert.GradH.τ).loc Cert.GradH.main_arg1)
      ∧ r.2.mem ((c.tc : Thread Cert.GradH.nD Cert.GradH.τ).loc Cert.GradH.main_arg2) = m ((c.tc : Thread Cert.GradH.nD Cert.GradH.τ).loc Cert.GradH.main_arg2)
      ∧ r.2.mem ((c.tc : Thread Cert.GradH.nD Cert.GradH.τ).loc Cert.GradH.main_arg3) = m ((c.tc : Thread Cert.GradH.nD Cert.GradH.τ).loc Cert.GradH.main_arg3)
      ∧ r.2.mem ((c.tc : Thread Cert.GradH.nD Cert.GradH.τ).loc Cert.GradH.main_arg4) = m ((c.tc : Thread Cert.GradH.nD Cert.GradH.τ).loc Cert.GradH.main_arg4)
      ∧ r.2.mem ((c.tc : Thread Cert.GradH.nD Cert.GradH.τ).loc Cert.GradH.main_arg5) = m ((c.tc : Thread Cert.GradH.nD Cert.GradH.τ).loc Cert.GradH.main_arg5))
      ∧ r.2.sem = fun _ => 0)

def quiescent_GradHIdeal [hGradHIdeal : Cert.GradHIdeal.Facts] : Prop :=
  ∀ (m : (ℓ : Loc Cert.GradHIdeal.nD Cert.GradHIdeal.τ Cert.GradHIdeal.sig) → Buf (Elt Ideal) ℓ) (g : Dev Cert.GradHIdeal.nD → PrngReg), Pre_GradHIdeal m →
    θ_run (Cert.GradHIdeal.defs (F := Ideal)) (onTc (τ := Cert.GradHIdeal.τ) (Cert.GradHIdeal.main (F := Ideal))) ⟨m, fun _ => 0, g⟩ (fun r => (∀ c : Dev Cert.GradHIdeal.nD,
      r.2.mem ((c.tc : Thread Cert.GradHIdeal.nD Cert.GradHIdeal.τ).loc Cert.GradHIdeal.main_arg0) = m ((c.tc : Thread Cert.GradHIdeal.nD Cert.GradHIdeal.τ).loc Cert.GradHIdeal.main_arg0)
      ∧ r.2.mem ((c.tc : Thread Cert.GradHIdeal.nD Cert.GradHIdeal.τ).loc Cert.GradHIdeal.main_arg1) = m ((c.tc : Thread Cert.GradHIdeal.nD Cert.GradHIdeal.τ).loc Cert.GradHIdeal.main_arg1)
      ∧ r.2.mem ((c.tc : Thread Cert.GradHIdeal.nD Cert.GradHIdeal.τ).loc Cert.GradHIdeal.main_arg2) = m ((c.tc : Thread Cert.GradHIdeal.nD Cert.GradHIdeal.τ).loc Cert.GradHIdeal.main_arg2)
      ∧ r.2.mem ((c.tc : Thread Cert.GradHIdeal.nD Cert.GradHIdeal.τ).loc Cert.GradHIdeal.main_arg3) = m ((c.tc : Thread Cert.GradHIdeal.nD Cert.GradHIdeal.τ).loc Cert.GradHIdeal.main_arg3)
      ∧ r.2.mem ((c.tc : Thread Cert.GradHIdeal.nD Cert.GradHIdeal.τ).loc Cert.GradHIdeal.main_arg4) = m ((c.tc : Thread Cert.GradHIdeal.nD Cert.GradHIdeal.τ).loc Cert.GradHIdeal.main_arg4)
      ∧ r.2.mem ((c.tc : Thread Cert.GradHIdeal.nD Cert.GradHIdeal.τ).loc Cert.GradHIdeal.main_arg5) = m ((c.tc : Thread Cert.GradHIdeal.nD Cert.GradHIdeal.τ).loc Cert.GradHIdeal.main_arg5))
      ∧ r.2.sem = fun _ => 0)

def quiescent_GradHRefIdeal [hGradHRefIdeal : Cert.GradHRefIdeal.Facts] : Prop :=
  ∀ (m : (ℓ : Loc Cert.GradHRefIdeal.nD Cert.GradHRefIdeal.τ Cert.GradHRefIdeal.sig) → Buf (Elt Ideal) ℓ) (g : Dev Cert.GradHRefIdeal.nD → PrngReg), Pre_GradHRefIdeal m →
    θ_run (Cert.GradHRefIdeal.defs (F := Ideal)) (onTc (τ := Cert.GradHRefIdeal.τ) (Cert.GradHRefIdeal.main (F := Ideal))) ⟨m, fun _ => 0, g⟩ (fun r => (∀ c : Dev Cert.GradHRefIdeal.nD,
      r.2.mem ((c.tc : Thread Cert.GradHRefIdeal.nD Cert.GradHRefIdeal.τ).loc Cert.GradHRefIdeal.main_arg0) = m ((c.tc : Thread Cert.GradHRefIdeal.nD Cert.GradHRefIdeal.τ).loc Cert.GradHRefIdeal.main_arg0)
      ∧ r.2.mem ((c.tc : Thread Cert.GradHRefIdeal.nD Cert.GradHRefIdeal.τ).loc Cert.GradHRefIdeal.main_arg1) = m ((c.tc : Thread Cert.GradHRefIdeal.nD Cert.GradHRefIdeal.τ).loc Cert.GradHRefIdeal.main_arg1)
      ∧ r.2.mem ((c.tc : Thread Cert.GradHRefIdeal.nD Cert.GradHRefIdeal.τ).loc Cert.GradHRefIdeal.main_arg2) = m ((c.tc : Thread Cert.GradHRefIdeal.nD Cert.GradHRefIdeal.τ).loc Cert.GradHRefIdeal.main_arg2)
      ∧ r.2.mem ((c.tc : Thread Cert.GradHRefIdeal.nD Cert.GradHRefIdeal.τ).loc Cert.GradHRefIdeal.main_arg3) = m ((c.tc : Thread Cert.GradHRefIdeal.nD Cert.GradHRefIdeal.τ).loc Cert.GradHRefIdeal.main_arg3)
      ∧ r.2.mem ((c.tc : Thread Cert.GradHRefIdeal.nD Cert.GradHRefIdeal.τ).loc Cert.GradHRefIdeal.main_arg4) = m ((c.tc : Thread Cert.GradHRefIdeal.nD Cert.GradHRefIdeal.τ).loc Cert.GradHRefIdeal.main_arg4)
      ∧ r.2.mem ((c.tc : Thread Cert.GradHRefIdeal.nD Cert.GradHRefIdeal.τ).loc Cert.GradHRefIdeal.main_arg5) = m ((c.tc : Thread Cert.GradHRefIdeal.nD Cert.GradHRefIdeal.τ).loc Cert.GradHRefIdeal.main_arg5))
      ∧ r.2.sem = fun _ => 0)

def quiescent_GradWIn [hGradWIn : Cert.GradWIn.Facts] : Prop :=
  ∀ (m : (ℓ : Loc Cert.GradWIn.nD Cert.GradWIn.τ Cert.GradWIn.sig) → Buf (Elt Bits) ℓ) (g : Dev Cert.GradWIn.nD → PrngReg), Pre_GradWIn m →
    θ_run (Cert.GradWIn.defs (F := Bits)) (onTc (τ := Cert.GradWIn.τ) (Cert.GradWIn.main (F := Bits))) ⟨m, fun _ => 0, g⟩ (fun r => (∀ c : Dev Cert.GradWIn.nD,
      r.2.mem ((c.tc : Thread Cert.GradWIn.nD Cert.GradWIn.τ).loc Cert.GradWIn.main_arg0) = m ((c.tc : Thread Cert.GradWIn.nD Cert.GradWIn.τ).loc Cert.GradWIn.main_arg0)
      ∧ r.2.mem ((c.tc : Thread Cert.GradWIn.nD Cert.GradWIn.τ).loc Cert.GradWIn.main_arg1) = m ((c.tc : Thread Cert.GradWIn.nD Cert.GradWIn.τ).loc Cert.GradWIn.main_arg1)
      ∧ r.2.mem ((c.tc : Thread Cert.GradWIn.nD Cert.GradWIn.τ).loc Cert.GradWIn.main_arg2) = m ((c.tc : Thread Cert.GradWIn.nD Cert.GradWIn.τ).loc Cert.GradWIn.main_arg2))
      ∧ r.2.sem = fun _ => 0)

def quiescent_GradWInIdeal [hGradWInIdeal : Cert.GradWInIdeal.Facts] : Prop :=
  ∀ (m : (ℓ : Loc Cert.GradWInIdeal.nD Cert.GradWInIdeal.τ Cert.GradWInIdeal.sig) → Buf (Elt Ideal) ℓ) (g : Dev Cert.GradWInIdeal.nD → PrngReg), Pre_GradWInIdeal m →
    θ_run (Cert.GradWInIdeal.defs (F := Ideal)) (onTc (τ := Cert.GradWInIdeal.τ) (Cert.GradWInIdeal.main (F := Ideal))) ⟨m, fun _ => 0, g⟩ (fun r => (∀ c : Dev Cert.GradWInIdeal.nD,
      r.2.mem ((c.tc : Thread Cert.GradWInIdeal.nD Cert.GradWInIdeal.τ).loc Cert.GradWInIdeal.main_arg0) = m ((c.tc : Thread Cert.GradWInIdeal.nD Cert.GradWInIdeal.τ).loc Cert.GradWInIdeal.main_arg0)
      ∧ r.2.mem ((c.tc : Thread Cert.GradWInIdeal.nD Cert.GradWInIdeal.τ).loc Cert.GradWInIdeal.main_arg1) = m ((c.tc : Thread Cert.GradWInIdeal.nD Cert.GradWInIdeal.τ).loc Cert.GradWInIdeal.main_arg1)
      ∧ r.2.mem ((c.tc : Thread Cert.GradWInIdeal.nD Cert.GradWInIdeal.τ).loc Cert.GradWInIdeal.main_arg2) = m ((c.tc : Thread Cert.GradWInIdeal.nD Cert.GradWInIdeal.τ).loc Cert.GradWInIdeal.main_arg2))
      ∧ r.2.sem = fun _ => 0)

def quiescent_GradWInRefIdeal [hGradWInRefIdeal : Cert.GradWInRefIdeal.Facts] : Prop :=
  ∀ (m : (ℓ : Loc Cert.GradWInRefIdeal.nD Cert.GradWInRefIdeal.τ Cert.GradWInRefIdeal.sig) → Buf (Elt Ideal) ℓ) (g : Dev Cert.GradWInRefIdeal.nD → PrngReg), Pre_GradWInRefIdeal m →
    θ_run (Cert.GradWInRefIdeal.defs (F := Ideal)) (onTc (τ := Cert.GradWInRefIdeal.τ) (Cert.GradWInRefIdeal.main (F := Ideal))) ⟨m, fun _ => 0, g⟩ (fun r => (∀ c : Dev Cert.GradWInRefIdeal.nD,
      r.2.mem ((c.tc : Thread Cert.GradWInRefIdeal.nD Cert.GradWInRefIdeal.τ).loc Cert.GradWInRefIdeal.main_arg0) = m ((c.tc : Thread Cert.GradWInRefIdeal.nD Cert.GradWInRefIdeal.τ).loc Cert.GradWInRefIdeal.main_arg0)
      ∧ r.2.mem ((c.tc : Thread Cert.GradWInRefIdeal.nD Cert.GradWInRefIdeal.τ).loc Cert.GradWInRefIdeal.main_arg1) = m ((c.tc : Thread Cert.GradWInRefIdeal.nD Cert.GradWInRefIdeal.τ).loc Cert.GradWInRefIdeal.main_arg1)
      ∧ r.2.mem ((c.tc : Thread Cert.GradWInRefIdeal.nD Cert.GradWInRefIdeal.τ).loc Cert.GradWInRefIdeal.main_arg2) = m ((c.tc : Thread Cert.GradWInRefIdeal.nD Cert.GradWInRefIdeal.τ).loc Cert.GradWInRefIdeal.main_arg2))
      ∧ r.2.sem = fun _ => 0)

def quiescent_GradWOut [hGradWOut : Cert.GradWOut.Facts] : Prop :=
  ∀ (m : (ℓ : Loc Cert.GradWOut.nD Cert.GradWOut.τ Cert.GradWOut.sig) → Buf (Elt Bits) ℓ) (g : Dev Cert.GradWOut.nD → PrngReg), Pre_GradWOut m →
    θ_run (Cert.GradWOut.defs (F := Bits)) (onTc (τ := Cert.GradWOut.τ) (Cert.GradWOut.main (F := Bits))) ⟨m, fun _ => 0, g⟩ (fun r => (∀ c : Dev Cert.GradWOut.nD,
      r.2.mem ((c.tc : Thread Cert.GradWOut.nD Cert.GradWOut.τ).loc Cert.GradWOut.main_arg0) = m ((c.tc : Thread Cert.GradWOut.nD Cert.GradWOut.τ).loc Cert.GradWOut.main_arg0)
      ∧ r.2.mem ((c.tc : Thread Cert.GradWOut.nD Cert.GradWOut.τ).loc Cert.GradWOut.main_arg1) = m ((c.tc : Thread Cert.GradWOut.nD Cert.GradWOut.τ).loc Cert.GradWOut.main_arg1)
      ∧ r.2.mem ((c.tc : Thread Cert.GradWOut.nD Cert.GradWOut.τ).loc Cert.GradWOut.main_arg2) = m ((c.tc : Thread Cert.GradWOut.nD Cert.GradWOut.τ).loc Cert.GradWOut.main_arg2))
      ∧ r.2.sem = fun _ => 0)

def quiescent_GradWOutIdeal [hGradWOutIdeal : Cert.GradWOutIdeal.Facts] : Prop :=
  ∀ (m : (ℓ : Loc Cert.GradWOutIdeal.nD Cert.GradWOutIdeal.τ Cert.GradWOutIdeal.sig) → Buf (Elt Ideal) ℓ) (g : Dev Cert.GradWOutIdeal.nD → PrngReg), Pre_GradWOutIdeal m →
    θ_run (Cert.GradWOutIdeal.defs (F := Ideal)) (onTc (τ := Cert.GradWOutIdeal.τ) (Cert.GradWOutIdeal.main (F := Ideal))) ⟨m, fun _ => 0, g⟩ (fun r => (∀ c : Dev Cert.GradWOutIdeal.nD,
      r.2.mem ((c.tc : Thread Cert.GradWOutIdeal.nD Cert.GradWOutIdeal.τ).loc Cert.GradWOutIdeal.main_arg0) = m ((c.tc : Thread Cert.GradWOutIdeal.nD Cert.GradWOutIdeal.τ).loc Cert.GradWOutIdeal.main_arg0)
      ∧ r.2.mem ((c.tc : Thread Cert.GradWOutIdeal.nD Cert.GradWOutIdeal.τ).loc Cert.GradWOutIdeal.main_arg1) = m ((c.tc : Thread Cert.GradWOutIdeal.nD Cert.GradWOutIdeal.τ).loc Cert.GradWOutIdeal.main_arg1)
      ∧ r.2.mem ((c.tc : Thread Cert.GradWOutIdeal.nD Cert.GradWOutIdeal.τ).loc Cert.GradWOutIdeal.main_arg2) = m ((c.tc : Thread Cert.GradWOutIdeal.nD Cert.GradWOutIdeal.τ).loc Cert.GradWOutIdeal.main_arg2))
      ∧ r.2.sem = fun _ => 0)

def quiescent_GradWOutRefIdeal [hGradWOutRefIdeal : Cert.GradWOutRefIdeal.Facts] : Prop :=
  ∀ (m : (ℓ : Loc Cert.GradWOutRefIdeal.nD Cert.GradWOutRefIdeal.τ Cert.GradWOutRefIdeal.sig) → Buf (Elt Ideal) ℓ) (g : Dev Cert.GradWOutRefIdeal.nD → PrngReg), Pre_GradWOutRefIdeal m →
    θ_run (Cert.GradWOutRefIdeal.defs (F := Ideal)) (onTc (τ := Cert.GradWOutRefIdeal.τ) (Cert.GradWOutRefIdeal.main (F := Ideal))) ⟨m, fun _ => 0, g⟩ (fun r => (∀ c : Dev Cert.GradWOutRefIdeal.nD,
      r.2.mem ((c.tc : Thread Cert.GradWOutRefIdeal.nD Cert.GradWOutRefIdeal.τ).loc Cert.GradWOutRefIdeal.main_arg0) = m ((c.tc : Thread Cert.GradWOutRefIdeal.nD Cert.GradWOutRefIdeal.τ).loc Cert.GradWOutRefIdeal.main_arg0)
      ∧ r.2.mem ((c.tc : Thread Cert.GradWOutRefIdeal.nD Cert.GradWOutRefIdeal.τ).loc Cert.GradWOutRefIdeal.main_arg1) = m ((c.tc : Thread Cert.GradWOutRefIdeal.nD Cert.GradWOutRefIdeal.τ).loc Cert.GradWOutRefIdeal.main_arg1)
      ∧ r.2.mem ((c.tc : Thread Cert.GradWOutRefIdeal.nD Cert.GradWOutRefIdeal.τ).loc Cert.GradWOutRefIdeal.main_arg2) = m ((c.tc : Thread Cert.GradWOutRefIdeal.nD Cert.GradWOutRefIdeal.τ).loc Cert.GradWOutRefIdeal.main_arg2))
      ∧ r.2.sem = fun _ => 0)

def quiescent_GradWAttn [hGradWAttn : Cert.GradWAttn.Facts] : Prop :=
  ∀ (m : (ℓ : Loc Cert.GradWAttn.nD Cert.GradWAttn.τ Cert.GradWAttn.sig) → Buf (Elt Bits) ℓ) (g : Dev Cert.GradWAttn.nD → PrngReg), Pre_GradWAttn m →
    θ_run (Cert.GradWAttn.defs (F := Bits)) (onTc (τ := Cert.GradWAttn.τ) (Cert.GradWAttn.main (F := Bits))) ⟨m, fun _ => 0, g⟩ (fun r => (∀ c : Dev Cert.GradWAttn.nD,
      r.2.mem ((c.tc : Thread Cert.GradWAttn.nD Cert.GradWAttn.τ).loc Cert.GradWAttn.main_arg0) = m ((c.tc : Thread Cert.GradWAttn.nD Cert.GradWAttn.τ).loc Cert.GradWAttn.main_arg0)
      ∧ r.2.mem ((c.tc : Thread Cert.GradWAttn.nD Cert.GradWAttn.τ).loc Cert.GradWAttn.main_arg1) = m ((c.tc : Thread Cert.GradWAttn.nD Cert.GradWAttn.τ).loc Cert.GradWAttn.main_arg1)
      ∧ r.2.mem ((c.tc : Thread Cert.GradWAttn.nD Cert.GradWAttn.τ).loc Cert.GradWAttn.main_arg2) = m ((c.tc : Thread Cert.GradWAttn.nD Cert.GradWAttn.τ).loc Cert.GradWAttn.main_arg2))
      ∧ r.2.sem = fun _ => 0)

def quiescent_GradWAttnIdeal [hGradWAttnIdeal : Cert.GradWAttnIdeal.Facts] : Prop :=
  ∀ (m : (ℓ : Loc Cert.GradWAttnIdeal.nD Cert.GradWAttnIdeal.τ Cert.GradWAttnIdeal.sig) → Buf (Elt Ideal) ℓ) (g : Dev Cert.GradWAttnIdeal.nD → PrngReg), Pre_GradWAttnIdeal m →
    θ_run (Cert.GradWAttnIdeal.defs (F := Ideal)) (onTc (τ := Cert.GradWAttnIdeal.τ) (Cert.GradWAttnIdeal.main (F := Ideal))) ⟨m, fun _ => 0, g⟩ (fun r => (∀ c : Dev Cert.GradWAttnIdeal.nD,
      r.2.mem ((c.tc : Thread Cert.GradWAttnIdeal.nD Cert.GradWAttnIdeal.τ).loc Cert.GradWAttnIdeal.main_arg0) = m ((c.tc : Thread Cert.GradWAttnIdeal.nD Cert.GradWAttnIdeal.τ).loc Cert.GradWAttnIdeal.main_arg0)
      ∧ r.2.mem ((c.tc : Thread Cert.GradWAttnIdeal.nD Cert.GradWAttnIdeal.τ).loc Cert.GradWAttnIdeal.main_arg1) = m ((c.tc : Thread Cert.GradWAttnIdeal.nD Cert.GradWAttnIdeal.τ).loc Cert.GradWAttnIdeal.main_arg1)
      ∧ r.2.mem ((c.tc : Thread Cert.GradWAttnIdeal.nD Cert.GradWAttnIdeal.τ).loc Cert.GradWAttnIdeal.main_arg2) = m ((c.tc : Thread Cert.GradWAttnIdeal.nD Cert.GradWAttnIdeal.τ).loc Cert.GradWAttnIdeal.main_arg2))
      ∧ r.2.sem = fun _ => 0)

def quiescent_GradWAttnRefIdeal [hGradWAttnRefIdeal : Cert.GradWAttnRefIdeal.Facts] : Prop :=
  ∀ (m : (ℓ : Loc Cert.GradWAttnRefIdeal.nD Cert.GradWAttnRefIdeal.τ Cert.GradWAttnRefIdeal.sig) → Buf (Elt Ideal) ℓ) (g : Dev Cert.GradWAttnRefIdeal.nD → PrngReg), Pre_GradWAttnRefIdeal m →
    θ_run (Cert.GradWAttnRefIdeal.defs (F := Ideal)) (onTc (τ := Cert.GradWAttnRefIdeal.τ) (Cert.GradWAttnRefIdeal.main (F := Ideal))) ⟨m, fun _ => 0, g⟩ (fun r => (∀ c : Dev Cert.GradWAttnRefIdeal.nD,
      r.2.mem ((c.tc : Thread Cert.GradWAttnRefIdeal.nD Cert.GradWAttnRefIdeal.τ).loc Cert.GradWAttnRefIdeal.main_arg0) = m ((c.tc : Thread Cert.GradWAttnRefIdeal.nD Cert.GradWAttnRefIdeal.τ).loc Cert.GradWAttnRefIdeal.main_arg0)
      ∧ r.2.mem ((c.tc : Thread Cert.GradWAttnRefIdeal.nD Cert.GradWAttnRefIdeal.τ).loc Cert.GradWAttnRefIdeal.main_arg1) = m ((c.tc : Thread Cert.GradWAttnRefIdeal.nD Cert.GradWAttnRefIdeal.τ).loc Cert.GradWAttnRefIdeal.main_arg1)
      ∧ r.2.mem ((c.tc : Thread Cert.GradWAttnRefIdeal.nD Cert.GradWAttnRefIdeal.τ).loc Cert.GradWAttnRefIdeal.main_arg2) = m ((c.tc : Thread Cert.GradWAttnRefIdeal.nD Cert.GradWAttnRefIdeal.τ).loc Cert.GradWAttnRefIdeal.main_arg2))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3)
      ∧ r.2.mem ((c.tc : Thread Cert.AdamInRefIdeal.nD Cert.AdamInRefIdeal.τ).loc Cert.AdamInRefIdeal.main_arg4) = m ((c.tc : Thread Cert.AdamInRefIdeal.nD Cert.AdamInRefIdeal.τ).loc Cert.AdamInRefIdeal.main_arg4))
      ∧ r.2.sem = fun _ => 0)

def quiescent_AdamAttn [hAdamAttn : Cert.AdamAttn.Facts] : Prop :=
  ∀ (m : (ℓ : Loc Cert.AdamAttn.nD Cert.AdamAttn.τ Cert.AdamAttn.sig) → Buf (Elt Bits) ℓ) (g : Dev Cert.AdamAttn.nD → PrngReg), Pre_AdamAttn m →
    θ_run (Cert.AdamAttn.defs (F := Bits)) (onTc (τ := Cert.AdamAttn.τ) (Cert.AdamAttn.main (F := Bits))) ⟨m, fun _ => 0, g⟩ (fun r => (∀ c : Dev Cert.AdamAttn.nD,
      r.2.mem ((c.tc : Thread Cert.AdamAttn.nD Cert.AdamAttn.τ).loc Cert.AdamAttn.main_arg0) = m ((c.tc : Thread Cert.AdamAttn.nD Cert.AdamAttn.τ).loc Cert.AdamAttn.main_arg0)
      ∧ r.2.mem ((c.tc : Thread Cert.AdamAttn.nD Cert.AdamAttn.τ).loc Cert.AdamAttn.main_arg1) = m ((c.tc : Thread Cert.AdamAttn.nD Cert.AdamAttn.τ).loc Cert.AdamAttn.main_arg1)
      ∧ r.2.mem ((c.tc : Thread Cert.AdamAttn.nD Cert.AdamAttn.τ).loc Cert.AdamAttn.main_arg2) = m ((c.tc : Thread Cert.AdamAttn.nD Cert.AdamAttn.τ).loc Cert.AdamAttn.main_arg2)
      ∧ r.2.mem ((c.tc : Thread Cert.AdamAttn.nD Cert.AdamAttn.τ).loc Cert.AdamAttn.main_arg3) = m ((c.tc : Thread Cert.AdamAttn.nD Cert.AdamAttn.τ).loc Cert.AdamAttn.main_arg3))
      ∧ r.2.sem = fun _ => 0)

def quiescent_AdamAttnIdeal [hAdamAttnIdeal : Cert.AdamAttnIdeal.Facts] : Prop :=
  ∀ (m : (ℓ : Loc Cert.AdamAttnIdeal.nD Cert.AdamAttnIdeal.τ Cert.AdamAttnIdeal.sig) → Buf (Elt Ideal) ℓ) (g : Dev Cert.AdamAttnIdeal.nD → PrngReg), Pre_AdamAttnIdeal m →
    θ_run (Cert.AdamAttnIdeal.defs (F := Ideal)) (onTc (τ := Cert.AdamAttnIdeal.τ) (Cert.AdamAttnIdeal.main (F := Ideal))) ⟨m, fun _ => 0, g⟩ (fun r => (∀ c : Dev Cert.AdamAttnIdeal.nD,
      r.2.mem ((c.tc : Thread Cert.AdamAttnIdeal.nD Cert.AdamAttnIdeal.τ).loc Cert.AdamAttnIdeal.main_arg0) = m ((c.tc : Thread Cert.AdamAttnIdeal.nD Cert.AdamAttnIdeal.τ).loc Cert.AdamAttnIdeal.main_arg0)
      ∧ r.2.mem ((c.tc : Thread Cert.AdamAttnIdeal.nD Cert.AdamAttnIdeal.τ).loc Cert.AdamAttnIdeal.main_arg1) = m ((c.tc : Thread Cert.AdamAttnIdeal.nD Cert.AdamAttnIdeal.τ).loc Cert.AdamAttnIdeal.main_arg1)
      ∧ r.2.mem ((c.tc : Thread Cert.AdamAttnIdeal.nD Cert.AdamAttnIdeal.τ).loc Cert.AdamAttnIdeal.main_arg2) = m ((c.tc : Thread Cert.AdamAttnIdeal.nD Cert.AdamAttnIdeal.τ).loc Cert.AdamAttnIdeal.main_arg2)
      ∧ r.2.mem ((c.tc : Thread Cert.AdamAttnIdeal.nD Cert.AdamAttnIdeal.τ).loc Cert.AdamAttnIdeal.main_arg3) = m ((c.tc : Thread Cert.AdamAttnIdeal.nD Cert.AdamAttnIdeal.τ).loc Cert.AdamAttnIdeal.main_arg3))
      ∧ r.2.sem = fun _ => 0)

def quiescent_AdamAttnRefIdeal [hAdamAttnRefIdeal : Cert.AdamAttnRefIdeal.Facts] : Prop :=
  ∀ (m : (ℓ : Loc Cert.AdamAttnRefIdeal.nD Cert.AdamAttnRefIdeal.τ Cert.AdamAttnRefIdeal.sig) → Buf (Elt Ideal) ℓ) (g : Dev Cert.AdamAttnRefIdeal.nD → PrngReg), Pre_AdamAttnRefIdeal m →
    θ_run (Cert.AdamAttnRefIdeal.defs (F := Ideal)) (onTc (τ := Cert.AdamAttnRefIdeal.τ) (Cert.AdamAttnRefIdeal.main (F := Ideal))) ⟨m, fun _ => 0, g⟩ (fun r => (∀ c : Dev Cert.AdamAttnRefIdeal.nD,
      r.2.mem ((c.tc : Thread Cert.AdamAttnRefIdeal.nD Cert.AdamAttnRefIdeal.τ).loc Cert.AdamAttnRefIdeal.main_arg0) = m ((c.tc : Thread Cert.AdamAttnRefIdeal.nD Cert.AdamAttnRefIdeal.τ).loc Cert.AdamAttnRefIdeal.main_arg0)
      ∧ r.2.mem ((c.tc : Thread Cert.AdamAttnRefIdeal.nD Cert.AdamAttnRefIdeal.τ).loc Cert.AdamAttnRefIdeal.main_arg1) = m ((c.tc : Thread Cert.AdamAttnRefIdeal.nD Cert.AdamAttnRefIdeal.τ).loc Cert.AdamAttnRefIdeal.main_arg1)
      ∧ r.2.mem ((c.tc : Thread Cert.AdamAttnRefIdeal.nD Cert.AdamAttnRefIdeal.τ).loc Cert.AdamAttnRefIdeal.main_arg2) = m ((c.tc : Thread Cert.AdamAttnRefIdeal.nD Cert.AdamAttnRefIdeal.τ).loc Cert.AdamAttnRefIdeal.main_arg2)
      ∧ r.2.mem ((c.tc : Thread Cert.AdamAttnRefIdeal.nD Cert.AdamAttnRefIdeal.τ).loc Cert.AdamAttnRefIdeal.main_arg3) = m ((c.tc : Thread Cert.AdamAttnRefIdeal.nD Cert.AdamAttnRefIdeal.τ).loc Cert.AdamAttnRefIdeal.main_arg3))
      ∧ r.2.sem = fun _ => 0)

def quiescent_AdamAda [hAdamAda : Cert.AdamAda.Facts] : Prop :=
  ∀ (m : (ℓ : Loc Cert.AdamAda.nD Cert.AdamAda.τ Cert.AdamAda.sig) → Buf (Elt Bits) ℓ) (g : Dev Cert.AdamAda.nD → PrngReg), Pre_AdamAda m →
    θ_run (Cert.AdamAda.defs (F := Bits)) (onTc (τ := Cert.AdamAda.τ) (Cert.AdamAda.main (F := Bits))) ⟨m, fun _ => 0, g⟩ (fun r => (∀ c : Dev Cert.AdamAda.nD,
      r.2.mem ((c.tc : Thread Cert.AdamAda.nD Cert.AdamAda.τ).loc Cert.AdamAda.main_arg0) = m ((c.tc : Thread Cert.AdamAda.nD Cert.AdamAda.τ).loc Cert.AdamAda.main_arg0)
      ∧ r.2.mem ((c.tc : Thread Cert.AdamAda.nD Cert.AdamAda.τ).loc Cert.AdamAda.main_arg1) = m ((c.tc : Thread Cert.AdamAda.nD Cert.AdamAda.τ).loc Cert.AdamAda.main_arg1)
      ∧ r.2.mem ((c.tc : Thread Cert.AdamAda.nD Cert.AdamAda.τ).loc Cert.AdamAda.main_arg2) = m ((c.tc : Thread Cert.AdamAda.nD Cert.AdamAda.τ).loc Cert.AdamAda.main_arg2)
      ∧ r.2.mem ((c.tc : Thread Cert.AdamAda.nD Cert.AdamAda.τ).loc Cert.AdamAda.main_arg3) = m ((c.tc : Thread Cert.AdamAda.nD Cert.AdamAda.τ).loc Cert.AdamAda.main_arg3)
      ∧ r.2.mem ((c.tc : Thread Cert.AdamAda.nD Cert.AdamAda.τ).loc Cert.AdamAda.main_arg4) = m ((c.tc : Thread Cert.AdamAda.nD Cert.AdamAda.τ).loc Cert.AdamAda.main_arg4))
      ∧ r.2.sem = fun _ => 0)

def quiescent_AdamAdaIdeal [hAdamAdaIdeal : Cert.AdamAdaIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg), Pre_AdamAdaIdeal m →
    θ_run (Cert.AdamAdaIdeal.defs (F := Ideal)) (onTc (τ := Cert.AdamAdaIdeal.τ) (Cert.AdamAdaIdeal.main (F := Ideal))) ⟨m, fun _ => 0, g⟩ (fun r => (∀ c : Dev Cert.AdamAdaIdeal.nD,
      r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
      ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
      ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
      ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3)
      ∧ r.2.mem ((c.tc : Thread Cert.AdamAdaIdeal.nD Cert.AdamAdaIdeal.τ).loc Cert.AdamAdaIdeal.main_arg4) = m ((c.tc : Thread Cert.AdamAdaIdeal.nD Cert.AdamAdaIdeal.τ).loc Cert.AdamAdaIdeal.main_arg4))
      ∧ r.2.sem = fun _ => 0)

def quiescent_AdamAdaRefIdeal [hAdamAdaRefIdeal : Cert.AdamAdaRefIdeal.Facts] : Prop :=
  ∀ (m : (ℓ : Loc Cert.AdamAdaRefIdeal.nD Cert.AdamAdaRefIdeal.τ Cert.AdamAdaRefIdeal.sig) → Buf (Elt Ideal) ℓ) (g : Dev Cert.AdamAdaRefIdeal.nD → PrngReg), Pre_AdamAdaRefIdeal m →
    θ_run (Cert.AdamAdaRefIdeal.defs (F := Ideal)) (onTc (τ := Cert.AdamAdaRefIdeal.τ) (Cert.AdamAdaRefIdeal.main (F := Ideal))) ⟨m, fun _ => 0, g⟩ (fun r => (∀ c : Dev Cert.AdamAdaRefIdeal.nD,
      r.2.mem ((c.tc : Thread Cert.AdamAdaRefIdeal.nD Cert.AdamAdaRefIdeal.τ).loc Cert.AdamAdaRefIdeal.main_arg0) = m ((c.tc : Thread Cert.AdamAdaRefIdeal.nD Cert.AdamAdaRefIdeal.τ).loc Cert.AdamAdaRefIdeal.main_arg0)
      ∧ r.2.mem ((c.tc : Thread Cert.AdamAdaRefIdeal.nD Cert.AdamAdaRefIdeal.τ).loc Cert.AdamAdaRefIdeal.main_arg1) = m ((c.tc : Thread Cert.AdamAdaRefIdeal.nD Cert.AdamAdaRefIdeal.τ).loc Cert.AdamAdaRefIdeal.main_arg1)
      ∧ r.2.mem ((c.tc : Thread Cert.AdamAdaRefIdeal.nD Cert.AdamAdaRefIdeal.τ).loc Cert.AdamAdaRefIdeal.main_arg2) = m ((c.tc : Thread Cert.AdamAdaRefIdeal.nD Cert.AdamAdaRefIdeal.τ).loc Cert.AdamAdaRefIdeal.main_arg2)
      ∧ r.2.mem ((c.tc : Thread Cert.AdamAdaRefIdeal.nD Cert.AdamAdaRefIdeal.τ).loc Cert.AdamAdaRefIdeal.main_arg3) = m ((c.tc : Thread Cert.AdamAdaRefIdeal.nD Cert.AdamAdaRefIdeal.τ).loc Cert.AdamAdaRefIdeal.main_arg3)
      ∧ r.2.mem ((c.tc : Thread Cert.AdamAdaRefIdeal.nD Cert.AdamAdaRefIdeal.τ).loc Cert.AdamAdaRefIdeal.main_arg4) = m ((c.tc : Thread Cert.AdamAdaRefIdeal.nD Cert.AdamAdaRefIdeal.τ).loc Cert.AdamAdaRefIdeal.main_arg4))
      ∧ r.2.sem = fun _ => 0)

def quiescent_AdamRest [hAdamRest : Cert.AdamRest.Facts] : Prop :=
  ∀ (m : (ℓ : Loc Cert.AdamRest.nD Cert.AdamRest.τ Cert.AdamRest.sig) → Buf (Elt Bits) ℓ) (g : Dev Cert.AdamRest.nD → PrngReg), Pre_AdamRest m →
    θ_run (Cert.AdamRest.defs (F := Bits)) (onTc (τ := Cert.AdamRest.τ) (Cert.AdamRest.main (F := Bits))) ⟨m, fun _ => 0, g⟩ (fun r => (∀ c : Dev Cert.AdamRest.nD,
      r.2.mem ((c.tc : Thread Cert.AdamRest.nD Cert.AdamRest.τ).loc Cert.AdamRest.main_arg0) = m ((c.tc : Thread Cert.AdamRest.nD Cert.AdamRest.τ).loc Cert.AdamRest.main_arg0)
      ∧ r.2.mem ((c.tc : Thread Cert.AdamRest.nD Cert.AdamRest.τ).loc Cert.AdamRest.main_arg1) = m ((c.tc : Thread Cert.AdamRest.nD Cert.AdamRest.τ).loc Cert.AdamRest.main_arg1)
      ∧ r.2.mem ((c.tc : Thread Cert.AdamRest.nD Cert.AdamRest.τ).loc Cert.AdamRest.main_arg2) = m ((c.tc : Thread Cert.AdamRest.nD Cert.AdamRest.τ).loc Cert.AdamRest.main_arg2)
      ∧ r.2.mem ((c.tc : Thread Cert.AdamRest.nD Cert.AdamRest.τ).loc Cert.AdamRest.main_arg3) = m ((c.tc : Thread Cert.AdamRest.nD Cert.AdamRest.τ).loc Cert.AdamRest.main_arg3)
      ∧ r.2.mem ((c.tc : Thread Cert.AdamRest.nD Cert.AdamRest.τ).loc Cert.AdamRest.main_arg4) = m ((c.tc : Thread Cert.AdamRest.nD Cert.AdamRest.τ).loc Cert.AdamRest.main_arg4)
      ∧ r.2.mem ((c.tc : Thread Cert.AdamRest.nD Cert.AdamRest.τ).loc Cert.AdamRest.main_arg5) = m ((c.tc : Thread Cert.AdamRest.nD Cert.AdamRest.τ).loc Cert.AdamRest.main_arg5)
      ∧ r.2.mem ((c.tc : Thread Cert.AdamRest.nD Cert.AdamRest.τ).loc Cert.AdamRest.main_arg6) = m ((c.tc : Thread Cert.AdamRest.nD Cert.AdamRest.τ).loc Cert.AdamRest.main_arg6)
      ∧ r.2.mem ((c.tc : Thread Cert.AdamRest.nD Cert.AdamRest.τ).loc Cert.AdamRest.main_arg7) = m ((c.tc : Thread Cert.AdamRest.nD Cert.AdamRest.τ).loc Cert.AdamRest.main_arg7)
      ∧ r.2.mem ((c.tc : Thread Cert.AdamRest.nD Cert.AdamRest.τ).loc Cert.AdamRest.main_arg8) = m ((c.tc : Thread Cert.AdamRest.nD Cert.AdamRest.τ).loc Cert.AdamRest.main_arg8)
      ∧ r.2.mem ((c.tc : Thread Cert.AdamRest.nD Cert.AdamRest.τ).loc Cert.AdamRest.main_arg9) = m ((c.tc : Thread Cert.AdamRest.nD Cert.AdamRest.τ).loc Cert.AdamRest.main_arg9)
      ∧ r.2.mem ((c.tc : Thread Cert.AdamRest.nD Cert.AdamRest.τ).loc Cert.AdamRest.main_arg10) = m ((c.tc : Thread Cert.AdamRest.nD Cert.AdamRest.τ).loc Cert.AdamRest.main_arg10)
      ∧ r.2.mem ((c.tc : Thread Cert.AdamRest.nD Cert.AdamRest.τ).loc Cert.AdamRest.main_arg11) = m ((c.tc : Thread Cert.AdamRest.nD Cert.AdamRest.τ).loc Cert.AdamRest.main_arg11)
      ∧ r.2.mem ((c.tc : Thread Cert.AdamRest.nD Cert.AdamRest.τ).loc Cert.AdamRest.main_arg12) = m ((c.tc : Thread Cert.AdamRest.nD Cert.AdamRest.τ).loc Cert.AdamRest.main_arg12)
      ∧ r.2.mem ((c.tc : Thread Cert.AdamRest.nD Cert.AdamRest.τ).loc Cert.AdamRest.main_arg13) = m ((c.tc : Thread Cert.AdamRest.nD Cert.AdamRest.τ).loc Cert.AdamRest.main_arg13)
      ∧ r.2.mem ((c.tc : Thread Cert.AdamRest.nD Cert.AdamRest.τ).loc Cert.AdamRest.main_arg14) = m ((c.tc : Thread Cert.AdamRest.nD Cert.AdamRest.τ).loc Cert.AdamRest.main_arg14)
      ∧ r.2.mem ((c.tc : Thread Cert.AdamRest.nD Cert.AdamRest.τ).loc Cert.AdamRest.main_arg15) = m ((c.tc : Thread Cert.AdamRest.nD Cert.AdamRest.τ).loc Cert.AdamRest.main_arg15)
      ∧ r.2.mem ((c.tc : Thread Cert.AdamRest.nD Cert.AdamRest.τ).loc Cert.AdamRest.main_arg16) = m ((c.tc : Thread Cert.AdamRest.nD Cert.AdamRest.τ).loc Cert.AdamRest.main_arg16)
      ∧ r.2.mem ((c.tc : Thread Cert.AdamRest.nD Cert.AdamRest.τ).loc Cert.AdamRest.main_arg17) = m ((c.tc : Thread Cert.AdamRest.nD Cert.AdamRest.τ).loc Cert.AdamRest.main_arg17)
      ∧ r.2.mem ((c.tc : Thread Cert.AdamRest.nD Cert.AdamRest.τ).loc Cert.AdamRest.main_arg18) = m ((c.tc : Thread Cert.AdamRest.nD Cert.AdamRest.τ).loc Cert.AdamRest.main_arg18)
      ∧ r.2.mem ((c.tc : Thread Cert.AdamRest.nD Cert.AdamRest.τ).loc Cert.AdamRest.main_arg19) = m ((c.tc : Thread Cert.AdamRest.nD Cert.AdamRest.τ).loc Cert.AdamRest.main_arg19)
      ∧ r.2.mem ((c.tc : Thread Cert.AdamRest.nD Cert.AdamRest.τ).loc Cert.AdamRest.main_arg20) = m ((c.tc : Thread Cert.AdamRest.nD Cert.AdamRest.τ).loc Cert.AdamRest.main_arg20)
      ∧ r.2.mem ((c.tc : Thread Cert.AdamRest.nD Cert.AdamRest.τ).loc Cert.AdamRest.main_arg21) = m ((c.tc : Thread Cert.AdamRest.nD Cert.AdamRest.τ).loc Cert.AdamRest.main_arg21)
      ∧ r.2.mem ((c.tc : Thread Cert.AdamRest.nD Cert.AdamRest.τ).loc Cert.AdamRest.main_arg22) = m ((c.tc : Thread Cert.AdamRest.nD Cert.AdamRest.τ).loc Cert.AdamRest.main_arg22)
      ∧ r.2.mem ((c.tc : Thread Cert.AdamRest.nD Cert.AdamRest.τ).loc Cert.AdamRest.main_arg23) = m ((c.tc : Thread Cert.AdamRest.nD Cert.AdamRest.τ).loc Cert.AdamRest.main_arg23)
      ∧ r.2.mem ((c.tc : Thread Cert.AdamRest.nD Cert.AdamRest.τ).loc Cert.AdamRest.main_arg24) = m ((c.tc : Thread Cert.AdamRest.nD Cert.AdamRest.τ).loc Cert.AdamRest.main_arg24)
      ∧ r.2.mem ((c.tc : Thread Cert.AdamRest.nD Cert.AdamRest.τ).loc Cert.AdamRest.main_arg25) = m ((c.tc : Thread Cert.AdamRest.nD Cert.AdamRest.τ).loc Cert.AdamRest.main_arg25)
      ∧ r.2.mem ((c.tc : Thread Cert.AdamRest.nD Cert.AdamRest.τ).loc Cert.AdamRest.main_arg26) = m ((c.tc : Thread Cert.AdamRest.nD Cert.AdamRest.τ).loc Cert.AdamRest.main_arg26)
      ∧ r.2.mem ((c.tc : Thread Cert.AdamRest.nD Cert.AdamRest.τ).loc Cert.AdamRest.main_arg27) = m ((c.tc : Thread Cert.AdamRest.nD Cert.AdamRest.τ).loc Cert.AdamRest.main_arg27)
      ∧ r.2.mem ((c.tc : Thread Cert.AdamRest.nD Cert.AdamRest.τ).loc Cert.AdamRest.main_arg28) = m ((c.tc : Thread Cert.AdamRest.nD Cert.AdamRest.τ).loc Cert.AdamRest.main_arg28)
      ∧ r.2.mem ((c.tc : Thread Cert.AdamRest.nD Cert.AdamRest.τ).loc Cert.AdamRest.main_arg29) = m ((c.tc : Thread Cert.AdamRest.nD Cert.AdamRest.τ).loc Cert.AdamRest.main_arg29)
      ∧ r.2.mem ((c.tc : Thread Cert.AdamRest.nD Cert.AdamRest.τ).loc Cert.AdamRest.main_arg30) = m ((c.tc : Thread Cert.AdamRest.nD Cert.AdamRest.τ).loc Cert.AdamRest.main_arg30)
      ∧ r.2.mem ((c.tc : Thread Cert.AdamRest.nD Cert.AdamRest.τ).loc Cert.AdamRest.main_arg31) = m ((c.tc : Thread Cert.AdamRest.nD Cert.AdamRest.τ).loc Cert.AdamRest.main_arg31))
      ∧ r.2.sem = fun _ => 0)

def quiescent_AdamRestIdeal [hAdamRestIdeal : Cert.AdamRestIdeal.Facts] : Prop :=
  ∀ (m : (ℓ : Loc Cert.AdamRestIdeal.nD Cert.AdamRestIdeal.τ Cert.AdamRestIdeal.sig) → Buf (Elt Ideal) ℓ) (g : Dev Cert.AdamRestIdeal.nD → PrngReg), Pre_AdamRestIdeal m →
    θ_run (Cert.AdamRestIdeal.defs (F := Ideal)) (onTc (τ := Cert.AdamRestIdeal.τ) (Cert.AdamRestIdeal.main (F := Ideal))) ⟨m, fun _ => 0, g⟩ (fun r => (∀ c : Dev Cert.AdamRestIdeal.nD,
      r.2.mem ((c.tc : Thread Cert.AdamRestIdeal.nD Cert.AdamRestIdeal.τ).loc Cert.AdamRestIdeal.main_arg0) = m ((c.tc : Thread Cert.AdamRestIdeal.nD Cert.AdamRestIdeal.τ).loc Cert.AdamRestIdeal.main_arg0)
      ∧ r.2.mem ((c.tc : Thread Cert.AdamRestIdeal.nD Cert.AdamRestIdeal.τ).loc Cert.AdamRestIdeal.main_arg1) = m ((c.tc : Thread Cert.AdamRestIdeal.nD Cert.AdamRestIdeal.τ).loc Cert.AdamRestIdeal.main_arg1)
      ∧ r.2.mem ((c.tc : Thread Cert.AdamRestIdeal.nD Cert.AdamRestIdeal.τ).loc Cert.AdamRestIdeal.main_arg2) = m ((c.tc : Thread Cert.AdamRestIdeal.nD Cert.AdamRestIdeal.τ).loc Cert.AdamRestIdeal.main_arg2)
      ∧ r.2.mem ((c.tc : Thread Cert.AdamRestIdeal.nD Cert.AdamRestIdeal.τ).loc Cert.AdamRestIdeal.main_arg3) = m ((c.tc : Thread Cert.AdamRestIdeal.nD Cert.AdamRestIdeal.τ).loc Cert.AdamRestIdeal.main_arg3)
      ∧ r.2.mem ((c.tc : Thread Cert.AdamRestIdeal.nD Cert.AdamRestIdeal.τ).loc Cert.AdamRestIdeal.main_arg4) = m ((c.tc : Thread Cert.AdamRestIdeal.nD Cert.AdamRestIdeal.τ).loc Cert.AdamRestIdeal.main_arg4)
      ∧ r.2.mem ((c.tc : Thread Cert.AdamRestIdeal.nD Cert.AdamRestIdeal.τ).loc Cert.AdamRestIdeal.main_arg5) = m ((c.tc : Thread Cert.AdamRestIdeal.nD Cert.AdamRestIdeal.τ).loc Cert.AdamRestIdeal.main_arg5)
      ∧ r.2.mem ((c.tc : Thread Cert.AdamRestIdeal.nD Cert.AdamRestIdeal.τ).loc Cert.AdamRestIdeal.main_arg6) = m ((c.tc : Thread Cert.AdamRestIdeal.nD Cert.AdamRestIdeal.τ).loc Cert.AdamRestIdeal.main_arg6)
      ∧ r.2.mem ((c.tc : Thread Cert.AdamRestIdeal.nD Cert.AdamRestIdeal.τ).loc Cert.AdamRestIdeal.main_arg7) = m ((c.tc : Thread Cert.AdamRestIdeal.nD Cert.AdamRestIdeal.τ).loc Cert.AdamRestIdeal.main_arg7)
      ∧ r.2.mem ((c.tc : Thread Cert.AdamRestIdeal.nD Cert.AdamRestIdeal.τ).loc Cert.AdamRestIdeal.main_arg8) = m ((c.tc : Thread Cert.AdamRestIdeal.nD Cert.AdamRestIdeal.τ).loc Cert.AdamRestIdeal.main_arg8)
      ∧ r.2.mem ((c.tc : Thread Cert.AdamRestIdeal.nD Cert.AdamRestIdeal.τ).loc Cert.AdamRestIdeal.main_arg9) = m ((c.tc : Thread Cert.AdamRestIdeal.nD Cert.AdamRestIdeal.τ).loc Cert.AdamRestIdeal.main_arg9)
      ∧ r.2.mem ((c.tc : Thread Cert.AdamRestIdeal.nD Cert.AdamRestIdeal.τ).loc Cert.AdamRestIdeal.main_arg10) = m ((c.tc : Thread Cert.AdamRestIdeal.nD Cert.AdamRestIdeal.τ).loc Cert.AdamRestIdeal.main_arg10)
      ∧ r.2.mem ((c.tc : Thread Cert.AdamRestIdeal.nD Cert.AdamRestIdeal.τ).loc Cert.AdamRestIdeal.main_arg11) = m ((c.tc : Thread Cert.AdamRestIdeal.nD Cert.AdamRestIdeal.τ).loc Cert.AdamRestIdeal.main_arg11)
      ∧ r.2.mem ((c.tc : Thread Cert.AdamRestIdeal.nD Cert.AdamRestIdeal.τ).loc Cert.AdamRestIdeal.main_arg12) = m ((c.tc : Thread Cert.AdamRestIdeal.nD Cert.AdamRestIdeal.τ).loc Cert.AdamRestIdeal.main_arg12)
      ∧ r.2.mem ((c.tc : Thread Cert.AdamRestIdeal.nD Cert.AdamRestIdeal.τ).loc Cert.AdamRestIdeal.main_arg13) = m ((c.tc : Thread Cert.AdamRestIdeal.nD Cert.AdamRestIdeal.τ).loc Cert.AdamRestIdeal.main_arg13)
      ∧ r.2.mem ((c.tc : Thread Cert.AdamRestIdeal.nD Cert.AdamRestIdeal.τ).loc Cert.AdamRestIdeal.main_arg14) = m ((c.tc : Thread Cert.AdamRestIdeal.nD Cert.AdamRestIdeal.τ).loc Cert.AdamRestIdeal.main_arg14)
      ∧ r.2.mem ((c.tc : Thread Cert.AdamRestIdeal.nD Cert.AdamRestIdeal.τ).loc Cert.AdamRestIdeal.main_arg15) = m ((c.tc : Thread Cert.AdamRestIdeal.nD Cert.AdamRestIdeal.τ).loc Cert.AdamRestIdeal.main_arg15)
      ∧ r.2.mem ((c.tc : Thread Cert.AdamRestIdeal.nD Cert.AdamRestIdeal.τ).loc Cert.AdamRestIdeal.main_arg16) = m ((c.tc : Thread Cert.AdamRestIdeal.nD Cert.AdamRestIdeal.τ).loc Cert.AdamRestIdeal.main_arg16)
      ∧ r.2.mem ((c.tc : Thread Cert.AdamRestIdeal.nD Cert.AdamRestIdeal.τ).loc Cert.AdamRestIdeal.main_arg17) = m ((c.tc : Thread Cert.AdamRestIdeal.nD Cert.AdamRestIdeal.τ).loc Cert.AdamRestIdeal.main_arg17)
      ∧ r.2.mem ((c.tc : Thread Cert.AdamRestIdeal.nD Cert.AdamRestIdeal.τ).loc Cert.AdamRestIdeal.main_arg18) = m ((c.tc : Thread Cert.AdamRestIdeal.nD Cert.AdamRestIdeal.τ).loc Cert.AdamRestIdeal.main_arg18)
      ∧ r.2.mem ((c.tc : Thread Cert.AdamRestIdeal.nD Cert.AdamRestIdeal.τ).loc Cert.AdamRestIdeal.main_arg19) = m ((c.tc : Thread Cert.AdamRestIdeal.nD Cert.AdamRestIdeal.τ).loc Cert.AdamRestIdeal.main_arg19)
      ∧ r.2.mem ((c.tc : Thread Cert.AdamRestIdeal.nD Cert.AdamRestIdeal.τ).loc Cert.AdamRestIdeal.main_arg20) = m ((c.tc : Thread Cert.AdamRestIdeal.nD Cert.AdamRestIdeal.τ).loc Cert.AdamRestIdeal.main_arg20)
      ∧ r.2.mem ((c.tc : Thread Cert.AdamRestIdeal.nD Cert.AdamRestIdeal.τ).loc Cert.AdamRestIdeal.main_arg21) = m ((c.tc : Thread Cert.AdamRestIdeal.nD Cert.AdamRestIdeal.τ).loc Cert.AdamRestIdeal.main_arg21)
      ∧ r.2.mem ((c.tc : Thread Cert.AdamRestIdeal.nD Cert.AdamRestIdeal.τ).loc Cert.AdamRestIdeal.main_arg22) = m ((c.tc : Thread Cert.AdamRestIdeal.nD Cert.AdamRestIdeal.τ).loc Cert.AdamRestIdeal.main_arg22)
      ∧ r.2.mem ((c.tc : Thread Cert.AdamRestIdeal.nD Cert.AdamRestIdeal.τ).loc Cert.AdamRestIdeal.main_arg23) = m ((c.tc : Thread Cert.AdamRestIdeal.nD Cert.AdamRestIdeal.τ).loc Cert.AdamRestIdeal.main_arg23)
      ∧ r.2.mem ((c.tc : Thread Cert.AdamRestIdeal.nD Cert.AdamRestIdeal.τ).loc Cert.AdamRestIdeal.main_arg24) = m ((c.tc : Thread Cert.AdamRestIdeal.nD Cert.AdamRestIdeal.τ).loc Cert.AdamRestIdeal.main_arg24)
      ∧ r.2.mem ((c.tc : Thread Cert.AdamRestIdeal.nD Cert.AdamRestIdeal.τ).loc Cert.AdamRestIdeal.main_arg25) = m ((c.tc : Thread Cert.AdamRestIdeal.nD Cert.AdamRestIdeal.τ).loc Cert.AdamRestIdeal.main_arg25)
      ∧ r.2.mem ((c.tc : Thread Cert.AdamRestIdeal.nD Cert.AdamRestIdeal.τ).loc Cert.AdamRestIdeal.main_arg26) = m ((c.tc : Thread Cert.AdamRestIdeal.nD Cert.AdamRestIdeal.τ).loc Cert.AdamRestIdeal.main_arg26)
      ∧ r.2.mem ((c.tc : Thread Cert.AdamRestIdeal.nD Cert.AdamRestIdeal.τ).loc Cert.AdamRestIdeal.main_arg27) = m ((c.tc : Thread Cert.AdamRestIdeal.nD Cert.AdamRestIdeal.τ).loc Cert.AdamRestIdeal.main_arg27)
      ∧ r.2.mem ((c.tc : Thread Cert.AdamRestIdeal.nD Cert.AdamRestIdeal.τ).loc Cert.AdamRestIdeal.main_arg28) = m ((c.tc : Thread Cert.AdamRestIdeal.nD Cert.AdamRestIdeal.τ).loc Cert.AdamRestIdeal.main_arg28)
      ∧ r.2.mem ((c.tc : Thread Cert.AdamRestIdeal.nD Cert.AdamRestIdeal.τ).loc Cert.AdamRestIdeal.main_arg29) = m ((c.tc : Thread Cert.AdamRestIdeal.nD Cert.AdamRestIdeal.τ).loc Cert.AdamRestIdeal.main_arg29)
      ∧ r.2.mem ((c.tc : Thread Cert.AdamRestIdeal.nD Cert.AdamRestIdeal.τ).loc Cert.AdamRestIdeal.main_arg30) = m ((c.tc : Thread Cert.AdamRestIdeal.nD Cert.AdamRestIdeal.τ).loc Cert.AdamRestIdeal.main_arg30)
      ∧ r.2.mem ((c.tc : Thread Cert.AdamRestIdeal.nD Cert.AdamRestIdeal.τ).loc Cert.AdamRestIdeal.main_arg31) = m ((c.tc : Thread Cert.AdamRestIdeal.nD Cert.AdamRestIdeal.τ).loc Cert.AdamRestIdeal.main_arg31))
      ∧ r.2.sem = fun _ => 0)

def quiescent_AdamRestRefIdeal [hAdamRestRefIdeal : Cert.AdamRestRefIdeal.Facts] : Prop :=
  ∀ (m : (ℓ : Loc Cert.AdamRestRefIdeal.nD Cert.AdamRestRefIdeal.τ Cert.AdamRestRefIdeal.sig) → Buf (Elt Ideal) ℓ) (g : Dev Cert.AdamRestRefIdeal.nD → PrngReg), Pre_AdamRestRefIdeal m →
    θ_run (Cert.AdamRestRefIdeal.defs (F := Ideal)) (onTc (τ := Cert.AdamRestRefIdeal.τ) (Cert.AdamRestRefIdeal.main (F := Ideal))) ⟨m, fun _ => 0, g⟩ (fun r => (∀ c : Dev Cert.AdamRestRefIdeal.nD,
      r.2.mem ((c.tc : Thread Cert.AdamRestRefIdeal.nD Cert.AdamRestRefIdeal.τ).loc Cert.AdamRestRefIdeal.main_arg0) = m ((c.tc : Thread Cert.AdamRestRefIdeal.nD Cert.AdamRestRefIdeal.τ).loc Cert.AdamRestRefIdeal.main_arg0)
      ∧ r.2.mem ((c.tc : Thread Cert.AdamRestRefIdeal.nD Cert.AdamRestRefIdeal.τ).loc Cert.AdamRestRefIdeal.main_arg1) = m ((c.tc : Thread Cert.AdamRestRefIdeal.nD Cert.AdamRestRefIdeal.τ).loc Cert.AdamRestRefIdeal.main_arg1)
      ∧ r.2.mem ((c.tc : Thread Cert.AdamRestRefIdeal.nD Cert.AdamRestRefIdeal.τ).loc Cert.AdamRestRefIdeal.main_arg2) = m ((c.tc : Thread Cert.AdamRestRefIdeal.nD Cert.AdamRestRefIdeal.τ).loc Cert.AdamRestRefIdeal.main_arg2)
      ∧ r.2.mem ((c.tc : Thread Cert.AdamRestRefIdeal.nD Cert.AdamRestRefIdeal.τ).loc Cert.AdamRestRefIdeal.main_arg3) = m ((c.tc : Thread Cert.AdamRestRefIdeal.nD Cert.AdamRestRefIdeal.τ).loc Cert.AdamRestRefIdeal.main_arg3)
      ∧ r.2.mem ((c.tc : Thread Cert.AdamRestRefIdeal.nD Cert.AdamRestRefIdeal.τ).loc Cert.AdamRestRefIdeal.main_arg4) = m ((c.tc : Thread Cert.AdamRestRefIdeal.nD Cert.AdamRestRefIdeal.τ).loc Cert.AdamRestRefIdeal.main_arg4)
      ∧ r.2.mem ((c.tc : Thread Cert.AdamRestRefIdeal.nD Cert.AdamRestRefIdeal.τ).loc Cert.AdamRestRefIdeal.main_arg5) = m ((c.tc : Thread Cert.AdamRestRefIdeal.nD Cert.AdamRestRefIdeal.τ).loc Cert.AdamRestRefIdeal.main_arg5)
      ∧ r.2.mem ((c.tc : Thread Cert.AdamRestRefIdeal.nD Cert.AdamRestRefIdeal.τ).loc Cert.AdamRestRefIdeal.main_arg6) = m ((c.tc : Thread Cert.AdamRestRefIdeal.nD Cert.AdamRestRefIdeal.τ).loc Cert.AdamRestRefIdeal.main_arg6)
      ∧ r.2.mem ((c.tc : Thread Cert.AdamRestRefIdeal.nD Cert.AdamRestRefIdeal.τ).loc Cert.AdamRestRefIdeal.main_arg7) = m ((c.tc : Thread Cert.AdamRestRefIdeal.nD Cert.AdamRestRefIdeal.τ).loc Cert.AdamRestRefIdeal.main_arg7)
      ∧ r.2.mem ((c.tc : Thread Cert.AdamRestRefIdeal.nD Cert.AdamRestRefIdeal.τ).loc Cert.AdamRestRefIdeal.main_arg8) = m ((c.tc : Thread Cert.AdamRestRefIdeal.nD Cert.AdamRestRefIdeal.τ).loc Cert.AdamRestRefIdeal.main_arg8)
      ∧ r.2.mem ((c.tc : Thread Cert.AdamRestRefIdeal.nD Cert.AdamRestRefIdeal.τ).loc Cert.AdamRestRefIdeal.main_arg9) = m ((c.tc : Thread Cert.AdamRestRefIdeal.nD Cert.AdamRestRefIdeal.τ).loc Cert.AdamRestRefIdeal.main_arg9)
      ∧ r.2.mem ((c.tc : Thread Cert.AdamRestRefIdeal.nD Cert.AdamRestRefIdeal.τ).loc Cert.AdamRestRefIdeal.main_arg10) = m ((c.tc : Thread Cert.AdamRestRefIdeal.nD Cert.AdamRestRefIdeal.τ).loc Cert.AdamRestRefIdeal.main_arg10)
      ∧ r.2.mem ((c.tc : Thread Cert.AdamRestRefIdeal.nD Cert.AdamRestRefIdeal.τ).loc Cert.AdamRestRefIdeal.main_arg11) = m ((c.tc : Thread Cert.AdamRestRefIdeal.nD Cert.AdamRestRefIdeal.τ).loc Cert.AdamRestRefIdeal.main_arg11)
      ∧ r.2.mem ((c.tc : Thread Cert.AdamRestRefIdeal.nD Cert.AdamRestRefIdeal.τ).loc Cert.AdamRestRefIdeal.main_arg12) = m ((c.tc : Thread Cert.AdamRestRefIdeal.nD Cert.AdamRestRefIdeal.τ).loc Cert.AdamRestRefIdeal.main_arg12)
      ∧ r.2.mem ((c.tc : Thread Cert.AdamRestRefIdeal.nD Cert.AdamRestRefIdeal.τ).loc Cert.AdamRestRefIdeal.main_arg13) = m ((c.tc : Thread Cert.AdamRestRefIdeal.nD Cert.AdamRestRefIdeal.τ).loc Cert.AdamRestRefIdeal.main_arg13)
      ∧ r.2.mem ((c.tc : Thread Cert.AdamRestRefIdeal.nD Cert.AdamRestRefIdeal.τ).loc Cert.AdamRestRefIdeal.main_arg14) = m ((c.tc : Thread Cert.AdamRestRefIdeal.nD Cert.AdamRestRefIdeal.τ).loc Cert.AdamRestRefIdeal.main_arg14)
      ∧ r.2.mem ((c.tc : Thread Cert.AdamRestRefIdeal.nD Cert.AdamRestRefIdeal.τ).loc Cert.AdamRestRefIdeal.main_arg15) = m ((c.tc : Thread Cert.AdamRestRefIdeal.nD Cert.AdamRestRefIdeal.τ).loc Cert.AdamRestRefIdeal.main_arg15)
      ∧ r.2.mem ((c.tc : Thread Cert.AdamRestRefIdeal.nD Cert.AdamRestRefIdeal.τ).loc Cert.AdamRestRefIdeal.main_arg16) = m ((c.tc : Thread Cert.AdamRestRefIdeal.nD Cert.AdamRestRefIdeal.τ).loc Cert.AdamRestRefIdeal.main_arg16)
      ∧ r.2.mem ((c.tc : Thread Cert.AdamRestRefIdeal.nD Cert.AdamRestRefIdeal.τ).loc Cert.AdamRestRefIdeal.main_arg17) = m ((c.tc : Thread Cert.AdamRestRefIdeal.nD Cert.AdamRestRefIdeal.τ).loc Cert.AdamRestRefIdeal.main_arg17)
      ∧ r.2.mem ((c.tc : Thread Cert.AdamRestRefIdeal.nD Cert.AdamRestRefIdeal.τ).loc Cert.AdamRestRefIdeal.main_arg18) = m ((c.tc : Thread Cert.AdamRestRefIdeal.nD Cert.AdamRestRefIdeal.τ).loc Cert.AdamRestRefIdeal.main_arg18)
      ∧ r.2.mem ((c.tc : Thread Cert.AdamRestRefIdeal.nD Cert.AdamRestRefIdeal.τ).loc Cert.AdamRestRefIdeal.main_arg19) = m ((c.tc : Thread Cert.AdamRestRefIdeal.nD Cert.AdamRestRefIdeal.τ).loc Cert.AdamRestRefIdeal.main_arg19)
      ∧ r.2.mem ((c.tc : Thread Cert.AdamRestRefIdeal.nD Cert.AdamRestRefIdeal.τ).loc Cert.AdamRestRefIdeal.main_arg20) = m ((c.tc : Thread Cert.AdamRestRefIdeal.nD Cert.AdamRestRefIdeal.τ).loc Cert.AdamRestRefIdeal.main_arg20)
      ∧ r.2.mem ((c.tc : Thread Cert.AdamRestRefIdeal.nD Cert.AdamRestRefIdeal.τ).loc Cert.AdamRestRefIdeal.main_arg21) = m ((c.tc : Thread Cert.AdamRestRefIdeal.nD Cert.AdamRestRefIdeal.τ).loc Cert.AdamRestRefIdeal.main_arg21)
      ∧ r.2.mem ((c.tc : Thread Cert.AdamRestRefIdeal.nD Cert.AdamRestRefIdeal.τ).loc Cert.AdamRestRefIdeal.main_arg22) = m ((c.tc : Thread Cert.AdamRestRefIdeal.nD Cert.AdamRestRefIdeal.τ).loc Cert.AdamRestRefIdeal.main_arg22)
      ∧ r.2.mem ((c.tc : Thread Cert.AdamRestRefIdeal.nD Cert.AdamRestRefIdeal.τ).loc Cert.AdamRestRefIdeal.main_arg23) = m ((c.tc : Thread Cert.AdamRestRefIdeal.nD Cert.AdamRestRefIdeal.τ).loc Cert.AdamRestRefIdeal.main_arg23)
      ∧ r.2.mem ((c.tc : Thread Cert.AdamRestRefIdeal.nD Cert.AdamRestRefIdeal.τ).loc Cert.AdamRestRefIdeal.main_arg24) = m ((c.tc : Thread Cert.AdamRestRefIdeal.nD Cert.AdamRestRefIdeal.τ).loc Cert.AdamRestRefIdeal.main_arg24)
      ∧ r.2.mem ((c.tc : Thread Cert.AdamRestRefIdeal.nD Cert.AdamRestRefIdeal.τ).loc Cert.AdamRestRefIdeal.main_arg25) = m ((c.tc : Thread Cert.AdamRestRefIdeal.nD Cert.AdamRestRefIdeal.τ).loc Cert.AdamRestRefIdeal.main_arg25)
      ∧ r.2.mem ((c.tc : Thread Cert.AdamRestRefIdeal.nD Cert.AdamRestRefIdeal.τ).loc Cert.AdamRestRefIdeal.main_arg26) = m ((c.tc : Thread Cert.AdamRestRefIdeal.nD Cert.AdamRestRefIdeal.τ).loc Cert.AdamRestRefIdeal.main_arg26)
      ∧ r.2.mem ((c.tc : Thread Cert.AdamRestRefIdeal.nD Cert.AdamRestRefIdeal.τ).loc Cert.AdamRestRefIdeal.main_arg27) = m ((c.tc : Thread Cert.AdamRestRefIdeal.nD Cert.AdamRestRefIdeal.τ).loc Cert.AdamRestRefIdeal.main_arg27)
      ∧ r.2.mem ((c.tc : Thread Cert.AdamRestRefIdeal.nD Cert.AdamRestRefIdeal.τ).loc Cert.AdamRestRefIdeal.main_arg28) = m ((c.tc : Thread Cert.AdamRestRefIdeal.nD Cert.AdamRestRefIdeal.τ).loc Cert.AdamRestRefIdeal.main_arg28)
      ∧ r.2.mem ((c.tc : Thread Cert.AdamRestRefIdeal.nD Cert.AdamRestRefIdeal.τ).loc Cert.AdamRestRefIdeal.main_arg29) = m ((c.tc : Thread Cert.AdamRestRefIdeal.nD Cert.AdamRestRefIdeal.τ).loc Cert.AdamRestRefIdeal.main_arg29)
      ∧ r.2.mem ((c.tc : Thread Cert.AdamRestRefIdeal.nD Cert.AdamRestRefIdeal.τ).loc Cert.AdamRestRefIdeal.main_arg30) = m ((c.tc : Thread Cert.AdamRestRefIdeal.nD Cert.AdamRestRefIdeal.τ).loc Cert.AdamRestRefIdeal.main_arg30)
      ∧ r.2.mem ((c.tc : Thread Cert.AdamRestRefIdeal.nD Cert.AdamRestRefIdeal.τ).loc Cert.AdamRestRefIdeal.main_arg31) = m ((c.tc : Thread Cert.AdamRestRefIdeal.nD Cert.AdamRestRefIdeal.τ).loc Cert.AdamRestRefIdeal.main_arg31))
      ∧ r.2.sem = fun _ => 0)

def quiescent_FinalSums [hFinalSums : Cert.FinalSums.Facts] : Prop :=
  ∀ (m : (ℓ : Loc Cert.FinalSums.nD Cert.FinalSums.τ Cert.FinalSums.sig) → Buf (Elt Bits) ℓ) (g : Dev Cert.FinalSums.nD → PrngReg), Pre_FinalSums m →
    θ_run (Cert.FinalSums.defs (F := Bits)) (onTc (τ := Cert.FinalSums.τ) (Cert.FinalSums.main (F := Bits))) ⟨m, fun _ => 0, g⟩ (fun r => (∀ c : Dev Cert.FinalSums.nD,
      r.2.mem ((c.tc : Thread Cert.FinalSums.nD Cert.FinalSums.τ).loc Cert.FinalSums.main_arg0) = m ((c.tc : Thread Cert.FinalSums.nD Cert.FinalSums.τ).loc Cert.FinalSums.main_arg0)
      ∧ r.2.mem ((c.tc : Thread Cert.FinalSums.nD Cert.FinalSums.τ).loc Cert.FinalSums.main_arg1) = m ((c.tc : Thread Cert.FinalSums.nD Cert.FinalSums.τ).loc Cert.FinalSums.main_arg1)
      ∧ r.2.mem ((c.tc : Thread Cert.FinalSums.nD Cert.FinalSums.τ).loc Cert.FinalSums.main_arg2) = m ((c.tc : Thread Cert.FinalSums.nD Cert.FinalSums.τ).loc Cert.FinalSums.main_arg2)
      ∧ r.2.mem ((c.tc : Thread Cert.FinalSums.nD Cert.FinalSums.τ).loc Cert.FinalSums.main_arg3) = m ((c.tc : Thread Cert.FinalSums.nD Cert.FinalSums.τ).loc Cert.FinalSums.main_arg3)
      ∧ r.2.mem ((c.tc : Thread Cert.FinalSums.nD Cert.FinalSums.τ).loc Cert.FinalSums.main_arg4) = m ((c.tc : Thread Cert.FinalSums.nD Cert.FinalSums.τ).loc Cert.FinalSums.main_arg4)
      ∧ r.2.mem ((c.tc : Thread Cert.FinalSums.nD Cert.FinalSums.τ).loc Cert.FinalSums.main_arg5) = m ((c.tc : Thread Cert.FinalSums.nD Cert.FinalSums.τ).loc Cert.FinalSums.main_arg5))
      ∧ r.2.sem = fun _ => 0)

def quiescent_FinalSumsIdeal [hFinalSumsIdeal : Cert.FinalSumsIdeal.Facts] : Prop :=
  ∀ (m : (ℓ : Loc Cert.FinalSumsIdeal.nD Cert.FinalSumsIdeal.τ Cert.FinalSumsIdeal.sig) → Buf (Elt Ideal) ℓ) (g : Dev Cert.FinalSumsIdeal.nD → PrngReg), Pre_FinalSumsIdeal m →
    θ_run (Cert.FinalSumsIdeal.defs (F := Ideal)) (onTc (τ := Cert.FinalSumsIdeal.τ) (Cert.FinalSumsIdeal.main (F := Ideal))) ⟨m, fun _ => 0, g⟩ (fun r => (∀ c : Dev Cert.FinalSumsIdeal.nD,
      r.2.mem ((c.tc : Thread Cert.FinalSumsIdeal.nD Cert.FinalSumsIdeal.τ).loc Cert.FinalSumsIdeal.main_arg0) = m ((c.tc : Thread Cert.FinalSumsIdeal.nD Cert.FinalSumsIdeal.τ).loc Cert.FinalSumsIdeal.main_arg0)
      ∧ r.2.mem ((c.tc : Thread Cert.FinalSumsIdeal.nD Cert.FinalSumsIdeal.τ).loc Cert.FinalSumsIdeal.main_arg1) = m ((c.tc : Thread Cert.FinalSumsIdeal.nD Cert.FinalSumsIdeal.τ).loc Cert.FinalSumsIdeal.main_arg1)
      ∧ r.2.mem ((c.tc : Thread Cert.FinalSumsIdeal.nD Cert.FinalSumsIdeal.τ).loc Cert.FinalSumsIdeal.main_arg2) = m ((c.tc : Thread Cert.FinalSumsIdeal.nD Cert.FinalSumsIdeal.τ).loc Cert.FinalSumsIdeal.main_arg2)
      ∧ r.2.mem ((c.tc : Thread Cert.FinalSumsIdeal.nD Cert.FinalSumsIdeal.τ).loc Cert.FinalSumsIdeal.main_arg3) = m ((c.tc : Thread Cert.FinalSumsIdeal.nD Cert.FinalSumsIdeal.τ).loc Cert.FinalSumsIdeal.main_arg3)
      ∧ r.2.mem ((c.tc : Thread Cert.FinalSumsIdeal.nD Cert.FinalSumsIdeal.τ).loc Cert.FinalSumsIdeal.main_arg4) = m ((c.tc : Thread Cert.FinalSumsIdeal.nD Cert.FinalSumsIdeal.τ).loc Cert.FinalSumsIdeal.main_arg4)
      ∧ r.2.mem ((c.tc : Thread Cert.FinalSumsIdeal.nD Cert.FinalSumsIdeal.τ).loc Cert.FinalSumsIdeal.main_arg5) = m ((c.tc : Thread Cert.FinalSumsIdeal.nD Cert.FinalSumsIdeal.τ).loc Cert.FinalSumsIdeal.main_arg5))
      ∧ r.2.sem = fun _ => 0)

def quiescent_FinalSumsRefIdeal [hFinalSumsRefIdeal : Cert.FinalSumsRefIdeal.Facts] : Prop :=
  ∀ (m : (ℓ : Loc Cert.FinalSumsRefIdeal.nD Cert.FinalSumsRefIdeal.τ Cert.FinalSumsRefIdeal.sig) → Buf (Elt Ideal) ℓ) (g : Dev Cert.FinalSumsRefIdeal.nD → PrngReg), Pre_FinalSumsRefIdeal m →
    θ_run (Cert.FinalSumsRefIdeal.defs (F := Ideal)) (onTc (τ := Cert.FinalSumsRefIdeal.τ) (Cert.FinalSumsRefIdeal.main (F := Ideal))) ⟨m, fun _ => 0, g⟩ (fun r => (∀ c : Dev Cert.FinalSumsRefIdeal.nD,
      r.2.mem ((c.tc : Thread Cert.FinalSumsRefIdeal.nD Cert.FinalSumsRefIdeal.τ).loc Cert.FinalSumsRefIdeal.main_arg0) = m ((c.tc : Thread Cert.FinalSumsRefIdeal.nD Cert.FinalSumsRefIdeal.τ).loc Cert.FinalSumsRefIdeal.main_arg0)
      ∧ r.2.mem ((c.tc : Thread Cert.FinalSumsRefIdeal.nD Cert.FinalSumsRefIdeal.τ).loc Cert.FinalSumsRefIdeal.main_arg1) = m ((c.tc : Thread Cert.FinalSumsRefIdeal.nD Cert.FinalSumsRefIdeal.τ).loc Cert.FinalSumsRefIdeal.main_arg1)
      ∧ r.2.mem ((c.tc : Thread Cert.FinalSumsRefIdeal.nD Cert.FinalSumsRefIdeal.τ).loc Cert.FinalSumsRefIdeal.main_arg2) = m ((c.tc : Thread Cert.FinalSumsRefIdeal.nD Cert.FinalSumsRefIdeal.τ).loc Cert.FinalSumsRefIdeal.main_arg2)
      ∧ r.2.mem ((c.tc : Thread Cert.FinalSumsRefIdeal.nD Cert.FinalSumsRefIdeal.τ).loc Cert.FinalSumsRefIdeal.main_arg3) = m ((c.tc : Thread Cert.FinalSumsRefIdeal.nD Cert.FinalSumsRefIdeal.τ).loc Cert.FinalSumsRefIdeal.main_arg3)
      ∧ r.2.mem ((c.tc : Thread Cert.FinalSumsRefIdeal.nD Cert.FinalSumsRefIdeal.τ).loc Cert.FinalSumsRefIdeal.main_arg4) = m ((c.tc : Thread Cert.FinalSumsRefIdeal.nD Cert.FinalSumsRefIdeal.τ).loc Cert.FinalSumsRefIdeal.main_arg4)
      ∧ r.2.mem ((c.tc : Thread Cert.FinalSumsRefIdeal.nD Cert.FinalSumsRefIdeal.τ).loc Cert.FinalSumsRefIdeal.main_arg5) = m ((c.tc : Thread Cert.FinalSumsRefIdeal.nD Cert.FinalSumsRefIdeal.τ).loc Cert.FinalSumsRefIdeal.main_arg5))
      ∧ r.2.sem = fun _ => 0)

def quiescent_PairSums [hPairSums : Cert.PairSums.Facts] [hPre_in_mesh : Cert.Pre_in_mesh.Facts] : Prop :=
  ∀ (m : (ℓ : Loc Cert.PairSums.nD Cert.PairSums.τ Cert.PairSums.sig) → Buf (Elt Bits) ℓ) (g : Dev Cert.PairSums.nD → PrngReg), Pre_PairSums m →
    θ_run (Cert.PairSums.defs (F := Bits)) (onTc (τ := Cert.PairSums.τ) (Cert.PairSums.main (F := Bits))) ⟨m, fun _ => 0, g⟩ (fun r => (∀ c : Dev Cert.PairSums.nD,
      r.2.mem ((c.tc : Thread Cert.PairSums.nD Cert.PairSums.τ).loc Cert.PairSums.main_arg0) = m ((c.tc : Thread Cert.PairSums.nD Cert.PairSums.τ).loc Cert.PairSums.main_arg0)
      ∧ r.2.mem ((c.tc : Thread Cert.PairSums.nD Cert.PairSums.τ).loc Cert.PairSums.main_arg1) = m ((c.tc : Thread Cert.PairSums.nD Cert.PairSums.τ).loc Cert.PairSums.main_arg1)
      ∧ r.2.mem ((c.tc : Thread Cert.PairSums.nD Cert.PairSums.τ).loc Cert.PairSums.main_arg2) = m ((c.tc : Thread Cert.PairSums.nD Cert.PairSums.τ).loc Cert.PairSums.main_arg2))
      ∧ r.2.sem = fun _ => 0)

def quiescent_PairSumsIdeal [hPairSumsIdeal : Cert.PairSumsIdeal.Facts] [hPre_in_mesh : Cert.Pre_in_mesh.Facts] : Prop :=
  ∀ (m : (ℓ : Loc Cert.PairSumsIdeal.nD Cert.PairSumsIdeal.τ Cert.PairSumsIdeal.sig) → Buf (Elt Ideal) ℓ) (g : Dev Cert.PairSumsIdeal.nD → PrngReg), Pre_PairSumsIdeal m →
    θ_run (Cert.PairSumsIdeal.defs (F := Ideal)) (onTc (τ := Cert.PairSumsIdeal.τ) (Cert.PairSumsIdeal.main (F := Ideal))) ⟨m, fun _ => 0, g⟩ (fun r => (∀ c : Dev Cert.PairSumsIdeal.nD,
      r.2.mem ((c.tc : Thread Cert.PairSumsIdeal.nD Cert.PairSumsIdeal.τ).loc Cert.PairSumsIdeal.main_arg0) = m ((c.tc : Thread Cert.PairSumsIdeal.nD Cert.PairSumsIdeal.τ).loc Cert.PairSumsIdeal.main_arg0)
      ∧ r.2.mem ((c.tc : Thread Cert.PairSumsIdeal.nD Cert.PairSumsIdeal.τ).loc Cert.PairSumsIdeal.main_arg1) = m ((c.tc : Thread Cert.PairSumsIdeal.nD Cert.PairSumsIdeal.τ).loc Cert.PairSumsIdeal.main_arg1)
      ∧ r.2.mem ((c.tc : Thread Cert.PairSumsIdeal.nD Cert.PairSumsIdeal.τ).loc Cert.PairSumsIdeal.main_arg2) = m ((c.tc : Thread Cert.PairSumsIdeal.nD Cert.PairSumsIdeal.τ).loc Cert.PairSumsIdeal.main_arg2))
      ∧ r.2.sem = fun _ => 0)

def quiescent_PairSumsRefIdeal [hPairSumsRefIdeal : Cert.PairSumsRefIdeal.Facts] [hPre_in_mesh : Cert.Pre_in_mesh.Facts] : Prop :=
  ∀ (m : (ℓ : Loc Cert.PairSumsRefIdeal.nD Cert.PairSumsRefIdeal.τ Cert.PairSumsRefIdeal.sig) → Buf (Elt Ideal) ℓ) (g : Dev Cert.PairSumsRefIdeal.nD → PrngReg), Pre_PairSumsRefIdeal m →
    θ_run (Cert.PairSumsRefIdeal.defs (F := Ideal)) (onTc (τ := Cert.PairSumsRefIdeal.τ) (Cert.PairSumsRefIdeal.main (F := Ideal))) ⟨m, fun _ => 0, g⟩ (fun r => (∀ c : Dev Cert.PairSumsRefIdeal.nD,
      r.2.mem ((c.tc : Thread Cert.PairSumsRefIdeal.nD Cert.PairSumsRefIdeal.τ).loc Cert.PairSumsRefIdeal.main_arg0) = m ((c.tc : Thread Cert.PairSumsRefIdeal.nD Cert.PairSumsRefIdeal.τ).loc Cert.PairSumsRefIdeal.main_arg0)
      ∧ r.2.mem ((c.tc : Thread Cert.PairSumsRefIdeal.nD Cert.PairSumsRefIdeal.τ).loc Cert.PairSumsRefIdeal.main_arg1) = m ((c.tc : Thread Cert.PairSumsRefIdeal.nD Cert.PairSumsRefIdeal.τ).loc Cert.PairSumsRefIdeal.main_arg1)
      ∧ r.2.mem ((c.tc : Thread Cert.PairSumsRefIdeal.nD Cert.PairSumsRefIdeal.τ).loc Cert.PairSumsRefIdeal.main_arg2) = m ((c.tc : Thread Cert.PairSumsRefIdeal.nD Cert.PairSumsRefIdeal.τ).loc Cert.PairSumsRefIdeal.main_arg2))
      ∧ r.2.sem = fun _ => 0)

def quiescent_PairRest [hPairRest : Cert.PairRest.Facts] [hPre_in_mesh_rest : Cert.Pre_in_mesh_rest.Facts] : Prop :=
  ∀ (m : (ℓ : Loc Cert.PairRest.nD Cert.PairRest.τ Cert.PairRest.sig) → Buf (Elt Bits) ℓ) (g : Dev Cert.PairRest.nD → PrngReg), Pre_PairRest m →
    θ_run (Cert.PairRest.defs (F := Bits)) (onTc (τ := Cert.PairRest.τ) (Cert.PairRest.main (F := Bits))) ⟨m, fun _ => 0, g⟩ (fun r => (∀ c : Dev Cert.PairRest.nD,
      r.2.mem ((c.tc : Thread Cert.PairRest.nD Cert.PairRest.τ).loc Cert.PairRest.main_arg0) = m ((c.tc : Thread Cert.PairRest.nD Cert.PairRest.τ).loc Cert.PairRest.main_arg0)
      ∧ r.2.mem ((c.tc : Thread Cert.PairRest.nD Cert.PairRest.τ).loc Cert.PairRest.main_arg1) = m ((c.tc : Thread Cert.PairRest.nD Cert.PairRest.τ).loc Cert.PairRest.main_arg1)
      ∧ r.2.mem ((c.tc : Thread Cert.PairRest.nD Cert.PairRest.τ).loc Cert.PairRest.main_arg2) = m ((c.tc : Thread Cert.PairRest.nD Cert.PairRest.τ).loc Cert.PairRest.main_arg2)
      ∧ r.2.mem ((c.tc : Thread Cert.PairRest.nD Cert.PairRest.τ).loc Cert.PairRest.main_arg3) = m ((c.tc : Thread Cert.PairRest.nD Cert.PairRest.τ).loc Cert.PairRest.main_arg3)
      ∧ r.2.mem ((c.tc : Thread Cert.PairRest.nD Cert.PairRest.τ).loc Cert.PairRest.main_arg4) = m ((c.tc : Thread Cert.PairRest.nD Cert.PairRest.τ).loc Cert.PairRest.main_arg4)
      ∧ r.2.mem ((c.tc : Thread Cert.PairRest.nD Cert.PairRest.τ).loc Cert.PairRest.main_arg5) = m ((c.tc : Thread Cert.PairRest.nD Cert.PairRest.τ).loc Cert.PairRest.main_arg5)
      ∧ r.2.mem ((c.tc : Thread Cert.PairRest.nD Cert.PairRest.τ).loc Cert.PairRest.main_arg6) = m ((c.tc : Thread Cert.PairRest.nD Cert.PairRest.τ).loc Cert.PairRest.main_arg6))
      ∧ r.2.sem = fun _ => 0)

def quiescent_PairRestIdeal [hPairRestIdeal : Cert.PairRestIdeal.Facts] [hPre_in_mesh_rest : Cert.Pre_in_mesh_rest.Facts] : Prop :=
  ∀ (m : (ℓ : Loc Cert.PairRestIdeal.nD Cert.PairRestIdeal.τ Cert.PairRestIdeal.sig) → Buf (Elt Ideal) ℓ) (g : Dev Cert.PairRestIdeal.nD → PrngReg), Pre_PairRestIdeal m →
    θ_run (Cert.PairRestIdeal.defs (F := Ideal)) (onTc (τ := Cert.PairRestIdeal.τ) (Cert.PairRestIdeal.main (F := Ideal))) ⟨m, fun _ => 0, g⟩ (fun r => (∀ c : Dev Cert.PairRestIdeal.nD,
      r.2.mem ((c.tc : Thread Cert.PairRestIdeal.nD Cert.PairRestIdeal.τ).loc Cert.PairRestIdeal.main_arg0) = m ((c.tc : Thread Cert.PairRestIdeal.nD Cert.PairRestIdeal.τ).loc Cert.PairRestIdeal.main_arg0)
      ∧ r.2.mem ((c.tc : Thread Cert.PairRestIdeal.nD Cert.PairRestIdeal.τ).loc Cert.PairRestIdeal.main_arg1) = m ((c.tc : Thread Cert.PairRestIdeal.nD Cert.PairRestIdeal.τ).loc Cert.PairRestIdeal.main_arg1)
      ∧ r.2.mem ((c.tc : Thread Cert.PairRestIdeal.nD Cert.PairRestIdeal.τ).loc Cert.PairRestIdeal.main_arg2) = m ((c.tc : Thread Cert.PairRestIdeal.nD Cert.PairRestIdeal.τ).loc Cert.PairRestIdeal.main_arg2)
      ∧ r.2.mem ((c.tc : Thread Cert.PairRestIdeal.nD Cert.PairRestIdeal.τ).loc Cert.PairRestIdeal.main_arg3) = m ((c.tc : Thread Cert.PairRestIdeal.nD Cert.PairRestIdeal.τ).loc Cert.PairRestIdeal.main_arg3)
      ∧ r.2.mem ((c.tc : Thread Cert.PairRestIdeal.nD Cert.PairRestIdeal.τ).loc Cert.PairRestIdeal.main_arg4) = m ((c.tc : Thread Cert.PairRestIdeal.nD Cert.PairRestIdeal.τ).loc Cert.PairRestIdeal.main_arg4)
      ∧ r.2.mem ((c.tc : Thread Cert.PairRestIdeal.nD Cert.PairRestIdeal.τ).loc Cert.PairRestIdeal.main_arg5) = m ((c.tc : Thread Cert.PairRestIdeal.nD Cert.PairRestIdeal.τ).loc Cert.PairRestIdeal.main_arg5)
      ∧ r.2.mem ((c.tc : Thread Cert.PairRestIdeal.nD Cert.PairRestIdeal.τ).loc Cert.PairRestIdeal.main_arg6) = m ((c.tc : Thread Cert.PairRestIdeal.nD Cert.PairRestIdeal.τ).loc Cert.PairRestIdeal.main_arg6))
      ∧ r.2.sem = fun _ => 0)

def quiescent_PairRestRefIdeal [hPairRestRefIdeal : Cert.PairRestRefIdeal.Facts] [hPre_in_mesh_rest : Cert.Pre_in_mesh_rest.Facts] : Prop :=
  ∀ (m : (ℓ : Loc Cert.PairRestRefIdeal.nD Cert.PairRestRefIdeal.τ Cert.PairRestRefIdeal.sig) → Buf (Elt Ideal) ℓ) (g : Dev Cert.PairRestRefIdeal.nD → PrngReg), Pre_PairRestRefIdeal m →
    θ_run (Cert.PairRestRefIdeal.defs (F := Ideal)) (onTc (τ := Cert.PairRestRefIdeal.τ) (Cert.PairRestRefIdeal.main (F := Ideal))) ⟨m, fun _ => 0, g⟩ (fun r => (∀ c : Dev Cert.PairRestRefIdeal.nD,
      r.2.mem ((c.tc : Thread Cert.PairRestRefIdeal.nD Cert.PairRestRefIdeal.τ).loc Cert.PairRestRefIdeal.main_arg0) = m ((c.tc : Thread Cert.PairRestRefIdeal.nD Cert.PairRestRefIdeal.τ).loc Cert.PairRestRefIdeal.main_arg0)
      ∧ r.2.mem ((c.tc : Thread Cert.PairRestRefIdeal.nD Cert.PairRestRefIdeal.τ).loc Cert.PairRestRefIdeal.main_arg1) = m ((c.tc : Thread Cert.PairRestRefIdeal.nD Cert.PairRestRefIdeal.τ).loc Cert.PairRestRefIdeal.main_arg1)
      ∧ r.2.mem ((c.tc : Thread Cert.PairRestRefIdeal.nD Cert.PairRestRefIdeal.τ).loc Cert.PairRestRefIdeal.main_arg2) = m ((c.tc : Thread Cert.PairRestRefIdeal.nD Cert.PairRestRefIdeal.τ).loc Cert.PairRestRefIdeal.main_arg2)
      ∧ r.2.mem ((c.tc : Thread Cert.PairRestRefIdeal.nD Cert.PairRestRefIdeal.τ).loc Cert.PairRestRefIdeal.main_arg3) = m ((c.tc : Thread Cert.PairRestRefIdeal.nD Cert.PairRestRefIdeal.τ).loc Cert.PairRestRefIdeal.main_arg3)
      ∧ r.2.mem ((c.tc : Thread Cert.PairRestRefIdeal.nD Cert.PairRestRefIdeal.τ).loc Cert.PairRestRefIdeal.main_arg4) = m ((c.tc : Thread Cert.PairRestRefIdeal.nD Cert.PairRestRefIdeal.τ).loc Cert.PairRestRefIdeal.main_arg4)
      ∧ r.2.mem ((c.tc : Thread Cert.PairRestRefIdeal.nD Cert.PairRestRefIdeal.τ).loc Cert.PairRestRefIdeal.main_arg5) = m ((c.tc : Thread Cert.PairRestRefIdeal.nD Cert.PairRestRefIdeal.τ).loc Cert.PairRestRefIdeal.main_arg5)
      ∧ r.2.mem ((c.tc : Thread Cert.PairRestRefIdeal.nD Cert.PairRestRefIdeal.τ).loc Cert.PairRestRefIdeal.main_arg6) = m ((c.tc : Thread Cert.PairRestRefIdeal.nD Cert.PairRestRefIdeal.τ).loc Cert.PairRestRefIdeal.main_arg6))
      ∧ r.2.sem = fun _ => 0)

def preserves_GradH_GradHIdeal : Prop :=
  True

def algebraic_GradHIdeal_GradHRefIdeal [hGradHIdeal : Cert.GradHIdeal.Facts] [hGradHRefIdeal : Cert.GradHRefIdeal.Facts] : Prop :=
  ∀ (m : (ℓ : Loc Cert.GradHIdeal.nD Cert.GradHIdeal.τ Cert.GradHIdeal.sig) → Buf (Elt Ideal) ℓ) (g : Dev Cert.GradHIdeal.nD → PrngReg)
    (m' : (ℓ : Loc Cert.GradHRefIdeal.nD Cert.GradHRefIdeal.τ Cert.GradHRefIdeal.sig) → Buf (Elt Ideal) ℓ) (g' : Dev Cert.GradHRefIdeal.nD → PrngReg), Pre_GradHIdeal m →
    (∀ c : Dev Cert.GradHIdeal.nD,
      m' ((c.tc : Thread Cert.GradHRefIdeal.nD Cert.GradHRefIdeal.τ).loc Cert.GradHRefIdeal.main_arg0) = m ((c.tc : Thread Cert.GradHIdeal.nD Cert.GradHIdeal.τ).loc Cert.GradHIdeal.main_arg0)
      ∧ m' ((c.tc : Thread Cert.GradHRefIdeal.nD Cert.GradHRefIdeal.τ).loc Cert.GradHRefIdeal.main_arg1) = m ((c.tc : Thread Cert.GradHIdeal.nD Cert.GradHIdeal.τ).loc Cert.GradHIdeal.main_arg1)
      ∧ m' ((c.tc : Thread Cert.GradHRefIdeal.nD Cert.GradHRefIdeal.τ).loc Cert.GradHRefIdeal.main_arg2) = m ((c.tc : Thread Cert.GradHIdeal.nD Cert.GradHIdeal.τ).loc Cert.GradHIdeal.main_arg2)
      ∧ m' ((c.tc : Thread Cert.GradHRefIdeal.nD Cert.GradHRefIdeal.τ).loc Cert.GradHRefIdeal.main_arg3) = m ((c.tc : Thread Cert.GradHIdeal.nD Cert.GradHIdeal.τ).loc Cert.GradHIdeal.main_arg3)
      ∧ m' ((c.tc : Thread Cert.GradHRefIdeal.nD Cert.GradHRefIdeal.τ).loc Cert.GradHRefIdeal.main_arg4) = m ((c.tc : Thread Cert.GradHIdeal.nD Cert.GradHIdeal.τ).loc Cert.GradHIdeal.main_arg4)
      ∧ m' ((c.tc : Thread Cert.GradHRefIdeal.nD Cert.GradHRefIdeal.τ).loc Cert.GradHRefIdeal.main_arg5) = m ((c.tc : Thread Cert.GradHIdeal.nD Cert.GradHIdeal.τ).loc Cert.GradHIdeal.main_arg5)) →
    ∃ (v0 : (c : Dev Cert.GradHIdeal.nD) → Buf (Elt Ideal) ((c.tc : Thread Cert.GradHIdeal.nD Cert.GradHIdeal.τ).loc Cert.GradHIdeal.main_v0_0)) (v1 : (c : Dev Cert.GradHIdeal.nD) → Buf (Elt Ideal) ((c.tc : Thread Cert.GradHIdeal.nD Cert.GradHIdeal.τ).loc Cert.GradHIdeal.main_v0_1)),
      θ_run (Cert.GradHIdeal.defs (F := Ideal)) (onTc (τ := Cert.GradHIdeal.τ) (Cert.GradHIdeal.main (F := Ideal))) ⟨m, fun _ => 0, g⟩ (fun r => ∀ c : Dev Cert.GradHIdeal.nD,
          r.2.mem ((c.tc : Thread Cert.GradHIdeal.nD Cert.GradHIdeal.τ).loc Cert.GradHIdeal.main_v0_0) = v0 c
          ∧ r.2.mem ((c.tc : Thread Cert.GradHIdeal.nD Cert.GradHIdeal.τ).loc Cert.GradHIdeal.main_v0_1) = v1 c
          ∧ r.2.mem ((c.tc : Thread Cert.GradHIdeal.nD Cert.GradHIdeal.τ).loc Cert.GradHIdeal.main_arg0) = m ((c.tc : Thread Cert.GradHIdeal.nD Cert.GradHIdeal.τ).loc Cert.GradHIdeal.main_arg0)
          ∧ r.2.mem ((c.tc : Thread Cert.GradHIdeal.nD Cert.GradHIdeal.τ).loc Cert.GradHIdeal.main_arg1) = m ((c.tc : Thread Cert.GradHIdeal.nD Cert.GradHIdeal.τ).loc Cert.GradHIdeal.main_arg1)
          ∧ r.2.mem ((c.tc : Thread Cert.GradHIdeal.nD Cert.GradHIdeal.τ).loc Cert.GradHIdeal.main_arg2) = m ((c.tc : Thread Cert.GradHIdeal.nD Cert.GradHIdeal.τ).loc Cert.GradHIdeal.main_arg2)
          ∧ r.2.mem ((c.tc : Thread Cert.GradHIdeal.nD Cert.GradHIdeal.τ).loc Cert.GradHIdeal.main_arg3) = m ((c.tc : Thread Cert.GradHIdeal.nD Cert.GradHIdeal.τ).loc Cert.GradHIdeal.main_arg3)
          ∧ r.2.mem ((c.tc : Thread Cert.GradHIdeal.nD Cert.GradHIdeal.τ).loc Cert.GradHIdeal.main_arg4) = m ((c.tc : Thread Cert.GradHIdeal.nD Cert.GradHIdeal.τ).loc Cert.GradHIdeal.main_arg4)
          ∧ r.2.mem ((c.tc : Thread Cert.GradHIdeal.nD Cert.GradHIdeal.τ).loc Cert.GradHIdeal.main_arg5) = m ((c.tc : Thread Cert.GradHIdeal.nD Cert.GradHIdeal.τ).loc Cert.GradHIdeal.main_arg5))
      ∧ θ_run (Cert.GradHRefIdeal.defs (F := Ideal)) (onTc (τ := Cert.GradHRefIdeal.τ) (Cert.GradHRefIdeal.main (F := Ideal))) ⟨m', fun _ => 0, g'⟩ (fun r => ∀ c : Dev Cert.GradHRefIdeal.nD,
          r.2.mem ((c.tc : Thread Cert.GradHRefIdeal.nD Cert.GradHRefIdeal.τ).loc Cert.GradHRefIdeal.main_v35) = v0 c
          ∧ r.2.mem ((c.tc : Thread Cert.GradHRefIdeal.nD Cert.GradHRefIdeal.τ).loc Cert.GradHRefIdeal.main_v36) = v1 c
          ∧ r.2.mem ((c.tc : Thread Cert.GradHRefIdeal.nD Cert.GradHRefIdeal.τ).loc Cert.GradHRefIdeal.main_arg0) = m' ((c.tc : Thread Cert.GradHRefIdeal.nD Cert.GradHRefIdeal.τ).loc Cert.GradHRefIdeal.main_arg0)
          ∧ r.2.mem ((c.tc : Thread Cert.GradHRefIdeal.nD Cert.GradHRefIdeal.τ).loc Cert.GradHRefIdeal.main_arg1) = m' ((c.tc : Thread Cert.GradHRefIdeal.nD Cert.GradHRefIdeal.τ).loc Cert.GradHRefIdeal.main_arg1)
          ∧ r.2.mem ((c.tc : Thread Cert.GradHRefIdeal.nD Cert.GradHRefIdeal.τ).loc Cert.GradHRefIdeal.main_arg2) = m' ((c.tc : Thread Cert.GradHRefIdeal.nD Cert.GradHRefIdeal.τ).loc Cert.GradHRefIdeal.main_arg2)
          ∧ r.2.mem ((c.tc : Thread Cert.GradHRefIdeal.nD Cert.GradHRefIdeal.τ).loc Cert.GradHRefIdeal.main_arg3) = m' ((c.tc : Thread Cert.GradHRefIdeal.nD Cert.GradHRefIdeal.τ).loc Cert.GradHRefIdeal.main_arg3)
          ∧ r.2.mem ((c.tc : Thread Cert.GradHRefIdeal.nD Cert.GradHRefIdeal.τ).loc Cert.GradHRefIdeal.main_arg4) = m' ((c.tc : Thread Cert.GradHRefIdeal.nD Cert.GradHRefIdeal.τ).loc Cert.GradHRefIdeal.main_arg4)
          ∧ r.2.mem ((c.tc : Thread Cert.GradHRefIdeal.nD Cert.GradHRefIdeal.τ).loc Cert.GradHRefIdeal.main_arg5) = m' ((c.tc : Thread Cert.GradHRefIdeal.nD Cert.GradHRefIdeal.τ).loc Cert.GradHRefIdeal.main_arg5))

def preserves_GradWIn_GradWInIdeal : Prop :=
  True

def algebraic_GradWInIdeal_GradWInRefIdeal [hGradWInIdeal : Cert.GradWInIdeal.Facts] [hGradWInRefIdeal : Cert.GradWInRefIdeal.Facts] : Prop :=
  ∀ (m : (ℓ : Loc Cert.GradWInIdeal.nD Cert.GradWInIdeal.τ Cert.GradWInIdeal.sig) → Buf (Elt Ideal) ℓ) (g : Dev Cert.GradWInIdeal.nD → PrngReg)
    (m' : (ℓ : Loc Cert.GradWInRefIdeal.nD Cert.GradWInRefIdeal.τ Cert.GradWInRefIdeal.sig) → Buf (Elt Ideal) ℓ) (g' : Dev Cert.GradWInRefIdeal.nD → PrngReg), Pre_GradWInIdeal m →
    (∀ c : Dev Cert.GradWInIdeal.nD,
      m' ((c.tc : Thread Cert.GradWInRefIdeal.nD Cert.GradWInRefIdeal.τ).loc Cert.GradWInRefIdeal.main_arg0) = m ((c.tc : Thread Cert.GradWInIdeal.nD Cert.GradWInIdeal.τ).loc Cert.GradWInIdeal.main_arg0)
      ∧ m' ((c.tc : Thread Cert.GradWInRefIdeal.nD Cert.GradWInRefIdeal.τ).loc Cert.GradWInRefIdeal.main_arg1) = m ((c.tc : Thread Cert.GradWInIdeal.nD Cert.GradWInIdeal.τ).loc Cert.GradWInIdeal.main_arg1)
      ∧ m' ((c.tc : Thread Cert.GradWInRefIdeal.nD Cert.GradWInRefIdeal.τ).loc Cert.GradWInRefIdeal.main_arg2) = m ((c.tc : Thread Cert.GradWInIdeal.nD Cert.GradWInIdeal.τ).loc Cert.GradWInIdeal.main_arg2)) →
    ∃ (v0 : (c : Dev Cert.GradWInIdeal.nD) → Buf (Elt Ideal) ((c.tc : Thread Cert.GradWInIdeal.nD Cert.GradWInIdeal.τ).loc Cert.GradWInIdeal.main_v0)),
      θ_run (Cert.GradWInIdeal.defs (F := Ideal)) (onTc (τ := Cert.GradWInIdeal.τ) (Cert.GradWInIdeal.main (F := Ideal))) ⟨m, fun _ => 0, g⟩ (fun r => ∀ c : Dev Cert.GradWInIdeal.nD,
          r.2.mem ((c.tc : Thread Cert.GradWInIdeal.nD Cert.GradWInIdeal.τ).loc Cert.GradWInIdeal.main_v0) = v0 c
          ∧ r.2.mem ((c.tc : Thread Cert.GradWInIdeal.nD Cert.GradWInIdeal.τ).loc Cert.GradWInIdeal.main_arg0) = m ((c.tc : Thread Cert.GradWInIdeal.nD Cert.GradWInIdeal.τ).loc Cert.GradWInIdeal.main_arg0)
          ∧ r.2.mem ((c.tc : Thread Cert.GradWInIdeal.nD Cert.GradWInIdeal.τ).loc Cert.GradWInIdeal.main_arg1) = m ((c.tc : Thread Cert.GradWInIdeal.nD Cert.GradWInIdeal.τ).loc Cert.GradWInIdeal.main_arg1)
          ∧ r.2.mem ((c.tc : Thread Cert.GradWInIdeal.nD Cert.GradWInIdeal.τ).loc Cert.GradWInIdeal.main_arg2) = m ((c.tc : Thread Cert.GradWInIdeal.nD Cert.GradWInIdeal.τ).loc Cert.GradWInIdeal.main_arg2))
      ∧ θ_run (Cert.GradWInRefIdeal.defs (F := Ideal)) (onTc (τ := Cert.GradWInRefIdeal.τ) (Cert.GradWInRefIdeal.main (F := Ideal))) ⟨m', fun _ => 0, g'⟩ (fun r => ∀ c : Dev Cert.GradWInRefIdeal.nD,
          r.2.mem ((c.tc : Thread Cert.GradWInRefIdeal.nD Cert.GradWInRefIdeal.τ).loc Cert.GradWInRefIdeal.main_v12) = v0 c
          ∧ r.2.mem ((c.tc : Thread Cert.GradWInRefIdeal.nD Cert.GradWInRefIdeal.τ).loc Cert.GradWInRefIdeal.main_arg0) = m' ((c.tc : Thread Cert.GradWInRefIdeal.nD Cert.GradWInRefIdeal.τ).loc Cert.GradWInRefIdeal.main_arg0)
          ∧ r.2.mem ((c.tc : Thread Cert.GradWInRefIdeal.nD Cert.GradWInRefIdeal.τ).loc Cert.GradWInRefIdeal.main_arg1) = m' ((c.tc : Thread Cert.GradWInRefIdeal.nD Cert.GradWInRefIdeal.τ).loc Cert.GradWInRefIdeal.main_arg1)
          ∧ r.2.mem ((c.tc : Thread Cert.GradWInRefIdeal.nD Cert.GradWInRefIdeal.τ).loc Cert.GradWInRefIdeal.main_arg2) = m' ((c.tc : Thread Cert.GradWInRefIdeal.nD Cert.GradWInRefIdeal.τ).loc Cert.GradWInRefIdeal.main_arg2))

def preserves_GradWOut_GradWOutIdeal : Prop :=
  True

def algebraic_GradWOutIdeal_GradWOutRefIdeal [hGradWOutIdeal : Cert.GradWOutIdeal.Facts] [hGradWOutRefIdeal : Cert.GradWOutRefIdeal.Facts] : Prop :=
  ∀ (m : (ℓ : Loc Cert.GradWOutIdeal.nD Cert.GradWOutIdeal.τ Cert.GradWOutIdeal.sig) → Buf (Elt Ideal) ℓ) (g : Dev Cert.GradWOutIdeal.nD → PrngReg)
    (m' : (ℓ : Loc Cert.GradWOutRefIdeal.nD Cert.GradWOutRefIdeal.τ Cert.GradWOutRefIdeal.sig) → Buf (Elt Ideal) ℓ) (g' : Dev Cert.GradWOutRefIdeal.nD → PrngReg), Pre_GradWOutIdeal m →
    (∀ c : Dev Cert.GradWOutIdeal.nD,
      m' ((c.tc : Thread Cert.GradWOutRefIdeal.nD Cert.GradWOutRefIdeal.τ).loc Cert.GradWOutRefIdeal.main_arg0) = m ((c.tc : Thread Cert.GradWOutIdeal.nD Cert.GradWOutIdeal.τ).loc Cert.GradWOutIdeal.main_arg0)
      ∧ m' ((c.tc : Thread Cert.GradWOutRefIdeal.nD Cert.GradWOutRefIdeal.τ).loc Cert.GradWOutRefIdeal.main_arg1) = m ((c.tc : Thread Cert.GradWOutIdeal.nD Cert.GradWOutIdeal.τ).loc Cert.GradWOutIdeal.main_arg1)
      ∧ m' ((c.tc : Thread Cert.GradWOutRefIdeal.nD Cert.GradWOutRefIdeal.τ).loc Cert.GradWOutRefIdeal.main_arg2) = m ((c.tc : Thread Cert.GradWOutIdeal.nD Cert.GradWOutIdeal.τ).loc Cert.GradWOutIdeal.main_arg2)) →
    ∃ (v0 : (c : Dev Cert.GradWOutIdeal.nD) → Buf (Elt Ideal) ((c.tc : Thread Cert.GradWOutIdeal.nD Cert.GradWOutIdeal.τ).loc Cert.GradWOutIdeal.main_v0)),
      θ_run (Cert.GradWOutIdeal.defs (F := Ideal)) (onTc (τ := Cert.GradWOutIdeal.τ) (Cert.GradWOutIdeal.main (F := Ideal))) ⟨m, fun _ => 0, g⟩ (fun r => ∀ c : Dev Cert.GradWOutIdeal.nD,
          r.2.mem ((c.tc : Thread Cert.GradWOutIdeal.nD Cert.GradWOutIdeal.τ).loc Cert.GradWOutIdeal.main_v0) = v0 c
          ∧ r.2.mem ((c.tc : Thread Cert.GradWOutIdeal.nD Cert.GradWOutIdeal.τ).loc Cert.GradWOutIdeal.main_arg0) = m ((c.tc : Thread Cert.GradWOutIdeal.nD Cert.GradWOutIdeal.τ).loc Cert.GradWOutIdeal.main_arg0)
          ∧ r.2.mem ((c.tc : Thread Cert.GradWOutIdeal.nD Cert.GradWOutIdeal.τ).loc Cert.GradWOutIdeal.main_arg1) = m ((c.tc : Thread Cert.GradWOutIdeal.nD Cert.GradWOutIdeal.τ).loc Cert.GradWOutIdeal.main_arg1)
          ∧ r.2.mem ((c.tc : Thread Cert.GradWOutIdeal.nD Cert.GradWOutIdeal.τ).loc Cert.GradWOutIdeal.main_arg2) = m ((c.tc : Thread Cert.GradWOutIdeal.nD Cert.GradWOutIdeal.τ).loc Cert.GradWOutIdeal.main_arg2))
      ∧ θ_run (Cert.GradWOutRefIdeal.defs (F := Ideal)) (onTc (τ := Cert.GradWOutRefIdeal.τ) (Cert.GradWOutRefIdeal.main (F := Ideal))) ⟨m', fun _ => 0, g'⟩ (fun r => ∀ c : Dev Cert.GradWOutRefIdeal.nD,
          r.2.mem ((c.tc : Thread Cert.GradWOutRefIdeal.nD Cert.GradWOutRefIdeal.τ).loc Cert.GradWOutRefIdeal.main_v5) = v0 c
          ∧ r.2.mem ((c.tc : Thread Cert.GradWOutRefIdeal.nD Cert.GradWOutRefIdeal.τ).loc Cert.GradWOutRefIdeal.main_arg0) = m' ((c.tc : Thread Cert.GradWOutRefIdeal.nD Cert.GradWOutRefIdeal.τ).loc Cert.GradWOutRefIdeal.main_arg0)
          ∧ r.2.mem ((c.tc : Thread Cert.GradWOutRefIdeal.nD Cert.GradWOutRefIdeal.τ).loc Cert.GradWOutRefIdeal.main_arg1) = m' ((c.tc : Thread Cert.GradWOutRefIdeal.nD Cert.GradWOutRefIdeal.τ).loc Cert.GradWOutRefIdeal.main_arg1)
          ∧ r.2.mem ((c.tc : Thread Cert.GradWOutRefIdeal.nD Cert.GradWOutRefIdeal.τ).loc Cert.GradWOutRefIdeal.main_arg2) = m' ((c.tc : Thread Cert.GradWOutRefIdeal.nD Cert.GradWOutRefIdeal.τ).loc Cert.GradWOutRefIdeal.main_arg2))

def preserves_GradWAttn_GradWAttnIdeal : Prop :=
  True

def algebraic_GradWAttnIdeal_GradWAttnRefIdeal [hGradWAttnIdeal : Cert.GradWAttnIdeal.Facts] [hGradWAttnRefIdeal : Cert.GradWAttnRefIdeal.Facts] : Prop :=
  ∀ (m : (ℓ : Loc Cert.GradWAttnIdeal.nD Cert.GradWAttnIdeal.τ Cert.GradWAttnIdeal.sig) → Buf (Elt Ideal) ℓ) (g : Dev Cert.GradWAttnIdeal.nD → PrngReg)
    (m' : (ℓ : Loc Cert.GradWAttnRefIdeal.nD Cert.GradWAttnRefIdeal.τ Cert.GradWAttnRefIdeal.sig) → Buf (Elt Ideal) ℓ) (g' : Dev Cert.GradWAttnRefIdeal.nD → PrngReg), Pre_GradWAttnIdeal m →
    (∀ c : Dev Cert.GradWAttnIdeal.nD,
      m' ((c.tc : Thread Cert.GradWAttnRefIdeal.nD Cert.GradWAttnRefIdeal.τ).loc Cert.GradWAttnRefIdeal.main_arg0) = m ((c.tc : Thread Cert.GradWAttnIdeal.nD Cert.GradWAttnIdeal.τ).loc Cert.GradWAttnIdeal.main_arg0)
      ∧ m' ((c.tc : Thread Cert.GradWAttnRefIdeal.nD Cert.GradWAttnRefIdeal.τ).loc Cert.GradWAttnRefIdeal.main_arg1) = m ((c.tc : Thread Cert.GradWAttnIdeal.nD Cert.GradWAttnIdeal.τ).loc Cert.GradWAttnIdeal.main_arg1)
      ∧ m' ((c.tc : Thread Cert.GradWAttnRefIdeal.nD Cert.GradWAttnRefIdeal.τ).loc Cert.GradWAttnRefIdeal.main_arg2) = m ((c.tc : Thread Cert.GradWAttnIdeal.nD Cert.GradWAttnIdeal.τ).loc Cert.GradWAttnIdeal.main_arg2)) →
    ∃ (v0 : (c : Dev Cert.GradWAttnIdeal.nD) → Buf (Elt Ideal) ((c.tc : Thread Cert.GradWAttnIdeal.nD Cert.GradWAttnIdeal.τ).loc Cert.GradWAttnIdeal.main_v0)),
      θ_run (Cert.GradWAttnIdeal.defs (F := Ideal)) (onTc (τ := Cert.GradWAttnIdeal.τ) (Cert.GradWAttnIdeal.main (F := Ideal))) ⟨m, fun _ => 0, g⟩ (fun r => ∀ c : Dev Cert.GradWAttnIdeal.nD,
          r.2.mem ((c.tc : Thread Cert.GradWAttnIdeal.nD Cert.GradWAttnIdeal.τ).loc Cert.GradWAttnIdeal.main_v0) = v0 c
          ∧ r.2.mem ((c.tc : Thread Cert.GradWAttnIdeal.nD Cert.GradWAttnIdeal.τ).loc Cert.GradWAttnIdeal.main_arg0) = m ((c.tc : Thread Cert.GradWAttnIdeal.nD Cert.GradWAttnIdeal.τ).loc Cert.GradWAttnIdeal.main_arg0)
          ∧ r.2.mem ((c.tc : Thread Cert.GradWAttnIdeal.nD Cert.GradWAttnIdeal.τ).loc Cert.GradWAttnIdeal.main_arg1) = m ((c.tc : Thread Cert.GradWAttnIdeal.nD Cert.GradWAttnIdeal.τ).loc Cert.GradWAttnIdeal.main_arg1)
          ∧ r.2.mem ((c.tc : Thread Cert.GradWAttnIdeal.nD Cert.GradWAttnIdeal.τ).loc Cert.GradWAttnIdeal.main_arg2) = m ((c.tc : Thread Cert.GradWAttnIdeal.nD Cert.GradWAttnIdeal.τ).loc Cert.GradWAttnIdeal.main_arg2))
      ∧ θ_run (Cert.GradWAttnRefIdeal.defs (F := Ideal)) (onTc (τ := Cert.GradWAttnRefIdeal.τ) (Cert.GradWAttnRefIdeal.main (F := Ideal))) ⟨m', fun _ => 0, g'⟩ (fun r => ∀ c : Dev Cert.GradWAttnRefIdeal.nD,
          r.2.mem ((c.tc : Thread Cert.GradWAttnRefIdeal.nD Cert.GradWAttnRefIdeal.τ).loc Cert.GradWAttnRefIdeal.main_v7) = v0 c
          ∧ r.2.mem ((c.tc : Thread Cert.GradWAttnRefIdeal.nD Cert.GradWAttnRefIdeal.τ).loc Cert.GradWAttnRefIdeal.main_arg0) = m' ((c.tc : Thread Cert.GradWAttnRefIdeal.nD Cert.GradWAttnRefIdeal.τ).loc Cert.GradWAttnRefIdeal.main_arg0)
          ∧ r.2.mem ((c.tc : Thread Cert.GradWAttnRefIdeal.nD Cert.GradWAttnRefIdeal.τ).loc Cert.GradWAttnRefIdeal.main_arg1) = m' ((c.tc : Thread Cert.GradWAttnRefIdeal.nD Cert.GradWAttnRefIdeal.τ).loc Cert.GradWAttnRefIdeal.main_arg1)
          ∧ r.2.mem ((c.tc : Thread Cert.GradWAttnRefIdeal.nD Cert.GradWAttnRefIdeal.τ).loc Cert.GradWAttnRefIdeal.main_arg2) = m' ((c.tc : Thread Cert.GradWAttnRefIdeal.nD Cert.GradWAttnRefIdeal.τ).loc Cert.GradWAttnRefIdeal.main_arg2))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)
      ∧ m' ((c.tc : Thread Cert.AdamInRefIdeal.nD Cert.AdamInRefIdeal.τ).loc Cert.AdamInRefIdeal.main_arg4) = m ((c.tc : Thread Cert.AdamInIdeal.nD Cert.AdamInIdeal.τ).loc Cert.AdamInIdeal.main_arg4)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v2) = v0 c
          ∧ r.2.mem ((c.tc : Thread Cert.AdamInRefIdeal.nD Cert.AdamInRefIdeal.τ).loc Cert.AdamInRefIdeal.main_v26) = v1 c
          ∧ r.2.mem ((c.tc : Thread Cert.AdamInRefIdeal.nD Cert.AdamInRefIdeal.τ).loc Cert.AdamInRefIdeal.main_v7) = v2 c
          ∧ r.2.mem ((c.tc : Thread Cert.AdamInRefIdeal.nD Cert.AdamInRefIdeal.τ).loc Cert.AdamInRefIdeal.main_v13) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3)
          ∧ r.2.mem ((c.tc : Thread Cert.AdamInRefIdeal.nD Cert.AdamInRefIdeal.τ).loc Cert.AdamInRefIdeal.main_arg4) = m' ((c.tc : Thread Cert.AdamInRefIdeal.nD Cert.AdamInRefIdeal.τ).loc Cert.AdamInRefIdeal.main_arg4))

def preserves_AdamAttn_AdamAttnIdeal : Prop :=
  True

def algebraic_AdamAttnIdeal_AdamAttnRefIdeal [hAdamAttnIdeal : Cert.AdamAttnIdeal.Facts] [hAdamAttnRefIdeal : Cert.AdamAttnRefIdeal.Facts] : Prop :=
  ∀ (m : (ℓ : Loc Cert.AdamAttnIdeal.nD Cert.AdamAttnIdeal.τ Cert.AdamAttnIdeal.sig) → Buf (Elt Ideal) ℓ) (g : Dev Cert.AdamAttnIdeal.nD → PrngReg)
    (m' : (ℓ : Loc Cert.AdamAttnRefIdeal.nD Cert.AdamAttnRefIdeal.τ Cert.AdamAttnRefIdeal.sig) → Buf (Elt Ideal) ℓ) (g' : Dev Cert.AdamAttnRefIdeal.nD → PrngReg), Pre_AdamAttnIdeal m →
    (∀ c : Dev Cert.AdamAttnIdeal.nD,
      m' ((c.tc : Thread Cert.AdamAttnRefIdeal.nD Cert.AdamAttnRefIdeal.τ).loc Cert.AdamAttnRefIdeal.main_arg0) = m ((c.tc : Thread Cert.AdamAttnIdeal.nD Cert.AdamAttnIdeal.τ).loc Cert.AdamAttnIdeal.main_arg0)
      ∧ m' ((c.tc : Thread Cert.AdamAttnRefIdeal.nD Cert.AdamAttnRefIdeal.τ).loc Cert.AdamAttnRefIdeal.main_arg1) = m ((c.tc : Thread Cert.AdamAttnIdeal.nD Cert.AdamAttnIdeal.τ).loc Cert.AdamAttnIdeal.main_arg1)
      ∧ m' ((c.tc : Thread Cert.AdamAttnRefIdeal.nD Cert.AdamAttnRefIdeal.τ).loc Cert.AdamAttnRefIdeal.main_arg2) = m ((c.tc : Thread Cert.AdamAttnIdeal.nD Cert.AdamAttnIdeal.τ).loc Cert.AdamAttnIdeal.main_arg2)
      ∧ m' ((c.tc : Thread Cert.AdamAttnRefIdeal.nD Cert.AdamAttnRefIdeal.τ).loc Cert.AdamAttnRefIdeal.main_arg3) = m ((c.tc : Thread Cert.AdamAttnIdeal.nD Cert.AdamAttnIdeal.τ).loc Cert.AdamAttnIdeal.main_arg3)) →
    ∃ (v0 : (c : Dev Cert.AdamAttnIdeal.nD) → Buf (Elt Ideal) ((c.tc : Thread Cert.AdamAttnIdeal.nD Cert.AdamAttnIdeal.τ).loc Cert.AdamAttnIdeal.main_v0_0)) (v1 : (c : Dev Cert.AdamAttnIdeal.nD) → Buf (Elt Ideal) ((c.tc : Thread Cert.AdamAttnIdeal.nD Cert.AdamAttnIdeal.τ).loc Cert.AdamAttnIdeal.main_v0_1)) (v2 : (c : Dev Cert.AdamAttnIdeal.nD) → Buf (Elt Ideal) ((c.tc : Thread Cert.AdamAttnIdeal.nD Cert.AdamAttnIdeal.τ).loc Cert.AdamAttnIdeal.main_v0_2)) (v3 : (c : Dev Cert.AdamAttnIdeal.nD) → Buf (Elt Ideal) ((c.tc : Thread Cert.AdamAttnIdeal.nD Cert.AdamAttnIdeal.τ).loc Cert.AdamAttnIdeal.main_v0_3)),
      θ_run (Cert.AdamAttnIdeal.defs (F := Ideal)) (onTc (τ := Cert.AdamAttnIdeal.τ) (Cert.AdamAttnIdeal.main (F := Ideal))) ⟨m, fun _ => 0, g⟩ (fun r => ∀ c : Dev Cert.AdamAttnIdeal.nD,
          r.2.mem ((c.tc : Thread Cert.AdamAttnIdeal.nD Cert.AdamAttnIdeal.τ).loc Cert.AdamAttnIdeal.main_v0_0) = v0 c
          ∧ r.2.mem ((c.tc : Thread Cert.AdamAttnIdeal.nD Cert.AdamAttnIdeal.τ).loc Cert.AdamAttnIdeal.main_v0_1) = v1 c
          ∧ r.2.mem ((c.tc : Thread Cert.AdamAttnIdeal.nD Cert.AdamAttnIdeal.τ).loc Cert.AdamAttnIdeal.main_v0_2) = v2 c
          ∧ r.2.mem ((c.tc : Thread Cert.AdamAttnIdeal.nD Cert.AdamAttnIdeal.τ).loc Cert.AdamAttnIdeal.main_v0_3) = v3 c
          ∧ r.2.mem ((c.tc : Thread Cert.AdamAttnIdeal.nD Cert.AdamAttnIdeal.τ).loc Cert.AdamAttnIdeal.main_arg0) = m ((c.tc : Thread Cert.AdamAttnIdeal.nD Cert.AdamAttnIdeal.τ).loc Cert.AdamAttnIdeal.main_arg0)
          ∧ r.2.mem ((c.tc : Thread Cert.AdamAttnIdeal.nD Cert.AdamAttnIdeal.τ).loc Cert.AdamAttnIdeal.main_arg1) = m ((c.tc : Thread Cert.AdamAttnIdeal.nD Cert.AdamAttnIdeal.τ).loc Cert.AdamAttnIdeal.main_arg1)
          ∧ r.2.mem ((c.tc : Thread Cert.AdamAttnIdeal.nD Cert.AdamAttnIdeal.τ).loc Cert.AdamAttnIdeal.main_arg2) = m ((c.tc : Thread Cert.AdamAttnIdeal.nD Cert.AdamAttnIdeal.τ).loc Cert.AdamAttnIdeal.main_arg2)
          ∧ r.2.mem ((c.tc : Thread Cert.AdamAttnIdeal.nD Cert.AdamAttnIdeal.τ).loc Cert.AdamAttnIdeal.main_arg3) = m ((c.tc : Thread Cert.AdamAttnIdeal.nD Cert.AdamAttnIdeal.τ).loc Cert.AdamAttnIdeal.main_arg3))
      ∧ θ_run (Cert.AdamAttnRefIdeal.defs (F := Ideal)) (onTc (τ := Cert.AdamAttnRefIdeal.τ) (Cert.AdamAttnRefIdeal.main (F := Ideal))) ⟨m', fun _ => 0, g'⟩ (fun r => ∀ c : Dev Cert.AdamAttnRefIdeal.nD,
          r.2.mem ((c.tc : Thread Cert.AdamAttnRefIdeal.nD Cert.AdamAttnRefIdeal.τ).loc Cert.AdamAttnRefIdeal.main_v0) = v0 c
          ∧ r.2.mem ((c.tc : Thread Cert.AdamAttnRefIdeal.nD Cert.AdamAttnRefIdeal.τ).loc Cert.AdamAttnRefIdeal.main_v25) = v1 c
          ∧ r.2.mem ((c.tc : Thread Cert.AdamAttnRefIdeal.nD Cert.AdamAttnRefIdeal.τ).loc Cert.AdamAttnRefIdeal.main_v6) = v2 c
          ∧ r.2.mem ((c.tc : Thread Cert.AdamAttnRefIdeal.nD Cert.AdamAttnRefIdeal.τ).loc Cert.AdamAttnRefIdeal.main_v12) = v3 c
          ∧ r.2.mem ((c.tc : Thread Cert.AdamAttnRefIdeal.nD Cert.AdamAttnRefIdeal.τ).loc Cert.AdamAttnRefIdeal.main_arg0) = m' ((c.tc : Thread Cert.AdamAttnRefIdeal.nD Cert.AdamAttnRefIdeal.τ).loc Cert.AdamAttnRefIdeal.main_arg0)
          ∧ r.2.mem ((c.tc : Thread Cert.AdamAttnRefIdeal.nD Cert.AdamAttnRefIdeal.τ).loc Cert.AdamAttnRefIdeal.main_arg1) = m' ((c.tc : Thread Cert.AdamAttnRefIdeal.nD Cert.AdamAttnRefIdeal.τ).loc Cert.AdamAttnRefIdeal.main_arg1)
          ∧ r.2.mem ((c.tc : Thread Cert.AdamAttnRefIdeal.nD Cert.AdamAttnRefIdeal.τ).loc Cert.AdamAttnRefIdeal.main_arg2) = m' ((c.tc : Thread Cert.AdamAttnRefIdeal.nD Cert.AdamAttnRefIdeal.τ).loc Cert.AdamAttnRefIdeal.main_arg2)
          ∧ r.2.mem ((c.tc : Thread Cert.AdamAttnRefIdeal.nD Cert.AdamAttnRefIdeal.τ).loc Cert.AdamAttnRefIdeal.main_arg3) = m' ((c.tc : Thread Cert.AdamAttnRefIdeal.nD Cert.AdamAttnRefIdeal.τ).loc Cert.AdamAttnRefIdeal.main_arg3))

def preserves_AdamAda_AdamAdaIdeal : Prop :=
  True

def algebraic_AdamAdaIdeal_AdamAdaRefIdeal [hAdamAdaIdeal : Cert.AdamAdaIdeal.Facts] [hAdamAdaRefIdeal : Cert.AdamAdaRefIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg)
    (m' : (ℓ : Loc Cert.AdamAdaRefIdeal.nD Cert.AdamAdaRefIdeal.τ Cert.AdamAdaRefIdeal.sig) → Buf (Elt Ideal) ℓ) (g' : Dev Cert.AdamAdaRefIdeal.nD → PrngReg), Pre_AdamAdaIdeal m →
    (∀ c : Dev Cert.AdamAdaIdeal.nD,
      m' ((c.tc : Thread Cert.AdamAdaRefIdeal.nD Cert.AdamAdaRefIdeal.τ).loc Cert.AdamAdaRefIdeal.main_arg0) = m ((c.tc : Thread Cert.AdamAdaIdeal.nD Cert.AdamAdaIdeal.τ).loc Cert.AdamAdaIdeal.main_arg0)
      ∧ m' ((c.tc : Thread Cert.AdamAdaRefIdeal.nD Cert.AdamAdaRefIdeal.τ).loc Cert.AdamAdaRefIdeal.main_arg1) = m ((c.tc : Thread Cert.AdamAdaIdeal.nD Cert.AdamAdaIdeal.τ).loc Cert.AdamAdaIdeal.main_arg1)
      ∧ m' ((c.tc : Thread Cert.AdamAdaRefIdeal.nD Cert.AdamAdaRefIdeal.τ).loc Cert.AdamAdaRefIdeal.main_arg2) = m ((c.tc : Thread Cert.AdamAdaIdeal.nD Cert.AdamAdaIdeal.τ).loc Cert.AdamAdaIdeal.main_arg2)
      ∧ m' ((c.tc : Thread Cert.AdamAdaRefIdeal.nD Cert.AdamAdaRefIdeal.τ).loc Cert.AdamAdaRefIdeal.main_arg3) = m ((c.tc : Thread Cert.AdamAdaIdeal.nD Cert.AdamAdaIdeal.τ).loc Cert.AdamAdaIdeal.main_arg3)
      ∧ m' ((c.tc : Thread Cert.AdamAdaRefIdeal.nD Cert.AdamAdaRefIdeal.τ).loc Cert.AdamAdaRefIdeal.main_arg4) = m ((c.tc : Thread Cert.AdamAdaIdeal.nD Cert.AdamAdaIdeal.τ).loc Cert.AdamAdaIdeal.main_arg4)) →
    ∃ (v0 : (c : Dev Cert.AdamAdaIdeal.nD) → Buf (Elt Ideal) ((c.tc : Thread Cert.AdamAdaIdeal.nD Cert.AdamAdaIdeal.τ).loc Cert.AdamAdaIdeal.main_v0_0)) (v1 : (c : Dev Cert.AdamAdaIdeal.nD) → Buf (Elt Ideal) ((c.tc : Thread Cert.AdamAdaIdeal.nD Cert.AdamAdaIdeal.τ).loc Cert.AdamAdaIdeal.main_v0_1)) (v2 : (c : Dev Cert.AdamAdaIdeal.nD) → Buf (Elt Ideal) ((c.tc : Thread Cert.AdamAdaIdeal.nD Cert.AdamAdaIdeal.τ).loc Cert.AdamAdaIdeal.main_v0_2)) (v3 : (c : Dev Cert.AdamAdaIdeal.nD) → Buf (Elt Ideal) ((c.tc : Thread Cert.AdamAdaIdeal.nD Cert.AdamAdaIdeal.τ).loc Cert.AdamAdaIdeal.main_v0_3)),
      θ_run (Cert.AdamAdaIdeal.defs (F := Ideal)) (onTc (τ := Cert.AdamAdaIdeal.τ) (Cert.AdamAdaIdeal.main (F := Ideal))) ⟨m, fun _ => 0, g⟩ (fun r => ∀ c : Dev Cert.AdamAdaIdeal.nD,
          r.2.mem ((c.tc : Thread Cert.AdamAdaIdeal.nD Cert.AdamAdaIdeal.τ).loc Cert.AdamAdaIdeal.main_v0_0) = v0 c
          ∧ r.2.mem ((c.tc : Thread Cert.AdamAdaIdeal.nD Cert.AdamAdaIdeal.τ).loc Cert.AdamAdaIdeal.main_v0_1) = v1 c
          ∧ r.2.mem ((c.tc : Thread Cert.AdamAdaIdeal.nD Cert.AdamAdaIdeal.τ).loc Cert.AdamAdaIdeal.main_v0_2) = v2 c
          ∧ r.2.mem ((c.tc : Thread Cert.AdamAdaIdeal.nD Cert.AdamAdaIdeal.τ).loc Cert.AdamAdaIdeal.main_v0_3) = v3 c
          ∧ r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
          ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
          ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
          ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3)
          ∧ r.2.mem ((c.tc : Thread Cert.AdamAdaIdeal.nD Cert.AdamAdaIdeal.τ).loc Cert.AdamAdaIdeal.main_arg4) = m ((c.tc : Thread Cert.AdamAdaIdeal.nD Cert.AdamAdaIdeal.τ).loc Cert.AdamAdaIdeal.main_arg4))
      ∧ θ_run (Cert.AdamAdaRefIdeal.defs (F := Ideal)) (onTc (τ := Cert.AdamAdaRefIdeal.τ) (Cert.AdamAdaRefIdeal.main (F := Ideal))) ⟨m', fun _ => 0, g'⟩ (fun r => ∀ c : Dev Cert.AdamAdaRefIdeal.nD,
          r.2.mem ((c.tc : Thread Cert.AdamAdaRefIdeal.nD Cert.AdamAdaRefIdeal.τ).loc Cert.AdamAdaRefIdeal.main_v2) = v0 c
          ∧ r.2.mem ((c.tc : Thread Cert.AdamAdaRefIdeal.nD Cert.AdamAdaRefIdeal.τ).loc Cert.AdamAdaRefIdeal.main_v26) = v1 c
          ∧ r.2.mem ((c.tc : Thread Cert.AdamAdaRefIdeal.nD Cert.AdamAdaRefIdeal.τ).loc Cert.AdamAdaRefIdeal.main_v7) = v2 c
          ∧ r.2.mem ((c.tc : Thread Cert.AdamAdaRefIdeal.nD Cert.AdamAdaRefIdeal.τ).loc Cert.AdamAdaRefIdeal.main_v13) = v3 c
          ∧ r.2.mem ((c.tc : Thread Cert.AdamAdaRefIdeal.nD Cert.AdamAdaRefIdeal.τ).loc Cert.AdamAdaRefIdeal.main_arg0) = m' ((c.tc : Thread Cert.AdamAdaRefIdeal.nD Cert.AdamAdaRefIdeal.τ).loc Cert.AdamAdaRefIdeal.main_arg0)
          ∧ r.2.mem ((c.tc : Thread Cert.AdamAdaRefIdeal.nD Cert.AdamAdaRefIdeal.τ).loc Cert.AdamAdaRefIdeal.main_arg1) = m' ((c.tc : Thread Cert.AdamAdaRefIdeal.nD Cert.AdamAdaRefIdeal.τ).loc Cert.AdamAdaRefIdeal.main_arg1)
          ∧ r.2.mem ((c.tc : Thread Cert.AdamAdaRefIdeal.nD Cert.AdamAdaRefIdeal.τ).loc Cert.AdamAdaRefIdeal.main_arg2) = m' ((c.tc : Thread Cert.AdamAdaRefIdeal.nD Cert.AdamAdaRefIdeal.τ).loc Cert.AdamAdaRefIdeal.main_arg2)
          ∧ r.2.mem ((c.tc : Thread Cert.AdamAdaRefIdeal.nD Cert.AdamAdaRefIdeal.τ).loc Cert.AdamAdaRefIdeal.main_arg3) = m' ((c.tc : Thread Cert.AdamAdaRefIdeal.nD Cert.AdamAdaRefIdeal.τ).loc Cert.AdamAdaRefIdeal.main_arg3)
          ∧ r.2.mem ((c.tc : Thread Cert.AdamAdaRefIdeal.nD Cert.AdamAdaRefIdeal.τ).loc Cert.AdamAdaRefIdeal.main_arg4) = m' ((c.tc : Thread Cert.AdamAdaRefIdeal.nD Cert.AdamAdaRefIdeal.τ).loc Cert.AdamAdaRefIdeal.main_arg4))

def preserves_AdamRest_AdamRestIdeal : Prop :=
  True

def algebraic_AdamRestIdeal_AdamRestRefIdeal [hAdamRestIdeal : Cert.AdamRestIdeal.Facts] [hAdamRestRefIdeal : Cert.AdamRestRefIdeal.Facts] : Prop :=
  ∀ (m : (ℓ : Loc Cert.AdamRestIdeal.nD Cert.AdamRestIdeal.τ Cert.AdamRestIdeal.sig) → Buf (Elt Ideal) ℓ) (g : Dev Cert.AdamRestIdeal.nD → PrngReg)
    (m' : (ℓ : Loc Cert.AdamRestRefIdeal.nD Cert.AdamRestRefIdeal.τ Cert.AdamRestRefIdeal.sig) → Buf (Elt Ideal) ℓ) (g' : Dev Cert.AdamRestRefIdeal.nD → PrngReg), Pre_AdamRestIdeal m →
    (∀ c : Dev Cert.AdamRestIdeal.nD,
      m' ((c.tc : Thread Cert.AdamRestRefIdeal.nD Cert.AdamRestRefIdeal.τ).loc Cert.AdamRestRefIdeal.main_arg0) = m ((c.tc : Thread Cert.AdamRestIdeal.nD Cert.AdamRestIdeal.τ).loc Cert.AdamRestIdeal.main_arg0)
      ∧ m' ((c.tc : Thread Cert.AdamRestRefIdeal.nD Cert.AdamRestRefIdeal.τ).loc Cert.AdamRestRefIdeal.main_arg1) = m ((c.tc : Thread Cert.AdamRestIdeal.nD Cert.AdamRestIdeal.τ).loc Cert.AdamRestIdeal.main_arg1)
      ∧ m' ((c.tc : Thread Cert.AdamRestRefIdeal.nD Cert.AdamRestRefIdeal.τ).loc Cert.AdamRestRefIdeal.main_arg2) = m ((c.tc : Thread Cert.AdamRestIdeal.nD Cert.AdamRestIdeal.τ).loc Cert.AdamRestIdeal.main_arg2)
      ∧ m' ((c.tc : Thread Cert.AdamRestRefIdeal.nD Cert.AdamRestRefIdeal.τ).loc Cert.AdamRestRefIdeal.main_arg3) = m ((c.tc : Thread Cert.AdamRestIdeal.nD Cert.AdamRestIdeal.τ).loc Cert.AdamRestIdeal.main_arg3)
      ∧ m' ((c.tc : Thread Cert.AdamRestRefIdeal.nD Cert.AdamRestRefIdeal.τ).loc Cert.AdamRestRefIdeal.main_arg4) = m ((c.tc : Thread Cert.AdamRestIdeal.nD Cert.AdamRestIdeal.τ).loc Cert.AdamRestIdeal.main_arg4)
      ∧ m' ((c.tc : Thread Cert.AdamRestRefIdeal.nD Cert.AdamRestRefIdeal.τ).loc Cert.AdamRestRefIdeal.main_arg5) = m ((c.tc : Thread Cert.AdamRestIdeal.nD Cert.AdamRestIdeal.τ).loc Cert.AdamRestIdeal.main_arg5)
      ∧ m' ((c.tc : Thread Cert.AdamRestRefIdeal.nD Cert.AdamRestRefIdeal.τ).loc Cert.AdamRestRefIdeal.main_arg6) = m ((c.tc : Thread Cert.AdamRestIdeal.nD Cert.AdamRestIdeal.τ).loc Cert.AdamRestIdeal.main_arg6)
      ∧ m' ((c.tc : Thread Cert.AdamRestRefIdeal.nD Cert.AdamRestRefIdeal.τ).loc Cert.AdamRestRefIdeal.main_arg7) = m ((c.tc : Thread Cert.AdamRestIdeal.nD Cert.AdamRestIdeal.τ).loc Cert.AdamRestIdeal.main_arg7)
      ∧ m' ((c.tc : Thread Cert.AdamRestRefIdeal.nD Cert.AdamRestRefIdeal.τ).loc Cert.AdamRestRefIdeal.main_arg8) = m ((c.tc : Thread Cert.AdamRestIdeal.nD Cert.AdamRestIdeal.τ).loc Cert.AdamRestIdeal.main_arg8)
      ∧ m' ((c.tc : Thread Cert.AdamRestRefIdeal.nD Cert.AdamRestRefIdeal.τ).loc Cert.AdamRestRefIdeal.main_arg9) = m ((c.tc : Thread Cert.AdamRestIdeal.nD Cert.AdamRestIdeal.τ).loc Cert.AdamRestIdeal.main_arg9)
      ∧ m' ((c.tc : Thread Cert.AdamRestRefIdeal.nD Cert.AdamRestRefIdeal.τ).loc Cert.AdamRestRefIdeal.main_arg10) = m ((c.tc : Thread Cert.AdamRestIdeal.nD Cert.AdamRestIdeal.τ).loc Cert.AdamRestIdeal.main_arg10)
      ∧ m' ((c.tc : Thread Cert.AdamRestRefIdeal.nD Cert.AdamRestRefIdeal.τ).loc Cert.AdamRestRefIdeal.main_arg11) = m ((c.tc : Thread Cert.AdamRestIdeal.nD Cert.AdamRestIdeal.τ).loc Cert.AdamRestIdeal.main_arg11)
      ∧ m' ((c.tc : Thread Cert.AdamRestRefIdeal.nD Cert.AdamRestRefIdeal.τ).loc Cert.AdamRestRefIdeal.main_arg12) = m ((c.tc : Thread Cert.AdamRestIdeal.nD Cert.AdamRestIdeal.τ).loc Cert.AdamRestIdeal.main_arg12)
      ∧ m' ((c.tc : Thread Cert.AdamRestRefIdeal.nD Cert.AdamRestRefIdeal.τ).loc Cert.AdamRestRefIdeal.main_arg13) = m ((c.tc : Thread Cert.AdamRestIdeal.nD Cert.AdamRestIdeal.τ).loc Cert.AdamRestIdeal.main_arg13)
      ∧ m' ((c.tc : Thread Cert.AdamRestRefIdeal.nD Cert.AdamRestRefIdeal.τ).loc Cert.AdamRestRefIdeal.main_arg14) = m ((c.tc : Thread Cert.AdamRestIdeal.nD Cert.AdamRestIdeal.τ).loc Cert.AdamRestIdeal.main_arg14)
      ∧ m' ((c.tc : Thread Cert.AdamRestRefIdeal.nD Cert.AdamRestRefIdeal.τ).loc Cert.AdamRestRefIdeal.main_arg15) = m ((c.tc : Thread Cert.AdamRestIdeal.nD Cert.AdamRestIdeal.τ).loc Cert.AdamRestIdeal.main_arg15)
      ∧ m' ((c.tc : Thread Cert.AdamRestRefIdeal.nD Cert.AdamRestRefIdeal.τ).loc Cert.AdamRestRefIdeal.main_arg16) = m ((c.tc : Thread Cert.AdamRestIdeal.nD Cert.AdamRestIdeal.τ).loc Cert.AdamRestIdeal.main_arg16)
      ∧ m' ((c.tc : Thread Cert.AdamRestRefIdeal.nD Cert.AdamRestRefIdeal.τ).loc Cert.AdamRestRefIdeal.main_arg17) = m ((c.tc : Thread Cert.AdamRestIdeal.nD Cert.AdamRestIdeal.τ).loc Cert.AdamRestIdeal.main_arg17)
      ∧ m' ((c.tc : Thread Cert.AdamRestRefIdeal.nD Cert.AdamRestRefIdeal.τ).loc Cert.AdamRestRefIdeal.main_arg18) = m ((c.tc : Thread Cert.AdamRestIdeal.nD Cert.AdamRestIdeal.τ).loc Cert.AdamRestIdeal.main_arg18)
      ∧ m' ((c.tc : Thread Cert.AdamRestRefIdeal.nD Cert.AdamRestRefIdeal.τ).loc Cert.AdamRestRefIdeal.main_arg19) = m ((c.tc : Thread Cert.AdamRestIdeal.nD Cert.AdamRestIdeal.τ).loc Cert.AdamRestIdeal.main_arg19)
      ∧ m' ((c.tc : Thread Cert.AdamRestRefIdeal.nD Cert.AdamRestRefIdeal.τ).loc Cert.AdamRestRefIdeal.main_arg20) = m ((c.tc : Thread Cert.AdamRestIdeal.nD Cert.AdamRestIdeal.τ).loc Cert.AdamRestIdeal.main_arg20)
      ∧ m' ((c.tc : Thread Cert.AdamRestRefIdeal.nD Cert.AdamRestRefIdeal.τ).loc Cert.AdamRestRefIdeal.main_arg21) = m ((c.tc : Thread Cert.AdamRestIdeal.nD Cert.AdamRestIdeal.τ).loc Cert.AdamRestIdeal.main_arg21)
      ∧ m' ((c.tc : Thread Cert.AdamRestRefIdeal.nD Cert.AdamRestRefIdeal.τ).loc Cert.AdamRestRefIdeal.main_arg22) = m ((c.tc : Thread Cert.AdamRestIdeal.nD Cert.AdamRestIdeal.τ).loc Cert.AdamRestIdeal.main_arg22)
      ∧ m' ((c.tc : Thread Cert.AdamRestRefIdeal.nD Cert.AdamRestRefIdeal.τ).loc Cert.AdamRestRefIdeal.main_arg23) = m ((c.tc : Thread Cert.AdamRestIdeal.nD Cert.AdamRestIdeal.τ).loc Cert.AdamRestIdeal.main_arg23)
      ∧ m' ((c.tc : Thread Cert.AdamRestRefIdeal.nD Cert.AdamRestRefIdeal.τ).loc Cert.AdamRestRefIdeal.main_arg24) = m ((c.tc : Thread Cert.AdamRestIdeal.nD Cert.AdamRestIdeal.τ).loc Cert.AdamRestIdeal.main_arg24)
      ∧ m' ((c.tc : Thread Cert.AdamRestRefIdeal.nD Cert.AdamRestRefIdeal.τ).loc Cert.AdamRestRefIdeal.main_arg25) = m ((c.tc : Thread Cert.AdamRestIdeal.nD Cert.AdamRestIdeal.τ).loc Cert.AdamRestIdeal.main_arg25)
      ∧ m' ((c.tc : Thread Cert.AdamRestRefIdeal.nD Cert.AdamRestRefIdeal.τ).loc Cert.AdamRestRefIdeal.main_arg26) = m ((c.tc : Thread Cert.AdamRestIdeal.nD Cert.AdamRestIdeal.τ).loc Cert.AdamRestIdeal.main_arg26)
      ∧ m' ((c.tc : Thread Cert.AdamRestRefIdeal.nD Cert.AdamRestRefIdeal.τ).loc Cert.AdamRestRefIdeal.main_arg27) = m ((c.tc : Thread Cert.AdamRestIdeal.nD Cert.AdamRestIdeal.τ).loc Cert.AdamRestIdeal.main_arg27)
      ∧ m' ((c.tc : Thread Cert.AdamRestRefIdeal.nD Cert.AdamRestRefIdeal.τ).loc Cert.AdamRestRefIdeal.main_arg28) = m ((c.tc : Thread Cert.AdamRestIdeal.nD Cert.AdamRestIdeal.τ).loc Cert.AdamRestIdeal.main_arg28)
      ∧ m' ((c.tc : Thread Cert.AdamRestRefIdeal.nD Cert.AdamRestRefIdeal.τ).loc Cert.AdamRestRefIdeal.main_arg29) = m ((c.tc : Thread Cert.AdamRestIdeal.nD Cert.AdamRestIdeal.τ).loc Cert.AdamRestIdeal.main_arg29)
      ∧ m' ((c.tc : Thread Cert.AdamRestRefIdeal.nD Cert.AdamRestRefIdeal.τ).loc Cert.AdamRestRefIdeal.main_arg30) = m ((c.tc : Thread Cert.AdamRestIdeal.nD Cert.AdamRestIdeal.τ).loc Cert.AdamRestIdeal.main_arg30)
      ∧ m' ((c.tc : Thread Cert.AdamRestRefIdeal.nD Cert.AdamRestRefIdeal.τ).loc Cert.AdamRestRefIdeal.main_arg31) = m ((c.tc : Thread Cert.AdamRestIdeal.nD Cert.AdamRestIdeal.τ).loc Cert.AdamRestIdeal.main_arg31)) →
    ∃ (v0 : (c : Dev Cert.AdamRestIdeal.nD) → Buf (Elt Ideal) ((c.tc : Thread Cert.AdamRestIdeal.nD Cert.AdamRestIdeal.τ).loc Cert.AdamRestIdeal.main_v0_0)) (v1 : (c : Dev Cert.AdamRestIdeal.nD) → Buf (Elt Ideal) ((c.tc : Thread Cert.AdamRestIdeal.nD Cert.AdamRestIdeal.τ).loc Cert.AdamRestIdeal.main_v0_1)) (v2 : (c : Dev Cert.AdamRestIdeal.nD) → Buf (Elt Ideal) ((c.tc : Thread Cert.AdamRestIdeal.nD Cert.AdamRestIdeal.τ).loc Cert.AdamRestIdeal.main_v0_2)) (v3 : (c : Dev Cert.AdamRestIdeal.nD) → Buf (Elt Ideal) ((c.tc : Thread Cert.AdamRestIdeal.nD Cert.AdamRestIdeal.τ).loc Cert.AdamRestIdeal.main_v0_3)) (v4 : (c : Dev Cert.AdamRestIdeal.nD) → Buf (Elt Ideal) ((c.tc : Thread Cert.AdamRestIdeal.nD Cert.AdamRestIdeal.τ).loc Cert.AdamRestIdeal.main_v0_4)) (v5 : (c : Dev Cert.AdamRestIdeal.nD) → Buf (Elt Ideal) ((c.tc : Thread Cert.AdamRestIdeal.nD Cert.AdamRestIdeal.τ).loc Cert.AdamRestIdeal.main_v0_5)) (v6 : (c : Dev Cert.AdamRestIdeal.nD) → Buf (Elt Ideal) ((c.tc : Thread Cert.AdamRestIdeal.nD Cert.AdamRestIdeal.τ).loc Cert.AdamRestIdeal.main_v0_6)) (v7 : (c : Dev Cert.AdamRestIdeal.nD) → Buf (Elt Ideal) ((c.tc : Thread Cert.AdamRestIdeal.nD Cert.AdamRestIdeal.τ).loc Cert.AdamRestIdeal.main_v0_7)) (v8 : (c : Dev Cert.AdamRestIdeal.nD) → Buf (Elt Ideal) ((c.tc : Thread Cert.AdamRestIdeal.nD Cert.AdamRestIdeal.τ).loc Cert.AdamRestIdeal.main_v0_8)) (v9 : (c : Dev Cert.AdamRestIdeal.nD) → Buf (Elt Ideal) ((c.tc : Thread Cert.AdamRestIdeal.nD Cert.AdamRestIdeal.τ).loc Cert.AdamRestIdeal.main_v0_9)) (v10 : (c : Dev Cert.AdamRestIdeal.nD) → Buf (Elt Ideal) ((c.tc : Thread Cert.AdamRestIdeal.nD Cert.AdamRestIdeal.τ).loc Cert.AdamRestIdeal.main_v0_10)) (v11 : (c : Dev Cert.AdamRestIdeal.nD) → Buf (Elt Ideal) ((c.tc : Thread Cert.AdamRestIdeal.nD Cert.AdamRestIdeal.τ).loc Cert.AdamRestIdeal.main_v0_11)) (v12 : (c : Dev Cert.AdamRestIdeal.nD) → Buf (Elt Ideal) ((c.tc : Thread Cert.AdamRestIdeal.nD Cert.AdamRestIdeal.τ).loc Cert.AdamRestIdeal.main_v0_12)) (v13 : (c : Dev Cert.AdamRestIdeal.nD) → Buf (Elt Ideal) ((c.tc : Thread Cert.AdamRestIdeal.nD Cert.AdamRestIdeal.τ).loc Cert.AdamRestIdeal.main_v0_13)) (v14 : (c : Dev Cert.AdamRestIdeal.nD) → Buf (Elt Ideal) ((c.tc : Thread Cert.AdamRestIdeal.nD Cert.AdamRestIdeal.τ).loc Cert.AdamRestIdeal.main_v0_14)) (v15 : (c : Dev Cert.AdamRestIdeal.nD) → Buf (Elt Ideal) ((c.tc : Thread Cert.AdamRestIdeal.nD Cert.AdamRestIdeal.τ).loc Cert.AdamRestIdeal.main_v0_15)) (v16 : (c : Dev Cert.AdamRestIdeal.nD) → Buf (Elt Ideal) ((c.tc : Thread Cert.AdamRestIdeal.nD Cert.AdamRestIdeal.τ).loc Cert.AdamRestIdeal.main_v0_16)) (v17 : (c : Dev Cert.AdamRestIdeal.nD) → Buf (Elt Ideal) ((c.tc : Thread Cert.AdamRestIdeal.nD Cert.AdamRestIdeal.τ).loc Cert.AdamRestIdeal.main_v0_17)) (v18 : (c : Dev Cert.AdamRestIdeal.nD) → Buf (Elt Ideal) ((c.tc : Thread Cert.AdamRestIdeal.nD Cert.AdamRestIdeal.τ).loc Cert.AdamRestIdeal.main_v0_18)) (v19 : (c : Dev Cert.AdamRestIdeal.nD) → Buf (Elt Ideal) ((c.tc : Thread Cert.AdamRestIdeal.nD Cert.AdamRestIdeal.τ).loc Cert.AdamRestIdeal.main_v0_19)) (v20 : (c : Dev Cert.AdamRestIdeal.nD) → Buf (Elt Ideal) ((c.tc : Thread Cert.AdamRestIdeal.nD Cert.AdamRestIdeal.τ).loc Cert.AdamRestIdeal.main_v0_20)) (v21 : (c : Dev Cert.AdamRestIdeal.nD) → Buf (Elt Ideal) ((c.tc : Thread Cert.AdamRestIdeal.nD Cert.AdamRestIdeal.τ).loc Cert.AdamRestIdeal.main_v0_21)) (v22 : (c : Dev Cert.AdamRestIdeal.nD) → Buf (Elt Ideal) ((c.tc : Thread Cert.AdamRestIdeal.nD Cert.AdamRestIdeal.τ).loc Cert.AdamRestIdeal.main_v0_22)) (v23 : (c : Dev Cert.AdamRestIdeal.nD) → Buf (Elt Ideal) ((c.tc : Thread Cert.AdamRestIdeal.nD Cert.AdamRestIdeal.τ).loc Cert.AdamRestIdeal.main_v0_23)),
      θ_run (Cert.AdamRestIdeal.defs (F := Ideal)) (onTc (τ := Cert.AdamRestIdeal.τ) (Cert.AdamRestIdeal.main (F := Ideal))) ⟨m, fun _ => 0, g⟩ (fun r => ∀ c : Dev Cert.AdamRestIdeal.nD,
          r.2.mem ((c.tc : Thread Cert.AdamRestIdeal.nD Cert.AdamRestIdeal.τ).loc Cert.AdamRestIdeal.main_v0_0) = v0 c
          ∧ r.2.mem ((c.tc : Thread Cert.AdamRestIdeal.nD Cert.AdamRestIdeal.τ).loc Cert.AdamRestIdeal.main_v0_1) = v1 c
          ∧ r.2.mem ((c.tc : Thread Cert.AdamRestIdeal.nD Cert.AdamRestIdeal.τ).loc Cert.AdamRestIdeal.main_v0_2) = v2 c
          ∧ r.2.mem ((c.tc : Thread Cert.AdamRestIdeal.nD Cert.AdamRestIdeal.τ).loc Cert.AdamRestIdeal.main_v0_3) = v3 c
          ∧ r.2.mem ((c.tc : Thread Cert.AdamRestIdeal.nD Cert.AdamRestIdeal.τ).loc Cert.AdamRestIdeal.main_v0_4) = v4 c
          ∧ r.2.mem ((c.tc : Thread Cert.AdamRestIdeal.nD Cert.AdamRestIdeal.τ).loc Cert.AdamRestIdeal.main_v0_5) = v5 c
          ∧ r.2.mem ((c.tc : Thread Cert.AdamRestIdeal.nD Cert.AdamRestIdeal.τ).loc Cert.AdamRestIdeal.main_v0_6) = v6 c
          ∧ r.2.mem ((c.tc : Thread Cert.AdamRestIdeal.nD Cert.AdamRestIdeal.τ).loc Cert.AdamRestIdeal.main_v0_7) = v7 c
          ∧ r.2.mem ((c.tc : Thread Cert.AdamRestIdeal.nD Cert.AdamRestIdeal.τ).loc Cert.AdamRestIdeal.main_v0_8) = v8 c
          ∧ r.2.mem ((c.tc : Thread Cert.AdamRestIdeal.nD Cert.AdamRestIdeal.τ).loc Cert.AdamRestIdeal.main_v0_9) = v9 c
          ∧ r.2.mem ((c.tc : Thread Cert.AdamRestIdeal.nD Cert.AdamRestIdeal.τ).loc Cert.AdamRestIdeal.main_v0_10) = v10 c
          ∧ r.2.mem ((c.tc : Thread Cert.AdamRestIdeal.nD Cert.AdamRestIdeal.τ).loc Cert.AdamRestIdeal.main_v0_11) = v11 c
          ∧ r.2.mem ((c.tc : Thread Cert.AdamRestIdeal.nD Cert.AdamRestIdeal.τ).loc Cert.AdamRestIdeal.main_v0_12) = v12 c
          ∧ r.2.mem ((c.tc : Thread Cert.AdamRestIdeal.nD Cert.AdamRestIdeal.τ).loc Cert.AdamRestIdeal.main_v0_13) = v13 c
          ∧ r.2.mem ((c.tc : Thread Cert.AdamRestIdeal.nD Cert.AdamRestIdeal.τ).loc Cert.AdamRestIdeal.main_v0_14) = v14 c
          ∧ r.2.mem ((c.tc : Thread Cert.AdamRestIdeal.nD Cert.AdamRestIdeal.τ).loc Cert.AdamRestIdeal.main_v0_15) = v15 c
          ∧ r.2.mem ((c.tc : Thread Cert.AdamRestIdeal.nD Cert.AdamRestIdeal.τ).loc Cert.AdamRestIdeal.main_v0_16) = v16 c
          ∧ r.2.mem ((c.tc : Thread Cert.AdamRestIdeal.nD Cert.AdamRestIdeal.τ).loc Cert.AdamRestIdeal.main_v0_17) = v17 c
          ∧ r.2.mem ((c.tc : Thread Cert.AdamRestIdeal.nD Cert.AdamRestIdeal.τ).loc Cert.AdamRestIdeal.main_v0_18) = v18 c
          ∧ r.2.mem ((c.tc : Thread Cert.AdamRestIdeal.nD Cert.AdamRestIdeal.τ).loc Cert.AdamRestIdeal.main_v0_19) = v19 c
          ∧ r.2.mem ((c.tc : Thread Cert.AdamRestIdeal.nD Cert.AdamRestIdeal.τ).loc Cert.AdamRestIdeal.main_v0_20) = v20 c
          ∧ r.2.mem ((c.tc : Thread Cert.AdamRestIdeal.nD Cert.AdamRestIdeal.τ).loc Cert.AdamRestIdeal.main_v0_21) = v21 c
          ∧ r.2.mem ((c.tc : Thread Cert.AdamRestIdeal.nD Cert.AdamRestIdeal.τ).loc Cert.AdamRestIdeal.main_v0_22) = v22 c
          ∧ r.2.mem ((c.tc : Thread Cert.AdamRestIdeal.nD Cert.AdamRestIdeal.τ).loc Cert.AdamRestIdeal.main_v0_23) = v23 c
          ∧ r.2.mem ((c.tc : Thread Cert.AdamRestIdeal.nD Cert.AdamRestIdeal.τ).loc Cert.AdamRestIdeal.main_arg0) = m ((c.tc : Thread Cert.AdamRestIdeal.nD Cert.AdamRestIdeal.τ).loc Cert.AdamRestIdeal.main_arg0)
          ∧ r.2.mem ((c.tc : Thread Cert.AdamRestIdeal.nD Cert.AdamRestIdeal.τ).loc Cert.AdamRestIdeal.main_arg1) = m ((c.tc : Thread Cert.AdamRestIdeal.nD Cert.AdamRestIdeal.τ).loc Cert.AdamRestIdeal.main_arg1)
          ∧ r.2.mem ((c.tc : Thread Cert.AdamRestIdeal.nD Cert.AdamRestIdeal.τ).loc Cert.AdamRestIdeal.main_arg2) = m ((c.tc : Thread Cert.AdamRestIdeal.nD Cert.AdamRestIdeal.τ).loc Cert.AdamRestIdeal.main_arg2)
          ∧ r.2.mem ((c.tc : Thread Cert.AdamRestIdeal.nD Cert.AdamRestIdeal.τ).loc Cert.AdamRestIdeal.main_arg3) = m ((c.tc : Thread Cert.AdamRestIdeal.nD Cert.AdamRestIdeal.τ).loc Cert.AdamRestIdeal.main_arg3)
          ∧ r.2.mem ((c.tc : Thread Cert.AdamRestIdeal.nD Cert.AdamRestIdeal.τ).loc Cert.AdamRestIdeal.main_arg4) = m ((c.tc : Thread Cert.AdamRestIdeal.nD Cert.AdamRestIdeal.τ).loc Cert.AdamRestIdeal.main_arg4)
          ∧ r.2.mem ((c.tc : Thread Cert.AdamRestIdeal.nD Cert.AdamRestIdeal.τ).loc Cert.AdamRestIdeal.main_arg5) = m ((c.tc : Thread Cert.AdamRestIdeal.nD Cert.AdamRestIdeal.τ).loc Cert.AdamRestIdeal.main_arg5)
          ∧ r.2.mem ((c.tc : Thread Cert.AdamRestIdeal.nD Cert.AdamRestIdeal.τ).loc Cert.AdamRestIdeal.main_arg6) = m ((c.tc : Thread Cert.AdamRestIdeal.nD Cert.AdamRestIdeal.τ).loc Cert.AdamRestIdeal.main_arg6)
          ∧ r.2.mem ((c.tc : Thread Cert.AdamRestIdeal.nD Cert.AdamRestIdeal.τ).loc Cert.AdamRestIdeal.main_arg7) = m ((c.tc : Thread Cert.AdamRestIdeal.nD Cert.AdamRestIdeal.τ).loc Cert.AdamRestIdeal.main_arg7)
          ∧ r.2.mem ((c.tc : Thread Cert.AdamRestIdeal.nD Cert.AdamRestIdeal.τ).loc Cert.AdamRestIdeal.main_arg8) = m ((c.tc : Thread Cert.AdamRestIdeal.nD Cert.AdamRestIdeal.τ).loc Cert.AdamRestIdeal.main_arg8)
          ∧ r.2.mem ((c.tc : Thread Cert.AdamRestIdeal.nD Cert.AdamRestIdeal.τ).loc Cert.AdamRestIdeal.main_arg9) = m ((c.tc : Thread Cert.AdamRestIdeal.nD Cert.AdamRestIdeal.τ).loc Cert.AdamRestIdeal.main_arg9)
          ∧ r.2.mem ((c.tc : Thread Cert.AdamRestIdeal.nD Cert.AdamRestIdeal.τ).loc Cert.AdamRestIdeal.main_arg10) = m ((c.tc : Thread Cert.AdamRestIdeal.nD Cert.AdamRestIdeal.τ).loc Cert.AdamRestIdeal.main_arg10)
          ∧ r.2.mem ((c.tc : Thread Cert.AdamRestIdeal.nD Cert.AdamRestIdeal.τ).loc Cert.AdamRestIdeal.main_arg11) = m ((c.tc : Thread Cert.AdamRestIdeal.nD Cert.AdamRestIdeal.τ).loc Cert.AdamRestIdeal.main_arg11)
          ∧ r.2.mem ((c.tc : Thread Cert.AdamRestIdeal.nD Cert.AdamRestIdeal.τ).loc Cert.AdamRestIdeal.main_arg12) = m ((c.tc : Thread Cert.AdamRestIdeal.nD Cert.AdamRestIdeal.τ).loc Cert.AdamRestIdeal.main_arg12)
          ∧ r.2.mem ((c.tc : Thread Cert.AdamRestIdeal.nD Cert.AdamRestIdeal.τ).loc Cert.AdamRestIdeal.main_arg13) = m ((c.tc : Thread Cert.AdamRestIdeal.nD Cert.AdamRestIdeal.τ).loc Cert.AdamRestIdeal.main_arg13)
          ∧ r.2.mem ((c.tc : Thread Cert.AdamRestIdeal.nD Cert.AdamRestIdeal.τ).loc Cert.AdamRestIdeal.main_arg14) = m ((c.tc : Thread Cert.AdamRestIdeal.nD Cert.AdamRestIdeal.τ).loc Cert.AdamRestIdeal.main_arg14)
          ∧ r.2.mem ((c.tc : Thread Cert.AdamRestIdeal.nD Cert.AdamRestIdeal.τ).loc Cert.AdamRestIdeal.main_arg15) = m ((c.tc : Thread Cert.AdamRestIdeal.nD Cert.AdamRestIdeal.τ).loc Cert.AdamRestIdeal.main_arg15)
          ∧ r.2.mem ((c.tc : Thread Cert.AdamRestIdeal.nD Cert.AdamRestIdeal.τ).loc Cert.AdamRestIdeal.main_arg16) = m ((c.tc : Thread Cert.AdamRestIdeal.nD Cert.AdamRestIdeal.τ).loc Cert.AdamRestIdeal.main_arg16)
          ∧ r.2.mem ((c.tc : Thread Cert.AdamRestIdeal.nD Cert.AdamRestIdeal.τ).loc Cert.AdamRestIdeal.main_arg17) = m ((c.tc : Thread Cert.AdamRestIdeal.nD Cert.AdamRestIdeal.τ).loc Cert.AdamRestIdeal.main_arg17)
          ∧ r.2.mem ((c.tc : Thread Cert.AdamRestIdeal.nD Cert.AdamRestIdeal.τ).loc Cert.AdamRestIdeal.main_arg18) = m ((c.tc : Thread Cert.AdamRestIdeal.nD Cert.AdamRestIdeal.τ).loc Cert.AdamRestIdeal.main_arg18)
          ∧ r.2.mem ((c.tc : Thread Cert.AdamRestIdeal.nD Cert.AdamRestIdeal.τ).loc Cert.AdamRestIdeal.main_arg19) = m ((c.tc : Thread Cert.AdamRestIdeal.nD Cert.AdamRestIdeal.τ).loc Cert.AdamRestIdeal.main_arg19)
          ∧ r.2.mem ((c.tc : Thread Cert.AdamRestIdeal.nD Cert.AdamRestIdeal.τ).loc Cert.AdamRestIdeal.main_arg20) = m ((c.tc : Thread Cert.AdamRestIdeal.nD Cert.AdamRestIdeal.τ).loc Cert.AdamRestIdeal.main_arg20)
          ∧ r.2.mem ((c.tc : Thread Cert.AdamRestIdeal.nD Cert.AdamRestIdeal.τ).loc Cert.AdamRestIdeal.main_arg21) = m ((c.tc : Thread Cert.AdamRestIdeal.nD Cert.AdamRestIdeal.τ).loc Cert.AdamRestIdeal.main_arg21)
          ∧ r.2.mem ((c.tc : Thread Cert.AdamRestIdeal.nD Cert.AdamRestIdeal.τ).loc Cert.AdamRestIdeal.main_arg22) = m ((c.tc : Thread Cert.AdamRestIdeal.nD Cert.AdamRestIdeal.τ).loc Cert.AdamRestIdeal.main_arg22)
          ∧ r.2.mem ((c.tc : Thread Cert.AdamRestIdeal.nD Cert.AdamRestIdeal.τ).loc Cert.AdamRestIdeal.main_arg23) = m ((c.tc : Thread Cert.AdamRestIdeal.nD Cert.AdamRestIdeal.τ).loc Cert.AdamRestIdeal.main_arg23)
          ∧ r.2.mem ((c.tc : Thread Cert.AdamRestIdeal.nD Cert.AdamRestIdeal.τ).loc Cert.AdamRestIdeal.main_arg24) = m ((c.tc : Thread Cert.AdamRestIdeal.nD Cert.AdamRestIdeal.τ).loc Cert.AdamRestIdeal.main_arg24)
          ∧ r.2.mem ((c.tc : Thread Cert.AdamRestIdeal.nD Cert.AdamRestIdeal.τ).loc Cert.AdamRestIdeal.main_arg25) = m ((c.tc : Thread Cert.AdamRestIdeal.nD Cert.AdamRestIdeal.τ).loc Cert.AdamRestIdeal.main_arg25)
          ∧ r.2.mem ((c.tc : Thread Cert.AdamRestIdeal.nD Cert.AdamRestIdeal.τ).loc Cert.AdamRestIdeal.main_arg26) = m ((c.tc : Thread Cert.AdamRestIdeal.nD Cert.AdamRestIdeal.τ).loc Cert.AdamRestIdeal.main_arg26)
          ∧ r.2.mem ((c.tc : Thread Cert.AdamRestIdeal.nD Cert.AdamRestIdeal.τ).loc Cert.AdamRestIdeal.main_arg27) = m ((c.tc : Thread Cert.AdamRestIdeal.nD Cert.AdamRestIdeal.τ).loc Cert.AdamRestIdeal.main_arg27)
          ∧ r.2.mem ((c.tc : Thread Cert.AdamRestIdeal.nD Cert.AdamRestIdeal.τ).loc Cert.AdamRestIdeal.main_arg28) = m ((c.tc : Thread Cert.AdamRestIdeal.nD Cert.AdamRestIdeal.τ).loc Cert.AdamRestIdeal.main_arg28)
          ∧ r.2.mem ((c.tc : Thread Cert.AdamRestIdeal.nD Cert.AdamRestIdeal.τ).loc Cert.AdamRestIdeal.main_arg29) = m ((c.tc : Thread Cert.AdamRestIdeal.nD Cert.AdamRestIdeal.τ).loc Cert.AdamRestIdeal.main_arg29)
          ∧ r.2.mem ((c.tc : Thread Cert.AdamRestIdeal.nD Cert.AdamRestIdeal.τ).loc Cert.AdamRestIdeal.main_arg30) = m ((c.tc : Thread Cert.AdamRestIdeal.nD Cert.AdamRestIdeal.τ).loc Cert.AdamRestIdeal.main_arg30)
          ∧ r.2.mem ((c.tc : Thread Cert.AdamRestIdeal.nD Cert.AdamRestIdeal.τ).loc Cert.AdamRestIdeal.main_arg31) = m ((c.tc : Thread Cert.AdamRestIdeal.nD Cert.AdamRestIdeal.τ).loc Cert.AdamRestIdeal.main_arg31))
      ∧ θ_run (Cert.AdamRestRefIdeal.defs (F := Ideal)) (onTc (τ := Cert.AdamRestRefIdeal.τ) (Cert.AdamRestRefIdeal.main (F := Ideal))) ⟨m', fun _ => 0, g'⟩ (fun r => ∀ c : Dev Cert.AdamRestRefIdeal.nD,
          r.2.mem ((c.tc : Thread Cert.AdamRestRefIdeal.nD Cert.AdamRestRefIdeal.τ).loc Cert.AdamRestRefIdeal.main_v23) = v0 c
          ∧ r.2.mem ((c.tc : Thread Cert.AdamRestRefIdeal.nD Cert.AdamRestRefIdeal.τ).loc Cert.AdamRestRefIdeal.main_v4) = v1 c
          ∧ r.2.mem ((c.tc : Thread Cert.AdamRestRefIdeal.nD Cert.AdamRestRefIdeal.τ).loc Cert.AdamRestRefIdeal.main_v10) = v2 c
          ∧ r.2.mem ((c.tc : Thread Cert.AdamRestRefIdeal.nD Cert.AdamRestRefIdeal.τ).loc Cert.AdamRestRefIdeal.main_v47) = v3 c
          ∧ r.2.mem ((c.tc : Thread Cert.AdamRestRefIdeal.nD Cert.AdamRestRefIdeal.τ).loc Cert.AdamRestRefIdeal.main_v28) = v4 c
          ∧ r.2.mem ((c.tc : Thread Cert.AdamRestRefIdeal.nD Cert.AdamRestRefIdeal.τ).loc Cert.AdamRestRefIdeal.main_v34) = v5 c
          ∧ r.2.mem ((c.tc : Thread Cert.AdamRestRefIdeal.nD Cert.AdamRestRefIdeal.τ).loc Cert.AdamRestRefIdeal.main_v71) = v6 c
          ∧ r.2.mem ((c.tc : Thread Cert.AdamRestRefIdeal.nD Cert.AdamRestRefIdeal.τ).loc Cert.AdamRestRefIdeal.main_v52) = v7 c
          ∧ r.2.mem ((c.tc : Thread Cert.AdamRestRefIdeal.nD Cert.AdamRestRefIdeal.τ).loc Cert.AdamRestRefIdeal.main_v58) = v8 c
          ∧ r.2.mem ((c.tc : Thread Cert.AdamRestRefIdeal.nD Cert.AdamRestRefIdeal.τ).loc Cert.AdamRestRefIdeal.main_v95) = v9 c
          ∧ r.2.mem ((c.tc : Thread Cert.AdamRestRefIdeal.nD Cert.AdamRestRefIdeal.τ).loc Cert.AdamRestRefIdeal.main_v76) = v10 c
          ∧ r.2.mem ((c.tc : Thread Cert.AdamRestRefIdeal.nD Cert.AdamRestRefIdeal.τ).loc Cert.AdamRestRefIdeal.main_v82) = v11 c
          ∧ r.2.mem ((c.tc : Thread Cert.AdamRestRefIdeal.nD Cert.AdamRestRefIdeal.τ).loc Cert.AdamRestRefIdeal.main_v119) = v12 c
          ∧ r.2.mem ((c.tc : Thread Cert.AdamRestRefIdeal.nD Cert.AdamRestRefIdeal.τ).loc Cert.AdamRestRefIdeal.main_v100) = v13 c
          ∧ r.2.mem ((c.tc : Thread Cert.AdamRestRefIdeal.nD Cert.AdamRestRefIdeal.τ).loc Cert.AdamRestRefIdeal.main_v106) = v14 c
          ∧ r.2.mem ((c.tc : Thread Cert.AdamRestRefIdeal.nD Cert.AdamRestRefIdeal.τ).loc Cert.AdamRestRefIdeal.main_v143) = v15 c
          ∧ r.2.mem ((c.tc : Thread Cert.AdamRestRefIdeal.nD Cert.AdamRestRefIdeal.τ).loc Cert.AdamRestRefIdeal.main_v124) = v16 c
          ∧ r.2.mem ((c.tc : Thread Cert.AdamRestRefIdeal.nD Cert.AdamRestRefIdeal.τ).loc Cert.AdamRestRefIdeal.main_v130) = v17 c
          ∧ r.2.mem ((c.tc : Thread Cert.AdamRestRefIdeal.nD Cert.AdamRestRefIdeal.τ).loc Cert.AdamRestRefIdeal.main_v167) = v18 c
          ∧ r.2.mem ((c.tc : Thread Cert.AdamRestRefIdeal.nD Cert.AdamRestRefIdeal.τ).loc Cert.AdamRestRefIdeal.main_v148) = v19 c
          ∧ r.2.mem ((c.tc : Thread Cert.AdamRestRefIdeal.nD Cert.AdamRestRefIdeal.τ).loc Cert.AdamRestRefIdeal.main_v154) = v20 c
          ∧ r.2.mem ((c.tc : Thread Cert.AdamRestRefIdeal.nD Cert.AdamRestRefIdeal.τ).loc Cert.AdamRestRefIdeal.main_v191) = v21 c
          ∧ r.2.mem ((c.tc : Thread Cert.AdamRestRefIdeal.nD Cert.AdamRestRefIdeal.τ).loc Cert.AdamRestRefIdeal.main_v172) = v22 c
          ∧ r.2.mem ((c.tc : Thread Cert.AdamRestRefIdeal.nD Cert.AdamRestRefIdeal.τ).loc Cert.AdamRestRefIdeal.main_v178) = v23 c
          ∧ r.2.mem ((c.tc : Thread Cert.AdamRestRefIdeal.nD Cert.AdamRestRefIdeal.τ).loc Cert.AdamRestRefIdeal.main_arg0) = m' ((c.tc : Thread Cert.AdamRestRefIdeal.nD Cert.AdamRestRefIdeal.τ).loc Cert.AdamRestRefIdeal.main_arg0)
          ∧ r.2.mem ((c.tc : Thread Cert.AdamRestRefIdeal.nD Cert.AdamRestRefIdeal.τ).loc Cert.AdamRestRefIdeal.main_arg1) = m' ((c.tc : Thread Cert.AdamRestRefIdeal.nD Cert.AdamRestRefIdeal.τ).loc Cert.AdamRestRefIdeal.main_arg1)
          ∧ r.2.mem ((c.tc : Thread Cert.AdamRestRefIdeal.nD Cert.AdamRestRefIdeal.τ).loc Cert.AdamRestRefIdeal.main_arg2) = m' ((c.tc : Thread Cert.AdamRestRefIdeal.nD Cert.AdamRestRefIdeal.τ).loc Cert.AdamRestRefIdeal.main_arg2)
          ∧ r.2.mem ((c.tc : Thread Cert.AdamRestRefIdeal.nD Cert.AdamRestRefIdeal.τ).loc Cert.AdamRestRefIdeal.main_arg3) = m' ((c.tc : Thread Cert.AdamRestRefIdeal.nD Cert.AdamRestRefIdeal.τ).loc Cert.AdamRestRefIdeal.main_arg3)
          ∧ r.2.mem ((c.tc : Thread Cert.AdamRestRefIdeal.nD Cert.AdamRestRefIdeal.τ).loc Cert.AdamRestRefIdeal.main_arg4) = m' ((c.tc : Thread Cert.AdamRestRefIdeal.nD Cert.AdamRestRefIdeal.τ).loc Cert.AdamRestRefIdeal.main_arg4)
          ∧ r.2.mem ((c.tc : Thread Cert.AdamRestRefIdeal.nD Cert.AdamRestRefIdeal.τ).loc Cert.AdamRestRefIdeal.main_arg5) = m' ((c.tc : Thread Cert.AdamRestRefIdeal.nD Cert.AdamRestRefIdeal.τ).loc Cert.AdamRestRefIdeal.main_arg5)
          ∧ r.2.mem ((c.tc : Thread Cert.AdamRestRefIdeal.nD Cert.AdamRestRefIdeal.τ).loc Cert.AdamRestRefIdeal.main_arg6) = m' ((c.tc : Thread Cert.AdamRestRefIdeal.nD Cert.AdamRestRefIdeal.τ).loc Cert.AdamRestRefIdeal.main_arg6)
          ∧ r.2.mem ((c.tc : Thread Cert.AdamRestRefIdeal.nD Cert.AdamRestRefIdeal.τ).loc Cert.AdamRestRefIdeal.main_arg7) = m' ((c.tc : Thread Cert.AdamRestRefIdeal.nD Cert.AdamRestRefIdeal.τ).loc Cert.AdamRestRefIdeal.main_arg7)
          ∧ r.2.mem ((c.tc : Thread Cert.AdamRestRefIdeal.nD Cert.AdamRestRefIdeal.τ).loc Cert.AdamRestRefIdeal.main_arg8) = m' ((c.tc : Thread Cert.AdamRestRefIdeal.nD Cert.AdamRestRefIdeal.τ).loc Cert.AdamRestRefIdeal.main_arg8)
          ∧ r.2.mem ((c.tc : Thread Cert.AdamRestRefIdeal.nD Cert.AdamRestRefIdeal.τ).loc Cert.AdamRestRefIdeal.main_arg9) = m' ((c.tc : Thread Cert.AdamRestRefIdeal.nD Cert.AdamRestRefIdeal.τ).loc Cert.AdamRestRefIdeal.main_arg9)
          ∧ r.2.mem ((c.tc : Thread Cert.AdamRestRefIdeal.nD Cert.AdamRestRefIdeal.τ).loc Cert.AdamRestRefIdeal.main_arg10) = m' ((c.tc : Thread Cert.AdamRestRefIdeal.nD Cert.AdamRestRefIdeal.τ).loc Cert.AdamRestRefIdeal.main_arg10)
          ∧ r.2.mem ((c.tc : Thread Cert.AdamRestRefIdeal.nD Cert.AdamRestRefIdeal.τ).loc Cert.AdamRestRefIdeal.main_arg11) = m' ((c.tc : Thread Cert.AdamRestRefIdeal.nD Cert.AdamRestRefIdeal.τ).loc Cert.AdamRestRefIdeal.main_arg11)
          ∧ r.2.mem ((c.tc : Thread Cert.AdamRestRefIdeal.nD Cert.AdamRestRefIdeal.τ).loc Cert.AdamRestRefIdeal.main_arg12) = m' ((c.tc : Thread Cert.AdamRestRefIdeal.nD Cert.AdamRestRefIdeal.τ).loc Cert.AdamRestRefIdeal.main_arg12)
          ∧ r.2.mem ((c.tc : Thread Cert.AdamRestRefIdeal.nD Cert.AdamRestRefIdeal.τ).loc Cert.AdamRestRefIdeal.main_arg13) = m' ((c.tc : Thread Cert.AdamRestRefIdeal.nD Cert.AdamRestRefIdeal.τ).loc Cert.AdamRestRefIdeal.main_arg13)
          ∧ r.2.mem ((c.tc : Thread Cert.AdamRestRefIdeal.nD Cert.AdamRestRefIdeal.τ).loc Cert.AdamRestRefIdeal.main_arg14) = m' ((c.tc : Thread Cert.AdamRestRefIdeal.nD Cert.AdamRestRefIdeal.τ).loc Cert.AdamRestRefIdeal.main_arg14)
          ∧ r.2.mem ((c.tc : Thread Cert.AdamRestRefIdeal.nD Cert.AdamRestRefIdeal.τ).loc Cert.AdamRestRefIdeal.main_arg15) = m' ((c.tc : Thread Cert.AdamRestRefIdeal.nD Cert.AdamRestRefIdeal.τ).loc Cert.AdamRestRefIdeal.main_arg15)
          ∧ r.2.mem ((c.tc : Thread Cert.AdamRestRefIdeal.nD Cert.AdamRestRefIdeal.τ).loc Cert.AdamRestRefIdeal.main_arg16) = m' ((c.tc : Thread Cert.AdamRestRefIdeal.nD Cert.AdamRestRefIdeal.τ).loc Cert.AdamRestRefIdeal.main_arg16)
          ∧ r.2.mem ((c.tc : Thread Cert.AdamRestRefIdeal.nD Cert.AdamRestRefIdeal.τ).loc Cert.AdamRestRefIdeal.main_arg17) = m' ((c.tc : Thread Cert.AdamRestRefIdeal.nD Cert.AdamRestRefIdeal.τ).loc Cert.AdamRestRefIdeal.main_arg17)
          ∧ r.2.mem ((c.tc : Thread Cert.AdamRestRefIdeal.nD Cert.AdamRestRefIdeal.τ).loc Cert.AdamRestRefIdeal.main_arg18) = m' ((c.tc : Thread Cert.AdamRestRefIdeal.nD Cert.AdamRestRefIdeal.τ).loc Cert.AdamRestRefIdeal.main_arg18)
          ∧ r.2.mem ((c.tc : Thread Cert.AdamRestRefIdeal.nD Cert.AdamRestRefIdeal.τ).loc Cert.AdamRestRefIdeal.main_arg19) = m' ((c.tc : Thread Cert.AdamRestRefIdeal.nD Cert.AdamRestRefIdeal.τ).loc Cert.AdamRestRefIdeal.main_arg19)
          ∧ r.2.mem ((c.tc : Thread Cert.AdamRestRefIdeal.nD Cert.AdamRestRefIdeal.τ).loc Cert.AdamRestRefIdeal.main_arg20) = m' ((c.tc : Thread Cert.AdamRestRefIdeal.nD Cert.AdamRestRefIdeal.τ).loc Cert.AdamRestRefIdeal.main_arg20)
          ∧ r.2.mem ((c.tc : Thread Cert.AdamRestRefIdeal.nD Cert.AdamRestRefIdeal.τ).loc Cert.AdamRestRefIdeal.main_arg21) = m' ((c.tc : Thread Cert.AdamRestRefIdeal.nD Cert.AdamRestRefIdeal.τ).loc Cert.AdamRestRefIdeal.main_arg21)
          ∧ r.2.mem ((c.tc : Thread Cert.AdamRestRefIdeal.nD Cert.AdamRestRefIdeal.τ).loc Cert.AdamRestRefIdeal.main_arg22) = m' ((c.tc : Thread Cert.AdamRestRefIdeal.nD Cert.AdamRestRefIdeal.τ).loc Cert.AdamRestRefIdeal.main_arg22)
          ∧ r.2.mem ((c.tc : Thread Cert.AdamRestRefIdeal.nD Cert.AdamRestRefIdeal.τ).loc Cert.AdamRestRefIdeal.main_arg23) = m' ((c.tc : Thread Cert.AdamRestRefIdeal.nD Cert.AdamRestRefIdeal.τ).loc Cert.AdamRestRefIdeal.main_arg23)
          ∧ r.2.mem ((c.tc : Thread Cert.AdamRestRefIdeal.nD Cert.AdamRestRefIdeal.τ).loc Cert.AdamRestRefIdeal.main_arg24) = m' ((c.tc : Thread Cert.AdamRestRefIdeal.nD Cert.AdamRestRefIdeal.τ).loc Cert.AdamRestRefIdeal.main_arg24)
          ∧ r.2.mem ((c.tc : Thread Cert.AdamRestRefIdeal.nD Cert.AdamRestRefIdeal.τ).loc Cert.AdamRestRefIdeal.main_arg25) = m' ((c.tc : Thread Cert.AdamRestRefIdeal.nD Cert.AdamRestRefIdeal.τ).loc Cert.AdamRestRefIdeal.main_arg25)
          ∧ r.2.mem ((c.tc : Thread Cert.AdamRestRefIdeal.nD Cert.AdamRestRefIdeal.τ).loc Cert.AdamRestRefIdeal.main_arg26) = m' ((c.tc : Thread Cert.AdamRestRefIdeal.nD Cert.AdamRestRefIdeal.τ).loc Cert.AdamRestRefIdeal.main_arg26)
          ∧ r.2.mem ((c.tc : Thread Cert.AdamRestRefIdeal.nD Cert.AdamRestRefIdeal.τ).loc Cert.AdamRestRefIdeal.main_arg27) = m' ((c.tc : Thread Cert.AdamRestRefIdeal.nD Cert.AdamRestRefIdeal.τ).loc Cert.AdamRestRefIdeal.main_arg27)
          ∧ r.2.mem ((c.tc : Thread Cert.AdamRestRefIdeal.nD Cert.AdamRestRefIdeal.τ).loc Cert.AdamRestRefIdeal.main_arg28) = m' ((c.tc : Thread Cert.AdamRestRefIdeal.nD Cert.AdamRestRefIdeal.τ).loc Cert.AdamRestRefIdeal.main_arg28)
          ∧ r.2.mem ((c.tc : Thread Cert.AdamRestRefIdeal.nD Cert.AdamRestRefIdeal.τ).loc Cert.AdamRestRefIdeal.main_arg29) = m' ((c.tc : Thread Cert.AdamRestRefIdeal.nD Cert.AdamRestRefIdeal.τ).loc Cert.AdamRestRefIdeal.main_arg29)
          ∧ r.2.mem ((c.tc : Thread Cert.AdamRestRefIdeal.nD Cert.AdamRestRefIdeal.τ).loc Cert.AdamRestRefIdeal.main_arg30) = m' ((c.tc : Thread Cert.AdamRestRefIdeal.nD Cert.AdamRestRefIdeal.τ).loc Cert.AdamRestRefIdeal.main_arg30)
          ∧ r.2.mem ((c.tc : Thread Cert.AdamRestRefIdeal.nD Cert.AdamRestRefIdeal.τ).loc Cert.AdamRestRefIdeal.main_arg31) = m' ((c.tc : Thread Cert.AdamRestRefIdeal.nD Cert.AdamRestRefIdeal.τ).loc Cert.AdamRestRefIdeal.main_arg31))

def preserves_FinalSums_FinalSumsIdeal : Prop :=
  True

def algebraic_FinalSumsIdeal_FinalSumsRefIdeal [hFinalSumsIdeal : Cert.FinalSumsIdeal.Facts] [hFinalSumsRefIdeal : Cert.FinalSumsRefIdeal.Facts] : Prop :=
  ∀ (m : (ℓ : Loc Cert.FinalSumsIdeal.nD Cert.FinalSumsIdeal.τ Cert.FinalSumsIdeal.sig) → Buf (Elt Ideal) ℓ) (g : Dev Cert.FinalSumsIdeal.nD → PrngReg)
    (m' : (ℓ : Loc Cert.FinalSumsRefIdeal.nD Cert.FinalSumsRefIdeal.τ Cert.FinalSumsRefIdeal.sig) → Buf (Elt Ideal) ℓ) (g' : Dev Cert.FinalSumsRefIdeal.nD → PrngReg), Pre_FinalSumsIdeal m →
    (∀ c : Dev Cert.FinalSumsIdeal.nD,
      m' ((c.tc : Thread Cert.FinalSumsRefIdeal.nD Cert.FinalSumsRefIdeal.τ).loc Cert.FinalSumsRefIdeal.main_arg0) = m ((c.tc : Thread Cert.FinalSumsIdeal.nD Cert.FinalSumsIdeal.τ).loc Cert.FinalSumsIdeal.main_arg0)
      ∧ m' ((c.tc : Thread Cert.FinalSumsRefIdeal.nD Cert.FinalSumsRefIdeal.τ).loc Cert.FinalSumsRefIdeal.main_arg1) = m ((c.tc : Thread Cert.FinalSumsIdeal.nD Cert.FinalSumsIdeal.τ).loc Cert.FinalSumsIdeal.main_arg1)
      ∧ m' ((c.tc : Thread Cert.FinalSumsRefIdeal.nD Cert.FinalSumsRefIdeal.τ).loc Cert.FinalSumsRefIdeal.main_arg2) = m ((c.tc : Thread Cert.FinalSumsIdeal.nD Cert.FinalSumsIdeal.τ).loc Cert.FinalSumsIdeal.main_arg2)
      ∧ m' ((c.tc : Thread Cert.FinalSumsRefIdeal.nD Cert.FinalSumsRefIdeal.τ).loc Cert.FinalSumsRefIdeal.main_arg3) = m ((c.tc : Thread Cert.FinalSumsIdeal.nD Cert.FinalSumsIdeal.τ).loc Cert.FinalSumsIdeal.main_arg3)
      ∧ m' ((c.tc : Thread Cert.FinalSumsRefIdeal.nD Cert.FinalSumsRefIdeal.τ).loc Cert.FinalSumsRefIdeal.main_arg4) = m ((c.tc : Thread Cert.FinalSumsIdeal.nD Cert.FinalSumsIdeal.τ).loc Cert.FinalSumsIdeal.main_arg4)
      ∧ m' ((c.tc : Thread Cert.FinalSumsRefIdeal.nD Cert.FinalSumsRefIdeal.τ).loc Cert.FinalSumsRefIdeal.main_arg5) = m ((c.tc : Thread Cert.FinalSumsIdeal.nD Cert.FinalSumsIdeal.τ).loc Cert.FinalSumsIdeal.main_arg5)) →
    ∃ (v0 : (c : Dev Cert.FinalSumsIdeal.nD) → Buf (Elt Ideal) ((c.tc : Thread Cert.FinalSumsIdeal.nD Cert.FinalSumsIdeal.τ).loc Cert.FinalSumsIdeal.main_v0_0)) (v1 : (c : Dev Cert.FinalSumsIdeal.nD) → Buf (Elt Ideal) ((c.tc : Thread Cert.FinalSumsIdeal.nD Cert.FinalSumsIdeal.τ).loc Cert.FinalSumsIdeal.main_v0_1)) (v2 : (c : Dev Cert.FinalSumsIdeal.nD) → Buf (Elt Ideal) ((c.tc : Thread Cert.FinalSumsIdeal.nD Cert.FinalSumsIdeal.τ).loc Cert.FinalSumsIdeal.main_v0_2)),
      θ_run (Cert.FinalSumsIdeal.defs (F := Ideal)) (onTc (τ := Cert.FinalSumsIdeal.τ) (Cert.FinalSumsIdeal.main (F := Ideal))) ⟨m, fun _ => 0, g⟩ (fun r => ∀ c : Dev Cert.FinalSumsIdeal.nD,
          r.2.mem ((c.tc : Thread Cert.FinalSumsIdeal.nD Cert.FinalSumsIdeal.τ).loc Cert.FinalSumsIdeal.main_v0_0) = v0 c
          ∧ r.2.mem ((c.tc : Thread Cert.FinalSumsIdeal.nD Cert.FinalSumsIdeal.τ).loc Cert.FinalSumsIdeal.main_v0_1) = v1 c
          ∧ r.2.mem ((c.tc : Thread Cert.FinalSumsIdeal.nD Cert.FinalSumsIdeal.τ).loc Cert.FinalSumsIdeal.main_v0_2) = v2 c
          ∧ r.2.mem ((c.tc : Thread Cert.FinalSumsIdeal.nD Cert.FinalSumsIdeal.τ).loc Cert.FinalSumsIdeal.main_arg0) = m ((c.tc : Thread Cert.FinalSumsIdeal.nD Cert.FinalSumsIdeal.τ).loc Cert.FinalSumsIdeal.main_arg0)
          ∧ r.2.mem ((c.tc : Thread Cert.FinalSumsIdeal.nD Cert.FinalSumsIdeal.τ).loc Cert.FinalSumsIdeal.main_arg1) = m ((c.tc : Thread Cert.FinalSumsIdeal.nD Cert.FinalSumsIdeal.τ).loc Cert.FinalSumsIdeal.main_arg1)
          ∧ r.2.mem ((c.tc : Thread Cert.FinalSumsIdeal.nD Cert.FinalSumsIdeal.τ).loc Cert.FinalSumsIdeal.main_arg2) = m ((c.tc : Thread Cert.FinalSumsIdeal.nD Cert.FinalSumsIdeal.τ).loc Cert.FinalSumsIdeal.main_arg2)
          ∧ r.2.mem ((c.tc : Thread Cert.FinalSumsIdeal.nD Cert.FinalSumsIdeal.τ).loc Cert.FinalSumsIdeal.main_arg3) = m ((c.tc : Thread Cert.FinalSumsIdeal.nD Cert.FinalSumsIdeal.τ).loc Cert.FinalSumsIdeal.main_arg3)
          ∧ r.2.mem ((c.tc : Thread Cert.FinalSumsIdeal.nD Cert.FinalSumsIdeal.τ).loc Cert.FinalSumsIdeal.main_arg4) = m ((c.tc : Thread Cert.FinalSumsIdeal.nD Cert.FinalSumsIdeal.τ).loc Cert.FinalSumsIdeal.main_arg4)
          ∧ r.2.mem ((c.tc : Thread Cert.FinalSumsIdeal.nD Cert.FinalSumsIdeal.τ).loc Cert.FinalSumsIdeal.main_arg5) = m ((c.tc : Thread Cert.FinalSumsIdeal.nD Cert.FinalSumsIdeal.τ).loc Cert.FinalSumsIdeal.main_arg5))
      ∧ θ_run (Cert.FinalSumsRefIdeal.defs (F := Ideal)) (onTc (τ := Cert.FinalSumsRefIdeal.τ) (Cert.FinalSumsRefIdeal.main (F := Ideal))) ⟨m', fun _ => 0, g'⟩ (fun r => ∀ c : Dev Cert.FinalSumsRefIdeal.nD,
          r.2.mem ((c.tc : Thread Cert.FinalSumsRefIdeal.nD Cert.FinalSumsRefIdeal.τ).loc Cert.FinalSumsRefIdeal.main_v2) = v0 c
          ∧ r.2.mem ((c.tc : Thread Cert.FinalSumsRefIdeal.nD Cert.FinalSumsRefIdeal.τ).loc Cert.FinalSumsRefIdeal.main_v5) = v1 c
          ∧ r.2.mem ((c.tc : Thread Cert.FinalSumsRefIdeal.nD Cert.FinalSumsRefIdeal.τ).loc Cert.FinalSumsRefIdeal.main_v8) = v2 c
          ∧ r.2.mem ((c.tc : Thread Cert.FinalSumsRefIdeal.nD Cert.FinalSumsRefIdeal.τ).loc Cert.FinalSumsRefIdeal.main_arg0) = m' ((c.tc : Thread Cert.FinalSumsRefIdeal.nD Cert.FinalSumsRefIdeal.τ).loc Cert.FinalSumsRefIdeal.main_arg0)
          ∧ r.2.mem ((c.tc : Thread Cert.FinalSumsRefIdeal.nD Cert.FinalSumsRefIdeal.τ).loc Cert.FinalSumsRefIdeal.main_arg1) = m' ((c.tc : Thread Cert.FinalSumsRefIdeal.nD Cert.FinalSumsRefIdeal.τ).loc Cert.FinalSumsRefIdeal.main_arg1)
          ∧ r.2.mem ((c.tc : Thread Cert.FinalSumsRefIdeal.nD Cert.FinalSumsRefIdeal.τ).loc Cert.FinalSumsRefIdeal.main_arg2) = m' ((c.tc : Thread Cert.FinalSumsRefIdeal.nD Cert.FinalSumsRefIdeal.τ).loc Cert.FinalSumsRefIdeal.main_arg2)
          ∧ r.2.mem ((c.tc : Thread Cert.FinalSumsRefIdeal.nD Cert.FinalSumsRefIdeal.τ).loc Cert.FinalSumsRefIdeal.main_arg3) = m' ((c.tc : Thread Cert.FinalSumsRefIdeal.nD Cert.FinalSumsRefIdeal.τ).loc Cert.FinalSumsRefIdeal.main_arg3)
          ∧ r.2.mem ((c.tc : Thread Cert.FinalSumsRefIdeal.nD Cert.FinalSumsRefIdeal.τ).loc Cert.FinalSumsRefIdeal.main_arg4) = m' ((c.tc : Thread Cert.FinalSumsRefIdeal.nD Cert.FinalSumsRefIdeal.τ).loc Cert.FinalSumsRefIdeal.main_arg4)
          ∧ r.2.mem ((c.tc : Thread Cert.FinalSumsRefIdeal.nD Cert.FinalSumsRefIdeal.τ).loc Cert.FinalSumsRefIdeal.main_arg5) = m' ((c.tc : Thread Cert.FinalSumsRefIdeal.nD Cert.FinalSumsRefIdeal.τ).loc Cert.FinalSumsRefIdeal.main_arg5))

def preserves_PairSums_PairSumsIdeal : Prop :=
  True

def algebraic_PairSumsIdeal_PairSumsRefIdeal [hPairSumsIdeal : Cert.PairSumsIdeal.Facts] [hPairSumsRefIdeal : Cert.PairSumsRefIdeal.Facts] [hPre_in_mesh : Cert.Pre_in_mesh.Facts] : Prop :=
  ∀ (m : (ℓ : Loc Cert.PairSumsIdeal.nD Cert.PairSumsIdeal.τ Cert.PairSumsIdeal.sig) → Buf (Elt Ideal) ℓ) (g : Dev Cert.PairSumsIdeal.nD → PrngReg)
    (m' : (ℓ : Loc Cert.PairSumsRefIdeal.nD Cert.PairSumsRefIdeal.τ Cert.PairSumsRefIdeal.sig) → Buf (Elt Ideal) ℓ) (g' : Dev Cert.PairSumsRefIdeal.nD → PrngReg), Pre_PairSumsIdeal m →
    (∀ c : Dev Cert.PairSumsIdeal.nD,
      m' ((c.tc : Thread Cert.PairSumsRefIdeal.nD Cert.PairSumsRefIdeal.τ).loc Cert.PairSumsRefIdeal.main_arg0) = m ((c.tc : Thread Cert.PairSumsIdeal.nD Cert.PairSumsIdeal.τ).loc Cert.PairSumsIdeal.main_arg0)
      ∧ m' ((c.tc : Thread Cert.PairSumsRefIdeal.nD Cert.PairSumsRefIdeal.τ).loc Cert.PairSumsRefIdeal.main_arg1) = m ((c.tc : Thread Cert.PairSumsIdeal.nD Cert.PairSumsIdeal.τ).loc Cert.PairSumsIdeal.main_arg1)
      ∧ m' ((c.tc : Thread Cert.PairSumsRefIdeal.nD Cert.PairSumsRefIdeal.τ).loc Cert.PairSumsRefIdeal.main_arg2) = m ((c.tc : Thread Cert.PairSumsIdeal.nD Cert.PairSumsIdeal.τ).loc Cert.PairSumsIdeal.main_arg2)) →
    ∃ (v0 : (c : Dev Cert.PairSumsIdeal.nD) → Buf (Elt Ideal) ((c.tc : Thread Cert.PairSumsIdeal.nD Cert.PairSumsIdeal.τ).loc Cert.PairSumsIdeal.main_v0_0)) (v1 : (c : Dev Cert.PairSumsIdeal.nD) → Buf (Elt Ideal) ((c.tc : Thread Cert.PairSumsIdeal.nD Cert.PairSumsIdeal.τ).loc Cert.PairSumsIdeal.main_v0_1)),
      θ_run (Cert.PairSumsIdeal.defs (F := Ideal)) (onTc (τ := Cert.PairSumsIdeal.τ) (Cert.PairSumsIdeal.main (F := Ideal))) ⟨m, fun _ => 0, g⟩ (fun r => ∀ c : Dev Cert.PairSumsIdeal.nD,
          r.2.mem ((c.tc : Thread Cert.PairSumsIdeal.nD Cert.PairSumsIdeal.τ).loc Cert.PairSumsIdeal.main_v0_0) = v0 c
          ∧ r.2.mem ((c.tc : Thread Cert.PairSumsIdeal.nD Cert.PairSumsIdeal.τ).loc Cert.PairSumsIdeal.main_v0_1) = v1 c
          ∧ r.2.mem ((c.tc : Thread Cert.PairSumsIdeal.nD Cert.PairSumsIdeal.τ).loc Cert.PairSumsIdeal.main_arg0) = m ((c.tc : Thread Cert.PairSumsIdeal.nD Cert.PairSumsIdeal.τ).loc Cert.PairSumsIdeal.main_arg0)
          ∧ r.2.mem ((c.tc : Thread Cert.PairSumsIdeal.nD Cert.PairSumsIdeal.τ).loc Cert.PairSumsIdeal.main_arg1) = m ((c.tc : Thread Cert.PairSumsIdeal.nD Cert.PairSumsIdeal.τ).loc Cert.PairSumsIdeal.main_arg1)
          ∧ r.2.mem ((c.tc : Thread Cert.PairSumsIdeal.nD Cert.PairSumsIdeal.τ).loc Cert.PairSumsIdeal.main_arg2) = m ((c.tc : Thread Cert.PairSumsIdeal.nD Cert.PairSumsIdeal.τ).loc Cert.PairSumsIdeal.main_arg2))
      ∧ θ_run (Cert.PairSumsRefIdeal.defs (F := Ideal)) (onTc (τ := Cert.PairSumsRefIdeal.τ) (Cert.PairSumsRefIdeal.main (F := Ideal))) ⟨m', fun _ => 0, g'⟩ (fun r => ∀ c : Dev Cert.PairSumsRefIdeal.nD,
          r.2.mem ((c.tc : Thread Cert.PairSumsRefIdeal.nD Cert.PairSumsRefIdeal.τ).loc Cert.PairSumsRefIdeal.main_v10) = v0 c
          ∧ r.2.mem ((c.tc : Thread Cert.PairSumsRefIdeal.nD Cert.PairSumsRefIdeal.τ).loc Cert.PairSumsRefIdeal.main_v12) = v1 c
          ∧ r.2.mem ((c.tc : Thread Cert.PairSumsRefIdeal.nD Cert.PairSumsRefIdeal.τ).loc Cert.PairSumsRefIdeal.main_arg0) = m' ((c.tc : Thread Cert.PairSumsRefIdeal.nD Cert.PairSumsRefIdeal.τ).loc Cert.PairSumsRefIdeal.main_arg0)
          ∧ r.2.mem ((c.tc : Thread Cert.PairSumsRefIdeal.nD Cert.PairSumsRefIdeal.τ).loc Cert.PairSumsRefIdeal.main_arg1) = m' ((c.tc : Thread Cert.PairSumsRefIdeal.nD Cert.PairSumsRefIdeal.τ).loc Cert.PairSumsRefIdeal.main_arg1)
          ∧ r.2.mem ((c.tc : Thread Cert.PairSumsRefIdeal.nD Cert.PairSumsRefIdeal.τ).loc Cert.PairSumsRefIdeal.main_arg2) = m' ((c.tc : Thread Cert.PairSumsRefIdeal.nD Cert.PairSumsRefIdeal.τ).loc Cert.PairSumsRefIdeal.main_arg2))

def preserves_PairRest_PairRestIdeal : Prop :=
  True

def algebraic_PairRestIdeal_PairRestRefIdeal [hPairRestIdeal : Cert.PairRestIdeal.Facts] [hPairRestRefIdeal : Cert.PairRestRefIdeal.Facts] [hPre_in_mesh_rest : Cert.Pre_in_mesh_rest.Facts] : Prop :=
  ∀ (m : (ℓ : Loc Cert.PairRestIdeal.nD Cert.PairRestIdeal.τ Cert.PairRestIdeal.sig) → Buf (Elt Ideal) ℓ) (g : Dev Cert.PairRestIdeal.nD → PrngReg)
    (m' : (ℓ : Loc Cert.PairRestRefIdeal.nD Cert.PairRestRefIdeal.τ Cert.PairRestRefIdeal.sig) → Buf (Elt Ideal) ℓ) (g' : Dev Cert.PairRestRefIdeal.nD → PrngReg), Pre_PairRestIdeal m →
    (∀ c : Dev Cert.PairRestIdeal.nD,
      m' ((c.tc : Thread Cert.PairRestRefIdeal.nD Cert.PairRestRefIdeal.τ).loc Cert.PairRestRefIdeal.main_arg0) = m ((c.tc : Thread Cert.PairRestIdeal.nD Cert.PairRestIdeal.τ).loc Cert.PairRestIdeal.main_arg0)
      ∧ m' ((c.tc : Thread Cert.PairRestRefIdeal.nD Cert.PairRestRefIdeal.τ).loc Cert.PairRestRefIdeal.main_arg1) = m ((c.tc : Thread Cert.PairRestIdeal.nD Cert.PairRestIdeal.τ).loc Cert.PairRestIdeal.main_arg1)
      ∧ m' ((c.tc : Thread Cert.PairRestRefIdeal.nD Cert.PairRestRefIdeal.τ).loc Cert.PairRestRefIdeal.main_arg2) = m ((c.tc : Thread Cert.PairRestIdeal.nD Cert.PairRestIdeal.τ).loc Cert.PairRestIdeal.main_arg2)
      ∧ m' ((c.tc : Thread Cert.PairRestRefIdeal.nD Cert.PairRestRefIdeal.τ).loc Cert.PairRestRefIdeal.main_arg3) = m ((c.tc : Thread Cert.PairRestIdeal.nD Cert.PairRestIdeal.τ).loc Cert.PairRestIdeal.main_arg3)
      ∧ m' ((c.tc : Thread Cert.PairRestRefIdeal.nD Cert.PairRestRefIdeal.τ).loc Cert.PairRestRefIdeal.main_arg4) = m ((c.tc : Thread Cert.PairRestIdeal.nD Cert.PairRestIdeal.τ).loc Cert.PairRestIdeal.main_arg4)
      ∧ m' ((c.tc : Thread Cert.PairRestRefIdeal.nD Cert.PairRestRefIdeal.τ).loc Cert.PairRestRefIdeal.main_arg5) = m ((c.tc : Thread Cert.PairRestIdeal.nD Cert.PairRestIdeal.τ).loc Cert.PairRestIdeal.main_arg5)
      ∧ m' ((c.tc : Thread Cert.PairRestRefIdeal.nD Cert.PairRestRefIdeal.τ).loc Cert.PairRestRefIdeal.main_arg6) = m ((c.tc : Thread Cert.PairRestIdeal.nD Cert.PairRestIdeal.τ).loc Cert.PairRestIdeal.main_arg6)) →
    ∃ (v0 : (c : Dev Cert.PairRestIdeal.nD) → Buf (Elt Ideal) ((c.tc : Thread Cert.PairRestIdeal.nD Cert.PairRestIdeal.τ).loc Cert.PairRestIdeal.main_v0_0)) (v1 : (c : Dev Cert.PairRestIdeal.nD) → Buf (Elt Ideal) ((c.tc : Thread Cert.PairRestIdeal.nD Cert.PairRestIdeal.τ).loc Cert.PairRestIdeal.main_v0_1)) (v2 : (c : Dev Cert.PairRestIdeal.nD) → Buf (Elt Ideal) ((c.tc : Thread Cert.PairRestIdeal.nD Cert.PairRestIdeal.τ).loc Cert.PairRestIdeal.main_v0_2)) (v3 : (c : Dev Cert.PairRestIdeal.nD) → Buf (Elt Ideal) ((c.tc : Thread Cert.PairRestIdeal.nD Cert.PairRestIdeal.τ).loc Cert.PairRestIdeal.main_v0_3)) (v4 : (c : Dev Cert.PairRestIdeal.nD) → Buf (Elt Ideal) ((c.tc : Thread Cert.PairRestIdeal.nD Cert.PairRestIdeal.τ).loc Cert.PairRestIdeal.main_v0_4)) (v5 : (c : Dev Cert.PairRestIdeal.nD) → Buf (Elt Ideal) ((c.tc : Thread Cert.PairRestIdeal.nD Cert.PairRestIdeal.τ).loc Cert.PairRestIdeal.main_v0_5)),
      θ_run (Cert.PairRestIdeal.defs (F := Ideal)) (onTc (τ := Cert.PairRestIdeal.τ) (Cert.PairRestIdeal.main (F := Ideal))) ⟨m, fun _ => 0, g⟩ (fun r => ∀ c : Dev Cert.PairRestIdeal.nD,
          r.2.mem ((c.tc : Thread Cert.PairRestIdeal.nD Cert.PairRestIdeal.τ).loc Cert.PairRestIdeal.main_v0_0) = v0 c
          ∧ r.2.mem ((c.tc : Thread Cert.PairRestIdeal.nD Cert.PairRestIdeal.τ).loc Cert.PairRestIdeal.main_v0_1) = v1 c
          ∧ r.2.mem ((c.tc : Thread Cert.PairRestIdeal.nD Cert.PairRestIdeal.τ).loc Cert.PairRestIdeal.main_v0_2) = v2 c
          ∧ r.2.mem ((c.tc : Thread Cert.PairRestIdeal.nD Cert.PairRestIdeal.τ).loc Cert.PairRestIdeal.main_v0_3) = v3 c
          ∧ r.2.mem ((c.tc : Thread Cert.PairRestIdeal.nD Cert.PairRestIdeal.τ).loc Cert.PairRestIdeal.main_v0_4) = v4 c
          ∧ r.2.mem ((c.tc : Thread Cert.PairRestIdeal.nD Cert.PairRestIdeal.τ).loc Cert.PairRestIdeal.main_v0_5) = v5 c
          ∧ r.2.mem ((c.tc : Thread Cert.PairRestIdeal.nD Cert.PairRestIdeal.τ).loc Cert.PairRestIdeal.main_arg0) = m ((c.tc : Thread Cert.PairRestIdeal.nD Cert.PairRestIdeal.τ).loc Cert.PairRestIdeal.main_arg0)
          ∧ r.2.mem ((c.tc : Thread Cert.PairRestIdeal.nD Cert.PairRestIdeal.τ).loc Cert.PairRestIdeal.main_arg1) = m ((c.tc : Thread Cert.PairRestIdeal.nD Cert.PairRestIdeal.τ).loc Cert.PairRestIdeal.main_arg1)
          ∧ r.2.mem ((c.tc : Thread Cert.PairRestIdeal.nD Cert.PairRestIdeal.τ).loc Cert.PairRestIdeal.main_arg2) = m ((c.tc : Thread Cert.PairRestIdeal.nD Cert.PairRestIdeal.τ).loc Cert.PairRestIdeal.main_arg2)
          ∧ r.2.mem ((c.tc : Thread Cert.PairRestIdeal.nD Cert.PairRestIdeal.τ).loc Cert.PairRestIdeal.main_arg3) = m ((c.tc : Thread Cert.PairRestIdeal.nD Cert.PairRestIdeal.τ).loc Cert.PairRestIdeal.main_arg3)
          ∧ r.2.mem ((c.tc : Thread Cert.PairRestIdeal.nD Cert.PairRestIdeal.τ).loc Cert.PairRestIdeal.main_arg4) = m ((c.tc : Thread Cert.PairRestIdeal.nD Cert.PairRestIdeal.τ).loc Cert.PairRestIdeal.main_arg4)
          ∧ r.2.mem ((c.tc : Thread Cert.PairRestIdeal.nD Cert.PairRestIdeal.τ).loc Cert.PairRestIdeal.main_arg5) = m ((c.tc : Thread Cert.PairRestIdeal.nD Cert.PairRestIdeal.τ).loc Cert.PairRestIdeal.main_arg5)
          ∧ r.2.mem ((c.tc : Thread Cert.PairRestIdeal.nD Cert.PairRestIdeal.τ).loc Cert.PairRestIdeal.main_arg6) = m ((c.tc : Thread Cert.PairRestIdeal.nD Cert.PairRestIdeal.τ).loc Cert.PairRestIdeal.main_arg6))
      ∧ θ_run (Cert.PairRestRefIdeal.defs (F := Ideal)) (onTc (τ := Cert.PairRestRefIdeal.τ) (Cert.PairRestRefIdeal.main (F := Ideal))) ⟨m', fun _ => 0, g'⟩ (fun r => ∀ c : Dev Cert.PairRestRefIdeal.nD,
          r.2.mem ((c.tc : Thread Cert.PairRestRefIdeal.nD Cert.PairRestRefIdeal.τ).loc Cert.PairRestRefIdeal.main_v28) = v0 c
          ∧ r.2.mem ((c.tc : Thread Cert.PairRestRefIdeal.nD Cert.PairRestRefIdeal.τ).loc Cert.PairRestRefIdeal.main_v30) = v1 c
          ∧ r.2.mem ((c.tc : Thread Cert.PairRestRefIdeal.nD Cert.PairRestRefIdeal.τ).loc Cert.PairRestRefIdeal.main_v32) = v2 c
          ∧ r.2.mem ((c.tc : Thread Cert.PairRestRefIdeal.nD Cert.PairRestRefIdeal.τ).loc Cert.PairRestRefIdeal.main_v34) = v3 c
          ∧ r.2.mem ((c.tc : Thread Cert.PairRestRefIdeal.nD Cert.PairRestRefIdeal.τ).loc Cert.PairRestRefIdeal.main_v36) = v4 c
          ∧ r.2.mem ((c.tc : Thread Cert.PairRestRefIdeal.nD Cert.PairRestRefIdeal.τ).loc Cert.PairRestRefIdeal.main_v38) = v5 c
          ∧ r.2.mem ((c.tc : Thread Cert.PairRestRefIdeal.nD Cert.PairRestRefIdeal.τ).loc Cert.PairRestRefIdeal.main_arg0) = m' ((c.tc : Thread Cert.PairRestRefIdeal.nD Cert.PairRestRefIdeal.τ).loc Cert.PairRestRefIdeal.main_arg0)
          ∧ r.2.mem ((c.tc : Thread Cert.PairRestRefIdeal.nD Cert.PairRestRefIdeal.τ).loc Cert.PairRestRefIdeal.main_arg1) = m' ((c.tc : Thread Cert.PairRestRefIdeal.nD Cert.PairRestRefIdeal.τ).loc Cert.PairRestRefIdeal.main_arg1)
          ∧ r.2.mem ((c.tc : Thread Cert.PairRestRefIdeal.nD Cert.PairRestRefIdeal.τ).loc Cert.PairRestRefIdeal.main_arg2) = m' ((c.tc : Thread Cert.PairRestRefIdeal.nD Cert.PairRestRefIdeal.τ).loc Cert.PairRestRefIdeal.main_arg2)
          ∧ r.2.mem ((c.tc : Thread Cert.PairRestRefIdeal.nD Cert.PairRestRefIdeal.τ).loc Cert.PairRestRefIdeal.main_arg3) = m' ((c.tc : Thread Cert.PairRestRefIdeal.nD Cert.PairRestRefIdeal.τ).loc Cert.PairRestRefIdeal.main_arg3)
          ∧ r.2.mem ((c.tc : Thread Cert.PairRestRefIdeal.nD Cert.PairRestRefIdeal.τ).loc Cert.PairRestRefIdeal.main_arg4) = m' ((c.tc : Thread Cert.PairRestRefIdeal.nD Cert.PairRestRefIdeal.τ).loc Cert.PairRestRefIdeal.main_arg4)
          ∧ r.2.mem ((c.tc : Thread Cert.PairRestRefIdeal.nD Cert.PairRestRefIdeal.τ).loc Cert.PairRestRefIdeal.main_arg5) = m' ((c.tc : Thread Cert.PairRestRefIdeal.nD Cert.PairRestRefIdeal.τ).loc Cert.PairRestRefIdeal.main_arg5)
          ∧ r.2.mem ((c.tc : Thread Cert.PairRestRefIdeal.nD Cert.PairRestRefIdeal.τ).loc Cert.PairRestRefIdeal.main_arg6) = m' ((c.tc : Thread Cert.PairRestRefIdeal.nD Cert.PairRestRefIdeal.τ).loc Cert.PairRestRefIdeal.main_arg6))

def Claim : Prop :=
  ∃ (hGradH : Cert.GradH.Facts) (hGradHIdeal : Cert.GradHIdeal.Facts) (hGradHRefIdeal : Cert.GradHRefIdeal.Facts) (hGradWIn : Cert.GradWIn.Facts) (hGradWInIdeal : Cert.GradWInIdeal.Facts) (hGradWInRefIdeal : Cert.GradWInRefIdeal.Facts) (hGradWOut : Cert.GradWOut.Facts) (hGradWOutIdeal : Cert.GradWOutIdeal.Facts) (hGradWOutRefIdeal : Cert.GradWOutRefIdeal.Facts) (hGradWAttn : Cert.GradWAttn.Facts) (hGradWAttnIdeal : Cert.GradWAttnIdeal.Facts) (hGradWAttnRefIdeal : Cert.GradWAttnRefIdeal.Facts) (hAdamIn : Cert.AdamIn.Facts) (hAdamInIdeal : Cert.AdamInIdeal.Facts) (hAdamInRefIdeal : Cert.AdamInRefIdeal.Facts) (hAdamAttn : Cert.AdamAttn.Facts) (hAdamAttnIdeal : Cert.AdamAttnIdeal.Facts) (hAdamAttnRefIdeal : Cert.AdamAttnRefIdeal.Facts) (hAdamAda : Cert.AdamAda.Facts) (hAdamAdaIdeal : Cert.AdamAdaIdeal.Facts) (hAdamAdaRefIdeal : Cert.AdamAdaRefIdeal.Facts) (hAdamRest : Cert.AdamRest.Facts) (hAdamRestIdeal : Cert.AdamRestIdeal.Facts) (hAdamRestRefIdeal : Cert.AdamRestRefIdeal.Facts) (hFinalSums : Cert.FinalSums.Facts) (hFinalSumsIdeal : Cert.FinalSumsIdeal.Facts) (hFinalSumsRefIdeal : Cert.FinalSumsRefIdeal.Facts) (hPairSums : Cert.PairSums.Facts) (hPairSumsIdeal : Cert.PairSumsIdeal.Facts) (hPairSumsRefIdeal : Cert.PairSumsRefIdeal.Facts) (hPairRest : Cert.PairRest.Facts) (hPairRestIdeal : Cert.PairRestIdeal.Facts) (hPairRestRefIdeal : Cert.PairRestRefIdeal.Facts) (hPre_in_mesh : Cert.Pre_in_mesh.Facts) (hPre_in_mesh_rest : Cert.Pre_in_mesh_rest.Facts),
    quiescent_GradH (hGradH := hGradH)
    ∧ quiescent_GradHIdeal (hGradHIdeal := hGradHIdeal)
    ∧ quiescent_GradHRefIdeal (hGradHRefIdeal := hGradHRefIdeal)
    ∧ quiescent_GradWIn (hGradWIn := hGradWIn)
    ∧ quiescent_GradWInIdeal (hGradWInIdeal := hGradWInIdeal)
    ∧ quiescent_GradWInRefIdeal (hGradWInRefIdeal := hGradWInRefIdeal)
    ∧ quiescent_GradWOut (hGradWOut := hGradWOut)
    ∧ quiescent_GradWOutIdeal (hGradWOutIdeal := hGradWOutIdeal)
    ∧ quiescent_GradWOutRefIdeal (hGradWOutRefIdeal := hGradWOutRefIdeal)
    ∧ quiescent_GradWAttn (hGradWAttn := hGradWAttn)
    ∧ quiescent_GradWAttnIdeal (hGradWAttnIdeal := hGradWAttnIdeal)
    ∧ quiescent_GradWAttnRefIdeal (hGradWAttnRefIdeal := hGradWAttnRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamAttn (hAdamAttn := hAdamAttn)
    ∧ quiescent_AdamAttnIdeal (hAdamAttnIdeal := hAdamAttnIdeal)
    ∧ quiescent_AdamAttnRefIdeal (hAdamAttnRefIdeal := hAdamAttnRefIdeal)
    ∧ quiescent_AdamAda (hAdamAda := hAdamAda)
    ∧ quiescent_AdamAdaIdeal (hAdamAdaIdeal := hAdamAdaIdeal)
    ∧ quiescent_AdamAdaRefIdeal (hAdamAdaRefIdeal := hAdamAdaRefIdeal)
    ∧ quiescent_AdamRest (hAdamRest := hAdamRest)
    ∧ quiescent_AdamRestIdeal (hAdamRestIdeal := hAdamRestIdeal)
    ∧ quiescent_AdamRestRefIdeal (hAdamRestRefIdeal := hAdamRestRefIdeal)
    ∧ quiescent_FinalSums (hFinalSums := hFinalSums)
    ∧ quiescent_FinalSumsIdeal (hFinalSumsIdeal := hFinalSumsIdeal)
    ∧ quiescent_FinalSumsRefIdeal (hFinalSumsRefIdeal := hFinalSumsRefIdeal)
    ∧ quiescent_PairSums (hPairSums := hPairSums) (hPre_in_mesh := hPre_in_mesh)
    ∧ quiescent_PairSumsIdeal (hPairSumsIdeal := hPairSumsIdeal) (hPre_in_mesh := hPre_in_mesh)
    ∧ quiescent_PairSumsRefIdeal (hPairSumsRefIdeal := hPairSumsRefIdeal) (hPre_in_mesh := hPre_in_mesh)
    ∧ quiescent_PairRest (hPairRest := hPairRest) (hPre_in_mesh_rest := hPre_in_mesh_rest)
    ∧ quiescent_PairRestIdeal (hPairRestIdeal := hPairRestIdeal) (hPre_in_mesh_rest := hPre_in_mesh_rest)
    ∧ quiescent_PairRestRefIdeal (hPairRestRefIdeal := hPairRestRefIdeal) (hPre_in_mesh_rest := hPre_in_mesh_rest)
    ∧ preserves_GradH_GradHIdeal
    ∧ algebraic_GradHIdeal_GradHRefIdeal (hGradHIdeal := hGradHIdeal) (hGradHRefIdeal := hGradHRefIdeal)
    ∧ preserves_GradWIn_GradWInIdeal
    ∧ algebraic_GradWInIdeal_GradWInRefIdeal (hGradWInIdeal := hGradWInIdeal) (hGradWInRefIdeal := hGradWInRefIdeal)
    ∧ preserves_GradWOut_GradWOutIdeal
    ∧ algebraic_GradWOutIdeal_GradWOutRefIdeal (hGradWOutIdeal := hGradWOutIdeal) (hGradWOutRefIdeal := hGradWOutRefIdeal)
    ∧ preserves_GradWAttn_GradWAttnIdeal
    ∧ algebraic_GradWAttnIdeal_GradWAttnRefIdeal (hGradWAttnIdeal := hGradWAttnIdeal) (hGradWAttnRefIdeal := hGradWAttnRefIdeal)
    ∧ preserves_AdamIn_AdamInIdeal
    ∧ algebraic_AdamInIdeal_AdamInRefIdeal (hAdamInIdeal := hAdamInIdeal) (hAdamInRefIdeal := hAdamInRefIdeal)
    ∧ preserves_AdamAttn_AdamAttnIdeal
    ∧ algebraic_AdamAttnIdeal_AdamAttnRefIdeal (hAdamAttnIdeal := hAdamAttnIdeal) (hAdamAttnRefIdeal := hAdamAttnRefIdeal)
    ∧ preserves_AdamAda_AdamAdaIdeal
    ∧ algebraic_AdamAdaIdeal_AdamAdaRefIdeal (hAdamAdaIdeal := hAdamAdaIdeal) (hAdamAdaRefIdeal := hAdamAdaRefIdeal)
    ∧ preserves_AdamRest_AdamRestIdeal
    ∧ algebraic_AdamRestIdeal_AdamRestRefIdeal (hAdamRestIdeal := hAdamRestIdeal) (hAdamRestRefIdeal := hAdamRestRefIdeal)
    ∧ preserves_FinalSums_FinalSumsIdeal
    ∧ algebraic_FinalSumsIdeal_FinalSumsRefIdeal (hFinalSumsIdeal := hFinalSumsIdeal) (hFinalSumsRefIdeal := hFinalSumsRefIdeal)
    ∧ preserves_PairSums_PairSumsIdeal
    ∧ algebraic_PairSumsIdeal_PairSumsRefIdeal (hPairSumsIdeal := hPairSumsIdeal) (hPairSumsRefIdeal := hPairSumsRefIdeal) (hPre_in_mesh := hPre_in_mesh)
    ∧ preserves_PairRest_PairRestIdeal
    ∧ algebraic_PairRestIdeal_PairRestRefIdeal (hPairRestIdeal := hPairRestIdeal) (hPairRestRefIdeal := hPairRestRefIdeal) (hPre_in_mesh_rest := hPre_in_mesh_rest)
-- ==== Pre_in_mesh.lean ====
abbrev S4 : Shape := ⟨1, ![4]⟩
abbrev S8704x1024 : Shape := ⟨2, ![8704, 1024]⟩
abbrev S4x1088x1024 : Shape := ⟨3, ![4, 1088, 1024]⟩
abbrev S_ : Shape := ⟨0, ![]⟩

class Facts : Prop where
  bcast_S_S4 : S_.BroadcastsInDim S4 (![] : Fin 0 → Fin S4.rank)

variable [Facts]

def fn {F : FTy → Type} [FloatOps F] (main_arg0 : IVec S4 32) (main_arg1 : FVec F S8704x1024 .f32) (main_arg2 : FVec F S4x1088x1024 .f32) : IVec S4 1 :=
  let main_c : IVec S_ 32 := constantI S_ 32 0#32
  let main_v0 : IVec S4 32 := broadcastInDim S4 ![] bcast_S_S4 main_c
  let main_v1 : IVec S4 1 := cmpi .sge main_arg0 main_v0
  let main_c_0 : IVec S_ 32 := constantI S_ 32 8#32
  let main_v2 : IVec S4 32 := broadcastInDim S4 ![] bcast_S_S4 main_c_0
  let main_v3 : IVec S4 1 := cmpi .slt main_arg0 main_v2
  let main_v4 : IVec S4 1 := andi main_v1 main_v3
  main_v4
-- ==== Pre_in_mesh_rest.lean ====
abbrev S4 : Shape := ⟨1, ![4]⟩
abbrev S1024x1024 : Shape := ⟨2, ![1024, 1024]⟩
abbrev S1024x256 : Shape := ⟨2, ![1024, 256]⟩
abbrev S4x128x1024 : Shape := ⟨3, ![4, 128, 1024]⟩
abbrev S4x128x256 : Shape := ⟨3, ![4, 128, 256]⟩
abbrev S_ : Shape := ⟨0, ![]⟩

class Facts : Prop where
  bcast_S_S4 : S_.BroadcastsInDim S4 (![] : Fin 0 → Fin S4.rank)

variable [Facts]

def fn {F : FTy → Type} [FloatOps F] (main_arg0 : IVec S4 32) (main_arg1 : FVec F S1024x1024 .f32) (main_arg2 : FVec F S1024x1024 .f32) (main_arg3 : FVec F S1024x256 .f32) (main_arg4 : FVec F S4x128x1024 .f32) (main_arg5 : FVec F S4x128x1024 .f32) (main_arg6 : FVec F S4x128x256 .f32) : IVec S4 1 :=
  let main_c : IVec S_ 32 := constantI S_ 32 0#32
  let main_v0 : IVec S4 32 := broadcastInDim S4 ![] bcast_S_S4 main_c
  let main_v1 : IVec S4 1 := cmpi .sge main_arg0 main_v0
  let main_c_0 : IVec S_ 32 := constantI S_ 32 8#32
  let main_v2 : IVec S4 32 := broadcastInDim S4 ![] bcast_S_S4 main_c_0
  let main_v3 : IVec S4 1 := cmpi .slt main_arg0 main_v2
  let main_v4 : IVec S4 1 := andi main_v1 main_v3
  main_v4
-- ==== GradH.lean ====
abbrev S36x4096x256 : Shape := ⟨3, ![36, 4096, 256]⟩
abbrev S8704x1024 : Shape := ⟨2, ![8704, 1024]⟩
abbrev S4096x1024 : Shape := ⟨2, ![4096, 1024]⟩
abbrev S2x3x1024 : Shape := ⟨3, ![2, 3, 1024]⟩
abbrev S8x128 : Shape := ⟨2, ![8, 128]⟩
abbrev S2x2x8x1024 : Shape := ⟨4, ![2, 2, 8, 1024]⟩
abbrev S36x512x256 : Shape := ⟨3, ![36, 512, 256]⟩
abbrev S512x1024 : Shape := ⟨2, ![512, 1024]⟩
abbrev S1x3x1024 : Shape := ⟨3, ![1, 3, 1024]⟩
abbrev S1x2x8x1024 : Shape := ⟨4, ![1, 2, 8, 1024]⟩
abbrev S1x512x256 : Shape := ⟨3, ![1, 512, 256]⟩
abbrev S512x256 : Shape := ⟨2, ![512, 256]⟩
abbrev S256x1024 : Shape := ⟨2, ![256, 1024]⟩
abbrev S1x1x1024 : Shape := ⟨3, ![1, 1, 1024]⟩
abbrev S1x1024 : Shape := ⟨2, ![1, 1024]⟩
abbrev S1x1x8x1024 : Shape := ⟨4, ![1, 1, 8, 1024]⟩
abbrev S8x1024 : Shape := ⟨2, ![8, 1024]⟩
abbrev S64x8x1024 : Shape := ⟨3, ![64, 8, 1024]⟩

abbrev nBuf : Space → Nat
  | .hbm => 8
  | .vmem => 13
  | .smem => 0
  | _ => 0

abbrev bufTy : (tb : Table) → Fin (tcTables nBuf tb) → BufTy
  | .hbm, ⟨0, _⟩ => ⟨S36x4096x256, .bf16⟩
  | .hbm, ⟨1, _⟩ => ⟨S8704x1024, .bf16⟩
  | .hbm, ⟨2, _⟩ => ⟨S4096x1024, .f32⟩
  | .hbm, ⟨3, _⟩ => ⟨S4096x1024, .f32⟩
  | .hbm, ⟨4, _⟩ => ⟨S2x3x1024, .f32⟩
  | .hbm, ⟨5, _⟩ => ⟨S8x128, .f32⟩
  | .hbm, ⟨6, _⟩ => ⟨S4096x1024, .f32⟩
  | .hbm, ⟨7, _⟩ => ⟨S2x2x8x1024, .f32⟩
  | .local _ .vmem, ⟨0, _⟩ => ⟨S36x512x256, .bf16⟩
  | .local _ .vmem, ⟨1, _⟩ => ⟨S36x512x256, .bf16⟩
  | .local _ .vmem, ⟨2, _⟩ => ⟨S8704x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x3x1024, .f32⟩
  | .local _ .vmem, ⟨8, _⟩ => ⟨S1x3x1024, .f32⟩
  | .local _ .vmem, ⟨9, _⟩ => ⟨S512x1024, .f32⟩
  | .local _ .vmem, ⟨10, _⟩ => ⟨S512x1024, .f32⟩
  | .local _ .vmem, ⟨11, _⟩ => ⟨S1x2x8x1024, .f32⟩
  | .local _ .vmem, ⟨12, _⟩ => ⟨S1x2x8x1024, .f32⟩
  | _, _ => ⟨S36x4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![v16.toNat, c0_i32_4.toNat, c0_i32_5.toNat, c0_i32_6.toNat]

abbrev stage0_0 : Fin 2 → Memref sig .tc .vmem S36x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x3x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2x8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GradHRefIdeal.lean ====
abbrev S36x4096x256 : Shape := ⟨3, ![36, 4096, 256]⟩
abbrev S8704x1024 : Shape := ⟨2, ![8704, 1024]⟩
abbrev S4096x1024 : Shape := ⟨2, ![4096, 1024]⟩
abbrev S2x3x1024 : Shape := ⟨3, ![2, 3, 1024]⟩
abbrev S8x128 : Shape := ⟨2, ![8, 128]⟩
abbrev S2x256x8x1024 : Shape := ⟨4, ![2, 256, 8, 1024]⟩
abbrev S2x1x1024 : Shape := ⟨3, ![2, 1, 1024]⟩
abbrev S2x1x1x1024 : Shape := ⟨4, ![2, 1, 1, 1024]⟩
abbrev S2x1x8x1024 : Shape := ⟨4, ![2, 1, 8, 1024]⟩
abbrev S_ : Shape := ⟨0, ![]⟩
abbrev S1024x8704 : Shape := ⟨2, ![1024, 8704]⟩
abbrev S2x256x8x8704 : Shape := ⟨4, ![2, 256, 8, 8704]⟩
abbrev S4096x8704 : Shape := ⟨2, ![4096, 8704]⟩
abbrev S9x4096x256 : Shape := ⟨3, ![9, 4096, 256]⟩
abbrev S25x4096x256 : Shape := ⟨3, ![25, 4096, 256]⟩
abbrev S34x4096x256 : Shape := ⟨3, ![34, 4096, 256]⟩
abbrev S4096x34x256 : Shape := ⟨3, ![4096, 34, 256]⟩
abbrev S2x8x1024 : Shape := ⟨3, ![2, 8, 1024]⟩
abbrev S2x2x8x1024 : Shape := ⟨4, ![2, 2, 8, 1024]⟩

abbrev nBuf : Space → Nat
  | .hbm => 46
  | .vmem => 0
  | .smem => 0
  | _ => 0

abbrev bufTy : (tb : Table) → Fin (tcTables nBuf tb) → BufTy
  | .hbm, ⟨0, _⟩ => ⟨S36x4096x256, .bf16⟩
  | .hbm, ⟨1, _⟩ => ⟨S8704x1024, .bf16⟩
  | .hbm, ⟨2, _⟩ => ⟨S4096x1024, .f32⟩
  | .hbm, ⟨3, _⟩ => ⟨S4096x1024, .f32⟩
  | .hbm, ⟨4, _⟩ => ⟨S2x3x1024, .f32⟩
  | .hbm, ⟨5, _⟩ => ⟨S8x128, .f32⟩
  | .hbm, ⟨6, _⟩ => ⟨S2x256x8x1024, .f32⟩
  | .hbm, ⟨7, _⟩ => ⟨S2x1x1024, .f32⟩
  | .hbm, ⟨8, _⟩ => ⟨S2x1x1x1024, .f32⟩
  | .hbm, ⟨9, _⟩ => ⟨S2x1x8x1024, .f32⟩
  | .hbm, ⟨10, _⟩ => ⟨S2x1x1024, .f32⟩
  | .hbm, ⟨11, _⟩ => ⟨S2x1x1x1024, .f32⟩
  | .hbm, ⟨12, _⟩ => ⟨S2x1x8x1024, .f32⟩
  | .hbm, ⟨13, _⟩ => ⟨S_, .f32⟩
  | .hbm, ⟨14, _⟩ => ⟨S2x1x8x1024, .f32⟩
  | .hbm, ⟨15, _⟩ => ⟨S2x1x8x1024, .f32⟩
  | .hbm, ⟨16, _⟩ => ⟨S2x256x8x1024, .f32⟩
  | .hbm, ⟨17, _⟩ => ⟨S2x256x8x1024, .f32⟩
  | .hbm, ⟨18, _⟩ => ⟨S2x256x8x1024, .f32⟩
  | .hbm, ⟨19, _⟩ => ⟨S2x256x8x1024, .f32⟩
  | .hbm, ⟨20, _⟩ => ⟨S8704x1024, .f32⟩
  | .hbm, ⟨21, _⟩ => ⟨S1024x8704, .f32⟩
  | .hbm, ⟨22, _⟩ => ⟨S2x256x8x8704, .f32⟩
  | .hbm, ⟨23, _⟩ => ⟨S4096x8704, .f32⟩
  | .hbm, ⟨24, _⟩ => ⟨S4096x1024, .f32⟩
  | .hbm, ⟨25, _⟩ => ⟨S9x4096x256, .bf16⟩
  | .hbm, ⟨26, _⟩ => ⟨S25x4096x256, .bf16⟩
  | .hbm, ⟨27, _⟩ => ⟨S34x4096x256, .bf16⟩
  | .hbm, ⟨28, _⟩ => ⟨S34x4096x256, .f32⟩
  | .hbm, ⟨29, _⟩ => ⟨S4096x34x256, .f32⟩
  | .hbm, ⟨30, _⟩ => ⟨S4096x8704, .f32⟩
  | .hbm, ⟨31, _⟩ => ⟨S2x256x8x1024, .f32⟩
  | .hbm, ⟨32, _⟩ => ⟨S2x256x8x8704, .f32⟩
  | .hbm, ⟨33, _⟩ => ⟨S2x256x8x1024, .f32⟩
  | .hbm, ⟨34, _⟩ => ⟨S_, .f32⟩
  | .hbm, ⟨35, _⟩ => ⟨S2x8x1024, .f32⟩
  | .hbm, ⟨36, _⟩ => ⟨S2x1x8x1024, .f32⟩
  | .hbm, ⟨37, _⟩ => ⟨S2x256x8x1024, .f32⟩
  | .hbm, ⟨38, _⟩ => ⟨S_, .f32⟩
  | .hbm, ⟨39, _⟩ => ⟨S2x8x1024, .f32⟩
  | .hbm, ⟨40, _⟩ => ⟨S2x1x8x1024, .f32⟩
  | .hbm, ⟨41, _⟩ => ⟨S2x256x8x1024, .f32⟩
  | .hbm, ⟨42, _⟩ => ⟨S2x256x8x1024, .f32⟩
  | .hbm, ⟨43, _⟩ => ⟨S2x256x8x1024, .f32⟩
  | .hbm, ⟨44, _⟩ => ⟨S4096x1024, .f32⟩
  | .hbm, ⟨45, _⟩ => ⟨S2x2x8x1024, .f32⟩
  | _, _ => ⟨S36x4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_0 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_1 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩

abbrev nD : Nat := 1
abbrev τ : Topo := Topo.v7x

variable {F : FTy → Type} [FloatOps F]
-- ==== GradWIn.lean ====
abbrev S36x4096x256 : Shape := ⟨3, ![36, 4096, 256]⟩
abbrev S4096x1024 : Shape := ⟨2, ![4096, 1024]⟩
abbrev S8x128 : Shape := ⟨2, ![8, 128]⟩
abbrev S8704x1024 : Shape := ⟨2, ![8704, 1024]⟩
abbrev S1x4096x256 : Shape := ⟨3, ![1, 4096, 256]⟩
abbrev S256x1024 : Shape := ⟨2, ![256, 1024]⟩
abbrev S4096x256 : Shape := ⟨2, ![4096, 256]⟩

abbrev nBuf : Space → Nat
  | .hbm => 4
  | .vmem => 5
  | .smem => 0
  | _ => 0

abbrev bufTy : (tb : Table) → Fin (tcTables nBuf tb) → BufTy
  | .hbm, ⟨0, _⟩ => ⟨S36x4096x256, .bf16⟩
  | .hbm, ⟨1, _⟩ => ⟨S4096x1024, .bf16⟩
  | .hbm, ⟨2, _⟩ => ⟨S8x128, .f32⟩
  | .hbm, ⟨3, _⟩ => ⟨S8704x1024, .f32⟩
  | .local _ .vmem, ⟨0, _⟩ => ⟨S1x4096x256, .bf16⟩
  | .local _ .vmem, ⟨1, _⟩ => ⟨S1x4096x256, .bf16⟩
  | .local _ .vmem, ⟨2, _⟩ => ⟨S4096x1024, .bf16⟩
  | .local _ .vmem, ⟨3, _⟩ => ⟨S256x1024, .f32⟩
  | .local _ .vmem, ⟨4, _⟩ => ⟨S256x1024, .f32⟩
  | _, _ => ⟨S36x4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![34], ![false]⟩

def cc0_transform_0 (i : grid0.Coords) : Fin 3 → Nat :=
  let arg0 : BitVec 32 := BitVec.ofNat 32 (i 0).val
  let c25_i32 : BitVec 32 := 25#32
  let v0 : BitVec 1 := Scalar.cmpi .slt arg0 c25_i32
  let c2_i32 : BitVec 32 := 2#32
  let v1 : BitVec 32 := Scalar.addi arg0 c2_i32
  let v2 : BitVec 32 := Scalar.select v0 arg0 v1
  let c0_i32 : BitVec 32 := 0#32
  let c0_i32_0 : BitVec 32 := 0#32
  let c0_i32_1 : BitVec 32 := 0#32
  ![v2.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c9_i32 : BitVec 32 := 9#32
  let v0 : BitVec 32 := Scalar.addi arg0 c9_i32
  let c34_i32 : BitVec 32 := 34#32
  let c0_i32 : BitVec 32 := 0#32
  let v1 : BitVec 1 := Scalar.cmpi .eq c34_i32 c0_i32
  let c1_i32 : BitVec 32 := 1#32
  let v2 : BitVec 32 := Scalar.select v1 c1_i32 c34_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![v10.toNat, c0_i32_3.toNat]

abbrev stage0_0 : Fin 2 → Memref sig .tc .vmem S1x4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== GradWInRefIdeal.lean ====
abbrev S36x4096x256 : Shape := ⟨3, ![36, 4096, 256]⟩
abbrev S4096x1024 : Shape := ⟨2, ![4096, 1024]⟩
abbrev S8x128 : Shape := ⟨2, ![8, 128]⟩
abbrev S_ : Shape := ⟨0, ![]⟩
abbrev S8704x1024 : Shape := ⟨2, ![8704, 1024]⟩
abbrev S1024x8704 : Shape := ⟨2, ![1024, 8704]⟩
abbrev S4096x8704 : Shape := ⟨2, ![4096, 8704]⟩
abbrev S9x4096x256 : Shape := ⟨3, ![9, 4096, 256]⟩
abbrev S25x4096x256 : Shape := ⟨3, ![25, 4096, 256]⟩
abbrev S34x4096x256 : Shape := ⟨3, ![34, 4096, 256]⟩
abbrev S4096x34x256 : Shape := ⟨3, ![4096, 34, 256]⟩

abbrev nBuf : Space → Nat
  | .hbm => 17
  | .vmem => 0
  | .smem => 0
  | _ => 0

abbrev bufTy : (tb : Table) → Fin (tcTables nBuf tb) → BufTy
  | .hbm, ⟨0, _⟩ => ⟨S36x4096x256, .bf16⟩
  | .hbm, ⟨1, _⟩ => ⟨S4096x1024, .bf16⟩
  | .hbm, ⟨2, _⟩ => ⟨S8x128, .f32⟩
  | .hbm, ⟨3, _⟩ => ⟨S_, .f32⟩
  | .hbm, ⟨4, _⟩ => ⟨S8704x1024, .f32⟩
  | .hbm, ⟨5, _⟩ => ⟨S4096x1024, .f32⟩
  | .hbm, ⟨6, _⟩ => ⟨S1024x8704, .f32⟩
  | .hbm, ⟨7, _⟩ => ⟨S4096x8704, .f32⟩
  | .hbm, ⟨8, _⟩ => ⟨S9x4096x256, .bf16⟩
  | .hbm, ⟨9, _⟩ => ⟨S25x4096x256, .bf16⟩
  | .hbm, ⟨10, _⟩ => ⟨S34x4096x256, .bf16⟩
  | .hbm, ⟨11, _⟩ => ⟨S34x4096x256, .f32⟩
  | .hbm, ⟨12, _⟩ => ⟨S4096x34x256, .f32⟩
  | .hbm, ⟨13, _⟩ => ⟨S4096x8704, .f32⟩
  | .hbm, ⟨14, _⟩ => ⟨S8704x1024, .f32⟩
  | .hbm, ⟨15, _⟩ => ⟨S1024x8704, .f32⟩
  | .hbm, ⟨16, _⟩ => ⟨S8704x1024, .f32⟩
  | _, _ => ⟨S36x4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== GradWOut.lean ====
abbrev S4096x1024 : Shape := ⟨2, ![4096, 1024]⟩
abbrev S8x128 : Shape := ⟨2, ![8, 128]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S8x128, .f32⟩
  | .hbm, ⟨3, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v3 : BitVec 1 := Scalar.cmpi .eq arg0 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg0 : BitVec 32 := BitVec.ofNat 32 (i 0).val
  let c0_i32_4 : BitVec 32 := 0#32
  let v6 : BitVec 1 := Scalar.cmpi .sgt arg0 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== GradWOutRefIdeal.lean ====
abbrev S4096x1024 : Shape := ⟨2, ![4096, 1024]⟩
abbrev S8x128 : Shape := ⟨2, ![8, 128]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S8x128, .f32⟩
  | .hbm, ⟨3, _⟩ => ⟨S_, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S1024x1024, .f32⟩
  | .hbm, ⟨9, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== GradWAttn.lean ====
abbrev S4096x1024 : Shape := ⟨2, ![4096, 1024]⟩
abbrev S4096x256 : Shape := ⟨2, ![4096, 256]⟩
abbrev S8x128 : Shape := ⟨2, ![8, 128]⟩
abbrev S1024x256 : Shape := ⟨2, ![1024, 256]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x256, .bf16⟩
  | .hbm, ⟨2, _⟩ => ⟨S8x128, .f32⟩
  | .hbm, ⟨3, _⟩ => ⟨S1024x256, .f32⟩
  | .local _ .vmem, ⟨0, _⟩ => ⟨S1024x1024, .bf16⟩
  | .local _ .vmem, ⟨1, _⟩ => ⟨S1024x1024, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v3 : BitVec 1 := Scalar.cmpi .eq arg0 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg0 : BitVec 32 := BitVec.ofNat 32 (i 0).val
  let c0_i32_4 : BitVec 32 := 0#32
  let v6 : BitVec 1 := Scalar.cmpi .sgt arg0 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== GradWAttnRefIdeal.lean ====
abbrev S4096x1024 : Shape := ⟨2, ![4096, 1024]⟩
abbrev S4096x256 : Shape := ⟨2, ![4096, 256]⟩
abbrev S8x128 : Shape := ⟨2, ![8, 128]⟩
abbrev S_ : Shape := ⟨0, ![]⟩
abbrev S1024x256 : Shape := ⟨2, ![1024, 256]⟩
abbrev S256x1024 : Shape := ⟨2, ![256, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x256, .bf16⟩
  | .hbm, ⟨2, _⟩ => ⟨S8x128, .f32⟩
  | .hbm, ⟨3, _⟩ => ⟨S_, .f32⟩
  | .hbm, ⟨4, _⟩ => ⟨S1024x256, .f32⟩
  | .hbm, ⟨5, _⟩ => ⟨S4096x256, .f32⟩
  | .hbm, ⟨6, _⟩ => ⟨S256x1024, .f32⟩
  | .hbm, ⟨7, _⟩ => ⟨S4096x1024, .f32⟩
  | .hbm, ⟨8, _⟩ => ⟨S4096x1024, .f32⟩
  | .hbm, ⟨9, _⟩ => ⟨S1024x256, .f32⟩
  | .hbm, ⟨10, _⟩ => ⟨S256x1024, .f32⟩
  | .hbm, ⟨11, _⟩ => ⟨S1024x256, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== AdamIn.lean ====
abbrev S1088x1024 : Shape := ⟨2, ![1088, 1024]⟩
abbrev S3x1088x1024 : Shape := ⟨3, ![3, 1088, 1024]⟩
abbrev S272x1024 : Shape := ⟨2, ![272, 1024]⟩
abbrev S3x272x1024 : Shape := ⟨3, ![3, 272, 1024]⟩
abbrev S1x272x1024 : Shape := ⟨3, ![1, 272, 1024]⟩

abbrev nBuf : Space → Nat
  | .hbm => 9
  | .vmem => 18
  | .smem => 0
  | _ => 0

abbrev bufTy : (tb : Table) → Fin (tcTables nBuf tb) → BufTy
  | .hbm, ⟨0, _⟩ => ⟨S1088x1024, .f32⟩
  | .hbm, ⟨1, _⟩ => ⟨S3x1088x1024, .bf16⟩
  | .hbm, ⟨2, _⟩ => ⟨S1088x1024, .f32⟩
  | .hbm, ⟨3, _⟩ => ⟨S1088x1024, .f32⟩
  | .hbm, ⟨4, _⟩ => ⟨S1088x1024, .f32⟩
  | .hbm, ⟨5, _⟩ => ⟨S1088x1024, .f32⟩
  | .hbm, ⟨6, _⟩ => ⟨S1088x1024, .f32⟩
  | .hbm, ⟨7, _⟩ => ⟨S1088x1024, .f32⟩
  | .hbm, ⟨8, _⟩ => ⟨S1088x1024, .f32⟩
  | .local _ .vmem, ⟨0, _⟩ => ⟨S272x1024, .f32⟩
  | .local _ .vmem, ⟨1, _⟩ => ⟨S272x1024, .f32⟩
  | .local _ .vmem, ⟨2, _⟩ => ⟨S3x272x1024, .bf16⟩
  | .local _ .vmem, ⟨3, _⟩ => ⟨S3x272x1024, .bf16⟩
  | .local _ .vmem, ⟨4, _⟩ => ⟨S272x1024, .f32⟩
  | .local _ .vmem, ⟨5, _⟩ => ⟨S272x1024, .f32⟩
  | .local _ .vmem, ⟨6, _⟩ => ⟨S272x1024, .f32⟩
  | .local _ .vmem, ⟨7, _⟩ => ⟨S272x1024, .f32⟩
  | .local _ .vmem, ⟨8, _⟩ => ⟨S272x1024, .f32⟩
  | .local _ .vmem, ⟨9, _⟩ => ⟨S272x1024, .f32⟩
  | .local _ .vmem, ⟨10, _⟩ => ⟨S272x1024, .f32⟩
  | .local _ .vmem, ⟨11, _⟩ => ⟨S272x1024, .f32⟩
  | .local _ .vmem, ⟨12, _⟩ => ⟨S272x1024, .f32⟩
  | .local _ .vmem, ⟨13, _⟩ => ⟨S272x1024, .f32⟩
  | .local _ .vmem, ⟨14, _⟩ => ⟨S272x1024, .f32⟩
  | .local _ .vmem, ⟨15, _⟩ => ⟨S272x1024, .f32⟩
  | .local _ .vmem, ⟨16, _⟩ => ⟨S272x1024, .f32⟩
  | .local _ .vmem, ⟨17, _⟩ => ⟨S272x1024, .f32⟩
  | _, _ => ⟨S1088x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S272x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x272x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S272x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S272x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S272x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S272x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S272x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S272x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S272x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamInRefIdeal.lean ====
abbrev S1088x1024 : Shape := ⟨2, ![1088, 1024]⟩
abbrev S3x1088x1024 : Shape := ⟨3, ![3, 1088, 1024]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S1088x1024, .f32⟩
  | .hbm, ⟨1, _⟩ => ⟨S3x1088x1024, .bf16⟩
  | .hbm, ⟨2, _⟩ => ⟨S1088x1024, .f32⟩
  | .hbm, ⟨3, _⟩ => ⟨S1088x1024, .f32⟩
  | .hbm, ⟨4, _⟩ => ⟨S1088x1024, .f32⟩
  | .hbm, ⟨5, _⟩ => ⟨S3x1088x1024, .f32⟩
  | .hbm, ⟨6, _⟩ => ⟨S_, .f32⟩
  | .hbm, ⟨7, _⟩ => ⟨S1088x1024, .f32⟩
  | .hbm, ⟨8, _⟩ => ⟨S1088x1024, .f32⟩
  | .hbm, ⟨9, _⟩ => ⟨S_, .f32⟩
  | .hbm, ⟨10, _⟩ => ⟨S1088x1024, .f32⟩
  | .hbm, ⟨11, _⟩ => ⟨S1088x1024, .f32⟩
  | .hbm, ⟨12, _⟩ => ⟨S_, .f32⟩
  | .hbm, ⟨13, _⟩ => ⟨S1088x1024, .f32⟩
  | .hbm, ⟨14, _⟩ => ⟨S1088x1024, .f32⟩
  | .hbm, ⟨15, _⟩ => ⟨S1088x1024, .f32⟩
  | .hbm, ⟨16, _⟩ => ⟨S_, .f32⟩
  | .hbm, ⟨17, _⟩ => ⟨S1088x1024, .f32⟩
  | .hbm, ⟨18, _⟩ => ⟨S1088x1024, .f32⟩
  | .hbm, ⟨19, _⟩ => ⟨S1088x1024, .f32⟩
  | .hbm, ⟨20, _⟩ => ⟨S_, .f32⟩
  | .hbm, ⟨21, _⟩ => ⟨S1088x1024, .f32⟩
  | .hbm, ⟨22, _⟩ => ⟨S1088x1024, .f32⟩
  | .hbm, ⟨23, _⟩ => ⟨S1088x1024, .f32⟩
  | .hbm, ⟨24, _⟩ => ⟨S_, .f32⟩
  | .hbm, ⟨25, _⟩ => ⟨S1088x1024, .f32⟩
  | .hbm, ⟨26, _⟩ => ⟨S1088x1024, .f32⟩
  | .hbm, ⟨27, _⟩ => ⟨S_, .f32⟩
  | .hbm, ⟨28, _⟩ => ⟨S1088x1024, .f32⟩
  | .hbm, ⟨29, _⟩ => ⟨S1088x1024, .f32⟩
  | .hbm, ⟨30, _⟩ => ⟨S1088x1024, .f32⟩
  | .hbm, ⟨31, _⟩ => ⟨S_, .f32⟩
  | .hbm, ⟨32, _⟩ => ⟨S1088x1024, .f32⟩
  | .hbm, ⟨33, _⟩ => ⟨S1088x1024, .f32⟩
  | .hbm, ⟨34, _⟩ => ⟨S1088x1024, .f32⟩
  | .hbm, ⟨35, _⟩ => ⟨S_, .f32⟩
  | .hbm, ⟨36, _⟩ => ⟨S1088x1024, .f32⟩
  | .hbm, ⟨37, _⟩ => ⟨S1088x1024, .f32⟩
  | .hbm, ⟨38, _⟩ => ⟨S1088x1024, .f32⟩
  | .hbm, ⟨39, _⟩ => ⟨S_, .f32⟩
  | .hbm, ⟨40, _⟩ => ⟨S1088x1024, .f32⟩
  | .hbm, ⟨41, _⟩ => ⟨S1088x1024, .f32⟩
  | _, _ => ⟨S1088x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== AdamAttn.lean ====
abbrev S128x256 : Shape := ⟨2, ![128, 256]⟩
abbrev S256x128 : Shape := ⟨2, ![256, 128]⟩
abbrev S128x128 : Shape := ⟨2, ![128, 128]⟩

abbrev nBuf : Space → Nat
  | .hbm => 8
  | .vmem => 16
  | .smem => 0
  | _ => 0

abbrev bufTy : (tb : Table) → Fin (tcTables nBuf tb) → BufTy
  | .hbm, ⟨0, _⟩ => ⟨S128x256, .f32⟩
  | .hbm, ⟨1, _⟩ => ⟨S256x128, .f32⟩
  | .hbm, ⟨2, _⟩ => ⟨S256x128, .f32⟩
  | .hbm, ⟨3, _⟩ => ⟨S256x128, .f32⟩
  | .hbm, ⟨4, _⟩ => ⟨S256x128, .f32⟩
  | .hbm, ⟨5, _⟩ => ⟨S256x128, .f32⟩
  | .hbm, ⟨6, _⟩ => ⟨S256x128, .f32⟩
  | .hbm, ⟨7, _⟩ => ⟨S256x128, .f32⟩
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | _, _ => ⟨S128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamAttnRefIdeal.lean ====
abbrev S128x256 : Shape := ⟨2, ![128, 256]⟩
abbrev S256x128 : Shape := ⟨2, ![256, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S128x256, .f32⟩
  | .hbm, ⟨1, _⟩ => ⟨S256x128, .f32⟩
  | .hbm, ⟨2, _⟩ => ⟨S256x128, .f32⟩
  | .hbm, ⟨3, _⟩ => ⟨S256x128, .f32⟩
  | .hbm, ⟨4, _⟩ => ⟨S256x128, .f32⟩
  | .hbm, ⟨5, _⟩ => ⟨S256x128, .f32⟩
  | .hbm, ⟨6, _⟩ => ⟨S_, .f32⟩
  | .hbm, ⟨7, _⟩ => ⟨S256x128, .f32⟩
  | .hbm, ⟨8, _⟩ => ⟨S256x128, .f32⟩
  | .hbm, ⟨9, _⟩ => ⟨S_, .f32⟩
  | .hbm, ⟨10, _⟩ => ⟨S256x128, .f32⟩
  | .hbm, ⟨11, _⟩ => ⟨S256x128, .f32⟩
  | .hbm, ⟨12, _⟩ => ⟨S256x128, .f32⟩
  | .hbm, ⟨13, _⟩ => ⟨S_, .f32⟩
  | .hbm, ⟨14, _⟩ => ⟨S256x128, .f32⟩
  | .hbm, ⟨15, _⟩ => ⟨S256x128, .f32⟩
  | .hbm, ⟨16, _⟩ => ⟨S256x128, .f32⟩
  | .hbm, ⟨17, _⟩ => ⟨S_, .f32⟩
  | .hbm, ⟨18, _⟩ => ⟨S256x128, .f32⟩
  | .hbm, ⟨19, _⟩ => ⟨S256x128, .f32⟩
  | .hbm, ⟨20, _⟩ => ⟨S256x128, .f32⟩
  | .hbm, ⟨21, _⟩ => ⟨S_, .f32⟩
  | .hbm, ⟨22, _⟩ => ⟨S256x128, .f32⟩
  | .hbm, ⟨23, _⟩ => ⟨S256x128, .f32⟩
  | .hbm, ⟨24, _⟩ => ⟨S_, .f32⟩
  | .hbm, ⟨25, _⟩ => ⟨S256x128, .f32⟩
  | .hbm, ⟨26, _⟩ => ⟨S256x128, .f32⟩
  | .hbm, ⟨27, _⟩ => ⟨S256x128, .f32⟩
  | .hbm, ⟨28, _⟩ => ⟨S_, .f32⟩
  | .hbm, ⟨29, _⟩ => ⟨S256x128, .f32⟩
  | .hbm, ⟨30, _⟩ => ⟨S256x128, .f32⟩
  | .hbm, ⟨31, _⟩ => ⟨S256x128, .f32⟩
  | .hbm, ⟨32, _⟩ => ⟨S_, .f32⟩
  | .hbm, ⟨33, _⟩ => ⟨S256x128, .f32⟩
  | .hbm, ⟨34, _⟩ => ⟨S256x128, .f32⟩
  | .hbm, ⟨35, _⟩ => ⟨S256x128, .f32⟩
  | .hbm, ⟨36, _⟩ => ⟨S_, .f32⟩
  | .hbm, ⟨37, _⟩ => ⟨S256x128, .f32⟩
  | .hbm, ⟨38, _⟩ => ⟨S256x128, .f32⟩
  | _, _ => ⟨S128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== AdamAda.lean ====
abbrev S16x1024 : Shape := ⟨2, ![16, 1024]⟩
abbrev S16x384 : Shape := ⟨2, ![16, 384]⟩
abbrev S1024x384 : Shape := ⟨2, ![1024, 384]⟩

abbrev nBuf : Space → Nat
  | .hbm => 9
  | .vmem => 9
  | .smem => 0
  | _ => 0

abbrev bufTy : (tb : Table) → Fin (tcTables nBuf tb) → BufTy
  | .hbm, ⟨0, _⟩ => ⟨S16x1024, .f32⟩
  | .hbm, ⟨1, _⟩ => ⟨S16x384, .f32⟩
  | .hbm, ⟨2, _⟩ => ⟨S1024x384, .f32⟩
  | .hbm, ⟨3, _⟩ => ⟨S1024x384, .f32⟩
  | .hbm, ⟨4, _⟩ => ⟨S1024x384, .f32⟩
  | .hbm, ⟨5, _⟩ => ⟨S1024x384, .f32⟩
  | .hbm, ⟨6, _⟩ => ⟨S1024x384, .f32⟩
  | .hbm, ⟨7, _⟩ => ⟨S1024x384, .f32⟩
  | .hbm, ⟨8, _⟩ => ⟨S1024x384, .f32⟩
  | .local _ .vmem, ⟨0, _⟩ => ⟨S16x1024, .f32⟩
  | .local _ .vmem, ⟨1, _⟩ => ⟨S16x384, .f32⟩
  | .local _ .vmem, ⟨2, _⟩ => ⟨S1024x384, .f32⟩
  | .local _ .vmem, ⟨3, _⟩ => ⟨S1024x384, .f32⟩
  | .local _ .vmem, ⟨4, _⟩ => ⟨S1024x384, .f32⟩
  | .local _ .vmem, ⟨5, _⟩ => ⟨S1024x384, .f32⟩
  | .local _ .vmem, ⟨6, _⟩ => ⟨S1024x384, .f32⟩
  | .local _ .vmem, ⟨7, _⟩ => ⟨S1024x384, .f32⟩
  | .local _ .vmem, ⟨8, _⟩ => ⟨S1024x384, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== AdamAdaRefIdeal.lean ====
abbrev S16x1024 : Shape := ⟨2, ![16, 1024]⟩
abbrev S16x384 : Shape := ⟨2, ![16, 384]⟩
abbrev S1024x384 : Shape := ⟨2, ![1024, 384]⟩
abbrev S384x1024 : Shape := ⟨2, ![384, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S16x384, .f32⟩
  | .hbm, ⟨2, _⟩ => ⟨S1024x384, .f32⟩
  | .hbm, ⟨3, _⟩ => ⟨S1024x384, .f32⟩
  | .hbm, ⟨4, _⟩ => ⟨S1024x384, .f32⟩
  | .hbm, ⟨5, _⟩ => ⟨S16x384, .f32⟩
  | .hbm, ⟨6, _⟩ => ⟨S384x1024, .f32⟩
  | .hbm, ⟨7, _⟩ => ⟨S1024x384, .f32⟩
  | .hbm, ⟨8, _⟩ => ⟨S_, .f32⟩
  | .hbm, ⟨9, _⟩ => ⟨S1024x384, .f32⟩
  | .hbm, ⟨10, _⟩ => ⟨S1024x384, .f32⟩
  | .hbm, ⟨11, _⟩ => ⟨S_, .f32⟩
  | .hbm, ⟨12, _⟩ => ⟨S1024x384, .f32⟩
  | .hbm, ⟨13, _⟩ => ⟨S1024x384, .f32⟩
  | .hbm, ⟨14, _⟩ => ⟨S1024x384, .f32⟩
  | .hbm, ⟨15, _⟩ => ⟨S_, .f32⟩
  | .hbm, ⟨16, _⟩ => ⟨S1024x384, .f32⟩
  | .hbm, ⟨17, _⟩ => ⟨S1024x384, .f32⟩
  | .hbm, ⟨18, _⟩ => ⟨S1024x384, .f32⟩
  | .hbm, ⟨19, _⟩ => ⟨S_, .f32⟩
  | .hbm, ⟨20, _⟩ => ⟨S1024x384, .f32⟩
  | .hbm, ⟨21, _⟩ => ⟨S1024x384, .f32⟩
  | .hbm, ⟨22, _⟩ => ⟨S1024x384, .f32⟩
  | .hbm, ⟨23, _⟩ => ⟨S_, .f32⟩
  | .hbm, ⟨24, _⟩ => ⟨S1024x384, .f32⟩
  | .hbm, ⟨25, _⟩ => ⟨S1024x384, .f32⟩
  | .hbm, ⟨26, _⟩ => ⟨S_, .f32⟩
  | .hbm, ⟨27, _⟩ => ⟨S1024x384, .f32⟩
  | .hbm, ⟨28, _⟩ => ⟨S1024x384, .f32⟩
  | .hbm, ⟨29, _⟩ => ⟨S1024x384, .f32⟩
  | .hbm, ⟨30, _⟩ => ⟨S_, .f32⟩
  | .hbm, ⟨31, _⟩ => ⟨S1024x384, .f32⟩
  | .hbm, ⟨32, _⟩ => ⟨S1024x384, .f32⟩
  | .hbm, ⟨33, _⟩ => ⟨S1024x384, .f32⟩
  | .hbm, ⟨34, _⟩ => ⟨S_, .f32⟩
  | .hbm, ⟨35, _⟩ => ⟨S1024x384, .f32⟩
  | .hbm, ⟨36, _⟩ => ⟨S1024x384, .f32⟩
  | .hbm, ⟨37, _⟩ => ⟨S1024x384, .f32⟩
  | .hbm, ⟨38, _⟩ => ⟨S_, .f32⟩
  | .hbm, ⟨39, _⟩ => ⟨S1024x384, .f32⟩
  | .hbm, ⟨40, _⟩ => ⟨S1024x384, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AdamRest.lean ====
abbrev S128x1024 : Shape := ⟨2, ![128, 1024]⟩
abbrev S1x3072 : Shape := ⟨2, ![1, 3072]⟩
abbrev S1x8704 : Shape := ⟨2, ![1, 8704]⟩
abbrev S3x128 : Shape := ⟨2, ![3, 128]⟩
abbrev S1x1024 : Shape := ⟨2, ![1, 1024]⟩

abbrev nBuf : Space → Nat
  | .hbm => 56
  | .vmem => 56
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S1x3072, .f32⟩
  | .hbm, ⟨9, _⟩ => ⟨S1x3072, .f32⟩
  | .hbm, ⟨10, _⟩ => ⟨S1x3072, .f32⟩
  | .hbm, ⟨11, _⟩ => ⟨S1x3072, .f32⟩
  | .hbm, ⟨12, _⟩ => ⟨S1x8704, .f32⟩
  | .hbm, ⟨13, _⟩ => ⟨S1x8704, .f32⟩
  | .hbm, ⟨14, _⟩ => ⟨S1x8704, .f32⟩
  | .hbm, ⟨15, _⟩ => ⟨S1x8704, .f32⟩
  | .hbm, ⟨16, _⟩ => ⟨S3x128, .f32⟩
  | .hbm, ⟨17, _⟩ => ⟨S3x128, .f32⟩
  | .hbm, ⟨18, _⟩ => ⟨S3x128, .f32⟩
  | .hbm, ⟨19, _⟩ => ⟨S3x128, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S1x1024, .f32⟩
  | .hbm, ⟨31, _⟩ => ⟨S1x1024, .f32⟩
  | .hbm, ⟨32, _⟩ => ⟨S128x1024, .f32⟩
  | .hbm, ⟨33, _⟩ => ⟨S128x1024, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S128x1024, .f32⟩
  | .hbm, ⟨38, _⟩ => ⟨S1x3072, .f32⟩
  | .hbm, ⟨39, _⟩ => ⟨S1x3072, .f32⟩
  | .hbm, ⟨40, _⟩ => ⟨S1x3072, .f32⟩
  | .hbm, ⟨41, _⟩ => ⟨S1x8704, .f32⟩
  | .hbm, ⟨42, _⟩ => ⟨S1x8704, .f32⟩
  | .hbm, ⟨43, _⟩ => ⟨S1x8704, .f32⟩
  | .hbm, ⟨44, _⟩ => ⟨S3x128, .f32⟩
  | .hbm, ⟨45, _⟩ => ⟨S3x128, .f32⟩
  | .hbm, ⟨46, _⟩ => ⟨S3x128, .f32⟩
  | .hbm, ⟨47, _⟩ => ⟨S1x1024, .f32⟩
  | .hbm, ⟨48, _⟩ => ⟨S1x1024, .f32⟩
  | .hbm, ⟨49, _⟩ => ⟨S1x1024, .f32⟩
  | .hbm, ⟨50, _⟩ => ⟨S1x1024, .f32⟩
  | .hbm, ⟨51, _⟩ => ⟨S1x1024, .f32⟩
  | .hbm, ⟨52, _⟩ => ⟨S1x1024, .f32⟩
  | .hbm, ⟨53, _⟩ => ⟨S1x1024, .f32⟩
  | .hbm, ⟨54, _⟩ => ⟨S1x1024, .f32⟩
  | .hbm, ⟨55, _⟩ => ⟨S1x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S1x3072, .f32⟩
  | .local _ .vmem, ⟨9, _⟩ => ⟨S1x3072, .f32⟩
  | .local _ .vmem, ⟨10, _⟩ => ⟨S1x3072, .f32⟩
  | .local _ .vmem, ⟨11, _⟩ => ⟨S1x3072, .f32⟩
  | .local _ .vmem, ⟨12, _⟩ => ⟨S1x8704, .f32⟩
  | .local _ .vmem, ⟨13, _⟩ => ⟨S1x8704, .f32⟩
  | .local _ .vmem, ⟨14, _⟩ => ⟨S1x8704, .f32⟩
  | .local _ .vmem, ⟨15, _⟩ => ⟨S1x8704, .f32⟩
  | .local _ .vmem, ⟨16, _⟩ => ⟨S3x128, .f32⟩
  | .local _ .vmem, ⟨17, _⟩ => ⟨S3x128, .f32⟩
  | .local _ .vmem, ⟨18, _⟩ => ⟨S3x128, .f32⟩
  | .local _ .vmem, ⟨19, _⟩ => ⟨S3x128, .f32⟩
  | .local _ .vmem, ⟨20, _⟩ => ⟨S1x1024, .f32⟩
  | .local _ .vmem, ⟨21, _⟩ => ⟨S1x1024, .f32⟩
  | .local _ .vmem, ⟨22, _⟩ => ⟨S1x1024, .f32⟩
  | .local _ .vmem, ⟨23, _⟩ => ⟨S1x1024, .f32⟩
  | .local _ .vmem, ⟨24, _⟩ => ⟨S1x1024, .f32⟩
  | .local _ .vmem, ⟨25, _⟩ => ⟨S1x1024, .f32⟩
  | .local _ .vmem, ⟨26, _⟩ => ⟨S1x1024, .f32⟩
  | .local _ .vmem, ⟨27, _⟩ => ⟨S1x1024, .f32⟩
  | .local _ .vmem, ⟨28, _⟩ => ⟨S1x1024, .f32⟩
  | .local _ .vmem, ⟨29, _⟩ => ⟨S1x1024, .f32⟩
  | .local _ .vmem, ⟨30, _⟩ => ⟨S1x1024, .f32⟩
  | .local _ .vmem, ⟨31, _⟩ => ⟨S1x1024, .f32⟩
  | .local _ .vmem, ⟨32, _⟩ => ⟨S128x1024, .f32⟩
  | .local _ .vmem, ⟨33, _⟩ => ⟨S128x1024, .f32⟩
  | .local _ .vmem, ⟨34, _⟩ => ⟨S128x1024, .f32⟩
  | .local _ .vmem, ⟨35, _⟩ => ⟨S128x1024, .f32⟩
  | .local _ .vmem, ⟨36, _⟩ => ⟨S128x1024, .f32⟩
  | .local _ .vmem, ⟨37, _⟩ => ⟨S128x1024, .f32⟩
  | .local _ .vmem, ⟨38, _⟩ => ⟨S1x3072, .f32⟩
  | .local _ .vmem, ⟨39, _⟩ => ⟨S1x3072, .f32⟩
  | .local _ .vmem, ⟨40, _⟩ => ⟨S1x3072, .f32⟩
  | .local _ .vmem, ⟨41, _⟩ => ⟨S1x8704, .f32⟩
  | .local _ .vmem, ⟨42, _⟩ => ⟨S1x8704, .f32⟩
  | .local _ .vmem, ⟨43, _⟩ => ⟨S1x8704, .f32⟩
  | .local _ .vmem, ⟨44, _⟩ => ⟨S3x128, .f32⟩
  | .local _ .vmem, ⟨45, _⟩ => ⟨S3x128, .f32⟩
  | .local _ .vmem, ⟨46, _⟩ => ⟨S3x128, .f32⟩
  | .local _ .vmem, ⟨47, _⟩ => ⟨S1x1024, .f32⟩
  | .local _ .vmem, ⟨48, _⟩ => ⟨S1x1024, .f32⟩
  | .local _ .vmem, ⟨49, _⟩ => ⟨S1x1024, .f32⟩
  | .local _ .vmem, ⟨50, _⟩ => ⟨S1x1024, .f32⟩
  | .local _ .vmem, ⟨51, _⟩ => ⟨S1x1024, .f32⟩
  | .local _ .vmem, ⟨52, _⟩ => ⟨S1x1024, .f32⟩
  | .local _ .vmem, ⟨53, _⟩ => ⟨S1x1024, .f32⟩
  | .local _ .vmem, ⟨54, _⟩ => ⟨S1x1024, .f32⟩
  | .local _ .vmem, ⟨55, _⟩ => ⟨S1x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_v0_0 : Ref sig .tc := ⟨.hbm, 32, rfl⟩
abbrev main_v0_1 : Ref sig .tc := ⟨.hbm, 33, rfl⟩
abbrev main_v0_2 : Ref sig .tc := ⟨.hbm, 34, rfl⟩
abbrev main_v0_3 : Ref sig .tc := ⟨.hbm, 35, rfl⟩
abbrev main_v0_4 : Ref sig .tc := ⟨.hbm, 36, rfl⟩
abbrev main_v0_5 : Ref sig .tc := ⟨.hbm, 37, rfl⟩
abbrev main_v0_6 : Ref sig .tc := ⟨.hbm, 38, rfl⟩
abbrev main_v0_7 : Ref sig .tc := ⟨.hbm, 39, rfl⟩
abbrev main_v0_8 : Ref sig .tc := ⟨.hbm, 40, rfl⟩
abbrev main_v0_9 : Ref sig .tc := ⟨.hbm, 41, rfl⟩
abbrev main_v0_10 : Ref sig .tc := ⟨.hbm, 42, rfl⟩
abbrev main_v0_11 : Ref sig .tc := ⟨.hbm, 43, rfl⟩
abbrev main_v0_12 : Ref sig .tc := ⟨.hbm, 44, rfl⟩
abbrev main_v0_13 : Ref sig .tc := ⟨.hbm, 45, rfl⟩
abbrev main_v0_14 : Ref sig .tc := ⟨.hbm, 46, rfl⟩
abbrev main_v0_15 : Ref sig .tc := ⟨.hbm, 47, rfl⟩
abbrev main_v0_16 : Ref sig .tc := ⟨.hbm, 48, rfl⟩
abbrev main_v0_17 : Ref sig .tc := ⟨.hbm, 49, rfl⟩
abbrev main_v0_18 : Ref sig .tc := ⟨.hbm, 50, rfl⟩
abbrev main_v0_19 : Ref sig .tc := ⟨.hbm, 51, rfl⟩
abbrev main_v0_20 : Ref sig .tc := ⟨.hbm, 52, rfl⟩
abbrev main_v0_21 : Ref sig .tc := ⟨.hbm, 53, rfl⟩
abbrev main_v0_22 : Ref sig .tc := ⟨.hbm, 54, rfl⟩
abbrev main_v0_23 : Ref sig .tc := ⟨.hbm, 55, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_stg33_0 : Ref sig .tc := ⟨.vmem, 33, rfl⟩
abbrev cc0_stg34_0 : Ref sig .tc := ⟨.vmem, 34, rfl⟩
abbrev cc0_stg35_0 : Ref sig .tc := ⟨.vmem, 35, rfl⟩
abbrev cc0_stg36_0 : Ref sig .tc := ⟨.vmem, 36, rfl⟩
abbrev cc0_stg37_0 : Ref sig .tc := ⟨.vmem, 37, rfl⟩
abbrev cc0_stg38_0 : Ref sig .tc := ⟨.vmem, 38, rfl⟩
abbrev cc0_stg39_0 : Ref sig .tc := ⟨.vmem, 39, rfl⟩
abbrev cc0_stg40_0 : Ref sig .tc := ⟨.vmem, 40, rfl⟩
abbrev cc0_stg41_0 : Ref sig .tc := ⟨.vmem, 41, rfl⟩
abbrev cc0_stg42_0 : Ref sig .tc := ⟨.vmem, 42, rfl⟩
abbrev cc0_stg43_0 : Ref sig .tc := ⟨.vmem, 43, rfl⟩
abbrev cc0_stg44_0 : Ref sig .tc := ⟨.vmem, 44, rfl⟩
abbrev cc0_stg45_0 : Ref sig .tc := ⟨.vmem, 45, rfl⟩
abbrev cc0_stg46_0 : Ref sig .tc := ⟨.vmem, 46, rfl⟩
abbrev cc0_stg47_0 : Ref sig .tc := ⟨.vmem, 47, rfl⟩
abbrev cc0_stg48_0 : Ref sig .tc := ⟨.vmem, 48, rfl⟩
abbrev cc0_stg49_0 : Ref sig .tc := ⟨.vmem, 49, rfl⟩
abbrev cc0_stg50_0 : Ref sig .tc := ⟨.vmem, 50, rfl⟩
abbrev cc0_stg51_0 : Ref sig .tc := ⟨.vmem, 51, rfl⟩
abbrev cc0_stg52_0 : Ref sig .tc := ⟨.vmem, 52, rfl⟩
abbrev cc0_stg53_0 : Ref sig .tc := ⟨.vmem, 53, rfl⟩
abbrev cc0_stg54_0 : Ref sig .tc := ⟨.vmem, 54, rfl⟩
abbrev cc0_stg55_0 : Ref sig .tc := ⟨.vmem, 55, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34
abbrev cc0_sem35_0 : DmaSem sig := 35
abbrev cc0_sem36_0 : DmaSem sig := 36
abbrev cc0_sem37_0 : DmaSem sig := 37
abbrev cc0_sem38_0 : DmaSem sig := 38
abbrev cc0_sem39_0 : DmaSem sig := 39
abbrev cc0_sem40_0 : DmaSem sig := 40
abbrev cc0_sem41_0 : DmaSem sig := 41
abbrev cc0_sem42_0 : DmaSem sig := 42
abbrev cc0_sem43_0 : DmaSem sig := 43
abbrev cc0_sem44_0 : DmaSem sig := 44
abbrev cc0_sem45_0 : DmaSem sig := 45
abbrev cc0_sem46_0 : DmaSem sig := 46
abbrev cc0_sem47_0 : DmaSem sig := 47
abbrev cc0_sem48_0 : DmaSem sig := 48
abbrev cc0_sem49_0 : DmaSem sig := 49
abbrev cc0_sem50_0 : DmaSem sig := 50
abbrev cc0_sem51_0 : DmaSem sig := 51
abbrev cc0_sem52_0 : DmaSem sig := 52
abbrev cc0_sem53_0 : DmaSem sig := 53
abbrev cc0_sem54_0 : DmaSem sig := 54
abbrev cc0_sem55_0 : DmaSem sig := 55

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_30 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_31 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_32 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_33 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_34 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_35 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_36 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_37 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_38 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_39 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_40 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_41 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_42 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_43 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_44 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_45 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_46 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_47 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_48 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_49 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_50 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_51 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_52 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_53 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_54 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_55 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x3072 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x3072 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x3072 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x3072 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x8704 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x8704 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x8704 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x8704 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S3x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S3x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S3x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S3x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S1x1024 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S1x1024 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S1x1024 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 1 → Memref sig .tc .vmem S1x1024 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false]

abbrev stage0_30 : Fin 1 → Memref sig .tc .vmem S1x1024 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))
abbrev reads0_30 : Fin grid0.rank → Bool := ![false]

abbrev stage0_31 : Fin 1 → Memref sig .tc .vmem S1x1024 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))
abbrev reads0_31 : Fin grid0.rank → Bool := ![false]

abbrev stage0_32 : Fin 1 → Memref sig .tc .vmem S128x1024 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))
abbrev reads0_32 : Fin grid0.rank → Bool := ![false]

abbrev stage0_33 : Fin 1 → Memref sig .tc .vmem S128x1024 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))
abbrev reads0_33 : Fin grid0.rank → Bool := ![false]

abbrev stage0_34 : Fin 1 → Memref sig .tc .vmem S128x1024 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))
abbrev reads0_34 : Fin grid0.rank → Bool := ![false]

abbrev stage0_35 : Fin 1 → Memref sig .tc .vmem S128x1024 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))
abbrev reads0_35 : Fin grid0.rank → Bool := ![false]

abbrev stage0_36 : Fin 1 → Memref sig .tc .vmem S128x1024 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))
abbrev reads0_36 : Fin grid0.rank → Bool := ![false]

abbrev stage0_37 : Fin 1 → Memref sig .tc .vmem S128x1024 .f32 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))
abbrev reads0_37 : Fin grid0.rank → Bool := ![false]

abbrev stage0_38 : Fin 1 → Memref sig .tc .vmem S1x3072 .f32 := fun | 0 => Memref.whole cc0_stg38_0 | ⟨_ + 1, h⟩ => absurd h (Nat.not_lt.2 (Nat.le_add_left _ _))
abbrev sem0_38 : Fin 1 → DmaSem sig := fun | 0 => cc0_sem38_0 | ⟨_ + 1, h⟩ => absurd h (Nat.not_lt.2 (Nat.le_add_left _ _))
abbrev reads0_38 : Fin grid0.rank → Bool := ![false]

abbrev stage0_39 : Fin 1 → Memref sig .tc .vmem S1x3072 .f32 := fun | 0 => Memref.whole cc0_stg39_0 | ⟨_ + 1, h⟩ => absurd h (Nat.not_lt.2 (Nat.le_add_left _ _))
abbrev sem0_39 : Fin 1 → DmaSem sig := fun | 0 => cc0_sem39_0 | ⟨_ + 1, h⟩ => absurd h (Nat.not_lt.2 (Nat.le_add_left _ _))
abbrev reads0_39 : Fin grid0.rank → Bool := ![false]

abbrev stage0_40 : Fin 1 → Memref sig .tc .vmem S1x3072 .f32 := fun | 0 => Memref.whole cc0_stg40_0 | ⟨_ + 1, h⟩ => absurd h (Nat.not_lt.2 (Nat.le_add_left _ _))
abbrev sem0_40 : Fin 1 → DmaSem sig := fun | 0 => cc0_sem40_0 | ⟨_ + 1, h⟩ => absurd h (Nat.not_lt.2 (Nat.le_add_left _ _))
abbrev reads0_40 : Fin grid0.rank → Bool := ![false]

abbrev stage0_41 : Fin 1 → Memref sig .tc .vmem S1x8704 .f32 := fun | 0 => Memref.whole cc0_stg41_0 | ⟨_ + 1, h⟩ => absurd h (Nat.not_lt.2 (Nat.le_add_left _ _))
abbrev sem0_41 : Fin 1 → DmaSem sig := fun | 0 => cc0_sem41_0 | ⟨_ + 1, h⟩ => absurd h (Nat.not_lt.2 (Nat.le_add_left _ _))
abbrev reads0_41 : Fin grid0.rank → Bool := ![false]

abbrev stage0_42 : Fin 1 → Memref sig .tc .vmem S1x8704 .f32 := fun | 0 => Memref.whole cc0_stg42_0 | ⟨_ + 1, h⟩ => absurd h (Nat.not_lt.2 (Nat.le_add_left _ _))
abbrev sem0_42 : Fin 1 → DmaSem sig := fun | 0 => cc0_sem42_0 | ⟨_ + 1, h⟩ => absurd h (Nat.not_lt.2 (Nat.le_add_left _ _))
abbrev reads0_42 : Fin grid0.rank → Bool := ![false]

abbrev stage0_43 : Fin 1 → Memref sig .tc .vmem S1x8704 .f32 := fun | 0 => Memref.whole cc0_stg43_0 | ⟨_ + 1, h⟩ => absurd h (Nat.not_lt.2 (Nat.le_add_left _ _))
abbrev sem0_43 : Fin 1 → DmaSem sig := fun | 0 => cc0_sem43_0 | ⟨_ + 1, h⟩ => absurd h (Nat.not_lt.2 (Nat.le_add_left _ _))
abbrev reads0_43 : Fin grid0.rank → Bool := ![false]

abbrev stage0_44 : Fin 1 → Memref sig .tc .vmem S3x128 .f32 := fun | 0 => Memref.whole cc0_stg44_0 | ⟨_ + 1, h⟩ => absurd h (Nat.not_lt.2 (Nat.le_add_left _ _))
abbrev sem0_44 : Fin 1 → DmaSem sig := fun | 0 => cc0_sem44_0 | ⟨_ + 1, h⟩ => absurd h (Nat.not_lt.2 (Nat.le_add_left _ _))
abbrev reads0_44 : Fin grid0.rank → Bool := ![false]

abbrev stage0_45 : Fin 1 → Memref sig .tc .vmem S3x128 .f32 := fun | 0 => Memref.whole cc0_stg45_0 | ⟨_ + 1, h⟩ => absurd h (Nat.not_lt.2 (Nat.le_add_left _ _))
abbrev sem0_45 : Fin 1 → DmaSem sig := fun | 0 => cc0_sem45_0 | ⟨_ + 1, h⟩ => absurd h (Nat.not_lt.2 (Nat.le_add_left _ _))
abbrev reads0_45 : Fin grid0.rank → Bool := ![false]

abbrev stage0_46 : Fin 1 → Memref sig .tc .vmem S3x128 .f32 := fun | 0 => Memref.whole cc0_stg46_0 | ⟨_ + 1, h⟩ => absurd h (Nat.not_lt.2 (Nat.le_add_left _ _))
abbrev sem0_46 : Fin 1 → DmaSem sig := fun | 0 => cc0_sem46_0 | ⟨_ + 1, h⟩ => absurd h (Nat.not_lt.2 (Nat.le_add_left _ _))
abbrev reads0_46 : Fin grid0.rank → Bool := ![false]

abbrev stage0_47 : Fin 1 → Memref sig .tc .vmem S1x1024 .f32 := fun | 0 => Memref.whole cc0_stg47_0 | ⟨_ + 1, h⟩ => absurd h (Nat.not_lt.2 (Nat.le_add_left _ _))
abbrev sem0_47 : Fin 1 → DmaSem sig := fun | 0 => cc0_sem47_0 | ⟨_ + 1, h⟩ => absurd h (Nat.not_lt.2 (Nat.le_add_left _ _))
abbrev reads0_47 : Fin grid0.rank → Bool := ![false]

abbrev stage0_48 : Fin 1 → Memref sig .tc .vmem S1x1024 .f32 := fun | 0 => Memref.whole cc0_stg48_0 | ⟨_ + 1, h⟩ => absurd h (Nat.not_lt.2 (Nat.le_add_left _ _))
abbrev sem0_48 : Fin 1 → DmaSem sig := fun | 0 => cc0_sem48_0 | ⟨_ + 1, h⟩ => absurd h (Nat.not_lt.2 (Nat.le_add_left _ _))
abbrev reads0_48 : Fin grid0.rank → Bool := ![false]

abbrev stage0_49 : Fin 1 → Memref sig .tc .vmem S1x1024 .f32 := fun | 0 => Memref.whole cc0_stg49_0 | ⟨_ + 1, h⟩ => absurd h (Nat.not_lt.2 (Nat.le_add_left _ _))
abbrev sem0_49 : Fin 1 → DmaSem sig := fun | 0 => cc0_sem49_0 | ⟨_ + 1, h⟩ => absurd h (Nat.not_lt.2 (Nat.le_add_left _ _))
abbrev reads0_49 : Fin grid0.rank → Bool := ![false]

abbrev stage0_50 : Fin 1 → Memref sig .tc .vmem S1x1024 .f32 := fun | 0 => Memref.whole cc0_stg50_0 | ⟨_ + 1, h⟩ => absurd h (Nat.not_lt.2 (Nat.le_add_left _ _))
abbrev sem0_50 : Fin 1 → DmaSem sig := fun | 0 => cc0_sem50_0 | ⟨_ + 1, h⟩ => absurd h (Nat.not_lt.2 (Nat.le_add_left _ _))
abbrev reads0_50 : Fin grid0.rank → Bool := ![false]

abbrev stage0_51 : Fin 1 → Memref sig .tc .vmem S1x1024 .f32 := fun | 0 => Memref.whole cc0_stg51_0 | ⟨_ + 1, h⟩ => absurd h (Nat.not_lt.2 (Nat.le_add_left _ _))
abbrev sem0_51 : Fin 1 → DmaSem sig := fun | 0 => cc0_sem51_0 | ⟨_ + 1, h⟩ => absurd h (Nat.not_lt.2 (Nat.le_add_left _ _))
abbrev reads0_51 : Fin grid0.rank → Bool := ![false]

abbrev stage0_52 : Fin 1 → Memref sig .tc .vmem S1x1024 .f32 := fun | 0 => Memref.whole cc0_stg52_0 | ⟨_ + 1, h⟩ => absurd h (Nat.not_lt.2 (Nat.le_add_left _ _))
abbrev sem0_52 : Fin 1 → DmaSem sig := fun | 0 => cc0_sem52_0 | ⟨_ + 1, h⟩ => absurd h (Nat.not_lt.2 (Nat.le_add_left _ _))
abbrev reads0_52 : Fin grid0.rank → Bool := ![false]

abbrev stage0_53 : Fin 1 → Memref sig .tc .vmem S1x1024 .f32 := fun | 0 => Memref.whole cc0_stg53_0 | ⟨_ + 1, h⟩ => absurd h (Nat.not_lt.2 (Nat.le_add_left _ _))
abbrev sem0_53 : Fin 1 → DmaSem sig := fun | 0 => cc0_sem53_0 | ⟨_ + 1, h⟩ => absurd h (Nat.not_lt.2 (Nat.le_add_left _ _))
abbrev reads0_53 : Fin grid0.rank → Bool := ![false]

abbrev stage0_54 : Fin 1 → Memref sig .tc .vmem S1x1024 .f32 := fun | 0 => Memref.whole cc0_stg54_0 | ⟨_ + 1, h⟩ => absurd h (Nat.not_lt.2 (Nat.le_add_left _ _))
abbrev sem0_54 : Fin 1 → DmaSem sig := fun | 0 => cc0_sem54_0 | ⟨_ + 1, h⟩ => absurd h (Nat.not_lt.2 (Nat.le_add_left _ _))
abbrev reads0_54 : Fin grid0.rank → Bool := ![false]

abbrev stage0_55 : Fin 1 → Memref sig .tc .vmem S1x1024 .f32 := fun | 0 => Memref.whole cc0_stg55_0 | ⟨_ + 1, h⟩ => absurd h (Nat.not_lt.2 (Nat.le_add_left _ _))
abbrev sem0_55 : Fin 1 → DmaSem sig := fun | 0 => cc0_sem55_0 | ⟨_ + 1, h⟩ => absurd h (Nat.not_lt.2 (Nat.le_add_left _ _))
abbrev reads0_55 : Fin grid0.rank → Bool := ![false]
-- ==== AdamRestRefIdeal.lean ====
abbrev S128x1024 : Shape := ⟨2, ![128, 1024]⟩
abbrev S1x3072 : Shape := ⟨2, ![1, 3072]⟩
abbrev S1x8704 : Shape := ⟨2, ![1, 8704]⟩
abbrev S3x128 : Shape := ⟨2, ![3, 128]⟩
abbrev S1x1024 : Shape := ⟨2, ![1, 1024]⟩
abbrev S_ : Shape := ⟨0, ![]⟩

abbrev nBuf : Space → Nat
  | .hbm => 296
  | .vmem => 0
  | .smem => 0
  | _ => 0

abbrev hbmTy0_0 (i : Nat) : BufTy := match i % 128 with
  | 0 => ⟨S128x1024, .f32⟩
  | 1 => ⟨S128x1024, .f32⟩
  | 2 => ⟨S128x1024, .f32⟩
  | 3 => ⟨S128x1024, .f32⟩
  | 4 => ⟨S128x1024, .f32⟩
  | 5 => ⟨S128x1024, .f32⟩
  | 6 => ⟨S128x1024, .f32⟩
  | 7 => ⟨S128x1024, .f32⟩
  | 8 => ⟨S1x3072, .f32⟩
  | 9 => ⟨S1x3072, .f32⟩
  | 10 => ⟨S1x3072, .f32⟩
  | 11 => ⟨S1x3072, .f32⟩
  | 12 => ⟨S1x8704, .f32⟩
  | 13 => ⟨S1x8704, .f32⟩
  | 14 => ⟨S1x8704, .f32⟩
  | 15 => ⟨S1x8704, .f32⟩
  | 16 => ⟨S3x128, .f32⟩
  | 17 => ⟨S3x128, .f32⟩
  | 18 => ⟨S3x128, .f32⟩
  | 19 => ⟨S3x128, .f32⟩
  | 20 => ⟨S1x1024, .f32⟩
  | 21 => ⟨S1x1024, .f32⟩
  | 22 => ⟨S1x1024, .f32⟩
  | 23 => ⟨S1x1024, .f32⟩
  | 24 => ⟨S1x1024, .f32⟩
  | 25 => ⟨S1x1024, .f32⟩
  | 26 => ⟨S1x1024, .f32⟩
  | 27 => ⟨S1x1024, .f32⟩
  | 28 => ⟨S1x1024, .f32⟩
  | 29 => ⟨S1x1024, .f32⟩
  | 30 => ⟨S1x1024, .f32⟩
  | 31 => ⟨S1x1024, .f32⟩
  | 32 => ⟨S_, .f32⟩
  | 33 => ⟨S128x1024, .f32⟩
  | 34 => ⟨S128x1024, .f32⟩
  | 35 => ⟨S_, .f32⟩
  | 36 => ⟨S128x1024, .f32⟩
  | 37 => ⟨S128x1024, .f32⟩
  | 38 => ⟨S128x1024, .f32⟩
  | 39 => ⟨S_, .f32⟩
  | 40 => ⟨S128x1024, .f32⟩
  | 41 => ⟨S128x1024, .f32⟩
  | 42 => ⟨S128x1024, .f32⟩
  | 43 => ⟨S_, .f32⟩
  | 44 => ⟨S128x1024, .f32⟩
  | 45 => ⟨S128x1024, .f32⟩
  | 46 => ⟨S128x1024, .f32⟩
  | 47 => ⟨S_, .f32⟩
  | 48 => ⟨S128x1024, .f32⟩
  | 49 => ⟨S128x1024, .f32⟩
  | 50 => ⟨S_, .f32⟩
  | 51 => ⟨S128x1024, .f32⟩
  | 52 => ⟨S128x1024, .f32⟩
  | 53 => ⟨S128x1024, .f32⟩
  | 54 => ⟨S_, .f32⟩
  | 55 => ⟨S128x1024, .f32⟩
  | 56 => ⟨S128x1024, .f32⟩
  | 57 => ⟨S128x1024, .f32⟩
  | 58 => ⟨S_, .f32⟩
  | 59 => ⟨S128x1024, .f32⟩
  | 60 => ⟨S128x1024, .f32⟩
  | 61 => ⟨S128x1024, .f32⟩
  | 62 => ⟨S_, .f32⟩
  | 63 => ⟨S128x1024, .f32⟩
  | 64 => ⟨S128x1024, .f32⟩
  | 65 => ⟨S_, .f32⟩
  | 66 => ⟨S128x1024, .f32⟩
  | 67 => ⟨S128x1024, .f32⟩
  | 68 => ⟨S_, .f32⟩
  | 69 => ⟨S128x1024, .f32⟩
  | 70 => ⟨S128x1024, .f32⟩
  | 71 => ⟨S128x1024, .f32⟩
  | 72 => ⟨S_, .f32⟩
  | 73 => ⟨S128x1024, .f32⟩
  | 74 => ⟨S128x1024, .f32⟩
  | 75 => ⟨S128x1024, .f32⟩
  | 76 => ⟨S_, .f32⟩
  | 77 => ⟨S128x1024, .f32⟩
  | 78 => ⟨S128x1024, .f32⟩
  | 79 => ⟨S128x1024, .f32⟩
  | 80 => ⟨S_, .f32⟩
  | 81 => ⟨S128x1024, .f32⟩
  | 82 => ⟨S128x1024, .f32⟩
  | 83 => ⟨S_, .f32⟩
  | 84 => ⟨S128x1024, .f32⟩
  | 85 => ⟨S128x1024, .f32⟩
  | 86 => ⟨S128x1024, .f32⟩
  | 87 => ⟨S_, .f32⟩
  | 88 => ⟨S128x1024, .f32⟩
  | 89 => ⟨S128x1024, .f32⟩
  | 90 => ⟨S128x1024, .f32⟩
  | 91 => ⟨S_, .f32⟩
  | 92 => ⟨S128x1024, .f32⟩
  | 93 => ⟨S128x1024, .f32⟩
  | 94 => ⟨S128x1024, .f32⟩
  | 95 => ⟨S_, .f32⟩
  | 96 => ⟨S128x1024, .f32⟩
  | 97 => ⟨S128x1024, .f32⟩
  | 98 => ⟨S_, .f32⟩
  | 99 => ⟨S1x3072, .f32⟩
  | 100 => ⟨S1x3072, .f32⟩
  | 101 => ⟨S_, .f32⟩
  | 102 => ⟨S1x3072, .f32⟩
  | 103 => ⟨S1x3072, .f32⟩
  | 104 => ⟨S1x3072, .f32⟩
  | 105 => ⟨S_, .f32⟩
  | 106 => ⟨S1x3072, .f32⟩
  | 107 => ⟨S1x3072, .f32⟩
  | 108 => ⟨S1x3072, .f32⟩
  | 109 => ⟨S_, .f32⟩
  | 110 => ⟨S1x3072, .f32⟩
  | 111 => ⟨S1x3072, .f32⟩
  | 112 => ⟨S1x3072, .f32⟩
  | 113 => ⟨S_, .f32⟩
  | 114 => ⟨S1x3072, .f32⟩
  | 115 => ⟨S1x3072, .f32⟩
  | 116 => ⟨S_, .f32⟩
  | 117 => ⟨S1x3072, .f32⟩
  | 118 => ⟨S1x3072, .f32⟩
  | 119 => ⟨S1x3072, .f32⟩
  | 120 => ⟨S_, .f32⟩
  | 121 => ⟨S1x3072, .f32⟩
  | 122 => ⟨S1x3072, .f32⟩
  | 123 => ⟨S1x3072, .f32⟩
  | 124 => ⟨S_, .f32⟩
  | 125 => ⟨S1x3072, .f32⟩
  | 126 => ⟨S1x3072, .f32⟩
  | 127 => ⟨S1x3072, .f32⟩
  | _ => ⟨S128x1024, .f32⟩

abbrev hbmTy0_1 (i : Nat) : BufTy := match i % 128 with
  | 0 => ⟨S_, .f32⟩
  | 1 => ⟨S1x3072, .f32⟩
  | 2 => ⟨S1x3072, .f32⟩
  | 3 => ⟨S_, .f32⟩
  | 4 => ⟨S1x8704, .f32⟩
  | 5 => ⟨S1x8704, .f32⟩
  | 6 => ⟨S_, .f32⟩
  | 7 => ⟨S1x8704, .f32⟩
  | 8 => ⟨S1x8704, .f32⟩
  | 9 => ⟨S1x8704, .f32⟩
  | 10 => ⟨S_, .f32⟩
  | 11 => ⟨S1x8704, .f32⟩
  | 12 => ⟨S1x8704, .f32⟩
  | 13 => ⟨S1x8704, .f32⟩
  | 14 => ⟨S_, .f32⟩
  | 15 => ⟨S1x8704, .f32⟩
  | 16 => ⟨S1x8704, .f32⟩
  | 17 => ⟨S1x8704, .f32⟩
  | 18 => ⟨S_, .f32⟩
  | 19 => ⟨S1x8704, .f32⟩
  | 20 => ⟨S1x8704, .f32⟩
  | 21 => ⟨S_, .f32⟩
  | 22 => ⟨S1x8704, .f32⟩
  | 23 => ⟨S1x8704, .f32⟩
  | 24 => ⟨S1x8704, .f32⟩
  | 25 => ⟨S_, .f32⟩
  | 26 => ⟨S1x8704, .f32⟩
  | 27 => ⟨S1x8704, .f32⟩
  | 28 => ⟨S1x8704, .f32⟩
  | 29 => ⟨S_, .f32⟩
  | 30 => ⟨S1x8704, .f32⟩
  | 31 => ⟨S1x8704, .f32⟩
  | 32 => ⟨S1x8704, .f32⟩
  | 33 => ⟨S_, .f32⟩
  | 34 => ⟨S1x8704, .f32⟩
  | 35 => ⟨S1x8704, .f32⟩
  | 36 => ⟨S_, .f32⟩
  | 37 => ⟨S3x128, .f32⟩
  | 38 => ⟨S3x128, .f32⟩
  | 39 => ⟨S_, .f32⟩
  | 40 => ⟨S3x128, .f32⟩
  | 41 => ⟨S3x128, .f32⟩
  | 42 => ⟨S3x128, .f32⟩
  | 43 => ⟨S_, .f32⟩
  | 44 => ⟨S3x128, .f32⟩
  | 45 => ⟨S3x128, .f32⟩
  | 46 => ⟨S3x128, .f32⟩
  | 47 => ⟨S_, .f32⟩
  | 48 => ⟨S3x128, .f32⟩
  | 49 => ⟨S3x128, .f32⟩
  | 50 => ⟨S3x128, .f32⟩
  | 51 => ⟨S_, .f32⟩
  | 52 => ⟨S3x128, .f32⟩
  | 53 => ⟨S3x128, .f32⟩
  | 54 => ⟨S_, .f32⟩
  | 55 => ⟨S3x128, .f32⟩
  | 56 => ⟨S3x128, .f32⟩
  | 57 => ⟨S3x128, .f32⟩
  | 58 => ⟨S_, .f32⟩
  | 59 => ⟨S3x128, .f32⟩
  | 60 => ⟨S3x128, .f32⟩
  | 61 => ⟨S3x128, .f32⟩
  | 62 => ⟨S_, .f32⟩
  | 63 => ⟨S3x128, .f32⟩
  | 64 => ⟨S3x128, .f32⟩
  | 65 => ⟨S3x128, .f32⟩
  | 66 => ⟨S_, .f32⟩
  | 67 => ⟨S3x128, .f32⟩
  | 68 => ⟨S3x128, .f32⟩
  | 69 => ⟨S_, .f32⟩
  | 70 => ⟨S1x1024, .f32⟩
  | 71 => ⟨S1x1024, .f32⟩
  | 72 => ⟨S_, .f32⟩
  | 73 => ⟨S1x1024, .f32⟩
  | 74 => ⟨S1x1024, .f32⟩
  | 75 => ⟨S1x1024, .f32⟩
  | 76 => ⟨S_, .f32⟩
  | 77 => ⟨S1x1024, .f32⟩
  | 78 => ⟨S1x1024, .f32⟩
  | 79 => ⟨S1x1024, .f32⟩
  | 80 => ⟨S_, .f32⟩
  | 81 => ⟨S1x1024, .f32⟩
  | 82 => ⟨S1x1024, .f32⟩
  | 83 => ⟨S1x1024, .f32⟩
  | 84 => ⟨S_, .f32⟩
  | 85 => ⟨S1x1024, .f32⟩
  | 86 => ⟨S1x1024, .f32⟩
  | 87 => ⟨S_, .f32⟩
  | 88 => ⟨S1x1024, .f32⟩
  | 89 => ⟨S1x1024, .f32⟩
  | 90 => ⟨S1x1024, .f32⟩
  | 91 => ⟨S_, .f32⟩
  | 92 => ⟨S1x1024, .f32⟩
  | 93 => ⟨S1x1024, .f32⟩
  | 94 => ⟨S1x1024, .f32⟩
  | 95 => ⟨S_, .f32⟩
  | 96 => ⟨S1x1024, .f32⟩
  | 97 => ⟨S1x1024, .f32⟩
  | 98 => ⟨S1x1024, .f32⟩
  | 99 => ⟨S_, .f32⟩
  | 100 => ⟨S1x1024, .f32⟩
  | 101 => ⟨S1x1024, .f32⟩
  | 102 => ⟨S_, .f32⟩
  | 103 => ⟨S1x1024, .f32⟩
  | 104 => ⟨S1x1024, .f32⟩
  | 105 => ⟨S_, .f32⟩
  | 106 => ⟨S1x1024, .f32⟩
  | 107 => ⟨S1x1024, .f32⟩
  | 108 => ⟨S1x1024, .f32⟩
  | 109 => ⟨S_, .f32⟩
  | 110 => ⟨S1x1024, .f32⟩
  | 111 => ⟨S1x1024, .f32⟩
  | 112 => ⟨S1x1024, .f32⟩
  | 113 => ⟨S_, .f32⟩
  | 114 => ⟨S1x1024, .f32⟩
  | 115 => ⟨S1x1024, .f32⟩
  | 116 => ⟨S1x1024, .f32⟩
  | 117 => ⟨S_, .f32⟩
  | 118 => ⟨S1x1024, .f32⟩
  | 119 => ⟨S1x1024, .f32⟩
  | 120 => ⟨S_, .f32⟩
  | 121 => ⟨S1x1024, .f32⟩
  | 122 => ⟨S1x1024, .f32⟩
  | 123 => ⟨S1x1024, .f32⟩
  | 124 => ⟨S_, .f32⟩
  | 125 => ⟨S1x1024, .f32⟩
  | 126 => ⟨S1x1024, .f32⟩
  | 127 => ⟨S1x1024, .f32⟩
  | _ => ⟨S128x1024, .f32⟩

abbrev hbmTy0_2 (i : Nat) : BufTy := match i % 128 with
  | 0 => ⟨S_, .f32⟩
  | 1 => ⟨S1x1024, .f32⟩
  | 2 => ⟨S1x1024, .f32⟩
  | 3 => ⟨S1x1024, .f32⟩
  | 4 => ⟨S_, .f32⟩
  | 5 => ⟨S1x1024, .f32⟩
  | 6 => ⟨S1x1024, .f32⟩
  | 7 => ⟨S_, .f32⟩
  | 8 => ⟨S1x1024, .f32⟩
  | 9 => ⟨S1x1024, .f32⟩
  | 10 => ⟨S_, .f32⟩
  | 11 => ⟨S1x1024, .f32⟩
  | 12 => ⟨S1x1024, .f32⟩
  | 13 => ⟨S1x1024, .f32⟩
  | 14 => ⟨S_, .f32⟩
  | 15 => ⟨S1x1024, .f32⟩
  | 16 => ⟨S1x1024, .f32⟩
  | 17 => ⟨S1x1024, .f32⟩
  | 18 => ⟨S_, .f32⟩
  | 19 => ⟨S1x1024, .f32⟩
  | 20 => ⟨S1x1024, .f32⟩
  | 21 => ⟨S1x1024, .f32⟩
  | 22 => ⟨S_, .f32⟩
  | 23 => ⟨S1x1024, .f32⟩
  | 24 => ⟨S1x1024, .f32⟩
  | 25 => ⟨S_, .f32⟩
  | 26 => ⟨S1x1024, .f32⟩
  | 27 => ⟨S1x1024, .f32⟩
  | 28 => ⟨S1x1024, .f32⟩
  | 29 => ⟨S_, .f32⟩
  | 30 => ⟨S1x1024, .f32⟩
  | 31 => ⟨S1x1024, .f32⟩
  | 32 => ⟨S1x1024, .f32⟩
  | 33 => ⟨S_, .f32⟩
  | 34 => ⟨S1x1024, .f32⟩
  | 35 => ⟨S1x1024, .f32⟩
  | 36 => ⟨S1x1024, .f32⟩
  | 37 => ⟨S_, .f32⟩
  | 38 => ⟨S1x1024, .f32⟩
  | 39 => ⟨S1x1024, .f32⟩
  | _ => ⟨S128x1024, .f32⟩

abbrev hbmTy (i : Nat) : BufTy := match i / 128 with
  | 0 => hbmTy0_0 i
  | 1 => hbmTy0_1 i
  | 2 => hbmTy0_2 i
  | _ => ⟨S128x1024, .f32⟩

abbrev bufTy : (tb : Table) → Fin (tcTables nBuf tb) → BufTy
  | .hbm, ⟨i, _⟩ => hbmTy i
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_cst : Ref sig .tc := ⟨.hbm, 32, rfl⟩
abbrev main_v0 : Ref sig .tc := ⟨.hbm, 33, rfl⟩
abbrev main_v1 : Ref sig .tc := ⟨.hbm, 34, rfl⟩
abbrev main_cst_0 : Ref sig .tc := ⟨.hbm, 35, rfl⟩
abbrev main_v2 : Ref sig .tc := ⟨.hbm, 36, rfl⟩
abbrev main_v3 : Ref sig .tc := ⟨.hbm, 37, rfl⟩
abbrev main_v4 : Ref sig .tc := ⟨.hbm, 38, rfl⟩
abbrev main_cst_1 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_cst_2 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_cst_3 : Ref sig .tc := ⟨.hbm, 47, rfl⟩
abbrev main_v11 : Ref sig .tc := ⟨.hbm, 48, rfl⟩
abbrev main_v12 : Ref sig .tc := ⟨.hbm, 49, rfl⟩
abbrev main_cst_4 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_cst_5 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_cst_6 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_cst_7 : Ref sig .tc := ⟨.hbm, 62, rfl⟩
abbrev main_v22 : Ref sig .tc := ⟨.hbm, 63, rfl⟩
abbrev main_v23 : Ref sig .tc := ⟨.hbm, 64, rfl⟩
abbrev main_cst_8 : Ref sig .tc := ⟨.hbm, 65, rfl⟩
abbrev main_v24 : Ref sig .tc := ⟨.hbm, 66, rfl⟩
abbrev main_v25 : Ref sig .tc := ⟨.hbm, 67, rfl⟩
abbrev main_cst_9 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_cst_10 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_cst_11 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_cst_12 : Ref sig .tc := ⟨.hbm, 80, rfl⟩
abbrev main_v35 : Ref sig .tc := ⟨.hbm, 81, rfl⟩
abbrev main_v36 : Ref sig .tc := ⟨.hbm, 82, rfl⟩
abbrev main_cst_13 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_cst_14 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_cst_15 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_cst_16 : Ref sig .tc := ⟨.hbm, 95, rfl⟩
abbrev main_v46 : Ref sig .tc := ⟨.hbm, 96, rfl⟩
abbrev main_v47 : Ref sig .tc := ⟨.hbm, 97, rfl⟩
abbrev main_cst_17 : Ref sig .tc := ⟨.hbm, 98, rfl⟩
abbrev main_v48 : Ref sig .tc := ⟨.hbm, 99, rfl⟩
abbrev main_v49 : Ref sig .tc := ⟨.hbm, 100, rfl⟩
abbrev main_cst_18 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_cst_19 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_cst_20 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_cst_21 : Ref sig .tc := ⟨.hbm, 113, rfl⟩
abbrev main_v59 : Ref sig .tc := ⟨.hbm, 114, rfl⟩
abbrev main_v60 : Ref sig .tc := ⟨.hbm, 115, rfl⟩
abbrev main_cst_22 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_cst_23 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_cst_24 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_cst_25 : Ref sig .tc := ⟨.hbm, 128, rfl⟩
abbrev main_v70 : Ref sig .tc := ⟨.hbm, 129, rfl⟩
abbrev main_v71 : Ref sig .tc := ⟨.hbm, 130, rfl⟩
abbrev main_cst_26 : Ref sig .tc := ⟨.hbm, 131, rfl⟩
abbrev main_v72 : Ref sig .tc := ⟨.hbm, 132, rfl⟩
abbrev main_v73 : Ref sig .tc := ⟨.hbm, 133, rfl⟩
abbrev main_cst_27 : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev main_cst_28 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩
abbrev main_cst_29 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_cst_30 : Ref sig .tc := ⟨.hbm, 146, rfl⟩
abbrev main_v83 : Ref sig .tc := ⟨.hbm, 147, rfl⟩
abbrev main_v84 : Ref sig .tc := ⟨.hbm, 148, rfl⟩
abbrev main_cst_31 : Ref sig .tc := ⟨.hbm, 149, rfl⟩
abbrev main_v85 : Ref sig .tc := ⟨.hbm, 150, rfl⟩
abbrev main_v86 : Ref sig .tc := ⟨.hbm, 151, rfl⟩
abbrev main_v87 : Ref sig .tc := ⟨.hbm, 152, rfl⟩
abbrev main_cst_32 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_cst_33 : Ref sig .tc := ⟨.hbm, 157, rfl⟩
abbrev main_v91 : Ref sig .tc := ⟨.hbm, 158, rfl⟩
abbrev main_v92 : Ref sig .tc := ⟨.hbm, 159, rfl⟩
abbrev main_v93 : Ref sig .tc := ⟨.hbm, 160, rfl⟩
abbrev main_cst_34 : Ref sig .tc := ⟨.hbm, 161, rfl⟩
abbrev main_v94 : Ref sig .tc := ⟨.hbm, 162, rfl⟩
abbrev main_v95 : Ref sig .tc := ⟨.hbm, 163, rfl⟩
abbrev main_cst_35 : Ref sig .tc := ⟨.hbm, 164, rfl⟩
abbrev main_v96 : Ref sig .tc := ⟨.hbm, 165, rfl⟩
abbrev main_v97 : Ref sig .tc := ⟨.hbm, 166, rfl⟩
abbrev main_cst_36 : Ref sig .tc := ⟨.hbm, 167, rfl⟩
abbrev main_v98 : Ref sig .tc := ⟨.hbm, 168, rfl⟩
abbrev main_v99 : Ref sig .tc := ⟨.hbm, 169, rfl⟩
abbrev main_v100 : Ref sig .tc := ⟨.hbm, 170, rfl⟩
abbrev main_cst_37 : Ref sig .tc := ⟨.hbm, 171, rfl⟩
abbrev main_v101 : Ref sig .tc := ⟨.hbm, 172, rfl⟩
abbrev main_v102 : Ref sig .tc := ⟨.hbm, 173, rfl⟩
abbrev main_v103 : Ref sig .tc := ⟨.hbm, 174, rfl⟩
abbrev main_cst_38 : Ref sig .tc := ⟨.hbm, 175, rfl⟩
abbrev main_v104 : Ref sig .tc := ⟨.hbm, 176, rfl⟩
abbrev main_v105 : Ref sig .tc := ⟨.hbm, 177, rfl⟩
abbrev main_v106 : Ref sig .tc := ⟨.hbm, 178, rfl⟩
abbrev main_cst_39 : Ref sig .tc := ⟨.hbm, 179, rfl⟩
abbrev main_v107 : Ref sig .tc := ⟨.hbm, 180, rfl⟩
abbrev main_v108 : Ref sig .tc := ⟨.hbm, 181, rfl⟩
abbrev main_cst_40 : Ref sig .tc := ⟨.hbm, 182, rfl⟩
abbrev main_v109 : Ref sig .tc := ⟨.hbm, 183, rfl⟩
abbrev main_v110 : Ref sig .tc := ⟨.hbm, 184, rfl⟩
abbrev main_v111 : Ref sig .tc := ⟨.hbm, 185, rfl⟩
abbrev main_cst_41 : Ref sig .tc := ⟨.hbm, 186, rfl⟩
abbrev main_v112 : Ref sig .tc := ⟨.hbm, 187, rfl⟩
abbrev main_v113 : Ref sig .tc := ⟨.hbm, 188, rfl⟩
abbrev main_v114 : Ref sig .tc := ⟨.hbm, 189, rfl⟩
abbrev main_cst_42 : Ref sig .tc := ⟨.hbm, 190, rfl⟩
abbrev main_v115 : Ref sig .tc := ⟨.hbm, 191, rfl⟩
abbrev main_v116 : Ref sig .tc := ⟨.hbm, 192, rfl⟩
abbrev main_v117 : Ref sig .tc := ⟨.hbm, 193, rfl⟩
abbrev main_cst_43 : Ref sig .tc := ⟨.hbm, 194, rfl⟩
abbrev main_v118 : Ref sig .tc := ⟨.hbm, 195, rfl⟩
abbrev main_v119 : Ref sig .tc := ⟨.hbm, 196, rfl⟩
abbrev main_cst_44 : Ref sig .tc := ⟨.hbm, 197, rfl⟩
abbrev main_v120 : Ref sig .tc := ⟨.hbm, 198, rfl⟩
abbrev main_v121 : Ref sig .tc := ⟨.hbm, 199, rfl⟩
abbrev main_cst_45 : Ref sig .tc := ⟨.hbm, 200, rfl⟩
abbrev main_v122 : Ref sig .tc := ⟨.hbm, 201, rfl⟩
abbrev main_v123 : Ref sig .tc := ⟨.hbm, 202, rfl⟩
abbrev main_v124 : Ref sig .tc := ⟨.hbm, 203, rfl⟩
abbrev main_cst_46 : Ref sig .tc := ⟨.hbm, 204, rfl⟩
abbrev main_v125 : Ref sig .tc := ⟨.hbm, 205, rfl⟩
abbrev main_v126 : Ref sig .tc := ⟨.hbm, 206, rfl⟩
abbrev main_v127 : Ref sig .tc := ⟨.hbm, 207, rfl⟩
abbrev main_cst_47 : Ref sig .tc := ⟨.hbm, 208, rfl⟩
abbrev main_v128 : Ref sig .tc := ⟨.hbm, 209, rfl⟩
abbrev main_v129 : Ref sig .tc := ⟨.hbm, 210, rfl⟩
abbrev main_v130 : Ref sig .tc := ⟨.hbm, 211, rfl⟩
abbrev main_cst_48 : Ref sig .tc := ⟨.hbm, 212, rfl⟩
abbrev main_v131 : Ref sig .tc := ⟨.hbm, 213, rfl⟩
abbrev main_v132 : Ref sig .tc := ⟨.hbm, 214, rfl⟩
abbrev main_cst_49 : Ref sig .tc := ⟨.hbm, 215, rfl⟩
abbrev main_v133 : Ref sig .tc := ⟨.hbm, 216, rfl⟩
abbrev main_v134 : Ref sig .tc := ⟨.hbm, 217, rfl⟩
abbrev main_v135 : Ref sig .tc := ⟨.hbm, 218, rfl⟩
abbrev main_cst_50 : Ref sig .tc := ⟨.hbm, 219, rfl⟩
abbrev main_v136 : Ref sig .tc := ⟨.hbm, 220, rfl⟩
abbrev main_v137 : Ref sig .tc := ⟨.hbm, 221, rfl⟩
abbrev main_v138 : Ref sig .tc := ⟨.hbm, 222, rfl⟩
abbrev main_cst_51 : Ref sig .tc := ⟨.hbm, 223, rfl⟩
abbrev main_v139 : Ref sig .tc := ⟨.hbm, 224, rfl⟩
abbrev main_v140 : Ref sig .tc := ⟨.hbm, 225, rfl⟩
abbrev main_v141 : Ref sig .tc := ⟨.hbm, 226, rfl⟩
abbrev main_cst_52 : Ref sig .tc := ⟨.hbm, 227, rfl⟩
abbrev main_v142 : Ref sig .tc := ⟨.hbm, 228, rfl⟩
abbrev main_v143 : Ref sig .tc := ⟨.hbm, 229, rfl⟩
abbrev main_cst_53 : Ref sig .tc := ⟨.hbm, 230, rfl⟩
abbrev main_v144 : Ref sig .tc := ⟨.hbm, 231, rfl⟩
abbrev main_v145 : Ref sig .tc := ⟨.hbm, 232, rfl⟩
abbrev main_cst_54 : Ref sig .tc := ⟨.hbm, 233, rfl⟩
abbrev main_v146 : Ref sig .tc := ⟨.hbm, 234, rfl⟩
abbrev main_v147 : Ref sig .tc := ⟨.hbm, 235, rfl⟩
abbrev main_v148 : Ref sig .tc := ⟨.hbm, 236, rfl⟩
abbrev main_cst_55 : Ref sig .tc := ⟨.hbm, 237, rfl⟩
abbrev main_v149 : Ref sig .tc := ⟨.hbm, 238, rfl⟩
abbrev main_v150 : Ref sig .tc := ⟨.hbm, 239, rfl⟩
abbrev main_v151 : Ref sig .tc := ⟨.hbm, 240, rfl⟩
abbrev main_cst_56 : Ref sig .tc := ⟨.hbm, 241, rfl⟩
abbrev main_v152 : Ref sig .tc := ⟨.hbm, 242, rfl⟩
abbrev main_v153 : Ref sig .tc := ⟨.hbm, 243, rfl⟩
abbrev main_v154 : Ref sig .tc := ⟨.hbm, 244, rfl⟩
abbrev main_cst_57 : Ref sig .tc := ⟨.hbm, 245, rfl⟩
abbrev main_v155 : Ref sig .tc := ⟨.hbm, 246, rfl⟩
abbrev main_v156 : Ref sig .tc := ⟨.hbm, 247, rfl⟩
abbrev main_cst_58 : Ref sig .tc := ⟨.hbm, 248, rfl⟩
abbrev main_v157 : Ref sig .tc := ⟨.hbm, 249, rfl⟩
abbrev main_v158 : Ref sig .tc := ⟨.hbm, 250, rfl⟩
abbrev main_v159 : Ref sig .tc := ⟨.hbm, 251, rfl⟩
abbrev main_cst_59 : Ref sig .tc := ⟨.hbm, 252, rfl⟩
abbrev main_v160 : Ref sig .tc := ⟨.hbm, 253, rfl⟩
abbrev main_v161 : Ref sig .tc := ⟨.hbm, 254, rfl⟩
abbrev main_v162 : Ref sig .tc := ⟨.hbm, 255, rfl⟩
abbrev main_cst_60 : Ref sig .tc := ⟨.hbm, 256, rfl⟩
abbrev main_v163 : Ref sig .tc := ⟨.hbm, 257, rfl⟩
abbrev main_v164 : Ref sig .tc := ⟨.hbm, 258, rfl⟩
abbrev main_v165 : Ref sig .tc := ⟨.hbm, 259, rfl⟩
abbrev main_cst_61 : Ref sig .tc := ⟨.hbm, 260, rfl⟩
abbrev main_v166 : Ref sig .tc := ⟨.hbm, 261, rfl⟩
abbrev main_v167 : Ref sig .tc := ⟨.hbm, 262, rfl⟩
abbrev main_cst_62 : Ref sig .tc := ⟨.hbm, 263, rfl⟩
abbrev main_v168 : Ref sig .tc := ⟨.hbm, 264, rfl⟩
abbrev main_v169 : Ref sig .tc := ⟨.hbm, 265, rfl⟩
abbrev main_cst_63 : Ref sig .tc := ⟨.hbm, 266, rfl⟩
abbrev main_v170 : Ref sig .tc := ⟨.hbm, 267, rfl⟩
abbrev main_v171 : Ref sig .tc := ⟨.hbm, 268, rfl⟩
abbrev main_v172 : Ref sig .tc := ⟨.hbm, 269, rfl⟩
abbrev main_cst_64 : Ref sig .tc := ⟨.hbm, 270, rfl⟩
abbrev main_v173 : Ref sig .tc := ⟨.hbm, 271, rfl⟩
abbrev main_v174 : Ref sig .tc := ⟨.hbm, 272, rfl⟩
abbrev main_v175 : Ref sig .tc := ⟨.hbm, 273, rfl⟩
abbrev main_cst_65 : Ref sig .tc := ⟨.hbm, 274, rfl⟩
abbrev main_v176 : Ref sig .tc := ⟨.hbm, 275, rfl⟩
abbrev main_v177 : Ref sig .tc := ⟨.hbm, 276, rfl⟩
abbrev main_v178 : Ref sig .tc := ⟨.hbm, 277, rfl⟩
abbrev main_cst_66 : Ref sig .tc := ⟨.hbm, 278, rfl⟩
abbrev main_v179 : Ref sig .tc := ⟨.hbm, 279, rfl⟩
abbrev main_v180 : Ref sig .tc := ⟨.hbm, 280, rfl⟩
abbrev main_cst_67 : Ref sig .tc := ⟨.hbm, 281, rfl⟩
abbrev main_v181 : Ref sig .tc := ⟨.hbm, 282, rfl⟩
abbrev main_v182 : Ref sig .tc := ⟨.hbm, 283, rfl⟩
abbrev main_v183 : Ref sig .tc := ⟨.hbm, 284, rfl⟩
abbrev main_cst_68 : Ref sig .tc := ⟨.hbm, 285, rfl⟩
abbrev main_v184 : Ref sig .tc := ⟨.hbm, 286, rfl⟩
abbrev main_v185 : Ref sig .tc := ⟨.hbm, 287, rfl⟩
abbrev main_v186 : Ref sig .tc := ⟨.hbm, 288, rfl⟩
abbrev main_cst_69 : Ref sig .tc := ⟨.hbm, 289, rfl⟩
abbrev main_v187 : Ref sig .tc := ⟨.hbm, 290, rfl⟩
abbrev main_v188 : Ref sig .tc := ⟨.hbm, 291, rfl⟩
abbrev main_v189 : Ref sig .tc := ⟨.hbm, 292, rfl⟩
abbrev main_cst_70 : Ref sig .tc := ⟨.hbm, 293, rfl⟩
abbrev main_v190 : Ref sig .tc := ⟨.hbm, 294, rfl⟩
abbrev main_v191 : Ref sig .tc := ⟨.hbm, 295, rfl⟩

abbrev nD : Nat := 1
abbrev τ : Topo := Topo.v7x

variable {F : FTy → Type} [FloatOps F]
-- ==== FinalSums.lean ====
abbrev S128x1024 : Shape := ⟨2, ![128, 1024]⟩
abbrev S128x256 : Shape := ⟨2, ![128, 256]⟩
abbrev S3x128x1024 : Shape := ⟨3, ![3, 128, 1024]⟩
abbrev S3x128x256 : Shape := ⟨3, ![3, 128, 256]⟩
abbrev S1x128x1024 : Shape := ⟨3, ![1, 128, 1024]⟩
abbrev S1x128x256 : Shape := ⟨3, ![1, 128, 256]⟩

abbrev nBuf : Space → Nat
  | .hbm => 9
  | .vmem => 9
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x256, .f32⟩
  | .hbm, ⟨3, _⟩ => ⟨S3x128x1024, .bf16⟩
  | .hbm, ⟨4, _⟩ => ⟨S3x128x1024, .bf16⟩
  | .hbm, ⟨5, _⟩ => ⟨S3x128x256, .bf16⟩
  | .hbm, ⟨6, _⟩ => ⟨S128x1024, .f32⟩
  | .hbm, ⟨7, _⟩ => ⟨S128x1024, .f32⟩
  | .hbm, ⟨8, _⟩ => ⟨S128x256, .f32⟩
  | .local _ .vmem, ⟨0, _⟩ => ⟨S128x1024, .f32⟩
  | .local _ .vmem, ⟨1, _⟩ => ⟨S128x1024, .f32⟩
  | .local _ .vmem, ⟨2, _⟩ => ⟨S128x256, .f32⟩
  | .local _ .vmem, ⟨3, _⟩ => ⟨S3x128x1024, .bf16⟩
  | .local _ .vmem, ⟨4, _⟩ => ⟨S3x128x1024, .bf16⟩
  | .local _ .vmem, ⟨5, _⟩ => ⟨S3x128x256, .bf16⟩
  | .local _ .vmem, ⟨6, _⟩ => ⟨S128x1024, .f32⟩
  | .local _ .vmem, ⟨7, _⟩ => ⟨S128x1024, .f32⟩
  | .local _ .vmem, ⟨8, _⟩ => ⟨S128x256, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== FinalSumsRefIdeal.lean ====
abbrev S128x1024 : Shape := ⟨2, ![128, 1024]⟩
abbrev S128x256 : Shape := ⟨2, ![128, 256]⟩
abbrev S3x128x1024 : Shape := ⟨3, ![3, 128, 1024]⟩
abbrev S3x128x256 : Shape := ⟨3, ![3, 128, 256]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x256, .f32⟩
  | .hbm, ⟨3, _⟩ => ⟨S3x128x1024, .bf16⟩
  | .hbm, ⟨4, _⟩ => ⟨S3x128x1024, .bf16⟩
  | .hbm, ⟨5, _⟩ => ⟨S3x128x256, .bf16⟩
  | .hbm, ⟨6, _⟩ => ⟨S3x128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S3x128x1024, .f32⟩
  | .hbm, ⟨11, _⟩ => ⟨S_, .f32⟩
  | .hbm, ⟨12, _⟩ => ⟨S128x1024, .f32⟩
  | .hbm, ⟨13, _⟩ => ⟨S128x1024, .f32⟩
  | .hbm, ⟨14, _⟩ => ⟨S3x128x256, .f32⟩
  | .hbm, ⟨15, _⟩ => ⟨S_, .f32⟩
  | .hbm, ⟨16, _⟩ => ⟨S128x256, .f32⟩
  | .hbm, ⟨17, _⟩ => ⟨S128x256, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩

abbrev nD : Nat := 1
abbrev τ : Topo := Topo.v7x

variable {F : FTy → Type} [FloatOps F]
-- ==== PairSums.lean ====
abbrev S4 : Shape := ⟨1, ![4]⟩
abbrev S8704x1024 : Shape := ⟨2, ![8704, 1024]⟩
abbrev S4x1088x1024 : Shape := ⟨3, ![4, 1088, 1024]⟩
abbrev S1088x1024 : Shape := ⟨2, ![1088, 1024]⟩
abbrev S3x1088x1024 : Shape := ⟨3, ![3, 1088, 1024]⟩
abbrev S272x1024 : Shape := ⟨2, ![272, 1024]⟩
abbrev S1 : Shape := ⟨1, ![1]⟩
abbrev S4x272x1024 : Shape := ⟨3, ![4, 272, 1024]⟩
abbrev S3x272x1024 : Shape := ⟨3, ![3, 272, 1024]⟩
abbrev S1x272x1024 : Shape := ⟨3, ![1, 272, 1024]⟩

abbrev nBuf : Space → Nat
  | .hbm => 4
  | .vmem => 14
  | .smem => 1
  | _ => 0

abbrev bufTy : (tb : Table) → Fin (tcTables nBuf tb) → BufTy
  | .hbm, ⟨0, _⟩ => ⟨S8704x1024, .f32⟩
  | .hbm, ⟨1, _⟩ => ⟨S4x1088x1024, .f32⟩
  | .hbm, ⟨2, _⟩ => ⟨S1088x1024, .f32⟩
  | .hbm, ⟨3, _⟩ => ⟨S3x1088x1024, .bf16⟩
  | .local _ .vmem, ⟨0, _⟩ => ⟨S272x1024, .f32⟩
  | .local _ .vmem, ⟨1, _⟩ => ⟨S272x1024, .f32⟩
  | .local _ .vmem, ⟨2, _⟩ => ⟨S272x1024, .f32⟩
  | .local _ .vmem, ⟨3, _⟩ => ⟨S272x1024, .f32⟩
  | .local _ .vmem, ⟨4, _⟩ => ⟨S272x1024, .f32⟩
  | .local _ .vmem, ⟨5, _⟩ => ⟨S272x1024, .f32⟩
  | .local _ .vmem, ⟨6, _⟩ => ⟨S272x1024, .f32⟩
  | .local _ .vmem, ⟨7, _⟩ => ⟨S272x1024, .f32⟩
  | .local _ .vmem, ⟨8, _⟩ => ⟨S4x272x1024, .f32⟩
  | .local _ .vmem, ⟨9, _⟩ => ⟨S4x272x1024, .f32⟩
  | .local _ .vmem, ⟨10, _⟩ => ⟨S272x1024, .f32⟩
  | .local _ .vmem, ⟨11, _⟩ => ⟨S272x1024, .f32⟩
  | .local _ .vmem, ⟨12, _⟩ => ⟨S3x272x1024, .bf16⟩
  | .local _ .vmem, ⟨13, _⟩ => ⟨S3x272x1024, .bf16⟩
  | .local _ .smem, ⟨0, _⟩ => ⟨S4, .i32⟩
  | _, _ => ⟨S8704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0_0 : Ref sig .tc := ⟨.hbm, 2, rfl⟩
abbrev main_v0_1 : Ref sig .tc := ⟨.hbm, 3, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S4_S1_0 : ∀ a, (![0] : Fin 1 → Nat) a + S1.size a ≤ S4.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S4) ![0] S1.size inb_S4_S1_0) numel1_S1
  let c4_i32 : BitVec 32 := 4#32
  let v1 : BitVec 32 := Scalar.muli v0 c4_i32
  let v2 : BitVec 32 := Scalar.addi v1 arg0
  let c0_i32 : BitVec 32 := 0#32
  let c0_i32_0 : BitVec 32 := 0#32
  ![v2.toNat, c0_i32.toNat]

def cc0_transform_1 (inb_S4_S1_1 : ∀ a, (![1] : Fin 1 → Nat) a + S1.size a ≤ S4.size a) (numel1_S1 : S1.numel = 1) (pf : pre0.Contents (Elt F)) (i : grid0.Coords) : Fin 2 → Nat :=
  let arg0 : BitVec 32 := BitVec.ofNat 32 (i 0).val
  let c1 : Index := 1#32
  let v0 : BitVec 32 := pf.at 0 (Rect.unit (s := S4) ![1] S1.size inb_S4_S1_1) numel1_S1
  let c4_i32 : BitVec 32 := 4#32
  let v1 : BitVec 32 := Scalar.muli v0 c4_i32
  let v2 : BitVec 32 := Scalar.addi v1 arg0
  let c0_i32 : BitVec 32 := 0#32
  let c0_i32_0 : BitVec 32 := 0#32
  ![v2.toNat, c0_i32.toNat]

def cc0_transform_2 (inb_S4_S1_2 : ∀ a, (![2] : Fin 1 → Nat) a + S1.size a ≤ S4.size a) (numel1_S1 : S1.numel = 1) (pf : pre0.Contents (Elt F)) (i : grid0.Coords) : Fin 2 → Nat :=
  let arg0 : BitVec 32 := BitVec.ofNat 32 (i 0).val
  let c2 : Index := 2#32
  let v0 : BitVec 32 := pf.at 0 (Rect.unit (s := S4) ![2] S1.size inb_S4_S1_2) numel1_S1
  let c4_i32 : BitVec 32 := 4#32
  let v1 : BitVec 32 := Scalar.muli v0 c4_i32
  let v2 : BitVec 32 := Scalar.addi v1 arg0
  let c0_i32 : BitVec 32 := 0#32
  let c0_i32_0 : BitVec 32 := 0#32
  ![v2.toNat, c0_i32.toNat]

def cc0_transform_3 (inb_S4_S1_3 : ∀ a, (![3] : Fin 1 → Nat) a + S1.size a ≤ S4.size a) (numel1_S1 : S1.numel = 1) (pf : pre0.Contents (Elt F)) (i : grid0.Coords) : Fin 2 → Nat :=
  let arg0 : BitVec 32 := BitVec.ofNat 32 (i 0).val
  let c3 : Index := 3#32
  let v0 : BitVec 32 := pf.at 0 (Rect.unit (s := S4) ![3] S1.size inb_S4_S1_3) numel1_S1
  let c4_i32 : BitVec 32 := 4#32
  let v1 : BitVec 32 := Scalar.muli v0 c4_i32
  let v2 : BitVec 32 := Scalar.addi v1 arg0
  let c0_i32 : BitVec 32 := 0#32
  let c0_i32_0 : BitVec 32 := 0#32
  ![v2.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S272x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S272x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S272x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S272x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x272x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S272x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S3x272x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== PairSumsRefIdeal.lean ====
abbrev S4 : Shape := ⟨1, ![4]⟩
abbrev S8704x1024 : Shape := ⟨2, ![8704, 1024]⟩
abbrev S4x1088x1024 : Shape := ⟨3, ![4, 1088, 1024]⟩
abbrev S8x1088x1024 : Shape := ⟨3, ![8, 1088, 1024]⟩
abbrev S_ : Shape := ⟨0, ![]⟩
abbrev S4x1 : Shape := ⟨2, ![4, 1]⟩
abbrev S1x1088x1024 : Shape := ⟨3, ![1, 1088, 1024]⟩
abbrev S1088x1024 : Shape := ⟨2, ![1088, 1024]⟩
abbrev S3x1088x1024 : Shape := ⟨3, ![3, 1088, 1024]⟩

abbrev nBuf : Space → Nat
  | .hbm => 18
  | .vmem => 0
  | .smem => 0
  | _ => 0

abbrev bufTy : (tb : Table) → Fin (tcTables nBuf tb) → BufTy
  | .hbm, ⟨0, _⟩ => ⟨S4, .i32⟩
  | .hbm, ⟨1, _⟩ => ⟨S8704x1024, .f32⟩
  | .hbm, ⟨2, _⟩ => ⟨S4x1088x1024, .f32⟩
  | .hbm, ⟨3, _⟩ => ⟨S8x1088x1024, .f32⟩
  | .hbm, ⟨4, _⟩ => ⟨S_, .i32⟩
  | .hbm, ⟨5, _⟩ => ⟨S4, .i32⟩
  | .hbm, ⟨6, _⟩ => ⟨S4, .i1⟩
  | .hbm, ⟨7, _⟩ => ⟨S_, .i32⟩
  | .hbm, ⟨8, _⟩ => ⟨S4, .i32⟩
  | .hbm, ⟨9, _⟩ => ⟨S4, .i32⟩
  | .hbm, ⟨10, _⟩ => ⟨S4, .i32⟩
  | .hbm, ⟨11, _⟩ => ⟨S4x1, .i32⟩
  | .hbm, ⟨12, _⟩ => ⟨S4x1088x1024, .f32⟩
  | .hbm, ⟨13, _⟩ => ⟨S4x1088x1024, .f32⟩
  | .hbm, ⟨14, _⟩ => ⟨S1x1088x1024, .f32⟩
  | .hbm, ⟨15, _⟩ => ⟨S1088x1024, .f32⟩
  | .hbm, ⟨16, _⟩ => ⟨S3x1088x1024, .f32⟩
  | .hbm, ⟨17, _⟩ => ⟨S3x1088x1024, .bf16⟩
  | _, _ => ⟨S4, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== PairRest.lean ====
abbrev S4 : Shape := ⟨1, ![4]⟩
abbrev S1024x1024 : Shape := ⟨2, ![1024, 1024]⟩
abbrev S1024x256 : Shape := ⟨2, ![1024, 256]⟩
abbrev S4x128x1024 : Shape := ⟨3, ![4, 128, 1024]⟩
abbrev S4x128x256 : Shape := ⟨3, ![4, 128, 256]⟩
abbrev S128x1024 : Shape := ⟨2, ![128, 1024]⟩
abbrev S3x128x1024 : Shape := ⟨3, ![3, 128, 1024]⟩
abbrev S128x256 : Shape := ⟨2, ![128, 256]⟩
abbrev S3x128x256 : Shape := ⟨3, ![3, 128, 256]⟩
abbrev S1 : Shape := ⟨1, ![1]⟩
abbrev S1x128x1024 : Shape := ⟨3, ![1, 128, 1024]⟩
abbrev S1x128x256 : Shape := ⟨3, ![1, 128, 256]⟩

abbrev nBuf : Space → Nat
  | .hbm => 12
  | .vmem => 21
  | .smem => 1
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x256, .f32⟩
  | .hbm, ⟨3, _⟩ => ⟨S4x128x1024, .f32⟩
  | .hbm, ⟨4, _⟩ => ⟨S4x128x1024, .f32⟩
  | .hbm, ⟨5, _⟩ => ⟨S4x128x256, .f32⟩
  | .hbm, ⟨6, _⟩ => ⟨S128x1024, .f32⟩
  | .hbm, ⟨7, _⟩ => ⟨S3x128x1024, .bf16⟩
  | .hbm, ⟨8, _⟩ => ⟨S128x1024, .f32⟩
  | .hbm, ⟨9, _⟩ => ⟨S3x128x1024, .bf16⟩
  | .hbm, ⟨10, _⟩ => ⟨S128x256, .f32⟩
  | .hbm, ⟨11, _⟩ => ⟨S3x128x256, .bf16⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x256, .f32⟩
  | .local _ .vmem, ⟨9, _⟩ => ⟨S128x256, .f32⟩
  | .local _ .vmem, ⟨10, _⟩ => ⟨S128x256, .f32⟩
  | .local _ .vmem, ⟨11, _⟩ => ⟨S128x256, .f32⟩
  | .local _ .vmem, ⟨12, _⟩ => ⟨S4x128x1024, .f32⟩
  | .local _ .vmem, ⟨13, _⟩ => ⟨S4x128x1024, .f32⟩
  | .local _ .vmem, ⟨14, _⟩ => ⟨S4x128x256, .f32⟩
  | .local _ .vmem, ⟨15, _⟩ => ⟨S128x1024, .f32⟩
  | .local _ .vmem, ⟨16, _⟩ => ⟨S3x128x1024, .bf16⟩
  | .local _ .vmem, ⟨17, _⟩ => ⟨S128x1024, .f32⟩
  | .local _ .vmem, ⟨18, _⟩ => ⟨S3x128x1024, .bf16⟩
  | .local _ .vmem, ⟨19, _⟩ => ⟨S128x256, .f32⟩
  | .local _ .vmem, ⟨20, _⟩ => ⟨S3x128x256, .bf16⟩
  | .local _ .smem, ⟨0, _⟩ => ⟨S4, .i32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S4_S1_0 : ∀ a, (![0] : Fin 1 → Nat) a + S1.size a ≤ S4.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S4) ![0] S1.size inb_S4_S1_0) numel1_S1
  let c1_i32 : BitVec 32 := 1#32
  let v1 : BitVec 32 := Scalar.muli v0 c1_i32
  let v2 : BitVec 32 := Scalar.addi v1 arg0
  let c0_i32 : BitVec 32 := 0#32
  let c0_i32_0 : BitVec 32 := 0#32
  ![v2.toNat, c0_i32.toNat]

def cc0_transform_1 (inb_S4_S1_1 : ∀ a, (![1] : Fin 1 → Nat) a + S1.size a ≤ S4.size a) (numel1_S1 : S1.numel = 1) (pf : pre0.Contents (Elt F)) (i : grid0.Coords) : Fin 2 → Nat :=
  let arg0 : BitVec 32 := BitVec.ofNat 32 (i 0).val
  let c1 : Index := 1#32
  let v0 : BitVec 32 := pf.at 0 (Rect.unit (s := S4) ![1] S1.size inb_S4_S1_1) numel1_S1
  let c1_i32 : BitVec 32 := 1#32
  let v1 : BitVec 32 := Scalar.muli v0 c1_i32
  let v2 : BitVec 32 := Scalar.addi v1 arg0
  let c0_i32 : BitVec 32 := 0#32
  let c0_i32_0 : BitVec 32 := 0#32
  ![v2.toNat, c0_i32.toNat]

def cc0_transform_2 (inb_S4_S1_2 : ∀ a, (![2] : Fin 1 → Nat) a + S1.size a ≤ S4.size a) (numel1_S1 : S1.numel = 1) (pf : pre0.Contents (Elt F)) (i : grid0.Coords) : Fin 2 → Nat :=
  let arg0 : BitVec 32 := BitVec.ofNat 32 (i 0).val
  let c2 : Index := 2#32
  let v0 : BitVec 32 := pf.at 0 (Rect.unit (s := S4) ![2] S1.size inb_S4_S1_2) numel1_S1
  let c1_i32 : BitVec 32 := 1#32
  let v1 : BitVec 32 := Scalar.muli v0 c1_i32
  let v2 : BitVec 32 := Scalar.addi v1 arg0
  let c0_i32 : BitVec 32 := 0#32
  let c0_i32_0 : BitVec 32 := 0#32
  ![v2.toNat, c0_i32.toNat]

def cc0_transform_3 (inb_S4_S1_3 : ∀ a, (![3] : Fin 1 → Nat) a + S1.size a ≤ S4.size a) (numel1_S1 : S1.numel = 1) (pf : pre0.Contents (Elt F)) (i : grid0.Coords) : Fin 2 → Nat :=
  let arg0 : BitVec 32 := BitVec.ofNat 32 (i 0).val
  let c3 : Index := 3#32
  let v0 : BitVec 32 := pf.at 0 (Rect.unit (s := S4) ![3] S1.size inb_S4_S1_3) numel1_S1
  let c1_i32 : BitVec 32 := 1#32
  let v1 : BitVec 32 := Scalar.muli v0 c1_i32
  let v2 : BitVec 32 := Scalar.addi v1 arg0
  let c0_i32 : BitVec 32 := 0#32
  let c0_i32_0 : BitVec 32 := 0#32
  ![v2.toNat, c0_i32.toNat]

def cc0_transform_4 (inb_S4_S1_0 : ∀ a, (![0] : Fin 1 → Nat) a + S1.size a ≤ S4.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S4) ![0] S1.size inb_S4_S1_0) numel1_S1
  let c1_i32 : BitVec 32 := 1#32
  let v1 : BitVec 32 := Scalar.muli v0 c1_i32
  let v2 : BitVec 32 := Scalar.addi v1 arg0
  let c0_i32 : BitVec 32 := 0#32
  let c0_i32_0 : BitVec 32 := 0#32
  ![v2.toNat, c0_i32.toNat]

def cc0_transform_5 (inb_S4_S1_1 : ∀ a, (![1] : Fin 1 → Nat) a + S1.size a ≤ S4.size a) (numel1_S1 : S1.numel = 1) (pf : pre0.Contents (Elt F)) (i : grid0.Coords) : Fin 2 → Nat :=
  let arg0 : BitVec 32 := BitVec.ofNat 32 (i 0).val
  let c1 : Index := 1#32
  let v0 : BitVec 32 := pf.at 0 (Rect.unit (s := S4) ![1] S1.size inb_S4_S1_1) numel1_S1
  let c1_i32 : BitVec 32 := 1#32
  let v1 : BitVec 32 := Scalar.muli v0 c1_i32
  let v2 : BitVec 32 := Scalar.addi v1 arg0
  let c0_i32 : BitVec 32 := 0#32
  let c0_i32_0 : BitVec 32 := 0#32
  ![v2.toNat, c0_i32.toNat]

def cc0_transform_6 (inb_S4_S1_2 : ∀ a, (![2] : Fin 1 → Nat) a + S1.size a ≤ S4.size a) (numel1_S1 : S1.numel = 1) (pf : pre0.Contents (Elt F)) (i : grid0.Coords) : Fin 2 → Nat :=
  let arg0 : BitVec 32 := BitVec.ofNat 32 (i 0).val
  let c2 : Index := 2#32
  let v0 : BitVec 32 := pf.at 0 (Rect.unit (s := S4) ![2] S1.size inb_S4_S1_2) numel1_S1
  let c1_i32 : BitVec 32 := 1#32
  let v1 : BitVec 32 := Scalar.muli v0 c1_i32
  let v2 : BitVec 32 := Scalar.addi v1 arg0
  let c0_i32 : BitVec 32 := 0#32
  let c0_i32_0 : BitVec 32 := 0#32
  ![v2.toNat, c0_i32.toNat]

def cc0_transform_7 (inb_S4_S1_3 : ∀ a, (![3] : Fin 1 → Nat) a + S1.size a ≤ S4.size a) (numel1_S1 : S1.numel = 1) (pf : pre0.Contents (Elt F)) (i : grid0.Coords) : Fin 2 → Nat :=
  let arg0 : BitVec 32 := BitVec.ofNat 32 (i 0).val
  let c3 : Index := 3#32
  let v0 : BitVec 32 := pf.at 0 (Rect.unit (s := S4) ![3] S1.size inb_S4_S1_3) numel1_S1
  let c1_i32 : BitVec 32 := 1#32
  let v1 : BitVec 32 := Scalar.muli v0 c1_i32
  let v2 : BitVec 32 := Scalar.addi v1 arg0
  let c0_i32 : BitVec 32 := 0#32
  let c0_i32_0 : BitVec 32 := 0#32
  ![v2.toNat, c0_i32.toNat]

def cc0_transform_8 (inb_S4_S1_0 : ∀ a, (![0] : Fin 1 → Nat) a + S1.size a ≤ S4.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S4) ![0] S1.size inb_S4_S1_0) numel1_S1
  let c1_i32 : BitVec 32 := 1#32
  let v1 : BitVec 32 := Scalar.muli v0 c1_i32
  let v2 : BitVec 32 := Scalar.addi v1 arg0
  let c0_i32 : BitVec 32 := 0#32
  let c0_i32_0 : BitVec 32 := 0#32
  ![v2.toNat, c0_i32.toNat]

def cc0_transform_9 (inb_S4_S1_1 : ∀ a, (![1] : Fin 1 → Nat) a + S1.size a ≤ S4.size a) (numel1_S1 : S1.numel = 1) (pf : pre0.Contents (Elt F)) (i : grid0.Coords) : Fin 2 → Nat :=
  let arg0 : BitVec 32 := BitVec.ofNat 32 (i 0).val
  let c1 : Index := 1#32
  let v0 : BitVec 32 := pf.at 0 (Rect.unit (s := S4) ![1] S1.size inb_S4_S1_1) numel1_S1
  let c1_i32 : BitVec 32 := 1#32
  let v1 : BitVec 32 := Scalar.muli v0 c1_i32
  let v2 : BitVec 32 := Scalar.addi v1 arg0
  let c0_i32 : BitVec 32 := 0#32
  let c0_i32_0 : BitVec 32 := 0#32
  ![v2.toNat, c0_i32.toNat]

def cc0_transform_10 (inb_S4_S1_2 : ∀ a, (![2] : Fin 1 → Nat) a + S1.size a ≤ S4.size a) (numel1_S1 : S1.numel = 1) (pf : pre0.Contents (Elt F)) (i : grid0.Coords) : Fin 2 → Nat :=
  let arg0 : BitVec 32 := BitVec.ofNat 32 (i 0).val
  let c2 : Index := 2#32
  let v0 : BitVec 32 := pf.at 0 (Rect.unit (s := S4) ![2] S1.size inb_S4_S1_2) numel1_S1
  let c1_i32 : BitVec 32 := 1#32
  let v1 : BitVec 32 := Scalar.muli v0 c1_i32
  let v2 : BitVec 32 := Scalar.addi v1 arg0
  let c0_i32 : BitVec 32 := 0#32
  let c0_i32_0 : BitVec 32 := 0#32
  ![v2.toNat, c0_i32.toNat]

def cc0_transform_11 (inb_S4_S1_3 : ∀ a, (![3] : Fin 1 → Nat) a + S1.size a ≤ S4.size a) (numel1_S1 : S1.numel = 1) (pf : pre0.Contents (Elt F)) (i : grid0.Coords) : Fin 2 → Nat :=
  let arg0 : BitVec 32 := BitVec.ofNat 32 (i 0).val
  let c3 : Index := 3#32
  let v0 : BitVec 32 := pf.at 0 (Rect.unit (s := S4) ![3] S1.size inb_S4_S1_3) numel1_S1
  let c1_i32 : BitVec 32 := 1#32
  let v1 : BitVec 32 := Scalar.muli v0 c1_i32
  let v2 : BitVec 32 := Scalar.addi v1 arg0
  let c0_i32 : BitVec 32 := 0#32
  let c0_i32_0 : BitVec 32 := 0#32
  ![v2.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S128x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S128x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S4x128x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S4x128x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S4x128x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S128x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S3x128x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]

abbrev stage0_17 : Fin 1 → Memref sig .tc .vmem S128x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true]

abbrev stage0_18 : Fin 1 → Memref sig .tc .vmem S3x128x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true]

abbrev stage0_19 : Fin 1 → Memref sig .tc .vmem S128x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![true]

abbrev stage0_20 : Fin 1 → Memref sig .tc .vmem S3x128x256 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![true]
-- ==== PairRestRefIdeal.lean ====
abbrev S4 : Shape := ⟨1, ![4]⟩
abbrev S1024x1024 : Shape := ⟨2, ![1024, 1024]⟩
abbrev S1024x256 : Shape := ⟨2, ![1024, 256]⟩
abbrev S4x128x1024 : Shape := ⟨3, ![4, 128, 1024]⟩
abbrev S4x128x256 : Shape := ⟨3, ![4, 128, 256]⟩
abbrev S8x128x1024 : Shape := ⟨3, ![8, 128, 1024]⟩
abbrev S_ : Shape := ⟨0, ![]⟩
abbrev S4x1 : Shape := ⟨2, ![4, 1]⟩
abbrev S8x128x256 : Shape := ⟨3, ![8, 128, 256]⟩
abbrev S1x128x1024 : Shape := ⟨3, ![1, 128, 1024]⟩
abbrev S128x1024 : Shape := ⟨2, ![128, 1024]⟩
abbrev S3x128x1024 : Shape := ⟨3, ![3, 128, 1024]⟩
abbrev S1x128x256 : Shape := ⟨3, ![1, 128, 256]⟩
abbrev S128x256 : Shape := ⟨2, ![128, 256]⟩
abbrev S3x128x256 : Shape := ⟨3, ![3, 128, 256]⟩

abbrev nBuf : Space → Nat
  | .hbm => 52
  | .vmem => 0
  | .smem => 0
  | _ => 0

abbrev bufTy : (tb : Table) → Fin (tcTables nBuf tb) → BufTy
  | .hbm, ⟨0, _⟩ => ⟨S4, .i32⟩
  | .hbm, ⟨1, _⟩ => ⟨S1024x1024, .f32⟩
  | .hbm, ⟨2, _⟩ => ⟨S1024x1024, .f32⟩
  | .hbm, ⟨3, _⟩ => ⟨S1024x256, .f32⟩
  | .hbm, ⟨4, _⟩ => ⟨S4x128x1024, .f32⟩
  | .hbm, ⟨5, _⟩ => ⟨S4x128x1024, .f32⟩
  | .hbm, ⟨6, _⟩ => ⟨S4x128x256, .f32⟩
  | .hbm, ⟨7, _⟩ => ⟨S8x128x1024, .f32⟩
  | .hbm, ⟨8, _⟩ => ⟨S_, .i32⟩
  | .hbm, ⟨9, _⟩ => ⟨S4, .i32⟩
  | .hbm, ⟨10, _⟩ => ⟨S4, .i1⟩
  | .hbm, ⟨11, _⟩ => ⟨S_, .i32⟩
  | .hbm, ⟨12, _⟩ => ⟨S4, .i32⟩
  | .hbm, ⟨13, _⟩ => ⟨S4, .i32⟩
  | .hbm, ⟨14, _⟩ => ⟨S4, .i32⟩
  | .hbm, ⟨15, _⟩ => ⟨S4x1, .i32⟩
  | .hbm, ⟨16, _⟩ => ⟨S4x128x1024, .f32⟩
  | .hbm, ⟨17, _⟩ => ⟨S4x128x1024, .f32⟩
  | .hbm, ⟨18, _⟩ => ⟨S8x128x1024, .f32⟩
  | .hbm, ⟨19, _⟩ => ⟨S_, .i32⟩
  | .hbm, ⟨20, _⟩ => ⟨S4, .i32⟩
  | .hbm, ⟨21, _⟩ => ⟨S4, .i1⟩
  | .hbm, ⟨22, _⟩ => ⟨S_, .i32⟩
  | .hbm, ⟨23, _⟩ => ⟨S4, .i32⟩
  | .hbm, ⟨24, _⟩ => ⟨S4, .i32⟩
  | .hbm, ⟨25, _⟩ => ⟨S4, .i32⟩
  | .hbm, ⟨26, _⟩ => ⟨S4x1, .i32⟩
  | .hbm, ⟨27, _⟩ => ⟨S4x128x1024, .f32⟩
  | .hbm, ⟨28, _⟩ => ⟨S4x128x1024, .f32⟩
  | .hbm, ⟨29, _⟩ => ⟨S8x128x256, .f32⟩
  | .hbm, ⟨30, _⟩ => ⟨S_, .i32⟩
  | .hbm, ⟨31, _⟩ => ⟨S4, .i32⟩
  | .hbm, ⟨32, _⟩ => ⟨S4, .i1⟩
  | .hbm, ⟨33, _⟩ => ⟨S_, .i32⟩
  | .hbm, ⟨34, _⟩ => ⟨S4, .i32⟩
  | .hbm, ⟨35, _⟩ => ⟨S4, .i32⟩
  | .hbm, ⟨36, _⟩ => ⟨S4, .i32⟩
  | .hbm, ⟨37, _⟩ => ⟨S4x1, .i32⟩
  | .hbm, ⟨38, _⟩ => ⟨S4x128x256, .f32⟩
  | .hbm, ⟨39, _⟩ => ⟨S4x128x256, .f32⟩
  | .hbm, ⟨40, _⟩ => ⟨S1x128x1024, .f32⟩
  | .hbm, ⟨41, _⟩ => ⟨S128x1024, .f32⟩
  | .hbm, ⟨42, _⟩ => ⟨S3x128x1024, .f32⟩
  | .hbm, ⟨43, _⟩ => ⟨S3x128x1024, .bf16⟩
  | .hbm, ⟨44, _⟩ => ⟨S1x128x1024, .f32⟩
  | .hbm, ⟨45, _⟩ => ⟨S128x1024, .f32⟩
  | .hbm, ⟨46, _⟩ => ⟨S3x128x1024, .f32⟩
  | .hbm, ⟨47, _⟩ => ⟨S3x128x1024, .bf16⟩
  | .hbm, ⟨48, _⟩ => ⟨S1x128x256, .f32⟩
  | .hbm, ⟨49, _⟩ => ⟨S128x256, .f32⟩
  | .hbm, ⟨50, _⟩ => ⟨S3x128x256, .f32⟩
  | .hbm, ⟨51, _⟩ => ⟨S3x128x256, .bf16⟩
  | _, _ => ⟨S4, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Proof.GradHSum.lean ====
/-
  What a grid point of the hidden rows' gradient adds up: 34 products of a slab of 256 columns of the projection's
  gradient with the 256 weight rows that belong to it.

  The program adds the slabs in the order the gradient's array keeps them; `dh_at` says that at an index the sum is the
  one over the whole projection, slab after slab.
-/
import proofs.«01_k».proof.Proof.Gen.GradHIdeal.Frame
import Idealize.ShloMosaic.Lib.Pipeline.ValueKit

set_option maxRecDepth 16384

noncomputable section

open Idealize.ShloMosaic Idealize.ShloMosaic.TcCoe Idealize.SL.Sem
open Idealize.ShloMosaic.Pipeline (Dat)

namespace Cert.GradHIdeal.Rows

open Cert.GradHIdeal Cert.GradHIdeal.Gen

/-! The hidden rows' gradient of one block of 512 tokens, as the body composes it: each definition adds a few slabs. -/

def part1 (x : FVec Ideal S36x512x256 .bf16) (w : FVec Ideal S8704x1024 .bf16) : FVec Ideal S512x1024 .f32 :=
  k0_pay3 (F := Ideal)
    (View.ld (Val := Elt Ideal) (e' := .bf16) x (Rect.unit (s := S36x512x256) ![0, 0, 0] ![1, 512, 256] inb_S36x512x256_S1x512x256_0_0_0))
    (View.ld (Val := Elt Ideal) (e' := .bf16) w (Rect.unit (s := S8704x1024) ![2304, 0] ![256, 1024] inb_S8704x1024_S256x1024_2304_0))
    (View.ld (Val := Elt Ideal) (e' := .bf16) x (Rect.unit (s := S36x512x256) ![1, 0, 0] ![1, 512, 256] inb_S36x512x256_S1x512x256_1_0_0))
    (View.ld (Val := Elt Ideal) (e' := .bf16) w (Rect.unit (s := S8704x1024) ![2560, 0] ![256, 1024] inb_S8704x1024_S256x1024_2560_0))
    (View.ld (Val := Elt Ideal) (e' := .bf16) x (Rect.unit (s := S36x512x256) ![2, 0, 0] ![1, 512, 256] inb_S36x512x256_S1x512x256_2_0_0))
    (View.ld (Val := Elt Ideal) (e' := .bf16) w (Rect.unit (s := S8704x1024) ![2816, 0] ![256, 1024] inb_S8704x1024_S256x1024_2816_0))
    (View.ld (Val := Elt Ideal) (e' := .bf16) x (Rect.unit (s := S36x512x256) ![3, 0, 0] ![1, 512, 256] inb_S36x512x256_S1x512x256_3_0_0))
    (View.ld (Val := Elt Ideal) (e' := .bf16) w (Rect.unit (s := S8704x1024) ![3072, 0] ![256, 1024] inb_S8704x1024_S256x1024_3072_0))
    (View.ld (Val := Elt Ideal) (e' := .bf16) x (Rect.unit (s := S36x512x256) ![4, 0, 0] ![1, 512, 256] inb_S36x512x256_S1x512x256_4_0_0))
    (View.ld (Val := Elt Ideal) (e' := .bf16) w (Rect.unit (s := S8704x1024) ![3328, 0] ![256, 1024] inb_S8704x1024_S256x1024_3328_0))

def part2 (x : FVec Ideal S36x512x256 .bf16) (w : FVec Ideal S8704x1024 .bf16) : FVec Ideal S512x1024 .f32 :=
  k0_pay5 (F := Ideal)
    (part1 x w)
    (k0_pay4 (View.ld (Val := Elt Ideal) (e' := .bf16) x (Rect.unit (s := S36x512x256) ![5, 0, 0] ![1, 512, 256] inb_S36x512x256_S1x512x256_5_0_0)))
    (View.ld (Val := Elt Ideal) (e' := .bf16) w (Rect.unit (s := S8704x1024) ![3584, 0] ![256, 1024] inb_S8704x1024_S256x1024_3584_0))
    (View.ld (Val := Elt Ideal) (e' := .bf16) x (Rect.unit (s := S36x512x256) ![6, 0, 0] ![1, 512, 256] inb_S36x512x256_S1x512x256_6_0_0))
    (View.ld (Val := Elt Ideal) (e' := .bf16) w (Rect.unit (s := S8704x1024) ![3840, 0] ![256, 1024] inb_S8704x1024_S256x1024_3840_0))
    (View.ld (Val := Elt Ideal) (e' := .bf16) x (Rect.unit (s := S36x512x256) ![7, 0, 0] ![1, 512, 256] inb_S36x512x256_S1x512x256_7_0_0))
    (View.ld (Val := Elt Ideal) (e' := .bf16) w (Rect.unit (s := S8704x1024) ![4096, 0] ![256, 1024] inb_S8704x1024_S256x1024_4096_0))
    (View.ld (Val := Elt Ideal) (e' := .bf16) x (Rect.unit (s := S36x512x256) ![8, 0, 0] ![1, 512, 256] inb_S36x512x256_S1x512x256_8_0_0))
    (View.ld (Val := Elt Ideal) (e' := .bf16) w (Rect.unit (s := S8704x1024) ![4352, 0] ![256, 1024] inb_S8704x1024_S256x1024_4352_0))
    (View.ld (Val := Elt Ideal) (e' := .bf16) x (Rect.unit (s := S36x512x256) ![9, 0, 0] ![1, 512, 256] inb_S36x512x256_S1x512x256_9_0_0))
    (View.ld (Val := Elt Ideal) (e' := .bf16) w (Rect.unit (s := S8704x1024) ![4608, 0] ![256, 1024] inb_S8704x1024_S256x1024_4608_0))

def part3 (x : FVec Ideal S36x512x256 .bf16) (w : FVec Ideal S8704x1024 .bf16) : FVec Ideal S512x1024 .f32 :=
  k0_pay7 (F := Ideal)
    (part2 x w)
    (k0_pay6 (View.ld (Val := Elt Ideal) (e' := .bf16) x (Rect.unit (s := S36x512x256) ![10, 0, 0] ![1, 512, 256] inb_S36x512x256_S1x512x256_10_0_0)) (View.ld (Val := Elt Ideal) (e' := .bf16) w (Rect.unit (s := S8704x1024) ![4864, 0] ![256, 1024] inb_S8704x1024_S256x1024_4864_0)))
    (View.ld (Val := Elt Ideal) (e' := .bf16) x (Rect.unit (s := S36x512x256) ![11, 0, 0] ![1, 512, 256] inb_S36x512x256_S1x512x256_11_0_0))
    (View.ld (Val := Elt Ideal) (e' := .bf16) w (Rect.unit (s := S8704x1024) ![5120, 0] ![256, 1024] inb_S8704x1024_S256x1024_5120_0))
    (View.ld (Val := Elt Ideal) (e' := .bf16) x (Rect.unit (s := S36x512x256) ![12, 0, 0] ![1, 512, 256] inb_S36x512x256_S1x512x256_12_0_0))
    (View.ld (Val := Elt Ideal) (e' := .bf16) w (Rect.unit (s := S8704x1024) ![5376, 0] ![256, 1024] inb_S8704x1024_S256x1024_5376_0))
    (View.ld (Val := Elt Ideal) (e' := .bf16) x (Rect.unit (s := S36x512x256) ![13, 0, 0] ![1, 512, 256] inb_S36x512x256_S1x512x256_13_0_0))
    (View.ld (Val := Elt Ideal) (e' := .bf16) w (Rect.unit (s := S8704x1024) ![5632, 0] ![256, 1024] inb_S8704x1024_S256x1024_5632_0))
    (View.ld (Val := Elt Ideal) (e' := .bf16) x (Rect.unit (s := S36x512x256) ![14, 0, 0] ![1, 512, 256] inb_S36x512x256_S1x512x256_14_0_0))
    (View.ld (Val := Elt Ideal) (e' := .bf16) w (Rect.unit (s := S8704x1024) ![5888, 0] ![256, 1024] inb_S8704x1024_S256x1024_5888_0))
    (View.ld (Val := Elt Ideal) (e' := .bf16) x (Rect.unit (s := S36x512x256) ![15, 0, 0] ![1, 512, 256] inb_S36x512x256_S1x512x256_15_0_0))
    (View.ld (Val := Elt Ideal) (e' := .bf16) w (Rect.unit (s := S8704x1024) ![6144, 0] ![256, 1024] inb_S8704x1024_S256x1024_6144_0))

def part4 (x : FVec Ideal S36x512x256 .bf16) (w : FVec Ideal S8704x1024 .bf16) : FVec Ideal S512x1024 .f32 :=
  k0_pay8 (F := Ideal)
    (part3 x w)
    (View.ld (Val := Elt Ideal) (e' := .bf16) x (Rect.unit (s := S36x512x256) ![16, 0, 0] ![1, 512, 256] inb_S36x512x256_S1x512x256_16_0_0))
    (View.ld (Val := Elt Ideal) (e' := .bf16) w (Rect.unit (s := S8704x1024) ![6400, 0] ![256, 1024] inb_S8704x1024_S256x1024_6400_0))
    (View.ld (Val := Elt Ideal) (e' := .bf16) x (Rect.unit (s := S36x512x256) ![17, 0, 0] ![1, 512, 256] inb_S36x512x256_S1x512x256_17_0_0))
    (View.ld (Val := Elt Ideal) (e' := .bf16) w (Rect.unit (s := S8704x1024) ![6656, 0] ![256, 1024] inb_S8704x1024_S256x1024_6656_0))
    (View.ld (Val := Elt Ideal) (e' := .bf16) x (Rect.unit (s := S36x512x256) ![18, 0, 0] ![1, 512, 256] inb_S36x512x256_S1x512x256_18_0_0))
    (View.ld (Val := Elt Ideal) (e' := .bf16) w (Rect.unit (s := S8704x1024) ![6912, 0] ![256, 1024] inb_S8704x1024_S256x1024_6912_0))
    (View.ld (Val := Elt Ideal) (e' := .bf16) x (Rect.unit (s := S36x512x256) ![19, 0, 0] ![1, 512, 256] inb_S36x512x256_S1x512x256_19_0_0))
    (View.ld (Val := Elt Ideal) (e' := .bf16) w (Rect.unit (s := S8704x1024) ![7168, 0] ![256, 1024] inb_S8704x1024_S256x1024_7168_0))
    (View.ld (Val := Elt Ideal) (e' := .bf16) x (Rect.unit (s := S36x512x256) ![20, 0, 0] ![1, 512, 256] inb_S36x512x256_S1x512x256_20_0_0))
    (View.ld (Val := Elt Ideal) (e' := .bf16) w (Rect.unit (s := S8704x1024) ![7424, 0] ![256, 1024] inb_S8704x1024_S256x1024_7424_0))

def part5 (x : FVec Ideal S36x512x256 .bf16) (w : FVec Ideal S8704x1024 .bf16) : FVec Ideal S512x1024 .f32 :=
  k0_pay10 (F := Ideal)
    (part4 x w)
    (k0_pay9 (View.ld (Val := Elt Ideal) (e' := .bf16) x (Rect.unit (s := S36x512x256) ![21, 0, 0] ![1, 512, 256] inb_S36x512x256_S1x512x256_21_0_0)))
    (View.ld (Val := Elt Ideal) (e' := .bf16) w (Rect.unit (s := S8704x1024) ![7680, 0] ![256, 1024] inb_S8704x1024_S256x1024_7680_0))
    (constant S512x1024 .f32 0x00000000#32)
    (View.ld (Val := Elt Ideal) (e' := .bf16) x (Rect.unit (s := S36x512x256) ![22, 0, 0] ![1, 512, 256] inb_S36x512x256_S1x512x256_22_0_0))
    (View.ld (Val := Elt Ideal) (e' := .bf16) w (Rect.unit (s := S8704x1024) ![7936, 0] ![256, 1024] inb_S8704x1024_S256x1024_7936_0))
    (View.ld (Val := Elt Ideal) (e' := .bf16) x (Rect.unit (s := S36x512x256) ![23, 0, 0] ![1, 512, 256] inb_S36x512x256_S1x512x256_23_0_0))
    (View.ld (Val := Elt Ideal) (e' := .bf16) w (Rect.unit (s := S8704x1024) ![8192, 0] ![256, 1024] inb_S8704x1024_S256x1024_8192_0))
    (View.ld (Val := Elt Ideal) (e' := .bf16) x (Rect.unit (s := S36x512x256) ![24, 0, 0] ![1, 512, 256] inb_S36x512x256_S1x512x256_24_0_0))
    (View.ld (Val := Elt Ideal) (e' := .bf16) w (Rect.unit (s := S8704x1024) ![8448, 0] ![256, 1024] inb_S8704x1024_S256x1024_8448_0))
    (View.ld (Val := Elt Ideal) (e' := .bf16) x (Rect.unit (s := S36x512x256) ![27, 0, 0] ![1, 512, 256] inb_S36x512x256_S1x512x256_27_0_0))
    (View.ld (Val := Elt Ideal) (e' := .bf16) w (Rect.unit (s := S8704x1024) ![0, 0] ![256, 1024] inb_S8704x1024_S256x1024_0_0))
    (View.ld (Val := Elt Ideal) (e' := .bf16) x (Rect.unit (s := S36x512x256) ![28, 0, 0] ![1, 512, 256] inb_S36x512x256_S1x512x256_28_0_0))
    (View.ld (Val := Elt Ideal) (e' := .bf16) w (Rect.unit (s := S8704x1024) ![256, 0] ![256, 1024] inb_S8704x1024_S256x1024_256_0))

def part6 (x : FVec Ideal S36x512x256 .bf16) (w : FVec Ideal S8704x1024 .bf16) : FVec Ideal S512x1024 .f32 :=
  k0_pay11 (F := Ideal)
    (part5 x w)
    (View.ld (Val := Elt Ideal) (e' := .bf16) x (Rect.unit (s := S36x512x256) ![29, 0, 0] ![1, 512, 256] inb_S36x512x256_S1x512x256_29_0_0))
    (View.ld (Val := Elt Ideal) (e' := .bf16) w (Rect.unit (s := S8704x1024) ![512, 0] ![256, 1024] inb_S8704x1024_S256x1024_512_0))
    (View.ld (Val := Elt Ideal) (e' := .bf16) x (Rect.unit (s := S36x512x256) ![30, 0, 0] ![1, 512, 256] inb_S36x512x256_S1x512x256_30_0_0))
    (View.ld (Val := Elt Ideal) (e' := .bf16) w (Rect.unit (s := S8704x1024) ![768, 0] ![256, 1024] inb_S8704x1024_S256x1024_768_0))
    (View.ld (Val := Elt Ideal) (e' := .bf16) x (Rect.unit (s := S36x512x256) ![31, 0, 0] ![1, 512, 256] inb_S36x512x256_S1x512x256_31_0_0))
    (View.ld (Val := Elt Ideal) (e' := .bf16) w (Rect.unit (s := S8704x1024) ![1024, 0] ![256, 1024] inb_S8704x1024_S256x1024_1024_0))
    (View.ld (Val := Elt Ideal) (e' := .bf16) x (Rect.unit (s := S36x512x256) ![32, 0, 0] ![1, 512, 256] inb_S36x512x256_S1x512x256_32_0_0))
    (View.ld (Val := Elt Ideal) (e' := .bf16) w (Rect.unit (s := S8704x1024) ![1280, 0] ![256, 1024] inb_S8704x1024_S256x1024_1280_0))
    (View.ld (Val := Elt Ideal) (e' := .bf16) x (Rect.unit (s := S36x512x256) ![33, 0, 0] ![1, 512, 256] inb_S36x512x256_S1x512x256_33_0_0))
    (View.ld (Val := Elt Ideal) (e' := .bf16) w (Rect.unit (s := S8704x1024) ![1536, 0] ![256, 1024] inb_S8704x1024_S256x1024_1536_0))

def dh (x : FVec Ideal S36x512x256 .bf16) (w : FVec Ideal S8704x1024 .bf16) : FVec Ideal S512x1024 .f32 :=
  k0_pay13 (F := Ideal)
    (part6 x w)
    (k0_pay12 (View.ld (Val := Elt Ideal) (e' := .bf16) x (Rect.unit (s := S36x512x256) ![34, 0, 0] ![1, 512, 256] inb_S36x512x256_S1x512x256_34_0_0)))
    (View.ld (Val := Elt Ideal) (e' := .bf16) w (Rect.unit (s := S8704x1024) ![1792, 0] ![256, 1024] inb_S8704x1024_S256x1024_1792_0))
    (View.ld (Val := Elt Ideal) (e' := .bf16) x (Rect.unit (s := S36x512x256) ![35, 0, 0] ![1, 512, 256] inb_S36x512x256_S1x512x256_35_0_0))
    (View.ld (Val := Elt Ideal) (e' := .bf16) w (Rect.unit (s := S8704x1024) ![2048, 0] ![256, 1024] inb_S8704x1024_S256x1024_2048_0))

/-- Row `r` of the gradient against column `l` of the weights, over the projection's columns `256 p … 256 p + 255`. -/
def slabDot (x : FVec Ideal S36x512x256 .bf16) (w : FVec Ideal S8704x1024 .bf16) (r : Fin 512) (l : Fin 1024)
    (p : Fin 34) : EReal :=
  ∑ k : Fin 256, x (ix3 ⟨(p.val + 27) % 36, Nat.mod_lt _ (by decide)⟩ r k) * w (ix2 ⟨256 * p.val + k.val, by omega⟩ l)

/-- The same sum as the body reads it. -/
theorem slabDot_of (x : FVec Ideal S36x512x256 .bf16) (w : FVec Ideal S8704x1024 .bf16) (r : Fin 512) (l : Fin 1024)
    (s : Fin 36) (p : Fin 34) (b : Fin 256 → Fin 8704) (hs : s.val = (p.val + 27) % 36)
    (hb : ∀ k, (b k).val = 256 * p.val + k.val) :
    ∑ k : Fin 256, x (ix3 s r k) * w (ix2 (b k) l) = slabDot x w r l p := by
  refine Finset.sum_congr rfl fun k _ => ?_
  rw [show s = ⟨(p.val + 27) % 36, Nat.mod_lt _ (by decide)⟩ from Fin.ext hs,
    show b k = ⟨256 * p.val + k.val, by omega⟩ from Fin.ext (hb k)]

/-- The order of the array (slabs 9 … 33, then 0 … 8) is one order of the sum. -/
theorem sum_rotated (f : Fin 34 → EReal) :
    f 9 + f 10 + f 11 + f 12 + f 13 + f 14 + f 15 + f 16 + f 17 + f 18 + f 19 + f 20 + f 21 + f 22 + f 23 + f 24 + f 25 + f 26
      + f 27 + f 28 + f 29 + f 30 + f 31 + f 32 + f 33 + f 0 + f 1 + f 2 + f 3 + f 4 + f 5 + f 6 + f 7 + f 8 = ∑ p : Fin 34, f p := by
  have e : ∑ p : Fin 34, f p = ∑ n ∈ Finset.range (9 + 25), (fun n => if h : n < 34 then f ⟨n, h⟩ else 0) n :=
    (Finset.sum_congr rfl fun p _ => by rw [dif_pos p.isLt]).trans
      (Fin.sum_univ_eq_sum_range (fun n => if h : n < 34 then f ⟨n, h⟩ else 0) 34)
  refine Eq.trans ?_ ((e.trans (Finset.sum_range_add _ 9 25)).trans (add_comm _ _)).symm
  simp only [Finset.sum_range_succ, Finset.sum_range_zero, zero_add, ← add_assoc]
  rfl

theorem part1_at (x : FVec Ideal S36x512x256 .bf16) (w : FVec Ideal S8704x1024 .bf16) (r : Fin 512) (l : Fin 1024) :
    part1 x w (ix2 r l) = slabDot x w r l 9 + slabDot x w r l 10 + slabDot x w r l 11 + slabDot x w r l 12 + slabDot x w r l 13 := by
  pointwise [part1, k0_pay3]
  refine congrArg₂ (fun a b : EReal => a + b) ?_ (slabDot_of x w r l _ _ _ (by decide) fun k => by first | rfl | simp)
  refine congrArg₂ (fun a b : EReal => a + b) ?_ (slabDot_of x w r l _ _ _ (by decide) fun k => by first | rfl | simp)
  refine congrArg₂ (fun a b : EReal => a + b) ?_ (slabDot_of x w r l _ _ _ (by decide) fun k => by first | rfl | simp)
  refine congrArg₂ (fun a b : EReal => a + b) ?_ (slabDot_of x w r l _ _ _ (by decide) fun k => by first | rfl | simp)
  exact slabDot_of x w r l _ _ _ (by decide) fun k => by first | rfl | simp

theorem part2_at (x : FVec Ideal S36x512x256 .bf16) (w : FVec Ideal S8704x1024 .bf16) (r : Fin 512) (l : Fin 1024) :
    part2 x w (ix2 r l) = part1 x w (ix2 r l) + slabDot x w r l 14 + slabDot x w r l 15 + slabDot x w r l 16 + slabDot x w r l 17 + slabDot x w r l 18 := by
  pointwise [part2, k0_pay4, k0_pay5]
  refine congrArg₂ (fun a b : EReal => a + b) ?_ (slabDot_of x w r l _ _ _ (by decide) fun k => by first | rfl | simp)
  refine congrArg₂ (fun a b : EReal => a + b) ?_ (slabDot_of x w r l _ _ _ (by decide) fun k => by first | rfl | simp)
  refine congrArg₂ (fun a b : EReal => a + b) ?_ (slabDot_of x w r l _ _ _ (by decide) fun k => by first | rfl | simp)
  refine congrArg₂ (fun a b : EReal => a + b) ?_ (slabDot_of x w r l _ _ _ (by decide) fun k => by first | rfl | simp)
  refine congrArg₂ (fun a b : EReal => a + b) ?_ (slabDot_of x w r l _ _ _ (by decide) fun k => by first | rfl | simp)
  rfl

theorem part3_at (x : FVec Ideal S36x512x256 .bf16) (w : FVec Ideal S8704x1024 .bf16) (r : Fin 512) (l : Fin 1024) :
    part3 x w (ix2 r l) = part2 x w (ix2 r l) + slabDot x w r l 19 + slabDot x w r l 20 + slabDot x w r l 21 + slabDot x w r l 22 + slabDot x w r l 23 + slabDot x w r l 24 := by
  pointwise [part3, k0_pay6, k0_pay7]
  refine congrArg₂ (fun a b : EReal => a + b) ?_ (slabDot_of x w r l _ _ _ (by decide) fun k => by first | rfl | simp)
  refine congrArg₂ (fun a b : EReal => a + b) ?_ (slabDot_of x w r l _ _ _ (by decide) fun k => by first | rfl | simp)
  refine congrArg₂ (fun a b : EReal => a + b) ?_ (slabDot_of x w r l _ _ _ (by decide) fun k => by first | rfl | simp)
  refine congrArg₂ (fun a b : EReal => a + b) ?_ (slabDot_of x w r l _ _ _ (by decide) fun k => by first | rfl | simp)
  refine congrArg₂ (fun a b : EReal => a + b) ?_ (slabDot_of x w r l _ _ _ (by decide) fun k => by first | rfl | simp)
  refine congrArg₂ (fun a b : EReal => a + b) ?_ (slabDot_of x w r l _ _ _ (by decide) fun k => by first | rfl | simp)
  rfl

theorem part4_at (x : FVec Ideal S36x512x256 .bf16) (w : FVec Ideal S8704x1024 .bf16) (r : Fin 512) (l : Fin 1024) :
    part4 x w (ix2 r l) = part3 x w (ix2 r l) + slabDot x w r l 25 + slabDot x w r l 26 + slabDot x w r l 27 + slabDot x w r l 28 + slabDot x w r l 29 := by
  pointwise [part4, k0_pay8]
  refine congrArg₂ (fun a b : EReal => a + b) ?_ (slabDot_of x w r l _ _ _ (by decide) fun k => by first | rfl | simp)
  refine congrArg₂ (fun a b : EReal => a + b) ?_ (slabDot_of x w r l _ _ _ (by decide) fun k => by first | rfl | simp)
  refine congrArg₂ (fun a b : EReal => a + b) ?_ (slabDot_of x w r l _ _ _ (by decide) fun k => by first | rfl | simp)
  refine congrArg₂ (fun a b : EReal => a + b) ?_ (slabDot_of x w r l _ _ _ (by decide) fun k => by first | rfl | simp)
  refine congrArg₂ (fun a b : EReal => a + b) ?_ (slabDot_of x w r l _ _ _ (by decide) fun k => by first | rfl | simp)
  rfl

theorem part5_at (x : FVec Ideal S36x512x256 .bf16) (w : FVec Ideal S8704x1024 .bf16) (r : Fin 512) (l : Fin 1024) :
    part5 x w (ix2 r l) = part4 x w (ix2 r l) + slabDot x w r l 30 + slabDot x w r l 31 + slabDot x w r l 32 + slabDot x w r l 33 + slabDot x w r l 0 + slabDot x w r l 1 := by
  pointwise [part5, k0_pay10, k0_pay9]
  refine congrArg₂ (fun a b : EReal => a + b) ?_ (slabDot_of x w r l _ _ _ (by decide) fun k => by first | rfl | simp)
  refine congrArg₂ (fun a b : EReal => a + b) ?_ (slabDot_of x w r l _ _ _ (by decide) fun k => by first | rfl | simp)
  refine congrArg₂ (fun a b : EReal => a + b) ?_ (slabDot_of x w r l _ _ _ (by decide) fun k => by first | rfl | simp)
  refine congrArg₂ (fun a b : EReal => a + b) ?_ (slabDot_of x w r l _ _ _ (by decide) fun k => by first | rfl | simp)
  refine congrArg₂ (fun a b : EReal => a + b) ?_ (slabDot_of x w r l _ _ _ (by decide) fun k => by first | rfl | simp)
  refine congrArg₂ (fun a b : EReal => a + b) ?_ (slabDot_of x w r l _ _ _ (by decide) fun k => by first | rfl | simp)
  rfl

theorem part6_at (x : FVec Ideal S36x512x256 .bf16) (w : FVec Ideal S8704x1024 .bf16) (r : Fin 512) (l : Fin 1024) :
    part6 x w (ix2 r l) = part5 x w (ix2 r l) + slabDot x w r l 2 + slabDot x w r l 3 + slabDot x w r l 4 + slabDot x w r l 5 + slabDot x w r l 6 := by
  pointwise [part6, k0_pay11]
  refine congrArg₂ (fun a b : EReal => a + b) ?_ (slabDot_of x w r l _ _ _ (by decide) fun k => by first | rfl | simp)
  refine congrArg₂ (fun a b : EReal => a + b) ?_ (slabDot_of x w r l _ _ _ (by decide) fun k => by first | rfl | simp)
  refine congrArg₂ (fun a b : EReal => a + b) ?_ (slabDot_of x w r l _ _ _ (by decide) fun k => by first | rfl | simp)
  refine congrArg₂ (fun a b : EReal => a + b) ?_ (slabDot_of x w r l _ _ _ (by decide) fun k => by first | rfl | simp)
  refine congrArg₂ (fun a b : EReal => a + b) ?_ (slabDot_of x w r l _ _ _ (by decide) fun k => by first | rfl | simp)
  rfl

theorem dh_at (x : FVec Ideal S36x512x256 .bf16) (w : FVec Ideal S8704x1024 .bf16) (r : Fin 512) (l : Fin 1024) :
    dh x w (ix2 r l) = part6 x w (ix2 r l) + slabDot x w r l 7 + slabDot x w r l 8 := by
  pointwise [dh, k0_pay12, k0_pay13]
  refine congrArg₂ (fun a b : EReal => a + b) ?_ (slabDot_of x w r l _ _ _ (by decide) fun k => by first | rfl | simp)
  refine congrArg₂ (fun a b : EReal => a + b) ?_ (slabDot_of x w r l _ _ _ (by decide) fun k => by first | rfl | simp)
  rfl

/-- The block's gradient at an index: the sum over the whole projection. -/
theorem dh_sum (x : FVec Ideal S36x512x256 .bf16) (w : FVec Ideal S8704x1024 .bf16) (r : Fin 512) (l : Fin 1024) :
    dh x w (ix2 r l) = ∑ p : Fin 34, slabDot x w r l p := by
  rw [dh_at, part6_at, part5_at, part4_at, part3_at, part2_at, part1_at]
  exact sum_rotated (slabDot x w r l)

end Cert.GradHIdeal.Rows
-- ==== Proof.GradHValue.lean ====
/-
  The gradients of the hidden rows and of the layer's shift and scale, block by block.

  A grid point holds 512 tokens of one batch element. `dh_eq`: the block's sum of products is the reference's
  contraction over the whole projection. The point stores `gx0 + dh (1 + scale)` and adds the block's rows of eight of
  `dh` and `dh x` into the two halves of a block that four points of one batch element share; the reference sums the 256
  rows of eight of the element at once. `final5` and `final6`: both arrays after the run are the reference's terms.
-/
import proofs.«01_k».proof.Proof.GradHSum
import proofs.«01_k».proof.Proof.Gen.GradHRefIdeal.Read
import Idealize.ShloMosaic.Lib.Pipeline.ReadBack

set_option maxRecDepth 16384

noncomputable section

open Idealize.ShloMosaic Idealize.ShloMosaic.TcCoe Idealize.SL.Sem
open Idealize.ShloMosaic.Pipeline (Dat)

namespace Cert.GradHRefIdeal.Rows

open Cert.GradHRefIdeal Cert.GradHRefIdeal.Gen Cert.GradHRefIdeal.Read

/-- The slabs in the order of the projection's columns. -/
theorem cols_at (x : FVec Ideal S36x4096x256 .bf16) (p : Fin 34) (k : Fin 4096) (r : Fin 256) :
    val_main_v20 (F := Ideal) x (ix3 p k r) = x (ix3 ⟨(p.val + 27) % 36, Nat.mod_lt _ (by decide)⟩ k r) := by
  pointwise [val_main_v20, val_main_v19, val_main_v18]
  by_cases h : p.val < 9
  · rw [dif_pos h]
    exact congrArg (fun v => x (ix3 v k r)) (Fin.ext (by show _ = (p.val + 27) % 36; simp only []; omega))
  · rw [dif_neg h]
    exact congrArg (fun v => x (ix3 v k r)) (Fin.ext (by show _ = (p.val + 27) % 36; simp only []; omega))

/-- The reference's contraction, slab after slab. -/
theorem dot_at (x : FVec Ideal S36x4096x256 .bf16) (w : FVec Ideal S8704x1024 .bf16) (i : S2x256x8x1024.Idx)
    (R : Fin 4096) (l : Fin 1024) (hR : R.val = ((i 0).val * 256 + (i 1).val) * 8 + (i 2).val) (hl : l.val = (i 3).val) :
    ∑ p : Fin 34, ∑ k : Fin 256,
        x (ix3 ⟨(p.val + 27) % 36, Nat.mod_lt _ (by decide)⟩ R k) * w (ix2 ⟨256 * p.val + k.val, by omega⟩ l)
      = val_main_v26 (F := Ideal) x w i := by
  rw [val_main_v26_apply]
  refine Fin.sum_mul_add_congr fun p k hk => ?_
  rw [val_main_v25_apply, val_main_v23_apply, val_main_v22_apply, val_main_v21_apply, val_main_v14_apply, val_main_v13_apply]
  rw [← cols_at x p R k]
  refine congrArg₂ (fun u v : EReal => u * v) (congrArg (val_main_v20 (F := Ideal) x) ?_) (congrArg w ?_)
  · blk_ext
  · blk_ext

theorem scale_at (a : FVec Ideal S2x3x1024 .f32) (i : S2x256x8x1024.Idx) :
    val_main_v32 (F := Ideal) a i = 1 + a (ix3 (i 0) (1 : Fin 3) (i 3)) := by
  pointwise [val_main_v32, val_main_v8, val_main_v7, val_main_cst, val_main_v6, val_main_v5, val_main_v4]

theorem gx_at (x : FVec Ideal S36x4096x256 .bf16) (w : FVec Ideal S8704x1024 .bf16) (g : FVec Ideal S4096x1024 .f32)
    (a : FVec Ideal S2x3x1024 .f32) (j : S4096x1024.Idx) (i : S2x256x8x1024.Idx)
    (h0 : (j 0).val = ((i 0).val * 256 + (i 1).val) * 8 + (i 2).val) (h1 : (j 1).val = (i 3).val) :
    val_main_v35 (F := Ideal) x w g a j
      = g j + val_main_v26 (F := Ideal) x w i * (1 + a (ix3 (i 0) (1 : Fin 3) (i 3))) := by
  have hi : idx_main_v35 j = i := by blk_ext
  have hj : idx_main_v24 i = j := by blk_ext
  rw [val_main_v35_apply, hi, val_main_v34_apply, val_main_v33_apply, val_main_v24_apply, hj, scale_at]
  rfl

theorem dss_at (x : FVec Ideal S36x4096x256 .bf16) (w : FVec Ideal S8704x1024 .bf16) (X : FVec Ideal S4096x1024 .f32)
    (j : S2x2x8x1024.Idx) :
    val_main_v36 (F := Ideal) x w X j
      = if (j 1).val = 0 then ∑ s : Fin 256, val_main_v26 (F := Ideal) x w (ix4 (j 0) s (j 2) (j 3))
        else ∑ s : Fin 256, val_main_v26 (F := Ideal) x w (ix4 (j 0) s (j 2) (j 3))
          * X (ix2 ⟨((j 0).val * 256 + s.val) * 8 + (j 2).val, by
              have h0 : (j 0).val < 2 := (j 0).isLt
              have h2 : (j 2).val < 8 := (j 2).isLt
              omega⟩ (j 3)) := by
  have z0 : val_main_cst_0 (F := Ideal) (Shape.Idx.first h_S_) = (0 : EReal) := by pointwise [val_main_cst_0]
  have z1 : val_main_cst_1 (F := Ideal) (Shape.Idx.first h_S_) = (0 : EReal) := by pointwise [val_main_cst_1]
  have hj : (j 1).val < 2 := (j 1).isLt
  pointwise [val_main_v36]
  by_cases h : (j 1).val = 0
  · rw [if_pos h, dif_pos (by omega), val_main_v28_apply, val_main_v27_apply, z0]
    refine (zero_add _).trans (Finset.sum_congr rfl fun s _ => congrArg (val_main_v26 (F := Ideal) x w) ?_)
    blk_ext
  · rw [if_neg h, dif_neg (by omega), val_main_v31_apply, val_main_v30_apply, z1]
    refine (zero_add _).trans (Finset.sum_congr rfl fun s _ => ?_)
    rw [val_main_v29_apply, val_main_v0_apply]
    refine (mul_comm _ _).trans (congrArg₂ (fun u v : EReal => u * v) (congrArg (val_main_v26 (F := Ideal) x w) ?_) (congrArg X ?_))
    · blk_ext
    · blk_ext

end Cert.GradHRefIdeal.Rows

namespace Cert.GradHIdeal.Rows

open Cert.GradHIdeal Cert.GradHIdeal.Gen

variable (m : (ℓ : Loc nD τ sig) → Buf (Elt Ideal) ℓ)

theorem idx : ∀ t : Fin cfg0.N, win0_0.index t = ![0, t.val, 0] ∧ win0_1.index t = ![0, 0] ∧ win0_2.index t = ![t.val, 0]
    ∧ win0_3.index t = ![t.val, 0] ∧ win0_4.index t = ![t.val / 4, 0, 0] ∧ win0_5.index t = ![t.val, 0]
    ∧ win0_6.index t = ![t.val / 4, 0, 0, 0] ∧ t.val < 8 :=
  (by decide +kernel : ∀ t : Fin grid0.N, _)

/-- The block's sum is the reference's contraction at the block's tokens. -/
theorem dh_eq (c : Dev nD) (t : Fin cfg0.N) (r : Fin 512) (l : Fin 1024) (i : Cert.GradHRefIdeal.S2x256x8x1024.Idx)
    (hR : 512 * t.val + r.val = ((i 0).val * 256 + (i 1).val) * 8 + (i 2).val) (hl : l.val = (i 3).val) :
    dh (iblk m c 0 t) (iblk m c 1 t) (ix2 r l)
      = Cert.GradHRefIdeal.Read.val_main_v26 (F := Ideal) (m ((c : Thread nD τ).loc main_arg0))
          (m ((c : Thread nD τ).loc main_arg1)) i := by
  obtain ⟨e0, e1, e2, e3, e4, e5, e6, ht⟩ := idx t
  rw [dh_sum, ← Cert.GradHRefIdeal.Rows.dot_at _ _ i ⟨512 * t.val + r.val, by omega⟩ l hR hl]
  refine Fin.sum_fin_congr fun p => ?_
  unfold slabDot
  refine Fin.sum_fin_congr fun k => ?_
  blk_point [iblk, V, e0, e1]

/-- What the point stores of the tokens' gradient. -/
def gxBlock (x : FVec Ideal S36x512x256 .bf16) (w : FVec Ideal S8704x1024 .bf16) (g : FVec Ideal S512x1024 .f32)
    (a : FVec Ideal S1x1x1024 .f32) : FVec Ideal S512x1024 .f32 :=
  k0_pay14 (F := Ideal)
    (part6 x w)
    (k0_pay12 (View.ld (Val := Elt Ideal) (e' := .bf16) x (Rect.unit (s := S36x512x256) ![34, 0, 0] ![1, 512, 256] inb_S36x512x256_S1x512x256_34_0_0)))
    (View.ld (Val := Elt Ideal) (e' := .bf16) w (Rect.unit (s := S8704x1024) ![1792, 0] ![256, 1024] inb_S8704x1024_S256x1024_1792_0))
    (View.ld (Val := Elt Ideal) (e' := .bf16) x (Rect.unit (s := S36x512x256) ![35, 0, 0] ![1, 512, 256] inb_S36x512x256_S1x512x256_35_0_0))
    (View.ld (Val := Elt Ideal) (e' := .bf16) w (Rect.unit (s := S8704x1024) ![2048, 0] ![256, 1024] inb_S8704x1024_S256x1024_2048_0))
    g a

theorem gxBlock_at (x : FVec Ideal S36x512x256 .bf16) (w : FVec Ideal S8704x1024 .bf16) (g : FVec Ideal S512x1024 .f32)
    (a : FVec Ideal S1x1x1024 .f32) (r : Fin 512) (l : Fin 1024) :
    gxBlock x w g a (ix2 r l) = g (ix2 r l) + dh x w (ix2 r l) * (1 + a (ix3 (0 : Fin 1) (0 : Fin 1) l)) := by
  unfold gxBlock dh
  generalize part6 x w = P
  pointwise [k0_pay14]

/-- The stored block is the reference at the block's place. -/
theorem point5 (c : Dev nD) (t : Fin cfg0.N) (y : S512x1024.Idx) (j : S4096x1024.Idx)
    (h0 : (j 0).val = 512 * t.val + (y 0).val) (h1 : (j 1).val = (y 1).val) :
    gxBlock (iblk m c 0 t) (iblk m c 1 t) (iblk m c 2 t)
        (View.ld (Val := Elt Ideal) (e' := .f32) (iblk m c 4 t)
          (Rect.unit (s := S1x3x1024) ![0, 1, 0] ![1, 1, 1024] inb_S1x3x1024_S1x1x1024_0_1_0)) y
      = Cert.GradHRefIdeal.Read.val_main_v35 (F := Ideal) (m ((c : Thread nD τ).loc main_arg0))
          (m ((c : Thread nD τ).loc main_arg1)) (m ((c : Thread nD τ).loc main_arg2)) (m ((c : Thread nD τ).loc main_arg4)) j := by
  obtain ⟨e0, e1, e2, e3, e4, e5, e6, ht⟩ := idx t
  have hy : (y 0).val < 512 := (y 0).isLt
  obtain_idx i : Cert.GradHRefIdeal.S2x256x8x1024 := [(j 0 : ℕ) / 2048, (j 0 : ℕ) / 8 % 256, (j 0 : ℕ) % 8, (j 1 : ℕ)] with hi
  have g0 : (j 0).val = ((i 0).val * 256 + (i 1).val) * 8 + (i 2).val := by rw [hi0, hi1, hi2]; omega
  have g1 : (j 1).val = (i 3).val := hi3.symm
  rw [eq_ix2 y]
  refine (gxBlock_at _ _ _ _ (y 0) (y 1)).trans (Eq.trans ?_ (Cert.GradHRefIdeal.Rows.gx_at _ _ _ _ j i g0 g1).symm)
  refine congrArg₂ (fun u v : EReal => u + v) ?_ (congrArg₂ (fun u v : EReal => u * v) (dh_eq m c t (y 0) (y 1) i (h0.symm.trans g0) (h1.symm.trans g1))
    (congrArg (fun v : EReal => 1 + v) ?_))
  · blk_point [iblk, V, e2]
  · blk_point [iblk, V, e4]

theorem final5 (c : Dev nD) : (dats m 0 c).arrAt 5 (cfgs 0).N
    = Cert.GradHRefIdeal.Read.val_main_v35 (F := Ideal) (m ((c : Thread nD τ).loc main_arg0))
        (m ((c : Thread nD τ).loc main_arg1)) (m ((c : Thread nD τ).loc main_arg2)) (m ((c : Thread nD τ).loc main_arg4)) := by
  refine (dats m 0 c).arrAt_eq_of_covers 5 _ (by decide +kernel) fun t _ y => ?_
  blk_simp
  obtain ⟨e0, e1, e2, e3, e4, e5, e6, ht⟩ := idx t
  have k0 : ((((cfg0.win 5).blk t).view.emb y) 0 : ℕ) = 512 * t.val + (y 0 : ℕ) := by blk_simp [e5] <;> (try omega)
  have k1 : ((((cfg0.win 5).blk t).view.emb y) 1 : ℕ) = (y 1 : ℕ) := by blk_simp [e5] <;> (try omega)
  rw [after0_5]
  by_cases h : t.val % 4 = 0
  · rw [outsAt0_A m c t h]; frame_out
    exact point5 m c t y _ k0 k1
  · rw [outsAt0_B m c t h]; frame_out
    exact point5 m c t y _ k0 k1

/-! The shift's and scale's gradients. -/

/-- What one block adds: its 64 rows of eight, of the gradient itself and of its products with the tokens. -/
def part (D x : FVec Ideal S512x1024 .f32) (j : S1x2x8x1024.Idx) : EReal :=
  if (j 1).val = 0 then ∑ q : Fin 64, D (ix2 ⟨q.val * 8 + (j 2).val, by have h : (j 2).val < 8 := (j 2).isLt; omega⟩ (j 3))
  else ∑ q : Fin 64, D (ix2 ⟨q.val * 8 + (j 2).val, by have h : (j 2).val < 8 := (j 2).isLt; omega⟩ (j 3))
    * x (ix2 ⟨q.val * 8 + (j 2).val, by have h : (j 2).val < 8 := (j 2).isLt; omega⟩ (j 3))

/-- The block's running sum, before and after. -/
theorem fold_at (D : FVec Ideal S512x1024 .f32) (v : FVec Ideal S1x1x8x1024 .f32) (z : Fin 8) (l : Fin 1024) :
    k0_pay1 (F := Ideal) D v (ix4 (0 : Fin 1) (0 : Fin 1) z l)
      = v (ix4 (0 : Fin 1) (0 : Fin 1) z l) + ∑ q : Fin 64, D (ix2 ⟨q.val * 8 + z.val, by omega⟩ l) := by
  pointwise [k0_pay1]

theorem foldx_at (D : FVec Ideal S512x1024 .f32) (v : FVec Ideal S1x1x8x1024 .f32) (x : FVec Ideal S512x1024 .f32)
    (z : Fin 8) (l : Fin 1024) :
    k0_pay2 (F := Ideal) D v x (ix4 (0 : Fin 1) (0 : Fin 1) z l)
      = v (ix4 (0 : Fin 1) (0 : Fin 1) z l)
        + ∑ q : Fin 64, D (ix2 ⟨q.val * 8 + z.val, by omega⟩ l) * x (ix2 ⟨q.val * 8 + z.val, by omega⟩ l) := by
  pointwise [k0_pay2]

theorem zero_at (j : S1x2x8x1024.Idx) : k0_pay15 (F := Ideal) j = 0 := by pointwise [k0_pay15]

/-- The two halves of the block, whatever was written before. -/
theorem halves (p q : S1x1x8x1024.Idx → Elt Ideal .f32) (L : List (View.Piece (Elt Ideal) S1x2x8x1024 .f32)) (j : S1x2x8x1024.Idx) :
    View.canon ((⟨Rect.unit ![0, 1, 0, 0] ![1, 1, 8, 1024] inb_S1x2x8x1024_S1x1x8x1024_0_1_0_0, p⟩ : View.Piece (Elt Ideal) S1x2x8x1024 .f32)
        :: (⟨Rect.unit ![0, 0, 0, 0] ![1, 1, 8, 1024] inb_S1x2x8x1024_S1x1x8x1024_0_0_0_0, q⟩ : View.Piece (Elt Ideal) S1x2x8x1024 .f32) :: L) j
      = if (j 1).val = 0 then q (ix4 (0 : Fin 1) (0 : Fin 1) (j 2) (j 3)) else p (ix4 (0 : Fin 1) (0 : Fin 1) (j 2) (j 3)) := by
  have h0 : (j 0).val < 1 := (j 0).isLt
  have h1 : (j 1).val < 2 := (j 1).isLt
  by_cases h : (j 1).val = 0
  · rw [if_pos h, View.canon_cons_of_not_mem]
    · have hj : j = (Rect.unit (s := S1x2x8x1024) ![0, 0, 0, 0] ![1, 1, 8, 1024] inb_S1x2x8x1024_S1x1x8x1024_0_0_0_0).emb
          (ix4 (0 : Fin 1) (0 : Fin 1) (j 2) (j 3)) := by blk_ext
      conv_lhs => rw [hj]
      exact View.canon_cons_emb _ _ _ _
    · intro hm
      obtain ⟨x, hx⟩ := LoadRect.exists_idx_of_mem _ hm
      have h2 : 1 + 1 * (x 1).val = (j 1).val := congrArg (fun y : S1x2x8x1024.Idx => (y 1).val) hx
      omega
  · rw [if_neg h]
    have hj : j = (Rect.unit (s := S1x2x8x1024) ![0, 1, 0, 0] ![1, 1, 8, 1024] inb_S1x2x8x1024_S1x1x8x1024_0_1_0_0).emb
        (ix4 (0 : Fin 1) (0 : Fin 1) (j 2) (j 3)) := by blk_ext
    conv_lhs => rw [hj]
    exact View.canon_cons_emb _ _ _ _

/-- The two stores of a point, over the block it found. -/
theorem stores (D x : FVec Ideal S512x1024 .f32) (X : S1x2x8x1024.Idx → Elt Ideal .f32) (j : S1x2x8x1024.Idx) :
    (if (j 1).val = 0 then
      k0_pay1 (F := Ideal) D (View.ld X (Rect.unit ![0, 0, 0, 0] ![1, 1, 8, 1024] inb_S1x2x8x1024_S1x1x8x1024_0_0_0_0))
        (ix4 (0 : Fin 1) (0 : Fin 1) (j 2) (j 3))
    else
      k0_pay2 (F := Ideal) D (View.ld X (Rect.unit ![0, 1, 0, 0] ![1, 1, 8, 1024] inb_S1x2x8x1024_S1x1x8x1024_0_1_0_0)) x
        (ix4 (0 : Fin 1) (0 : Fin 1) (j 2) (j 3))) = (X j : EReal) + part D x j := by
  have h0 : (j 0).val < 1 := (j 0).isLt
  have h1 : (j 1).val < 2 := (j 1).isLt
  unfold part
  by_cases h : (j 1).val = 0
  · rw [if_pos h, if_pos h]
    refine (fold_at D _ (j 2) (j 3)).trans ?_
    refine congrArg (fun v : EReal => v + _) (congrArg X (show (Rect.unit (s := S1x2x8x1024) ![0, 0, 0, 0] ![1, 1, 8, 1024]
      inb_S1x2x8x1024_S1x1x8x1024_0_0_0_0).emb (ix4 (0 : Fin 1) (0 : Fin 1) (j 2) (j 3)) = j from ?_))
    blk_ext
  · rw [if_neg h, if_neg h]
    refine (foldx_at D _ x (j 2) (j 3)).trans ?_
    refine congrArg (fun v : EReal => v + _) (congrArg X (show (Rect.unit (s := S1x2x8x1024) ![0, 1, 0, 0] ![1, 1, 8, 1024]
      inb_S1x2x8x1024_S1x1x8x1024_0_1_0_0).emb (ix4 (0 : Fin 1) (0 : Fin 1) (j 2) (j 3)) = j from ?_))
    blk_ext

theorem first (c : Dev nD) (t : Fin cfg0.N) (h : t.val % 4 = 0) (j : S1x2x8x1024.Idx) :
    (outsAt0 m c t.val t.isLt).2 j = 0 + part (dh (iblk m c 0 t) (iblk m c 1 t)) (iblk m c 3 t) j := by
  generalize hD : dh (iblk m c 0 t) (iblk m c 1 t) = D
  unfold dh part6 part5 part4 part3 part2 part1 at hD
  rw [outsAt0_A m c t h]; frame_out
  rw [hD]
  clear hD
  rw [halves]
  simp (disch := decide) only [↓ View.readCov_skip, ↓ View.readCov_cons_toLoadRect, ↓ View.readCov_fill]
  rw [← zero_at j]
  exact stores D (iblk m c 3 t) (k0_pay15 (F := Ideal)) j

theorem next (c : Dev nD) (t : Fin cfg0.N) (h : ¬ t.val % 4 = 0) (j : S1x2x8x1024.Idx) :
    (outsAt0 m c t.val t.isLt).2 j = (outsAt0 m c (t.val - 1) (by omega)).2 j
      + part (dh (iblk m c 0 t) (iblk m c 1 t)) (iblk m c 3 t) j := by
  generalize hD : dh (iblk m c 0 t) (iblk m c 1 t) = D
  unfold dh part6 part5 part4 part3 part2 part1 at hD
  rw [outsAt0_B m c t h]; frame_out
  rw [hD]
  clear hD
  rw [halves]
  exact stores D (iblk m c 3 t) (outsAt0 m c (t.val - 1) (by omega)).2 j

theorem final6 (c : Dev nD) : (dats m 0 c).arrAt 6 (cfgs 0).N
    = Cert.GradHRefIdeal.Read.val_main_v36 (F := Ideal) (m ((c : Thread nD τ).loc main_arg0))
        (m ((c : Thread nD τ).loc main_arg1)) (m ((c : Thread nD τ).loc main_arg3)) := by
  refine (dats m 0 c).arrAt_eq_of_covers 6 _ (by decide +kernel) fun t hf y => ?_
  blk_simp
  rw [after0_6, Pipeline.eq_sum_fin_of_reset_step_apply_of_flush (fun n h => (outsAt0 m c n h).2) 4 (fun _ => 0)
    (fun p j => part (dh (iblk m c 0 p) (iblk m c 1 p)) (iblk m c 3 p) j)
    (fun t h j => first m c t h j) (fun t h j => next m c t h j) t ((flush0_6 t).mp hf) _, zero_add]
  obtain ⟨e0, e1, e2, e3, e4, e5, e6, ht⟩ := idx t
  have hb : ∀ j : S2x2x8x1024.Idx, (j 0).val = t.val / 4 → (j 1).val = (y 1).val → (j 2).val = (y 2).val →
      (j 3).val = (y 3).val → (∑ s : Fin 4, part (dh (iblk m c 0 ⟨4 * (t.val / 4) + s.val,
          Pipeline.run_point_lt_of_flush t ((flush0_6 t).mp hf) s⟩) (iblk m c 1 ⟨4 * (t.val / 4) + s.val,
          Pipeline.run_point_lt_of_flush t ((flush0_6 t).mp hf) s⟩)) (iblk m c 3 ⟨4 * (t.val / 4) + s.val,
          Pipeline.run_point_lt_of_flush t ((flush0_6 t).mp hf) s⟩) y : EReal)
        = Cert.GradHRefIdeal.Read.val_main_v36 (F := Ideal) (m ((c : Thread nD τ).loc main_arg0))
        (m ((c : Thread nD τ).loc main_arg1)) (m ((c : Thread nD τ).loc main_arg3)) j := by
    intro j h0 h1 h2 h3
    have y2 : (y 2).val < 8 := (y 2).isLt
    rw [Cert.GradHRefIdeal.Rows.dss_at]
    unfold part
    by_cases h : (j 1).val = 0
    · rw [if_pos h]
      simp only [if_pos (h1.symm.trans h)]
      refine Fin.sum_mul_add_congr fun s q hk => ?_
      refine dh_eq m c _ _ _ _ ?_ ?_
      · show 512 * (4 * (t.val / 4) + s.val) + (q.val * 8 + (y 2).val) = ((j 0).val * 256 + (s.val * 64 + q.val)) * 8 + (j 2).val
        omega
      · exact h3.symm
    · rw [if_neg h]
      simp only [if_neg (fun e => h (h1.trans e))]
      refine Fin.sum_mul_add_congr fun s q hk => ?_
      refine congrArg₂ (fun u v : EReal => u * v) (dh_eq m c _ _ _ _ ?_ ?_) ?_
      · show 512 * (4 * (t.val / 4) + s.val) + (q.val * 8 + (y 2).val) = ((j 0).val * 256 + (s.val * 64 + q.val)) * 8 + (j 2).val
        omega
      · exact h3.symm
      · obtain ⟨f0, f1, f2, f3, f4, f5, f6, hu⟩ := idx ⟨_, Pipeline.run_point_lt_of_flush t ((flush0_6 t).mp hf) s⟩
        blk_point [iblk, V, f3]
  refine hb _ ?_ ?_ ?_ ?_
  all_goals (blk_simp [e6] <;> (try omega))

end Cert.GradHIdeal.Rows
-- ==== Proof.GradWInValue.lean ====
/-
  The gradient of the in-projection's weights: one product per grid point.

  Point `t` takes the slab of 256 columns the layer's gradient keeps at that place, multiplies its transpose into the
  hidden rows, and writes the 256 weight rows which belong to the slab. `final`: the array after the run is the
  reference's term of the same arguments.
-/
import proofs.«01_k».proof.Proof.Gen.GradWInIdeal.Frame
import proofs.«01_k».proof.Proof.Gen.GradWInRefIdeal.Read
import Idealize.ShloMosaic.Lib.Pipeline.ValueKit

set_option maxRecDepth 16384

noncomputable section

open Idealize.ShloMosaic Idealize.ShloMosaic.TcCoe Idealize.SL.Sem
open Idealize.ShloMosaic.Pipeline (Dat)

namespace Cert.GradWInIdeal.Slabs

open Cert.GradWInIdeal Cert.GradWInIdeal.Gen

variable (m : (ℓ : Loc nD τ sig) → Buf (Elt Ideal) ℓ)

/-- The windows' block indices at every point: the slab read, the whole of the hidden rows, the row block written. -/
theorem idx : ∀ t : Fin cfg0.N, win0_0.index t = ![if t.val < 25 then t.val else t.val + 2, 0, 0]
    ∧ win0_1.index t = ![0, 0] ∧ win0_2.index t = ![(t.val + 9) % 34, 0] ∧ t.val < 34 :=
  (by decide +kernel : ∀ t : Fin grid0.N, _)

/-- What the body stores, at an index: a column of the slab against a column of the hidden rows. -/
theorem pay_at (a : FVec Ideal S1x4096x256 .bf16) (h : FVec Ideal S4096x1024 .bf16) (r : Fin 256) (l : Fin 1024) :
    k0_pay1 (F := Ideal) a h (ix2 r l) = ∑ k : Fin 4096, a (ix3 (0 : Fin 1) k r) * h (ix2 k l) := by
  pointwise [k0_pay1]

end Cert.GradWInIdeal.Slabs

namespace Cert.GradWInRefIdeal.Slabs

open Cert.GradWInRefIdeal Cert.GradWInRefIdeal.Read

/-- The slab of the gradient that holds columns `256 s … 256 s + 255` of the projection. -/
def slab (s : Nat) : Nat := if s < 9 then s + 27 else s - 9

theorem slab_lt {s : Nat} (h : s < 34) : slab s < 36 := by unfold slab; split <;> omega

/-- The columns in the order the projection has them. -/
theorem cols_at (x : FVec Ideal S36x4096x256 .bf16) (s : Fin 34) (k : Fin 4096) (r : Fin 256) :
    val_main_v6 (F := Ideal) x (ix3 s k r) = x (ix3 ⟨slab s.val, slab_lt s.isLt⟩ k r) := by
  pointwise [val_main_v6, val_main_v5, val_main_v4]
  unfold slab
  by_cases h : s.val < 9
  · rw [dif_pos h]
    exact congrArg (fun v => x (ix3 v k r)) (Fin.ext (by simp only [if_pos h]; omega))
  · rw [dif_neg h]
    exact congrArg (fun v => x (ix3 v k r)) (Fin.ext (by simp only [if_neg h]))

/-- The reference at an index. -/
theorem ref_at (x : FVec Ideal S36x4096x256 .bf16) (h : FVec Ideal S4096x1024 .bf16) (R : Fin 8704) (l : Fin 1024) :
    val_main_v12 (F := Ideal) x h (ix2 R l)
      = ∑ k : Fin 4096, x (ix3 ⟨slab (R.val / 256), slab_lt (by omega)⟩ k ⟨R.val % 256, by omega⟩) * h (ix2 k l) := by
  rw [val_main_v12_apply, val_main_v11_apply, val_main_v10_apply]
  refine Finset.sum_congr rfl fun k _ => ?_
  rw [val_main_v9_apply, val_main_v8_apply, val_main_v7_apply, val_main_v1_apply]
  refine congrArg₂ (fun u v : EReal => u * v) ((congrArg (val_main_v6 (F := Ideal) x) ?_).trans
    (cols_at x ⟨R.val / 256, by omega⟩ k ⟨R.val % 256, by omega⟩)) (congrArg h ?_)
  · blk_ext
  · blk_ext

end Cert.GradWInRefIdeal.Slabs

namespace Cert.GradWInIdeal.Slabs

open Cert.GradWInIdeal Cert.GradWInIdeal.Gen

variable (m : (ℓ : Loc nD τ sig) → Buf (Elt Ideal) ℓ)

/-- What point `t` stores is the reference at the place of its block. -/
theorem point (c : Dev nD) (t : Fin cfg0.N) (y : S256x1024.Idx) :
    k0_pay1 (F := Ideal) (iblk m c 0 t) (iblk m c 1 t) y
      = Cert.GradWInRefIdeal.Read.val_main_v12 (F := Ideal) (m ((c : Thread nD τ).loc main_arg0))
          (m ((c : Thread nD τ).loc main_arg1)) (((cfg0.win 2).blk t).view.emb y) := by
  obtain ⟨e0, e1, e2, ht⟩ := idx t
  have hr : ((((cfg0.win 2).blk t).view.emb y) 0 : ℕ) = 256 * ((t.val + 9) % 34) + (y 0 : ℕ) := by
    blk_simp [e2] <;> (try omega)
  have hb : ∀ i : Cert.GradWInRefIdeal.S8704x1024.Idx, (i 0 : ℕ) = 256 * ((t.val + 9) % 34) + (y 0 : ℕ) → (i 1 : ℕ) = (y 1 : ℕ) →
      k0_pay1 (F := Ideal) (iblk m c 0 t) (iblk m c 1 t) y
        = Cert.GradWInRefIdeal.Read.val_main_v12 (F := Ideal) (m ((c : Thread nD τ).loc main_arg0))
          (m ((c : Thread nD τ).loc main_arg1)) i := by
    intro i h0 h1
    have hs : Cert.GradWInRefIdeal.Slabs.slab ((i 0 : ℕ) / 256) = if t.val < 25 then t.val else t.val + 2 := by
      have hy : (y 0 : ℕ) < 256 := (y 0).isLt
      unfold Cert.GradWInRefIdeal.Slabs.slab
      split <;> split <;> omega
    have hm : (i 0 : ℕ) % 256 = (y 0 : ℕ) := by
      have hy : (y 0 : ℕ) < 256 := (y 0).isLt
      omega
    rw [eq_ix2 y, eq_ix2 i]
    refine (pay_at _ _ (y 0) (y 1)).trans (Eq.trans ?_ (Cert.GradWInRefIdeal.Slabs.ref_at _ _ (i 0) (i 1)).symm)
    refine Fin.sum_fin_congr fun k => ?_
    blk_point [iblk, V, e0, e1, hs, hm, h1]
  refine hb _ hr ?_
  blk_simp [e2] <;> (try omega)

theorem final (c : Dev nD) : (dats m 0 c).arrAt 2 (cfgs 0).N
    = Cert.GradWInRefIdeal.Read.val_main_v12 (F := Ideal) (m ((c : Thread nD τ).loc main_arg0))
        (m ((c : Thread nD τ).loc main_arg1)) := by
  refine (dats m 0 c).arrAt_eq_of_covers 2 _ (by decide +kernel) fun t _ y => ?_
  blk_simp
  rw [after0_2]; unfold outsAt0; frame_out
  exact point m c t y

end Cert.GradWInIdeal.Slabs
-- ==== Proof.GradWOutValue.lean ====
/-
  The gradient of a square projection's weights: the merged rows against the gradient of what they are projected to.
  The grid walks the token rows a quarter at a time and adds each quarter's product into one block, which the last
  point writes back. `final`: the array after the run is the reference's term of the same arguments.
-/
import proofs.«01_k».proof.Proof.Gen.GradWOutIdeal.Frame
import proofs.«01_k».proof.Proof.Gen.GradWOutRefIdeal.Read
import Idealize.ShloMosaic.Lib.Pipeline.ValueKit

set_option maxRecDepth 16384

noncomputable section

open Idealize.ShloMosaic Idealize.ShloMosaic.TcCoe Idealize.SL.Sem
open Idealize.ShloMosaic.Pipeline (Dat)

namespace Cert.GradWOutRefIdeal.Rows

open Cert.GradWOutRefIdeal Cert.GradWOutRefIdeal.Read

/-- The reference at an index: a column of the first operand against a column of the second, over all tokens. -/
theorem ref_at (a : FVec Ideal S4096x1024 .bf16) (b : FVec Ideal S4096x1024 .bf16) (i : S1024x1024.Idx) :
    val_main_v5 (F := Ideal) a b i = ∑ k : Fin 4096, a (ix2 k (i 0)) * b (ix2 k (i 1)) := by
  pointwise [val_main_v5, val_main_v4, val_main_v3, val_main_v1]
  exact Finset.sum_congr rfl fun k _ => mul_comm _ _

end Cert.GradWOutRefIdeal.Rows

namespace Cert.GradWOutIdeal.Rows

open Cert.GradWOutIdeal Cert.GradWOutIdeal.Gen

variable (m : (ℓ : Loc nD τ sig) → Buf (Elt Ideal) ℓ)

/-- The windows' block indices at every point. -/
theorem idx : ∀ t : Fin cfg0.N, win0_0.index t = ![t.val, 0] ∧ win0_1.index t = ![t.val, 0] ∧ win0_2.index t = ![0, 0] :=
  (by decide +kernel : ∀ t : Fin grid0.N, _)

/-- The first point's store, at an index: the quarter's product. -/
theorem first_at (a : FVec Ideal S1024x1024 .bf16) (b : FVec Ideal S1024x1024 .bf16) (i : S1024x1024.Idx) :
    k0_pay2 (F := Ideal) a b i = 0 + ∑ k : Fin 1024, a (ix2 k (i 0)) * b (ix2 k (i 1)) := by
  rw [zero_add]
  pointwise [k0_pay2, k0_pay1]

/-- A later point's store, at an index: what the block held and the quarter's product. -/
theorem next_at (a : FVec Ideal S1024x1024 .bf16) (b : FVec Ideal S1024x1024 .bf16) (o : FVec Ideal S1024x1024 .f32) (i : S1024x1024.Idx) :
    k0_pay3 (F := Ideal) a b o i = o i + ∑ k : Fin 1024, a (ix2 k (i 0)) * b (ix2 k (i 1)) := by
  pointwise [k0_pay3, k0_pay1]

theorem first (t : Fin cfg0.N) (h : t.val % 4 = 0) : ¬1 ≤ t.val := by
  have h4 : t.val < 4 := lt_of_lt_of_eq t.isLt N_0
  omega

theorem later (t : Fin cfg0.N) (h : ¬t.val % 4 = 0) : 1 ≤ t.val := by omega

theorem final (c : Dev nD) : (dats m 0 c).arrAt 2 (cfgs 0).N
    = Cert.GradWOutRefIdeal.Read.val_main_v5 (F := Ideal) (m ((c : Thread nD τ).loc main_arg0)) (m ((c : Thread nD τ).loc main_arg1)) := by
  refine (dats m 0 c).arrAt_eq_of_after_last 2 t0_3 (by decide +kernel) _ fun j => ?_
  blk_simp
  rw [after0_2]
  rw [Pipeline.eq_sum_fin_of_reset_step_apply_last (fun n h => outsAt0 m c n h) 4 (fun _ => 0) _
    (fun t h j => by rw [outsAt0_A m c t h (first t h)]; frame_out; rw [first_at])
    (fun t h j => by rw [outsAt0_B m c t h (later t h)]; frame_out; rw [next_at])
    (le_of_eq N_0) t0_3 rfl j, zero_add]
  refine Eq.trans ?_ (Cert.GradWOutRefIdeal.Rows.ref_at _ _ j).symm
  refine Fin.sum_mul_add_congr fun s k hl => ?_
  blk_point [iblk, V, idx s]

end Cert.GradWOutIdeal.Rows
-- ==== Proof.GradWAttnValue.lean ====
/-
  The gradient of the attention branch's projection: the branch's gradient against the gated attention output.
  The grid walks the token rows a quarter at a time and adds each quarter's product into one block, which the last
  point writes back. `final`: the array after the run is the reference's term of the same arguments.
-/
import proofs.«01_k».proof.Proof.Gen.GradWAttnIdeal.Frame
import proofs.«01_k».proof.Proof.Gen.GradWAttnRefIdeal.Read
import Idealize.ShloMosaic.Lib.Pipeline.ValueKit

set_option maxRecDepth 16384

noncomputable section

open Idealize.ShloMosaic Idealize.ShloMosaic.TcCoe Idealize.SL.Sem
open Idealize.ShloMosaic.Pipeline (Dat)

namespace Cert.GradWAttnRefIdeal.Rows

open Cert.GradWAttnRefIdeal Cert.GradWAttnRefIdeal.Read

/-- The reference at an index: a column of the first operand against a column of the second, over all tokens. -/
theorem ref_at (a : FVec Ideal S4096x1024 .bf16) (b : FVec Ideal S4096x256 .bf16) (i : S1024x256.Idx) :
    val_main_v7 (F := Ideal) a b i = ∑ k : Fin 4096, a (ix2 k (i 0)) * b (ix2 k (i 1)) := by
  pointwise [val_main_v7, val_main_v6, val_main_v5, val_main_v4, val_main_v1]

end Cert.GradWAttnRefIdeal.Rows

namespace Cert.GradWAttnIdeal.Rows

open Cert.GradWAttnIdeal Cert.GradWAttnIdeal.Gen

variable (m : (ℓ : Loc nD τ sig) → Buf (Elt Ideal) ℓ)

/-- The windows' block indices at every point. -/
theorem idx : ∀ t : Fin cfg0.N, win0_0.index t = ![t.val, 0] ∧ win0_1.index t = ![t.val, 0] ∧ win0_2.index t = ![0, 0] :=
  (by decide +kernel : ∀ t : Fin grid0.N, _)

/-- The first point's store, at an index: the quarter's product. -/
theorem first_at (a : FVec Ideal S1024x1024 .bf16) (b : FVec Ideal S1024x256 .bf16) (i : S1024x256.Idx) :
    k0_pay2 (F := Ideal) a b i = 0 + ∑ k : Fin 1024, a (ix2 k (i 0)) * b (ix2 k (i 1)) := by
  rw [zero_add]
  pointwise [k0_pay2, k0_pay1]

/-- A later point's store, at an index: what the block held and the quarter's product. -/
theorem next_at (a : FVec Ideal S1024x1024 .bf16) (b : FVec Ideal S1024x256 .bf16) (o : FVec Ideal S1024x256 .f32) (i : S1024x256.Idx) :
    k0_pay3 (F := Ideal) a b o i = o i + ∑ k : Fin 1024, a (ix2 k (i 0)) * b (ix2 k (i 1)) := by
  pointwise [k0_pay3, k0_pay1]

theorem first (t : Fin cfg0.N) (h : t.val % 4 = 0) : ¬1 ≤ t.val := by
  have h4 : t.val < 4 := lt_of_lt_of_eq t.isLt N_0
  omega

theorem later (t : Fin cfg0.N) (h : ¬t.val % 4 = 0) : 1 ≤ t.val := by omega

theorem final (c : Dev nD) : (dats m 0 c).arrAt 2 (cfgs 0).N
    = Cert.GradWAttnRefIdeal.Read.val_main_v7 (F := Ideal) (m ((c : Thread nD τ).loc main_arg0)) (m ((c : Thread nD τ).loc main_arg1)) := by
  refine (dats m 0 c).arrAt_eq_of_after_last 2 t0_3 (by decide +kernel) _ fun j => ?_
  blk_simp
  rw [after0_2]
  rw [Pipeline.eq_sum_fin_of_reset_step_apply_last (fun n h => outsAt0 m c n h) 4 (fun _ => 0) _
    (fun t h j => by rw [outsAt0_A m c t h (first t h)]; frame_out; rw [first_at])
    (fun t h j => by rw [outsAt0_B m c t h (later t h)]; frame_out; rw [next_at])
    (le_of_eq N_0) t0_3 rfl j, zero_add]
  refine Eq.trans ?_ (Cert.GradWAttnRefIdeal.Rows.ref_at _ _ j).symm
  refine Fin.sum_mul_add_congr fun s k hl => ?_
  blk_point [iblk, V, idx s]

end Cert.GradWAttnIdeal.Rows
-- ==== Proof.AdamStep.lean ====
/-
  One AdamW step on a single number, as both the kernels and the references spell it: the new first and second moments
  and the change of the weight, over the extended reals with the literals' own values.
-/
import Idealize.ShloMosaic.Lib.Pipeline.ValueKit

noncomputable section

open Idealize.ShloMosaic

namespace Cert.AdamStep

/-- A literal of the program at the extended reals. -/
abbrev lit (w : BitVec 32) : EReal := Scalar.ofBits (F := Ideal) .f32 w

/-- The new first moment from the gradient and the old one. -/
def newM (g u : EReal) : EReal := lit 0x3F666666#32 * u + lit 0x3DCCCCCD#32 * g

/-- The new second moment from the gradient and the old one. -/
def newV (g v : EReal) : EReal := lit 0x3F7FBE77#32 * v + lit 0x3A83126F#32 * (g * g)

/-- The change of the weight. -/
def delta (g w u v : EReal) : EReal :=
  lit 0xBA83126F#32 * (Ideal.div (Ideal.div (newM g u) (lit 0x3F26BD02#32))
    (Ideal.sqrt (Ideal.div (newV g v) (lit 0x3C231ACC#32)) + lit 0x322BCC77#32) + lit 0x3C23D70A#32 * w)

theorem delta_congr {g g' w w' u u' v v' : EReal} (hg : g = g') (hw : w = w') (hu : u = u') (hv : v = v') :
    delta g w u v = delta g' w' u' v' := by
  rw [hg, hw, hu, hv]

end Cert.AdamStep
-- ==== Proof.AdamInValue.lean ====
/-
  The optimiser's step for the in-projection's weights: the last sum of the gradient's pieces, and AdamW, 272 rows to a
  grid point. `final5` … `final8`: the arrays after the run are the reference's gradient, change and moments.
-/
import proofs.«01_k».proof.Proof.AdamStep
import proofs.«01_k».proof.Proof.Gen.AdamInIdeal.Frame
import proofs.«01_k».proof.Proof.Gen.AdamInRefIdeal.Run
import proofs.«01_k».proof.Proof.Gen.AdamInRefIdeal.Read
import Idealize.ShloMosaic.Lib.Pipeline.ValueKit

set_option maxRecDepth 16384

noncomputable section

open Idealize.ShloMosaic Idealize.ShloMosaic.TcCoe Idealize.SL.Sem
open Idealize.ShloMosaic.Pipeline (Dat)

open Cert.AdamStep

namespace Cert.AdamInRefIdeal.Rows

open Cert.AdamInRefIdeal Cert.AdamInRefIdeal.Gen Cert.AdamInRefIdeal.Read

variable (a : FVec Ideal S1088x1024 .f32) (l : FVec Ideal S3x1088x1024 .bf16) (w u v : FVec Ideal S1088x1024 .f32)

/-- The gradient at an index: the device's own sum and the three that arrived. -/
def grad (i : S1088x1024.Idx) : EReal :=
  a i + l (ix3 (0 : Fin 3) (i 0) (i 1)) + l (ix3 (1 : Fin 3) (i 0) (i 1)) + l (ix3 (2 : Fin 3) (i 0) (i 1))

theorem grad_at (i : S1088x1024.Idx) : val_main_v2 (F := Ideal) a l i = grad a l i := by
  rw [eq_ix2 i]
  pointwise [val_main_v2, val_main_v1, val_main_v0, val_main_cst, grad]
  rw [Fin.sum_univ_three, ← add_assoc, ← add_assoc]

theorem m_at (i : S1088x1024.Idx) : val_main_v7 (F := Ideal) a l u i = newM (grad a l i) (u i) := by
  rw [← grad_at, eq_ix2 i]
  pointwise [val_main_v7, val_main_v6, val_main_v5, val_main_v4, val_main_v3]
  rfl

theorem v_at (i : S1088x1024.Idx) : val_main_v13 (F := Ideal) a l v i = newV (grad a l i) (v i) := by
  rw [← grad_at, eq_ix2 i]
  pointwise [val_main_v13, val_main_v12, val_main_v11, val_main_v10, val_main_v9, val_main_v8]
  rfl

theorem delta_at (i : S1088x1024.Idx) : val_main_v26 (F := Ideal) a l w u v i = delta (grad a l i) (w i) (u i) (v i) := by
  unfold delta
  rw [← m_at, ← v_at, eq_ix2 i]
  pointwise [val_main_v26, val_main_v25, val_main_v24, val_main_v23, val_main_v22, val_main_v21, val_main_v20, val_main_v19,
    val_main_v18, val_main_v17, val_main_v16, val_main_v15, val_main_v14]
  rfl

end Cert.AdamInRefIdeal.Rows

namespace Cert.AdamInIdeal.Rows

open Cert.AdamInIdeal Cert.AdamInIdeal.Gen

variable (m : (ℓ : Loc nD τ sig) → Buf (Elt Ideal) ℓ)

/-- Every window moves down with the grid, 272 rows to a point. -/
theorem idx : ∀ t : Fin cfg0.N, win0_0.index t = ![t.val, 0] ∧ win0_1.index t = ![0, t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] ∧ t.val < 4 :=
  (by decide +kernel : ∀ t : Fin grid0.N, _)

/-- The body's sum of the pieces at an index. -/
def sum (a : FVec Ideal S272x1024 .f32) (p q r : FVec Ideal S1x272x1024 .bf16) (y : S272x1024.Idx) : EReal :=
  a y + p (ix3 (0 : Fin 1) (y 0) (y 1)) + q (ix3 (0 : Fin 1) (y 0) (y 1)) + r (ix3 (0 : Fin 1) (y 0) (y 1))

section
variable (a : FVec Ideal S272x1024 .f32) (p q r : FVec Ideal S1x272x1024 .bf16) (w u v : FVec Ideal S272x1024 .f32)
  (y : S272x1024.Idx)

theorem sum_at : k0_pay4 (F := Ideal) a p q r y = sum a p q r y := by
  rw [eq_ix2 y]
  pointwise [k0_pay4, sum]

theorem pay5_at : k0_pay5 (F := Ideal) a p q r y = sum a p q r y := by
  rw [← sum_at, eq_ix2 y]
  pointwise [k0_pay5]

theorem pay6_at : k0_pay6 (F := Ideal) a p q r u y = newM (sum a p q r y) (u y) := by
  rw [← sum_at, eq_ix2 y]
  pointwise [k0_pay6]
  rfl

theorem pay2_at : k0_pay2 (F := Ideal) (k0_pay6 (F := Ideal) a p q r u) y = newM (sum a p q r y) (u y) := by
  rw [← pay6_at, eq_ix2 y]
  pointwise [k0_pay2]

theorem pay7_at : k0_pay7 (F := Ideal) a p q r v y = newV (sum a p q r y) (v y) := by
  rw [← sum_at, eq_ix2 y]
  pointwise [k0_pay7]
  rfl

theorem pay3_at : k0_pay3 (F := Ideal) (k0_pay7 (F := Ideal) a p q r v) y = newV (sum a p q r y) (v y) := by
  rw [← pay7_at, eq_ix2 y]
  pointwise [k0_pay3]

theorem pay1_at : k0_pay1 (F := Ideal) w (k0_pay7 (F := Ideal) a p q r v) (k0_pay8 (F := Ideal) a p q r u) (k0_pay9 (F := Ideal)) y
    = delta (sum a p q r y) (w y) (u y) (v y) := by
  unfold delta
  rw [← pay6_at, ← pay7_at, eq_ix2 y]
  pointwise [k0_pay1, k0_pay8, k0_pay9]

end

theorem final5 (c : Dev nD) : (dats m 0 c).arrAt 5 (cfgs 0).N
    = Cert.AdamInRefIdeal.Read.val_main_v2 (F := Ideal) (m ((c : Thread nD τ).loc main_arg0)) (m ((c : Thread nD τ).loc main_arg1)) := by
  refine (dats m 0 c).arrAt_eq_of_covers 5 _ (by decide +kernel) fun t _ y => ?_
  obtain ⟨e0, e1, e2, e3, e4, e5, e6, e7, e8, ht⟩ := idx t
  blk_simp
  rw [after0_5]; unfold_out out0_5; frame_out
  refine (pay5_at _ _ _ _ y).trans (Eq.trans ?_ (Cert.AdamInRefIdeal.Rows.grad_at _ _ _).symm)
  blk_point [iblk, V, sum, Cert.AdamInRefIdeal.Rows.grad, e0, e1, e2, e3, e4, e5]

theorem final6 (c : Dev nD) : (dats m 0 c).arrAt 6 (cfgs 0).N
    = Cert.AdamInRefIdeal.Read.val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  obtain ⟨e0, e1, e2, e3, e4, e5, e6, e7, e8, ht⟩ := idx t
  blk_simp
  rw [after0_6]; unfold_out out0_6; frame_out
  refine (pay1_at _ _ _ _ _ _ _ y).trans (Eq.trans ?_ (Cert.AdamInRefIdeal.Rows.delta_at _ _ _ _ _ _).symm)
  refine delta_congr ?_ ?_ ?_ ?_
  · blk_point [iblk, V, sum, Cert.AdamInRefIdeal.Rows.grad, e0, e1, e2, e3, e4, e6]
  · blk_point [iblk, V, sum, Cert.AdamInRefIdeal.Rows.grad, e0, e1, e2, e3, e4, e6]
  · blk_point [iblk, V, sum, Cert.AdamInRefIdeal.Rows.grad, e0, e1, e2, e3, e4, e6]
  · blk_point [iblk, V, sum, Cert.AdamInRefIdeal.Rows.grad, e0, e1, e2, e3, e4, e6]

theorem final7 (c : Dev nD) : (dats m 0 c).arrAt 7 (cfgs 0).N
    = Cert.AdamInRefIdeal.Read.val_main_v7 (F := Ideal) (m ((c : Thread nD τ).loc main_arg0)) (m ((c : Thread nD τ).loc main_arg1)) (m ((c : Thread nD τ).loc main_arg3)) := by
  refine (dats m 0 c).arrAt_eq_of_covers 7 _ (by decide +kernel) fun t _ y => ?_
  obtain ⟨e0, e1, e2, e3, e4, e5, e6, e7, e8, ht⟩ := idx t
  blk_simp
  rw [after0_7]; unfold_out out0_7; frame_out
  refine (pay2_at _ _ _ _ _ y).trans (Eq.trans ?_ (Cert.AdamInRefIdeal.Rows.m_at _ _ _ _).symm)
  refine congrArg₂ newM ?_ ?_
  · blk_point [iblk, V, sum, Cert.AdamInRefIdeal.Rows.grad, e0, e1, e2, e3, e4, e7]
  · blk_point [iblk, V, sum, Cert.AdamInRefIdeal.Rows.grad, e0, e1, e2, e3, e4, e7]

theorem final8 (c : Dev nD) : (dats m 0 c).arrAt 8 (cfgs 0).N
    = Cert.AdamInRefIdeal.Read.val_main_v13 (F := Ideal) (m ((c : Thread nD τ).loc main_arg0)) (m ((c : Thread nD τ).loc main_arg1)) (m ((c : Thread nD τ).loc main_arg4)) := by
  refine (dats m 0 c).arrAt_eq_of_covers 8 _ (by decide +kernel) fun t _ y => ?_
  obtain ⟨e0, e1, e2, e3, e4, e5, e6, e7, e8, ht⟩ := idx t
  blk_simp
  rw [after0_8]; unfold_out out0_8; frame_out
  refine (pay3_at _ _ _ _ _ y).trans (Eq.trans ?_ (Cert.AdamInRefIdeal.Rows.v_at _ _ _ _).symm)
  refine congrArg₂ newV ?_ ?_
  · blk_point [iblk, V, sum, Cert.AdamInRefIdeal.Rows.grad, e0, e1, e2, e3, e4, e8]
  · blk_point [iblk, V, sum, Cert.AdamInRefIdeal.Rows.grad, e0, e1, e2, e3, e4, e8]

end Cert.AdamInIdeal.Rows
-- ==== Proof.AdamAttnValue.lean ====
/-
  The optimiser's step for the attention's output projection, whose gradient arrives transposed: 128 rows of the weight to a
  grid point. `final4` … `final7`: the arrays after the run are the reference's gradient, change and moments.
-/
import proofs.«01_k».proof.Proof.AdamStep
import proofs.«01_k».proof.Proof.Gen.AdamAttnIdeal.Frame
import proofs.«01_k».proof.Proof.Gen.AdamAttnRefIdeal.Run
import proofs.«01_k».proof.Proof.Gen.AdamAttnRefIdeal.Read
import Idealize.ShloMosaic.Lib.Pipeline.ValueKit

set_option maxRecDepth 16384

noncomputable section

open Idealize.ShloMosaic Idealize.ShloMosaic.TcCoe Idealize.SL.Sem
open Idealize.ShloMosaic.Pipeline (Dat)

open Cert.AdamStep

namespace Cert.AdamAttnRefIdeal.Turned

open Cert.AdamAttnRefIdeal Cert.AdamAttnRefIdeal.Gen Cert.AdamAttnRefIdeal.Read

variable (g : FVec Ideal S128x256 .f32) (w u v : FVec Ideal S256x128 .f32) (i : S256x128.Idx)

theorem grad_at : val_main_v0 (F := Ideal) g i = g (ix2 (i 1) (i 0)) := by
  rw [eq_ix2 i]
  pointwise [val_main_v0]

theorem m_at : val_main_v6 (F := Ideal) g u i = newM (g (ix2 (i 1) (i 0))) (u i) := by
  rw [eq_ix2 i]
  pointwise [val_main_v6, val_main_v5, val_main_v4, val_main_v3, val_main_v2, val_main_v1]
  rfl

theorem v_at : val_main_v12 (F := Ideal) g v i = newV (g (ix2 (i 1) (i 0))) (v i) := by
  rw [eq_ix2 i]
  pointwise [val_main_v12, val_main_v11, val_main_v10, val_main_v9, val_main_v8, val_main_v7, val_main_v1]
  rfl

theorem delta_at : val_main_v25 (F := Ideal) g w u v i = delta (g (ix2 (i 1) (i 0))) (w i) (u i) (v i) := by
  unfold delta
  rw [← m_at, ← v_at, eq_ix2 i]
  pointwise [val_main_v25, val_main_v24, val_main_v23, val_main_v22, val_main_v21, val_main_v20, val_main_v19, val_main_v18, val_main_v17, val_main_v16, val_main_v15, val_main_v14, val_main_v13]
  rfl

end Cert.AdamAttnRefIdeal.Turned

namespace Cert.AdamAttnIdeal.Turned

open Cert.AdamAttnIdeal Cert.AdamAttnIdeal.Gen

variable (m : (ℓ : Loc nD τ sig) → Buf (Elt Ideal) ℓ)

/-- The gradient's window moves right and the others down with the grid. -/
theorem idx : ∀ t : Fin cfg0.N, win0_0.index t = ![0, t.val] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ t.val < 2 :=
  (by decide +kernel : ∀ t : Fin grid0.N, _)

section
variable (g w u v : FVec Ideal S128x128 .f32) (y : S128x128.Idx)

theorem pay6_at : k0_pay6 (F := Ideal) g y = g (ix2 (y 1) (y 0)) := by
  rw [eq_ix2 y]
  pointwise [k0_pay6, k0_pay3]

theorem pay1_at : k0_pay1 (F := Ideal) (k0_pay4 (F := Ideal) g u) y = newM (g (ix2 (y 1) (y 0))) (u y) := by
  rw [eq_ix2 y]
  pointwise [k0_pay1, k0_pay4, k0_pay3]
  rfl

theorem pay2_at : k0_pay2 (F := Ideal) (k0_pay5 (F := Ideal) g v) y = newV (g (ix2 (y 1) (y 0))) (v y) := by
  rw [eq_ix2 y]
  pointwise [k0_pay2, k0_pay5, k0_pay3]
  rfl

theorem pay7_at : k0_pay7 (F := Ideal) g w u v y = delta (g (ix2 (y 1) (y 0))) (w y) (u y) (v y) := by
  unfold delta newM newV
  rw [eq_ix2 y]
  pointwise [k0_pay7, k0_pay5, k0_pay4, k0_pay3]

end

theorem final4 (c : Dev nD) : (dats m 0 c).arrAt 4 (cfgs 0).N
    = Cert.AdamAttnRefIdeal.Read.val_main_v0 (F := Ideal) (m ((c : Thread nD τ).loc main_arg0)) := by
  refine (dats m 0 c).arrAt_eq_of_covers 4 _ (by decide +kernel) fun t _ y => ?_
  obtain ⟨e0, e1, e2, e3, e4, e5, e6, e7, ht⟩ := idx t
  blk_simp
  rw [after0_4]; unfold out0_4; frame_out
  refine (pay6_at _ y).trans (Eq.trans ?_ (Cert.AdamAttnRefIdeal.Turned.grad_at _ _).symm)
  blk_point [iblk, V, e0, e1, e2, e3, e4]

theorem final5 (c : Dev nD) : (dats m 0 c).arrAt 5 (cfgs 0).N
    = Cert.AdamAttnRefIdeal.Read.val_main_v25 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  obtain ⟨e0, e1, e2, e3, e4, e5, e6, e7, ht⟩ := idx t
  blk_simp
  rw [after0_5]; unfold out0_5; frame_out
  refine (pay7_at _ _ _ _ y).trans (Eq.trans ?_ (Cert.AdamAttnRefIdeal.Turned.delta_at _ _ _ _ _).symm)
  refine delta_congr ?_ ?_ ?_ ?_
  · blk_point [iblk, V, e0, e1, e2, e3, e5]
  · blk_point [iblk, V, e0, e1, e2, e3, e5]
  · blk_point [iblk, V, e0, e1, e2, e3, e5]
  · blk_point [iblk, V, e0, e1, e2, e3, e5]

theorem final6 (c : Dev nD) : (dats m 0 c).arrAt 6 (cfgs 0).N
    = Cert.AdamAttnRefIdeal.Read.val_main_v6 (F := Ideal) (m ((c : Thread nD τ).loc main_arg0)) (m ((c : Thread nD τ).loc main_arg2)) := by
  refine (dats m 0 c).arrAt_eq_of_covers 6 _ (by decide +kernel) fun t _ y => ?_
  obtain ⟨e0, e1, e2, e3, e4, e5, e6, e7, ht⟩ := idx t
  blk_simp
  rw [after0_6]; unfold out0_6; frame_out
  refine (pay1_at _ _ y).trans (Eq.trans ?_ (Cert.AdamAttnRefIdeal.Turned.m_at _ _ _).symm)
  refine congrArg₂ newM ?_ ?_
  · blk_point [iblk, V, e0, e1, e2, e3, e6]
  · blk_point [iblk, V, e0, e1, e2, e3, e6]

theorem final7 (c : Dev nD) : (dats m 0 c).arrAt 7 (cfgs 0).N
    = Cert.AdamAttnRefIdeal.Read.val_main_v12 (F := Ideal) (m ((c : Thread nD τ).loc main_arg0)) (m ((c : Thread nD τ).loc main_arg3)) := by
  refine (dats m 0 c).arrAt_eq_of_covers 7 _ (by decide +kernel) fun t _ y => ?_
  obtain ⟨e0, e1, e2, e3, e4, e5, e6, e7, ht⟩ := idx t
  blk_simp
  rw [after0_7]; unfold out0_7; frame_out
  refine (pay2_at _ _ y).trans (Eq.trans ?_ (Cert.AdamAttnRefIdeal.Turned.v_at _ _ _).symm)
  refine congrArg₂ newV ?_ ?_
  · blk_point [iblk, V, e0, e1, e2, e3, e7]
  · blk_point [iblk, V, e0, e1, e2, e3, e7]

end Cert.AdamAttnIdeal.Turned
-- ==== Proof.AdamAdaValue.lean ====
/-
  The optimiser's step for the weights of the conditioning: their gradient — the conditioning against what reached its
  columns — and AdamW. `final5` … `final8`: the arrays after the run are the reference's.
-/
import proofs.«01_k».proof.Proof.AdamStep
import proofs.«01_k».proof.Proof.Gen.AdamAdaIdeal.Frame
import proofs.«01_k».proof.Proof.Gen.AdamAdaRefIdeal.Run
import proofs.«01_k».proof.Proof.Gen.AdamAdaRefIdeal.Read
import Idealize.ShloMosaic.Lib.Pipeline.ValueKit

set_option maxRecDepth 16384

noncomputable section

open Idealize.ShloMosaic Idealize.ShloMosaic.TcCoe Idealize.SL.Sem
open Idealize.ShloMosaic.Pipeline (Dat)

open Cert.AdamStep

namespace Cert.AdamAdaRefIdeal.Whole

open Cert.AdamAdaRefIdeal Cert.AdamAdaRefIdeal.Gen Cert.AdamAdaRefIdeal.Read

variable (a : FVec Ideal S16x1024 .f32) (d : FVec Ideal S16x384 .f32) (w u v : FVec Ideal S1024x384 .f32)
  (i : S1024x384.Idx)

/-- The gradient at an index: a column of the conditioning against a column of the cotangent. -/
def grad : EReal := ∑ k : Fin 16, a (ix2 k (i 0)) * d (ix2 k (i 1))

theorem grad_at : val_main_v2 (F := Ideal) a d i = grad a d i := by
  rw [val_main_v2_apply, val_main_v1_apply]
  refine Finset.sum_congr rfl fun k _ => ?_
  refine (mul_comm _ _).trans (congrArg₂ (fun x y : EReal => x * y) (congrArg a ?_) (congrArg d ?_))
  · blk_ext
  · blk_ext

theorem m_at : val_main_v7 (F := Ideal) a d u i = newM (grad a d i) (u i) := by
  rw [← grad_at, eq_ix2 i]
  pointwise [val_main_v7, val_main_v6, val_main_v5, val_main_v4, val_main_v3]
  rfl

theorem v_at : val_main_v13 (F := Ideal) a d v i = newV (grad a d i) (v i) := by
  rw [← grad_at, eq_ix2 i]
  pointwise [val_main_v13, val_main_v12, val_main_v11, val_main_v10, val_main_v9, val_main_v8]
  rfl

theorem delta_at : val_main_v26 (F := Ideal) a d w u v i = delta (grad a d i) (w i) (u i) (v i) := by
  unfold delta
  rw [← m_at, ← v_at, eq_ix2 i]
  pointwise [val_main_v26, val_main_v25, val_main_v24, val_main_v23, val_main_v22, val_main_v21, val_main_v20, val_main_v19, val_main_v18, val_main_v17, val_main_v16, val_main_v15, val_main_v14]
  rfl

end Cert.AdamAdaRefIdeal.Whole

namespace Cert.AdamAdaIdeal.Whole

open Cert.AdamAdaIdeal Cert.AdamAdaIdeal.Gen

variable (m : (ℓ : Loc nD τ sig) → Buf (Elt Ideal) ℓ)

/-- Every window is the whole of its array. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] :=
  (by decide +kernel : ∀ t : Fin grid0.N, _)

section
variable (a : FVec Ideal S16x1024 .f32) (d : FVec Ideal S16x384 .f32) (w u v : FVec Ideal S1024x384 .f32)
  (y : S1024x384.Idx)

theorem pay4_at : k0_pay4 (F := Ideal) a d y = Cert.AdamAdaRefIdeal.Whole.grad a d y := by
  rw [eq_ix2 y]
  pointwise [k0_pay4, Cert.AdamAdaRefIdeal.Whole.grad]

theorem pay8_at : k0_pay8 (F := Ideal) a d y = Cert.AdamAdaRefIdeal.Whole.grad a d y := by
  rw [← pay4_at, eq_ix2 y]
  pointwise [k0_pay8]

theorem pay5_at : k0_pay5 (F := Ideal) a d u y = newM (Cert.AdamAdaRefIdeal.Whole.grad a d y) (u y) := by
  rw [← pay4_at, eq_ix2 y]
  pointwise [k0_pay5]
  rfl

theorem pay2_at : k0_pay2 (F := Ideal) (k0_pay5 (F := Ideal) a d u) y = newM (Cert.AdamAdaRefIdeal.Whole.grad a d y) (u y) := by
  rw [← pay5_at, eq_ix2 y]
  pointwise [k0_pay2]

theorem pay6_at : k0_pay6 (F := Ideal) a d v y = newV (Cert.AdamAdaRefIdeal.Whole.grad a d y) (v y) := by
  rw [← pay4_at, eq_ix2 y]
  pointwise [k0_pay6]
  rfl

theorem pay3_at : k0_pay3 (F := Ideal) (k0_pay6 (F := Ideal) a d v) y = newV (Cert.AdamAdaRefIdeal.Whole.grad a d y) (v y) := by
  rw [← pay6_at, eq_ix2 y]
  pointwise [k0_pay3]

theorem pay1_at : k0_pay1 (F := Ideal) (k0_pay7 (F := Ideal) a d w u v) y
    = delta (Cert.AdamAdaRefIdeal.Whole.grad a d y) (w y) (u y) (v y) := by
  unfold delta
  rw [← pay5_at, ← pay6_at, eq_ix2 y]
  pointwise [k0_pay1, k0_pay7]

end

theorem final5 (c : Dev nD) : (dats m 0 c).arrAt 5 (cfgs 0).N
    = Cert.AdamAdaRefIdeal.Read.val_main_v2 (F := Ideal) (m ((c : Thread nD τ).loc main_arg0)) (m ((c : Thread nD τ).loc main_arg1)) := by
  refine (dats m 0 c).arrAt_eq_of_covers 5 _ (by decide +kernel) fun t _ y => ?_
  obtain ⟨e0, e1, e2, e3, e4, e5, e6, e7, e8⟩ := idx t
  blk_simp
  rw [after0_5]; unfold out0_5; frame_out
  refine (pay8_at _ _ y).trans (Eq.trans ?_ (Cert.AdamAdaRefIdeal.Whole.grad_at _ _ _).symm)
  refine Finset.sum_congr rfl fun k _ => ?_
  blk_point [iblk, V, e0, e1, e2, e3, e4, e5]

theorem final6 (c : Dev nD) : (dats m 0 c).arrAt 6 (cfgs 0).N
    = Cert.AdamAdaRefIdeal.Read.val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  obtain ⟨e0, e1, e2, e3, e4, e5, e6, e7, e8⟩ := idx t
  blk_simp
  rw [after0_6]; unfold out0_6; frame_out
  refine (pay1_at _ _ _ _ _ y).trans (Eq.trans ?_ (Cert.AdamAdaRefIdeal.Whole.delta_at _ _ _ _ _ _).symm)
  refine delta_congr ?_ ?_ ?_ ?_
  · refine Finset.sum_congr rfl fun k _ => ?_
    blk_point [iblk, V, e0, e1, e2, e3, e4, e6]
  · blk_point [iblk, V, e0, e1, e2, e3, e4, e6]
  · blk_point [iblk, V, e0, e1, e2, e3, e4, e6]
  · blk_point [iblk, V, e0, e1, e2, e3, e4, e6]

theorem final7 (c : Dev nD) : (dats m 0 c).arrAt 7 (cfgs 0).N
    = Cert.AdamAdaRefIdeal.Read.val_main_v7 (F := Ideal) (m ((c : Thread nD τ).loc main_arg0)) (m ((c : Thread nD τ).loc main_arg1)) (m ((c : Thread nD τ).loc main_arg3)) := by
  refine (dats m 0 c).arrAt_eq_of_covers 7 _ (by decide +kernel) fun t _ y => ?_
  obtain ⟨e0, e1, e2, e3, e4, e5, e6, e7, e8⟩ := idx t
  blk_simp
  rw [after0_7]; unfold out0_7; frame_out
  refine (pay2_at _ _ _ y).trans (Eq.trans ?_ (Cert.AdamAdaRefIdeal.Whole.m_at _ _ _ _).symm)
  refine congrArg₂ newM ?_ ?_
  · refine Finset.sum_congr rfl fun k _ => ?_
    blk_point [iblk, V, e0, e1, e2, e3, e4, e7]
  · blk_point [iblk, V, e0, e1, e2, e3, e4, e7]

theorem final8 (c : Dev nD) : (dats m 0 c).arrAt 8 (cfgs 0).N
    = Cert.AdamAdaRefIdeal.Read.val_main_v13 (F := Ideal) (m ((c : Thread nD τ).loc main_arg0)) (m ((c : Thread nD τ).loc main_arg1)) (m ((c : Thread nD τ).loc main_arg4)) := by
  refine (dats m 0 c).arrAt_eq_of_covers 8 _ (by decide +kernel) fun t _ y => ?_
  obtain ⟨e0, e1, e2, e3, e4, e5, e6, e7, e8⟩ := idx t
  blk_simp
  rw [after0_8]; unfold out0_8; frame_out
  refine (pay3_at _ _ _ y).trans (Eq.trans ?_ (Cert.AdamAdaRefIdeal.Whole.v_at _ _ _ _).symm)
  refine congrArg₂ newV ?_ ?_
  · refine Finset.sum_congr rfl fun k _ => ?_
    blk_point [iblk, V, e0, e1, e2, e3, e4, e8]
  · blk_point [iblk, V, e0, e1, e2, e3, e4, e8]

end Cert.AdamAdaIdeal.Whole
-- ==== Proof.AdamRestIdealBody.lean ====
/-
  The step of the eight weights (idealized call `adam_rest`), from the entry to the body: the 56 windows' blocks, what each output's
  buffer holds after the body, the body's triple and the proof data. The generated frame states the same; two of its
  theorems do not check within the usual limit, so that it is stated here, with the rest in `AdamRestIdealFrame`.
-/
import proofs.«01_k».proof.Proof.Gen.AdamRestIdeal.Launch
import proofs.«01_k».proof.Proof.Gen.AdamRestIdeal.Skeleton
import proofs.«01_k».proof.Proof.Gen.AdamRestIdeal.Points
import Idealize.ShloMosaic.Lib.Pipeline.FrameBody
import Idealize.ShloMosaic.Lib.Claim
import Idealize.ShloMosaic.Lib.Ring
import Idealize.ShloMosaic.Lib.Tactic
import Idealize.ShloMosaic.Lib.WordCmp

-- membership in a rectangle of production extents (`View.cover_of_tiled`): its check
-- recurses once per coordinate of the long axes
set_option maxRecDepth 16384

noncomputable section

namespace Cert.AdamRestIdeal.Whole

open Cert.AdamRestIdeal Cert.AdamRestIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl
theorem V_main_arg8 (c : Dev nD) : V m c main_arg8 = m ((c : Thread nD τ).loc main_arg8) := rfl
theorem V_main_arg9 (c : Dev nD) : V m c main_arg9 = m ((c : Thread nD τ).loc main_arg9) := rfl
theorem V_main_arg10 (c : Dev nD) : V m c main_arg10 = m ((c : Thread nD τ).loc main_arg10) := rfl
theorem V_main_arg11 (c : Dev nD) : V m c main_arg11 = m ((c : Thread nD τ).loc main_arg11) := rfl
theorem V_main_arg12 (c : Dev nD) : V m c main_arg12 = m ((c : Thread nD τ).loc main_arg12) := rfl
theorem V_main_arg13 (c : Dev nD) : V m c main_arg13 = m ((c : Thread nD τ).loc main_arg13) := rfl
theorem V_main_arg14 (c : Dev nD) : V m c main_arg14 = m ((c : Thread nD τ).loc main_arg14) := rfl
theorem V_main_arg15 (c : Dev nD) : V m c main_arg15 = m ((c : Thread nD τ).loc main_arg15) := rfl
theorem V_main_arg16 (c : Dev nD) : V m c main_arg16 = m ((c : Thread nD τ).loc main_arg16) := rfl
theorem V_main_arg17 (c : Dev nD) : V m c main_arg17 = m ((c : Thread nD τ).loc main_arg17) := rfl
theorem V_main_arg18 (c : Dev nD) : V m c main_arg18 = m ((c : Thread nD τ).loc main_arg18) := rfl
theorem V_main_arg19 (c : Dev nD) : V m c main_arg19 = m ((c : Thread nD τ).loc main_arg19) := rfl
theorem V_main_arg20 (c : Dev nD) : V m c main_arg20 = m ((c : Thread nD τ).loc main_arg20) := rfl
theorem V_main_arg21 (c : Dev nD) : V m c main_arg21 = m ((c : Thread nD τ).loc main_arg21) := rfl
theorem V_main_arg22 (c : Dev nD) : V m c main_arg22 = m ((c : Thread nD τ).loc main_arg22) := rfl
theorem V_main_arg23 (c : Dev nD) : V m c main_arg23 = m ((c : Thread nD τ).loc main_arg23) := rfl
theorem V_main_arg24 (c : Dev nD) : V m c main_arg24 = m ((c : Thread nD τ).loc main_arg24) := rfl
theorem V_main_arg25 (c : Dev nD) : V m c main_arg25 = m ((c : Thread nD τ).loc main_arg25) := rfl
theorem V_main_arg26 (c : Dev nD) : V m c main_arg26 = m ((c : Thread nD τ).loc main_arg26) := rfl
theorem V_main_arg27 (c : Dev nD) : V m c main_arg27 = m ((c : Thread nD τ).loc main_arg27) := rfl
theorem V_main_arg28 (c : Dev nD) : V m c main_arg28 = m ((c : Thread nD τ).loc main_arg28) := rfl
theorem V_main_arg29 (c : Dev nD) : V m c main_arg29 = m ((c : Thread nD τ).loc main_arg29) := rfl
theorem V_main_arg30 (c : Dev nD) : V m c main_arg30 = m ((c : Thread nD τ).loc main_arg30) := rfl
theorem V_main_arg31 (c : Dev nD) : V m c main_arg31 = m ((c : Thread nD τ).loc main_arg31) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
/-- Input window 17's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
/-- Input window 18's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
/-- Input window 19's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)
/-- Input window 20's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_20_of {c : Dev nD} (dat : Dat τ (Elt F) Unit ℕ (UR sig nD τ) ℕ cfg0 c) (hA : dat.A 20 = V m c (Pipeline.arrRef spec0 20))
    (hafter : ∀ t, dat.after 20 t = iblk m c 20 t) (t : Fin cfg0.N) (d) : dat.before 20 t d = iblk m c 20 t :=
  (dat.before_in_eq_fetched 20 rfl (fun _ => rfl) (fun _ _ _ => rfl) (fun t => by rw [hafter]; unfold Dat.blockOf iblk; rw [hA]; try rfl) t d).trans
    (by unfold Dat.fetched Dat.blockOf iblk; rw [hA]; try rfl)
/-- Input window 21's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_21_of {c : Dev nD} (dat : Dat τ (Elt F) Unit ℕ (UR sig nD τ) ℕ cfg0 c) (hA : dat.A 21 = V m c (Pipeline.arrRef spec0 21))
    (hafter : ∀ t, dat.after 21 t = iblk m c 21 t) (t : Fin cfg0.N) (d) : dat.before 21 t d = iblk m c 21 t :=
  (dat.before_in_eq_fetched 21 rfl (fun _ => rfl) (fun _ _ _ => rfl) (fun t => by rw [hafter]; unfold Dat.blockOf iblk; rw [hA]; try rfl) t d).trans
    (by unfold Dat.fetched Dat.blockOf iblk; rw [hA]; try rfl)
/-- Input window 22's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_22_of {c : Dev nD} (dat : Dat τ (Elt F) Unit ℕ (UR sig nD τ) ℕ cfg0 c) (hA : dat.A 22 = V m c (Pipeline.arrRef spec0 22))
    (hafter : ∀ t, dat.after 22 t = iblk m c 22 t) (t : Fin cfg0.N) (d) : dat.before 22 t d = iblk m c 22 t :=
  (dat.before_in_eq_fetched 22 rfl (fun _ => rfl) (fun _ _ _ => rfl) (fun t => by rw [hafter]; unfold Dat.blockOf iblk; rw [hA]; try rfl) t d).trans
    (by unfold Dat.fetched Dat.blockOf iblk; rw [hA]; try rfl)
/-- Input window 23's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_23_of {c : Dev nD} (dat : Dat τ (Elt F) Unit ℕ (UR sig nD τ) ℕ cfg0 c) (hA : dat.A 23 = V m c (Pipeline.arrRef spec0 23))
    (hafter : ∀ t, dat.after 23 t = iblk m c 23 t) (t : Fin cfg0.N) (d) : dat.before 23 t d = iblk m c 23 t :=
  (dat.before_in_eq_fetched 23 rfl (fun _ => rfl) (fun _ _ _ => rfl) (fun t => by rw [hafter]; unfold Dat.blockOf iblk; rw [hA]; try rfl) t d).trans
    (by unfold Dat.fetched Dat.blockOf iblk; rw [hA]; try rfl)
/-- Input window 24's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_24_of {c : Dev nD} (dat : Dat τ (Elt F) Unit ℕ (UR sig nD τ) ℕ cfg0 c) (hA : dat.A 24 = V m c (Pipeline.arrRef spec0 24))
    (hafter : ∀ t, dat.after 24 t = iblk m c 24 t) (t : Fin cfg0.N) (d) : dat.before 24 t d = iblk m c 24 t :=
  (dat.before_in_eq_fetched 24 rfl (fun _ => rfl) (fun _ _ _ => rfl) (fun t => by rw [hafter]; unfold Dat.blockOf iblk; rw [hA]; try rfl) t d).trans
    (by unfold Dat.fetched Dat.blockOf iblk; rw [hA]; try rfl)
/-- Input window 25's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_25_of {c : Dev nD} (dat : Dat τ (Elt F) Unit ℕ (UR sig nD τ) ℕ cfg0 c) (hA : dat.A 25 = V m c (Pipeline.arrRef spec0 25))
    (hafter : ∀ t, dat.after 25 t = iblk m c 25 t) (t : Fin cfg0.N) (d) : dat.before 25 t d = iblk m c 25 t :=
  (dat.before_in_eq_fetched 25 rfl (fun _ => rfl) (fun _ _ _ => rfl) (fun t => by rw [hafter]; unfold Dat.blockOf iblk; rw [hA]; try rfl) t d).trans
    (by unfold Dat.fetched Dat.blockOf iblk; rw [hA]; try rfl)
/-- Input window 26's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_26_of {c : Dev nD} (dat : Dat τ (Elt F) Unit ℕ (UR sig nD τ) ℕ cfg0 c) (hA : dat.A 26 = V m c (Pipeline.arrRef spec0 26))
    (hafter : ∀ t, dat.after 26 t = iblk m c 26 t) (t : Fin cfg0.N) (d) : dat.before 26 t d = iblk m c 26 t :=
  (dat.before_in_eq_fetched 26 rfl (fun _ => rfl) (fun _ _ _ => rfl) (fun t => by rw [hafter]; unfold Dat.blockOf iblk; rw [hA]; try rfl) t d).trans
    (by unfold Dat.fetched Dat.blockOf iblk; rw [hA]; try rfl)
/-- Input window 27's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_27_of {c : Dev nD} (dat : Dat τ (Elt F) Unit ℕ (UR sig nD τ) ℕ cfg0 c) (hA : dat.A 27 = V m c (Pipeline.arrRef spec0 27))
    (hafter : ∀ t, dat.after 27 t = iblk m c 27 t) (t : Fin cfg0.N) (d) : dat.before 27 t d = iblk m c 27 t :=
  (dat.before_in_eq_fetched 27 rfl (fun _ => rfl) (fun _ _ _ => rfl) (fun t => by rw [hafter]; unfold Dat.blockOf iblk; rw [hA]; try rfl) t d).trans
    (by unfold Dat.fetched Dat.blockOf iblk; rw [hA]; try rfl)
/-- Input window 28's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_28_of {c : Dev nD} (dat : Dat τ (Elt F) Unit ℕ (UR sig nD τ) ℕ cfg0 c) (hA : dat.A 28 = V m c (Pipeline.arrRef spec0 28))
    (hafter : ∀ t, dat.after 28 t = iblk m c 28 t) (t : Fin cfg0.N) (d) : dat.before 28 t d = iblk m c 28 t :=
  (dat.before_in_eq_fetched 28 rfl (fun _ => rfl) (fun _ _ _ => rfl) (fun t => by rw [hafter]; unfold Dat.blockOf iblk; rw [hA]; try rfl) t d).trans
    (by unfold Dat.fetched Dat.blockOf iblk; rw [hA]; try rfl)
/-- Input window 29's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_29_of {c : Dev nD} (dat : Dat τ (Elt F) Unit ℕ (UR sig nD τ) ℕ cfg0 c) (hA : dat.A 29 = V m c (Pipeline.arrRef spec0 29))
    (hafter : ∀ t, dat.after 29 t = iblk m c 29 t) (t : Fin cfg0.N) (d) : dat.before 29 t d = iblk m c 29 t :=
  (dat.before_in_eq_fetched 29 rfl (fun _ => rfl) (fun _ _ _ => rfl) (fun t => by rw [hafter]; unfold Dat.blockOf iblk; rw [hA]; try rfl) t d).trans
    (by unfold Dat.fetched Dat.blockOf iblk; rw [hA]; try rfl)
/-- Input window 30's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_30_of {c : Dev nD} (dat : Dat τ (Elt F) Unit ℕ (UR sig nD τ) ℕ cfg0 c) (hA : dat.A 30 = V m c (Pipeline.arrRef spec0 30))
    (hafter : ∀ t, dat.after 30 t = iblk m c 30 t) (t : Fin cfg0.N) (d) : dat.before 30 t d = iblk m c 30 t :=
  (dat.before_in_eq_fetched 30 rfl (fun _ => rfl) (fun _ _ _ => rfl) (fun t => by rw [hafter]; unfold Dat.blockOf iblk; rw [hA]; try rfl) t d).trans
    (by unfold Dat.fetched Dat.blockOf iblk; rw [hA]; try rfl)
/-- Input window 31's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_31_of {c : Dev nD} (dat : Dat τ (Elt F) Unit ℕ (UR sig nD τ) ℕ cfg0 c) (hA : dat.A 31 = V m c (Pipeline.arrRef spec0 31))
    (hafter : ∀ t, dat.after 31 t = iblk m c 31 t) (t : Fin cfg0.N) (d) : dat.before 31 t d = iblk m c 31 t :=
  (dat.before_in_eq_fetched 31 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 3360000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_AdamRestIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).1 4).trans (((dats 0 c).arrAt_in 4 rfl _).trans ((hA c 4).trans (V_main_arg4 m c))),
      ((h c).1 5).trans (((dats 0 c).arrAt_in 5 rfl _).trans ((hA c 5).trans (V_main_arg5 m c))),
      ((h c).1 6).trans (((dats 0 c).arrAt_in 6 rfl _).trans ((hA c 6).trans (V_main_arg6 m c))),
      ((h c).1 7).trans (((dats 0 c).arrAt_in 7 rfl _).trans ((hA c 7).trans (V_main_arg7 m c))),
      ((h c).1 8).trans (((dats 0 c).arrAt_in 8 rfl _).trans ((hA c 8).trans (V_main_arg8 m c))),
      ((h c).1 9).trans (((dats 0 c).arrAt_in 9 rfl _).trans ((hA c 9).trans (V_main_arg9 m c))),
      ((h c).1 10).trans (((dats 0 c).arrAt_in 10 rfl _).trans ((hA c 10).trans (V_main_arg10 m c))),
      ((h c).1 11).trans (((dats 0 c).arrAt_in 11 rfl _).trans ((hA c 11).trans (V_main_arg11 m c))),
      ((h c).1 12).trans (((dats 0 c).arrAt_in 12 rfl _).trans ((hA c 12).trans (V_main_arg12 m c))),
      ((h c).1 13).trans (((dats 0 c).arrAt_in 13 rfl _).trans ((hA c 13).trans (V_main_arg13 m c))),
      ((h c).1 14).trans (((dats 0 c).arrAt_in 14 rfl _).trans ((hA c 14).trans (V_main_arg14 m c))),
      ((h c).1 15).trans (((dats 0 c).arrAt_in 15 rfl _).trans ((hA c 15).trans (V_main_arg15 m c))),
      ((h c).1 16).trans (((dats 0 c).arrAt_in 16 rfl _).trans ((hA c 16).trans (V_main_arg16 m c))),
      ((h c).1 17).trans (((dats 0 c).arrAt_in 17 rfl _).trans ((hA c 17).trans (V_main_arg17 m c))),
      ((h c).1 18).trans (((dats 0 c).arrAt_in 18 rfl _).trans ((hA c 18).trans (V_main_arg18 m c))),
      ((h c).1 19).trans (((dats 0 c).arrAt_in 19 rfl _).trans ((hA c 19).trans (V_main_arg19 m c))),
      ((h c).1 20).trans (((dats 0 c).arrAt_in 20 rfl _).trans ((hA c 20).trans (V_main_arg20 m c))),
      ((h c).1 21).trans (((dats 0 c).arrAt_in 21 rfl _).trans ((hA c 21).trans (V_main_arg21 m c))),
      ((h c).1 22).trans (((dats 0 c).arrAt_in 22 rfl _).trans ((hA c 22).trans (V_main_arg22 m c))),
      ((h c).1 23).trans (((dats 0 c).arrAt_in 23 rfl _).trans ((hA c 23).trans (V_main_arg23 m c))),
      ((h c).1 24).trans (((dats 0 c).arrAt_in 24 rfl _).trans ((hA c 24).trans (V_main_arg24 m c))),
      ((h c).1 25).trans (((dats 0 c).arrAt_in 25 rfl _).trans ((hA c 25).trans (V_main_arg25 m c))),
      ((h c).1 26).trans (((dats 0 c).arrAt_in 26 rfl _).trans ((hA c 26).trans (V_main_arg26 m c))),
      ((h c).1 27).trans (((dats 0 c).arrAt_in 27 rfl _).trans ((hA c 27).trans (V_main_arg27 m c))),
      ((h c).1 28).trans (((dats 0 c).arrAt_in 28 rfl _).trans ((hA c 28).trans (V_main_arg28 m c))),
      ((h c).1 29).trans (((dats 0 c).arrAt_in 29 rfl _).trans ((hA c 29).trans (V_main_arg29 m c))),
      ((h c).1 30).trans (((dats 0 c).arrAt_in 30 rfl _).trans ((hA c 30).trans (V_main_arg30 m c))),
      ((h c).1 31).trans (((dats 0 c).arrAt_in 31 rfl _).trans ((hA c 31).trans (V_main_arg31 m c)))⟩) h

/-! ## The body's accesses -/

abbrev r0_0 : Rect S128x1024 := Rect.unit (s := S128x1024) ![0, 0] S128x1024.size inb_S128x1024_S128x1024_0_0
abbrev r0_1 : Rect S1x3072 := Rect.unit (s := S1x3072) ![0, 0] S1x3072.size inb_S1x3072_S1x3072_0_0
abbrev r0_2 : Rect S1x8704 := Rect.unit (s := S1x8704) ![0, 0] S1x8704.size inb_S1x8704_S1x8704_0_0
abbrev r0_3 : Rect S3x128 := Rect.unit (s := S3x128) ![0, 0] S3x128.size inb_S3x128_S3x128_0_0
abbrev r0_4 : Rect S1x1024 := Rect.unit (s := S1x1024) ![0, 0] S1x1024.size inb_S1x1024_S1x1024_0_0

/-! ## What the body leaves in each output window's buffer -/

/-- Window 32's staging buffer after the body, from the input windows' blocks: its 1 store as pieces, LAST
    FIRST (Lib/Pipeline/FrameBody.lean `View.canon`; the payloads are the skeleton's). -/
def out0_32 (x0 : Vec F S128x1024 .f32) (x1 : Vec F S128x1024 .f32) (x2 : Vec F S128x1024 .f32) (x3 : Vec F S128x1024 .f32) (x4 : Vec F S128x1024 .f32) (x5 : Vec F S128x1024 .f32) (x6 : Vec F S128x1024 .f32) (x7 : Vec F S128x1024 .f32) (x8 : Vec F S1x3072 .f32) (x9 : Vec F S1x3072 .f32) (x10 : Vec F S1x3072 .f32) (x11 : Vec F S1x3072 .f32) (x12 : Vec F S1x8704 .f32) (x13 : Vec F S1x8704 .f32) (x14 : Vec F S1x8704 .f32) (x15 : Vec F S1x8704 .f32) (x16 : Vec F S3x128 .f32) (x17 : Vec F S3x128 .f32) (x18 : Vec F S3x128 .f32) (x19 : Vec F S3x128 .f32) (x20 : Vec F S1x1024 .f32) (x21 : Vec F S1x1024 .f32) (x22 : Vec F S1x1024 .f32) (x23 : Vec F S1x1024 .f32) (x24 : Vec F S1x1024 .f32) (x25 : Vec F S1x1024 .f32) (x26 : Vec F S1x1024 .f32) (x27 : Vec F S1x1024 .f32) (x28 : Vec F S1x1024 .f32) (x29 : Vec F S1x1024 .f32) (x30 : Vec F S1x1024 .f32) (x31 : Vec F S1x1024 .f32) : Vec F S128x1024 .f32 :=
  View.canon [⟨r0_0, k0_pay6 (View.ld x0 r0_0) (View.ld x1 r0_0) (View.ld x2 r0_0) (View.ld x3 r0_0)⟩]

/-- Its stores tile the buffer (checked by evaluation), so they cover it. -/
theorem cover0_32 (p0 : Vec F S128x1024 .f32) (y : S128x1024.Idx) :
    ∃ pc ∈ ([⟨r0_0, p0⟩] : List (View.Piece (Elt F) S128x1024 .f32)), y ∈ pc.1.set :=
  View.cover_of_tiled [⟨r0_0, p0⟩] S128x1024.size (by rfl) y

/-- Window 33's staging buffer after the body, from the input windows' blocks: its 1 store as pieces, LAST
    FIRST (Lib/Pipeline/FrameBody.lean `View.canon`; the payloads are the skeleton's). -/
def out0_33 (x0 : Vec F S128x1024 .f32) (x1 : Vec F S128x1024 .f32) (x2 : Vec F S128x1024 .f32) (x3 : Vec F S128x1024 .f32) (x4 : Vec F S128x1024 .f32) (x5 : Vec F S128x1024 .f32) (x6 : Vec F S128x1024 .f32) (x7 : Vec F S128x1024 .f32) (x8 : Vec F S1x3072 .f32) (x9 : Vec F S1x3072 .f32) (x10 : Vec F S1x3072 .f32) (x11 : Vec F S1x3072 .f32) (x12 : Vec F S1x8704 .f32) (x13 : Vec F S1x8704 .f32) (x14 : Vec F S1x8704 .f32) (x15 : Vec F S1x8704 .f32) (x16 : Vec F S3x128 .f32) (x17 : Vec F S3x128 .f32) (x18 : Vec F S3x128 .f32) (x19 : Vec F S3x128 .f32) (x20 : Vec F S1x1024 .f32) (x21 : Vec F S1x1024 .f32) (x22 : Vec F S1x1024 .f32) (x23 : Vec F S1x1024 .f32) (x24 : Vec F S1x1024 .f32) (x25 : Vec F S1x1024 .f32) (x26 : Vec F S1x1024 .f32) (x27 : Vec F S1x1024 .f32) (x28 : Vec F S1x1024 .f32) (x29 : Vec F S1x1024 .f32) (x30 : Vec F S1x1024 .f32) (x31 : Vec F S1x1024 .f32) : Vec F S128x1024 .f32 :=
  View.canon [⟨r0_0, k0_pay7 (View.ld x1 r0_0) (View.ld x2 r0_0)⟩]

/-- Its stores tile the buffer (checked by evaluation), so they cover it. -/
theorem cover0_33 (p0 : Vec F S128x1024 .f32) (y : S128x1024.Idx) :
    ∃ pc ∈ ([⟨r0_0, p0⟩] : List (View.Piece (Elt F) S128x1024 .f32)), y ∈ pc.1.set :=
  View.cover_of_tiled [⟨r0_0, p0⟩] S128x1024.size (by rfl) y

/-- Window 34's staging buffer after the body, from the input windows' blocks: its 1 store as pieces, LAST
    FIRST (Lib/Pipeline/FrameBody.lean `View.canon`; the payloads are the skeleton's). -/
def out0_34 (x0 : Vec F S128x1024 .f32) (x1 : Vec F S128x1024 .f32) (x2 : Vec F S128x1024 .f32) (x3 : Vec F S128x1024 .f32) (x4 : Vec F S128x1024 .f32) (x5 : Vec F S128x1024 .f32) (x6 : Vec F S128x1024 .f32) (x7 : Vec F S128x1024 .f32) (x8 : Vec F S1x3072 .f32) (x9 : Vec F S1x3072 .f32) (x10 : Vec F S1x3072 .f32) (x11 : Vec F S1x3072 .f32) (x12 : Vec F S1x8704 .f32) (x13 : Vec F S1x8704 .f32) (x14 : Vec F S1x8704 .f32) (x15 : Vec F S1x8704 .f32) (x16 : Vec F S3x128 .f32) (x17 : Vec F S3x128 .f32) (x18 : Vec F S3x128 .f32) (x19 : Vec F S3x128 .f32) (x20 : Vec F S1x1024 .f32) (x21 : Vec F S1x1024 .f32) (x22 : Vec F S1x1024 .f32) (x23 : Vec F S1x1024 .f32) (x24 : Vec F S1x1024 .f32) (x25 : Vec F S1x1024 .f32) (x26 : Vec F S1x1024 .f32) (x27 : Vec F S1x1024 .f32) (x28 : Vec F S1x1024 .f32) (x29 : Vec F S1x1024 .f32) (x30 : Vec F S1x1024 .f32) (x31 : Vec F S1x1024 .f32) : Vec F S128x1024 .f32 :=
  View.canon [⟨r0_0, k0_pay8 (k0_pay5 (View.ld x1 r0_0) (View.ld x3 r0_0))⟩]

/-- Its stores tile the buffer (checked by evaluation), so they cover it. -/
theorem cover0_34 (p0 : Vec F S128x1024 .f32) (y : S128x1024.Idx) :
    ∃ pc ∈ ([⟨r0_0, p0⟩] : List (View.Piece (Elt F) S128x1024 .f32)), y ∈ pc.1.set :=
  View.cover_of_tiled [⟨r0_0, p0⟩] S128x1024.size (by rfl) y

/-- Window 35's staging buffer after the body, from the input windows' blocks: its 1 store as pieces, LAST
    FIRST (Lib/Pipeline/FrameBody.lean `View.canon`; the payloads are the skeleton's). -/
def out0_35 (x0 : Vec F S128x1024 .f32) (x1 : Vec F S128x1024 .f32) (x2 : Vec F S128x1024 .f32) (x3 : Vec F S128x1024 .f32) (x4 : Vec F S128x1024 .f32) (x5 : Vec F S128x1024 .f32) (x6 : Vec F S128x1024 .f32) (x7 : Vec F S128x1024 .f32) (x8 : Vec F S1x3072 .f32) (x9 : Vec F S1x3072 .f32) (x10 : Vec F S1x3072 .f32) (x11 : Vec F S1x3072 .f32) (x12 : Vec F S1x8704 .f32) (x13 : Vec F S1x8704 .f32) (x14 : Vec F S1x8704 .f32) (x15 : Vec F S1x8704 .f32) (x16 : Vec F S3x128 .f32) (x17 : Vec F S3x128 .f32) (x18 : Vec F S3x128 .f32) (x19 : Vec F S3x128 .f32) (x20 : Vec F S1x1024 .f32) (x21 : Vec F S1x1024 .f32) (x22 : Vec F S1x1024 .f32) (x23 : Vec F S1x1024 .f32) (x24 : Vec F S1x1024 .f32) (x25 : Vec F S1x1024 .f32) (x26 : Vec F S1x1024 .f32) (x27 : Vec F S1x1024 .f32) (x28 : Vec F S1x1024 .f32) (x29 : Vec F S1x1024 .f32) (x30 : Vec F S1x1024 .f32) (x31 : Vec F S1x1024 .f32) : Vec F S128x1024 .f32 :=
  View.canon [⟨r0_0, k0_pay11 (View.ld x4 r0_0) (View.ld x5 r0_0) (View.ld x6 r0_0) (View.ld x7 r0_0)⟩]

/-- Its stores tile the buffer (checked by evaluation), so they cover it. -/
theorem cover0_35 (p0 : Vec F S128x1024 .f32) (y : S128x1024.Idx) :
    ∃ pc ∈ ([⟨r0_0, p0⟩] : List (View.Piece (Elt F) S128x1024 .f32)), y ∈ pc.1.set :=
  View.cover_of_tiled [⟨r0_0, p0⟩] S128x1024.size (by rfl) y

/-- Window 36's staging buffer after the body, from the input windows' blocks: its 1 store as pieces, LAST
    FIRST (Lib/Pipeline/FrameBody.lean `View.canon`; the payloads are the skeleton's). -/
def out0_36 (x0 : Vec F S128x1024 .f32) (x1 : Vec F S128x1024 .f32) (x2 : Vec F S128x1024 .f32) (x3 : Vec F S128x1024 .f32) (x4 : Vec F S128x1024 .f32) (x5 : Vec F S128x1024 .f32) (x6 : Vec F S128x1024 .f32) (x7 : Vec F S128x1024 .f32) (x8 : Vec F S1x3072 .f32) (x9 : Vec F S1x3072 .f32) (x10 : Vec F S1x3072 .f32) (x11 : Vec F S1x3072 .f32) (x12 : Vec F S1x8704 .f32) (x13 : Vec F S1x8704 .f32) (x14 : Vec F S1x8704 .f32) (x15 : Vec F S1x8704 .f32) (x16 : Vec F S3x128 .f32) (x17 : Vec F S3x128 .f32) (x18 : Vec F S3x128 .f32) (x19 : Vec F S3x128 .f32) (x20 : Vec F S1x1024 .f32) (x21 : Vec F S1x1024 .f32) (x22 : Vec F S1x1024 .f32) (x23 : Vec F S1x1024 .f32) (x24 : Vec F S1x1024 .f32) (x25 : Vec F S1x1024 .f32) (x26 : Vec F S1x1024 .f32) (x27 : Vec F S1x1024 .f32) (x28 : Vec F S1x1024 .f32) (x29 : Vec F S1x1024 .f32) (x30 : Vec F S1x1024 .f32) (x31 : Vec F S1x1024 .f32) : Vec F S128x1024 .f32 :=
  View.canon [⟨r0_0, k0_pay12 (View.ld x5 r0_0) (View.ld x6 r0_0)⟩]

/-- Its stores tile the buffer (checked by evaluation), so they cover it. -/
theorem cover0_36 (p0 : Vec F S128x1024 .f32) (y : S128x1024.Idx) :
    ∃ pc ∈ ([⟨r0_0, p0⟩] : List (View.Piece (Elt F) S128x1024 .f32)), y ∈ pc.1.set :=
  View.cover_of_tiled [⟨r0_0, p0⟩] S128x1024.size (by rfl) y

/-- Window 37's staging buffer after the body, from the input windows' blocks: its 1 store as pieces, LAST
    FIRST (Lib/Pipeline/FrameBody.lean `View.canon`; the payloads are the skeleton's). -/
def out0_37 (x0 : Vec F S128x1024 .f32) (x1 : Vec F S128x1024 .f32) (x2 : Vec F S128x1024 .f32) (x3 : Vec F S128x1024 .f32) (x4 : Vec F S128x1024 .f32) (x5 : Vec F S128x1024 .f32) (x6 : Vec F S128x1024 .f32) (x7 : Vec F S128x1024 .f32) (x8 : Vec F S1x3072 .f32) (x9 : Vec F S1x3072 .f32) (x10 : Vec F S1x3072 .f32) (x11 : Vec F S1x3072 .f32) (x12 : Vec F S1x8704 .f32) (x13 : Vec F S1x8704 .f32) (x14 : Vec F S1x8704 .f32) (x15 : Vec F S1x8704 .f32) (x16 : Vec F S3x128 .f32) (x17 : Vec F S3x128 .f32) (x18 : Vec F S3x128 .f32) (x19 : Vec F S3x128 .f32) (x20 : Vec F S1x1024 .f32) (x21 : Vec F S1x1024 .f32) (x22 : Vec F S1x1024 .f32) (x23 : Vec F S1x1024 .f32) (x24 : Vec F S1x1024 .f32) (x25 : Vec F S1x1024 .f32) (x26 : Vec F S1x1024 .f32) (x27 : Vec F S1x1024 .f32) (x28 : Vec F S1x1024 .f32) (x29 : Vec F S1x1024 .f32) (x30 : Vec F S1x1024 .f32) (x31 : Vec F S1x1024 .f32) : Vec F S128x1024 .f32 :=
  View.canon [⟨r0_0, k0_pay13 (k0_pay10 (View.ld x5 r0_0) (View.ld x7 r0_0))⟩]

/-- Its stores tile the buffer (checked by evaluation), so they cover it. -/
theorem cover0_37 (p0 : Vec F S128x1024 .f32) (y : S128x1024.Idx) :
    ∃ pc ∈ ([⟨r0_0, p0⟩] : List (View.Piece (Elt F) S128x1024 .f32)), y ∈ pc.1.set :=
  View.cover_of_tiled [⟨r0_0, p0⟩] S128x1024.size (by rfl) y

/-- Window 38's staging buffer after the body, from the input windows' blocks: its 1 store as pieces, LAST
    FIRST (Lib/Pipeline/FrameBody.lean `View.canon`; the payloads are the skeleton's). -/
def out0_38 (x0 : Vec F S128x1024 .f32) (x1 : Vec F S128x1024 .f32) (x2 : Vec F S128x1024 .f32) (x3 : Vec F S128x1024 .f32) (x4 : Vec F S128x1024 .f32) (x5 : Vec F S128x1024 .f32) (x6 : Vec F S128x1024 .f32) (x7 : Vec F S128x1024 .f32) (x8 : Vec F S1x3072 .f32) (x9 : Vec F S1x3072 .f32) (x10 : Vec F S1x3072 .f32) (x11 : Vec F S1x3072 .f32) (x12 : Vec F S1x8704 .f32) (x13 : Vec F S1x8704 .f32) (x14 : Vec F S1x8704 .f32) (x15 : Vec F S1x8704 .f32) (x16 : Vec F S3x128 .f32) (x17 : Vec F S3x128 .f32) (x18 : Vec F S3x128 .f32) (x19 : Vec F S3x128 .f32) (x20 : Vec F S1x1024 .f32) (x21 : Vec F S1x1024 .f32) (x22 : Vec F S1x1024 .f32) (x23 : Vec F S1x1024 .f32) (x24 : Vec F S1x1024 .f32) (x25 : Vec F S1x1024 .f32) (x26 : Vec F S1x1024 .f32) (x27 : Vec F S1x1024 .f32) (x28 : Vec F S1x1024 .f32) (x29 : Vec F S1x1024 .f32) (x30 : Vec F S1x1024 .f32) (x31 : Vec F S1x1024 .f32) : Vec F S1x3072 .f32 :=
  View.canon [⟨r0_1, k0_pay16 (View.ld x8 r0_1) (View.ld x9 r0_1) (View.ld x10 r0_1) (View.ld x11 r0_1)⟩]

/-- Its stores tile the buffer (checked by evaluation), so they cover it. -/
theorem cover0_38 (p0 : Vec F S1x3072 .f32) (y : S1x3072.Idx) :
    ∃ pc ∈ ([⟨r0_1, p0⟩] : List (View.Piece (Elt F) S1x3072 .f32)), y ∈ pc.1.set :=
  View.cover_of_tiled [⟨r0_1, p0⟩] S1x3072.size (by rfl) y

/-- Window 39's staging buffer after the body, from the input windows' blocks: its 1 store as pieces, LAST
    FIRST (Lib/Pipeline/FrameBody.lean `View.canon`; the payloads are the skeleton's). -/
def out0_39 (x0 : Vec F S128x1024 .f32) (x1 : Vec F S128x1024 .f32) (x2 : Vec F S128x1024 .f32) (x3 : Vec F S128x1024 .f32) (x4 : Vec F S128x1024 .f32) (x5 : Vec F S128x1024 .f32) (x6 : Vec F S128x1024 .f32) (x7 : Vec F S128x1024 .f32) (x8 : Vec F S1x3072 .f32) (x9 : Vec F S1x3072 .f32) (x10 : Vec F S1x3072 .f32) (x11 : Vec F S1x3072 .f32) (x12 : Vec F S1x8704 .f32) (x13 : Vec F S1x8704 .f32) (x14 : Vec F S1x8704 .f32) (x15 : Vec F S1x8704 .f32) (x16 : Vec F S3x128 .f32) (x17 : Vec F S3x128 .f32) (x18 : Vec F S3x128 .f32) (x19 : Vec F S3x128 .f32) (x20 : Vec F S1x1024 .f32) (x21 : Vec F S1x1024 .f32) (x22 : Vec F S1x1024 .f32) (x23 : Vec F S1x1024 .f32) (x24 : Vec F S1x1024 .f32) (x25 : Vec F S1x1024 .f32) (x26 : Vec F S1x1024 .f32) (x27 : Vec F S1x1024 .f32) (x28 : Vec F S1x1024 .f32) (x29 : Vec F S1x1024 .f32) (x30 : Vec F S1x1024 .f32) (x31 : Vec F S1x1024 .f32) : Vec F S1x3072 .f32 :=
  View.canon [⟨r0_1, k0_pay17 (k0_pay14 (View.ld x9 r0_1) (View.ld x10 r0_1))⟩]

/-- Its stores tile the buffer (checked by evaluation), so they cover it. -/
theorem cover0_39 (p0 : Vec F S1x3072 .f32) (y : S1x3072.Idx) :
    ∃ pc ∈ ([⟨r0_1, p0⟩] : List (View.Piece (Elt F) S1x3072 .f32)), y ∈ pc.1.set :=
  View.cover_of_tiled [⟨r0_1, p0⟩] S1x3072.size (by rfl) y

/-- Window 40's staging buffer after the body, from the input windows' blocks: its 1 store as pieces, LAST
    FIRST (Lib/Pipeline/FrameBody.lean `View.canon`; the payloads are the skeleton's). -/
def out0_40 (x0 : Vec F S128x1024 .f32) (x1 : Vec F S128x1024 .f32) (x2 : Vec F S128x1024 .f32) (x3 : Vec F S128x1024 .f32) (x4 : Vec F S128x1024 .f32) (x5 : Vec F S128x1024 .f32) (x6 : Vec F S128x1024 .f32) (x7 : Vec F S128x1024 .f32) (x8 : Vec F S1x3072 .f32) (x9 : Vec F S1x3072 .f32) (x10 : Vec F S1x3072 .f32) (x11 : Vec F S1x3072 .f32) (x12 : Vec F S1x8704 .f32) (x13 : Vec F S1x8704 .f32) (x14 : Vec F S1x8704 .f32) (x15 : Vec F S1x8704 .f32) (x16 : Vec F S3x128 .f32) (x17 : Vec F S3x128 .f32) (x18 : Vec F S3x128 .f32) (x19 : Vec F S3x128 .f32) (x20 : Vec F S1x1024 .f32) (x21 : Vec F S1x1024 .f32) (x22 : Vec F S1x1024 .f32) (x23 : Vec F S1x1024 .f32) (x24 : Vec F S1x1024 .f32) (x25 : Vec F S1x1024 .f32) (x26 : Vec F S1x1024 .f32) (x27 : Vec F S1x1024 .f32) (x28 : Vec F S1x1024 .f32) (x29 : Vec F S1x1024 .f32) (x30 : Vec F S1x1024 .f32) (x31 : Vec F S1x1024 .f32) : Vec F S1x3072 .f32 :=
  View.canon [⟨r0_1, k0_pay18 (k0_pay15 (View.ld x9 r0_1) (View.ld x11 r0_1))⟩]

/-- Its stores tile the buffer (checked by evaluation), so they cover it. -/
theorem cover0_40 (p0 : Vec F S1x3072 .f32) (y : S1x3072.Idx) :
    ∃ pc ∈ ([⟨r0_1, p0⟩] : List (View.Piece (Elt F) S1x3072 .f32)), y ∈ pc.1.set :=
  View.cover_of_tiled [⟨r0_1, p0⟩] S1x3072.size (by rfl) y

/-- Window 41's staging buffer after the body, from the input windows' blocks: its 1 store as pieces, LAST
    FIRST (Lib/Pipeline/FrameBody.lean `View.canon`; the payloads are the skeleton's). -/
def out0_41 (x0 : Vec F S128x1024 .f32) (x1 : Vec F S128x1024 .f32) (x2 : Vec F S128x1024 .f32) (x3 : Vec F S128x1024 .f32) (x4 : Vec F S128x1024 .f32) (x5 : Vec F S128x1024 .f32) (x6 : Vec F S128x1024 .f32) (x7 : Vec F S128x1024 .f32) (x8 : Vec F S1x3072 .f32) (x9 : Vec F S1x3072 .f32) (x10 : Vec F S1x3072 .f32) (x11 : Vec F S1x3072 .f32) (x12 : Vec F S1x8704 .f32) (x13 : Vec F S1x8704 .f32) (x14 : Vec F S1x8704 .f32) (x15 : Vec F S1x8704 .f32) (x16 : Vec F S3x128 .f32) (x17 : Vec F S3x128 .f32) (x18 : Vec F S3x128 .f32) (x19 : Vec F S3x128 .f32) (x20 : Vec F S1x1024 .f32) (x21 : Vec F S1x1024 .f32) (x22 : Vec F S1x1024 .f32) (x23 : Vec F S1x1024 .f32) (x24 : Vec F S1x1024 .f32) (x25 : Vec F S1x1024 .f32) (x26 : Vec F S1x1024 .f32) (x27 : Vec F S1x1024 .f32) (x28 : Vec F S1x1024 .f32) (x29 : Vec F S1x1024 .f32) (x30 : Vec F S1x1024 .f32) (x31 : Vec F S1x1024 .f32) : Vec F S1x8704 .f32 :=
  View.canon [⟨r0_2, k0_pay21 (View.ld x12 r0_2) (View.ld x13 r0_2) (View.ld x14 r0_2) (View.ld x15 r0_2)⟩]

/-- Its stores tile the buffer (checked by evaluation), so they cover it. -/
theorem cover0_41 (p0 : Vec F S1x8704 .f32) (y : S1x8704.Idx) :
    ∃ pc ∈ ([⟨r0_2, p0⟩] : List (View.Piece (Elt F) S1x8704 .f32)), y ∈ pc.1.set :=
  View.cover_of_tiled [⟨r0_2, p0⟩] S1x8704.size (by rfl) y

/-- Window 42's staging buffer after the body, from the input windows' blocks: its 1 store as pieces, LAST
    FIRST (Lib/Pipeline/FrameBody.lean `View.canon`; the payloads are the skeleton's). -/
def out0_42 (x0 : Vec F S128x1024 .f32) (x1 : Vec F S128x1024 .f32) (x2 : Vec F S128x1024 .f32) (x3 : Vec F S128x1024 .f32) (x4 : Vec F S128x1024 .f32) (x5 : Vec F S128x1024 .f32) (x6 : Vec F S128x1024 .f32) (x7 : Vec F S128x1024 .f32) (x8 : Vec F S1x3072 .f32) (x9 : Vec F S1x3072 .f32) (x10 : Vec F S1x3072 .f32) (x11 : Vec F S1x3072 .f32) (x12 : Vec F S1x8704 .f32) (x13 : Vec F S1x8704 .f32) (x14 : Vec F S1x8704 .f32) (x15 : Vec F S1x8704 .f32) (x16 : Vec F S3x128 .f32) (x17 : Vec F S3x128 .f32) (x18 : Vec F S3x128 .f32) (x19 : Vec F S3x128 .f32) (x20 : Vec F S1x1024 .f32) (x21 : Vec F S1x1024 .f32) (x22 : Vec F S1x1024 .f32) (x23 : Vec F S1x1024 .f32) (x24 : Vec F S1x1024 .f32) (x25 : Vec F S1x1024 .f32) (x26 : Vec F S1x1024 .f32) (x27 : Vec F S1x1024 .f32) (x28 : Vec F S1x1024 .f32) (x29 : Vec F S1x1024 .f32) (x30 : Vec F S1x1024 .f32) (x31 : Vec F S1x1024 .f32) : Vec F S1x8704 .f32 :=
  View.canon [⟨r0_2, k0_pay22 (k0_pay19 (View.ld x13 r0_2) (View.ld x14 r0_2))⟩]

/-- Its stores tile the buffer (checked by evaluation), so they cover it. -/
theorem cover0_42 (p0 : Vec F S1x8704 .f32) (y : S1x8704.Idx) :
    ∃ pc ∈ ([⟨r0_2, p0⟩] : List (View.Piece (Elt F) S1x8704 .f32)), y ∈ pc.1.set :=
  View.cover_of_tiled [⟨r0_2, p0⟩] S1x8704.size (by rfl) y

/-- Window 43's staging buffer after the body, from the input windows' blocks: its 1 store as pieces, LAST
    FIRST (Lib/Pipeline/FrameBody.lean `View.canon`; the payloads are the skeleton's). -/
def out0_43 (x0 : Vec F S128x1024 .f32) (x1 : Vec F S128x1024 .f32) (x2 : Vec F S128x1024 .f32) (x3 : Vec F S128x1024 .f32) (x4 : Vec F S128x1024 .f32) (x5 : Vec F S128x1024 .f32) (x6 : Vec F S128x1024 .f32) (x7 : Vec F S128x1024 .f32) (x8 : Vec F S1x3072 .f32) (x9 : Vec F S1x3072 .f32) (x10 : Vec F S1x3072 .f32) (x11 : Vec F S1x3072 .f32) (x12 : Vec F S1x8704 .f32) (x13 : Vec F S1x8704 .f32) (x14 : Vec F S1x8704 .f32) (x15 : Vec F S1x8704 .f32) (x16 : Vec F S3x128 .f32) (x17 : Vec F S3x128 .f32) (x18 : Vec F S3x128 .f32) (x19 : Vec F S3x128 .f32) (x20 : Vec F S1x1024 .f32) (x21 : Vec F S1x1024 .f32) (x22 : Vec F S1x1024 .f32) (x23 : Vec F S1x1024 .f32) (x24 : Vec F S1x1024 .f32) (x25 : Vec F S1x1024 .f32) (x26 : Vec F S1x1024 .f32) (x27 : Vec F S1x1024 .f32) (x28 : Vec F S1x1024 .f32) (x29 : Vec F S1x1024 .f32) (x30 : Vec F S1x1024 .f32) (x31 : Vec F S1x1024 .f32) : Vec F S1x8704 .f32 :=
  View.canon [⟨r0_2, k0_pay23 (k0_pay20 (View.ld x13 r0_2) (View.ld x15 r0_2))⟩]

/-- Its stores tile the buffer (checked by evaluation), so they cover it. -/
theorem cover0_43 (p0 : Vec F S1x8704 .f32) (y : S1x8704.Idx) :
    ∃ pc ∈ ([⟨r0_2, p0⟩] : List (View.Piece (Elt F) S1x8704 .f32)), y ∈ pc.1.set :=
  View.cover_of_tiled [⟨r0_2, p0⟩] S1x8704.size (by rfl) y

/-- Window 44's staging buffer after the body, from the input windows' blocks: its 1 store as pieces, LAST
    FIRST (Lib/Pipeline/FrameBody.lean `View.canon`; the payloads are the skeleton's). -/
def out0_44 (x0 : Vec F S128x1024 .f32) (x1 : Vec F S128x1024 .f32) (x2 : Vec F S128x1024 .f32) (x3 : Vec F S128x1024 .f32) (x4 : Vec F S128x1024 .f32) (x5 : Vec F S128x1024 .f32) (x6 : Vec F S128x1024 .f32) (x7 : Vec F S128x1024 .f32) (x8 : Vec F S1x3072 .f32) (x9 : Vec F S1x3072 .f32) (x10 : Vec F S1x3072 .f32) (x11 : Vec F S1x3072 .f32) (x12 : Vec F S1x8704 .f32) (x13 : Vec F S1x8704 .f32) (x14 : Vec F S1x8704 .f32) (x15 : Vec F S1x8704 .f32) (x16 : Vec F S3x128 .f32) (x17 : Vec F S3x128 .f32) (x18 : Vec F S3x128 .f32) (x19 : Vec F S3x128 .f32) (x20 : Vec F S1x1024 .f32) (x21 : Vec F S1x1024 .f32) (x22 : Vec F S1x1024 .f32) (x23 : Vec F S1x1024 .f32) (x24 : Vec F S1x1024 .f32) (x25 : Vec F S1x1024 .f32) (x26 : Vec F S1x1024 .f32) (x27 : Vec F S1x1024 .f32) (x28 : Vec F S1x1024 .f32) (x29 : Vec F S1x1024 .f32) (x30 : Vec F S1x1024 .f32) (x31 : Vec F S1x1024 .f32) : Vec F S3x128 .f32 :=
  View.canon [⟨r0_3, k0_pay27 (k0_pay26 (View.ld x16 r0_3) (View.ld x17 r0_3) (View.ld x18 r0_3) (View.ld x19 r0_3))⟩]

/-- Its stores tile the buffer (checked by evaluation), so they cover it. -/
theorem cover0_44 (p0 : Vec F S3x128 .f32) (y : S3x128.Idx) :
    ∃ pc ∈ ([⟨r0_3, p0⟩] : List (View.Piece (Elt F) S3x128 .f32)), y ∈ pc.1.set :=
  View.cover_of_tiled [⟨r0_3, p0⟩] S3x128.size (by rfl) y

/-- Window 45's staging buffer after the body, from the input windows' blocks: its 1 store as pieces, LAST
    FIRST (Lib/Pipeline/FrameBody.lean `View.canon`; the payloads are the skeleton's). -/
def out0_45 (x0 : Vec F S128x1024 .f32) (x1 : Vec F S128x1024 .f32) (x2 : Vec F S128x1024 .f32) (x3 : Vec F S128x1024 .f32) (x4 : Vec F S128x1024 .f32) (x5 : Vec F S128x1024 .f32) (x6 : Vec F S128x1024 .f32) (x7 : Vec F S128x1024 .f32) (x8 : Vec F S1x3072 .f32) (x9 : Vec F S1x3072 .f32) (x10 : Vec F S1x3072 .f32) (x11 : Vec F S1x3072 .f32) (x12 : Vec F S1x8704 .f32) (x13 : Vec F S1x8704 .f32) (x14 : Vec F S1x8704 .f32) (x15 : Vec F S1x8704 .f32) (x16 : Vec F S3x128 .f32) (x17 : Vec F S3x128 .f32) (x18 : Vec F S3x128 .f32) (x19 : Vec F S3x128 .f32) (x20 : Vec F S1x1024 .f32) (x21 : Vec F S1x1024 .f32) (x22 : Vec F S1x1024 .f32) (x23 : Vec F S1x1024 .f32) (x24 : Vec F S1x1024 .f32) (x25 : Vec F S1x1024 .f32) (x26 : Vec F S1x1024 .f32) (x27 : Vec F S1x1024 .f32) (x28 : Vec F S1x1024 .f32) (x29 : Vec F S1x1024 .f32) (x30 : Vec F S1x1024 .f32) (x31 : Vec F S1x1024 .f32) : Vec F S3x128 .f32 :=
  View.canon [⟨r0_3, k0_pay28 (k0_pay24 (View.ld x17 r0_3) (View.ld x18 r0_3))⟩]

/-- Its stores tile the buffer (checked by evaluation), so they cover it. -/
theorem cover0_45 (p0 : Vec F S3x128 .f32) (y : S3x128.Idx) :
    ∃ pc ∈ ([⟨r0_3, p0⟩] : List (View.Piece (Elt F) S3x128 .f32)), y ∈ pc.1.set :=
  View.cover_of_tiled [⟨r0_3, p0⟩] S3x128.size (by rfl) y

/-- Window 46's staging buffer after the body, from the input windows' blocks: its 1 store as pieces, LAST
    FIRST (Lib/Pipeline/FrameBody.lean `View.canon`; the payloads are the skeleton's). -/
def out0_46 (x0 : Vec F S128x1024 .f32) (x1 : Vec F S128x1024 .f32) (x2 : Vec F S128x1024 .f32) (x3 : Vec F S128x1024 .f32) (x4 : Vec F S128x1024 .f32) (x5 : Vec F S128x1024 .f32) (x6 : Vec F S128x1024 .f32) (x7 : Vec F S128x1024 .f32) (x8 : Vec F S1x3072 .f32) (x9 : Vec F S1x3072 .f32) (x10 : Vec F S1x3072 .f32) (x11 : Vec F S1x3072 .f32) (x12 : Vec F S1x8704 .f32) (x13 : Vec F S1x8704 .f32) (x14 : Vec F S1x8704 .f32) (x15 : Vec F S1x8704 .f32) (x16 : Vec F S3x128 .f32) (x17 : Vec F S3x128 .f32) (x18 : Vec F S3x128 .f32) (x19 : Vec F S3x128 .f32) (x20 : Vec F S1x1024 .f32) (x21 : Vec F S1x1024 .f32) (x22 : Vec F S1x1024 .f32) (x23 : Vec F S1x1024 .f32) (x24 : Vec F S1x1024 .f32) (x25 : Vec F S1x1024 .f32) (x26 : Vec F S1x1024 .f32) (x27 : Vec F S1x1024 .f32) (x28 : Vec F S1x1024 .f32) (x29 : Vec F S1x1024 .f32) (x30 : Vec F S1x1024 .f32) (x31 : Vec F S1x1024 .f32) : Vec F S3x128 .f32 :=
  View.canon [⟨r0_3, k0_pay29 (k0_pay25 (View.ld x17 r0_3) (View.ld x19 r0_3))⟩]

/-- Its stores tile the buffer (checked by evaluation), so they cover it. -/
theorem cover0_46 (p0 : Vec F S3x128 .f32) (y : S3x128.Idx) :
    ∃ pc ∈ ([⟨r0_3, p0⟩] : List (View.Piece (Elt F) S3x128 .f32)), y ∈ pc.1.set :=
  View.cover_of_tiled [⟨r0_3, p0⟩] S3x128.size (by rfl) y

/-- Window 47's staging buffer after the body, from the input windows' blocks: its 1 store as pieces, LAST
    FIRST (Lib/Pipeline/FrameBody.lean `View.canon`; the payloads are the skeleton's). -/
def out0_47 (x0 : Vec F S128x1024 .f32) (x1 : Vec F S128x1024 .f32) (x2 : Vec F S128x1024 .f32) (x3 : Vec F S128x1024 .f32) (x4 : Vec F S128x1024 .f32) (x5 : Vec F S128x1024 .f32) (x6 : Vec F S128x1024 .f32) (x7 : Vec F S128x1024 .f32) (x8 : Vec F S1x3072 .f32) (x9 : Vec F S1x3072 .f32) (x10 : Vec F S1x3072 .f32) (x11 : Vec F S1x3072 .f32) (x12 : Vec F S1x8704 .f32) (x13 : Vec F S1x8704 .f32) (x14 : Vec F S1x8704 .f32) (x15 : Vec F S1x8704 .f32) (x16 : Vec F S3x128 .f32) (x17 : Vec F S3x128 .f32) (x18 : Vec F S3x128 .f32) (x19 : Vec F S3x128 .f32) (x20 : Vec F S1x1024 .f32) (x21 : Vec F S1x1024 .f32) (x22 : Vec F S1x1024 .f32) (x23 : Vec F S1x1024 .f32) (x24 : Vec F S1x1024 .f32) (x25 : Vec F S1x1024 .f32) (x26 : Vec F S1x1024 .f32) (x27 : Vec F S1x1024 .f32) (x28 : Vec F S1x1024 .f32) (x29 : Vec F S1x1024 .f32) (x30 : Vec F S1x1024 .f32) (x31 : Vec F S1x1024 .f32) : Vec F S1x1024 .f32 :=
  View.canon [⟨r0_4, k0_pay34 (k0_pay32 (View.ld x20 r0_4) (View.ld x21 r0_4) (View.ld x22 r0_4) (View.ld x23 r0_4)) (k0_pay33 (F := F))⟩]

/-- Its stores tile the buffer (checked by evaluation), so they cover it. -/
theorem cover0_47 (p0 : Vec F S1x1024 .f32) (y : S1x1024.Idx) :
    ∃ pc ∈ ([⟨r0_4, p0⟩] : List (View.Piece (Elt F) S1x1024 .f32)), y ∈ pc.1.set :=
  View.cover_of_tiled [⟨r0_4, p0⟩] S1x1024.size (by rfl) y

/-- Window 48's staging buffer after the body, from the input windows' blocks: its 1 store as pieces, LAST
    FIRST (Lib/Pipeline/FrameBody.lean `View.canon`; the payloads are the skeleton's). -/
def out0_48 (x0 : Vec F S128x1024 .f32) (x1 : Vec F S128x1024 .f32) (x2 : Vec F S128x1024 .f32) (x3 : Vec F S128x1024 .f32) (x4 : Vec F S128x1024 .f32) (x5 : Vec F S128x1024 .f32) (x6 : Vec F S128x1024 .f32) (x7 : Vec F S128x1024 .f32) (x8 : Vec F S1x3072 .f32) (x9 : Vec F S1x3072 .f32) (x10 : Vec F S1x3072 .f32) (x11 : Vec F S1x3072 .f32) (x12 : Vec F S1x8704 .f32) (x13 : Vec F S1x8704 .f32) (x14 : Vec F S1x8704 .f32) (x15 : Vec F S1x8704 .f32) (x16 : Vec F S3x128 .f32) (x17 : Vec F S3x128 .f32) (x18 : Vec F S3x128 .f32) (x19 : Vec F S3x128 .f32) (x20 : Vec F S1x1024 .f32) (x21 : Vec F S1x1024 .f32) (x22 : Vec F S1x1024 .f32) (x23 : Vec F S1x1024 .f32) (x24 : Vec F S1x1024 .f32) (x25 : Vec F S1x1024 .f32) (x26 : Vec F S1x1024 .f32) (x27 : Vec F S1x1024 .f32) (x28 : Vec F S1x1024 .f32) (x29 : Vec F S1x1024 .f32) (x30 : Vec F S1x1024 .f32) (x31 : Vec F S1x1024 .f32) : Vec F S1x1024 .f32 :=
  View.canon [⟨r0_4, k0_pay35 (k0_pay30 (View.ld x21 r0_4) (View.ld x22 r0_4))⟩]

/-- Its stores tile the buffer (checked by evaluation), so they cover it. -/
theorem cover0_48 (p0 : Vec F S1x1024 .f32) (y : S1x1024.Idx) :
    ∃ pc ∈ ([⟨r0_4, p0⟩] : List (View.Piece (Elt F) S1x1024 .f32)), y ∈ pc.1.set :=
  View.cover_of_tiled [⟨r0_4, p0⟩] S1x1024.size (by rfl) y

/-- Window 49's staging buffer after the body, from the input windows' blocks: its 1 store as pieces, LAST
    FIRST (Lib/Pipeline/FrameBody.lean `View.canon`; the payloads are the skeleton's). -/
def out0_49 (x0 : Vec F S128x1024 .f32) (x1 : Vec F S128x1024 .f32) (x2 : Vec F S128x1024 .f32) (x3 : Vec F S128x1024 .f32) (x4 : Vec F S128x1024 .f32) (x5 : Vec F S128x1024 .f32) (x6 : Vec F S128x1024 .f32) (x7 : Vec F S128x1024 .f32) (x8 : Vec F S1x3072 .f32) (x9 : Vec F S1x3072 .f32) (x10 : Vec F S1x3072 .f32) (x11 : Vec F S1x3072 .f32) (x12 : Vec F S1x8704 .f32) (x13 : Vec F S1x8704 .f32) (x14 : Vec F S1x8704 .f32) (x15 : Vec F S1x8704 .f32) (x16 : Vec F S3x128 .f32) (x17 : Vec F S3x128 .f32) (x18 : Vec F S3x128 .f32) (x19 : Vec F S3x128 .f32) (x20 : Vec F S1x1024 .f32) (x21 : Vec F S1x1024 .f32) (x22 : Vec F S1x1024 .f32) (x23 : Vec F S1x1024 .f32) (x24 : Vec F S1x1024 .f32) (x25 : Vec F S1x1024 .f32) (x26 : Vec F S1x1024 .f32) (x27 : Vec F S1x1024 .f32) (x28 : Vec F S1x1024 .f32) (x29 : Vec F S1x1024 .f32) (x30 : Vec F S1x1024 .f32) (x31 : Vec F S1x1024 .f32) : Vec F S1x1024 .f32 :=
  View.canon [⟨r0_4, k0_pay36 (k0_pay31 (View.ld x21 r0_4) (View.ld x23 r0_4))⟩]

/-- Its stores tile the buffer (checked by evaluation), so they cover it. -/
theorem cover0_49 (p0 : Vec F S1x1024 .f32) (y : S1x1024.Idx) :
    ∃ pc ∈ ([⟨r0_4, p0⟩] : List (View.Piece (Elt F) S1x1024 .f32)), y ∈ pc.1.set :=
  View.cover_of_tiled [⟨r0_4, p0⟩] S1x1024.size (by rfl) y

/-- Window 50's staging buffer after the body, from the input windows' blocks: its 1 store as pieces, LAST
    FIRST (Lib/Pipeline/FrameBody.lean `View.canon`; the payloads are the skeleton's). -/
def out0_50 (x0 : Vec F S128x1024 .f32) (x1 : Vec F S128x1024 .f32) (x2 : Vec F S128x1024 .f32) (x3 : Vec F S128x1024 .f32) (x4 : Vec F S128x1024 .f32) (x5 : Vec F S128x1024 .f32) (x6 : Vec F S128x1024 .f32) (x7 : Vec F S128x1024 .f32) (x8 : Vec F S1x3072 .f32) (x9 : Vec F S1x3072 .f32) (x10 : Vec F S1x3072 .f32) (x11 : Vec F S1x3072 .f32) (x12 : Vec F S1x8704 .f32) (x13 : Vec F S1x8704 .f32) (x14 : Vec F S1x8704 .f32) (x15 : Vec F S1x8704 .f32) (x16 : Vec F S3x128 .f32) (x17 : Vec F S3x128 .f32) (x18 : Vec F S3x128 .f32) (x19 : Vec F S3x128 .f32) (x20 : Vec F S1x1024 .f32) (x21 : Vec F S1x1024 .f32) (x22 : Vec F S1x1024 .f32) (x23 : Vec F S1x1024 .f32) (x24 : Vec F S1x1024 .f32) (x25 : Vec F S1x1024 .f32) (x26 : Vec F S1x1024 .f32) (x27 : Vec F S1x1024 .f32) (x28 : Vec F S1x1024 .f32) (x29 : Vec F S1x1024 .f32) (x30 : Vec F S1x1024 .f32) (x31 : Vec F S1x1024 .f32) : Vec F S1x1024 .f32 :=
  View.canon [⟨r0_4, k0_pay41 (k0_pay39 (View.ld x25 r0_4) (View.ld x26 r0_4) (View.ld x27 r0_4)) (k0_pay40 (View.ld x24 r0_4))⟩]

/-- Its stores tile the buffer (checked by evaluation), so they cover it. -/
theorem cover0_50 (p0 : Vec F S1x1024 .f32) (y : S1x1024.Idx) :
    ∃ pc ∈ ([⟨r0_4, p0⟩] : List (View.Piece (Elt F) S1x1024 .f32)), y ∈ pc.1.set :=
  View.cover_of_tiled [⟨r0_4, p0⟩] S1x1024.size (by rfl) y

/-- Window 51's staging buffer after the body, from the input windows' blocks: its 1 store as pieces, LAST
    FIRST (Lib/Pipeline/FrameBody.lean `View.canon`; the payloads are the skeleton's). -/
def out0_51 (x0 : Vec F S128x1024 .f32) (x1 : Vec F S128x1024 .f32) (x2 : Vec F S128x1024 .f32) (x3 : Vec F S128x1024 .f32) (x4 : Vec F S128x1024 .f32) (x5 : Vec F S128x1024 .f32) (x6 : Vec F S128x1024 .f32) (x7 : Vec F S128x1024 .f32) (x8 : Vec F S1x3072 .f32) (x9 : Vec F S1x3072 .f32) (x10 : Vec F S1x3072 .f32) (x11 : Vec F S1x3072 .f32) (x12 : Vec F S1x8704 .f32) (x13 : Vec F S1x8704 .f32) (x14 : Vec F S1x8704 .f32) (x15 : Vec F S1x8704 .f32) (x16 : Vec F S3x128 .f32) (x17 : Vec F S3x128 .f32) (x18 : Vec F S3x128 .f32) (x19 : Vec F S3x128 .f32) (x20 : Vec F S1x1024 .f32) (x21 : Vec F S1x1024 .f32) (x22 : Vec F S1x1024 .f32) (x23 : Vec F S1x1024 .f32) (x24 : Vec F S1x1024 .f32) (x25 : Vec F S1x1024 .f32) (x26 : Vec F S1x1024 .f32) (x27 : Vec F S1x1024 .f32) (x28 : Vec F S1x1024 .f32) (x29 : Vec F S1x1024 .f32) (x30 : Vec F S1x1024 .f32) (x31 : Vec F S1x1024 .f32) : Vec F S1x1024 .f32 :=
  View.canon [⟨r0_4, k0_pay42 (k0_pay37 (View.ld x25 r0_4) (View.ld x26 r0_4))⟩]

/-- Its stores tile the buffer (checked by evaluation), so they cover it. -/
theorem cover0_51 (p0 : Vec F S1x1024 .f32) (y : S1x1024.Idx) :
    ∃ pc ∈ ([⟨r0_4, p0⟩] : List (View.Piece (Elt F) S1x1024 .f32)), y ∈ pc.1.set :=
  View.cover_of_tiled [⟨r0_4, p0⟩] S1x1024.size (by rfl) y

/-- Window 52's staging buffer after the body, from the input windows' blocks: its 1 store as pieces, LAST
    FIRST (Lib/Pipeline/FrameBody.lean `View.canon`; the payloads are the skeleton's). -/
def out0_52 (x0 : Vec F S128x1024 .f32) (x1 : Vec F S128x1024 .f32) (x2 : Vec F S128x1024 .f32) (x3 : Vec F S128x1024 .f32) (x4 : Vec F S128x1024 .f32) (x5 : Vec F S128x1024 .f32) (x6 : Vec F S128x1024 .f32) (x7 : Vec F S128x1024 .f32) (x8 : Vec F S1x3072 .f32) (x9 : Vec F S1x3072 .f32) (x10 : Vec F S1x3072 .f32) (x11 : Vec F S1x3072 .f32) (x12 : Vec F S1x8704 .f32) (x13 : Vec F S1x8704 .f32) (x14 : Vec F S1x8704 .f32) (x15 : Vec F S1x8704 .f32) (x16 : Vec F S3x128 .f32) (x17 : Vec F S3x128 .f32) (x18 : Vec F S3x128 .f32) (x19 : Vec F S3x128 .f32) (x20 : Vec F S1x1024 .f32) (x21 : Vec F S1x1024 .f32) (x22 : Vec F S1x1024 .f32) (x23 : Vec F S1x1024 .f32) (x24 : Vec F S1x1024 .f32) (x25 : Vec F S1x1024 .f32) (x26 : Vec F S1x1024 .f32) (x27 : Vec F S1x1024 .f32) (x28 : Vec F S1x1024 .f32) (x29 : Vec F S1x1024 .f32) (x30 : Vec F S1x1024 .f32) (x31 : Vec F S1x1024 .f32) : Vec F S1x1024 .f32 :=
  View.canon [⟨r0_4, k0_pay43 (k0_pay38 (View.ld x25 r0_4) (View.ld x27 r0_4))⟩]

/-- Its stores tile the buffer (checked by evaluation), so they cover it. -/
theorem cover0_52 (p0 : Vec F S1x1024 .f32) (y : S1x1024.Idx) :
    ∃ pc ∈ ([⟨r0_4, p0⟩] : List (View.Piece (Elt F) S1x1024 .f32)), y ∈ pc.1.set :=
  View.cover_of_tiled [⟨r0_4, p0⟩] S1x1024.size (by rfl) y

/-- Window 53's staging buffer after the body, from the input windows' blocks: its 1 store as pieces, LAST
    FIRST (Lib/Pipeline/FrameBody.lean `View.canon`; the payloads are the skeleton's). -/
def out0_53 (x0 : Vec F S128x1024 .f32) (x1 : Vec F S128x1024 .f32) (x2 : Vec F S128x1024 .f32) (x3 : Vec F S128x1024 .f32) (x4 : Vec F S128x1024 .f32) (x5 : Vec F S128x1024 .f32) (x6 : Vec F S128x1024 .f32) (x7 : Vec F S128x1024 .f32) (x8 : Vec F S1x3072 .f32) (x9 : Vec F S1x3072 .f32) (x10 : Vec F S1x3072 .f32) (x11 : Vec F S1x3072 .f32) (x12 : Vec F S1x8704 .f32) (x13 : Vec F S1x8704 .f32) (x14 : Vec F S1x8704 .f32) (x15 : Vec F S1x8704 .f32) (x16 : Vec F S3x128 .f32) (x17 : Vec F S3x128 .f32) (x18 : Vec F S3x128 .f32) (x19 : Vec F S3x128 .f32) (x20 : Vec F S1x1024 .f32) (x21 : Vec F S1x1024 .f32) (x22 : Vec F S1x1024 .f32) (x23 : Vec F S1x1024 .f32) (x24 : Vec F S1x1024 .f32) (x25 : Vec F S1x1024 .f32) (x26 : Vec F S1x1024 .f32) (x27 : Vec F S1x1024 .f32) (x28 : Vec F S1x1024 .f32) (x29 : Vec F S1x1024 .f32) (x30 : Vec F S1x1024 .f32) (x31 : Vec F S1x1024 .f32) : Vec F S1x1024 .f32 :=
  View.canon [⟨r0_4, k0_pay1 (View.ld x28 r0_4) (k0_pay46 (View.ld x29 r0_4) (View.ld x30 r0_4) (View.ld x31 r0_4))⟩]

/-- Its stores tile the buffer (checked by evaluation), so they cover it. -/
theorem cover0_53 (p0 : Vec F S1x1024 .f32) (y : S1x1024.Idx) :
    ∃ pc ∈ ([⟨r0_4, p0⟩] : List (View.Piece (Elt F) S1x1024 .f32)), y ∈ pc.1.set :=
  View.cover_of_tiled [⟨r0_4, p0⟩] S1x1024.size (by rfl) y

/-- Window 54's staging buffer after the body, from the input windows' blocks: its 1 store as pieces, LAST
    FIRST (Lib/Pipeline/FrameBody.lean `View.canon`; the payloads are the skeleton's). -/
def out0_54 (x0 : Vec F S128x1024 .f32) (x1 : Vec F S128x1024 .f32) (x2 : Vec F S128x1024 .f32) (x3 : Vec F S128x1024 .f32) (x4 : Vec F S128x1024 .f32) (x5 : Vec F S128x1024 .f32) (x6 : Vec F S128x1024 .f32) (x7 : Vec F S128x1024 .f32) (x8 : Vec F S1x3072 .f32) (x9 : Vec F S1x3072 .f32) (x10 : Vec F S1x3072 .f32) (x11 : Vec F S1x3072 .f32) (x12 : Vec F S1x8704 .f32) (x13 : Vec F S1x8704 .f32) (x14 : Vec F S1x8704 .f32) (x15 : Vec F S1x8704 .f32) (x16 : Vec F S3x128 .f32) (x17 : Vec F S3x128 .f32) (x18 : Vec F S3x128 .f32) (x19 : Vec F S3x128 .f32) (x20 : Vec F S1x1024 .f32) (x21 : Vec F S1x1024 .f32) (x22 : Vec F S1x1024 .f32) (x23 : Vec F S1x1024 .f32) (x24 : Vec F S1x1024 .f32) (x25 : Vec F S1x1024 .f32) (x26 : Vec F S1x1024 .f32) (x27 : Vec F S1x1024 .f32) (x28 : Vec F S1x1024 .f32) (x29 : Vec F S1x1024 .f32) (x30 : Vec F S1x1024 .f32) (x31 : Vec F S1x1024 .f32) : Vec F S1x1024 .f32 :=
  View.canon [⟨r0_4, k0_pay2 (k0_pay44 (View.ld x29 r0_4) (View.ld x30 r0_4))⟩]

/-- Its stores tile the buffer (checked by evaluation), so they cover it. -/
theorem cover0_54 (p0 : Vec F S1x1024 .f32) (y : S1x1024.Idx) :
    ∃ pc ∈ ([⟨r0_4, p0⟩] : List (View.Piece (Elt F) S1x1024 .f32)), y ∈ pc.1.set :=
  View.cover_of_tiled [⟨r0_4, p0⟩] S1x1024.size (by rfl) y

/-- Window 55's staging buffer after the body, from the input windows' blocks: its 1 store as pieces, LAST
    FIRST (Lib/Pipeline/FrameBody.lean `View.canon`; the payloads are the skeleton's). -/
def out0_55 (x0 : Vec F S128x1024 .f32) (x1 : Vec F S128x1024 .f32) (x2 : Vec F S128x1024 .f32) (x3 : Vec F S128x1024 .f32) (x4 : Vec F S128x1024 .f32) (x5 : Vec F S128x1024 .f32) (x6 : Vec F S128x1024 .f32) (x7 : Vec F S128x1024 .f32) (x8 : Vec F S1x3072 .f32) (x9 : Vec F S1x3072 .f32) (x10 : Vec F S1x3072 .f32) (x11 : Vec F S1x3072 .f32) (x12 : Vec F S1x8704 .f32) (x13 : Vec F S1x8704 .f32) (x14 : Vec F S1x8704 .f32) (x15 : Vec F S1x8704 .f32) (x16 : Vec F S3x128 .f32) (x17 : Vec F S3x128 .f32) (x18 : Vec F S3x128 .f32) (x19 : Vec F S3x128 .f32) (x20 : Vec F S1x1024 .f32) (x21 : Vec F S1x1024 .f32) (x22 : Vec F S1x1024 .f32) (x23 : Vec F S1x1024 .f32) (x24 : Vec F S1x1024 .f32) (x25 : Vec F S1x1024 .f32) (x26 : Vec F S1x1024 .f32) (x27 : Vec F S1x1024 .f32) (x28 : Vec F S1x1024 .f32) (x29 : Vec F S1x1024 .f32) (x30 : Vec F S1x1024 .f32) (x31 : Vec F S1x1024 .f32) : Vec F S1x1024 .f32 :=
  View.canon [⟨r0_4, k0_pay3 (k0_pay45 (View.ld x29 r0_4) (View.ld x31 r0_4))⟩]

/-- Its stores tile the buffer (checked by evaluation), so they cover it. -/
theorem cover0_55 (p0 : Vec F S1x1024 .f32) (y : S1x1024.Idx) :
    ∃ pc ∈ ([⟨r0_4, p0⟩] : List (View.Piece (Elt F) S1x1024 .f32)), y ∈ pc.1.set :=
  View.cover_of_tiled [⟨r0_4, p0⟩] S1x1024.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg1 : Memref sig .tc .vmem S128x1024 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S128x1024 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S128x1024 .f32) (harg8 : arg8.IsWhole) (arg9 : Memref sig .tc .vmem S1x3072 .f32) (harg9 : arg9.IsWhole) (arg10 : Memref sig .tc .vmem S1x3072 .f32) (harg10 : arg10.IsWhole) (arg11 : Memref sig .tc .vmem S1x3072 .f32) (harg11 : arg11.IsWhole) (arg12 : Memref sig .tc .vmem S1x3072 .f32) (harg12 : arg12.IsWhole) (arg13 : Memref sig .tc .vmem S1x8704 .f32) (harg13 : arg13.IsWhole) (arg14 : Memref sig .tc .vmem S1x8704 .f32) (harg14 : arg14.IsWhole) (arg15 : Memref sig .tc .vmem S1x8704 .f32) (harg15 : arg15.IsWhole) (arg16 : Memref sig .tc .vmem S1x8704 .f32) (harg16 : arg16.IsWhole) (arg17 : Memref sig .tc .vmem S3x128 .f32) (harg17 : arg17.IsWhole) (arg18 : Memref sig .tc .vmem S3x128 .f32) (harg18 : arg18.IsWhole) (arg19 : Memref sig .tc .vmem S3x128 .f32) (harg19 : arg19.IsWhole) (arg20 : Memref sig .tc .vmem S3x128 .f32) (harg20 : arg20.IsWhole) (arg21 : Memref sig .tc .vmem S1x1024 .f32) (harg21 : arg21.IsWhole) (arg22 : Memref sig .tc .vmem S1x1024 .f32) (harg22 : arg22.IsWhole) (arg23 : Memref sig .tc .vmem S1x1024 .f32) (harg23 : arg23.IsWhole) (arg24 : Memref sig .tc .vmem S1x1024 .f32) (harg24 : arg24.IsWhole) (arg25 : Memref sig .tc .vmem S1x1024 .f32) (harg25 : arg25.IsWhole) (arg26 : Memref sig .tc .vmem S1x1024 .f32) (harg26 : arg26.IsWhole) (arg27 : Memref sig .tc .vmem S1x1024 .f32) (harg27 : arg27.IsWhole) (arg28 : Memref sig .tc .vmem S1x1024 .f32) (harg28 : arg28.IsWhole) (arg29 : Memref sig .tc .vmem S1x1024 .f32) (harg29 : arg29.IsWhole) (arg30 : Memref sig .tc .vmem S1x1024 .f32) (harg30 : arg30.IsWhole) (arg31 : Memref sig .tc .vmem S1x1024 .f32) (harg31 : arg31.IsWhole) (arg32 : Memref sig .tc .vmem S1x1024 .f32) (harg32 : arg32.IsWhole) (arg33 : Memref sig .tc .vmem S128x1024 .f32) (harg33 : arg33.IsWhole) (arg34 : Memref sig .tc .vmem S128x1024 .f32) (harg34 : arg34.IsWhole) (arg35 : Memref sig .tc .vmem S128x1024 .f32) (harg35 : arg35.IsWhole) (arg36 : Memref sig .tc .vmem S128x1024 .f32) (harg36 : arg36.IsWhole) (arg37 : Memref sig .tc .vmem S128x1024 .f32) (harg37 : arg37.IsWhole) (arg38 : Memref sig .tc .vmem S128x1024 .f32) (harg38 : arg38.IsWhole) (arg39 : Memref sig .tc .vmem S1x3072 .f32) (harg39 : arg39.IsWhole) (arg40 : Memref sig .tc .vmem S1x3072 .f32) (harg40 : arg40.IsWhole) (arg41 : Memref sig .tc .vmem S1x3072 .f32) (harg41 : arg41.IsWhole) (arg42 : Memref sig .tc .vmem S1x8704 .f32) (harg42 : arg42.IsWhole) (arg43 : Memref sig .tc .vmem S1x8704 .f32) (harg43 : arg43.IsWhole) (arg44 : Memref sig .tc .vmem S1x8704 .f32) (harg44 : arg44.IsWhole) (arg45 : Memref sig .tc .vmem S3x128 .f32) (harg45 : arg45.IsWhole) (arg46 : Memref sig .tc .vmem S3x128 .f32) (harg46 : arg46.IsWhole) (arg47 : Memref sig .tc .vmem S3x128 .f32) (harg47 : arg47.IsWhole) (arg48 : Memref sig .tc .vmem S1x1024 .f32) (harg48 : arg48.IsWhole) (arg49 : Memref sig .tc .vmem S1x1024 .f32) (harg49 : arg49.IsWhole) (arg50 : Memref sig .tc .vmem S1x1024 .f32) (harg50 : arg50.IsWhole) (arg51 : Memref sig .tc .vmem S1x1024 .f32) (harg51 : arg51.IsWhole) (arg52 : Memref sig .tc .vmem S1x1024 .f32) (harg52 : arg52.IsWhole) (arg53 : Memref sig .tc .vmem S1x1024 .f32) (harg53 : arg53.IsWhole) (arg54 : Memref sig .tc .vmem S1x1024 .f32) (harg54 : arg54.IsWhole) (arg55 : Memref sig .tc .vmem S1x1024 .f32) (harg55 : arg55.IsWhole) (arg56 : Memref sig .tc .vmem S1x1024 .f32) (harg56 : arg56.IsWhole)
    (x0 : Vec F S128x1024 .f32) (x1 : Vec F S128x1024 .f32) (x2 : Vec F S128x1024 .f32) (x3 : Vec F S128x1024 .f32) (x4 : Vec F S128x1024 .f32) (x5 : Vec F S128x1024 .f32) (x6 : Vec F S128x1024 .f32) (x7 : Vec F S128x1024 .f32) (x8 : Vec F S1x3072 .f32) (x9 : Vec F S1x3072 .f32) (x10 : Vec F S1x3072 .f32) (x11 : Vec F S1x3072 .f32) (x12 : Vec F S1x8704 .f32) (x13 : Vec F S1x8704 .f32) (x14 : Vec F S1x8704 .f32) (x15 : Vec F S1x8704 .f32) (x16 : Vec F S3x128 .f32) (x17 : Vec F S3x128 .f32) (x18 : Vec F S3x128 .f32) (x19 : Vec F S3x128 .f32) (x20 : Vec F S1x1024 .f32) (x21 : Vec F S1x1024 .f32) (x22 : Vec F S1x1024 .f32) (x23 : Vec F S1x1024 .f32) (x24 : Vec F S1x1024 .f32) (x25 : Vec F S1x1024 .f32) (x26 : Vec F S1x1024 .f32) (x27 : Vec F S1x1024 .f32) (x28 : Vec F S1x1024 .f32) (x29 : Vec F S1x1024 .f32) (x30 : Vec F S1x1024 .f32) (x31 : Vec F S1x1024 .f32) (K : PUnit → sProp (MT nD τ sig Unit (Elt F) ℕ (UR sig nD τ) ℕ)) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ owns (c : Thread nD τ) arg28 fullShare x27 ∗ owns (c : Thread nD τ) arg29 fullShare x28 ∗ owns (c : Thread nD τ) arg30 fullShare x29 ∗ owns (c : Thread nD τ) arg31 fullShare x30 ∗ owns (c : Thread nD τ) arg32 fullShare x31 ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d) ∗ (∃ d, owns (c : Thread nD τ) arg40 fullShare d) ∗ (∃ d, owns (c : Thread nD τ) arg41 fullShare d) ∗ (∃ d, owns (c : Thread nD τ) arg42 fullShare d) ∗ (∃ d, owns (c : Thread nD τ) arg43 fullShare d) ∗ (∃ d, owns (c : Thread nD τ) arg44 fullShare d) ∗ (∃ d, owns (c : Thread nD τ) arg45 fullShare d) ∗ (∃ d, owns (c : Thread nD τ) arg46 fullShare d) ∗ (∃ d, owns (c : Thread nD τ) arg47 fullShare d) ∗ (∃ d, owns (c : Thread nD τ) arg48 fullShare d) ∗ (∃ d, owns (c : Thread nD τ) arg49 fullShare d) ∗ (∃ d, owns (c : Thread nD τ) arg50 fullShare d) ∗ (∃ d, owns (c : Thread nD τ) arg51 fullShare d) ∗ (∃ d, owns (c : Thread nD τ) arg52 fullShare d) ∗ (∃ d, owns (c : Thread nD τ) arg53 fullShare d) ∗ (∃ d, owns (c : Thread nD τ) arg54 fullShare d) ∗ (∃ d, owns (c : Thread nD τ) arg55 fullShare d) ∗ (∃ d, owns (c : Thread nD τ) arg56 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ owns (c : Thread nD τ) arg28 fullShare x27 ∗ owns (c : Thread nD τ) arg29 fullShare x28 ∗ owns (c : Thread nD τ) arg30 fullShare x29 ∗ owns (c : Thread nD τ) arg31 fullShare x30 ∗ owns (c : Thread nD τ) arg32 fullShare x31 ∗ owns (c : Thread nD τ) arg33 fullShare (out0_32 x0 x1 x2 x3 x4 x5 x6 x7 x8 x9 x10 x11 x12 x13 x14 x15 x16 x17 x18 x19 x20 x21 x22 x23 x24 x25 x26 x27 x28 x29 x30 x31) ∗ owns (c : Thread nD τ) arg34 fullShare (out0_33 x0 x1 x2 x3 x4 x5 x6 x7 x8 x9 x10 x11 x12 x13 x14 x15 x16 x17 x18 x19 x20 x21 x22 x23 x24 x25 x26 x27 x28 x29 x30 x31) ∗ owns (c : Thread nD τ) arg35 fullShare (out0_34 x0 x1 x2 x3 x4 x5 x6 x7 x8 x9 x10 x11 x12 x13 x14 x15 x16 x17 x18 x19 x20 x21 x22 x23 x24 x25 x26 x27 x28 x29 x30 x31) ∗ owns (c : Thread nD τ) arg36 fullShare (out0_35 x0 x1 x2 x3 x4 x5 x6 x7 x8 x9 x10 x11 x12 x13 x14 x15 x16 x17 x18 x19 x20 x21 x22 x23 x24 x25 x26 x27 x28 x29 x30 x31) ∗ owns (c : Thread nD τ) arg37 fullShare (out0_36 x0 x1 x2 x3 x4 x5 x6 x7 x8 x9 x10 x11 x12 x13 x14 x15 x16 x17 x18 x19 x20 x21 x22 x23 x24 x25 x26 x27 x28 x29 x30 x31) ∗ owns (c : Thread nD τ) arg38 fullShare (out0_37 x0 x1 x2 x3 x4 x5 x6 x7 x8 x9 x10 x11 x12 x13 x14 x15 x16 x17 x18 x19 x20 x21 x22 x23 x24 x25 x26 x27 x28 x29 x30 x31) ∗ owns (c : Thread nD τ) arg39 fullShare (out0_38 x0 x1 x2 x3 x4 x5 x6 x7 x8 x9 x10 x11 x12 x13 x14 x15 x16 x17 x18 x19 x20 x21 x22 x23 x24 x25 x26 x27 x28 x29 x30 x31) ∗ owns (c : Thread nD τ) arg40 fullShare (out0_39 x0 x1 x2 x3 x4 x5 x6 x7 x8 x9 x10 x11 x12 x13 x14 x15 x16 x17 x18 x19 x20 x21 x22 x23 x24 x25 x26 x27 x28 x29 x30 x31) ∗ owns (c : Thread nD τ) arg41 fullShare (out0_40 x0 x1 x2 x3 x4 x5 x6 x7 x8 x9 x10 x11 x12 x13 x14 x15 x16 x17 x18 x19 x20 x21 x22 x23 x24 x25 x26 x27 x28 x29 x30 x31) ∗ owns (c : Thread nD τ) arg42 fullShare (out0_41 x0 x1 x2 x3 x4 x5 x6 x7 x8 x9 x10 x11 x12 x13 x14 x15 x16 x17 x18 x19 x20 x21 x22 x23 x24 x25 x26 x27 x28 x29 x30 x31) ∗ owns (c : Thread nD τ) arg43 fullShare (out0_42 x0 x1 x2 x3 x4 x5 x6 x7 x8 x9 x10 x11 x12 x13 x14 x15 x16 x17 x18 x19 x20 x21 x22 x23 x24 x25 x26 x27 x28 x29 x30 x31) ∗ owns (c : Thread nD τ) arg44 fullShare (out0_43 x0 x1 x2 x3 x4 x5 x6 x7 x8 x9 x10 x11 x12 x13 x14 x15 x16 x17 x18 x19 x20 x21 x22 x23 x24 x25 x26 x27 x28 x29 x30 x31) ∗ owns (c : Thread nD τ) arg45 fullShare (out0_44 x0 x1 x2 x3 x4 x5 x6 x7 x8 x9 x10 x11 x12 x13 x14 x15 x16 x17 x18 x19 x20 x21 x22 x23 x24 x25 x26 x27 x28 x29 x30 x31) ∗ owns (c : Thread nD τ) arg46 fullShare (out0_45 x0 x1 x2 x3 x4 x5 x6 x7 x8 x9 x10 x11 x12 x13 x14 x15 x16 x17 x18 x19 x20 x21 x22 x23 x24 x25 x26 x27 x28 x29 x30 x31) ∗ owns (c : Thread nD τ) arg47 fullShare (out0_46 x0 x1 x2 x3 x4 x5 x6 x7 x8 x9 x10 x11 x12 x13 x14 x15 x16 x17 x18 x19 x20 x21 x22 x23 x24 x25 x26 x27 x28 x29 x30 x31) ∗ owns (c : Thread nD τ) arg48 fullShare (out0_47 x0 x1 x2 x3 x4 x5 x6 x7 x8 x9 x10 x11 x12 x13 x14 x15 x16 x17 x18 x19 x20 x21 x22 x23 x24 x25 x26 x27 x28 x29 x30 x31) ∗ owns (c : Thread nD τ) arg49 fullShare (out0_48 x0 x1 x2 x3 x4 x5 x6 x7 x8 x9 x10 x11 x12 x13 x14 x15 x16 x17 x18 x19 x20 x21 x22 x23 x24 x25 x26 x27 x28 x29 x30 x31) ∗ owns (c : Thread nD τ) arg50 fullShare (out0_49 x0 x1 x2 x3 x4 x5 x6 x7 x8 x9 x10 x11 x12 x13 x14 x15 x16 x17 x18 x19 x20 x21 x22 x23 x24 x25 x26 x27 x28 x29 x30 x31) ∗ owns (c : Thread nD τ) arg51 fullShare (out0_50 x0 x1 x2 x3 x4 x5 x6 x7 x8 x9 x10 x11 x12 x13 x14 x15 x16 x17 x18 x19 x20 x21 x22 x23 x24 x25 x26 x27 x28 x29 x30 x31) ∗ owns (c : Thread nD τ) arg52 fullShare (out0_51 x0 x1 x2 x3 x4 x5 x6 x7 x8 x9 x10 x11 x12 x13 x14 x15 x16 x17 x18 x19 x20 x21 x22 x23 x24 x25 x26 x27 x28 x29 x30 x31) ∗ owns (c : Thread nD τ) arg53 fullShare (out0_52 x0 x1 x2 x3 x4 x5 x6 x7 x8 x9 x10 x11 x12 x13 x14 x15 x16 x17 x18 x19 x20 x21 x22 x23 x24 x25 x26 x27 x28 x29 x30 x31) ∗ owns (c : Thread nD τ) arg54 fullShare (out0_53 x0 x1 x2 x3 x4 x5 x6 x7 x8 x9 x10 x11 x12 x13 x14 x15 x16 x17 x18 x19 x20 x21 x22 x23 x24 x25 x26 x27 x28 x29 x30 x31) ∗ owns (c : Thread nD τ) arg55 fullShare (out0_54 x0 x1 x2 x3 x4 x5 x6 x7 x8 x9 x10 x11 x12 x13 x14 x15 x16 x17 x18 x19 x20 x21 x22 x23 x24 x25 x26 x27 x28 x29 x30 x31) ∗ owns (c : Thread nD τ) arg56 fullShare (out0_55 x0 x1 x2 x3 x4 x5 x6 x7 x8 x9 x10 x11 x12 x13 x14 x15 x16 x17 x18 x19 x20 x21 x22 x23 x24 x25 x26 x27 x28 x29 x30 x31)) -∗ K ⟨⟩))
      ⊢ wp frame (wpE (defs₀ (F := F)) Variants.none c none) E (cc0_adam_rest i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56) K := by
  simp only [cc0_adam_rest_eq_skeleton]; unfold cc0_adam_rest_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%d32, %f32, -, H32⟩, ⟨%d33, %f33, -, H33⟩, ⟨%d34, %f34, -, H34⟩, ⟨%d35, %f35, -, H35⟩, ⟨%d36, %f36, -, H36⟩, ⟨%d37, %f37, -, H37⟩, ⟨%d38, %f38, -, H38⟩, ⟨%d39, %f39, -, H39⟩, ⟨%d40, %f40, -, H40⟩, ⟨%d41, %f41, -, H41⟩, ⟨%d42, %f42, -, H42⟩, ⟨%d43, %f43, -, H43⟩, ⟨%d44, %f44, -, H44⟩, ⟨%d45, %f45, -, H45⟩, ⟨%d46, %f46, -, H46⟩, ⟨%d47, %f47, -, H47⟩, ⟨%d48, %f48, -, H48⟩, ⟨%d49, %f49, -, H49⟩, ⟨%d50, %f50, -, H50⟩, ⟨%d51, %f51, -, H51⟩, ⟨%d52, %f52, -, H52⟩, ⟨%d53, %f53, -, H53⟩, ⟨%d54, %f54, -, H54⟩, ⟨%d55, %f55, -, H55⟩, Hk⟩
  subst hf0 hf1 hf2 hf3 hf4 hf5 hf6 hf7 hf8 hf9 hf10 hf11 hf12 hf13 hf14 hf15 hf16 hf17 hf18 hf19 hf20 hf21 hf22 hf23 hf24 hf25 hf26 hf27 hf28 hf29 hf30 hf31
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists f27; isplitr; · ipureintro; rfl
    iexact H27
  isplitl [H28]
  · iexists f28; isplitr; · ipureintro; rfl
    iexact H28
  isplitl [H29]
  · iexists f29; isplitr; · ipureintro; rfl
    iexact H29
  isplitl [H30]
  · iexists f30; isplitr; · ipureintro; rfl
    iexact H30
  isplitl [H31]
  · iexists f31; isplitr; · ipureintro; rfl
    iexact H31
  isplitl [H32]
  · iexists _; isplitr
    swap; · iexact H32
    ipureintro
    exact View.read_writes_eq_canon _ _ _ (cover0_32 _)
  isplitl [H33]
  · iexists _; isplitr
    swap; · iexact H33
    ipureintro
    exact View.read_writes_eq_canon _ _ _ (cover0_33 _)
  isplitl [H34]
  · iexists _; isplitr
    swap; · iexact H34
    ipureintro
    exact View.read_writes_eq_canon _ _ _ (cover0_34 _)
  isplitl [H35]
  · iexists _; isplitr
    swap; · iexact H35
    ipureintro
    exact View.read_writes_eq_canon _ _ _ (cover0_35 _)
  isplitl [H36]
  · iexists _; isplitr
    swap; · iexact H36
    ipureintro
    exact View.read_writes_eq_canon _ _ _ (cover0_36 _)
  isplitl [H37]
  · iexists _; isplitr
    swap; · iexact H37
    ipureintro
    exact View.read_writes_eq_canon _ _ _ (cover0_37 _)
  isplitl [H38]
  · iexists _; isplitr
    swap; · iexact H38
    ipureintro
    exact View.read_writes_eq_canon _ _ _ (cover0_38 _)
  isplitl [H39]
  · iexists _; isplitr
    swap; · iexact H39
    ipureintro
    exact View.read_writes_eq_canon _ _ _ (cover0_39 _)
  isplitl [H40]
  · iexists _; isplitr
    swap; · iexact H40
    ipureintro
    exact View.read_writes_eq_canon _ _ _ (cover0_40 _)
  isplitl [H41]
  · iexists _; isplitr
    swap; · iexact H41
    ipureintro
    exact View.read_writes_eq_canon _ _ _ (cover0_41 _)
  isplitl [H42]
  · iexists _; isplitr
    swap; · iexact H42
    ipureintro
    exact View.read_writes_eq_canon _ _ _ (cover0_42 _)
  isplitl [H43]
  · iexists _; isplitr
    swap; · iexact H43
    ipureintro
    exact View.read_writes_eq_canon _ _ _ (cover0_43 _)
  isplitl [H44]
  · iexists _; isplitr
    swap; · iexact H44
    ipureintro
    exact View.read_writes_eq_canon _ _ _ (cover0_44 _)
  isplitl [H45]
  · iexists _; isplitr
    swap; · iexact H45
    ipureintro
    exact View.read_writes_eq_canon _ _ _ (cover0_45 _)
  isplitl [H46]
  · iexists _; isplitr
    swap; · iexact H46
    ipureintro
    exact View.read_writes_eq_canon _ _ _ (cover0_46 _)
  isplitl [H47]
  · iexists _; isplitr
    swap; · iexact H47
    ipureintro
    exact View.read_writes_eq_canon _ _ _ (cover0_47 _)
  isplitl [H48]
  · iexists _; isplitr
    swap; · iexact H48
    ipureintro
    exact View.read_writes_eq_canon _ _ _ (cover0_48 _)
  isplitl [H49]
  · iexists _; isplitr
    swap; · iexact H49
    ipureintro
    exact View.read_writes_eq_canon _ _ _ (cover0_49 _)
  isplitl [H50]
  · iexists _; isplitr
    swap; · iexact H50
    ipureintro
    exact View.read_writes_eq_canon _ _ _ (cover0_50 _)
  isplitl [H51]
  · iexists _; isplitr
    swap; · iexact H51
    ipureintro
    exact View.read_writes_eq_canon _ _ _ (cover0_51 _)
  isplitl [H52]
  · iexists _; isplitr
    swap; · iexact H52
    ipureintro
    exact View.read_writes_eq_canon _ _ _ (cover0_52 _)
  isplitl [H53]
  · iexists _; isplitr
    swap; · iexact H53
    ipureintro
    exact View.read_writes_eq_canon _ _ _ (cover0_53 _)
  isplitl [H54]
  · iexists _; isplitr
    swap; · iexact H54
    ipureintro
    exact View.read_writes_eq_canon _ _ _ (cover0_54 _)
  iexists _; isplitr
  swap; · iexact H55
  ipureintro
  exact View.read_writes_eq_canon _ _ _ (cover0_55 _)

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => iblk m c 29 t
    | ⟨30, _⟩ => iblk m c 30 t
    | ⟨31, _⟩ => iblk m c 31 t
    | ⟨32, _⟩ => out0_32 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t)
    | ⟨33, _⟩ => out0_33 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t)
    | ⟨34, _⟩ => out0_34 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t)
    | ⟨35, _⟩ => out0_35 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t)
    | ⟨36, _⟩ => out0_36 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t)
    | ⟨37, _⟩ => out0_37 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t)
    | ⟨38, _⟩ => out0_38 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t)
    | ⟨39, _⟩ => out0_39 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t)
    | ⟨40, _⟩ => out0_40 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t)
    | ⟨41, _⟩ => out0_41 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t)
    | ⟨42, _⟩ => out0_42 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t)
    | ⟨43, _⟩ => out0_43 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t)
    | ⟨44, _⟩ => out0_44 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t)
    | ⟨45, _⟩ => out0_45 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t)
    | ⟨46, _⟩ => out0_46 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t)
    | ⟨47, _⟩ => out0_47 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t)
    | ⟨48, _⟩ => out0_48 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t)
    | ⟨49, _⟩ => out0_49 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t)
    | ⟨50, _⟩ => out0_50 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t)
    | ⟨51, _⟩ => out0_51 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t)
    | ⟨52, _⟩ => out0_52 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t)
    | ⟨53, _⟩ => out0_53 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t)
    | ⟨54, _⟩ => out0_54 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t)
    | ⟨55, _⟩ => out0_55 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t)
    | ⟨_ + 56, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = iblk m c 26 t := by dsimp only [dats]
theorem after0_27 (c : Dev nD) (t : Fin cfg0.N) : (dats m 0 c).after 27 t = iblk m c 27 t := by dsimp only [dats]
theorem after0_28 (c : Dev nD) (t : Fin cfg0.N) : (dats m 0 c).after 28 t = iblk m c 28 t := by dsimp only [dats]
theorem after0_29 (c : Dev nD) (t : Fin cfg0.N) : (dats m 0 c).after 29 t = iblk m c 29 t := by dsimp only [dats]
theorem after0_30 (c : Dev nD) (t : Fin cfg0.N) : (dats m 0 c).after 30 t = iblk m c 30 t := by dsimp only [dats]
theorem after0_31 (c : Dev nD) (t : Fin cfg0.N) : (dats m 0 c).after 31 t = iblk m c 31 t := by dsimp only [dats]
theorem after0_32 (c : Dev nD) (t : Fin cfg0.N) : (dats m 0 c).after 32 t = out0_32 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) := by dsimp only [dats]
theorem after0_33 (c : Dev nD) (t : Fin cfg0.N) : (dats m 0 c).after 33 t = out0_33 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) := by dsimp only [dats]
theorem after0_34 (c : Dev nD) (t : Fin cfg0.N) : (dats m 0 c).after 34 t = out0_34 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) := by dsimp only [dats]
theorem after0_35 (c : Dev nD) (t : Fin cfg0.N) : (dats m 0 c).after 35 t = out0_35 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) := by dsimp only [dats]
theorem after0_36 (c : Dev nD) (t : Fin cfg0.N) : (dats m 0 c).after 36 t = out0_36 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) := by dsimp only [dats]
theorem after0_37 (c : Dev nD) (t : Fin cfg0.N) : (dats m 0 c).after 37 t = out0_37 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) := by dsimp only [dats]
theorem after0_38 (c : Dev nD) (t : Fin cfg0.N) : (dats m 0 c).after 38 t = out0_38 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) := by dsimp only [dats]
theorem after0_39 (c : Dev nD) (t : Fin cfg0.N) : (dats m 0 c).after 39 t = out0_39 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) := by dsimp only [dats]
theorem after0_40 (c : Dev nD) (t : Fin cfg0.N) : (dats m 0 c).after 40 t = out0_40 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) := by dsimp only [dats]
theorem after0_41 (c : Dev nD) (t : Fin cfg0.N) : (dats m 0 c).after 41 t = out0_41 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) := by dsimp only [dats]
theorem after0_42 (c : Dev nD) (t : Fin cfg0.N) : (dats m 0 c).after 42 t = out0_42 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) := by dsimp only [dats]
theorem after0_43 (c : Dev nD) (t : Fin cfg0.N) : (dats m 0 c).after 43 t = out0_43 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) := by dsimp only [dats]
theorem after0_44 (c : Dev nD) (t : Fin cfg0.N) : (dats m 0 c).after 44 t = out0_44 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) := by dsimp only [dats]
theorem after0_45 (c : Dev nD) (t : Fin cfg0.N) : (dats m 0 c).after 45 t = out0_45 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) := by dsimp only [dats]
theorem after0_46 (c : Dev nD) (t : Fin cfg0.N) : (dats m 0 c).after 46 t = out0_46 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) := by dsimp only [dats]
theorem after0_47 (c : Dev nD) (t : Fin cfg0.N) : (dats m 0 c).after 47 t = out0_47 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) := by dsimp only [dats]
theorem after0_48 (c : Dev nD) (t : Fin cfg0.N) : (dats m 0 c).after 48 t = out0_48 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) := by dsimp only [dats]
theorem after0_49 (c : Dev nD) (t : Fin cfg0.N) : (dats m 0 c).after 49 t = out0_49 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) := by dsimp only [dats]
theorem after0_50 (c : Dev nD) (t : Fin cfg0.N) : (dats m 0 c).after 50 t = out0_50 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) := by dsimp only [dats]
theorem after0_51 (c : Dev nD) (t : Fin cfg0.N) : (dats m 0 c).after 51 t = out0_51 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) := by dsimp only [dats]
theorem after0_52 (c : Dev nD) (t : Fin cfg0.N) : (dats m 0 c).after 52 t = out0_52 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) := by dsimp only [dats]
theorem after0_53 (c : Dev nD) (t : Fin cfg0.N) : (dats m 0 c).after 53 t = out0_53 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) := by dsimp only [dats]
theorem after0_54 (c : Dev nD) (t : Fin cfg0.N) : (dats m 0 c).after 54 t = out0_54 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) := by dsimp only [dats]
theorem after0_55 (c : Dev nD) (t : Fin cfg0.N) : (dats m 0 c).after 55 t = out0_55 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d
theorem before0_25 (c : Dev nD) (t : Fin cfg0.N) (d) : (dats m 0 c).before 25 t d = iblk m c 25 t :=
  before0_25_of m (dats m 0 c) (A_eq m c 25) (after0_25 m c) t d
theorem before0_26 (c : Dev nD) (t : Fin cfg0.N) (d) : (dats m 0 c).before 26 t d = iblk m c 26 t :=
  before0_26_of m (dats m 0 c) (A_eq m c 26) (after0_26 m c) t d
theorem before0_27 (c : Dev nD) (t : Fin cfg0.N) (d) : (dats m 0 c).before 27 t d = iblk m c 27 t :=
  before0_27_of m (dats m 0 c) (A_eq m c 27) (after0_27 m c) t d
theorem before0_28 (c : Dev nD) (t : Fin cfg0.N) (d) : (dats m 0 c).before 28 t d = iblk m c 28 t :=
  before0_28_of m (dats m 0 c) (A_eq m c 28) (after0_28 m c) t d
theorem before0_29 (c : Dev nD) (t : Fin cfg0.N) (d) : (dats m 0 c).before 29 t d = iblk m c 29 t :=
  before0_29_of m (dats m 0 c) (A_eq m c 29) (after0_29 m c) t d
theorem before0_30 (c : Dev nD) (t : Fin cfg0.N) (d) : (dats m 0 c).before 30 t d = iblk m c 30 t :=
  before0_30_of m (dats m 0 c) (A_eq m c 30) (after0_30 m c) t d
theorem before0_31 (c : Dev nD) (t : Fin cfg0.N) (d) : (dats m 0 c).before 31 t d = iblk m c 31 t :=
  before0_31_of m (dats m 0 c) (A_eq m c 31) (after0_31 m c) t d

/-! ## The body obligation, at a generic point -/

end Cert.AdamRestIdeal.Whole
-- ==== Proof.AdamRestIdealFrame.lean ====
/-
  The step of the eight weights (idealized call `adam_rest`): the body's obligation, the run, and the frame claim.
-/
import proofs.«01_k».proof.Proof.AdamRestIdealBody
import Idealize.ShloMosaic.Lib.Pipeline.FrameBody
import Idealize.ShloMosaic.Lib.Claim
import Idealize.ShloMosaic.Lib.Ring
import Idealize.ShloMosaic.Lib.Tactic
import Idealize.ShloMosaic.Lib.WordCmp

-- membership in a rectangle of production extents (`View.cover_of_tiled`): its check
-- recurses once per coordinate of the long axes
set_option maxRecDepth 16384

noncomputable section

namespace Cert.AdamRestIdeal.Whole

open Cert.AdamRestIdeal Cert.AdamRestIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- What the body is called with at point `t` (Lib/Pipeline.lean `BodyObligation`'s precondition, the windows one by one), -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d))
    ∗ (∃ d, owns (c : Thread nD τ) (st0_30 t) fullShare ((dats m 0 c).before 30 t d))
    ∗ (∃ d, owns (c : Thread nD τ) (st0_31 t) fullShare ((dats m 0 c).before 31 t d))
    ∗ (∃ d, owns (c : Thread nD τ) (st0_32 t) fullShare ((dats m 0 c).before 32 t d))
    ∗ (∃ d, owns (c : Thread nD τ) (st0_33 t) fullShare ((dats m 0 c).before 33 t d))
    ∗ (∃ d, owns (c : Thread nD τ) (st0_34 t) fullShare ((dats m 0 c).before 34 t d))
    ∗ (∃ d, owns (c : Thread nD τ) (st0_35 t) fullShare ((dats m 0 c).before 35 t d))
    ∗ (∃ d, owns (c : Thread nD τ) (st0_36 t) fullShare ((dats m 0 c).before 36 t d))
    ∗ (∃ d, owns (c : Thread nD τ) (st0_37 t) fullShare ((dats m 0 c).before 37 t d))
    ∗ (∃ d, owns (c : Thread nD τ) (st0_38 t) fullShare ((dats m 0 c).before 38 t d))
    ∗ (∃ d, owns (c : Thread nD τ) (st0_39 t) fullShare ((dats m 0 c).before 39 t d))
    ∗ (∃ d, owns (c : Thread nD τ) (st0_40 t) fullShare ((dats m 0 c).before 40 t d))
    ∗ (∃ d, owns (c : Thread nD τ) (st0_41 t) fullShare ((dats m 0 c).before 41 t d))
    ∗ (∃ d, owns (c : Thread nD τ) (st0_42 t) fullShare ((dats m 0 c).before 42 t d))
    ∗ (∃ d, owns (c : Thread nD τ) (st0_43 t) fullShare ((dats m 0 c).before 43 t d))
    ∗ (∃ d, owns (c : Thread nD τ) (st0_44 t) fullShare ((dats m 0 c).before 44 t d))
    ∗ (∃ d, owns (c : Thread nD τ) (st0_45 t) fullShare ((dats m 0 c).before 45 t d))
    ∗ (∃ d, owns (c : Thread nD τ) (st0_46 t) fullShare ((dats m 0 c).before 46 t d))
    ∗ (∃ d, owns (c : Thread nD τ) (st0_47 t) fullShare ((dats m 0 c).before 47 t d))
    ∗ (∃ d, owns (c : Thread nD τ) (st0_48 t) fullShare ((dats m 0 c).before 48 t d))
    ∗ (∃ d, owns (c : Thread nD τ) (st0_49 t) fullShare ((dats m 0 c).before 49 t d))
    ∗ (∃ d, owns (c : Thread nD τ) (st0_50 t) fullShare ((dats m 0 c).before 50 t d))
    ∗ (∃ d, owns (c : Thread nD τ) (st0_51 t) fullShare ((dats m 0 c).before 51 t d))
    ∗ (∃ d, owns (c : Thread nD τ) (st0_52 t) fullShare ((dats m 0 c).before 52 t d))
    ∗ (∃ d, owns (c : Thread nD τ) (st0_53 t) fullShare ((dats m 0 c).before 53 t d))
    ∗ (∃ d, owns (c : Thread nD τ) (st0_54 t) fullShare ((dats m 0 c).before 54 t d))
    ∗ (∃ d, owns (c : Thread nD τ) (st0_55 t) fullShare ((dats m 0 c).before 55 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t)
    ∗ owns (c : Thread nD τ) (st0_30 t) fullShare ((dats m 0 c).after 30 t)
    ∗ owns (c : Thread nD τ) (st0_31 t) fullShare ((dats m 0 c).after 31 t)
    ∗ owns (c : Thread nD τ) (st0_32 t) fullShare ((dats m 0 c).after 32 t)
    ∗ owns (c : Thread nD τ) (st0_33 t) fullShare ((dats m 0 c).after 33 t)
    ∗ owns (c : Thread nD τ) (st0_34 t) fullShare ((dats m 0 c).after 34 t)
    ∗ owns (c : Thread nD τ) (st0_35 t) fullShare ((dats m 0 c).after 35 t)
    ∗ owns (c : Thread nD τ) (st0_36 t) fullShare ((dats m 0 c).after 36 t)
    ∗ owns (c : Thread nD τ) (st0_37 t) fullShare ((dats m 0 c).after 37 t)
    ∗ owns (c : Thread nD τ) (st0_38 t) fullShare ((dats m 0 c).after 38 t)
    ∗ owns (c : Thread nD τ) (st0_39 t) fullShare ((dats m 0 c).after 39 t)
    ∗ owns (c : Thread nD τ) (st0_40 t) fullShare ((dats m 0 c).after 40 t)
    ∗ owns (c : Thread nD τ) (st0_41 t) fullShare ((dats m 0 c).after 41 t)
    ∗ owns (c : Thread nD τ) (st0_42 t) fullShare ((dats m 0 c).after 42 t)
    ∗ owns (c : Thread nD τ) (st0_43 t) fullShare ((dats m 0 c).after 43 t)
    ∗ owns (c : Thread nD τ) (st0_44 t) fullShare ((dats m 0 c).after 44 t)
    ∗ owns (c : Thread nD τ) (st0_45 t) fullShare ((dats m 0 c).after 45 t)
    ∗ owns (c : Thread nD τ) (st0_46 t) fullShare ((dats m 0 c).after 46 t)
    ∗ owns (c : Thread nD τ) (st0_47 t) fullShare ((dats m 0 c).after 47 t)
    ∗ owns (c : Thread nD τ) (st0_48 t) fullShare ((dats m 0 c).after 48 t)
    ∗ owns (c : Thread nD τ) (st0_49 t) fullShare ((dats m 0 c).after 49 t)
    ∗ owns (c : Thread nD τ) (st0_50 t) fullShare ((dats m 0 c).after 50 t)
    ∗ owns (c : Thread nD τ) (st0_51 t) fullShare ((dats m 0 c).after 51 t)
    ∗ owns (c : Thread nD τ) (st0_52 t) fullShare ((dats m 0 c).after 52 t)
    ∗ owns (c : Thread nD τ) (st0_53 t) fullShare ((dats m 0 c).after 53 t)
    ∗ owns (c : Thread nD τ) (st0_54 t) fullShare ((dats m 0 c).after 54 t)
    ∗ owns (c : Thread nD τ) (st0_55 t) fullShare ((dats m 0 c).after 55 t))

set_option maxHeartbeats 6400000 in
/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27, before0_28, before0_29, before0_30, before0_31]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32, after0_33, after0_34, after0_35, after0_36, after0_37, after0_38, after0_39, after0_40, after0_41, after0_42, after0_43, after0_44, after0_45, after0_46, after0_47, after0_48, after0_49, after0_50, after0_51, after0_52, after0_53, after0_54, after0_55]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩, ⟨%d37, H37⟩, ⟨%d38, H38⟩, ⟨%d39, H39⟩, ⟨%d40, H40⟩, ⟨%d41, H41⟩, ⟨%d42, H42⟩, ⟨%d43, H43⟩, ⟨%d44, H44⟩, ⟨%d45, H45⟩, ⟨%d46, H46⟩, ⟨%d47, H47⟩, ⟨%d48, H48⟩, ⟨%d49, H49⟩, ⟨%d50, H50⟩, ⟨%d51, H51⟩, ⟨%d52, H52⟩, ⟨%d53, H53⟩, ⟨%d54, H54⟩, ⟨%d55, H55⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexists _; iexact H32
  isplitl [H33]; · iexists _; iexact H33
  isplitl [H34]; · iexists _; iexact H34
  isplitl [H35]; · iexists _; iexact H35
  isplitl [H36]; · iexists _; iexact H36
  isplitl [H37]; · iexists _; iexact H37
  isplitl [H38]; · iexists _; iexact H38
  isplitl [H39]; · iexists _; iexact H39
  isplitl [H40]; · iexists _; iexact H40
  isplitl [H41]; · iexists _; iexact H41
  isplitl [H42]; · iexists _; iexact H42
  isplitl [H43]; · iexists _; iexact H43
  isplitl [H44]; · iexists _; iexact H44
  isplitl [H45]; · iexists _; iexact H45
  isplitl [H46]; · iexists _; iexact H46
  isplitl [H47]; · iexists _; iexact H47
  isplitl [H48]; · iexists _; iexact H48
  isplitl [H49]; · iexists _; iexact H49
  isplitl [H50]; · iexists _; iexact H50
  isplitl [H51]; · iexists _; iexact H51
  isplitl [H52]; · iexists _; iexact H52
  isplitl [H53]; · iexists _; iexact H53
  isplitl [H54]; · iexists _; iexact H54
  isplitl [H55]; · iexists _; iexact H55
  iintro ⟨H0, H1, H2, H3, H4, H5, H6, H7, H8, H9, H10, H11, H12, H13, H14, H15, H16, H17, H18, H19, H20, H21, H22, H23, H24, H25, H26, H27, H28, H29, H30, H31, H32, H33, H34, H35, H36, H37, H38, H39, H40, H41, H42, H43, H44, H45, H46, H47, H48, H49, H50, H51, H52, H53, H54, H55⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  isplitl [H41]; · iexact H41
  isplitl [H42]; · iexact H42
  isplitl [H43]; · iexact H43
  isplitl [H44]; · iexact H44
  isplitl [H45]; · iexact H45
  isplitl [H46]; · iexact H46
  isplitl [H47]; · iexact H47
  isplitl [H48]; · iexact H48
  isplitl [H49]; · iexact H49
  isplitl [H50]; · iexact H50
  isplitl [H51]; · iexact H51
  isplitl [H52]; · iexact H52
  isplitl [H53]; · iexact H53
  isplitl [H54]; · iexact H54
  iexact H55

set_option maxHeartbeats 6400000 in
/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 6400000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- THE LAUNCH: `run_main`'s statement, and every semaphore counter of the devices at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)) :=
  frame_of m ρ (dats m) (A_eq m) (run_main m ρ)

/-- THE FRAME: `Cert.quiescent_AdamRestIdeal`'s statement (Defs.lean) at any `F` — Proof.lean cites it at `Bits`:
    `theorem Cert.Proof.claim : Cert.Claim := ⟨Cert.AdamRestIdeal.Gen.facts, fun m ρ _ => Cert.AdamRestIdeal.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31))
      ∧ r.2.sem = fun _ => 0) :=
  θ_run_and (unchanged m ρ) ((θ_run defs _ _).mono (fun _ h => h.2) (run_main_quiescent m ρ))

end Cert.AdamRestIdeal.Whole
-- ==== Proof.AdamRestValue.lean ====
/-
  The optimiser's step for the other eight weights, whose gradients are whole: every window is the whole of its array, and
  AdamW acts number by number. `final32` … `final55`: the arrays after the run are the reference's changes and moments.
-/
import proofs.«01_k».proof.Proof.AdamStep
import proofs.«01_k».proof.Proof.AdamRestIdealFrame
import proofs.«01_k».proof.Proof.Gen.AdamRestRefIdeal.Run
import proofs.«01_k».proof.Proof.Gen.AdamRestRefIdeal.Read
import Idealize.ShloMosaic.Lib.Pipeline.ValueKit

set_option maxRecDepth 16384

noncomputable section

open Idealize.ShloMosaic Idealize.ShloMosaic.TcCoe Idealize.SL.Sem
open Idealize.ShloMosaic.Pipeline (Dat)

open Cert.AdamStep

namespace Cert.AdamRestRefIdeal.Whole

open Cert.AdamRestRefIdeal Cert.AdamRestRefIdeal.Gen Cert.AdamRestRefIdeal.Read

section
variable (w g u v : FVec Ideal S128x1024 .f32) (i : S128x1024.Idx)

theorem m_at0 : val_main_v4 (F := Ideal) g u i = newM (g i) (u i) := by
  rw [eq_ix2 i]
  pointwise [val_main_v4, val_main_v3, val_main_v2, val_main_v1, val_main_v0]
  rfl

theorem v_at0 : val_main_v10 (F := Ideal) g v i = newV (g i) (v i) := by
  rw [eq_ix2 i]
  pointwise [val_main_v10, val_main_v9, val_main_v8, val_main_v7, val_main_v6, val_main_v5]
  rfl

theorem delta_at0 : val_main_v23 (F := Ideal) w g u v i = delta (g i) (w i) (u i) (v i) := by
  unfold delta
  rw [← m_at0, ← v_at0, eq_ix2 i]
  pointwise [val_main_v23, val_main_v22, val_main_v21, val_main_v20, val_main_v19, val_main_v18, val_main_v17, val_main_v16, val_main_v15, val_main_v14, val_main_v13, val_main_v12, val_main_v11]
  rfl

end

section
variable (w g u v : FVec Ideal S128x1024 .f32) (i : S128x1024.Idx)

theorem m_at1 : val_main_v28 (F := Ideal) g u i = newM (g i) (u i) := by
  rw [eq_ix2 i]
  pointwise [val_main_v28, val_main_v27, val_main_v26, val_main_v25, val_main_v24]
  rfl

theorem v_at1 : val_main_v34 (F := Ideal) g v i = newV (g i) (v i) := by
  rw [eq_ix2 i]
  pointwise [val_main_v34, val_main_v33, val_main_v32, val_main_v31, val_main_v30, val_main_v29]
  rfl

theorem delta_at1 : val_main_v47 (F := Ideal) w g u v i = delta (g i) (w i) (u i) (v i) := by
  unfold delta
  rw [← m_at1, ← v_at1, eq_ix2 i]
  pointwise [val_main_v47, val_main_v46, val_main_v45, val_main_v44, val_main_v43, val_main_v42, val_main_v41, val_main_v40, val_main_v39, val_main_v38, val_main_v37, val_main_v36, val_main_v35]
  rfl

end

section
variable (w g u v : FVec Ideal S1x3072 .f32) (i : S1x3072.Idx)

theorem m_at2 : val_main_v52 (F := Ideal) g u i = newM (g i) (u i) := by
  rw [eq_ix2 i]
  pointwise [val_main_v52, val_main_v51, val_main_v50, val_main_v49, val_main_v48]
  rfl

theorem v_at2 : val_main_v58 (F := Ideal) g v i = newV (g i) (v i) := by
  rw [eq_ix2 i]
  pointwise [val_main_v58, val_main_v57, val_main_v56, val_main_v55, val_main_v54, val_main_v53]
  rfl

theorem delta_at2 : val_main_v71 (F := Ideal) w g u v i = delta (g i) (w i) (u i) (v i) := by
  unfold delta
  rw [← m_at2, ← v_at2, eq_ix2 i]
  pointwise [val_main_v71, val_main_v70, val_main_v69, val_main_v68, val_main_v67, val_main_v66, val_main_v65, val_main_v64, val_main_v63, val_main_v62, val_main_v61, val_main_v60, val_main_v59]
  rfl

end

section
variable (w g u v : FVec Ideal S1x8704 .f32) (i : S1x8704.Idx)

theorem m_at3 : val_main_v76 (F := Ideal) g u i = newM (g i) (u i) := by
  rw [eq_ix2 i]
  pointwise [val_main_v76, val_main_v75, val_main_v74, val_main_v73, val_main_v72]
  rfl

theorem v_at3 : val_main_v82 (F := Ideal) g v i = newV (g i) (v i) := by
  rw [eq_ix2 i]
  pointwise [val_main_v82, val_main_v81, val_main_v80, val_main_v79, val_main_v78, val_main_v77]
  rfl

theorem delta_at3 : val_main_v95 (F := Ideal) w g u v i = delta (g i) (w i) (u i) (v i) := by
  unfold delta
  rw [← m_at3, ← v_at3, eq_ix2 i]
  pointwise [val_main_v95, val_main_v94, val_main_v93, val_main_v92, val_main_v91, val_main_v90, val_main_v89, val_main_v88, val_main_v87, val_main_v86, val_main_v85, val_main_v84, val_main_v83]
  rfl

end

section
variable (w g u v : FVec Ideal S3x128 .f32) (i : S3x128.Idx)

theorem m_at4 : val_main_v100 (F := Ideal) g u i = newM (g i) (u i) := by
  rw [eq_ix2 i]
  pointwise [val_main_v100, val_main_v99, val_main_v98, val_main_v97, val_main_v96]
  rfl

theorem v_at4 : val_main_v106 (F := Ideal) g v i = newV (g i) (v i) := by
  rw [eq_ix2 i]
  pointwise [val_main_v106, val_main_v105, val_main_v104, val_main_v103, val_main_v102, val_main_v101]
  rfl

theorem delta_at4 : val_main_v119 (F := Ideal) w g u v i = delta (g i) (w i) (u i) (v i) := by
  unfold delta
  rw [← m_at4, ← v_at4, eq_ix2 i]
  pointwise [val_main_v119, val_main_v118, val_main_v117, val_main_v116, val_main_v115, val_main_v114, val_main_v113, val_main_v112, val_main_v111, val_main_v110, val_main_v109, val_main_v108, val_main_v107]
  rfl

end

section
variable (w g u v : FVec Ideal S1x1024 .f32) (i : S1x1024.Idx)

theorem m_at5 : val_main_v124 (F := Ideal) g u i = newM (g i) (u i) := by
  rw [eq_ix2 i]
  pointwise [val_main_v124, val_main_v123, val_main_v122, val_main_v121, val_main_v120]
  rfl

theorem v_at5 : val_main_v130 (F := Ideal) g v i = newV (g i) (v i) := by
  rw [eq_ix2 i]
  pointwise [val_main_v130, val_main_v129, val_main_v128, val_main_v127, val_main_v126, val_main_v125]
  rfl

theorem delta_at5 : val_main_v143 (F := Ideal) w g u v i = delta (g i) (w i) (u i) (v i) := by
  unfold delta
  rw [← m_at5, ← v_at5, eq_ix2 i]
  pointwise [val_main_v143, val_main_v142, val_main_v141, val_main_v140, val_main_v139, val_main_v138, val_main_v137, val_main_v136, val_main_v135, val_main_v134, val_main_v133, val_main_v132, val_main_v131]
  rfl

end

section
variable (w g u v : FVec Ideal S1x1024 .f32) (i : S1x1024.Idx)

theorem m_at6 : val_main_v148 (F := Ideal) g u i = newM (g i) (u i) := by
  rw [eq_ix2 i]
  pointwise [val_main_v148, val_main_v147, val_main_v146, val_main_v145, val_main_v144]
  rfl

theorem v_at6 : val_main_v154 (F := Ideal) g v i = newV (g i) (v i) := by
  rw [eq_ix2 i]
  pointwise [val_main_v154, val_main_v153, val_main_v152, val_main_v151, val_main_v150, val_main_v149]
  rfl

theorem delta_at6 : val_main_v167 (F := Ideal) w g u v i = delta (g i) (w i) (u i) (v i) := by
  unfold delta
  rw [← m_at6, ← v_at6, eq_ix2 i]
  pointwise [val_main_v167, val_main_v166, val_main_v165, val_main_v164, val_main_v163, val_main_v162, val_main_v161, val_main_v160, val_main_v159, val_main_v158, val_main_v157, val_main_v156, val_main_v155]
  rfl

end

section
variable (w g u v : FVec Ideal S1x1024 .f32) (i : S1x1024.Idx)

theorem m_at7 : val_main_v172 (F := Ideal) g u i = newM (g i) (u i) := by
  rw [eq_ix2 i]
  pointwise [val_main_v172, val_main_v171, val_main_v170, val_main_v169, val_main_v168]
  rfl

theorem v_at7 : val_main_v178 (F := Ideal) g v i = newV (g i) (v i) := by
  rw [eq_ix2 i]
  pointwise [val_main_v178, val_main_v177, val_main_v176, val_main_v175, val_main_v174, val_main_v173]
  rfl

theorem delta_at7 : val_main_v191 (F := Ideal) w g u v i = delta (g i) (w i) (u i) (v i) := by
  unfold delta
  rw [← m_at7, ← v_at7, eq_ix2 i]
  pointwise [val_main_v191, val_main_v190, val_main_v189, val_main_v188, val_main_v187, val_main_v186, val_main_v185, val_main_v184, val_main_v183, val_main_v182, val_main_v181, val_main_v180, val_main_v179]
  rfl

end

end Cert.AdamRestRefIdeal.Whole

namespace Cert.AdamRestIdeal.Whole

open Cert.AdamRestIdeal Cert.AdamRestIdeal.Gen

variable (m : (ℓ : Loc nD τ sig) → Buf (Elt Ideal) ℓ)

/-- The windows of weight 0 are the whole of their arrays. -/
theorem idx0 : ∀ t : Fin cfg0.N, win0_0.index t = ![0, 0] ∧ win0_1.index t = ![0, 0] ∧ win0_2.index t = ![0, 0] ∧ win0_3.index t = ![0, 0] ∧ win0_32.index t = ![0, 0] ∧ win0_33.index t = ![0, 0] ∧ win0_34.index t = ![0, 0] :=
  (by decide +kernel : ∀ t : Fin grid0.N, _)

section
variable (w g u v : FVec Ideal S128x1024 .f32) (y : S128x1024.Idx)

theorem payd0 : k0_pay6 (F := Ideal) w g u v y
    = delta (g y) (w y) (u y) (v y) := by
  unfold delta newM newV
  rw [eq_ix2 y]
  pointwise [k0_pay6, k0_pay4, k0_pay5]

theorem paym0 : k0_pay7 (F := Ideal) g u y
    = newM (g y) (u y) := by
  unfold newM
  rw [eq_ix2 y]
  pointwise [k0_pay7, k0_pay4]

theorem payv0 : k0_pay8 (F := Ideal) (k0_pay5 (F := Ideal) g v) y
    = newV (g y) (v y) := by
  unfold newV
  rw [eq_ix2 y]
  pointwise [k0_pay8, k0_pay5]

end

theorem read0 (c : Dev nD) (y : S128x1024.Idx) : iblk m c 0 t0_0 y = (m ((c : Thread nD τ).loc main_arg0)) y := by
  blk_point [iblk, V, (idx0 t0_0).1]

theorem read1 (c : Dev nD) (y : S128x1024.Idx) : iblk m c 1 t0_0 y = (m ((c : Thread nD τ).loc main_arg1)) y := by
  blk_point [iblk, V, (idx0 t0_0).2.1]

theorem read2 (c : Dev nD) (y : S128x1024.Idx) : iblk m c 2 t0_0 y = (m ((c : Thread nD τ).loc main_arg2)) y := by
  blk_point [iblk, V, (idx0 t0_0).2.2.1]

theorem read3 (c : Dev nD) (y : S128x1024.Idx) : iblk m c 3 t0_0 y = (m ((c : Thread nD τ).loc main_arg3)) y := by
  blk_point [iblk, V, (idx0 t0_0).2.2.2.1]

theorem final32 (c : Dev nD) : (dats m 0 c).arrAt 32 (cfgs 0).N
    = Cert.AdamRestRefIdeal.Read.val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_after_last 32 t0_0 (by decide +kernel) _ fun y => ?_
  blk_simp
  rw [after0_32]; unfold out0_32; frame_out
  refine (payd0 _ _ _ _ _).trans (Eq.trans ?_ (Cert.AdamRestRefIdeal.Whole.delta_at0 _ _ _ _ _).symm)
  exact delta_congr (read1 m c _) (read0 m c _) (read2 m c _) (read3 m c _)

theorem final33 (c : Dev nD) : (dats m 0 c).arrAt 33 (cfgs 0).N
    = Cert.AdamRestRefIdeal.Read.val_main_v4 (F := Ideal) (m ((c : Thread nD τ).loc main_arg1)) (m ((c : Thread nD τ).loc main_arg2)) := by
  refine (dats m 0 c).arrAt_eq_of_after_last 33 t0_0 (by decide +kernel) _ fun y => ?_
  blk_simp
  rw [after0_33]; unfold out0_33; frame_out
  refine (paym0 _ _ _).trans (Eq.trans ?_ (Cert.AdamRestRefIdeal.Whole.m_at0 _ _ _).symm)
  exact congrArg₂ newM (read1 m c _) (read2 m c _)

theorem final34 (c : Dev nD) : (dats m 0 c).arrAt 34 (cfgs 0).N
    = Cert.AdamRestRefIdeal.Read.val_main_v10 (F := Ideal) (m ((c : Thread nD τ).loc main_arg1)) (m ((c : Thread nD τ).loc main_arg3)) := by
  refine (dats m 0 c).arrAt_eq_of_after_last 34 t0_0 (by decide +kernel) _ fun y => ?_
  blk_simp
  rw [after0_34]; unfold out0_34; frame_out
  refine (payv0 _ _ _).trans (Eq.trans ?_ (Cert.AdamRestRefIdeal.Whole.v_at0 _ _ _).symm)
  exact congrArg₂ newV (read1 m c _) (read3 m c _)

/-- The windows of weight 1 are the whole of their arrays. -/
theorem idx1 : ∀ t : Fin cfg0.N, win0_4.index t = ![0, 0] ∧ win0_5.index t = ![0, 0] ∧ win0_6.index t = ![0, 0] ∧ win0_7.index t = ![0, 0] ∧ win0_35.index t = ![0, 0] ∧ win0_36.index t = ![0, 0] ∧ win0_37.index t = ![0, 0] :=
  (by decide +kernel : ∀ t : Fin grid0.N, _)

section
variable (w g u v : FVec Ideal S128x1024 .f32) (y : S128x1024.Idx)

theorem payd1 : k0_pay11 (F := Ideal) w g u v y
    = delta (g y) (w y) (u y) (v y) := by
  unfold delta newM newV
  rw [eq_ix2 y]
  pointwise [k0_pay11, k0_pay10, k0_pay9]

theorem paym1 : k0_pay12 (F := Ideal) g u y
    = newM (g y) (u y) := by
  unfold newM
  rw [eq_ix2 y]
  pointwise [k0_pay12, k0_pay9]

theorem payv1 : k0_pay13 (F := Ideal) (k0_pay10 (F := Ideal) g v) y
    = newV (g y) (v y) := by
  unfold newV
  rw [eq_ix2 y]
  pointwise [k0_pay13, k0_pay10]

end

theorem read4 (c : Dev nD) (y : S128x1024.Idx) : iblk m c 4 t0_0 y = (m ((c : Thread nD τ).loc main_arg4)) y := by
  blk_point [iblk, V, (idx1 t0_0).1]

theorem read5 (c : Dev nD) (y : S128x1024.Idx) : iblk m c 5 t0_0 y = (m ((c : Thread nD τ).loc main_arg5)) y := by
  blk_point [iblk, V, (idx1 t0_0).2.1]

theorem read6 (c : Dev nD) (y : S128x1024.Idx) : iblk m c 6 t0_0 y = (m ((c : Thread nD τ).loc main_arg6)) y := by
  blk_point [iblk, V, (idx1 t0_0).2.2.1]

theorem read7 (c : Dev nD) (y : S128x1024.Idx) : iblk m c 7 t0_0 y = (m ((c : Thread nD τ).loc main_arg7)) y := by
  blk_point [iblk, V, (idx1 t0_0).2.2.2.1]

theorem final35 (c : Dev nD) : (dats m 0 c).arrAt 35 (cfgs 0).N
    = Cert.AdamRestRefIdeal.Read.val_main_v47 (F := Ideal) (m ((c : Thread nD τ).loc main_arg4)) (m ((c : Thread nD τ).loc main_arg5)) (m ((c : Thread nD τ).loc main_arg6)) (m ((c : Thread nD τ).loc main_arg7)) := by
  refine (dats m 0 c).arrAt_eq_of_after_last 35 t0_0 (by decide +kernel) _ fun y => ?_
  blk_simp
  rw [after0_35]; unfold out0_35; frame_out
  refine (payd1 _ _ _ _ _).trans (Eq.trans ?_ (Cert.AdamRestRefIdeal.Whole.delta_at1 _ _ _ _ _).symm)
  exact delta_congr (read5 m c _) (read4 m c _) (read6 m c _) (read7 m c _)

theorem final36 (c : Dev nD) : (dats m 0 c).arrAt 36 (cfgs 0).N
    = Cert.AdamRestRefIdeal.Read.val_main_v28 (F := Ideal) (m ((c : Thread nD τ).loc main_arg5)) (m ((c : Thread nD τ).loc main_arg6)) := by
  refine (dats m 0 c).arrAt_eq_of_after_last 36 t0_0 (by decide +kernel) _ fun y => ?_
  blk_simp
  rw [after0_36]; unfold out0_36; frame_out
  refine (paym1 _ _ _).trans (Eq.trans ?_ (Cert.AdamRestRefIdeal.Whole.m_at1 _ _ _).symm)
  exact congrArg₂ newM (read5 m c _) (read6 m c _)

theorem final37 (c : Dev nD) : (dats m 0 c).arrAt 37 (cfgs 0).N
    = Cert.AdamRestRefIdeal.Read.val_main_v34 (F := Ideal) (m ((c : Thread nD τ).loc main_arg5)) (m ((c : Thread nD τ).loc main_arg7)) := by
  refine (dats m 0 c).arrAt_eq_of_after_last 37 t0_0 (by decide +kernel) _ fun y => ?_
  blk_simp
  rw [after0_37]; unfold out0_37; frame_out
  refine (payv1 _ _ _).trans (Eq.trans ?_ (Cert.AdamRestRefIdeal.Whole.v_at1 _ _ _).symm)
  exact congrArg₂ newV (read5 m c _) (read7 m c _)

/-- The windows of weight 2 are the whole of their arrays. -/
theorem idx2 : ∀ t : Fin cfg0.N, win0_8.index t = ![0, 0] ∧ win0_9.index t = ![0, 0] ∧ win0_10.index t = ![0, 0] ∧ win0_11.index t = ![0, 0] ∧ win0_38.index t = ![0, 0] ∧ win0_39.index t = ![0, 0] ∧ win0_40.index t = ![0, 0] :=
  (by decide +kernel : ∀ t : Fin grid0.N, _)

section
variable (w g u v : FVec Ideal S1x3072 .f32) (y : S1x3072.Idx)

theorem payd2 : k0_pay16 (F := Ideal) w g u v y
    = delta (g y) (w y) (u y) (v y) := by
  unfold delta newM newV
  rw [eq_ix2 y]
  pointwise [k0_pay16, k0_pay14, k0_pay15]

theorem paym2 : k0_pay17 (F := Ideal) (k0_pay14 (F := Ideal) g u) y
    = newM (g y) (u y) := by
  unfold newM
  rw [eq_ix2 y]
  pointwise [k0_pay17, k0_pay14]

theorem payv2 : k0_pay18 (F := Ideal) (k0_pay15 (F := Ideal) g v) y
    = newV (g y) (v y) := by
  unfold newV
  rw [eq_ix2 y]
  pointwise [k0_pay18, k0_pay15]

end

theorem read8 (c : Dev nD) (y : S1x3072.Idx) : iblk m c 8 t0_0 y = (m ((c : Thread nD τ).loc main_arg8)) y := by
  blk_point [iblk, V, (idx2 t0_0).1]

theorem read9 (c : Dev nD) (y : S1x3072.Idx) : iblk m c 9 t0_0 y = (m ((c : Thread nD τ).loc main_arg9)) y := by
  blk_point [iblk, V, (idx2 t0_0).2.1]

theorem read10 (c : Dev nD) (y : S1x3072.Idx) : iblk m c 10 t0_0 y = (m ((c : Thread nD τ).loc main_arg10)) y := by
  blk_point [iblk, V, (idx2 t0_0).2.2.1]

theorem read11 (c : Dev nD) (y : S1x3072.Idx) : iblk m c 11 t0_0 y = (m ((c : Thread nD τ).loc main_arg11)) y := by
  blk_point [iblk, V, (idx2 t0_0).2.2.2.1]

theorem final38 (c : Dev nD) : (dats m 0 c).arrAt 38 (cfgs 0).N
    = Cert.AdamRestRefIdeal.Read.val_main_v71 (F := Ideal) (m ((c : Thread nD τ).loc main_arg8)) (m ((c : Thread nD τ).loc main_arg9)) (m ((c : Thread nD τ).loc main_arg10)) (m ((c : Thread nD τ).loc main_arg11)) := by
  refine (dats m 0 c).arrAt_eq_of_after_last 38 t0_0 (by decide +kernel) _ fun y => ?_
  blk_simp
  rw [after0_38]; unfold out0_38; frame_out
  refine (payd2 _ _ _ _ _).trans (Eq.trans ?_ (Cert.AdamRestRefIdeal.Whole.delta_at2 _ _ _ _ _).symm)
  exact delta_congr (read9 m c _) (read8 m c _) (read10 m c _) (read11 m c _)

theorem final39 (c : Dev nD) : (dats m 0 c).arrAt 39 (cfgs 0).N
    = Cert.AdamRestRefIdeal.Read.val_main_v52 (F := Ideal) (m ((c : Thread nD τ).loc main_arg9)) (m ((c : Thread nD τ).loc main_arg10)) := by
  refine (dats m 0 c).arrAt_eq_of_after_last 39 t0_0 (by decide +kernel) _ fun y => ?_
  blk_simp
  rw [after0_39]; unfold out0_39; frame_out
  refine (paym2 _ _ _).trans (Eq.trans ?_ (Cert.AdamRestRefIdeal.Whole.m_at2 _ _ _).symm)
  exact congrArg₂ newM (read9 m c _) (read10 m c _)

theorem final40 (c : Dev nD) : (dats m 0 c).arrAt 40 (cfgs 0).N
    = Cert.AdamRestRefIdeal.Read.val_main_v58 (F := Ideal) (m ((c : Thread nD τ).loc main_arg9)) (m ((c : Thread nD τ).loc main_arg11)) := by
  refine (dats m 0 c).arrAt_eq_of_after_last 40 t0_0 (by decide +kernel) _ fun y => ?_
  blk_simp
  rw [after0_40]; unfold out0_40; frame_out
  refine (payv2 _ _ _).trans (Eq.trans ?_ (Cert.AdamRestRefIdeal.Whole.v_at2 _ _ _).symm)
  exact congrArg₂ newV (read9 m c _) (read11 m c _)

/-- The windows of weight 3 are the whole of their arrays. -/
theorem idx3 : ∀ t : Fin cfg0.N, win0_12.index t = ![0, 0] ∧ win0_13.index t = ![0, 0] ∧ win0_14.index t = ![0, 0] ∧ win0_15.index t = ![0, 0] ∧ win0_41.index t = ![0, 0] ∧ win0_42.index t = ![0, 0] ∧ win0_43.index t = ![0, 0] :=
  (by decide +kernel : ∀ t : Fin grid0.N, _)

section
variable (w g u v : FVec Ideal S1x8704 .f32) (y : S1x8704.Idx)

theorem payd3 : k0_pay21 (F := Ideal) w g u v y
    = delta (g y) (w y) (u y) (v y) := by
  unfold delta newM newV
  rw [eq_ix2 y]
  pointwise [k0_pay21, k0_pay19, k0_pay20]

theorem paym3 : k0_pay22 (F := Ideal) (k0_pay19 (F := Ideal) g u) y
    = newM (g y) (u y) := by
  unfold newM
  rw [eq_ix2 y]
  pointwise [k0_pay22, k0_pay19]

theorem payv3 : k0_pay23 (F := Ideal) (k0_pay20 (F := Ideal) g v) y
    = newV (g y) (v y) := by
  unfold newV
  rw [eq_ix2 y]
  pointwise [k0_pay23, k0_pay20]

end

theorem read12 (c : Dev nD) (y : S1x8704.Idx) : iblk m c 12 t0_0 y = (m ((c : Thread nD τ).loc main_arg12)) y := by
  blk_point [iblk, V, (idx3 t0_0).1]

theorem read13 (c : Dev nD) (y : S1x8704.Idx) : iblk m c 13 t0_0 y = (m ((c : Thread nD τ).loc main_arg13)) y := by
  blk_point [iblk, V, (idx3 t0_0).2.1]

theorem read14 (c : Dev nD) (y : S1x8704.Idx) : iblk m c 14 t0_0 y = (m ((c : Thread nD τ).loc main_arg14)) y := by
  blk_point [iblk, V, (idx3 t0_0).2.2.1]

theorem read15 (c : Dev nD) (y : S1x8704.Idx) : iblk m c 15 t0_0 y = (m ((c : Thread nD τ).loc main_arg15)) y := by
  blk_point [iblk, V, (idx3 t0_0).2.2.2.1]

theorem final41 (c : Dev nD) : (dats m 0 c).arrAt 41 (cfgs 0).N
    = Cert.AdamRestRefIdeal.Read.val_main_v95 (F := Ideal) (m ((c : Thread nD τ).loc main_arg12)) (m ((c : Thread nD τ).loc main_arg13)) (m ((c : Thread nD τ).loc main_arg14)) (m ((c : Thread nD τ).loc main_arg15)) := by
  refine (dats m 0 c).arrAt_eq_of_after_last 41 t0_0 (by decide +kernel) _ fun y => ?_
  blk_simp
  rw [after0_41]; unfold out0_41; frame_out
  refine (payd3 _ _ _ _ _).trans (Eq.trans ?_ (Cert.AdamRestRefIdeal.Whole.delta_at3 _ _ _ _ _).symm)
  exact delta_congr (read13 m c _) (read12 m c _) (read14 m c _) (read15 m c _)

theorem final42 (c : Dev nD) : (dats m 0 c).arrAt 42 (cfgs 0).N
    = Cert.AdamRestRefIdeal.Read.val_main_v76 (F := Ideal) (m ((c : Thread nD τ).loc main_arg13)) (m ((c : Thread nD τ).loc main_arg14)) := by
  refine (dats m 0 c).arrAt_eq_of_after_last 42 t0_0 (by decide +kernel) _ fun y => ?_
  blk_simp
  rw [after0_42]; unfold out0_42; frame_out
  refine (paym3 _ _ _).trans (Eq.trans ?_ (Cert.AdamRestRefIdeal.Whole.m_at3 _ _ _).symm)
  exact congrArg₂ newM (read13 m c _) (read14 m c _)

theorem final43 (c : Dev nD) : (dats m 0 c).arrAt 43 (cfgs 0).N
    = Cert.AdamRestRefIdeal.Read.val_main_v82 (F := Ideal) (m ((c : Thread nD τ).loc main_arg13)) (m ((c : Thread nD τ).loc main_arg15)) := by
  refine (dats m 0 c).arrAt_eq_of_after_last 43 t0_0 (by decide +kernel) _ fun y => ?_
  blk_simp
  rw [after0_43]; unfold out0_43; frame_out
  refine (payv3 _ _ _).trans (Eq.trans ?_ (Cert.AdamRestRefIdeal.Whole.v_at3 _ _ _).symm)
  exact congrArg₂ newV (read13 m c _) (read15 m c _)

/-- The windows of weight 4 are the whole of their arrays. -/
theorem idx4 : ∀ t : Fin cfg0.N, win0_16.index t = ![0, 0] ∧ win0_17.index t = ![0, 0] ∧ win0_18.index t = ![0, 0] ∧ win0_19.index t = ![0, 0] ∧ win0_44.index t = ![0, 0] ∧ win0_45.index t = ![0, 0] ∧ win0_46.index t = ![0, 0] :=
  (by decide +kernel : ∀ t : Fin grid0.N, _)

section
variable (w g u v : FVec Ideal S3x128 .f32) (y : S3x128.Idx)

theorem payd4 : k0_pay27 (F := Ideal) (k0_pay26 (F := Ideal) w g u v) y
    = delta (g y) (w y) (u y) (v y) := by
  unfold delta newM newV
  rw [eq_ix2 y]
  pointwise [k0_pay27, k0_pay26, k0_pay24, k0_pay25]

theorem paym4 : k0_pay28 (F := Ideal) (k0_pay24 (F := Ideal) g u) y
    = newM (g y) (u y) := by
  unfold newM
  rw [eq_ix2 y]
  pointwise [k0_pay28, k0_pay24]

theorem payv4 : k0_pay29 (F := Ideal) (k0_pay25 (F := Ideal) g v) y
    = newV (g y) (v y) := by
  unfold newV
  rw [eq_ix2 y]
  pointwise [k0_pay29, k0_pay25]

end

theorem read16 (c : Dev nD) (y : S3x128.Idx) : iblk m c 16 t0_0 y = (m ((c : Thread nD τ).loc main_arg16)) y := by
  blk_point [iblk, V, (idx4 t0_0).1]

theorem read17 (c : Dev nD) (y : S3x128.Idx) : iblk m c 17 t0_0 y = (m ((c : Thread nD τ).loc main_arg17)) y := by
  blk_point [iblk, V, (idx4 t0_0).2.1]

theorem read18 (c : Dev nD) (y : S3x128.Idx) : iblk m c 18 t0_0 y = (m ((c : Thread nD τ).loc main_arg18)) y := by
  blk_point [iblk, V, (idx4 t0_0).2.2.1]

theorem read19 (c : Dev nD) (y : S3x128.Idx) : iblk m c 19 t0_0 y = (m ((c : Thread nD τ).loc main_arg19)) y := by
  blk_point [iblk, V, (idx4 t0_0).2.2.2.1]

theorem final44 (c : Dev nD) : (dats m 0 c).arrAt 44 (cfgs 0).N
    = Cert.AdamRestRefIdeal.Read.val_main_v119 (F := Ideal) (m ((c : Thread nD τ).loc main_arg16)) (m ((c : Thread nD τ).loc main_arg17)) (m ((c : Thread nD τ).loc main_arg18)) (m ((c : Thread nD τ).loc main_arg19)) := by
  refine (dats m 0 c).arrAt_eq_of_after_last 44 t0_0 (by decide +kernel) _ fun y => ?_
  blk_simp
  rw [after0_44]; unfold out0_44; frame_out
  refine (payd4 _ _ _ _ _).trans (Eq.trans ?_ (Cert.AdamRestRefIdeal.Whole.delta_at4 _ _ _ _ _).symm)
  exact delta_congr (read17 m c _) (read16 m c _) (read18 m c _) (read19 m c _)

theorem final45 (c : Dev nD) : (dats m 0 c).arrAt 45 (cfgs 0).N
    = Cert.AdamRestRefIdeal.Read.val_main_v100 (F := Ideal) (m ((c : Thread nD τ).loc main_arg17)) (m ((c : Thread nD τ).loc main_arg18)) := by
  refine (dats m 0 c).arrAt_eq_of_after_last 45 t0_0 (by decide +kernel) _ fun y => ?_
  blk_simp
  rw [after0_45]; unfold out0_45; frame_out
  refine (paym4 _ _ _).trans (Eq.trans ?_ (Cert.AdamRestRefIdeal.Whole.m_at4 _ _ _).symm)
  exact congrArg₂ newM (read17 m c _) (read18 m c _)

theorem final46 (c : Dev nD) : (dats m 0 c).arrAt 46 (cfgs 0).N
    = Cert.AdamRestRefIdeal.Read.val_main_v106 (F := Ideal) (m ((c : Thread nD τ).loc main_arg17)) (m ((c : Thread nD τ).loc main_arg19)) := by
  refine (dats m 0 c).arrAt_eq_of_after_last 46 t0_0 (by decide +kernel) _ fun y => ?_
  blk_simp
  rw [after0_46]; unfold out0_46; frame_out
  refine (payv4 _ _ _).trans (Eq.trans ?_ (Cert.AdamRestRefIdeal.Whole.v_at4 _ _ _).symm)
  exact congrArg₂ newV (read17 m c _) (read19 m c _)

/-- The windows of weight 5 are the whole of their arrays. -/
theorem idx5 : ∀ t : Fin cfg0.N, win0_20.index t = ![0, 0] ∧ win0_21.index t = ![0, 0] ∧ win0_22.index t = ![0, 0] ∧ win0_23.index t = ![0, 0] ∧ win0_47.index t = ![0, 0] ∧ win0_48.index t = ![0, 0] ∧ win0_49.index t = ![0, 0] :=
  (by decide +kernel : ∀ t : Fin grid0.N, _)

section
variable (w g u v : FVec Ideal S1x1024 .f32) (y : S1x1024.Idx)

theorem payd5 : k0_pay34 (F := Ideal) (k0_pay32 (F := Ideal) w g u v) (k0_pay33 (F := Ideal)) y
    = delta (g y) (w y) (u y) (v y) := by
  unfold delta newM newV
  rw [eq_ix2 y]
  pointwise [k0_pay34, k0_pay32, k0_pay33, k0_pay30, k0_pay31]

theorem paym5 : k0_pay35 (F := Ideal) (k0_pay30 (F := Ideal) g u) y
    = newM (g y) (u y) := by
  unfold newM
  rw [eq_ix2 y]
  pointwise [k0_pay35, k0_pay30]

theorem payv5 : k0_pay36 (F := Ideal) (k0_pay31 (F := Ideal) g v) y
    = newV (g y) (v y) := by
  unfold newV
  rw [eq_ix2 y]
  pointwise [k0_pay36, k0_pay31]

end

theorem read20 (c : Dev nD) (y : S1x1024.Idx) : iblk m c 20 t0_0 y = (m ((c : Thread nD τ).loc main_arg20)) y := by
  blk_point [iblk, V, (idx5 t0_0).1]

theorem read21 (c : Dev nD) (y : S1x1024.Idx) : iblk m c 21 t0_0 y = (m ((c : Thread nD τ).loc main_arg21)) y := by
  blk_point [iblk, V, (idx5 t0_0).2.1]

theorem read22 (c : Dev nD) (y : S1x1024.Idx) : iblk m c 22 t0_0 y = (m ((c : Thread nD τ).loc main_arg22)) y := by
  blk_point [iblk, V, (idx5 t0_0).2.2.1]

theorem read23 (c : Dev nD) (y : S1x1024.Idx) : iblk m c 23 t0_0 y = (m ((c : Thread nD τ).loc main_arg23)) y := by
  blk_point [iblk, V, (idx5 t0_0).2.2.2.1]

theorem final47 (c : Dev nD) : (dats m 0 c).arrAt 47 (cfgs 0).N
    = Cert.AdamRestRefIdeal.Read.val_main_v143 (F := Ideal) (m ((c : Thread nD τ).loc main_arg20)) (m ((c : Thread nD τ).loc main_arg21)) (m ((c : Thread nD τ).loc main_arg22)) (m ((c : Thread nD τ).loc main_arg23)) := by
  refine (dats m 0 c).arrAt_eq_of_after_last 47 t0_0 (by decide +kernel) _ fun y => ?_
  blk_simp
  rw [after0_47]; unfold out0_47; frame_out
  refine (payd5 _ _ _ _ _).trans (Eq.trans ?_ (Cert.AdamRestRefIdeal.Whole.delta_at5 _ _ _ _ _).symm)
  exact delta_congr (read21 m c _) (read20 m c _) (read22 m c _) (read23 m c _)

theorem final48 (c : Dev nD) : (dats m 0 c).arrAt 48 (cfgs 0).N
    = Cert.AdamRestRefIdeal.Read.val_main_v124 (F := Ideal) (m ((c : Thread nD τ).loc main_arg21)) (m ((c : Thread nD τ).loc main_arg22)) := by
  refine (dats m 0 c).arrAt_eq_of_after_last 48 t0_0 (by decide +kernel) _ fun y => ?_
  blk_simp
  rw [after0_48]; unfold out0_48; frame_out
  refine (paym5 _ _ _).trans (Eq.trans ?_ (Cert.AdamRestRefIdeal.Whole.m_at5 _ _ _).symm)
  exact congrArg₂ newM (read21 m c _) (read22 m c _)

theorem final49 (c : Dev nD) : (dats m 0 c).arrAt 49 (cfgs 0).N
    = Cert.AdamRestRefIdeal.Read.val_main_v130 (F := Ideal) (m ((c : Thread nD τ).loc main_arg21)) (m ((c : Thread nD τ).loc main_arg23)) := by
  refine (dats m 0 c).arrAt_eq_of_after_last 49 t0_0 (by decide +kernel) _ fun y => ?_
  blk_simp
  rw [after0_49]; unfold out0_49; frame_out
  refine (payv5 _ _ _).trans (Eq.trans ?_ (Cert.AdamRestRefIdeal.Whole.v_at5 _ _ _).symm)
  exact congrArg₂ newV (read21 m c _) (read23 m c _)

/-- The windows of weight 6 are the whole of their arrays. -/
theorem idx6 : ∀ t : Fin cfg0.N, win0_24.index t = ![0, 0] ∧ win0_25.index t = ![0, 0] ∧ win0_26.index t = ![0, 0] ∧ win0_27.index t = ![0, 0] ∧ win0_50.index t = ![0, 0] ∧ win0_51.index t = ![0, 0] ∧ win0_52.index t = ![0, 0] :=
  (by decide +kernel : ∀ t : Fin grid0.N, _)

section
variable (w g u v : FVec Ideal S1x1024 .f32) (y : S1x1024.Idx)

theorem payd6 : k0_pay41 (F := Ideal) (k0_pay39 (F := Ideal) g u v) (k0_pay40 (F := Ideal) w) y
    = delta (g y) (w y) (u y) (v y) := by
  unfold delta newM newV
  rw [eq_ix2 y]
  pointwise [k0_pay41, k0_pay39, k0_pay40, k0_pay37, k0_pay38]

theorem paym6 : k0_pay42 (F := Ideal) (k0_pay37 (F := Ideal) g u) y
    = newM (g y) (u y) := by
  unfold newM
  rw [eq_ix2 y]
  pointwise [k0_pay42, k0_pay37]

theorem payv6 : k0_pay43 (F := Ideal) (k0_pay38 (F := Ideal) g v) y
    = newV (g y) (v y) := by
  unfold newV
  rw [eq_ix2 y]
  pointwise [k0_pay43, k0_pay38]

end

theorem read24 (c : Dev nD) (y : S1x1024.Idx) : iblk m c 24 t0_0 y = (m ((c : Thread nD τ).loc main_arg24)) y := by
  blk_point [iblk, V, (idx6 t0_0).1]

theorem read25 (c : Dev nD) (y : S1x1024.Idx) : iblk m c 25 t0_0 y = (m ((c : Thread nD τ).loc main_arg25)) y := by
  blk_point [iblk, V, (idx6 t0_0).2.1]

theorem read26 (c : Dev nD) (y : S1x1024.Idx) : iblk m c 26 t0_0 y = (m ((c : Thread nD τ).loc main_arg26)) y := by
  blk_point [iblk, V, (idx6 t0_0).2.2.1]

theorem read27 (c : Dev nD) (y : S1x1024.Idx) : iblk m c 27 t0_0 y = (m ((c : Thread nD τ).loc main_arg27)) y := by
  blk_point [iblk, V, (idx6 t0_0).2.2.2.1]

theorem final50 (c : Dev nD) : (dats m 0 c).arrAt 50 (cfgs 0).N
    = Cert.AdamRestRefIdeal.Read.val_main_v167 (F := Ideal) (m ((c : Thread nD τ).loc main_arg24)) (m ((c : Thread nD τ).loc main_arg25)) (m ((c : Thread nD τ).loc main_arg26)) (m ((c : Thread nD τ).loc main_arg27)) := by
  refine (dats m 0 c).arrAt_eq_of_after_last 50 t0_0 (by decide +kernel) _ fun y => ?_
  blk_simp
  rw [after0_50]; unfold out0_50; frame_out
  refine (payd6 _ _ _ _ _).trans (Eq.trans ?_ (Cert.AdamRestRefIdeal.Whole.delta_at6 _ _ _ _ _).symm)
  exact delta_congr (read25 m c _) (read24 m c _) (read26 m c _) (read27 m c _)

theorem final51 (c : Dev nD) : (dats m 0 c).arrAt 51 (cfgs 0).N
    = Cert.AdamRestRefIdeal.Read.val_main_v148 (F := Ideal) (m ((c : Thread nD τ).loc main_arg25)) (m ((c : Thread nD τ).loc main_arg26)) := by
  refine (dats m 0 c).arrAt_eq_of_after_last 51 t0_0 (by decide +kernel) _ fun y => ?_
  blk_simp
  rw [after0_51]; unfold out0_51; frame_out
  refine (paym6 _ _ _).trans (Eq.trans ?_ (Cert.AdamRestRefIdeal.Whole.m_at6 _ _ _).symm)
  exact congrArg₂ newM (read25 m c _) (read26 m c _)

theorem final52 (c : Dev nD) : (dats m 0 c).arrAt 52 (cfgs 0).N
    = Cert.AdamRestRefIdeal.Read.val_main_v154 (F := Ideal) (m ((c : Thread nD τ).loc main_arg25)) (m ((c : Thread nD τ).loc main_arg27)) := by
  refine (dats m 0 c).arrAt_eq_of_after_last 52 t0_0 (by decide +kernel) _ fun y => ?_
  blk_simp
  rw [after0_52]; unfold out0_52; frame_out
  refine (payv6 _ _ _).trans (Eq.trans ?_ (Cert.AdamRestRefIdeal.Whole.v_at6 _ _ _).symm)
  exact congrArg₂ newV (read25 m c _) (read27 m c _)

/-- The windows of weight 7 are the whole of their arrays. -/
theorem idx7 : ∀ t : Fin cfg0.N, win0_28.index t = ![0, 0] ∧ win0_29.index t = ![0, 0] ∧ win0_30.index t = ![0, 0] ∧ win0_31.index t = ![0, 0] ∧ win0_53.index t = ![0, 0] ∧ win0_54.index t = ![0, 0] ∧ win0_55.index t = ![0, 0] :=
  (by decide +kernel : ∀ t : Fin grid0.N, _)

section
variable (w g u v : FVec Ideal S1x1024 .f32) (y : S1x1024.Idx)

theorem payd7 : k0_pay1 (F := Ideal) w (k0_pay46 (F := Ideal) g u v) y
    = delta (g y) (w y) (u y) (v y) := by
  unfold delta newM newV
  rw [eq_ix2 y]
  pointwise [k0_pay1, k0_pay46, k0_pay44, k0_pay45]

theorem paym7 : k0_pay2 (F := Ideal) (k0_pay44 (F := Ideal) g u) y
    = newM (g y) (u y) := by
  unfold newM
  rw [eq_ix2 y]
  pointwise [k0_pay2, k0_pay44]

theorem payv7 : k0_pay3 (F := Ideal) (k0_pay45 (F := Ideal) g v) y
    = newV (g y) (v y) := by
  unfold newV
  rw [eq_ix2 y]
  pointwise [k0_pay3, k0_pay45]

end

theorem read28 (c : Dev nD) (y : S1x1024.Idx) : iblk m c 28 t0_0 y = (m ((c : Thread nD τ).loc main_arg28)) y := by
  blk_point [iblk, V, (idx7 t0_0).1]

theorem read29 (c : Dev nD) (y : S1x1024.Idx) : iblk m c 29 t0_0 y = (m ((c : Thread nD τ).loc main_arg29)) y := by
  blk_point [iblk, V, (idx7 t0_0).2.1]

theorem read30 (c : Dev nD) (y : S1x1024.Idx) : iblk m c 30 t0_0 y = (m ((c : Thread nD τ).loc main_arg30)) y := by
  blk_point [iblk, V, (idx7 t0_0).2.2.1]

theorem read31 (c : Dev nD) (y : S1x1024.Idx) : iblk m c 31 t0_0 y = (m ((c : Thread nD τ).loc main_arg31)) y := by
  blk_point [iblk, V, (idx7 t0_0).2.2.2.1]

theorem final53 (c : Dev nD) : (dats m 0 c).arrAt 53 (cfgs 0).N
    = Cert.AdamRestRefIdeal.Read.val_main_v191 (F := Ideal) (m ((c : Thread nD τ).loc main_arg28)) (m ((c : Thread nD τ).loc main_arg29)) (m ((c : Thread nD τ).loc main_arg30)) (m ((c : Thread nD τ).loc main_arg31)) := by
  refine (dats m 0 c).arrAt_eq_of_after_last 53 t0_0 (by decide +kernel) _ fun y => ?_
  blk_simp
  rw [after0_53]; unfold out0_53; frame_out
  refine (payd7 _ _ _ _ _).trans (Eq.trans ?_ (Cert.AdamRestRefIdeal.Whole.delta_at7 _ _ _ _ _).symm)
  exact delta_congr (read29 m c _) (read28 m c _) (read30 m c _) (read31 m c _)

theorem final54 (c : Dev nD) : (dats m 0 c).arrAt 54 (cfgs 0).N
    = Cert.AdamRestRefIdeal.Read.val_main_v172 (F := Ideal) (m ((c : Thread nD τ).loc main_arg29)) (m ((c : Thread nD τ).loc main_arg30)) := by
  refine (dats m 0 c).arrAt_eq_of_after_last 54 t0_0 (by decide +kernel) _ fun y => ?_
  blk_simp
  rw [after0_54]; unfold out0_54; frame_out
  refine (paym7 _ _ _).trans (Eq.trans ?_ (Cert.AdamRestRefIdeal.Whole.m_at7 _ _ _).symm)
  exact congrArg₂ newM (read29 m c _) (read30 m c _)

theorem final55 (c : Dev nD) : (dats m 0 c).arrAt 55 (cfgs 0).N
    = Cert.AdamRestRefIdeal.Read.val_main_v178 (F := Ideal) (m ((c : Thread nD τ).loc main_arg29)) (m ((c : Thread nD τ).loc main_arg31)) := by
  refine (dats m 0 c).arrAt_eq_of_after_last 55 t0_0 (by decide +kernel) _ fun y => ?_
  blk_simp
  rw [after0_55]; unfold out0_55; frame_out
  refine (payv7 _ _ _).trans (Eq.trans ?_ (Cert.AdamRestRefIdeal.Whole.v_at7 _ _ _).symm)
  exact congrArg₂ newV (read29 m c _) (read31 m c _)

end Cert.AdamRestIdeal.Whole
-- ==== Proof.AdamRestPair.lean ====
/-
  The optimiser's step for the other eight weights: what the kernel's run and the reference's run end with, each said
  by the reference's own values of the arguments, and the two put together.
-/
import proofs.«01_k».proof.Defs
import proofs.«01_k».proof.Proof.Gen.AdamRestIdeal
import proofs.«01_k».proof.Proof.Gen.AdamRestRefIdeal
import proofs.«01_k».proof.Proof.AdamRestValue

set_option maxRecDepth 16384

noncomputable section

open Idealize.ShloMosaic Idealize.ShloMosaic.TcCoe Idealize.ShloMosaic.StableHlo Idealize.SL.Sem

namespace Cert.AdamRestPair

/-- Four equal arguments give equal values. -/
theorem congr4 {α β γ δ ε : Type*} (f : α → β → γ → δ → ε) {a a' : α} {b b' : β} {d d' : γ} {e e' : δ}
    (ha : a = a') (hb : b = b') (hd : d = d') (he : e = e') : f a b d e = f a' b' d' e' := by
  subst ha hb hd he; rfl

set_option maxHeartbeats 3200000 in
/-- The kernel's run ends with the reference's values of its arguments, and leaves the arguments as they were. -/
theorem kernel_ends (m : (ℓ : Loc Cert.AdamRestIdeal.nD Cert.AdamRestIdeal.τ Cert.AdamRestIdeal.sig) → Buf (Elt Ideal) ℓ) (g : Dev Cert.AdamRestIdeal.nD → PrngReg) :
    θ_run (Cert.AdamRestIdeal.defs (F := Ideal)) (onTc (τ := Cert.AdamRestIdeal.τ) (Cert.AdamRestIdeal.main (F := Ideal))) ⟨m, fun _ => 0, g⟩ (fun r => ∀ c : Dev Cert.AdamRestIdeal.nD,
      r.2.mem ((c.tc : Thread Cert.AdamRestIdeal.nD Cert.AdamRestIdeal.τ).loc Cert.AdamRestIdeal.main_v0_0) = Cert.AdamRestRefIdeal.Read.val_main_v23 (F := Ideal) (m ((c.tc : Thread Cert.AdamRestIdeal.nD Cert.AdamRestIdeal.τ).loc Cert.AdamRestIdeal.main_arg0)) (m ((c.tc : Thread Cert.AdamRestIdeal.nD Cert.AdamRestIdeal.τ).loc Cert.AdamRestIdeal.main_arg1)) (m ((c.tc : Thread Cert.AdamRestIdeal.nD Cert.AdamRestIdeal.τ).loc Cert.AdamRestIdeal.main_arg2)) (m ((c.tc : Thread Cert.AdamRestIdeal.nD Cert.AdamRestIdeal.τ).loc Cert.AdamRestIdeal.main_arg3))
      ∧ r.2.mem ((c.tc : Thread Cert.AdamRestIdeal.nD Cert.AdamRestIdeal.τ).loc Cert.AdamRestIdeal.main_v0_1) = Cert.AdamRestRefIdeal.Read.val_main_v4 (F := Ideal) (m ((c.tc : Thread Cert.AdamRestIdeal.nD Cert.AdamRestIdeal.τ).loc Cert.AdamRestIdeal.main_arg1)) (m ((c.tc : Thread Cert.AdamRestIdeal.nD Cert.AdamRestIdeal.τ).loc Cert.AdamRestIdeal.main_arg2))
      ∧ r.2.mem ((c.tc : Thread Cert.AdamRestIdeal.nD Cert.AdamRestIdeal.τ).loc Cert.AdamRestIdeal.main_v0_2) = Cert.AdamRestRefIdeal.Read.val_main_v10 (F := Ideal) (m ((c.tc : Thread Cert.AdamRestIdeal.nD Cert.AdamRestIdeal.τ).loc Cert.AdamRestIdeal.main_arg1)) (m ((c.tc : Thread Cert.AdamRestIdeal.nD Cert.AdamRestIdeal.τ).loc Cert.AdamRestIdeal.main_arg3))
      ∧ r.2.mem ((c.tc : Thread Cert.AdamRestIdeal.nD Cert.AdamRestIdeal.τ).loc Cert.AdamRestIdeal.main_v0_3) = Cert.AdamRestRefIdeal.Read.val_main_v47 (F := Ideal) (m ((c.tc : Thread Cert.AdamRestIdeal.nD Cert.AdamRestIdeal.τ).loc Cert.AdamRestIdeal.main_arg4)) (m ((c.tc : Thread Cert.AdamRestIdeal.nD Cert.AdamRestIdeal.τ).loc Cert.AdamRestIdeal.main_arg5)) (m ((c.tc : Thread Cert.AdamRestIdeal.nD Cert.AdamRestIdeal.τ).loc Cert.AdamRestIdeal.main_arg6)) (m ((c.tc : Thread Cert.AdamRestIdeal.nD Cert.AdamRestIdeal.τ).loc Cert.AdamRestIdeal.main_arg7))
      ∧ r.2.mem ((c.tc : Thread Cert.AdamRestIdeal.nD Cert.AdamRestIdeal.τ).loc Cert.AdamRestIdeal.main_v0_4) = Cert.AdamRestRefIdeal.Read.val_main_v28 (F := Ideal) (m ((c.tc : Thread Cert.AdamRestIdeal.nD Cert.AdamRestIdeal.τ).loc Cert.AdamRestIdeal.main_arg5)) (m ((c.tc : Thread Cert.AdamRestIdeal.nD Cert.AdamRestIdeal.τ).loc Cert.AdamRestIdeal.main_arg6))
      ∧ r.2.mem ((c.tc : Thread Cert.AdamRestIdeal.nD Cert.AdamRestIdeal.τ).loc Cert.AdamRestIdeal.main_v0_5) = Cert.AdamRestRefIdeal.Read.val_main_v34 (F := Ideal) (m ((c.tc : Thread Cert.AdamRestIdeal.nD Cert.AdamRestIdeal.τ).loc Cert.AdamRestIdeal.main_arg5)) (m ((c.tc : Thread Cert.AdamRestIdeal.nD Cert.AdamRestIdeal.τ).loc Cert.AdamRestIdeal.main_arg7))
      ∧ r.2.mem ((c.tc : Thread Cert.AdamRestIdeal.nD Cert.AdamRestIdeal.τ).loc Cert.AdamRestIdeal.main_v0_6) = Cert.AdamRestRefIdeal.Read.val_main_v71 (F := Ideal) (m ((c.tc : Thread Cert.AdamRestIdeal.nD Cert.AdamRestIdeal.τ).loc Cert.AdamRestIdeal.main_arg8)) (m ((c.tc : Thread Cert.AdamRestIdeal.nD Cert.AdamRestIdeal.τ).loc Cert.AdamRestIdeal.main_arg9)) (m ((c.tc : Thread Cert.AdamRestIdeal.nD Cert.AdamRestIdeal.τ).loc Cert.AdamRestIdeal.main_arg10)) (m ((c.tc : Thread Cert.AdamRestIdeal.nD Cert.AdamRestIdeal.τ).loc Cert.AdamRestIdeal.main_arg11))
      ∧ r.2.mem ((c.tc : Thread Cert.AdamRestIdeal.nD Cert.AdamRestIdeal.τ).loc Cert.AdamRestIdeal.main_v0_7) = Cert.AdamRestRefIdeal.Read.val_main_v52 (F := Ideal) (m ((c.tc : Thread Cert.AdamRestIdeal.nD Cert.AdamRestIdeal.τ).loc Cert.AdamRestIdeal.main_arg9)) (m ((c.tc : Thread Cert.AdamRestIdeal.nD Cert.AdamRestIdeal.τ).loc Cert.AdamRestIdeal.main_arg10))
      ∧ r.2.mem ((c.tc : Thread Cert.AdamRestIdeal.nD Cert.AdamRestIdeal.τ).loc Cert.AdamRestIdeal.main_v0_8) = Cert.AdamRestRefIdeal.Read.val_main_v58 (F := Ideal) (m ((c.tc : Thread Cert.AdamRestIdeal.nD Cert.AdamRestIdeal.τ).loc Cert.AdamRestIdeal.main_arg9)) (m ((c.tc : Thread Cert.AdamRestIdeal.nD Cert.AdamRestIdeal.τ).loc Cert.AdamRestIdeal.main_arg11))
      ∧ r.2.mem ((c.tc : Thread Cert.AdamRestIdeal.nD Cert.AdamRestIdeal.τ).loc Cert.AdamRestIdeal.main_v0_9) = Cert.AdamRestRefIdeal.Read.val_main_v95 (F := Ideal) (m ((c.tc : Thread Cert.AdamRestIdeal.nD Cert.AdamRestIdeal.τ).loc Cert.AdamRestIdeal.main_arg12)) (m ((c.tc : Thread Cert.AdamRestIdeal.nD Cert.AdamRestIdeal.τ).loc Cert.AdamRestIdeal.main_arg13)) (m ((c.tc : Thread Cert.AdamRestIdeal.nD Cert.AdamRestIdeal.τ).loc Cert.AdamRestIdeal.main_arg14)) (m ((c.tc : Thread Cert.AdamRestIdeal.nD Cert.AdamRestIdeal.τ).loc Cert.AdamRestIdeal.main_arg15))
      ∧ r.2.mem ((c.tc : Thread Cert.AdamRestIdeal.nD Cert.AdamRestIdeal.τ).loc Cert.AdamRestIdeal.main_v0_10) = Cert.AdamRestRefIdeal.Read.val_main_v76 (F := Ideal) (m ((c.tc : Thread Cert.AdamRestIdeal.nD Cert.AdamRestIdeal.τ).loc Cert.AdamRestIdeal.main_arg13)) (m ((c.tc : Thread Cert.AdamRestIdeal.nD Cert.AdamRestIdeal.τ).loc Cert.AdamRestIdeal.main_arg14))
      ∧ r.2.mem ((c.tc : Thread Cert.AdamRestIdeal.nD Cert.AdamRestIdeal.τ).loc Cert.AdamRestIdeal.main_v0_11) = Cert.AdamRestRefIdeal.Read.val_main_v82 (F := Ideal) (m ((c.tc : Thread Cert.AdamRestIdeal.nD Cert.AdamRestIdeal.τ).loc Cert.AdamRestIdeal.main_arg13)) (m ((c.tc : Thread Cert.AdamRestIdeal.nD Cert.AdamRestIdeal.τ).loc Cert.AdamRestIdeal.main_arg15))
      ∧ r.2.mem ((c.tc : Thread Cert.AdamRestIdeal.nD Cert.AdamRestIdeal.τ).loc Cert.AdamRestIdeal.main_v0_12) = Cert.AdamRestRefIdeal.Read.val_main_v119 (F := Ideal) (m ((c.tc : Thread Cert.AdamRestIdeal.nD Cert.AdamRestIdeal.τ).loc Cert.AdamRestIdeal.main_arg16)) (m ((c.tc : Thread Cert.AdamRestIdeal.nD Cert.AdamRestIdeal.τ).loc Cert.AdamRestIdeal.main_arg17)) (m ((c.tc : Thread Cert.AdamRestIdeal.nD Cert.AdamRestIdeal.τ).loc Cert.AdamRestIdeal.main_arg18)) (m ((c.tc : Thread Cert.AdamRestIdeal.nD Cert.AdamRestIdeal.τ).loc Cert.AdamRestIdeal.main_arg19))
      ∧ r.2.mem ((c.tc : Thread Cert.AdamRestIdeal.nD Cert.AdamRestIdeal.τ).loc Cert.AdamRestIdeal.main_v0_13) = Cert.AdamRestRefIdeal.Read.val_main_v100 (F := Ideal) (m ((c.tc : Thread Cert.AdamRestIdeal.nD Cert.AdamRestIdeal.τ).loc Cert.AdamRestIdeal.main_arg17)) (m ((c.tc : Thread Cert.AdamRestIdeal.nD Cert.AdamRestIdeal.τ).loc Cert.AdamRestIdeal.main_arg18))
      ∧ r.2.mem ((c.tc : Thread Cert.AdamRestIdeal.nD Cert.AdamRestIdeal.τ).loc Cert.AdamRestIdeal.main_v0_14) = Cert.AdamRestRefIdeal.Read.val_main_v106 (F := Ideal) (m ((c.tc : Thread Cert.AdamRestIdeal.nD Cert.AdamRestIdeal.τ).loc Cert.AdamRestIdeal.main_arg17)) (m ((c.tc : Thread Cert.AdamRestIdeal.nD Cert.AdamRestIdeal.τ).loc Cert.AdamRestIdeal.main_arg19))
      ∧ r.2.mem ((c.tc : Thread Cert.AdamRestIdeal.nD Cert.AdamRestIdeal.τ).loc Cert.AdamRestIdeal.main_v0_15) = Cert.AdamRestRefIdeal.Read.val_main_v143 (F := Ideal) (m ((c.tc : Thread Cert.AdamRestIdeal.nD Cert.AdamRestIdeal.τ).loc Cert.AdamRestIdeal.main_arg20)) (m ((c.tc : Thread Cert.AdamRestIdeal.nD Cert.AdamRestIdeal.τ).loc Cert.AdamRestIdeal.main_arg21)) (m ((c.tc : Thread Cert.AdamRestIdeal.nD Cert.AdamRestIdeal.τ).loc Cert.AdamRestIdeal.main_arg22)) (m ((c.tc : Thread Cert.AdamRestIdeal.nD Cert.AdamRestIdeal.τ).loc Cert.AdamRestIdeal.main_arg23))
      ∧ r.2.mem ((c.tc : Thread Cert.AdamRestIdeal.nD Cert.AdamRestIdeal.τ).loc Cert.AdamRestIdeal.main_v0_16) = Cert.AdamRestRefIdeal.Read.val_main_v124 (F := Ideal) (m ((c.tc : Thread Cert.AdamRestIdeal.nD Cert.AdamRestIdeal.τ).loc Cert.AdamRestIdeal.main_arg21)) (m ((c.tc : Thread Cert.AdamRestIdeal.nD Cert.AdamRestIdeal.τ).loc Cert.AdamRestIdeal.main_arg22))
      ∧ r.2.mem ((c.tc : Thread Cert.AdamRestIdeal.nD Cert.AdamRestIdeal.τ).loc Cert.AdamRestIdeal.main_v0_17) = Cert.AdamRestRefIdeal.Read.val_main_v130 (F := Ideal) (m ((c.tc : Thread Cert.AdamRestIdeal.nD Cert.AdamRestIdeal.τ).loc Cert.AdamRestIdeal.main_arg21)) (m ((c.tc : Thread Cert.AdamRestIdeal.nD Cert.AdamRestIdeal.τ).loc Cert.AdamRestIdeal.main_arg23))
      ∧ r.2.mem ((c.tc : Thread Cert.AdamRestIdeal.nD Cert.AdamRestIdeal.τ).loc Cert.AdamRestIdeal.main_v0_18) = Cert.AdamRestRefIdeal.Read.val_main_v167 (F := Ideal) (m ((c.tc : Thread Cert.AdamRestIdeal.nD Cert.AdamRestIdeal.τ).loc Cert.AdamRestIdeal.main_arg24)) (m ((c.tc : Thread Cert.AdamRestIdeal.nD Cert.AdamRestIdeal.τ).loc Cert.AdamRestIdeal.main_arg25)) (m ((c.tc : Thread Cert.AdamRestIdeal.nD Cert.AdamRestIdeal.τ).loc Cert.AdamRestIdeal.main_arg26)) (m ((c.tc : Thread Cert.AdamRestIdeal.nD Cert.AdamRestIdeal.τ).loc Cert.AdamRestIdeal.main_arg27))
      ∧ r.2.mem ((c.tc : Thread Cert.AdamRestIdeal.nD Cert.AdamRestIdeal.τ).loc Cert.AdamRestIdeal.main_v0_19) = Cert.AdamRestRefIdeal.Read.val_main_v148 (F := Ideal) (m ((c.tc : Thread Cert.AdamRestIdeal.nD Cert.AdamRestIdeal.τ).loc Cert.AdamRestIdeal.main_arg25)) (m ((c.tc : Thread Cert.AdamRestIdeal.nD Cert.AdamRestIdeal.τ).loc Cert.AdamRestIdeal.main_arg26))
      ∧ r.2.mem ((c.tc : Thread Cert.AdamRestIdeal.nD Cert.AdamRestIdeal.τ).loc Cert.AdamRestIdeal.main_v0_20) = Cert.AdamRestRefIdeal.Read.val_main_v154 (F := Ideal) (m ((c.tc : Thread Cert.AdamRestIdeal.nD Cert.AdamRestIdeal.τ).loc Cert.AdamRestIdeal.main_arg25)) (m ((c.tc : Thread Cert.AdamRestIdeal.nD Cert.AdamRestIdeal.τ).loc Cert.AdamRestIdeal.main_arg27))
      ∧ r.2.mem ((c.tc : Thread Cert.AdamRestIdeal.nD Cert.AdamRestIdeal.τ).loc Cert.AdamRestIdeal.main_v0_21) = Cert.AdamRestRefIdeal.Read.val_main_v191 (F := Ideal) (m ((c.tc : Thread Cert.AdamRestIdeal.nD Cert.AdamRestIdeal.τ).loc Cert.AdamRestIdeal.main_arg28)) (m ((c.tc : Thread Cert.AdamRestIdeal.nD Cert.AdamRestIdeal.τ).loc Cert.AdamRestIdeal.main_arg29)) (m ((c.tc : Thread Cert.AdamRestIdeal.nD Cert.AdamRestIdeal.τ).loc Cert.AdamRestIdeal.main_arg30)) (m ((c.tc : Thread Cert.AdamRestIdeal.nD Cert.AdamRestIdeal.τ).loc Cert.AdamRestIdeal.main_arg31))
      ∧ r.2.mem ((c.tc : Thread Cert.AdamRestIdeal.nD Cert.AdamRestIdeal.τ).loc Cert.AdamRestIdeal.main_v0_22) = Cert.AdamRestRefIdeal.Read.val_main_v172 (F := Ideal) (m ((c.tc : Thread Cert.AdamRestIdeal.nD Cert.AdamRestIdeal.τ).loc Cert.AdamRestIdeal.main_arg29)) (m ((c.tc : Thread Cert.AdamRestIdeal.nD Cert.AdamRestIdeal.τ).loc Cert.AdamRestIdeal.main_arg30))
      ∧ r.2.mem ((c.tc : Thread Cert.AdamRestIdeal.nD Cert.AdamRestIdeal.τ).loc Cert.AdamRestIdeal.main_v0_23) = Cert.AdamRestRefIdeal.Read.val_main_v178 (F := Ideal) (m ((c.tc : Thread Cert.AdamRestIdeal.nD Cert.AdamRestIdeal.τ).loc Cert.AdamRestIdeal.main_arg29)) (m ((c.tc : Thread Cert.AdamRestIdeal.nD Cert.AdamRestIdeal.τ).loc Cert.AdamRestIdeal.main_arg31))
      ∧ r.2.mem ((c.tc : Thread Cert.AdamRestIdeal.nD Cert.AdamRestIdeal.τ).loc Cert.AdamRestIdeal.main_arg0) = m ((c.tc : Thread Cert.AdamRestIdeal.nD Cert.AdamRestIdeal.τ).loc Cert.AdamRestIdeal.main_arg0)
      ∧ r.2.mem ((c.tc : Thread Cert.AdamRestIdeal.nD Cert.AdamRestIdeal.τ).loc Cert.AdamRestIdeal.main_arg1) = m ((c.tc : Thread Cert.AdamRestIdeal.nD Cert.AdamRestIdeal.τ).loc Cert.AdamRestIdeal.main_arg1)
      ∧ r.2.mem ((c.tc : Thread Cert.AdamRestIdeal.nD Cert.AdamRestIdeal.τ).loc Cert.AdamRestIdeal.main_arg2) = m ((c.tc : Thread Cert.AdamRestIdeal.nD Cert.AdamRestIdeal.τ).loc Cert.AdamRestIdeal.main_arg2)
      ∧ r.2.mem ((c.tc : Thread Cert.AdamRestIdeal.nD Cert.AdamRestIdeal.τ).loc Cert.AdamRestIdeal.main_arg3) = m ((c.tc : Thread Cert.AdamRestIdeal.nD Cert.AdamRestIdeal.τ).loc Cert.AdamRestIdeal.main_arg3)
      ∧ r.2.mem ((c.tc : Thread Cert.AdamRestIdeal.nD Cert.AdamRestIdeal.τ).loc Cert.AdamRestIdeal.main_arg4) = m ((c.tc : Thread Cert.AdamRestIdeal.nD Cert.AdamRestIdeal.τ).loc Cert.AdamRestIdeal.main_arg4)
      ∧ r.2.mem ((c.tc : Thread Cert.AdamRestIdeal.nD Cert.AdamRestIdeal.τ).loc Cert.AdamRestIdeal.main_arg5) = m ((c.tc : Thread Cert.AdamRestIdeal.nD Cert.AdamRestIdeal.τ).loc Cert.AdamRestIdeal.main_arg5)
      ∧ r.2.mem ((c.tc : Thread Cert.AdamRestIdeal.nD Cert.AdamRestIdeal.τ).loc Cert.AdamRestIdeal.main_arg6) = m ((c.tc : Thread Cert.AdamRestIdeal.nD Cert.AdamRestIdeal.τ).loc Cert.AdamRestIdeal.main_arg6)
      ∧ r.2.mem ((c.tc : Thread Cert.AdamRestIdeal.nD Cert.AdamRestIdeal.τ).loc Cert.AdamRestIdeal.main_arg7) = m ((c.tc : Thread Cert.AdamRestIdeal.nD Cert.AdamRestIdeal.τ).loc Cert.AdamRestIdeal.main_arg7)
      ∧ r.2.mem ((c.tc : Thread Cert.AdamRestIdeal.nD Cert.AdamRestIdeal.τ).loc Cert.AdamRestIdeal.main_arg8) = m ((c.tc : Thread Cert.AdamRestIdeal.nD Cert.AdamRestIdeal.τ).loc Cert.AdamRestIdeal.main_arg8)
      ∧ r.2.mem ((c.tc : Thread Cert.AdamRestIdeal.nD Cert.AdamRestIdeal.τ).loc Cert.AdamRestIdeal.main_arg9) = m ((c.tc : Thread Cert.AdamRestIdeal.nD Cert.AdamRestIdeal.τ).loc Cert.AdamRestIdeal.main_arg9)
      ∧ r.2.mem ((c.tc : Thread Cert.AdamRestIdeal.nD Cert.AdamRestIdeal.τ).loc Cert.AdamRestIdeal.main_arg10) = m ((c.tc : Thread Cert.AdamRestIdeal.nD Cert.AdamRestIdeal.τ).loc Cert.AdamRestIdeal.main_arg10)
      ∧ r.2.mem ((c.tc : Thread Cert.AdamRestIdeal.nD Cert.AdamRestIdeal.τ).loc Cert.AdamRestIdeal.main_arg11) = m ((c.tc : Thread Cert.AdamRestIdeal.nD Cert.AdamRestIdeal.τ).loc Cert.AdamRestIdeal.main_arg11)
      ∧ r.2.mem ((c.tc : Thread Cert.AdamRestIdeal.nD Cert.AdamRestIdeal.τ).loc Cert.AdamRestIdeal.main_arg12) = m ((c.tc : Thread Cert.AdamRestIdeal.nD Cert.AdamRestIdeal.τ).loc Cert.AdamRestIdeal.main_arg12)
      ∧ r.2.mem ((c.tc : Thread Cert.AdamRestIdeal.nD Cert.AdamRestIdeal.τ).loc Cert.AdamRestIdeal.main_arg13) = m ((c.tc : Thread Cert.AdamRestIdeal.nD Cert.AdamRestIdeal.τ).loc Cert.AdamRestIdeal.main_arg13)
      ∧ r.2.mem ((c.tc : Thread Cert.AdamRestIdeal.nD Cert.AdamRestIdeal.τ).loc Cert.AdamRestIdeal.main_arg14) = m ((c.tc : Thread Cert.AdamRestIdeal.nD Cert.AdamRestIdeal.τ).loc Cert.AdamRestIdeal.main_arg14)
      ∧ r.2.mem ((c.tc : Thread Cert.AdamRestIdeal.nD Cert.AdamRestIdeal.τ).loc Cert.AdamRestIdeal.main_arg15) = m ((c.tc : Thread Cert.AdamRestIdeal.nD Cert.AdamRestIdeal.τ).loc Cert.AdamRestIdeal.main_arg15)
      ∧ r.2.mem ((c.tc : Thread Cert.AdamRestIdeal.nD Cert.AdamRestIdeal.τ).loc Cert.AdamRestIdeal.main_arg16) = m ((c.tc : Thread Cert.AdamRestIdeal.nD Cert.AdamRestIdeal.τ).loc Cert.AdamRestIdeal.main_arg16)
      ∧ r.2.mem ((c.tc : Thread Cert.AdamRestIdeal.nD Cert.AdamRestIdeal.τ).loc Cert.AdamRestIdeal.main_arg17) = m ((c.tc : Thread Cert.AdamRestIdeal.nD Cert.AdamRestIdeal.τ).loc Cert.AdamRestIdeal.main_arg17)
      ∧ r.2.mem ((c.tc : Thread Cert.AdamRestIdeal.nD Cert.AdamRestIdeal.τ).loc Cert.AdamRestIdeal.main_arg18) = m ((c.tc : Thread Cert.AdamRestIdeal.nD Cert.AdamRestIdeal.τ).loc Cert.AdamRestIdeal.main_arg18)
      ∧ r.2.mem ((c.tc : Thread Cert.AdamRestIdeal.nD Cert.AdamRestIdeal.τ).loc Cert.AdamRestIdeal.main_arg19) = m ((c.tc : Thread Cert.AdamRestIdeal.nD Cert.AdamRestIdeal.τ).loc Cert.AdamRestIdeal.main_arg19)
      ∧ r.2.mem ((c.tc : Thread Cert.AdamRestIdeal.nD Cert.AdamRestIdeal.τ).loc Cert.AdamRestIdeal.main_arg20) = m ((c.tc : Thread Cert.AdamRestIdeal.nD Cert.AdamRestIdeal.τ).loc Cert.AdamRestIdeal.main_arg20)
      ∧ r.2.mem ((c.tc : Thread Cert.AdamRestIdeal.nD Cert.AdamRestIdeal.τ).loc Cert.AdamRestIdeal.main_arg21) = m ((c.tc : Thread Cert.AdamRestIdeal.nD Cert.AdamRestIdeal.τ).loc Cert.AdamRestIdeal.main_arg21)
      ∧ r.2.mem ((c.tc : Thread Cert.AdamRestIdeal.nD Cert.AdamRestIdeal.τ).loc Cert.AdamRestIdeal.main_arg22) = m ((c.tc : Thread Cert.AdamRestIdeal.nD Cert.AdamRestIdeal.τ).loc Cert.AdamRestIdeal.main_arg22)
      ∧ r.2.mem ((c.tc : Thread Cert.AdamRestIdeal.nD Cert.AdamRestIdeal.τ).loc Cert.AdamRestIdeal.main_arg23) = m ((c.tc : Thread Cert.AdamRestIdeal.nD Cert.AdamRestIdeal.τ).loc Cert.AdamRestIdeal.main_arg23)
      ∧ r.2.mem ((c.tc : Thread Cert.AdamRestIdeal.nD Cert.AdamRestIdeal.τ).loc Cert.AdamRestIdeal.main_arg24) = m ((c.tc : Thread Cert.AdamRestIdeal.nD Cert.AdamRestIdeal.τ).loc Cert.AdamRestIdeal.main_arg24)
      ∧ r.2.mem ((c.tc : Thread Cert.AdamRestIdeal.nD Cert.AdamRestIdeal.τ).loc Cert.AdamRestIdeal.main_arg25) = m ((c.tc : Thread Cert.AdamRestIdeal.nD Cert.AdamRestIdeal.τ).loc Cert.AdamRestIdeal.main_arg25)
      ∧ r.2.mem ((c.tc : Thread Cert.AdamRestIdeal.nD Cert.AdamRestIdeal.τ).loc Cert.AdamRestIdeal.main_arg26) = m ((c.tc : Thread Cert.AdamRestIdeal.nD Cert.AdamRestIdeal.τ).loc Cert.AdamRestIdeal.main_arg26)
      ∧ r.2.mem ((c.tc : Thread Cert.AdamRestIdeal.nD Cert.AdamRestIdeal.τ).loc Cert.AdamRestIdeal.main_arg27) = m ((c.tc : Thread Cert.AdamRestIdeal.nD Cert.AdamRestIdeal.τ).loc Cert.AdamRestIdeal.main_arg27)
      ∧ r.2.mem ((c.tc : Thread Cert.AdamRestIdeal.nD Cert.AdamRestIdeal.τ).loc Cert.AdamRestIdeal.main_arg28) = m ((c.tc : Thread Cert.AdamRestIdeal.nD Cert.AdamRestIdeal.τ).loc Cert.AdamRestIdeal.main_arg28)
      ∧ r.2.mem ((c.tc : Thread Cert.AdamRestIdeal.nD Cert.AdamRestIdeal.τ).loc Cert.AdamRestIdeal.main_arg29) = m ((c.tc : Thread Cert.AdamRestIdeal.nD Cert.AdamRestIdeal.τ).loc Cert.AdamRestIdeal.main_arg29)
      ∧ r.2.mem ((c.tc : Thread Cert.AdamRestIdeal.nD Cert.AdamRestIdeal.τ).loc Cert.AdamRestIdeal.main_arg30) = m ((c.tc : Thread Cert.AdamRestIdeal.nD Cert.AdamRestIdeal.τ).loc Cert.AdamRestIdeal.main_arg30)
      ∧ r.2.mem ((c.tc : Thread Cert.AdamRestIdeal.nD Cert.AdamRestIdeal.τ).loc Cert.AdamRestIdeal.main_arg31) = m ((c.tc : Thread Cert.AdamRestIdeal.nD Cert.AdamRestIdeal.τ).loc Cert.AdamRestIdeal.main_arg31)) :=
  (θ_run Cert.AdamRestIdeal.defs _ _).mono (fun r h c => ⟨((h.1 c).1 32).trans (Cert.AdamRestIdeal.Whole.final32 m c),
      ((h.1 c).1 33).trans (Cert.AdamRestIdeal.Whole.final33 m c),
      ((h.1 c).1 34).trans (Cert.AdamRestIdeal.Whole.final34 m c),
      ((h.1 c).1 35).trans (Cert.AdamRestIdeal.Whole.final35 m c),
      ((h.1 c).1 36).trans (Cert.AdamRestIdeal.Whole.final36 m c),
      ((h.1 c).1 37).trans (Cert.AdamRestIdeal.Whole.final37 m c),
      ((h.1 c).1 38).trans (Cert.AdamRestIdeal.Whole.final38 m c),
      ((h.1 c).1 39).trans (Cert.AdamRestIdeal.Whole.final39 m c),
      ((h.1 c).1 40).trans (Cert.AdamRestIdeal.Whole.final40 m c),
      ((h.1 c).1 41).trans (Cert.AdamRestIdeal.Whole.final41 m c),
      ((h.1 c).1 42).trans (Cert.AdamRestIdeal.Whole.final42 m c),
      ((h.1 c).1 43).trans (Cert.AdamRestIdeal.Whole.final43 m c),
      ((h.1 c).1 44).trans (Cert.AdamRestIdeal.Whole.final44 m c),
      ((h.1 c).1 45).trans (Cert.AdamRestIdeal.Whole.final45 m c),
      ((h.1 c).1 46).trans (Cert.AdamRestIdeal.Whole.final46 m c),
      ((h.1 c).1 47).trans (Cert.AdamRestIdeal.Whole.final47 m c),
      ((h.1 c).1 48).trans (Cert.AdamRestIdeal.Whole.final48 m c),
      ((h.1 c).1 49).trans (Cert.AdamRestIdeal.Whole.final49 m c),
      ((h.1 c).1 50).trans (Cert.AdamRestIdeal.Whole.final50 m c),
      ((h.1 c).1 51).trans (Cert.AdamRestIdeal.Whole.final51 m c),
      ((h.1 c).1 52).trans (Cert.AdamRestIdeal.Whole.final52 m c),
      ((h.1 c).1 53).trans (Cert.AdamRestIdeal.Whole.final53 m c),
      ((h.1 c).1 54).trans (Cert.AdamRestIdeal.Whole.final54 m c),
      ((h.1 c).1 55).trans (Cert.AdamRestIdeal.Whole.final55 m c),
      h.2 c⟩)
    (θ_run_and (Cert.AdamRestIdeal.Whole.run_main m g) (Cert.AdamRestIdeal.Whole.unchanged m g))

set_option maxHeartbeats 3200000 in
/-- The reference's run ends with its values of its arguments, and leaves the arguments as they were. -/
theorem ref_ends (m : (ℓ : Loc Cert.AdamRestRefIdeal.nD Cert.AdamRestRefIdeal.τ Cert.AdamRestRefIdeal.sig) → Buf (Elt Ideal) ℓ) (g : Dev Cert.AdamRestRefIdeal.nD → PrngReg) :
    θ_run (Cert.AdamRestRefIdeal.defs (F := Ideal)) (onTc (τ := Cert.AdamRestRefIdeal.τ) (Cert.AdamRestRefIdeal.main (F := Ideal))) ⟨m, fun _ => 0, g⟩ (fun r => ∀ c : Dev Cert.AdamRestRefIdeal.nD,
      r.2.mem ((c.tc : Thread Cert.AdamRestRefIdeal.nD Cert.AdamRestRefIdeal.τ).loc Cert.AdamRestRefIdeal.main_v23) = Cert.AdamRestRefIdeal.Read.val_main_v23 (F := Ideal) (m ((c.tc : Thread Cert.AdamRestRefIdeal.nD Cert.AdamRestRefIdeal.τ).loc Cert.AdamRestRefIdeal.main_arg0)) (m ((c.tc : Thread Cert.AdamRestRefIdeal.nD Cert.AdamRestRefIdeal.τ).loc Cert.AdamRestRefIdeal.main_arg1)) (m ((c.tc : Thread Cert.AdamRestRefIdeal.nD Cert.AdamRestRefIdeal.τ).loc Cert.AdamRestRefIdeal.main_arg2)) (m ((c.tc : Thread Cert.AdamRestRefIdeal.nD Cert.AdamRestRefIdeal.τ).loc Cert.AdamRestRefIdeal.main_arg3))
      ∧ r.2.mem ((c.tc : Thread Cert.AdamRestRefIdeal.nD Cert.AdamRestRefIdeal.τ).loc Cert.AdamRestRefIdeal.main_v4) = Cert.AdamRestRefIdeal.Read.val_main_v4 (F := Ideal) (m ((c.tc : Thread Cert.AdamRestRefIdeal.nD Cert.AdamRestRefIdeal.τ).loc Cert.AdamRestRefIdeal.main_arg1)) (m ((c.tc : Thread Cert.AdamRestRefIdeal.nD Cert.AdamRestRefIdeal.τ).loc Cert.AdamRestRefIdeal.main_arg2))
      ∧ r.2.mem ((c.tc : Thread Cert.AdamRestRefIdeal.nD Cert.AdamRestRefIdeal.τ).loc Cert.AdamRestRefIdeal.main_v10) = Cert.AdamRestRefIdeal.Read.val_main_v10 (F := Ideal) (m ((c.tc : Thread Cert.AdamRestRefIdeal.nD Cert.AdamRestRefIdeal.τ).loc Cert.AdamRestRefIdeal.main_arg1)) (m ((c.tc : Thread Cert.AdamRestRefIdeal.nD Cert.AdamRestRefIdeal.τ).loc Cert.AdamRestRefIdeal.main_arg3))
      ∧ r.2.mem ((c.tc : Thread Cert.AdamRestRefIdeal.nD Cert.AdamRestRefIdeal.τ).loc Cert.AdamRestRefIdeal.main_v47) = Cert.AdamRestRefIdeal.Read.val_main_v47 (F := Ideal) (m ((c.tc : Thread Cert.AdamRestRefIdeal.nD Cert.AdamRestRefIdeal.τ).loc Cert.AdamRestRefIdeal.main_arg4)) (m ((c.tc : Thread Cert.AdamRestRefIdeal.nD Cert.AdamRestRefIdeal.τ).loc Cert.AdamRestRefIdeal.main_arg5)) (m ((c.tc : Thread Cert.AdamRestRefIdeal.nD Cert.AdamRestRefIdeal.τ).loc Cert.AdamRestRefIdeal.main_arg6)) (m ((c.tc : Thread Cert.AdamRestRefIdeal.nD Cert.AdamRestRefIdeal.τ).loc Cert.AdamRestRefIdeal.main_arg7))
      ∧ r.2.mem ((c.tc : Thread Cert.AdamRestRefIdeal.nD Cert.AdamRestRefIdeal.τ).loc Cert.AdamRestRefIdeal.main_v28) = Cert.AdamRestRefIdeal.Read.val_main_v28 (F := Ideal) (m ((c.tc : Thread Cert.AdamRestRefIdeal.nD Cert.AdamRestRefIdeal.τ).loc Cert.AdamRestRefIdeal.main_arg5)) (m ((c.tc : Thread Cert.AdamRestRefIdeal.nD Cert.AdamRestRefIdeal.τ).loc Cert.AdamRestRefIdeal.main_arg6))
      ∧ r.2.mem ((c.tc : Thread Cert.AdamRestRefIdeal.nD Cert.AdamRestRefIdeal.τ).loc Cert.AdamRestRefIdeal.main_v34) = Cert.AdamRestRefIdeal.Read.val_main_v34 (F := Ideal) (m ((c.tc : Thread Cert.AdamRestRefIdeal.nD Cert.AdamRestRefIdeal.τ).loc Cert.AdamRestRefIdeal.main_arg5)) (m ((c.tc : Thread Cert.AdamRestRefIdeal.nD Cert.AdamRestRefIdeal.τ).loc Cert.AdamRestRefIdeal.main_arg7))
      ∧ r.2.mem ((c.tc : Thread Cert.AdamRestRefIdeal.nD Cert.AdamRestRefIdeal.τ).loc Cert.AdamRestRefIdeal.main_v71) = Cert.AdamRestRefIdeal.Read.val_main_v71 (F := Ideal) (m ((c.tc : Thread Cert.AdamRestRefIdeal.nD Cert.AdamRestRefIdeal.τ).loc Cert.AdamRestRefIdeal.main_arg8)) (m ((c.tc : Thread Cert.AdamRestRefIdeal.nD Cert.AdamRestRefIdeal.τ).loc Cert.AdamRestRefIdeal.main_arg9)) (m ((c.tc : Thread Cert.AdamRestRefIdeal.nD Cert.AdamRestRefIdeal.τ).loc Cert.AdamRestRefIdeal.main_arg10)) (m ((c.tc : Thread Cert.AdamRestRefIdeal.nD Cert.AdamRestRefIdeal.τ).loc Cert.AdamRestRefIdeal.main_arg11))
      ∧ r.2.mem ((c.tc : Thread Cert.AdamRestRefIdeal.nD Cert.AdamRestRefIdeal.τ).loc Cert.AdamRestRefIdeal.main_v52) = Cert.AdamRestRefIdeal.Read.val_main_v52 (F := Ideal) (m ((c.tc : Thread Cert.AdamRestRefIdeal.nD Cert.AdamRestRefIdeal.τ).loc Cert.AdamRestRefIdeal.main_arg9)) (m ((c.tc : Thread Cert.AdamRestRefIdeal.nD Cert.AdamRestRefIdeal.τ).loc Cert.AdamRestRefIdeal.main_arg10))
      ∧ r.2.mem ((c.tc : Thread Cert.AdamRestRefIdeal.nD Cert.AdamRestRefIdeal.τ).loc Cert.AdamRestRefIdeal.main_v58) = Cert.AdamRestRefIdeal.Read.val_main_v58 (F := Ideal) (m ((c.tc : Thread Cert.AdamRestRefIdeal.nD Cert.AdamRestRefIdeal.τ).loc Cert.AdamRestRefIdeal.main_arg9)) (m ((c.tc : Thread Cert.AdamRestRefIdeal.nD Cert.AdamRestRefIdeal.τ).loc Cert.AdamRestRefIdeal.main_arg11))
      ∧ r.2.mem ((c.tc : Thread Cert.AdamRestRefIdeal.nD Cert.AdamRestRefIdeal.τ).loc Cert.AdamRestRefIdeal.main_v95) = Cert.AdamRestRefIdeal.Read.val_main_v95 (F := Ideal) (m ((c.tc : Thread Cert.AdamRestRefIdeal.nD Cert.AdamRestRefIdeal.τ).loc Cert.AdamRestRefIdeal.main_arg12)) (m ((c.tc : Thread Cert.AdamRestRefIdeal.nD Cert.AdamRestRefIdeal.τ).loc Cert.AdamRestRefIdeal.main_arg13)) (m ((c.tc : Thread Cert.AdamRestRefIdeal.nD Cert.AdamRestRefIdeal.τ).loc Cert.AdamRestRefIdeal.main_arg14)) (m ((c.tc : Thread Cert.AdamRestRefIdeal.nD Cert.AdamRestRefIdeal.τ).loc Cert.AdamRestRefIdeal.main_arg15))
      ∧ r.2.mem ((c.tc : Thread Cert.AdamRestRefIdeal.nD Cert.AdamRestRefIdeal.τ).loc Cert.AdamRestRefIdeal.main_v76) = Cert.AdamRestRefIdeal.Read.val_main_v76 (F := Ideal) (m ((c.tc : Thread Cert.AdamRestRefIdeal.nD Cert.AdamRestRefIdeal.τ).loc Cert.AdamRestRefIdeal.main_arg13)) (m ((c.tc : Thread Cert.AdamRestRefIdeal.nD Cert.AdamRestRefIdeal.τ).loc Cert.AdamRestRefIdeal.main_arg14))
      ∧ r.2.mem ((c.tc : Thread Cert.AdamRestRefIdeal.nD Cert.AdamRestRefIdeal.τ).loc Cert.AdamRestRefIdeal.main_v82) = Cert.AdamRestRefIdeal.Read.val_main_v82 (F := Ideal) (m ((c.tc : Thread Cert.AdamRestRefIdeal.nD Cert.AdamRestRefIdeal.τ).loc Cert.AdamRestRefIdeal.main_arg13)) (m ((c.tc : Thread Cert.AdamRestRefIdeal.nD Cert.AdamRestRefIdeal.τ).loc Cert.AdamRestRefIdeal.main_arg15))
      ∧ r.2.mem ((c.tc : Thread Cert.AdamRestRefIdeal.nD Cert.AdamRestRefIdeal.τ).loc Cert.AdamRestRefIdeal.main_v119) = Cert.AdamRestRefIdeal.Read.val_main_v119 (F := Ideal) (m ((c.tc : Thread Cert.AdamRestRefIdeal.nD Cert.AdamRestRefIdeal.τ).loc Cert.AdamRestRefIdeal.main_arg16)) (m ((c.tc : Thread Cert.AdamRestRefIdeal.nD Cert.AdamRestRefIdeal.τ).loc Cert.AdamRestRefIdeal.main_arg17)) (m ((c.tc : Thread Cert.AdamRestRefIdeal.nD Cert.AdamRestRefIdeal.τ).loc Cert.AdamRestRefIdeal.main_arg18)) (m ((c.tc : Thread Cert.AdamRestRefIdeal.nD Cert.AdamRestRefIdeal.τ).loc Cert.AdamRestRefIdeal.main_arg19))
      ∧ r.2.mem ((c.tc : Thread Cert.AdamRestRefIdeal.nD Cert.AdamRestRefIdeal.τ).loc Cert.AdamRestRefIdeal.main_v100) = Cert.AdamRestRefIdeal.Read.val_main_v100 (F := Ideal) (m ((c.tc : Thread Cert.AdamRestRefIdeal.nD Cert.AdamRestRefIdeal.τ).loc Cert.AdamRestRefIdeal.main_arg17)) (m ((c.tc : Thread Cert.AdamRestRefIdeal.nD Cert.AdamRestRefIdeal.τ).loc Cert.AdamRestRefIdeal.main_arg18))
      ∧ r.2.mem ((c.tc : Thread Cert.AdamRestRefIdeal.nD Cert.AdamRestRefIdeal.τ).loc Cert.AdamRestRefIdeal.main_v106) = Cert.AdamRestRefIdeal.Read.val_main_v106 (F := Ideal) (m ((c.tc : Thread Cert.AdamRestRefIdeal.nD Cert.AdamRestRefIdeal.τ).loc Cert.AdamRestRefIdeal.main_arg17)) (m ((c.tc : Thread Cert.AdamRestRefIdeal.nD Cert.AdamRestRefIdeal.τ).loc Cert.AdamRestRefIdeal.main_arg19))
      ∧ r.2.mem ((c.tc : Thread Cert.AdamRestRefIdeal.nD Cert.AdamRestRefIdeal.τ).loc Cert.AdamRestRefIdeal.main_v143) = Cert.AdamRestRefIdeal.Read.val_main_v143 (F := Ideal) (m ((c.tc : Thread Cert.AdamRestRefIdeal.nD Cert.AdamRestRefIdeal.τ).loc Cert.AdamRestRefIdeal.main_arg20)) (m ((c.tc : Thread Cert.AdamRestRefIdeal.nD Cert.AdamRestRefIdeal.τ).loc Cert.AdamRestRefIdeal.main_arg21)) (m ((c.tc : Thread Cert.AdamRestRefIdeal.nD Cert.AdamRestRefIdeal.τ).loc Cert.AdamRestRefIdeal.main_arg22)) (m ((c.tc : Thread Cert.AdamRestRefIdeal.nD Cert.AdamRestRefIdeal.τ).loc Cert.AdamRestRefIdeal.main_arg23))
      ∧ r.2.mem ((c.tc : Thread Cert.AdamRestRefIdeal.nD Cert.AdamRestRefIdeal.τ).loc Cert.AdamRestRefIdeal.main_v124) = Cert.AdamRestRefIdeal.Read.val_main_v124 (F := Ideal) (m ((c.tc : Thread Cert.AdamRestRefIdeal.nD Cert.AdamRestRefIdeal.τ).loc Cert.AdamRestRefIdeal.main_arg21)) (m ((c.tc : Thread Cert.AdamRestRefIdeal.nD Cert.AdamRestRefIdeal.τ).loc Cert.AdamRestRefIdeal.main_arg22))
      ∧ r.2.mem ((c.tc : Thread Cert.AdamRestRefIdeal.nD Cert.AdamRestRefIdeal.τ).loc Cert.AdamRestRefIdeal.main_v130) = Cert.AdamRestRefIdeal.Read.val_main_v130 (F := Ideal) (m ((c.tc : Thread Cert.AdamRestRefIdeal.nD Cert.AdamRestRefIdeal.τ).loc Cert.AdamRestRefIdeal.main_arg21)) (m ((c.tc : Thread Cert.AdamRestRefIdeal.nD Cert.AdamRestRefIdeal.τ).loc Cert.AdamRestRefIdeal.main_arg23))
      ∧ r.2.mem ((c.tc : Thread Cert.AdamRestRefIdeal.nD Cert.AdamRestRefIdeal.τ).loc Cert.AdamRestRefIdeal.main_v167) = Cert.AdamRestRefIdeal.Read.val_main_v167 (F := Ideal) (m ((c.tc : Thread Cert.AdamRestRefIdeal.nD Cert.AdamRestRefIdeal.τ).loc Cert.AdamRestRefIdeal.main_arg24)) (m ((c.tc : Thread Cert.AdamRestRefIdeal.nD Cert.AdamRestRefIdeal.τ).loc Cert.AdamRestRefIdeal.main_arg25)) (m ((c.tc : Thread Cert.AdamRestRefIdeal.nD Cert.AdamRestRefIdeal.τ).loc Cert.AdamRestRefIdeal.main_arg26)) (m ((c.tc : Thread Cert.AdamRestRefIdeal.nD Cert.AdamRestRefIdeal.τ).loc Cert.AdamRestRefIdeal.main_arg27))
      ∧ r.2.mem ((c.tc : Thread Cert.AdamRestRefIdeal.nD Cert.AdamRestRefIdeal.τ).loc Cert.AdamRestRefIdeal.main_v148) = Cert.AdamRestRefIdeal.Read.val_main_v148 (F := Ideal) (m ((c.tc : Thread Cert.AdamRestRefIdeal.nD Cert.AdamRestRefIdeal.τ).loc Cert.AdamRestRefIdeal.main_arg25)) (m ((c.tc : Thread Cert.AdamRestRefIdeal.nD Cert.AdamRestRefIdeal.τ).loc Cert.AdamRestRefIdeal.main_arg26))
      ∧ r.2.mem ((c.tc : Thread Cert.AdamRestRefIdeal.nD Cert.AdamRestRefIdeal.τ).loc Cert.AdamRestRefIdeal.main_v154) = Cert.AdamRestRefIdeal.Read.val_main_v154 (F := Ideal) (m ((c.tc : Thread Cert.AdamRestRefIdeal.nD Cert.AdamRestRefIdeal.τ).loc Cert.AdamRestRefIdeal.main_arg25)) (m ((c.tc : Thread Cert.AdamRestRefIdeal.nD Cert.AdamRestRefIdeal.τ).loc Cert.AdamRestRefIdeal.main_arg27))
      ∧ r.2.mem ((c.tc : Thread Cert.AdamRestRefIdeal.nD Cert.AdamRestRefIdeal.τ).loc Cert.AdamRestRefIdeal.main_v191) = Cert.AdamRestRefIdeal.Read.val_main_v191 (F := Ideal) (m ((c.tc : Thread Cert.AdamRestRefIdeal.nD Cert.AdamRestRefIdeal.τ).loc Cert.AdamRestRefIdeal.main_arg28)) (m ((c.tc : Thread Cert.AdamRestRefIdeal.nD Cert.AdamRestRefIdeal.τ).loc Cert.AdamRestRefIdeal.main_arg29)) (m ((c.tc : Thread Cert.AdamRestRefIdeal.nD Cert.AdamRestRefIdeal.τ).loc Cert.AdamRestRefIdeal.main_arg30)) (m ((c.tc : Thread Cert.AdamRestRefIdeal.nD Cert.AdamRestRefIdeal.τ).loc Cert.AdamRestRefIdeal.main_arg31))
      ∧ r.2.mem ((c.tc : Thread Cert.AdamRestRefIdeal.nD Cert.AdamRestRefIdeal.τ).loc Cert.AdamRestRefIdeal.main_v172) = Cert.AdamRestRefIdeal.Read.val_main_v172 (F := Ideal) (m ((c.tc : Thread Cert.AdamRestRefIdeal.nD Cert.AdamRestRefIdeal.τ).loc Cert.AdamRestRefIdeal.main_arg29)) (m ((c.tc : Thread Cert.AdamRestRefIdeal.nD Cert.AdamRestRefIdeal.τ).loc Cert.AdamRestRefIdeal.main_arg30))
      ∧ r.2.mem ((c.tc : Thread Cert.AdamRestRefIdeal.nD Cert.AdamRestRefIdeal.τ).loc Cert.AdamRestRefIdeal.main_v178) = Cert.AdamRestRefIdeal.Read.val_main_v178 (F := Ideal) (m ((c.tc : Thread Cert.AdamRestRefIdeal.nD Cert.AdamRestRefIdeal.τ).loc Cert.AdamRestRefIdeal.main_arg29)) (m ((c.tc : Thread Cert.AdamRestRefIdeal.nD Cert.AdamRestRefIdeal.τ).loc Cert.AdamRestRefIdeal.main_arg31))
      ∧ r.2.mem ((c.tc : Thread Cert.AdamRestRefIdeal.nD Cert.AdamRestRefIdeal.τ).loc Cert.AdamRestRefIdeal.main_arg0) = m ((c.tc : Thread Cert.AdamRestRefIdeal.nD Cert.AdamRestRefIdeal.τ).loc Cert.AdamRestRefIdeal.main_arg0)
      ∧ r.2.mem ((c.tc : Thread Cert.AdamRestRefIdeal.nD Cert.AdamRestRefIdeal.τ).loc Cert.AdamRestRefIdeal.main_arg1) = m ((c.tc : Thread Cert.AdamRestRefIdeal.nD Cert.AdamRestRefIdeal.τ).loc Cert.AdamRestRefIdeal.main_arg1)
      ∧ r.2.mem ((c.tc : Thread Cert.AdamRestRefIdeal.nD Cert.AdamRestRefIdeal.τ).loc Cert.AdamRestRefIdeal.main_arg2) = m ((c.tc : Thread Cert.AdamRestRefIdeal.nD Cert.AdamRestRefIdeal.τ).loc Cert.AdamRestRefIdeal.main_arg2)
      ∧ r.2.mem ((c.tc : Thread Cert.AdamRestRefIdeal.nD Cert.AdamRestRefIdeal.τ).loc Cert.AdamRestRefIdeal.main_arg3) = m ((c.tc : Thread Cert.AdamRestRefIdeal.nD Cert.AdamRestRefIdeal.τ).loc Cert.AdamRestRefIdeal.main_arg3)
      ∧ r.2.mem ((c.tc : Thread Cert.AdamRestRefIdeal.nD Cert.AdamRestRefIdeal.τ).loc Cert.AdamRestRefIdeal.main_arg4) = m ((c.tc : Thread Cert.AdamRestRefIdeal.nD Cert.AdamRestRefIdeal.τ).loc Cert.AdamRestRefIdeal.main_arg4)
      ∧ r.2.mem ((c.tc : Thread Cert.AdamRestRefIdeal.nD Cert.AdamRestRefIdeal.τ).loc Cert.AdamRestRefIdeal.main_arg5) = m ((c.tc : Thread Cert.AdamRestRefIdeal.nD Cert.AdamRestRefIdeal.τ).loc Cert.AdamRestRefIdeal.main_arg5)
      ∧ r.2.mem ((c.tc : Thread Cert.AdamRestRefIdeal.nD Cert.AdamRestRefIdeal.τ).loc Cert.AdamRestRefIdeal.main_arg6) = m ((c.tc : Thread Cert.AdamRestRefIdeal.nD Cert.AdamRestRefIdeal.τ).loc Cert.AdamRestRefIdeal.main_arg6)
      ∧ r.2.mem ((c.tc : Thread Cert.AdamRestRefIdeal.nD Cert.AdamRestRefIdeal.τ).loc Cert.AdamRestRefIdeal.main_arg7) = m ((c.tc : Thread Cert.AdamRestRefIdeal.nD Cert.AdamRestRefIdeal.τ).loc Cert.AdamRestRefIdeal.main_arg7)
      ∧ r.2.mem ((c.tc : Thread Cert.AdamRestRefIdeal.nD Cert.AdamRestRefIdeal.τ).loc Cert.AdamRestRefIdeal.main_arg8) = m ((c.tc : Thread Cert.AdamRestRefIdeal.nD Cert.AdamRestRefIdeal.τ).loc Cert.AdamRestRefIdeal.main_arg8)
      ∧ r.2.mem ((c.tc : Thread Cert.AdamRestRefIdeal.nD Cert.AdamRestRefIdeal.τ).loc Cert.AdamRestRefIdeal.main_arg9) = m ((c.tc : Thread Cert.AdamRestRefIdeal.nD Cert.AdamRestRefIdeal.τ).loc Cert.AdamRestRefIdeal.main_arg9)
      ∧ r.2.mem ((c.tc : Thread Cert.AdamRestRefIdeal.nD Cert.AdamRestRefIdeal.τ).loc Cert.AdamRestRefIdeal.main_arg10) = m ((c.tc : Thread Cert.AdamRestRefIdeal.nD Cert.AdamRestRefIdeal.τ).loc Cert.AdamRestRefIdeal.main_arg10)
      ∧ r.2.mem ((c.tc : Thread Cert.AdamRestRefIdeal.nD Cert.AdamRestRefIdeal.τ).loc Cert.AdamRestRefIdeal.main_arg11) = m ((c.tc : Thread Cert.AdamRestRefIdeal.nD Cert.AdamRestRefIdeal.τ).loc Cert.AdamRestRefIdeal.main_arg11)
      ∧ r.2.mem ((c.tc : Thread Cert.AdamRestRefIdeal.nD Cert.AdamRestRefIdeal.τ).loc Cert.AdamRestRefIdeal.main_arg12) = m ((c.tc : Thread Cert.AdamRestRefIdeal.nD Cert.AdamRestRefIdeal.τ).loc Cert.AdamRestRefIdeal.main_arg12)
      ∧ r.2.mem ((c.tc : Thread Cert.AdamRestRefIdeal.nD Cert.AdamRestRefIdeal.τ).loc Cert.AdamRestRefIdeal.main_arg13) = m ((c.tc : Thread Cert.AdamRestRefIdeal.nD Cert.AdamRestRefIdeal.τ).loc Cert.AdamRestRefIdeal.main_arg13)
      ∧ r.2.mem ((c.tc : Thread Cert.AdamRestRefIdeal.nD Cert.AdamRestRefIdeal.τ).loc Cert.AdamRestRefIdeal.main_arg14) = m ((c.tc : Thread Cert.AdamRestRefIdeal.nD Cert.AdamRestRefIdeal.τ).loc Cert.AdamRestRefIdeal.main_arg14)
      ∧ r.2.mem ((c.tc : Thread Cert.AdamRestRefIdeal.nD Cert.AdamRestRefIdeal.τ).loc Cert.AdamRestRefIdeal.main_arg15) = m ((c.tc : Thread Cert.AdamRestRefIdeal.nD Cert.AdamRestRefIdeal.τ).loc Cert.AdamRestRefIdeal.main_arg15)
      ∧ r.2.mem ((c.tc : Thread Cert.AdamRestRefIdeal.nD Cert.AdamRestRefIdeal.τ).loc Cert.AdamRestRefIdeal.main_arg16) = m ((c.tc : Thread Cert.AdamRestRefIdeal.nD Cert.AdamRestRefIdeal.τ).loc Cert.AdamRestRefIdeal.main_arg16)
      ∧ r.2.mem ((c.tc : Thread Cert.AdamRestRefIdeal.nD Cert.AdamRestRefIdeal.τ).loc Cert.AdamRestRefIdeal.main_arg17) = m ((c.tc : Thread Cert.AdamRestRefIdeal.nD Cert.AdamRestRefIdeal.τ).loc Cert.AdamRestRefIdeal.main_arg17)
      ∧ r.2.mem ((c.tc : Thread Cert.AdamRestRefIdeal.nD Cert.AdamRestRefIdeal.τ).loc Cert.AdamRestRefIdeal.main_arg18) = m ((c.tc : Thread Cert.AdamRestRefIdeal.nD Cert.AdamRestRefIdeal.τ).loc Cert.AdamRestRefIdeal.main_arg18)
      ∧ r.2.mem ((c.tc : Thread Cert.AdamRestRefIdeal.nD Cert.AdamRestRefIdeal.τ).loc Cert.AdamRestRefIdeal.main_arg19) = m ((c.tc : Thread Cert.AdamRestRefIdeal.nD Cert.AdamRestRefIdeal.τ).loc Cert.AdamRestRefIdeal.main_arg19)
      ∧ r.2.mem ((c.tc : Thread Cert.AdamRestRefIdeal.nD Cert.AdamRestRefIdeal.τ).loc Cert.AdamRestRefIdeal.main_arg20) = m ((c.tc : Thread Cert.AdamRestRefIdeal.nD Cert.AdamRestRefIdeal.τ).loc Cert.AdamRestRefIdeal.main_arg20)
      ∧ r.2.mem ((c.tc : Thread Cert.AdamRestRefIdeal.nD Cert.AdamRestRefIdeal.τ).loc Cert.AdamRestRefIdeal.main_arg21) = m ((c.tc : Thread Cert.AdamRestRefIdeal.nD Cert.AdamRestRefIdeal.τ).loc Cert.AdamRestRefIdeal.main_arg21)
      ∧ r.2.mem ((c.tc : Thread Cert.AdamRestRefIdeal.nD Cert.AdamRestRefIdeal.τ).loc Cert.AdamRestRefIdeal.main_arg22) = m ((c.tc : Thread Cert.AdamRestRefIdeal.nD Cert.AdamRestRefIdeal.τ).loc Cert.AdamRestRefIdeal.main_arg22)
      ∧ r.2.mem ((c.tc : Thread Cert.AdamRestRefIdeal.nD Cert.AdamRestRefIdeal.τ).loc Cert.AdamRestRefIdeal.main_arg23) = m ((c.tc : Thread Cert.AdamRestRefIdeal.nD Cert.AdamRestRefIdeal.τ).loc Cert.AdamRestRefIdeal.main_arg23)
      ∧ r.2.mem ((c.tc : Thread Cert.AdamRestRefIdeal.nD Cert.AdamRestRefIdeal.τ).loc Cert.AdamRestRefIdeal.main_arg24) = m ((c.tc : Thread Cert.AdamRestRefIdeal.nD Cert.AdamRestRefIdeal.τ).loc Cert.AdamRestRefIdeal.main_arg24)
      ∧ r.2.mem ((c.tc : Thread Cert.AdamRestRefIdeal.nD Cert.AdamRestRefIdeal.τ).loc Cert.AdamRestRefIdeal.main_arg25) = m ((c.tc : Thread Cert.AdamRestRefIdeal.nD Cert.AdamRestRefIdeal.τ).loc Cert.AdamRestRefIdeal.main_arg25)
      ∧ r.2.mem ((c.tc : Thread Cert.AdamRestRefIdeal.nD Cert.AdamRestRefIdeal.τ).loc Cert.AdamRestRefIdeal.main_arg26) = m ((c.tc : Thread Cert.AdamRestRefIdeal.nD Cert.AdamRestRefIdeal.τ).loc Cert.AdamRestRefIdeal.main_arg26)
      ∧ r.2.mem ((c.tc : Thread Cert.AdamRestRefIdeal.nD Cert.AdamRestRefIdeal.τ).loc Cert.AdamRestRefIdeal.main_arg27) = m ((c.tc : Thread Cert.AdamRestRefIdeal.nD Cert.AdamRestRefIdeal.τ).loc Cert.AdamRestRefIdeal.main_arg27)
      ∧ r.2.mem ((c.tc : Thread Cert.AdamRestRefIdeal.nD Cert.AdamRestRefIdeal.τ).loc Cert.AdamRestRefIdeal.main_arg28) = m ((c.tc : Thread Cert.AdamRestRefIdeal.nD Cert.AdamRestRefIdeal.τ).loc Cert.AdamRestRefIdeal.main_arg28)
      ∧ r.2.mem ((c.tc : Thread Cert.AdamRestRefIdeal.nD Cert.AdamRestRefIdeal.τ).loc Cert.AdamRestRefIdeal.main_arg29) = m ((c.tc : Thread Cert.AdamRestRefIdeal.nD Cert.AdamRestRefIdeal.τ).loc Cert.AdamRestRefIdeal.main_arg29)
      ∧ r.2.mem ((c.tc : Thread Cert.AdamRestRefIdeal.nD Cert.AdamRestRefIdeal.τ).loc Cert.AdamRestRefIdeal.main_arg30) = m ((c.tc : Thread Cert.AdamRestRefIdeal.nD Cert.AdamRestRefIdeal.τ).loc Cert.AdamRestRefIdeal.main_arg30)
      ∧ r.2.mem ((c.tc : Thread Cert.AdamRestRefIdeal.nD Cert.AdamRestRefIdeal.τ).loc Cert.AdamRestRefIdeal.main_arg31) = m ((c.tc : Thread Cert.AdamRestRefIdeal.nD Cert.AdamRestRefIdeal.τ).loc Cert.AdamRestRefIdeal.main_arg31)) := by
  refine (θ_run Cert.AdamRestRefIdeal.defs _ _).mono (fun r h c => ?_) (Cert.AdamRestRefIdeal.Value.run m g)
  obtain ⟨e0, e1, e2, e3, e4, e5, e6, e7, e8, e9, e10, e11, e12, e13, e14, e15, e16, e17, e18, e19, e20, e21, e22, e23, ha⟩ := h c
  exact ⟨e0.trans (Cert.AdamRestRefIdeal.Read.val_main_v23_eq (launchContents m c)),
    e1.trans (Cert.AdamRestRefIdeal.Read.val_main_v4_eq (launchContents m c)),
    e2.trans (Cert.AdamRestRefIdeal.Read.val_main_v10_eq (launchContents m c)),
    e3.trans (Cert.AdamRestRefIdeal.Read.val_main_v47_eq (launchContents m c)),
    e4.trans (Cert.AdamRestRefIdeal.Read.val_main_v28_eq (launchContents m c)),
    e5.trans (Cert.AdamRestRefIdeal.Read.val_main_v34_eq (launchContents m c)),
    e6.trans (Cert.AdamRestRefIdeal.Read.val_main_v71_eq (launchContents m c)),
    e7.trans (Cert.AdamRestRefIdeal.Read.val_main_v52_eq (launchContents m c)),
    e8.trans (Cert.AdamRestRefIdeal.Read.val_main_v58_eq (launchContents m c)),
    e9.trans (Cert.AdamRestRefIdeal.Read.val_main_v95_eq (launchContents m c)),
    e10.trans (Cert.AdamRestRefIdeal.Read.val_main_v76_eq (launchContents m c)),
    e11.trans (Cert.AdamRestRefIdeal.Read.val_main_v82_eq (launchContents m c)),
    e12.trans (Cert.AdamRestRefIdeal.Read.val_main_v119_eq (launchContents m c)),
    e13.trans (Cert.AdamRestRefIdeal.Read.val_main_v100_eq (launchContents m c)),
    e14.trans (Cert.AdamRestRefIdeal.Read.val_main_v106_eq (launchContents m c)),
    e15.trans (Cert.AdamRestRefIdeal.Read.val_main_v143_eq (launchContents m c)),
    e16.trans (Cert.AdamRestRefIdeal.Read.val_main_v124_eq (launchContents m c)),
    e17.trans (Cert.AdamRestRefIdeal.Read.val_main_v130_eq (launchContents m c)),
    e18.trans (Cert.AdamRestRefIdeal.Read.val_main_v167_eq (launchContents m c)),
    e19.trans (Cert.AdamRestRefIdeal.Read.val_main_v148_eq (launchContents m c)),
    e20.trans (Cert.AdamRestRefIdeal.Read.val_main_v154_eq (launchContents m c)),
    e21.trans (Cert.AdamRestRefIdeal.Read.val_main_v191_eq (launchContents m c)),
    e22.trans (Cert.AdamRestRefIdeal.Read.val_main_v172_eq (launchContents m c)),
    e23.trans (Cert.AdamRestRefIdeal.Read.val_main_v178_eq (launchContents m c)), ha⟩

set_option maxHeartbeats 3200000 in
/-- From memories that agree on the arguments both runs end with equal results and leave the arguments as they were. -/
theorem equal : Cert.algebraic_AdamRestIdeal_AdamRestRefIdeal := by
  intro m g m' g' hpre hagree
  refine ⟨fun c => Cert.AdamRestRefIdeal.Read.val_main_v23 (F := Ideal) (m ((c.tc : Thread Cert.AdamRestIdeal.nD Cert.AdamRestIdeal.τ).loc Cert.AdamRestIdeal.main_arg0)) (m ((c.tc : Thread Cert.AdamRestIdeal.nD Cert.AdamRestIdeal.τ).loc Cert.AdamRestIdeal.main_arg1)) (m ((c.tc : Thread Cert.AdamRestIdeal.nD Cert.AdamRestIdeal.τ).loc Cert.AdamRestIdeal.main_arg2)) (m ((c.tc : Thread Cert.AdamRestIdeal.nD Cert.AdamRestIdeal.τ).loc Cert.AdamRestIdeal.main_arg3)),
    fun c => Cert.AdamRestRefIdeal.Read.val_main_v4 (F := Ideal) (m ((c.tc : Thread Cert.AdamRestIdeal.nD Cert.AdamRestIdeal.τ).loc Cert.AdamRestIdeal.main_arg1)) (m ((c.tc : Thread Cert.AdamRestIdeal.nD Cert.AdamRestIdeal.τ).loc Cert.AdamRestIdeal.main_arg2)),
    fun c => Cert.AdamRestRefIdeal.Read.val_main_v10 (F := Ideal) (m ((c.tc : Thread Cert.AdamRestIdeal.nD Cert.AdamRestIdeal.τ).loc Cert.AdamRestIdeal.main_arg1)) (m ((c.tc : Thread Cert.AdamRestIdeal.nD Cert.AdamRestIdeal.τ).loc Cert.AdamRestIdeal.main_arg3)),
    fun c => Cert.AdamRestRefIdeal.Read.val_main_v47 (F := Ideal) (m ((c.tc : Thread Cert.AdamRestIdeal.nD Cert.AdamRestIdeal.τ).loc Cert.AdamRestIdeal.main_arg4)) (m ((c.tc : Thread Cert.AdamRestIdeal.nD Cert.AdamRestIdeal.τ).loc Cert.AdamRestIdeal.main_arg5)) (m ((c.tc : Thread Cert.AdamRestIdeal.nD Cert.AdamRestIdeal.τ).loc Cert.AdamRestIdeal.main_arg6)) (m ((c.tc : Thread Cert.AdamRestIdeal.nD Cert.AdamRestIdeal.τ).loc Cert.AdamRestIdeal.main_arg7)),
    fun c => Cert.AdamRestRefIdeal.Read.val_main_v28 (F := Ideal) (m ((c.tc : Thread Cert.AdamRestIdeal.nD Cert.AdamRestIdeal.τ).loc Cert.AdamRestIdeal.main_arg5)) (m ((c.tc : Thread Cert.AdamRestIdeal.nD Cert.AdamRestIdeal.τ).loc Cert.AdamRestIdeal.main_arg6)),
    fun c => Cert.AdamRestRefIdeal.Read.val_main_v34 (F := Ideal) (m ((c.tc : Thread Cert.AdamRestIdeal.nD Cert.AdamRestIdeal.τ).loc Cert.AdamRestIdeal.main_arg5)) (m ((c.tc : Thread Cert.AdamRestIdeal.nD Cert.AdamRestIdeal.τ).loc Cert.AdamRestIdeal.main_arg7)),
    fun c => Cert.AdamRestRefIdeal.Read.val_main_v71 (F := Ideal) (m ((c.tc : Thread Cert.AdamRestIdeal.nD Cert.AdamRestIdeal.τ).loc Cert.AdamRestIdeal.main_arg8)) (m ((c.tc : Thread Cert.AdamRestIdeal.nD Cert.AdamRestIdeal.τ).loc Cert.AdamRestIdeal.main_arg9)) (m ((c.tc : Thread Cert.AdamRestIdeal.nD Cert.AdamRestIdeal.τ).loc Cert.AdamRestIdeal.main_arg10)) (m ((c.tc : Thread Cert.AdamRestIdeal.nD Cert.AdamRestIdeal.τ).loc Cert.AdamRestIdeal.main_arg11)),
    fun c => Cert.AdamRestRefIdeal.Read.val_main_v52 (F := Ideal) (m ((c.tc : Thread Cert.AdamRestIdeal.nD Cert.AdamRestIdeal.τ).loc Cert.AdamRestIdeal.main_arg9)) (m ((c.tc : Thread Cert.AdamRestIdeal.nD Cert.AdamRestIdeal.τ).loc Cert.AdamRestIdeal.main_arg10)),
    fun c => Cert.AdamRestRefIdeal.Read.val_main_v58 (F := Ideal) (m ((c.tc : Thread Cert.AdamRestIdeal.nD Cert.AdamRestIdeal.τ).loc Cert.AdamRestIdeal.main_arg9)) (m ((c.tc : Thread Cert.AdamRestIdeal.nD Cert.AdamRestIdeal.τ).loc Cert.AdamRestIdeal.main_arg11)),
    fun c => Cert.AdamRestRefIdeal.Read.val_main_v95 (F := Ideal) (m ((c.tc : Thread Cert.AdamRestIdeal.nD Cert.AdamRestIdeal.τ).loc Cert.AdamRestIdeal.main_arg12)) (m ((c.tc : Thread Cert.AdamRestIdeal.nD Cert.AdamRestIdeal.τ).loc Cert.AdamRestIdeal.main_arg13)) (m ((c.tc : Thread Cert.AdamRestIdeal.nD Cert.AdamRestIdeal.τ).loc Cert.AdamRestIdeal.main_arg14)) (m ((c.tc : Thread Cert.AdamRestIdeal.nD Cert.AdamRestIdeal.τ).loc Cert.AdamRestIdeal.main_arg15)),
    fun c => Cert.AdamRestRefIdeal.Read.val_main_v76 (F := Ideal) (m ((c.tc : Thread Cert.AdamRestIdeal.nD Cert.AdamRestIdeal.τ).loc Cert.AdamRestIdeal.main_arg13)) (m ((c.tc : Thread Cert.AdamRestIdeal.nD Cert.AdamRestIdeal.τ).loc Cert.AdamRestIdeal.main_arg14)),
    fun c => Cert.AdamRestRefIdeal.Read.val_main_v82 (F := Ideal) (m ((c.tc : Thread Cert.AdamRestIdeal.nD Cert.AdamRestIdeal.τ).loc Cert.AdamRestIdeal.main_arg13)) (m ((c.tc : Thread Cert.AdamRestIdeal.nD Cert.AdamRestIdeal.τ).loc Cert.AdamRestIdeal.main_arg15)),
    fun c => Cert.AdamRestRefIdeal.Read.val_main_v119 (F := Ideal) (m ((c.tc : Thread Cert.AdamRestIdeal.nD Cert.AdamRestIdeal.τ).loc Cert.AdamRestIdeal.main_arg16)) (m ((c.tc : Thread Cert.AdamRestIdeal.nD Cert.AdamRestIdeal.τ).loc Cert.AdamRestIdeal.main_arg17)) (m ((c.tc : Thread Cert.AdamRestIdeal.nD Cert.AdamRestIdeal.τ).loc Cert.AdamRestIdeal.main_arg18)) (m ((c.tc : Thread Cert.AdamRestIdeal.nD Cert.AdamRestIdeal.τ).loc Cert.AdamRestIdeal.main_arg19)),
    fun c => Cert.AdamRestRefIdeal.Read.val_main_v100 (F := Ideal) (m ((c.tc : Thread Cert.AdamRestIdeal.nD Cert.AdamRestIdeal.τ).loc Cert.AdamRestIdeal.main_arg17)) (m ((c.tc : Thread Cert.AdamRestIdeal.nD Cert.AdamRestIdeal.τ).loc Cert.AdamRestIdeal.main_arg18)),
    fun c => Cert.AdamRestRefIdeal.Read.val_main_v106 (F := Ideal) (m ((c.tc : Thread Cert.AdamRestIdeal.nD Cert.AdamRestIdeal.τ).loc Cert.AdamRestIdeal.main_arg17)) (m ((c.tc : Thread Cert.AdamRestIdeal.nD Cert.AdamRestIdeal.τ).loc Cert.AdamRestIdeal.main_arg19)),
    fun c => Cert.AdamRestRefIdeal.Read.val_main_v143 (F := Ideal) (m ((c.tc : Thread Cert.AdamRestIdeal.nD Cert.AdamRestIdeal.τ).loc Cert.AdamRestIdeal.main_arg20)) (m ((c.tc : Thread Cert.AdamRestIdeal.nD Cert.AdamRestIdeal.τ).loc Cert.AdamRestIdeal.main_arg21)) (m ((c.tc : Thread Cert.AdamRestIdeal.nD Cert.AdamRestIdeal.τ).loc Cert.AdamRestIdeal.main_arg22)) (m ((c.tc : Thread Cert.AdamRestIdeal.nD Cert.AdamRestIdeal.τ).loc Cert.AdamRestIdeal.main_arg23)),
    fun c => Cert.AdamRestRefIdeal.Read.val_main_v124 (F := Ideal) (m ((c.tc : Thread Cert.AdamRestIdeal.nD Cert.AdamRestIdeal.τ).loc Cert.AdamRestIdeal.main_arg21)) (m ((c.tc : Thread Cert.AdamRestIdeal.nD Cert.AdamRestIdeal.τ).loc Cert.AdamRestIdeal.main_arg22)),
    fun c => Cert.AdamRestRefIdeal.Read.val_main_v130 (F := Ideal) (m ((c.tc : Thread Cert.AdamRestIdeal.nD Cert.AdamRestIdeal.τ).loc Cert.AdamRestIdeal.main_arg21)) (m ((c.tc : Thread Cert.AdamRestIdeal.nD Cert.AdamRestIdeal.τ).loc Cert.AdamRestIdeal.main_arg23)),
    fun c => Cert.AdamRestRefIdeal.Read.val_main_v167 (F := Ideal) (m ((c.tc : Thread Cert.AdamRestIdeal.nD Cert.AdamRestIdeal.τ).loc Cert.AdamRestIdeal.main_arg24)) (m ((c.tc : Thread Cert.AdamRestIdeal.nD Cert.AdamRestIdeal.τ).loc Cert.AdamRestIdeal.main_arg25)) (m ((c.tc : Thread Cert.AdamRestIdeal.nD Cert.AdamRestIdeal.τ).loc Cert.AdamRestIdeal.main_arg26)) (m ((c.tc : Thread Cert.AdamRestIdeal.nD Cert.AdamRestIdeal.τ).loc Cert.AdamRestIdeal.main_arg27)),
    fun c => Cert.AdamRestRefIdeal.Read.val_main_v148 (F := Ideal) (m ((c.tc : Thread Cert.AdamRestIdeal.nD Cert.AdamRestIdeal.τ).loc Cert.AdamRestIdeal.main_arg25)) (m ((c.tc : Thread Cert.AdamRestIdeal.nD Cert.AdamRestIdeal.τ).loc Cert.AdamRestIdeal.main_arg26)),
    fun c => Cert.AdamRestRefIdeal.Read.val_main_v154 (F := Ideal) (m ((c.tc : Thread Cert.AdamRestIdeal.nD Cert.AdamRestIdeal.τ).loc Cert.AdamRestIdeal.main_arg25)) (m ((c.tc : Thread Cert.AdamRestIdeal.nD Cert.AdamRestIdeal.τ).loc Cert.AdamRestIdeal.main_arg27)),
    fun c => Cert.AdamRestRefIdeal.Read.val_main_v191 (F := Ideal) (m ((c.tc : Thread Cert.AdamRestIdeal.nD Cert.AdamRestIdeal.τ).loc Cert.AdamRestIdeal.main_arg28)) (m ((c.tc : Thread Cert.AdamRestIdeal.nD Cert.AdamRestIdeal.τ).loc Cert.AdamRestIdeal.main_arg29)) (m ((c.tc : Thread Cert.AdamRestIdeal.nD Cert.AdamRestIdeal.τ).loc Cert.AdamRestIdeal.main_arg30)) (m ((c.tc : Thread Cert.AdamRestIdeal.nD Cert.AdamRestIdeal.τ).loc Cert.AdamRestIdeal.main_arg31)),
    fun c => Cert.AdamRestRefIdeal.Read.val_main_v172 (F := Ideal) (m ((c.tc : Thread Cert.AdamRestIdeal.nD Cert.AdamRestIdeal.τ).loc Cert.AdamRestIdeal.main_arg29)) (m ((c.tc : Thread Cert.AdamRestIdeal.nD Cert.AdamRestIdeal.τ).loc Cert.AdamRestIdeal.main_arg30)),
    fun c => Cert.AdamRestRefIdeal.Read.val_main_v178 (F := Ideal) (m ((c.tc : Thread Cert.AdamRestIdeal.nD Cert.AdamRestIdeal.τ).loc Cert.AdamRestIdeal.main_arg29)) (m ((c.tc : Thread Cert.AdamRestIdeal.nD Cert.AdamRestIdeal.τ).loc Cert.AdamRestIdeal.main_arg31)),
    kernel_ends m g, (θ_run Cert.AdamRestRefIdeal.defs _ _).mono (fun r h c => ?_) (ref_ends m' g')⟩
  obtain ⟨a0, a1, a2, a3, a4, a5, a6, a7, a8, a9, a10, a11, a12, a13, a14, a15, a16, a17, a18, a19, a20, a21, a22, a23, a24, a25, a26, a27, a28, a29, a30, a31⟩ := hagree c
  obtain ⟨e0, e1, e2, e3, e4, e5, e6, e7, e8, e9, e10, e11, e12, e13, e14, e15, e16, e17, e18, e19, e20, e21, e22, e23, ha⟩ := h c
  exact ⟨e0.trans (congr4 (Cert.AdamRestRefIdeal.Read.val_main_v23 (F := Ideal)) a0 a1 a2 a3),
    e1.trans (congrArg₂ (Cert.AdamRestRefIdeal.Read.val_main_v4 (F := Ideal)) a1 a2),
    e2.trans (congrArg₂ (Cert.AdamRestRefIdeal.Read.val_main_v10 (F := Ideal)) a1 a3),
    e3.trans (congr4 (Cert.AdamRestRefIdeal.Read.val_main_v47 (F := Ideal)) a4 a5 a6 a7),
    e4.trans (congrArg₂ (Cert.AdamRestRefIdeal.Read.val_main_v28 (F := Ideal)) a5 a6),
    e5.trans (congrArg₂ (Cert.AdamRestRefIdeal.Read.val_main_v34 (F := Ideal)) a5 a7),
    e6.trans (congr4 (Cert.AdamRestRefIdeal.Read.val_main_v71 (F := Ideal)) a8 a9 a10 a11),
    e7.trans (congrArg₂ (Cert.AdamRestRefIdeal.Read.val_main_v52 (F := Ideal)) a9 a10),
    e8.trans (congrArg₂ (Cert.AdamRestRefIdeal.Read.val_main_v58 (F := Ideal)) a9 a11),
    e9.trans (congr4 (Cert.AdamRestRefIdeal.Read.val_main_v95 (F := Ideal)) a12 a13 a14 a15),
    e10.trans (congrArg₂ (Cert.AdamRestRefIdeal.Read.val_main_v76 (F := Ideal)) a13 a14),
    e11.trans (congrArg₂ (Cert.AdamRestRefIdeal.Read.val_main_v82 (F := Ideal)) a13 a15),
    e12.trans (congr4 (Cert.AdamRestRefIdeal.Read.val_main_v119 (F := Ideal)) a16 a17 a18 a19),
    e13.trans (congrArg₂ (Cert.AdamRestRefIdeal.Read.val_main_v100 (F := Ideal)) a17 a18),
    e14.trans (congrArg₂ (Cert.AdamRestRefIdeal.Read.val_main_v106 (F := Ideal)) a17 a19),
    e15.trans (congr4 (Cert.AdamRestRefIdeal.Read.val_main_v143 (F := Ideal)) a20 a21 a22 a23),
    e16.trans (congrArg₂ (Cert.AdamRestRefIdeal.Read.val_main_v124 (F := Ideal)) a21 a22),
    e17.trans (congrArg₂ (Cert.AdamRestRefIdeal.Read.val_main_v130 (F := Ideal)) a21 a23),
    e18.trans (congr4 (Cert.AdamRestRefIdeal.Read.val_main_v167 (F := Ideal)) a24 a25 a26 a27),
    e19.trans (congrArg₂ (Cert.AdamRestRefIdeal.Read.val_main_v148 (F := Ideal)) a25 a26),
    e20.trans (congrArg₂ (Cert.AdamRestRefIdeal.Read.val_main_v154 (F := Ideal)) a25 a27),
    e21.trans (congr4 (Cert.AdamRestRefIdeal.Read.val_main_v191 (F := Ideal)) a28 a29 a30 a31),
    e22.trans (congrArg₂ (Cert.AdamRestRefIdeal.Read.val_main_v172 (F := Ideal)) a29 a30),
    e23.trans (congrArg₂ (Cert.AdamRestRefIdeal.Read.val_main_v178 (F := Ideal)) a29 a31), ha⟩

end Cert.AdamRestPair
-- ==== Proof.FinalSumsValue.lean ====
/-
  The last sum of three weight gradients: the device's own part and the three parts that arrived, added up in one grid
  point. `final6` … `final8`: the arrays after the run are the reference's sums.
-/
import proofs.«01_k».proof.Proof.Gen.FinalSumsIdeal.Frame
import proofs.«01_k».proof.Proof.Gen.FinalSumsRefIdeal.Run
import proofs.«01_k».proof.Proof.Gen.FinalSumsRefIdeal.Read
import Idealize.ShloMosaic.Lib.Pipeline.ValueKit

set_option maxRecDepth 16384

noncomputable section

open Idealize.ShloMosaic Idealize.ShloMosaic.TcCoe Idealize.SL.Sem
open Idealize.ShloMosaic.Pipeline (Dat)

namespace Cert.FinalSumsRefIdeal.Whole

open Cert.FinalSumsRefIdeal Cert.FinalSumsRefIdeal.Gen Cert.FinalSumsRefIdeal.Read

/-- A gradient of 1024 columns at an index: the device's own sum and the three that arrived. -/
def grad (a : FVec Ideal S128x1024 .f32) (l : FVec Ideal S3x128x1024 .bf16) (i : S128x1024.Idx) : EReal :=
  a i + l (ix3 (0 : Fin 3) (i 0) (i 1)) + l (ix3 (1 : Fin 3) (i 0) (i 1)) + l (ix3 (2 : Fin 3) (i 0) (i 1))

/-- The same for a gradient of 256 columns. -/
def gradN (a : FVec Ideal S128x256 .f32) (l : FVec Ideal S3x128x256 .bf16) (i : S128x256.Idx) : EReal :=
  a i + l (ix3 (0 : Fin 3) (i 0) (i 1)) + l (ix3 (1 : Fin 3) (i 0) (i 1)) + l (ix3 (2 : Fin 3) (i 0) (i 1))

theorem sum_out (a : FVec Ideal S128x1024 .f32) (l : FVec Ideal S3x128x1024 .bf16) (i : S128x1024.Idx) :
    val_main_v2 (F := Ideal) a l i = grad a l i := by
  rw [eq_ix2 i]
  pointwise [val_main_v2, val_main_v1, val_main_v0, val_main_cst, grad]
  rw [Fin.sum_univ_three, ← add_assoc, ← add_assoc]

theorem sum_pb (a : FVec Ideal S128x1024 .f32) (l : FVec Ideal S3x128x1024 .bf16) (i : S128x1024.Idx) :
    val_main_v5 (F := Ideal) a l i = grad a l i := by
  rw [eq_ix2 i]
  pointwise [val_main_v5, val_main_v4, val_main_v3, val_main_cst_0, grad]
  rw [Fin.sum_univ_three, ← add_assoc, ← add_assoc]

theorem sum_pa (a : FVec Ideal S128x256 .f32) (l : FVec Ideal S3x128x256 .bf16) (i : S128x256.Idx) :
    val_main_v8 (F := Ideal) a l i = gradN a l i := by
  rw [eq_ix2 i]
  pointwise [val_main_v8, val_main_v7, val_main_v6, val_main_cst_1, gradN]
  rw [Fin.sum_univ_three, ← add_assoc, ← add_assoc]

end Cert.FinalSumsRefIdeal.Whole

namespace Cert.FinalSumsIdeal.Whole

open Cert.FinalSumsIdeal Cert.FinalSumsIdeal.Gen

variable (m : (ℓ : Loc nD τ sig) → Buf (Elt Ideal) ℓ)

/-- Every window is the whole of its array. -/
theorem idx : ∀ t : Fin cfg0.N, win0_0.index t = ![0, 0] ∧ win0_1.index t = ![0, 0] ∧ win0_2.index t = ![0, 0]
    ∧ win0_3.index t = ![0, 0, 0] ∧ win0_4.index t = ![0, 0, 0] ∧ win0_5.index t = ![0, 0, 0] ∧ win0_6.index t = ![0, 0]
    ∧ win0_7.index t = ![0, 0] ∧ win0_8.index t = ![0, 0] ∧ t.val < 1 :=
  (by decide +kernel : ∀ t : Fin grid0.N, _)

/-- The body's sum of four pieces of 1024 columns at an index. -/
def sum (a : FVec Ideal S128x1024 .f32) (p q r : FVec Ideal S1x128x1024 .bf16) (y : S128x1024.Idx) : EReal :=
  a y + p (ix3 (0 : Fin 1) (y 0) (y 1)) + q (ix3 (0 : Fin 1) (y 0) (y 1)) + r (ix3 (0 : Fin 1) (y 0) (y 1))

/-- The same for 256 columns. -/
def sumN (a : FVec Ideal S128x256 .f32) (p q r : FVec Ideal S1x128x256 .bf16) (y : S128x256.Idx) : EReal :=
  a y + p (ix3 (0 : Fin 1) (y 0) (y 1)) + q (ix3 (0 : Fin 1) (y 0) (y 1)) + r (ix3 (0 : Fin 1) (y 0) (y 1))

theorem pay_out (a : FVec Ideal S128x1024 .f32) (p q r : FVec Ideal S1x128x1024 .bf16) (y : S128x1024.Idx) :
    k0_pay2 (F := Ideal) a p q r y = sum a p q r y := by
  rw [eq_ix2 y]
  pointwise [k0_pay2, sum]

theorem pay_pb (a : FVec Ideal S128x1024 .f32) (p q r : FVec Ideal S1x128x1024 .bf16) (y : S128x1024.Idx) :
    k0_pay3 (F := Ideal) a p q r y = sum a p q r y := by
  rw [eq_ix2 y]
  pointwise [k0_pay3, sum]

theorem pay_pa (a : FVec Ideal S128x256 .f32) (p q r : FVec Ideal S1x128x256 .bf16) (y : S128x256.Idx) :
    k0_pay1 (F := Ideal) a p q r y = sumN a p q r y := by
  rw [eq_ix2 y]
  pointwise [k0_pay1, sumN]

theorem final6 (c : Dev nD) : (dats m 0 c).arrAt 6 (cfgs 0).N
    = Cert.FinalSumsRefIdeal.Read.val_main_v2 (F := Ideal) (m ((c : Thread nD τ).loc main_arg0)) (m ((c : Thread nD τ).loc main_arg3)) := by
  refine (dats m 0 c).arrAt_eq_of_after_last 6 t0_0 (by decide +kernel) _ fun y => ?_
  obtain ⟨e0, e1, e2, e3, e4, e5, e6, e7, e8, ht⟩ := idx t0_0
  blk_simp
  rw [after0_6]; unfold out0_6; frame_out
  refine (pay_out _ _ _ _ _).trans (Eq.trans ?_ (Cert.FinalSumsRefIdeal.Whole.sum_out _ _ _).symm)
  blk_point [iblk, V, sum, Cert.FinalSumsRefIdeal.Whole.grad, e0, e3, e6]

theorem final7 (c : Dev nD) : (dats m 0 c).arrAt 7 (cfgs 0).N
    = Cert.FinalSumsRefIdeal.Read.val_main_v5 (F := Ideal) (m ((c : Thread nD τ).loc main_arg1)) (m ((c : Thread nD τ).loc main_arg4)) := by
  refine (dats m 0 c).arrAt_eq_of_after_last 7 t0_0 (by decide +kernel) _ fun y => ?_
  obtain ⟨e0, e1, e2, e3, e4, e5, e6, e7, e8, ht⟩ := idx t0_0
  blk_simp
  rw [after0_7]; unfold out0_7; frame_out
  refine (pay_pb _ _ _ _ _).trans (Eq.trans ?_ (Cert.FinalSumsRefIdeal.Whole.sum_pb _ _ _).symm)
  blk_point [iblk, V, sum, Cert.FinalSumsRefIdeal.Whole.grad, e1, e4, e7]

theorem final8 (c : Dev nD) : (dats m 0 c).arrAt 8 (cfgs 0).N
    = Cert.FinalSumsRefIdeal.Read.val_main_v8 (F := Ideal) (m ((c : Thread nD τ).loc main_arg2)) (m ((c : Thread nD τ).loc main_arg5)) := by
  refine (dats m 0 c).arrAt_eq_of_after_last 8 t0_0 (by decide +kernel) _ fun y => ?_
  obtain ⟨e0, e1, e2, e3, e4, e5, e6, e7, e8, ht⟩ := idx t0_0
  blk_simp
  rw [after0_8]; unfold out0_8; frame_out
  refine (pay_pa _ _ _ _ _).trans (Eq.trans ?_ (Cert.FinalSumsRefIdeal.Whole.sum_pa _ _ _).symm)
  blk_point [iblk, V, sumN, Cert.FinalSumsRefIdeal.Whole.gradN, e2, e5, e8]

end Cert.FinalSumsIdeal.Whole
-- ==== Proof.PairSumsTable.lean ====
/-
  The table of device numbers in the sum over pairs of devices: the precondition says that each number lies in `[0, 8)`, and
  so every block of rows the call reads lies inside the gradient. `ok_of_pre`, for the program as printed and for its
  idealization.
-/
import proofs.«01_k».proof.Defs
import proofs.«01_k».proof.Proof.Gen.Pre_in_mesh
import proofs.«01_k».proof.Proof.Gen.PairSums.Frame
import proofs.«01_k».proof.Proof.Gen.PairSumsIdeal.Frame
import Idealize.ShloMosaic.Lib.Pipeline.ValueKit

set_option maxRecDepth 16384

noncomputable section

open Idealize.ShloMosaic Idealize.ShloMosaic.TcCoe Idealize.SL.Sem

namespace Cert.PairSumsTable

/-- A word that is at least 0 and less than 8 as a signed number is less than 8 as a natural number. -/
theorem word_lt (v : BitVec 32) (e : IntOp.andi (IntOp.cmpi .sge v 0#32) (IntOp.cmpi .slt v 8#32) = 1#1) : v.toNat < 8 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

/-- The number of a block of 272 rows: four blocks to a device, and the block within them. -/
theorem block_no (v : BitVec 32) (hv : v.toNat < 8) (n : Nat) (hn : n < 4) :
    (Scalar.addi (Scalar.muli v 4#32) (BitVec.ofNat 32 n)).toNat = v.toNat * 4 + n := by
  simp only [Scalar.addi, Scalar.muli, IntOp.addi, IntOp.muli, BitVec.toNat_add, BitVec.toNat_mul, BitVec.toNat_ofNat]
  omega

end Cert.PairSumsTable

namespace Cert.PairSums.Table

open Cert.PairSums Cert.PairSums.Gen Cert.PairSumsTable

section
variable {F : FTy → Type} [FloatOps F] (m : (ℓ : Loc nD τ sig) → Buf (Elt F) ℓ)

/-- The device number at a place of the table. -/
def word (k : Fin 4) : BitVec 32 := m (((0 : Dev nD) : Thread nD τ).loc main_arg0) (ix1 k)

/-- Window 0 reads the block of the device number at place 0. -/
theorem at0 (h : ∀ k, (word m k).toNat < 8) (i : grid0.Coords) :
    cc0_transform_0 inb_S4_S1_0 numel1_S1 (tbl m) i = ![(word m 0).toNat * 4 + (i 0).val, 0] := by
  have e : tbl m 0 ((Rect.unit (s := S4) ![0] S1.size inb_S4_S1_0).emb (Shape.Idx.first (numel1_S1.symm ▸ Nat.one_pos)))
      = word m 0 := by
    refine congrArg (m (((0 : Dev nD) : Thread nD τ).loc main_arg0)) (funext fun a => Fin.ext ?_)
    obtain rfl : a = 0 := Subsingleton.elim _ _
    rfl
  have hi : (i 0).val < 4 := (i 0).isLt
  exact (congrArg (fun v : BitVec 32 => ![(Scalar.addi (Scalar.muli v 4#32) (BitVec.ofNat 32 (i 0).val)).toNat, 0]) e).trans
    (by rw [block_no _ (h 0) _ hi])

/-- Window 1 reads the block of the device number at place 1. -/
theorem at1 (h : ∀ k, (word m k).toNat < 8) (i : grid0.Coords) :
    cc0_transform_1 inb_S4_S1_1 numel1_S1 (tbl m) i = ![(word m 1).toNat * 4 + (i 0).val, 0] := by
  have e : tbl m 0 ((Rect.unit (s := S4) ![1] S1.size inb_S4_S1_1).emb (Shape.Idx.first (numel1_S1.symm ▸ Nat.one_pos)))
      = word m 1 := by
    refine congrArg (m (((0 : Dev nD) : Thread nD τ).loc main_arg0)) (funext fun a => Fin.ext ?_)
    obtain rfl : a = 0 := Subsingleton.elim _ _
    rfl
  have hi : (i 0).val < 4 := (i 0).isLt
  exact (congrArg (fun v : BitVec 32 => ![(Scalar.addi (Scalar.muli v 4#32) (BitVec.ofNat 32 (i 0).val)).toNat, 0]) e).trans
    (by rw [block_no _ (h 1) _ hi])

/-- Window 2 reads the block of the device number at place 2. -/
theorem at2 (h : ∀ k, (word m k).toNat < 8) (i : grid0.Coords) :
    cc0_transform_2 inb_S4_S1_2 numel1_S1 (tbl m) i = ![(word m 2).toNat * 4 + (i 0).val, 0] := by
  have e : tbl m 0 ((Rect.unit (s := S4) ![2] S1.size inb_S4_S1_2).emb (Shape.Idx.first (numel1_S1.symm ▸ Nat.one_pos)))
      = word m 2 := by
    refine congrArg (m (((0 : Dev nD) : Thread nD τ).loc main_arg0)) (funext fun a => Fin.ext ?_)
    obtain rfl : a = 0 := Subsingleton.elim _ _
    rfl
  have hi : (i 0).val < 4 := (i 0).isLt
  exact (congrArg (fun v : BitVec 32 => ![(Scalar.addi (Scalar.muli v 4#32) (BitVec.ofNat 32 (i 0).val)).toNat, 0]) e).trans
    (by rw [block_no _ (h 2) _ hi])

/-- Window 3 reads the block of the device number at place 3. -/
theorem at3 (h : ∀ k, (word m k).toNat < 8) (i : grid0.Coords) :
    cc0_transform_3 inb_S4_S1_3 numel1_S1 (tbl m) i = ![(word m 3).toNat * 4 + (i 0).val, 0] := by
  have e : tbl m 0 ((Rect.unit (s := S4) ![3] S1.size inb_S4_S1_3).emb (Shape.Idx.first (numel1_S1.symm ▸ Nat.one_pos)))
      = word m 3 := by
    refine congrArg (m (((0 : Dev nD) : Thread nD τ).loc main_arg0)) (funext fun a => Fin.ext ?_)
    obtain rfl : a = 0 := Subsingleton.elim _ _
    rfl
  have hi : (i 0).val < 4 := (i 0).isLt
  exact (congrArg (fun v : BitVec 32 => ![(Scalar.addi (Scalar.muli v 4#32) (BitVec.ofNat 32 (i 0).val)).toNat, 0]) e).trans
    (by rw [block_no _ (h 3) _ hi])

theorem ok (h : ∀ k, (word m k).toNat < 8) : Ok m := by
  refine ⟨fun i => ⟨fun a => ?_, .inl rfl⟩, fun i => ⟨fun a => ?_, .inl rfl⟩, fun i => ⟨fun a => ?_, .inl rfl⟩,
    fun i => ⟨fun a => ?_, .inl rfl⟩⟩
  · have hi : (i 0).val < 4 := (i 0).isLt
    have hw := h 0
    rw [at0 m h i]
    match a with
    | ⟨0, _⟩ => show ((word m 0).toNat * 4 + (i 0).val + 1) * 272 ≤ 8704; omega
    | ⟨1, _⟩ => show (0 + 1) * 1024 ≤ 1024; omega
  · have hi : (i 0).val < 4 := (i 0).isLt
    have hw := h 1
    rw [at1 m h i]
    match a with
    | ⟨0, _⟩ => show ((word m 1).toNat * 4 + (i 0).val + 1) * 272 ≤ 8704; omega
    | ⟨1, _⟩ => show (0 + 1) * 1024 ≤ 1024; omega
  · have hi : (i 0).val < 4 := (i 0).isLt
    have hw := h 2
    rw [at2 m h i]
    match a with
    | ⟨0, _⟩ => show ((word m 2).toNat * 4 + (i 0).val + 1) * 272 ≤ 8704; omega
    | ⟨1, _⟩ => show (0 + 1) * 1024 ≤ 1024; omega
  · have hi : (i 0).val < 4 := (i 0).isLt
    have hw := h 3
    rw [at3 m h i]
    match a with
    | ⟨0, _⟩ => show ((word m 3).toNat * 4 + (i 0).val + 1) * 272 ≤ 8704; omega
    | ⟨1, _⟩ => show (0 + 1) * 1024 ≤ 1024; omega

end

/-- Each device number is less than 8. -/
theorem lt_of_pre (m : (ℓ : Loc nD τ sig) → Buf (Elt Bits) ℓ) (h : Cert.Pre_PairSums m) (k : Fin 4) : (word m k).toNat < 8 := by
  have e := congrFun (h 0) (ix1 k)
  simp only [Pre_in_mesh.fn, andi, cmpi, broadcastInDim, constantI] at e
  exact word_lt _ e

theorem ok_of_pre (m : (ℓ : Loc nD τ sig) → Buf (Elt Bits) ℓ) (h : Cert.Pre_PairSums m) : Ok m := ok m (lt_of_pre m h)

end Cert.PairSums.Table

namespace Cert.PairSumsIdeal.Table

open Cert.PairSumsIdeal Cert.PairSumsIdeal.Gen Cert.PairSumsTable

section
variable {F : FTy → Type} [FloatOps F] (m : (ℓ : Loc nD τ sig) → Buf (Elt F) ℓ)

/-- The device number at a place of the table. -/
def word (k : Fin 4) : BitVec 32 := m (((0 : Dev nD) : Thread nD τ).loc main_arg0) (ix1 k)

/-- Window 0 reads the block of the device number at place 0. -/
theorem at0 (h : ∀ k, (word m k).toNat < 8) (i : grid0.Coords) :
    cc0_transform_0 inb_S4_S1_0 numel1_S1 (tbl m) i = ![(word m 0).toNat * 4 + (i 0).val, 0] := by
  have e : tbl m 0 ((Rect.unit (s := S4) ![0] S1.size inb_S4_S1_0).emb (Shape.Idx.first (numel1_S1.symm ▸ Nat.one_pos)))
      = word m 0 := by
    refine congrArg (m (((0 : Dev nD) : Thread nD τ).loc main_arg0)) (funext fun a => Fin.ext ?_)
    obtain rfl : a = 0 := Subsingleton.elim _ _
    rfl
  have hi : (i 0).val < 4 := (i 0).isLt
  exact (congrArg (fun v : BitVec 32 => ![(Scalar.addi (Scalar.muli v 4#32) (BitVec.ofNat 32 (i 0).val)).toNat, 0]) e).trans
    (by rw [block_no _ (h 0) _ hi])

/-- Window 1 reads the block of the device number at place 1. -/
theorem at1 (h : ∀ k, (word m k).toNat < 8) (i : grid0.Coords) :
    cc0_transform_1 inb_S4_S1_1 numel1_S1 (tbl m) i = ![(word m 1).toNat * 4 + (i 0).val, 0] := by
  have e : tbl m 0 ((Rect.unit (s := S4) ![1] S1.size inb_S4_S1_1).emb (Shape.Idx.first (numel1_S1.symm ▸ Nat.one_pos)))
      = word m 1 := by
    refine congrArg (m (((0 : Dev nD) : Thread nD τ).loc main_arg0)) (funext fun a => Fin.ext ?_)
    obtain rfl : a = 0 := Subsingleton.elim _ _
    rfl
  have hi : (i 0).val < 4 := (i 0).isLt
  exact (congrArg (fun v : BitVec 32 => ![(Scalar.addi (Scalar.muli v 4#32) (BitVec.ofNat 32 (i 0).val)).toNat, 0]) e).trans
    (by rw [block_no _ (h 1) _ hi])

/-- Window 2 reads the block of the device number at place 2. -/
theorem at2 (h : ∀ k, (word m k).toNat < 8) (i : grid0.Coords) :
    cc0_transform_2 inb_S4_S1_2 numel1_S1 (tbl m) i = ![(word m 2).toNat * 4 + (i 0).val, 0] := by
  have e : tbl m 0 ((Rect.unit (s := S4) ![2] S1.size inb_S4_S1_2).emb (Shape.Idx.first (numel1_S1.symm ▸ Nat.one_pos)))
      = word m 2 := by
    refine congrArg (m (((0 : Dev nD) : Thread nD τ).loc main_arg0)) (funext fun a => Fin.ext ?_)
    obtain rfl : a = 0 := Subsingleton.elim _ _
    rfl
  have hi : (i 0).val < 4 := (i 0).isLt
  exact (congrArg (fun v : BitVec 32 => ![(Scalar.addi (Scalar.muli v 4#32) (BitVec.ofNat 32 (i 0).val)).toNat, 0]) e).trans
    (by rw [block_no _ (h 2) _ hi])

/-- Window 3 reads the block of the device number at place 3. -/
theorem at3 (h : ∀ k, (word m k).toNat < 8) (i : grid0.Coords) :
    cc0_transform_3 inb_S4_S1_3 numel1_S1 (tbl m) i = ![(word m 3).toNat * 4 + (i 0).val, 0] := by
  have e : tbl m 0 ((Rect.unit (s := S4) ![3] S1.size inb_S4_S1_3).emb (Shape.Idx.first (numel1_S1.symm ▸ Nat.one_pos)))
      = word m 3 := by
    refine congrArg (m (((0 : Dev nD) : Thread nD τ).loc main_arg0)) (funext fun a => Fin.ext ?_)
    obtain rfl : a = 0 := Subsingleton.elim _ _
    rfl
  have hi : (i 0).val < 4 := (i 0).isLt
  exact (congrArg (fun v : BitVec 32 => ![(Scalar.addi (Scalar.muli v 4#32) (BitVec.ofNat 32 (i 0).val)).toNat, 0]) e).trans
    (by rw [block_no _ (h 3) _ hi])

theorem ok (h : ∀ k, (word m k).toNat < 8) : Ok m := by
  refine ⟨fun i => ⟨fun a => ?_, .inl rfl⟩, fun i => ⟨fun a => ?_, .inl rfl⟩, fun i => ⟨fun a => ?_, .inl rfl⟩,
    fun i => ⟨fun a => ?_, .inl rfl⟩⟩
  · have hi : (i 0).val < 4 := (i 0).isLt
    have hw := h 0
    rw [at0 m h i]
    match a with
    | ⟨0, _⟩ => show ((word m 0).toNat * 4 + (i 0).val + 1) * 272 ≤ 8704; omega
    | ⟨1, _⟩ => show (0 + 1) * 1024 ≤ 1024; omega
  · have hi : (i 0).val < 4 := (i 0).isLt
    have hw := h 1
    rw [at1 m h i]
    match a with
    | ⟨0, _⟩ => show ((word m 1).toNat * 4 + (i 0).val + 1) * 272 ≤ 8704; omega
    | ⟨1, _⟩ => show (0 + 1) * 1024 ≤ 1024; omega
  · have hi : (i 0).val < 4 := (i 0).isLt
    have hw := h 2
    rw [at2 m h i]
    match a with
    | ⟨0, _⟩ => show ((word m 2).toNat * 4 + (i 0).val + 1) * 272 ≤ 8704; omega
    | ⟨1, _⟩ => show (0 + 1) * 1024 ≤ 1024; omega
  · have hi : (i 0).val < 4 := (i 0).isLt
    have hw := h 3
    rw [at3 m h i]
    match a with
    | ⟨0, _⟩ => show ((word m 3).toNat * 4 + (i 0).val + 1) * 272 ≤ 8704; omega
    | ⟨1, _⟩ => show (0 + 1) * 1024 ≤ 1024; omega

end

/-- Each device number is less than 8. -/
theorem lt_of_pre (m : (ℓ : Loc nD τ sig) → Buf (Elt Ideal) ℓ) (h : Cert.Pre_PairSumsIdeal m) (k : Fin 4) : (word m k).toNat < 8 := by
  have e := congrFun (h 0) (ix1 k)
  simp only [Pre_in_mesh.fn, andi, cmpi, broadcastInDim, constantI] at e
  exact word_lt _ e

theorem ok_of_pre (m : (ℓ : Loc nD τ sig) → Buf (Elt Ideal) ℓ) (h : Cert.Pre_PairSumsIdeal m) : Ok m := ok m (lt_of_pre m h)

end Cert.PairSumsIdeal.Table
-- ==== Proof.PairSumsRows.lean ====
/-
  The reference of the sum over pairs of devices, read at an index: the rows of the gradient that a device number names, and
  the part that arrived.
-/
import proofs.«01_k».proof.Proof.Gen.PairSumsRefIdeal
import Idealize.ShloMosaic.Lib.Pipeline.ValueKit
import Idealize.ShloMosaic.Lib.StableHlo.Run

set_option maxRecDepth 16384

noncomputable section

open Idealize.ShloMosaic Idealize.ShloMosaic.TcCoe Idealize.SL.Sem

namespace Cert.PairSumsRefIdeal.Rows

open Cert.PairSumsRefIdeal Cert.PairSumsRefIdeal.Gen

variable (d : IVec S4 32) (g : FVec Ideal S8704x1024 .f32) (l : FVec Ideal S4x1088x1024 .f32)

/-- The device numbers as the reference's gather takes them, a negative one counted from the end. -/
def starts : IVec S4x1 32 :=
  broadcastInDim S4x1 ![0] bcast_S4_S4x1_0 (select (cmpi .slt d (broadcastInDim S4 ![] bcast_S_S4 (constantI S_ 32 0#32)))
    (addi d (broadcastInDim S4 ![] bcast_S_S4 (constantI S_ 32 8#32))) d)

/-- The four sums. -/
def sums : FVec Ideal S4x1088x1024 .f32 :=
  addf (Host.gather gather_S8x1088x1024_S4x1_S4x1088x1024_12_0_n_n_0_1_110881024
    (shapeCast _ g shapeCasts_S8704x1024_S8x1088x1024) (starts d)) l

/-- The sum the device keeps. -/
def mine : FVec Ideal S1088x1024 .f32 :=
  shapeCast _ (extractStridedSlice S1x1088x1024 ![0, 0, 0] (sums d g l) slices_S4x1088x1024_S1x1088x1024_0_0_0)
    shapeCasts_S1x1088x1024_S1088x1024

/-- The sums it sends on. -/
def send : FVec Ideal S3x1088x1024 .bf16 :=
  truncf .bf16 (extractStridedSlice S3x1088x1024 ![1, 0, 0] (sums d g l) slices_S4x1088x1024_S3x1088x1024_1_0_0) bitsLt_bf16_f32

theorem starts_at (k : Fin 4) (h : (d (ix1 k)).toNat < 8) : starts d (ix2 k (0 : Fin 1)) = d (ix1 k) := by
  have e : (BitVec.slt (d (ix1 k)) 0#32) = false := by
    rw [BitVec.slt_eq_decide, decide_eq_false_iff_not, BitVec.toInt_eq_toNat_cond]
    simp only [BitVec.ofNat_eq_ofNat, BitVec.toInt_zero]
    split <;> omega
  pointwise [starts]
  rw [show IntOp.cmpi .slt (d (ix1 k)) 0#32 = 0#1 from by simp only [IntOp.cmpi, e]; rfl]
  rfl

/-- The gather read at an index. -/
theorem gather_at (x : FVec Ideal S8x1088x1024 .f32) (n : IVec S4x1 32) (y : S4x1088x1024.Idx) :
    Host.gather gather_S8x1088x1024_S4x1_S4x1088x1024_12_0_n_n_0_1_110881024 x n y
      = x (ix3 ⟨min (n (ix2 (y 0) (0 : Fin 1))).toInt.toNat 7, by omega⟩ (y 1) (y 2)) := by
  unfold Host.gather
  congr 1
  funext a
  refine Fin.ext ?_
  show GatherDims.start _ y n a + GatherDims.batchCoord _ y a + GatherDims.offCoord _ y a = _
  rw [GatherDims.batchCoord_eq_zero _ _ _ List.not_mem_nil]
  have h012 : a = 0 ∨ a = 1 ∨ a = 2 := by
    match a with
    | ⟨0, _⟩ => exact .inl rfl
    | ⟨1, _⟩ => exact .inr (.inl rfl)
    | ⟨2, _⟩ => exact .inr (.inr rfl)
  rcases h012 with rfl | rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 3) ∈ gather_S8x1088x1024_S4x1_S4x1088x1024_12_0_n_n_0_1_110881024.startIndexMap from
      List.mem_singleton.mpr rfl)]
    refine congrArg (fun i => min (n i).toInt.toNat 7) (funext fun b => Fin.ext ?_)
    match b with
    | ⟨0, _⟩ => rfl
    | ⟨1, _⟩ => rfl
  · unfold GatherDims.start
    rw [dif_neg (show ((1 : Fin 3) ∉ gather_S8x1088x1024_S4x1_S4x1088x1024_12_0_n_n_0_1_110881024.startIndexMap) from
      fun h => absurd (List.mem_singleton.mp h) (by decide))]
    simp only [Nat.zero_add]
    rfl
  · unfold GatherDims.start
    rw [dif_neg (show ((2 : Fin 3) ∉ gather_S8x1088x1024_S4x1_S4x1088x1024_12_0_n_n_0_1_110881024.startIndexMap) from
      fun h => absurd (List.mem_singleton.mp h) (by decide))]
    simp only [Nat.zero_add]
    rfl

/-- The row of the gradient at row `r` of the block of a device number. -/
def row (k : Fin 4) (r : Fin 1088) : Fin 8704 := ⟨min (d (ix1 k)).toNat 7 * 1088 + r.val, by omega⟩

/-- A sum at an index. -/
def part (k : Fin 4) (r : Fin 1088) (c : Fin 1024) : EReal := g (ix2 (row d k r) c) + l (ix3 k r c)

theorem sums_at (k : Fin 4) (r : Fin 1088) (c : Fin 1024) (h : (d (ix1 k)).toNat < 8) :
    sums d g l (ix3 k r c) = part d g l k r c := by
  show Host.gather _ _ _ (ix3 k r c) + l (ix3 k r c) = _
  rw [gather_at]
  refine congrArg (· + l (ix3 k r c)) ?_
  refine shapeCast_apply g shapeCasts_S8704x1024_S8x1088x1024 _ (ix2 (row d k r) c) ?_
  rw [Shape.rowMajor_val_three, Shape.rowMajor_val_two]
  show (min (d (ix1 k)).toNat 7 * 1088 + r.val) * 1024 + c.val
    = (min (starts d (ix2 k (0 : Fin 1))).toInt.toNat 7 * 1088 + r.val) * 1024 + c.val
  rw [starts_at d k h, BitVec.toInt_eq_toNat_cond, if_pos (by omega), Int.toNat_natCast]

theorem mine_at (h : ∀ k, (d (ix1 k)).toNat < 8) (i : S1088x1024.Idx) :
    mine d g l i = part d g l 0 (i 0) (i 1) := by
  rw [← sums_at d g l 0 (i 0) (i 1) (h 0), eq_ix2 i]
  pointwise [mine]

theorem send_at (h : ∀ k, (d (ix1 k)).toNat < 8) (i : S3x1088x1024.Idx) :
    send d g l i = part d g l ((i 0).succ) (i 1) (i 2) := by
  rw [← sums_at d g l ((i 0).succ) (i 1) (i 2) (h _), eq_ix3 i]
  pointwise [send]
  exact congrArg (fun k => sums d g l (ix3 k (i 1) (i 2))) (Fin.ext (Nat.add_comm _ _))

end Cert.PairSumsRefIdeal.Rows
-- ==== Proof.PairSumsValue.lean ====
/-
  The sum over pairs of devices of the in-projection's weight gradient: to each of four parts of the device's own gradient,
  which the table of device numbers names, the part that arrived is added, 272 rows to a grid point. `final5`, `final6`: the
  arrays after the run are the reference's.
-/
import proofs.«01_k».proof.Proof.PairSumsTable
import proofs.«01_k».proof.Proof.PairSumsRows

set_option maxRecDepth 16384

noncomputable section

open Idealize.ShloMosaic Idealize.ShloMosaic.TcCoe Idealize.SL.Sem
open Idealize.ShloMosaic.Pipeline (Dat)

namespace Cert.PairSumsIdeal.Rows

open Cert.PairSumsIdeal Cert.PairSumsIdeal.Gen Cert.PairSumsIdeal.Table

variable (m : (ℓ : Loc nD τ sig) → Buf (Elt Ideal) ℓ)

/-- The windows that the table does not move go down with the grid, 272 rows to a point. -/
theorem idx : ∀ t : Fin grid0.N, cc0_transform_4 (grid0.coords t) = ![0, t.val, 0] ∧ cc0_transform_5 (grid0.coords t) = ![t.val, 0]
    ∧ cc0_transform_6 (grid0.coords t) = ![0, t.val, 0] ∧ (grid0.coords t 0).val = t.val ∧ t.val < 4 := by
  decide +kernel

/-- Row `r` of the block of a grid point. -/
def down (n : Nat) (h : n < 4) (r : Fin 272) : Fin 1088 := ⟨n * 272 + r.val, by omega⟩

/-- The arguments: the device numbers, the gradient and the parts that arrived. -/
abbrev arg0 : IVec S4 32 := m (((0 : Dev nD) : Thread nD τ).loc main_arg0)
abbrev arg1 : FVec Ideal S8704x1024 .f32 := m (((0 : Dev nD) : Thread nD τ).loc main_arg1)
abbrev arg2 : FVec Ideal S4x1088x1024 .f32 := m (((0 : Dev nD) : Thread nD τ).loc main_arg2)

theorem pay_mine (x : FVec Ideal S272x1024 .f32) (p : FVec Ideal S1x272x1024 .f32) (y : S272x1024.Idx) :
    k0_pay2 (F := Ideal) x p y = x y + p (ix3 (0 : Fin 1) (y 0) (y 1)) := by
  rw [eq_ix2 y]
  pointwise [k0_pay2]

theorem pay_send1 (x : FVec Ideal S272x1024 .f32) (p : FVec Ideal S1x272x1024 .f32) (y : S1x272x1024.Idx) :
    k0_pay3 (F := Ideal) x p y = x (ix2 (y 1) (y 2)) + p (ix3 (0 : Fin 1) (y 1) (y 2)) := by
  obtain ⟨a, b, rfl⟩ : ∃ a b, y = ix3 (0 : Fin 1) a b := ⟨y 1, y 2, (eq_ix3 y).trans (by rw [Fin.fin_one_eq_zero (y 0)])⟩
  pointwise [k0_pay3]

theorem pay_send2 (x : FVec Ideal S272x1024 .f32) (p : FVec Ideal S1x272x1024 .f32) (y : S1x272x1024.Idx) :
    k0_pay4 (F := Ideal) x p y = x (ix2 (y 1) (y 2)) + p (ix3 (0 : Fin 1) (y 1) (y 2)) := by
  obtain ⟨a, b, rfl⟩ : ∃ a b, y = ix3 (0 : Fin 1) a b := ⟨y 1, y 2, (eq_ix3 y).trans (by rw [Fin.fin_one_eq_zero (y 0)])⟩
  pointwise [k0_pay4]

theorem pay_send3 (x : FVec Ideal S272x1024 .f32) (p : FVec Ideal S1x272x1024 .f32) (y : S1x272x1024.Idx) :
    k0_pay1 (F := Ideal) (k0_pay5 (F := Ideal) x p) y = x (ix2 (y 1) (y 2)) + p (ix3 (0 : Fin 1) (y 1) (y 2)) := by
  obtain ⟨a, b, rfl⟩ : ∃ a b, y = ix3 (0 : Fin 1) a b := ⟨y 1, y 2, (eq_ix3 y).trans (by rw [Fin.fin_one_eq_zero (y 0)])⟩
  pointwise [k0_pay1, k0_pay5]

variable (hO : Ok m) (hw : ∀ k, (word m k).toNat < 8)

include hw

theorem iblk0_at (t : Fin (cfgM m hO).N) (y : S272x1024.Idx) :
    iblk m hO 0 0 t y = arg1 m (ix2 (Cert.PairSumsRefIdeal.Rows.row (arg0 m) 0 (down t.val t.isLt (y 0))) (y 1)) := by
  have hk : min (word m 0).toNat 7 = (word m 0).toNat := by have := hw 0; omega
  have ei : (grid0.coords t 0).val = t.val := (idx t).2.2.2.1
  have e : ((cfgM m hO).win 0).index t = ![(word m 0).toNat * 4 + t.val, 0] := by
    rw [← ei]; exact at0 m hw (grid0.coords t)
  refine congrArg (arg1 m) (funext fun a => Fin.ext ?_)
  refine (((cfgM m hO).win 0).rect_emb_val t y a rfl).trans ?_
  rw [e]
  match a with
  | ⟨0, _⟩ =>
    show ((word m 0).toNat * 4 + t.val) * 272 + (y 0).val = min (word m 0).toNat 7 * 1088 + (t.val * 272 + (y 0).val)
    rw [hk]; omega
  | ⟨1, _⟩ => exact (congrArg (· + (y 1).val) (Nat.zero_mul 1024)).trans (Nat.zero_add _)

theorem iblk1_at (t : Fin (cfgM m hO).N) (y : S272x1024.Idx) :
    iblk m hO 0 1 t y = arg1 m (ix2 (Cert.PairSumsRefIdeal.Rows.row (arg0 m) 1 (down t.val t.isLt (y 0))) (y 1)) := by
  have hk : min (word m 1).toNat 7 = (word m 1).toNat := by have := hw 1; omega
  have ei : (grid0.coords t 0).val = t.val := (idx t).2.2.2.1
  have e : ((cfgM m hO).win 1).index t = ![(word m 1).toNat * 4 + t.val, 0] := by
    rw [← ei]; exact at1 m hw (grid0.coords t)
  refine congrArg (arg1 m) (funext fun a => Fin.ext ?_)
  refine (((cfgM m hO).win 1).rect_emb_val t y a rfl).trans ?_
  rw [e]
  match a with
  | ⟨0, _⟩ =>
    show ((word m 1).toNat * 4 + t.val) * 272 + (y 0).val = min (word m 1).toNat 7 * 1088 + (t.val * 272 + (y 0).val)
    rw [hk]; omega
  | ⟨1, _⟩ => exact (congrArg (· + (y 1).val) (Nat.zero_mul 1024)).trans (Nat.zero_add _)

theorem iblk2_at (t : Fin (cfgM m hO).N) (y : S272x1024.Idx) :
    iblk m hO 0 2 t y = arg1 m (ix2 (Cert.PairSumsRefIdeal.Rows.row (arg0 m) 2 (down t.val t.isLt (y 0))) (y 1)) := by
  have hk : min (word m 2).toNat 7 = (word m 2).toNat := by have := hw 2; omega
  have ei : (grid0.coords t 0).val = t.val := (idx t).2.2.2.1
  have e : ((cfgM m hO).win 2).index t = ![(word m 2).toNat * 4 + t.val, 0] := by
    rw [← ei]; exact at2 m hw (grid0.coords t)
  refine congrArg (arg1 m) (funext fun a => Fin.ext ?_)
  refine (((cfgM m hO).win 2).rect_emb_val t y a rfl).trans ?_
  rw [e]
  match a with
  | ⟨0, _⟩ =>
    show ((word m 2).toNat * 4 + t.val) * 272 + (y 0).val = min (word m 2).toNat 7 * 1088 + (t.val * 272 + (y 0).val)
    rw [hk]; omega
  | ⟨1, _⟩ => exact (congrArg (· + (y 1).val) (Nat.zero_mul 1024)).trans (Nat.zero_add _)

theorem iblk3_at (t : Fin (cfgM m hO).N) (y : S272x1024.Idx) :
    iblk m hO 0 3 t y = arg1 m (ix2 (Cert.PairSumsRefIdeal.Rows.row (arg0 m) 3 (down t.val t.isLt (y 0))) (y 1)) := by
  have hk : min (word m 3).toNat 7 = (word m 3).toNat := by have := hw 3; omega
  have ei : (grid0.coords t 0).val = t.val := (idx t).2.2.2.1
  have e : ((cfgM m hO).win 3).index t = ![(word m 3).toNat * 4 + t.val, 0] := by
    rw [← ei]; exact at3 m hw (grid0.coords t)
  refine congrArg (arg1 m) (funext fun a => Fin.ext ?_)
  refine (((cfgM m hO).win 3).rect_emb_val t y a rfl).trans ?_
  rw [e]
  match a with
  | ⟨0, _⟩ =>
    show ((word m 3).toNat * 4 + t.val) * 272 + (y 0).val = min (word m 3).toNat 7 * 1088 + (t.val * 272 + (y 0).val)
    rw [hk]; omega
  | ⟨1, _⟩ => exact (congrArg (· + (y 1).val) (Nat.zero_mul 1024)).trans (Nat.zero_add _)

omit hw

theorem iblk4_at (t : Fin (cfgM m hO).N) (y : S4x272x1024.Idx) :
    iblk m hO 0 4 t y = arg2 m (ix3 (y 0) (down t.val t.isLt (y 1)) (y 2)) := by
  have e : ((cfgM m hO).win 4).index t = ![0, t.val, 0] := (idx t).1
  refine congrArg (arg2 m) (funext fun a => Fin.ext ?_)
  refine (((cfgM m hO).win 4).rect_emb_val t y a rfl).trans ?_
  rw [e]
  match a with
  | ⟨0, _⟩ => exact (congrArg (· + (y 0).val) (Nat.zero_mul 4)).trans (Nat.zero_add _)
  | ⟨1, _⟩ => rfl
  | ⟨2, _⟩ => exact (congrArg (· + (y 2).val) (Nat.zero_mul 1024)).trans (Nat.zero_add _)

theorem iblk4_at' (t : Fin (cfgM m hO).N) (y : S4x272x1024.Idx) (k : Fin 4) (r : Fin 272) (q : Fin 1024)
    (hk : (y 0).val = k.val) (hr : (y 1).val = r.val) (hq : (y 2).val = q.val) :
    iblk m hO 0 4 t y = arg2 m (ix3 k (down t.val t.isLt r) q) := by
  obtain rfl : y = ix3 k r q := (eq_ix3 y).trans (by rw [Fin.ext hk, Fin.ext hr, Fin.ext hq])
  exact iblk4_at m hO t _

theorem emb5 (t : Fin (cfgM m hO).N) (y : S272x1024.Idx) :
    (((cfgM m hO).win 5).blk t).view.emb y = (ix2 (down t.val t.isLt (y 0)) (y 1) : S1088x1024.Idx) := by
  have e : ((cfgM m hO).win 5).index t = ![t.val, 0] := (idx t).2.1
  refine funext fun a => Fin.ext ?_
  refine (((cfgM m hO).win 5).rect_emb_val t y a rfl).trans ?_
  rw [e]
  match a with
  | ⟨0, _⟩ => rfl
  | ⟨1, _⟩ => exact (congrArg (· + (y 1).val) (Nat.zero_mul 1024)).trans (Nat.zero_add _)

theorem emb6 (t : Fin (cfgM m hO).N) (y : S3x272x1024.Idx) :
    (((cfgM m hO).win 6).blk t).view.emb y = (ix3 (y 0) (down t.val t.isLt (y 1)) (y 2) : S3x1088x1024.Idx) := by
  have e : ((cfgM m hO).win 6).index t = ![0, t.val, 0] := (idx t).2.2.1
  refine funext fun a => Fin.ext ?_
  refine (((cfgM m hO).win 6).rect_emb_val t y a rfl).trans ?_
  rw [e]
  match a with
  | ⟨0, _⟩ => exact (congrArg (· + (y 0).val) (Nat.zero_mul 3)).trans (Nat.zero_add _)
  | ⟨1, _⟩ => rfl
  | ⟨2, _⟩ => exact (congrArg (· + (y 2).val) (Nat.zero_mul 1024)).trans (Nat.zero_add _)

/-- The blocks of the two results cover them. -/
theorem covers5 : ((cfgM m hO).win 5).Covers := by
  have n0 : ((cfgM m hO).win 5).nblk (0 : Fin 2) = 4 := (by decide : (1088 + 272 - 1) / 272 = 4)
  have n1 : ((cfgM m hO).win 5).nblk (1 : Fin 2) = 1 := (by decide : (1024 + 1024 - 1) / 1024 = 1)
  refine ⟨fun a => ?_, fun β => ?_⟩
  · match a with
    | ⟨0, _⟩ => exact (by decide : 0 < 272)
    | ⟨1, _⟩ => exact (by decide : 0 < 1024)
  · have b0 : (β (0 : Fin 2)).val < 4 := lt_of_lt_of_eq (β (0 : Fin 2)).isLt n0
    have b1 : (β (1 : Fin 2)).val < 1 := lt_of_lt_of_eq (β (1 : Fin 2)).isLt n1
    have e : ((cfgM m hO).win 5).index ⟨_, b0⟩ = ![(β (0 : Fin 2)).val, 0] := (idx ⟨_, b0⟩).2.1
    refine ⟨⟨_, b0⟩, flush0_5 (adm m hO) _, fun a => ⟨?_, .inl rfl⟩⟩
    rw [e]
    match a with
    | ⟨0, _⟩ => rfl
    | ⟨1, _⟩ => exact (Nat.lt_one_iff.mp b1).symm

theorem covers6 : ((cfgM m hO).win 6).Covers := by
  have n0 : ((cfgM m hO).win 6).nblk (0 : Fin 3) = 1 := (by decide : (3 + 3 - 1) / 3 = 1)
  have n1 : ((cfgM m hO).win 6).nblk (1 : Fin 3) = 4 := (by decide : (1088 + 272 - 1) / 272 = 4)
  have n2 : ((cfgM m hO).win 6).nblk (2 : Fin 3) = 1 := (by decide : (1024 + 1024 - 1) / 1024 = 1)
  refine ⟨fun a => ?_, fun β => ?_⟩
  · match a with
    | ⟨0, _⟩ => exact (by decide : 0 < 3)
    | ⟨1, _⟩ => exact (by decide : 0 < 272)
    | ⟨2, _⟩ => exact (by decide : 0 < 1024)
  · have b0 : (β (0 : Fin 3)).val < 1 := lt_of_lt_of_eq (β (0 : Fin 3)).isLt n0
    have b1 : (β (1 : Fin 3)).val < 4 := lt_of_lt_of_eq (β (1 : Fin 3)).isLt n1
    have b2 : (β (2 : Fin 3)).val < 1 := lt_of_lt_of_eq (β (2 : Fin 3)).isLt n2
    have e : ((cfgM m hO).win 6).index ⟨_, b1⟩ = ![0, (β (1 : Fin 3)).val, 0] := (idx ⟨_, b1⟩).2.2.1
    refine ⟨⟨_, b1⟩, flush0_6 (adm m hO) _, fun a => ⟨?_, .inl rfl⟩⟩
    rw [e]
    match a with
    | ⟨0, _⟩ => exact (Nat.lt_one_iff.mp b0).symm
    | ⟨1, _⟩ => rfl
    | ⟨2, _⟩ => exact (Nat.lt_one_iff.mp b2).symm

include hw

theorem final5 (c : Dev nD) : (dats m hO 0 c).arrAt 5 (cfgM m hO).N
    = Cert.PairSumsRefIdeal.Rows.mine (m ((c : Thread nD τ).loc main_arg0)) (m ((c : Thread nD τ).loc main_arg1))
        (m ((c : Thread nD τ).loc main_arg2)) := by
  obtain rfl : c = 0 := Subsingleton.elim _ _
  refine (dats m hO 0 0).arrAt_eq_of_covers 5 _ (covers5 m hO) fun t _ y => ?_
  change S272x1024.Idx at y
  refine Eq.trans ?_ ((congrArg (Cert.PairSumsRefIdeal.Rows.mine (arg0 m) (arg1 m) (arg2 m)) (emb5 m hO t y)).trans
    (Cert.PairSumsRefIdeal.Rows.mine_at (arg0 m) (arg1 m) (arg2 m) hw _)).symm
  blk_simp
  rw [after0_5]; unfold outsAt0 out0_A_5; frame_out
  refine (pay_mine _ _ y).trans ?_
  exact congrArg₂ (· + ·) ((congrFun (Memref.IsWhole.read_unread _ _) y).trans (iblk0_at m hO hw t y))
    ((congrFun (Memref.IsWhole.read_unread _ _) _).trans (iblk4_at' m hO t _ 0 (y 0) (y 1) rfl
      (by simp) (by simp)))

theorem final6 (c : Dev nD) : (dats m hO 0 c).arrAt 6 (cfgM m hO).N
    = Cert.PairSumsRefIdeal.Rows.send (m ((c : Thread nD τ).loc main_arg0)) (m ((c : Thread nD τ).loc main_arg1))
        (m ((c : Thread nD τ).loc main_arg2)) := by
  obtain rfl : c = 0 := Subsingleton.elim _ _
  refine (dats m hO 0 0).arrAt_eq_of_covers 6 _ (covers6 m hO) fun t _ y => ?_
  change S3x272x1024.Idx at y
  refine Eq.trans ?_ ((congrArg (Cert.PairSumsRefIdeal.Rows.send (arg0 m) (arg1 m) (arg2 m)) (emb6 m hO t y)).trans
    (Cert.PairSumsRefIdeal.Rows.send_at (arg0 m) (arg1 m) (arg2 m) hw _)).symm
  blk_simp
  rw [after0_6]; unfold outsAt0 out0_A_6; frame_out
  canon_tiles x h
  · refine (pay_send3 _ _ x).trans ?_
    obtain rfl : y = ix3 ((2 : Fin 3)) (x 1) (x 2) := (eq_ix3 y).trans (by
      rw [Fin.ext (show (y 0).val = ((2 : Fin 3)).val by have : ((2 : Fin 3)).val = 2 := rfl; omega), Fin.ext h1, Fin.ext h2]; rfl)
    exact congrArg₂ (· + ·) ((congrFun (Memref.IsWhole.read_unread _ _) _).trans (iblk3_at m hO hw t (ix2 (x 1) (x 2))))
      ((congrFun (Memref.IsWhole.read_unread _ _) _).trans (iblk4_at' m hO t _ 3 (x 1) (x 2) rfl (by simp) (by simp)))
  · refine (pay_send2 _ _ x).trans ?_
    obtain rfl : y = ix3 ((1 : Fin 3)) (x 1) (x 2) := (eq_ix3 y).trans (by
      rw [Fin.ext (show (y 0).val = ((1 : Fin 3)).val by have : ((1 : Fin 3)).val = 1 := rfl; omega), Fin.ext h1, Fin.ext h2]; rfl)
    exact congrArg₂ (· + ·) ((congrFun (Memref.IsWhole.read_unread _ _) _).trans (iblk2_at m hO hw t (ix2 (x 1) (x 2))))
      ((congrFun (Memref.IsWhole.read_unread _ _) _).trans (iblk4_at' m hO t _ 2 (x 1) (x 2) rfl (by simp) (by simp)))
  · refine (pay_send1 _ _ x).trans ?_
    obtain rfl : y = ix3 ((0 : Fin 3)) (x 1) (x 2) := (eq_ix3 y).trans (by
      rw [Fin.ext (show (y 0).val = ((0 : Fin 3)).val by have : ((0 : Fin 3)).val = 0 := rfl; omega), Fin.ext h1, Fin.ext h2]; rfl)
    exact congrArg₂ (· + ·) ((congrFun (Memref.IsWhole.read_unread _ _) _).trans (iblk1_at m hO hw t (ix2 (x 1) (x 2))))
      ((congrFun (Memref.IsWhole.read_unread _ _) _).trans (iblk4_at' m hO t _ 1 (x 1) (x 2) rfl (by simp) (by simp)))

include hO in
/-- The run ends with the two results the reference's, and the arguments as they were. -/
theorem ends (ρ : Dev nD → PrngReg) : θ_run (defs (F := Ideal)) (onTc (τ := τ) (main (F := Ideal))) ⟨m, fun _ => 0, ρ⟩ (fun r => ∀ c : Dev nD,
    r.2.mem ((c.tc : Thread nD τ).loc main_v0_0) = Cert.PairSumsRefIdeal.Rows.mine (m ((c.tc : Thread nD τ).loc main_arg0))
        (m ((c.tc : Thread nD τ).loc main_arg1)) (m ((c.tc : Thread nD τ).loc main_arg2))
    ∧ r.2.mem ((c.tc : Thread nD τ).loc main_v0_1) = Cert.PairSumsRefIdeal.Rows.send (m ((c.tc : Thread nD τ).loc main_arg0))
        (m ((c.tc : Thread nD τ).loc main_arg1)) (m ((c.tc : Thread nD τ).loc main_arg2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) :=
  (θ_run defs _ _).mono (fun _ h c => ⟨((h c).1 5).trans (final5 m hO hw c), ((h c).1 6).trans (final6 m hO hw c),
      ((h c).2 main_arg0 (by decide : main_arg0 ∈ Pipeline.restRefs sig spec0)).trans (V_main_arg0 m c),
      ((h c).1 3).trans (((dats m hO 0 c).arrAt_in 3 rfl _).trans ((A_eq m hO c 3).trans (V_main_arg1 m c))),
      ((h c).1 4).trans (((dats m hO 0 c).arrAt_in 4 rfl _).trans ((A_eq m hO c 4).trans (V_main_arg2 m c)))⟩)
    (run_main m ρ hO)

end Cert.PairSumsIdeal.Rows
-- ==== Proof.PairRestTable.lean ====
/-
  The table of device numbers in the sums over pairs of devices for the three narrower gradients: every block of rows the
  call reads lies inside its gradient. `ok_of_pre`, for the program as printed and for its idealization.
-/
import proofs.«01_k».proof.Proof.PairSumsTable
import proofs.«01_k».proof.Proof.Gen.Pre_in_mesh_rest
import proofs.«01_k».proof.Proof.Gen.PairRest.Frame
import proofs.«01_k».proof.Proof.Gen.PairRestIdeal.Frame

set_option maxRecDepth 16384

noncomputable section

open Idealize.ShloMosaic Idealize.ShloMosaic.TcCoe Idealize.SL.Sem

namespace Cert.PairRestTable

/-- The number of a block of 128 rows: one block to a device. -/
theorem block_no (v : BitVec 32) (hv : v.toNat < 8) (n : Nat) (hn : n < 1) :
    (Scalar.addi (Scalar.muli v 1#32) (BitVec.ofNat 32 n)).toNat = v.toNat * 1 + n := by
  simp only [Scalar.addi, Scalar.muli, IntOp.addi, IntOp.muli, BitVec.toNat_add, BitVec.toNat_mul, BitVec.toNat_ofNat]
  omega

end Cert.PairRestTable

namespace Cert.PairRest.Table

open Cert.PairRest Cert.PairRest.Gen Cert.PairSumsTable Cert.PairRestTable

section
variable {F : FTy → Type} [FloatOps F] (m : (ℓ : Loc nD τ sig) → Buf (Elt F) ℓ)

/-- The device number at a place of the table. -/
def word (k : Fin 4) : BitVec 32 := m (((0 : Dev nD) : Thread nD τ).loc main_arg0) (ix1 k)

/-- The windows read the blocks of the device numbers, four windows to a gradient. -/
theorem at0 (h : ∀ k, (word m k).toNat < 8) (i : grid0.Coords) :
    cc0_transform_0 inb_S4_S1_0 numel1_S1 (tbl m) i = ![(word m 0).toNat * 1 + (i 0).val, 0] := by
  have e : tbl m 0 ((Rect.unit (s := S4) ![0] S1.size inb_S4_S1_0).emb (Shape.Idx.first (numel1_S1.symm ▸ Nat.one_pos)))
      = word m 0 := by
    refine congrArg (m (((0 : Dev nD) : Thread nD τ).loc main_arg0)) (funext fun a => Fin.ext ?_)
    obtain rfl : a = 0 := Subsingleton.elim _ _
    rfl
  have hi : (i 0).val < 1 := (i 0).isLt
  exact (congrArg (fun v : BitVec 32 => ![(Scalar.addi (Scalar.muli v 1#32) (BitVec.ofNat 32 (i 0).val)).toNat, 0]) e).trans
    (by rw [PairRestTable.block_no _ (h 0) _ hi])

theorem at1 (h : ∀ k, (word m k).toNat < 8) (i : grid0.Coords) :
    cc0_transform_1 inb_S4_S1_1 numel1_S1 (tbl m) i = ![(word m 1).toNat * 1 + (i 0).val, 0] := by
  have e : tbl m 0 ((Rect.unit (s := S4) ![1] S1.size inb_S4_S1_1).emb (Shape.Idx.first (numel1_S1.symm ▸ Nat.one_pos)))
      = word m 1 := by
    refine congrArg (m (((0 : Dev nD) : Thread nD τ).loc main_arg0)) (funext fun a => Fin.ext ?_)
    obtain rfl : a = 0 := Subsingleton.elim _ _
    rfl
  have hi : (i 0).val < 1 := (i 0).isLt
  exact (congrArg (fun v : BitVec 32 => ![(Scalar.addi (Scalar.muli v 1#32) (BitVec.ofNat 32 (i 0).val)).toNat, 0]) e).trans
    (by rw [PairRestTable.block_no _ (h 1) _ hi])

theorem at2 (h : ∀ k, (word m k).toNat < 8) (i : grid0.Coords) :
    cc0_transform_2 inb_S4_S1_2 numel1_S1 (tbl m) i = ![(word m 2).toNat * 1 + (i 0).val, 0] := by
  have e : tbl m 0 ((Rect.unit (s := S4) ![2] S1.size inb_S4_S1_2).emb (Shape.Idx.first (numel1_S1.symm ▸ Nat.one_pos)))
      = word m 2 := by
    refine congrArg (m (((0 : Dev nD) : Thread nD τ).loc main_arg0)) (funext fun a => Fin.ext ?_)
    obtain rfl : a = 0 := Subsingleton.elim _ _
    rfl
  have hi : (i 0).val < 1 := (i 0).isLt
  exact (congrArg (fun v : BitVec 32 => ![(Scalar.addi (Scalar.muli v 1#32) (BitVec.ofNat 32 (i 0).val)).toNat, 0]) e).trans
    (by rw [PairRestTable.block_no _ (h 2) _ hi])

theorem at3 (h : ∀ k, (word m k).toNat < 8) (i : grid0.Coords) :
    cc0_transform_3 inb_S4_S1_3 numel1_S1 (tbl m) i = ![(word m 3).toNat * 1 + (i 0).val, 0] := by
  have e : tbl m 0 ((Rect.unit (s := S4) ![3] S1.size inb_S4_S1_3).emb (Shape.Idx.first (numel1_S1.symm ▸ Nat.one_pos)))
      = word m 3 := by
    refine congrArg (m (((0 : Dev nD) : Thread nD τ).loc main_arg0)) (funext fun a => Fin.ext ?_)
    obtain rfl : a = 0 := Subsingleton.elim _ _
    rfl
  have hi : (i 0).val < 1 := (i 0).isLt
  exact (congrArg (fun v : BitVec 32 => ![(Scalar.addi (Scalar.muli v 1#32) (BitVec.ofNat 32 (i 0).val)).toNat, 0]) e).trans
    (by rw [PairRestTable.block_no _ (h 3) _ hi])

theorem at4 (h : ∀ k, (word m k).toNat < 8) (i : grid0.Coords) :
    cc0_transform_4 inb_S4_S1_0 numel1_S1 (tbl m) i = ![(word m 0).toNat * 1 + (i 0).val, 0] := by
  have e : tbl m 0 ((Rect.unit (s := S4) ![0] S1.size inb_S4_S1_0).emb (Shape.Idx.first (numel1_S1.symm ▸ Nat.one_pos)))
      = word m 0 := by
    refine congrArg (m (((0 : Dev nD) : Thread nD τ).loc main_arg0)) (funext fun a => Fin.ext ?_)
    obtain rfl : a = 0 := Subsingleton.elim _ _
    rfl
  have hi : (i 0).val < 1 := (i 0).isLt
  exact (congrArg (fun v : BitVec 32 => ![(Scalar.addi (Scalar.muli v 1#32) (BitVec.ofNat 32 (i 0).val)).toNat, 0]) e).trans
    (by rw [PairRestTable.block_no _ (h 0) _ hi])

theorem at5 (h : ∀ k, (word m k).toNat < 8) (i : grid0.Coords) :
    cc0_transform_5 inb_S4_S1_1 numel1_S1 (tbl m) i = ![(word m 1).toNat * 1 + (i 0).val, 0] := by
  have e : tbl m 0 ((Rect.unit (s := S4) ![1] S1.size inb_S4_S1_1).emb (Shape.Idx.first (numel1_S1.symm ▸ Nat.one_pos)))
      = word m 1 := by
    refine congrArg (m (((0 : Dev nD) : Thread nD τ).loc main_arg0)) (funext fun a => Fin.ext ?_)
    obtain rfl : a = 0 := Subsingleton.elim _ _
    rfl
  have hi : (i 0).val < 1 := (i 0).isLt
  exact (congrArg (fun v : BitVec 32 => ![(Scalar.addi (Scalar.muli v 1#32) (BitVec.ofNat 32 (i 0).val)).toNat, 0]) e).trans
    (by rw [PairRestTable.block_no _ (h 1) _ hi])

theorem at6 (h : ∀ k, (word m k).toNat < 8) (i : grid0.Coords) :
    cc0_transform_6 inb_S4_S1_2 numel1_S1 (tbl m) i = ![(word m 2).toNat * 1 + (i 0).val, 0] := by
  have e : tbl m 0 ((Rect.unit (s := S4) ![2] S1.size inb_S4_S1_2).emb (Shape.Idx.first (numel1_S1.symm ▸ Nat.one_pos)))
      = word m 2 := by
    refine congrArg (m (((0 : Dev nD) : Thread nD τ).loc main_arg0)) (funext fun a => Fin.ext ?_)
    obtain rfl : a = 0 := Subsingleton.elim _ _
    rfl
  have hi : (i 0).val < 1 := (i 0).isLt
  exact (congrArg (fun v : BitVec 32 => ![(Scalar.addi (Scalar.muli v 1#32) (BitVec.ofNat 32 (i 0).val)).toNat, 0]) e).trans
    (by rw [PairRestTable.block_no _ (h 2) _ hi])

theorem at7 (h : ∀ k, (word m k).toNat < 8) (i : grid0.Coords) :
    cc0_transform_7 inb_S4_S1_3 numel1_S1 (tbl m) i = ![(word m 3).toNat * 1 + (i 0).val, 0] := by
  have e : tbl m 0 ((Rect.unit (s := S4) ![3] S1.size inb_S4_S1_3).emb (Shape.Idx.first (numel1_S1.symm ▸ Nat.one_pos)))
      = word m 3 := by
    refine congrArg (m (((0 : Dev nD) : Thread nD τ).loc main_arg0)) (funext fun a => Fin.ext ?_)
    obtain rfl : a = 0 := Subsingleton.elim _ _
    rfl
  have hi : (i 0).val < 1 := (i 0).isLt
  exact (congrArg (fun v : BitVec 32 => ![(Scalar.addi (Scalar.muli v 1#32) (BitVec.ofNat 32 (i 0).val)).toNat, 0]) e).trans
    (by rw [PairRestTable.block_no _ (h 3) _ hi])

theorem at8 (h : ∀ k, (word m k).toNat < 8) (i : grid0.Coords) :
    cc0_transform_8 inb_S4_S1_0 numel1_S1 (tbl m) i = ![(word m 0).toNat * 1 + (i 0).val, 0] := by
  have e : tbl m 0 ((Rect.unit (s := S4) ![0] S1.size inb_S4_S1_0).emb (Shape.Idx.first (numel1_S1.symm ▸ Nat.one_pos)))
      = word m 0 := by
    refine congrArg (m (((0 : Dev nD) : Thread nD τ).loc main_arg0)) (funext fun a => Fin.ext ?_)
    obtain rfl : a = 0 := Subsingleton.elim _ _
    rfl
  have hi : (i 0).val < 1 := (i 0).isLt
  exact (congrArg (fun v : BitVec 32 => ![(Scalar.addi (Scalar.muli v 1#32) (BitVec.ofNat 32 (i 0).val)).toNat, 0]) e).trans
    (by rw [PairRestTable.block_no _ (h 0) _ hi])

theorem at9 (h : ∀ k, (word m k).toNat < 8) (i : grid0.Coords) :
    cc0_transform_9 inb_S4_S1_1 numel1_S1 (tbl m) i = ![(word m 1).toNat * 1 + (i 0).val, 0] := by
  have e : tbl m 0 ((Rect.unit (s := S4) ![1] S1.size inb_S4_S1_1).emb (Shape.Idx.first (numel1_S1.symm ▸ Nat.one_pos)))
      = word m 1 := by
    refine congrArg (m (((0 : Dev nD) : Thread nD τ).loc main_arg0)) (funext fun a => Fin.ext ?_)
    obtain rfl : a = 0 := Subsingleton.elim _ _
    rfl
  have hi : (i 0).val < 1 := (i 0).isLt
  exact (congrArg (fun v : BitVec 32 => ![(Scalar.addi (Scalar.muli v 1#32) (BitVec.ofNat 32 (i 0).val)).toNat, 0]) e).trans
    (by rw [PairRestTable.block_no _ (h 1) _ hi])

theorem at10 (h : ∀ k, (word m k).toNat < 8) (i : grid0.Coords) :
    cc0_transform_10 inb_S4_S1_2 numel1_S1 (tbl m) i = ![(word m 2).toNat * 1 + (i 0).val, 0] := by
  have e : tbl m 0 ((Rect.unit (s := S4) ![2] S1.size inb_S4_S1_2).emb (Shape.Idx.first (numel1_S1.symm ▸ Nat.one_pos)))
      = word m 2 := by
    refine congrArg (m (((0 : Dev nD) : Thread nD τ).loc main_arg0)) (funext fun a => Fin.ext ?_)
    obtain rfl : a = 0 := Subsingleton.elim _ _
    rfl
  have hi : (i 0).val < 1 := (i 0).isLt
  exact (congrArg (fun v : BitVec 32 => ![(Scalar.addi (Scalar.muli v 1#32) (BitVec.ofNat 32 (i 0).val)).toNat, 0]) e).trans
    (by rw [PairRestTable.block_no _ (h 2) _ hi])

theorem at11 (h : ∀ k, (word m k).toNat < 8) (i : grid0.Coords) :
    cc0_transform_11 inb_S4_S1_3 numel1_S1 (tbl m) i = ![(word m 3).toNat * 1 + (i 0).val, 0] := by
  have e : tbl m 0 ((Rect.unit (s := S4) ![3] S1.size inb_S4_S1_3).emb (Shape.Idx.first (numel1_S1.symm ▸ Nat.one_pos)))
      = word m 3 := by
    refine congrArg (m (((0 : Dev nD) : Thread nD τ).loc main_arg0)) (funext fun a => Fin.ext ?_)
    obtain rfl : a = 0 := Subsingleton.elim _ _
    rfl
  have hi : (i 0).val < 1 := (i 0).isLt
  exact (congrArg (fun v : BitVec 32 => ![(Scalar.addi (Scalar.muli v 1#32) (BitVec.ofNat 32 (i 0).val)).toNat, 0]) e).trans
    (by rw [PairRestTable.block_no _ (h 3) _ hi])

theorem ok (h : ∀ k, (word m k).toNat < 8) : Ok m := by
  refine ⟨fun i => ⟨fun a => ?_, .inl rfl⟩, fun i => ⟨fun a => ?_, .inl rfl⟩, fun i => ⟨fun a => ?_, .inl rfl⟩,
    fun i => ⟨fun a => ?_, .inl rfl⟩, fun i => ⟨fun a => ?_, .inl rfl⟩, fun i => ⟨fun a => ?_, .inl rfl⟩,
    fun i => ⟨fun a => ?_, .inl rfl⟩, fun i => ⟨fun a => ?_, .inl rfl⟩, fun i => ⟨fun a => ?_, .inl rfl⟩,
    fun i => ⟨fun a => ?_, .inl rfl⟩, fun i => ⟨fun a => ?_, .inl rfl⟩, fun i => ⟨fun a => ?_, .inl rfl⟩⟩
  · have hi : (i 0).val < 1 := (i 0).isLt
    have hw := h 0
    rw [at0 m h i]
    match a with
    | ⟨0, _⟩ => show ((word m 0).toNat * 1 + (i 0).val + 1) * 128 ≤ 1024; omega
    | ⟨1, _⟩ => show (0 + 1) * 1024 ≤ 1024; omega
  · have hi : (i 0).val < 1 := (i 0).isLt
    have hw := h 1
    rw [at1 m h i]
    match a with
    | ⟨0, _⟩ => show ((word m 1).toNat * 1 + (i 0).val + 1) * 128 ≤ 1024; omega
    | ⟨1, _⟩ => show (0 + 1) * 1024 ≤ 1024; omega
  · have hi : (i 0).val < 1 := (i 0).isLt
    have hw := h 2
    rw [at2 m h i]
    match a with
    | ⟨0, _⟩ => show ((word m 2).toNat * 1 + (i 0).val + 1) * 128 ≤ 1024; omega
    | ⟨1, _⟩ => show (0 + 1) * 1024 ≤ 1024; omega
  · have hi : (i 0).val < 1 := (i 0).isLt
    have hw := h 3
    rw [at3 m h i]
    match a with
    | ⟨0, _⟩ => show ((word m 3).toNat * 1 + (i 0).val + 1) * 128 ≤ 1024; omega
    | ⟨1, _⟩ => show (0 + 1) * 1024 ≤ 1024; omega
  · have hi : (i 0).val < 1 := (i 0).isLt
    have hw := h 0
    rw [at4 m h i]
    match a with
    | ⟨0, _⟩ => show ((word m 0).toNat * 1 + (i 0).val + 1) * 128 ≤ 1024; omega
    | ⟨1, _⟩ => show (0 + 1) * 1024 ≤ 1024; omega
  · have hi : (i 0).val < 1 := (i 0).isLt
    have hw := h 1
    rw [at5 m h i]
    match a with
    | ⟨0, _⟩ => show ((word m 1).toNat * 1 + (i 0).val + 1) * 128 ≤ 1024; omega
    | ⟨1, _⟩ => show (0 + 1) * 1024 ≤ 1024; omega
  · have hi : (i 0).val < 1 := (i 0).isLt
    have hw := h 2
    rw [at6 m h i]
    match a with
    | ⟨0, _⟩ => show ((word m 2).toNat * 1 + (i 0).val + 1) * 128 ≤ 1024; omega
    | ⟨1, _⟩ => show (0 + 1) * 1024 ≤ 1024; omega
  · have hi : (i 0).val < 1 := (i 0).isLt
    have hw := h 3
    rw [at7 m h i]
    match a with
    | ⟨0, _⟩ => show ((word m 3).toNat * 1 + (i 0).val + 1) * 128 ≤ 1024; omega
    | ⟨1, _⟩ => show (0 + 1) * 1024 ≤ 1024; omega
  · have hi : (i 0).val < 1 := (i 0).isLt
    have hw := h 0
    rw [at8 m h i]
    match a with
    | ⟨0, _⟩ => show ((word m 0).toNat * 1 + (i 0).val + 1) * 128 ≤ 1024; omega
    | ⟨1, _⟩ => show (0 + 1) * 256 ≤ 256; omega
  · have hi : (i 0).val < 1 := (i 0).isLt
    have hw := h 1
    rw [at9 m h i]
    match a with
    | ⟨0, _⟩ => show ((word m 1).toNat * 1 + (i 0).val + 1) * 128 ≤ 1024; omega
    | ⟨1, _⟩ => show (0 + 1) * 256 ≤ 256; omega
  · have hi : (i 0).val < 1 := (i 0).isLt
    have hw := h 2
    rw [at10 m h i]
    match a with
    | ⟨0, _⟩ => show ((word m 2).toNat * 1 + (i 0).val + 1) * 128 ≤ 1024; omega
    | ⟨1, _⟩ => show (0 + 1) * 256 ≤ 256; omega
  · have hi : (i 0).val < 1 := (i 0).isLt
    have hw := h 3
    rw [at11 m h i]
    match a with
    | ⟨0, _⟩ => show ((word m 3).toNat * 1 + (i 0).val + 1) * 128 ≤ 1024; omega
    | ⟨1, _⟩ => show (0 + 1) * 256 ≤ 256; omega

end

/-- Each device number is less than 8. -/
theorem lt_of_pre (m : (ℓ : Loc nD τ sig) → Buf (Elt Bits) ℓ) (h : Cert.Pre_PairRest m) (k : Fin 4) : (word m k).toNat < 8 := by
  have e := congrFun (h 0) (ix1 k)
  simp only [Pre_in_mesh_rest.fn, andi, cmpi, broadcastInDim, constantI] at e
  exact word_lt _ e

theorem ok_of_pre (m : (ℓ : Loc nD τ sig) → Buf (Elt Bits) ℓ) (h : Cert.Pre_PairRest m) : Ok m := ok m (lt_of_pre m h)

end Cert.PairRest.Table

namespace Cert.PairRestIdeal.Table

open Cert.PairRestIdeal Cert.PairRestIdeal.Gen Cert.PairSumsTable Cert.PairRestTable

section
variable {F : FTy → Type} [FloatOps F] (m : (ℓ : Loc nD τ sig) → Buf (Elt F) ℓ)

/-- The device number at a place of the table. -/
def word (k : Fin 4) : BitVec 32 := m (((0 : Dev nD) : Thread nD τ).loc main_arg0) (ix1 k)

/-- The windows read the blocks of the device numbers, four windows to a gradient. -/
theorem at0 (h : ∀ k, (word m k).toNat < 8) (i : grid0.Coords) :
    cc0_transform_0 inb_S4_S1_0 numel1_S1 (tbl m) i = ![(word m 0).toNat * 1 + (i 0).val, 0] := by
  have e : tbl m 0 ((Rect.unit (s := S4) ![0] S1.size inb_S4_S1_0).emb (Shape.Idx.first (numel1_S1.symm ▸ Nat.one_pos)))
      = word m 0 := by
    refine congrArg (m (((0 : Dev nD) : Thread nD τ).loc main_arg0)) (funext fun a => Fin.ext ?_)
    obtain rfl : a = 0 := Subsingleton.elim _ _
    rfl
  have hi : (i 0).val < 1 := (i 0).isLt
  exact (congrArg (fun v : BitVec 32 => ![(Scalar.addi (Scalar.muli v 1#32) (BitVec.ofNat 32 (i 0).val)).toNat, 0]) e).trans
    (by rw [PairRestTable.block_no _ (h 0) _ hi])

theorem at1 (h : ∀ k, (word m k).toNat < 8) (i : grid0.Coords) :
    cc0_transform_1 inb_S4_S1_1 numel1_S1 (tbl m) i = ![(word m 1).toNat * 1 + (i 0).val, 0] := by
  have e : tbl m 0 ((Rect.unit (s := S4) ![1] S1.size inb_S4_S1_1).emb (Shape.Idx.first (numel1_S1.symm ▸ Nat.one_pos)))
      = word m 1 := by
    refine congrArg (m (((0 : Dev nD) : Thread nD τ).loc main_arg0)) (funext fun a => Fin.ext ?_)
    obtain rfl : a = 0 := Subsingleton.elim _ _
    rfl
  have hi : (i 0).val < 1 := (i 0).isLt
  exact (congrArg (fun v : BitVec 32 => ![(Scalar.addi (Scalar.muli v 1#32) (BitVec.ofNat 32 (i 0).val)).toNat, 0]) e).trans
    (by rw [PairRestTable.block_no _ (h 1) _ hi])

theorem at2 (h : ∀ k, (word m k).toNat < 8) (i : grid0.Coords) :
    cc0_transform_2 inb_S4_S1_2 numel1_S1 (tbl m) i = ![(word m 2).toNat * 1 + (i 0).val, 0] := by
  have e : tbl m 0 ((Rect.unit (s := S4) ![2] S1.size inb_S4_S1_2).emb (Shape.Idx.first (numel1_S1.symm ▸ Nat.one_pos)))
      = word m 2 := by
    refine congrArg (m (((0 : Dev nD) : Thread nD τ).loc main_arg0)) (funext fun a => Fin.ext ?_)
    obtain rfl : a = 0 := Subsingleton.elim _ _
    rfl
  have hi : (i 0).val < 1 := (i 0).isLt
  exact (congrArg (fun v : BitVec 32 => ![(Scalar.addi (Scalar.muli v 1#32) (BitVec.ofNat 32 (i 0).val)).toNat, 0]) e).trans
    (by rw [PairRestTable.block_no _ (h 2) _ hi])

theorem at3 (h : ∀ k, (word m k).toNat < 8) (i : grid0.Coords) :
    cc0_transform_3 inb_S4_S1_3 numel1_S1 (tbl m) i = ![(word m 3).toNat * 1 + (i 0).val, 0] := by
  have e : tbl m 0 ((Rect.unit (s := S4) ![3] S1.size inb_S4_S1_3).emb (Shape.Idx.first (numel1_S1.symm ▸ Nat.one_pos)))
      = word m 3 := by
    refine congrArg (m (((0 : Dev nD) : Thread nD τ).loc main_arg0)) (funext fun a => Fin.ext ?_)
    obtain rfl : a = 0 := Subsingleton.elim _ _
    rfl
  have hi : (i 0).val < 1 := (i 0).isLt
  exact (congrArg (fun v : BitVec 32 => ![(Scalar.addi (Scalar.muli v 1#32) (BitVec.ofNat 32 (i 0).val)).toNat, 0]) e).trans
    (by rw [PairRestTable.block_no _ (h 3) _ hi])

theorem at4 (h : ∀ k, (word m k).toNat < 8) (i : grid0.Coords) :
    cc0_transform_4 inb_S4_S1_0 numel1_S1 (tbl m) i = ![(word m 0).toNat * 1 + (i 0).val, 0] := by
  have e : tbl m 0 ((Rect.unit (s := S4) ![0] S1.size inb_S4_S1_0).emb (Shape.Idx.first (numel1_S1.symm ▸ Nat.one_pos)))
      = word m 0 := by
    refine congrArg (m (((0 : Dev nD) : Thread nD τ).loc main_arg0)) (funext fun a => Fin.ext ?_)
    obtain rfl : a = 0 := Subsingleton.elim _ _
    rfl
  have hi : (i 0).val < 1 := (i 0).isLt
  exact (congrArg (fun v : BitVec 32 => ![(Scalar.addi (Scalar.muli v 1#32) (BitVec.ofNat 32 (i 0).val)).toNat, 0]) e).trans
    (by rw [PairRestTable.block_no _ (h 0) _ hi])

theorem at5 (h : ∀ k, (word m k).toNat < 8) (i : grid0.Coords) :
    cc0_transform_5 inb_S4_S1_1 numel1_S1 (tbl m) i = ![(word m 1).toNat * 1 + (i 0).val, 0] := by
  have e : tbl m 0 ((Rect.unit (s := S4) ![1] S1.size inb_S4_S1_1).emb (Shape.Idx.first (numel1_S1.symm ▸ Nat.one_pos)))
      = word m 1 := by
    refine congrArg (m (((0 : Dev nD) : Thread nD τ).loc main_arg0)) (funext fun a => Fin.ext ?_)
    obtain rfl : a = 0 := Subsingleton.elim _ _
    rfl
  have hi : (i 0).val < 1 := (i 0).isLt
  exact (congrArg (fun v : BitVec 32 => ![(Scalar.addi (Scalar.muli v 1#32) (BitVec.ofNat 32 (i 0).val)).toNat, 0]) e).trans
    (by rw [PairRestTable.block_no _ (h 1) _ hi])

theorem at6 (h : ∀ k, (word m k).toNat < 8) (i : grid0.Coords) :
    cc0_transform_6 inb_S4_S1_2 numel1_S1 (tbl m) i = ![(word m 2).toNat * 1 + (i 0).val, 0] := by
  have e : tbl m 0 ((Rect.unit (s := S4) ![2] S1.size inb_S4_S1_2).emb (Shape.Idx.first (numel1_S1.symm ▸ Nat.one_pos)))
      = word m 2 := by
    refine congrArg (m (((0 : Dev nD) : Thread nD τ).loc main_arg0)) (funext fun a => Fin.ext ?_)
    obtain rfl : a = 0 := Subsingleton.elim _ _
    rfl
  have hi : (i 0).val < 1 := (i 0).isLt
  exact (congrArg (fun v : BitVec 32 => ![(Scalar.addi (Scalar.muli v 1#32) (BitVec.ofNat 32 (i 0).val)).toNat, 0]) e).trans
    (by rw [PairRestTable.block_no _ (h 2) _ hi])

theorem at7 (h : ∀ k, (word m k).toNat < 8) (i : grid0.Coords) :
    cc0_transform_7 inb_S4_S1_3 numel1_S1 (tbl m) i = ![(word m 3).toNat * 1 + (i 0).val, 0] := by
  have e : tbl m 0 ((Rect.unit (s := S4) ![3] S1.size inb_S4_S1_3).emb (Shape.Idx.first (numel1_S1.symm ▸ Nat.one_pos)))
      = word m 3 := by
    refine congrArg (m (((0 : Dev nD) : Thread nD τ).loc main_arg0)) (funext fun a => Fin.ext ?_)
    obtain rfl : a = 0 := Subsingleton.elim _ _
    rfl
  have hi : (i 0).val < 1 := (i 0).isLt
  exact (congrArg (fun v : BitVec 32 => ![(Scalar.addi (Scalar.muli v 1#32) (BitVec.ofNat 32 (i 0).val)).toNat, 0]) e).trans
    (by rw [PairRestTable.block_no _ (h 3) _ hi])

theorem at8 (h : ∀ k, (word m k).toNat < 8) (i : grid0.Coords) :
    cc0_transform_8 inb_S4_S1_0 numel1_S1 (tbl m) i = ![(word m 0).toNat * 1 + (i 0).val, 0] := by
  have e : tbl m 0 ((Rect.unit (s := S4) ![0] S1.size inb_S4_S1_0).emb (Shape.Idx.first (numel1_S1.symm ▸ Nat.one_pos)))
      = word m 0 := by
    refine congrArg (m (((0 : Dev nD) : Thread nD τ).loc main_arg0)) (funext fun a => Fin.ext ?_)
    obtain rfl : a = 0 := Subsingleton.elim _ _
    rfl
  have hi : (i 0).val < 1 := (i 0).isLt
  exact (congrArg (fun v : BitVec 32 => ![(Scalar.addi (Scalar.muli v 1#32) (BitVec.ofNat 32 (i 0).val)).toNat, 0]) e).trans
    (by rw [PairRestTable.block_no _ (h 0) _ hi])

theorem at9 (h : ∀ k, (word m k).toNat < 8) (i : grid0.Coords) :
    cc0_transform_9 inb_S4_S1_1 numel1_S1 (tbl m) i = ![(word m 1).toNat * 1 + (i 0).val, 0] := by
  have e : tbl m 0 ((Rect.unit (s := S4) ![1] S1.size inb_S4_S1_1).emb (Shape.Idx.first (numel1_S1.symm ▸ Nat.one_pos)))
      = word m 1 := by
    refine congrArg (m (((0 : Dev nD) : Thread nD τ).loc main_arg0)) (funext fun a => Fin.ext ?_)
    obtain rfl : a = 0 := Subsingleton.elim _ _
    rfl
  have hi : (i 0).val < 1 := (i 0).isLt
  exact (congrArg (fun v : BitVec 32 => ![(Scalar.addi (Scalar.muli v 1#32) (BitVec.ofNat 32 (i 0).val)).toNat, 0]) e).trans
    (by rw [PairRestTable.block_no _ (h 1) _ hi])

theorem at10 (h : ∀ k, (word m k).toNat < 8) (i : grid0.Coords) :
    cc0_transform_10 inb_S4_S1_2 numel1_S1 (tbl m) i = ![(word m 2).toNat * 1 + (i 0).val, 0] := by
  have e : tbl m 0 ((Rect.unit (s := S4) ![2] S1.size inb_S4_S1_2).emb (Shape.Idx.first (numel1_S1.symm ▸ Nat.one_pos)))
      = word m 2 := by
    refine congrArg (m (((0 : Dev nD) : Thread nD τ).loc main_arg0)) (funext fun a => Fin.ext ?_)
    obtain rfl : a = 0 := Subsingleton.elim _ _
    rfl
  have hi : (i 0).val < 1 := (i 0).isLt
  exact (congrArg (fun v : BitVec 32 => ![(Scalar.addi (Scalar.muli v 1#32) (BitVec.ofNat 32 (i 0).val)).toNat, 0]) e).trans
    (by rw [PairRestTable.block_no _ (h 2) _ hi])

theorem at11 (h : ∀ k, (word m k).toNat < 8) (i : grid0.Coords) :
    cc0_transform_11 inb_S4_S1_3 numel1_S1 (tbl m) i = ![(word m 3).toNat * 1 + (i 0).val, 0] := by
  have e : tbl m 0 ((Rect.unit (s := S4) ![3] S1.size inb_S4_S1_3).emb (Shape.Idx.first (numel1_S1.symm ▸ Nat.one_pos)))
      = word m 3 := by
    refine congrArg (m (((0 : Dev nD) : Thread nD τ).loc main_arg0)) (funext fun a => Fin.ext ?_)
    obtain rfl : a = 0 := Subsingleton.elim _ _
    rfl
  have hi : (i 0).val < 1 := (i 0).isLt
  exact (congrArg (fun v : BitVec 32 => ![(Scalar.addi (Scalar.muli v 1#32) (BitVec.ofNat 32 (i 0).val)).toNat, 0]) e).trans
    (by rw [PairRestTable.block_no _ (h 3) _ hi])

theorem ok (h : ∀ k, (word m k).toNat < 8) : Ok m := by
  refine ⟨fun i => ⟨fun a => ?_, .inl rfl⟩, fun i => ⟨fun a => ?_, .inl rfl⟩, fun i => ⟨fun a => ?_, .inl rfl⟩,
    fun i => ⟨fun a => ?_, .inl rfl⟩, fun i => ⟨fun a => ?_, .inl rfl⟩, fun i => ⟨fun a => ?_, .inl rfl⟩,
    fun i => ⟨fun a => ?_, .inl rfl⟩, fun i => ⟨fun a => ?_, .inl rfl⟩, fun i => ⟨fun a => ?_, .inl rfl⟩,
    fun i => ⟨fun a => ?_, .inl rfl⟩, fun i => ⟨fun a => ?_, .inl rfl⟩, fun i => ⟨fun a => ?_, .inl rfl⟩⟩
  · have hi : (i 0).val < 1 := (i 0).isLt
    have hw := h 0
    rw [at0 m h i]
    match a with
    | ⟨0, _⟩ => show ((word m 0).toNat * 1 + (i 0).val + 1) * 128 ≤ 1024; omega
    | ⟨1, _⟩ => show (0 + 1) * 1024 ≤ 1024; omega
  · have hi : (i 0).val < 1 := (i 0).isLt
    have hw := h 1
    rw [at1 m h i]
    match a with
    | ⟨0, _⟩ => show ((word m 1).toNat * 1 + (i 0).val + 1) * 128 ≤ 1024; omega
    | ⟨1, _⟩ => show (0 + 1) * 1024 ≤ 1024; omega
  · have hi : (i 0).val < 1 := (i 0).isLt
    have hw := h 2
    rw [at2 m h i]
    match a with
    | ⟨0, _⟩ => show ((word m 2).toNat * 1 + (i 0).val + 1) * 128 ≤ 1024; omega
    | ⟨1, _⟩ => show (0 + 1) * 1024 ≤ 1024; omega
  · have hi : (i 0).val < 1 := (i 0).isLt
    have hw := h 3
    rw [at3 m h i]
    match a with
    | ⟨0, _⟩ => show ((word m 3).toNat * 1 + (i 0).val + 1) * 128 ≤ 1024; omega
    | ⟨1, _⟩ => show (0 + 1) * 1024 ≤ 1024; omega
  · have hi : (i 0).val < 1 := (i 0).isLt
    have hw := h 0
    rw [at4 m h i]
    match a with
    | ⟨0, _⟩ => show ((word m 0).toNat * 1 + (i 0).val + 1) * 128 ≤ 1024; omega
    | ⟨1, _⟩ => show (0 + 1) * 1024 ≤ 1024; omega
  · have hi : (i 0).val < 1 := (i 0).isLt
    have hw := h 1
    rw [at5 m h i]
    match a with
    | ⟨0, _⟩ => show ((word m 1).toNat * 1 + (i 0).val + 1) * 128 ≤ 1024; omega
    | ⟨1, _⟩ => show (0 + 1) * 1024 ≤ 1024; omega
  · have hi : (i 0).val < 1 := (i 0).isLt
    have hw := h 2
    rw [at6 m h i]
    match a with
    | ⟨0, _⟩ => show ((word m 2).toNat * 1 + (i 0).val + 1) * 128 ≤ 1024; omega
    | ⟨1, _⟩ => show (0 + 1) * 1024 ≤ 1024; omega
  · have hi : (i 0).val < 1 := (i 0).isLt
    have hw := h 3
    rw [at7 m h i]
    match a with
    | ⟨0, _⟩ => show ((word m 3).toNat * 1 + (i 0).val + 1) * 128 ≤ 1024; omega
    | ⟨1, _⟩ => show (0 + 1) * 1024 ≤ 1024; omega
  · have hi : (i 0).val < 1 := (i 0).isLt
    have hw := h 0
    rw [at8 m h i]
    match a with
    | ⟨0, _⟩ => show ((word m 0).toNat * 1 + (i 0).val + 1) * 128 ≤ 1024; omega
    | ⟨1, _⟩ => show (0 + 1) * 256 ≤ 256; omega
  · have hi : (i 0).val < 1 := (i 0).isLt
    have hw := h 1
    rw [at9 m h i]
    match a with
    | ⟨0, _⟩ => show ((word m 1).toNat * 1 + (i 0).val + 1) * 128 ≤ 1024; omega
    | ⟨1, _⟩ => show (0 + 1) * 256 ≤ 256; omega
  · have hi : (i 0).val < 1 := (i 0).isLt
    have hw := h 2
    rw [at10 m h i]
    match a with
    | ⟨0, _⟩ => show ((word m 2).toNat * 1 + (i 0).val + 1) * 128 ≤ 1024; omega
    | ⟨1, _⟩ => show (0 + 1) * 256 ≤ 256; omega
  · have hi : (i 0).val < 1 := (i 0).isLt
    have hw := h 3
    rw [at11 m h i]
    match a with
    | ⟨0, _⟩ => show ((word m 3).toNat * 1 + (i 0).val + 1) * 128 ≤ 1024; omega
    | ⟨1, _⟩ => show (0 + 1) * 256 ≤ 256; omega

end

/-- Each device number is less than 8. -/
theorem lt_of_pre (m : (ℓ : Loc nD τ sig) → Buf (Elt Ideal) ℓ) (h : Cert.Pre_PairRestIdeal m) (k : Fin 4) : (word m k).toNat < 8 := by
  have e := congrFun (h 0) (ix1 k)
  simp only [Pre_in_mesh_rest.fn, andi, cmpi, broadcastInDim, constantI] at e
  exact word_lt _ e

theorem ok_of_pre (m : (ℓ : Loc nD τ sig) → Buf (Elt Ideal) ℓ) (h : Cert.Pre_PairRestIdeal m) : Ok m := ok m (lt_of_pre m h)

end Cert.PairRestIdeal.Table
-- ==== Proof.PairRestRows.lean ====
/-
  The reference of the sums over pairs of devices for three narrower gradients, of 1024 and of 256 columns, read at an index: the rows of the gradient that a device number names, and
  the part that arrived.
-/
import proofs.«01_k».proof.Proof.Gen.PairRestRefIdeal
import Idealize.ShloMosaic.Lib.Pipeline.ValueKit
import Idealize.ShloMosaic.Lib.StableHlo.Run

set_option maxRecDepth 16384

noncomputable section

open Idealize.ShloMosaic Idealize.ShloMosaic.TcCoe Idealize.SL.Sem

namespace Cert.PairRestRefIdeal.Rows1024

open Cert.PairRestRefIdeal Cert.PairRestRefIdeal.Gen

variable (d : IVec S4 32) (g : FVec Ideal S1024x1024 .f32) (l : FVec Ideal S4x128x1024 .f32)

/-- The device numbers as the reference's gather takes them, a negative one counted from the end. -/
def starts : IVec S4x1 32 :=
  broadcastInDim S4x1 ![0] bcast_S4_S4x1_0 (select (cmpi .slt d (broadcastInDim S4 ![] bcast_S_S4 (constantI S_ 32 0#32)))
    (addi d (broadcastInDim S4 ![] bcast_S_S4 (constantI S_ 32 8#32))) d)

/-- The four sums. -/
def sums : FVec Ideal S4x128x1024 .f32 :=
  addf (Host.gather gather_S8x128x1024_S4x1_S4x128x1024_12_0_n_n_0_1_11281024
    (shapeCast _ g shapeCasts_S1024x1024_S8x128x1024) (starts d)) l

/-- The sum the device keeps. -/
def mine : FVec Ideal S128x1024 .f32 :=
  shapeCast _ (extractStridedSlice S1x128x1024 ![0, 0, 0] (sums d g l) slices_S4x128x1024_S1x128x1024_0_0_0)
    shapeCasts_S1x128x1024_S128x1024

/-- The sums it sends on. -/
def send : FVec Ideal S3x128x1024 .bf16 :=
  truncf .bf16 (extractStridedSlice S3x128x1024 ![1, 0, 0] (sums d g l) slices_S4x128x1024_S3x128x1024_1_0_0) bitsLt_bf16_f32

theorem starts_at (k : Fin 4) (h : (d (ix1 k)).toNat < 8) : starts d (ix2 k (0 : Fin 1)) = d (ix1 k) := by
  have e : (BitVec.slt (d (ix1 k)) 0#32) = false := by
    rw [BitVec.slt_eq_decide, decide_eq_false_iff_not, BitVec.toInt_eq_toNat_cond]
    simp only [BitVec.ofNat_eq_ofNat, BitVec.toInt_zero]
    split <;> omega
  pointwise [starts]
  rw [show IntOp.cmpi .slt (d (ix1 k)) 0#32 = 0#1 from by simp only [IntOp.cmpi, e]; rfl]
  rfl

/-- The gather read at an index. -/
theorem gather_at (x : FVec Ideal S8x128x1024 .f32) (n : IVec S4x1 32) (y : S4x128x1024.Idx) :
    Host.gather gather_S8x128x1024_S4x1_S4x128x1024_12_0_n_n_0_1_11281024 x n y
      = x (ix3 ⟨min (n (ix2 (y 0) (0 : Fin 1))).toInt.toNat 7, by omega⟩ (y 1) (y 2)) := by
  unfold Host.gather
  congr 1
  funext a
  refine Fin.ext ?_
  show GatherDims.start _ y n a + GatherDims.batchCoord _ y a + GatherDims.offCoord _ y a = _
  rw [GatherDims.batchCoord_eq_zero _ _ _ List.not_mem_nil]
  have h012 : a = 0 ∨ a = 1 ∨ a = 2 := by
    match a with
    | ⟨0, _⟩ => exact .inl rfl
    | ⟨1, _⟩ => exact .inr (.inl rfl)
    | ⟨2, _⟩ => exact .inr (.inr rfl)
  rcases h012 with rfl | rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 3) ∈ gather_S8x128x1024_S4x1_S4x128x1024_12_0_n_n_0_1_11281024.startIndexMap from
      List.mem_singleton.mpr rfl)]
    refine congrArg (fun i => min (n i).toInt.toNat 7) (funext fun b => Fin.ext ?_)
    match b with
    | ⟨0, _⟩ => rfl
    | ⟨1, _⟩ => rfl
  · unfold GatherDims.start
    rw [dif_neg (show ((1 : Fin 3) ∉ gather_S8x128x1024_S4x1_S4x128x1024_12_0_n_n_0_1_11281024.startIndexMap) from
      fun h => absurd (List.mem_singleton.mp h) (by decide))]
    simp only [Nat.zero_add]
    rfl
  · unfold GatherDims.start
    rw [dif_neg (show ((2 : Fin 3) ∉ gather_S8x128x1024_S4x1_S4x128x1024_12_0_n_n_0_1_11281024.startIndexMap) from
      fun h => absurd (List.mem_singleton.mp h) (by decide))]
    simp only [Nat.zero_add]
    rfl

/-- The row of the gradient at row `r` of the block of a device number. -/
def row (k : Fin 4) (r : Fin 128) : Fin 1024 := ⟨min (d (ix1 k)).toNat 7 * 128 + r.val, by omega⟩

/-- A sum at an index. -/
def part (k : Fin 4) (r : Fin 128) (c : Fin 1024) : EReal := g (ix2 (row d k r) c) + l (ix3 k r c)

theorem sums_at (k : Fin 4) (r : Fin 128) (c : Fin 1024) (h : (d (ix1 k)).toNat < 8) :
    sums d g l (ix3 k r c) = part d g l k r c := by
  show Host.gather _ _ _ (ix3 k r c) + l (ix3 k r c) = _
  rw [gather_at]
  refine congrArg (· + l (ix3 k r c)) ?_
  refine shapeCast_apply g shapeCasts_S1024x1024_S8x128x1024 _ (ix2 (row d k r) c) ?_
  rw [Shape.rowMajor_val_three, Shape.rowMajor_val_two]
  show (min (d (ix1 k)).toNat 7 * 128 + r.val) * 1024 + c.val
    = (min (starts d (ix2 k (0 : Fin 1))).toInt.toNat 7 * 128 + r.val) * 1024 + c.val
  rw [starts_at d k h, BitVec.toInt_eq_toNat_cond, if_pos (by omega), Int.toNat_natCast]

theorem mine_at (h : ∀ k, (d (ix1 k)).toNat < 8) (i : S128x1024.Idx) :
    mine d g l i = part d g l 0 (i 0) (i 1) := by
  rw [← sums_at d g l 0 (i 0) (i 1) (h 0), eq_ix2 i]
  pointwise [mine]

theorem send_at (h : ∀ k, (d (ix1 k)).toNat < 8) (i : S3x128x1024.Idx) :
    send d g l i = part d g l ((i 0).succ) (i 1) (i 2) := by
  rw [← sums_at d g l ((i 0).succ) (i 1) (i 2) (h _), eq_ix3 i]
  pointwise [send]
  exact congrArg (fun k => sums d g l (ix3 k (i 1) (i 2))) (Fin.ext (Nat.add_comm _ _))

end Cert.PairRestRefIdeal.Rows1024

namespace Cert.PairRestRefIdeal.Rows256

open Cert.PairRestRefIdeal Cert.PairRestRefIdeal.Gen

variable (d : IVec S4 32) (g : FVec Ideal S1024x256 .f32) (l : FVec Ideal S4x128x256 .f32)

/-- The device numbers as the reference's gather takes them, a negative one counted from the end. -/
def starts : IVec S4x1 32 :=
  broadcastInDim S4x1 ![0] bcast_S4_S4x1_0 (select (cmpi .slt d (broadcastInDim S4 ![] bcast_S_S4 (constantI S_ 32 0#32)))
    (addi d (broadcastInDim S4 ![] bcast_S_S4 (constantI S_ 32 8#32))) d)

/-- The four sums. -/
def sums : FVec Ideal S4x128x256 .f32 :=
  addf (Host.gather gather_S8x128x256_S4x1_S4x128x256_12_0_n_n_0_1_1128256
    (shapeCast _ g shapeCasts_S1024x256_S8x128x256) (starts d)) l

/-- The sum the device keeps. -/
def mine : FVec Ideal S128x256 .f32 :=
  shapeCast _ (extractStridedSlice S1x128x256 ![0, 0, 0] (sums d g l) slices_S4x128x256_S1x128x256_0_0_0)
    shapeCasts_S1x128x256_S128x256

/-- The sums it sends on. -/
def send : FVec Ideal S3x128x256 .bf16 :=
  truncf .bf16 (extractStridedSlice S3x128x256 ![1, 0, 0] (sums d g l) slices_S4x128x256_S3x128x256_1_0_0) bitsLt_bf16_f32

theorem starts_at (k : Fin 4) (h : (d (ix1 k)).toNat < 8) : starts d (ix2 k (0 : Fin 1)) = d (ix1 k) := by
  have e : (BitVec.slt (d (ix1 k)) 0#32) = false := by
    rw [BitVec.slt_eq_decide, decide_eq_false_iff_not, BitVec.toInt_eq_toNat_cond]
    simp only [BitVec.ofNat_eq_ofNat, BitVec.toInt_zero]
    split <;> omega
  pointwise [starts]
  rw [show IntOp.cmpi .slt (d (ix1 k)) 0#32 = 0#1 from by simp only [IntOp.cmpi, e]; rfl]
  rfl

/-- The gather read at an index. -/
theorem gather_at (x : FVec Ideal S8x128x256 .f32) (n : IVec S4x1 32) (y : S4x128x256.Idx) :
    Host.gather gather_S8x128x256_S4x1_S4x128x256_12_0_n_n_0_1_1128256 x n y
      = x (ix3 ⟨min (n (ix2 (y 0) (0 : Fin 1))).toInt.toNat 7, by omega⟩ (y 1) (y 2)) := by
  unfold Host.gather
  congr 1
  funext a
  refine Fin.ext ?_
  show GatherDims.start _ y n a + GatherDims.batchCoord _ y a + GatherDims.offCoord _ y a = _
  rw [GatherDims.batchCoord_eq_zero _ _ _ List.not_mem_nil]
  have h012 : a = 0 ∨ a = 1 ∨ a = 2 := by
    match a with
    | ⟨0, _⟩ => exact .inl rfl
    | ⟨1, _⟩ => exact .inr (.inl rfl)
    | ⟨2, _⟩ => exact .inr (.inr rfl)
  rcases h012 with rfl | rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 3) ∈ gather_S8x128x256_S4x1_S4x128x256_12_0_n_n_0_1_1128256.startIndexMap from
      List.mem_singleton.mpr rfl)]
    refine congrArg (fun i => min (n i).toInt.toNat 7) (funext fun b => Fin.ext ?_)
    match b with
    | ⟨0, _⟩ => rfl
    | ⟨1, _⟩ => rfl
  · unfold GatherDims.start
    rw [dif_neg (show ((1 : Fin 3) ∉ gather_S8x128x256_S4x1_S4x128x256_12_0_n_n_0_1_1128256.startIndexMap) from
      fun h => absurd (List.mem_singleton.mp h) (by decide))]
    simp only [Nat.zero_add]
    rfl
  · unfold GatherDims.start
    rw [dif_neg (show ((2 : Fin 3) ∉ gather_S8x128x256_S4x1_S4x128x256_12_0_n_n_0_1_1128256.startIndexMap) from
      fun h => absurd (List.mem_singleton.mp h) (by decide))]
    simp only [Nat.zero_add]
    rfl

/-- The row of the gradient at row `r` of the block of a device number. -/
def row (k : Fin 4) (r : Fin 128) : Fin 1024 := ⟨min (d (ix1 k)).toNat 7 * 128 + r.val, by omega⟩

/-- A sum at an index. -/
def part (k : Fin 4) (r : Fin 128) (c : Fin 256) : EReal := g (ix2 (row d k r) c) + l (ix3 k r c)

theorem sums_at (k : Fin 4) (r : Fin 128) (c : Fin 256) (h : (d (ix1 k)).toNat < 8) :
    sums d g l (ix3 k r c) = part d g l k r c := by
  show Host.gather _ _ _ (ix3 k r c) + l (ix3 k r c) = _
  rw [gather_at]
  refine congrArg (· + l (ix3 k r c)) ?_
  refine shapeCast_apply g shapeCasts_S1024x256_S8x128x256 _ (ix2 (row d k r) c) ?_
  rw [Shape.rowMajor_val_three, Shape.rowMajor_val_two]
  show (min (d (ix1 k)).toNat 7 * 128 + r.val) * 256 + c.val
    = (min (starts d (ix2 k (0 : Fin 1))).toInt.toNat 7 * 128 + r.val) * 256 + c.val
  rw [starts_at d k h, BitVec.toInt_eq_toNat_cond, if_pos (by omega), Int.toNat_natCast]

theorem mine_at (h : ∀ k, (d (ix1 k)).toNat < 8) (i : S128x256.Idx) :
    mine d g l i = part d g l 0 (i 0) (i 1) := by
  rw [← sums_at d g l 0 (i 0) (i 1) (h 0), eq_ix2 i]
  pointwise [mine]

theorem send_at (h : ∀ k, (d (ix1 k)).toNat < 8) (i : S3x128x256.Idx) :
    send d g l i = part d g l ((i 0).succ) (i 1) (i 2) := by
  rw [← sums_at d g l ((i 0).succ) (i 1) (i 2) (h _), eq_ix3 i]
  pointwise [send]
  exact congrArg (fun k => sums d g l (ix3 k (i 1) (i 2))) (Fin.ext (Nat.add_comm _ _))

end Cert.PairRestRefIdeal.Rows256
-- ==== Proof.PairRestValue.lean ====
/-
  The sums over pairs of devices of three narrower weight gradients: to each of four parts of each gradient, which the table
  of device numbers names, the part that arrived is added. One grid point, 128 rows to a part. `ends`: the run ends with the
  reference's arrays.
-/
import proofs.«01_k».proof.Proof.PairRestTable
import proofs.«01_k».proof.Proof.PairRestRows

set_option maxRecDepth 16384

noncomputable section

open Idealize.ShloMosaic Idealize.ShloMosaic.TcCoe Idealize.SL.Sem
open Idealize.ShloMosaic.Pipeline (Dat)

namespace Cert.PairRestIdeal.Rows

open Cert.PairRestIdeal Cert.PairRestIdeal.Gen Cert.PairRestIdeal.Table

variable (m : (ℓ : Loc nD τ sig) → Buf (Elt Ideal) ℓ)

/-- The windows that the table does not move. -/
theorem idx12 : ∀ t : Fin grid0.N, cc0_transform_12 (grid0.coords t) = ![0, t.val, 0] := by decide +kernel
theorem idx13 : ∀ t : Fin grid0.N, cc0_transform_13 (grid0.coords t) = ![0, t.val, 0] := by decide +kernel
theorem idx14 : ∀ t : Fin grid0.N, cc0_transform_14 (grid0.coords t) = ![0, t.val, 0] := by decide +kernel
theorem idx16 : ∀ t : Fin grid0.N, cc0_transform_16 (grid0.coords t) = ![0, t.val, 0] := by decide +kernel
theorem idx18 : ∀ t : Fin grid0.N, cc0_transform_18 (grid0.coords t) = ![0, t.val, 0] := by decide +kernel
theorem idx20 : ∀ t : Fin grid0.N, cc0_transform_20 (grid0.coords t) = ![0, t.val, 0] := by decide +kernel
theorem idx15 : ∀ t : Fin grid0.N, cc0_transform_15 (grid0.coords t) = ![t.val, 0] := by decide +kernel
theorem idx17 : ∀ t : Fin grid0.N, cc0_transform_17 (grid0.coords t) = ![t.val, 0] := by decide +kernel
theorem idx19 : ∀ t : Fin grid0.N, cc0_transform_19 (grid0.coords t) = ![t.val, 0] := by decide +kernel
theorem coord : ∀ t : Fin grid0.N, (grid0.coords t 0).val = t.val ∧ t.val < 1 := by decide +kernel

/-- Row `r` of the block of the grid point. -/
def down (n : Nat) (h : n < 1) (r : Fin 128) : Fin 128 := ⟨n * 128 + r.val, by omega⟩

/-- The arguments: the device numbers, the gradients and the parts that arrived. -/
abbrev arg0 : IVec S4 32 := m (((0 : Dev nD) : Thread nD τ).loc main_arg0)
abbrev arg1 : FVec Ideal S1024x1024 .f32 := m (((0 : Dev nD) : Thread nD τ).loc main_arg1)
abbrev arg2 : FVec Ideal S1024x1024 .f32 := m (((0 : Dev nD) : Thread nD τ).loc main_arg2)
abbrev arg3 : FVec Ideal S1024x256 .f32 := m (((0 : Dev nD) : Thread nD τ).loc main_arg3)
abbrev arg4 : FVec Ideal S4x128x1024 .f32 := m (((0 : Dev nD) : Thread nD τ).loc main_arg4)
abbrev arg5 : FVec Ideal S4x128x1024 .f32 := m (((0 : Dev nD) : Thread nD τ).loc main_arg5)
abbrev arg6 : FVec Ideal S4x128x256 .f32 := m (((0 : Dev nD) : Thread nD τ).loc main_arg6)

theorem pay_mine0 (x : FVec Ideal S128x1024 .f32) (p : FVec Ideal S1x128x1024 .f32) (y : S128x1024.Idx) :
    k0_pay3 (F := Ideal) x p y = x y + p (ix3 (0 : Fin 1) (y 0) (y 1)) := by
  rw [eq_ix2 y]
  pointwise [k0_pay3]

theorem pay_send01 (x : FVec Ideal S128x1024 .f32) (p : FVec Ideal S1x128x1024 .f32) (y : S1x128x1024.Idx) :
    k0_pay4 (F := Ideal) x p y = x (ix2 (y 1) (y 2)) + p (ix3 (0 : Fin 1) (y 1) (y 2)) := by
  obtain ⟨a, b, rfl⟩ : ∃ a b, y = ix3 (0 : Fin 1) a b := ⟨y 1, y 2, (eq_ix3 y).trans (by rw [Fin.fin_one_eq_zero (y 0)])⟩
  pointwise [k0_pay4]

theorem pay_send02 (x : FVec Ideal S128x1024 .f32) (p : FVec Ideal S1x128x1024 .f32) (y : S1x128x1024.Idx) :
    k0_pay5 (F := Ideal) x p y = x (ix2 (y 1) (y 2)) + p (ix3 (0 : Fin 1) (y 1) (y 2)) := by
  obtain ⟨a, b, rfl⟩ : ∃ a b, y = ix3 (0 : Fin 1) a b := ⟨y 1, y 2, (eq_ix3 y).trans (by rw [Fin.fin_one_eq_zero (y 0)])⟩
  pointwise [k0_pay5]

theorem pay_send03 (x : FVec Ideal S128x1024 .f32) (p : FVec Ideal S1x128x1024 .f32) (y : S1x128x1024.Idx) :
    k0_pay7 (F := Ideal) (k0_pay6 (F := Ideal) x p) y = x (ix2 (y 1) (y 2)) + p (ix3 (0 : Fin 1) (y 1) (y 2)) := by
  obtain ⟨a, b, rfl⟩ : ∃ a b, y = ix3 (0 : Fin 1) a b := ⟨y 1, y 2, (eq_ix3 y).trans (by rw [Fin.fin_one_eq_zero (y 0)])⟩
  pointwise [k0_pay7, k0_pay6]

theorem pay_mine1 (x : FVec Ideal S128x1024 .f32) (p : FVec Ideal S1x128x1024 .f32) (y : S128x1024.Idx) :
    k0_pay8 (F := Ideal) x p y = x y + p (ix3 (0 : Fin 1) (y 0) (y 1)) := by
  rw [eq_ix2 y]
  pointwise [k0_pay8]

theorem pay_send11 (x : FVec Ideal S128x1024 .f32) (p : FVec Ideal S1x128x1024 .f32) (y : S1x128x1024.Idx) :
    k0_pay9 (F := Ideal) x p y = x (ix2 (y 1) (y 2)) + p (ix3 (0 : Fin 1) (y 1) (y 2)) := by
  obtain ⟨a, b, rfl⟩ : ∃ a b, y = ix3 (0 : Fin 1) a b := ⟨y 1, y 2, (eq_ix3 y).trans (by rw [Fin.fin_one_eq_zero (y 0)])⟩
  pointwise [k0_pay9]

theorem pay_send12 (x : FVec Ideal S128x1024 .f32) (p : FVec Ideal S1x128x1024 .f32) (y : S1x128x1024.Idx) :
    k0_pay10 (F := Ideal) x p y = x (ix2 (y 1) (y 2)) + p (ix3 (0 : Fin 1) (y 1) (y 2)) := by
  obtain ⟨a, b, rfl⟩ : ∃ a b, y = ix3 (0 : Fin 1) a b := ⟨y 1, y 2, (eq_ix3 y).trans (by rw [Fin.fin_one_eq_zero (y 0)])⟩
  pointwise [k0_pay10]

theorem pay_send13 (x : FVec Ideal S128x1024 .f32) (p : FVec Ideal S1x128x1024 .f32) (y : S1x128x1024.Idx) :
    k0_pay11 (F := Ideal) x p y = x (ix2 (y 1) (y 2)) + p (ix3 (0 : Fin 1) (y 1) (y 2)) := by
  obtain ⟨a, b, rfl⟩ : ∃ a b, y = ix3 (0 : Fin 1) a b := ⟨y 1, y 2, (eq_ix3 y).trans (by rw [Fin.fin_one_eq_zero (y 0)])⟩
  pointwise [k0_pay11]

theorem pay_mine2 (x : FVec Ideal S128x256 .f32) (p : FVec Ideal S1x128x256 .f32) (y : S128x256.Idx) :
    k0_pay12 (F := Ideal) x p y = x y + p (ix3 (0 : Fin 1) (y 0) (y 1)) := by
  rw [eq_ix2 y]
  pointwise [k0_pay12]

theorem pay_send21 (x : FVec Ideal S128x256 .f32) (p : FVec Ideal S1x128x256 .f32) (y : S1x128x256.Idx) :
    k0_pay13 (F := Ideal) x p y = x (ix2 (y 1) (y 2)) + p (ix3 (0 : Fin 1) (y 1) (y 2)) := by
  obtain ⟨a, b, rfl⟩ : ∃ a b, y = ix3 (0 : Fin 1) a b := ⟨y 1, y 2, (eq_ix3 y).trans (by rw [Fin.fin_one_eq_zero (y 0)])⟩
  pointwise [k0_pay13]

theorem pay_send22 (x : FVec Ideal S128x256 .f32) (p : FVec Ideal S1x128x256 .f32) (y : S1x128x256.Idx) :
    k0_pay1 (F := Ideal) (k0_pay14 (F := Ideal) x p) y = x (ix2 (y 1) (y 2)) + p (ix3 (0 : Fin 1) (y 1) (y 2)) := by
  obtain ⟨a, b, rfl⟩ : ∃ a b, y = ix3 (0 : Fin 1) a b := ⟨y 1, y 2, (eq_ix3 y).trans (by rw [Fin.fin_one_eq_zero (y 0)])⟩
  pointwise [k0_pay1, k0_pay14]

theorem pay_send23 (x : FVec Ideal S128x256 .f32) (p : FVec Ideal S1x128x256 .f32) (y : S1x128x256.Idx) :
    k0_pay2 (F := Ideal) x p y = x (ix2 (y 1) (y 2)) + p (ix3 (0 : Fin 1) (y 1) (y 2)) := by
  obtain ⟨a, b, rfl⟩ : ∃ a b, y = ix3 (0 : Fin 1) a b := ⟨y 1, y 2, (eq_ix3 y).trans (by rw [Fin.fin_one_eq_zero (y 0)])⟩
  pointwise [k0_pay2]

variable (hO : Ok m) (hw : ∀ k, (word m k).toNat < 8)

include hw

theorem iblk0_at (t : Fin (cfgM m hO).N) (y : S128x1024.Idx) :
    iblk m hO 0 0 t y = arg1 m (ix2 (Cert.PairRestRefIdeal.Rows1024.row (arg0 m) 0 (down t.val t.isLt (y 0))) (y 1)) := by
  have hk : min (word m 0).toNat 7 = (word m 0).toNat := by have := hw 0; omega
  have ei : (grid0.coords t 0).val = t.val := (coord t).1
  have e : ((cfgM m hO).win 0).index t = ![(word m 0).toNat * 1 + t.val, 0] := by
    rw [← ei]; exact at0 m hw (grid0.coords t)
  refine congrArg (arg1 m) (funext fun a => Fin.ext ?_)
  refine (((cfgM m hO).win 0).rect_emb_val t y a rfl).trans ?_
  rw [e]
  match a with
  | ⟨0, _⟩ =>
    show ((word m 0).toNat * 1 + t.val) * 128 + (y 0).val = min (word m 0).toNat 7 * 128 + (t.val * 128 + (y 0).val)
    rw [hk]; omega
  | ⟨1, _⟩ => exact (congrArg (· + (y 1).val) (Nat.zero_mul 1024)).trans (Nat.zero_add _)

theorem iblk1_at (t : Fin (cfgM m hO).N) (y : S128x1024.Idx) :
    iblk m hO 0 1 t y = arg1 m (ix2 (Cert.PairRestRefIdeal.Rows1024.row (arg0 m) 1 (down t.val t.isLt (y 0))) (y 1)) := by
  have hk : min (word m 1).toNat 7 = (word m 1).toNat := by have := hw 1; omega
  have ei : (grid0.coords t 0).val = t.val := (coord t).1
  have e : ((cfgM m hO).win 1).index t = ![(word m 1).toNat * 1 + t.val, 0] := by
    rw [← ei]; exact at1 m hw (grid0.coords t)
  refine congrArg (arg1 m) (funext fun a => Fin.ext ?_)
  refine (((cfgM m hO).win 1).rect_emb_val t y a rfl).trans ?_
  rw [e]
  match a with
  | ⟨0, _⟩ =>
    show ((word m 1).toNat * 1 + t.val) * 128 + (y 0).val = min (word m 1).toNat 7 * 128 + (t.val * 128 + (y 0).val)
    rw [hk]; omega
  | ⟨1, _⟩ => exact (congrArg (· + (y 1).val) (Nat.zero_mul 1024)).trans (Nat.zero_add _)

theorem iblk2_at (t : Fin (cfgM m hO).N) (y : S128x1024.Idx) :
    iblk m hO 0 2 t y = arg1 m (ix2 (Cert.PairRestRefIdeal.Rows1024.row (arg0 m) 2 (down t.val t.isLt (y 0))) (y 1)) := by
  have hk : min (word m 2).toNat 7 = (word m 2).toNat := by have := hw 2; omega
  have ei : (grid0.coords t 0).val = t.val := (coord t).1
  have e : ((cfgM m hO).win 2).index t = ![(word m 2).toNat * 1 + t.val, 0] := by
    rw [← ei]; exact at2 m hw (grid0.coords t)
  refine congrArg (arg1 m) (funext fun a => Fin.ext ?_)
  refine (((cfgM m hO).win 2).rect_emb_val t y a rfl).trans ?_
  rw [e]
  match a with
  | ⟨0, _⟩ =>
    show ((word m 2).toNat * 1 + t.val) * 128 + (y 0).val = min (word m 2).toNat 7 * 128 + (t.val * 128 + (y 0).val)
    rw [hk]; omega
  | ⟨1, _⟩ => exact (congrArg (· + (y 1).val) (Nat.zero_mul 1024)).trans (Nat.zero_add _)

theorem iblk3_at (t : Fin (cfgM m hO).N) (y : S128x1024.Idx) :
    iblk m hO 0 3 t y = arg1 m (ix2 (Cert.PairRestRefIdeal.Rows1024.row (arg0 m) 3 (down t.val t.isLt (y 0))) (y 1)) := by
  have hk : min (word m 3).toNat 7 = (word m 3).toNat := by have := hw 3; omega
  have ei : (grid0.coords t 0).val = t.val := (coord t).1
  have e : ((cfgM m hO).win 3).index t = ![(word m 3).toNat * 1 + t.val, 0] := by
    rw [← ei]; exact at3 m hw (grid0.coords t)
  refine congrArg (arg1 m) (funext fun a => Fin.ext ?_)
  refine (((cfgM m hO).win 3).rect_emb_val t y a rfl).trans ?_
  rw [e]
  match a with
  | ⟨0, _⟩ =>
    show ((word m 3).toNat * 1 + t.val) * 128 + (y 0).val = min (word m 3).toNat 7 * 128 + (t.val * 128 + (y 0).val)
    rw [hk]; omega
  | ⟨1, _⟩ => exact (congrArg (· + (y 1).val) (Nat.zero_mul 1024)).trans (Nat.zero_add _)

theorem iblk4_at (t : Fin (cfgM m hO).N) (y : S128x1024.Idx) :
    iblk m hO 0 4 t y = arg2 m (ix2 (Cert.PairRestRefIdeal.Rows1024.row (arg0 m) 0 (down t.val t.isLt (y 0))) (y 1)) := by
  have hk : min (word m 0).toNat 7 = (word m 0).toNat := by have := hw 0; omega
  have ei : (grid0.coords t 0).val = t.val := (coord t).1
  have e : ((cfgM m hO).win 4).index t = ![(word m 0).toNat * 1 + t.val, 0] := by
    rw [← ei]; exact at4 m hw (grid0.coords t)
  refine congrArg (arg2 m) (funext fun a => Fin.ext ?_)
  refine (((cfgM m hO).win 4).rect_emb_val t y a rfl).trans ?_
  rw [e]
  match a with
  | ⟨0, _⟩ =>
    show ((word m 0).toNat * 1 + t.val) * 128 + (y 0).val = min (word m 0).toNat 7 * 128 + (t.val * 128 + (y 0).val)
    rw [hk]; omega
  | ⟨1, _⟩ => exact (congrArg (· + (y 1).val) (Nat.zero_mul 1024)).trans (Nat.zero_add _)

theorem iblk5_at (t : Fin (cfgM m hO).N) (y : S128x1024.Idx) :
    iblk m hO 0 5 t y = arg2 m (ix2 (Cert.PairRestRefIdeal.Rows1024.row (arg0 m) 1 (down t.val t.isLt (y 0))) (y 1)) := by
  have hk : min (word m 1).toNat 7 = (word m 1).toNat := by have := hw 1; omega
  have ei : (grid0.coords t 0).val = t.val := (coord t).1
  have e : ((cfgM m hO).win 5).index t = ![(word m 1).toNat * 1 + t.val, 0] := by
    rw [← ei]; exact at5 m hw (grid0.coords t)
  refine congrArg (arg2 m) (funext fun a => Fin.ext ?_)
  refine (((cfgM m hO).win 5).rect_emb_val t y a rfl).trans ?_
  rw [e]
  match a with
  | ⟨0, _⟩ =>
    show ((word m 1).toNat * 1 + t.val) * 128 + (y 0).val = min (word m 1).toNat 7 * 128 + (t.val * 128 + (y 0).val)
    rw [hk]; omega
  | ⟨1, _⟩ => exact (congrArg (· + (y 1).val) (Nat.zero_mul 1024)).trans (Nat.zero_add _)

theorem iblk6_at (t : Fin (cfgM m hO).N) (y : S128x1024.Idx) :
    iblk m hO 0 6 t y = arg2 m (ix2 (Cert.PairRestRefIdeal.Rows1024.row (arg0 m) 2 (down t.val t.isLt (y 0))) (y 1)) := by
  have hk : min (word m 2).toNat 7 = (word m 2).toNat := by have := hw 2; omega
  have ei : (grid0.coords t 0).val = t.val := (coord t).1
  have e : ((cfgM m hO).win 6).index t = ![(word m 2).toNat * 1 + t.val, 0] := by
    rw [← ei]; exact at6 m hw (grid0.coords t)
  refine congrArg (arg2 m) (funext fun a => Fin.ext ?_)
  refine (((cfgM m hO).win 6).rect_emb_val t y a rfl).trans ?_
  rw [e]
  match a with
  | ⟨0, _⟩ =>
    show ((word m 2).toNat * 1 + t.val) * 128 + (y 0).val = min (word m 2).toNat 7 * 128 + (t.val * 128 + (y 0).val)
    rw [hk]; omega
  | ⟨1, _⟩ => exact (congrArg (· + (y 1).val) (Nat.zero_mul 1024)).trans (Nat.zero_add _)

theorem iblk7_at (t : Fin (cfgM m hO).N) (y : S128x1024.Idx) :
    iblk m hO 0 7 t y = arg2 m (ix2 (Cert.PairRestRefIdeal.Rows1024.row (arg0 m) 3 (down t.val t.isLt (y 0))) (y 1)) := by
  have hk : min (word m 3).toNat 7 = (word m 3).toNat := by have := hw 3; omega
  have ei : (grid0.coords t 0).val = t.val := (coord t).1
  have e : ((cfgM m hO).win 7).index t = ![(word m 3).toNat * 1 + t.val, 0] := by
    rw [← ei]; exact at7 m hw (grid0.coords t)
  refine congrArg (arg2 m) (funext fun a => Fin.ext ?_)
  refine (((cfgM m hO).win 7).rect_emb_val t y a rfl).trans ?_
  rw [e]
  match a with
  | ⟨0, _⟩ =>
    show ((word m 3).toNat * 1 + t.val) * 128 + (y 0).val = min (word m 3).toNat 7 * 128 + (t.val * 128 + (y 0).val)
    rw [hk]; omega
  | ⟨1, _⟩ => exact (congrArg (· + (y 1).val) (Nat.zero_mul 1024)).trans (Nat.zero_add _)

theorem iblk8_at (t : Fin (cfgM m hO).N) (y : S128x256.Idx) :
    iblk m hO 0 8 t y = arg3 m (ix2 (Cert.PairRestRefIdeal.Rows256.row (arg0 m) 0 (down t.val t.isLt (y 0))) (y 1)) := by
  have hk : min (word m 0).toNat 7 = (word m 0).toNat := by have := hw 0; omega
  have ei : (grid0.coords t 0).val = t.val := (coord t).1
  have e : ((cfgM m hO).win 8).index t = ![(word m 0).toNat * 1 + t.val, 0] := by
    rw [← ei]; exact at8 m hw (grid0.coords t)
  refine congrArg (arg3 m) (funext fun a => Fin.ext ?_)
  refine (((cfgM m hO).win 8).rect_emb_val t y a rfl).trans ?_
  rw [e]
  match a with
  | ⟨0, _⟩ =>
    show ((word m 0).toNat * 1 + t.val) * 128 + (y 0).val = min (word m 0).toNat 7 * 128 + (t.val * 128 + (y 0).val)
    rw [hk]; omega
  | ⟨1, _⟩ => exact (congrArg (· + (y 1).val) (Nat.zero_mul 256)).trans (Nat.zero_add _)

theorem iblk9_at (t : Fin (cfgM m hO).N) (y : S128x256.Idx) :
    iblk m hO 0 9 t y = arg3 m (ix2 (Cert.PairRestRefIdeal.Rows256.row (arg0 m) 1 (down t.val t.isLt (y 0))) (y 1)) := by
  have hk : min (word m 1).toNat 7 = (word m 1).toNat := by have := hw 1; omega
  have ei : (grid0.coords t 0).val = t.val := (coord t).1
  have e : ((cfgM m hO).win 9).index t = ![(word m 1).toNat * 1 + t.val, 0] := by
    rw [← ei]; exact at9 m hw (grid0.coords t)
  refine congrArg (arg3 m) (funext fun a => Fin.ext ?_)
  refine (((cfgM m hO).win 9).rect_emb_val t y a rfl).trans ?_
  rw [e]
  match a with
  | ⟨0, _⟩ =>
    show ((word m 1).toNat * 1 + t.val) * 128 + (y 0).val = min (word m 1).toNat 7 * 128 + (t.val * 128 + (y 0).val)
    rw [hk]; omega
  | ⟨1, _⟩ => exact (congrArg (· + (y 1).val) (Nat.zero_mul 256)).trans (Nat.zero_add _)

theorem iblk10_at (t : Fin (cfgM m hO).N) (y : S128x256.Idx) :
    iblk m hO 0 10 t y = arg3 m (ix2 (Cert.PairRestRefIdeal.Rows256.row (arg0 m) 2 (down t.val t.isLt (y 0))) (y 1)) := by
  have hk : min (word m 2).toNat 7 = (word m 2).toNat := by have := hw 2; omega
  have ei : (grid0.coords t 0).val = t.val := (coord t).1
  have e : ((cfgM m hO).win 10).index t = ![(word m 2).toNat * 1 + t.val, 0] := by
    rw [← ei]; exact at10 m hw (grid0.coords t)
  refine congrArg (arg3 m) (funext fun a => Fin.ext ?_)
  refine (((cfgM m hO).win 10).rect_emb_val t y a rfl).trans ?_
  rw [e]
  match a with
  | ⟨0, _⟩ =>
    show ((word m 2).toNat * 1 + t.val) * 128 + (y 0).val = min (word m 2).toNat 7 * 128 + (t.val * 128 + (y 0).val)
    rw [hk]; omega
  | ⟨1, _⟩ => exact (congrArg (· + (y 1).val) (Nat.zero_mul 256)).trans (Nat.zero_add _)

theorem iblk11_at (t : Fin (cfgM m hO).N) (y : S128x256.Idx) :
    iblk m hO 0 11 t y = arg3 m (ix2 (Cert.PairRestRefIdeal.Rows256.row (arg0 m) 3 (down t.val t.isLt (y 0))) (y 1)) := by
  have hk : min (word m 3).toNat 7 = (word m 3).toNat := by have := hw 3; omega
  have ei : (grid0.coords t 0).val = t.val := (coord t).1
  have e : ((cfgM m hO).win 11).index t = ![(word m 3).toNat * 1 + t.val, 0] := by
    rw [← ei]; exact at11 m hw (grid0.coords t)
  refine congrArg (arg3 m) (funext fun a => Fin.ext ?_)
  refine (((cfgM m hO).win 11).rect_emb_val t y a rfl).trans ?_
  rw [e]
  match a with
  | ⟨0, _⟩ =>
    show ((word m 3).toNat * 1 + t.val) * 128 + (y 0).val = min (word m 3).toNat 7 * 128 + (t.val * 128 + (y 0).val)
    rw [hk]; omega
  | ⟨1, _⟩ => exact (congrArg (· + (y 1).val) (Nat.zero_mul 256)).trans (Nat.zero_add _)

omit hw

theorem iblk12_at (t : Fin (cfgM m hO).N) (y : S4x128x1024.Idx) :
    iblk m hO 0 12 t y = arg4 m (ix3 (y 0) (down t.val t.isLt (y 1)) (y 2)) := by
  have e : ((cfgM m hO).win 12).index t = ![0, t.val, 0] := idx12 t
  refine congrArg (arg4 m) (funext fun a => Fin.ext ?_)
  refine (((cfgM m hO).win 12).rect_emb_val t y a rfl).trans ?_
  rw [e]
  match a with
  | ⟨0, _⟩ => exact (congrArg (· + (y 0).val) (Nat.zero_mul 4)).trans (Nat.zero_add _)
  | ⟨1, _⟩ => rfl
  | ⟨2, _⟩ => exact (congrArg (· + (y 2).val) (Nat.zero_mul 1024)).trans (Nat.zero_add _)

theorem iblk12_at' (t : Fin (cfgM m hO).N) (y : S4x128x1024.Idx) (k : Fin 4) (r : Fin 128) (q : Fin 1024)
    (hk : (y 0).val = k.val) (hr : (y 1).val = r.val) (hq : (y 2).val = q.val) :
    iblk m hO 0 12 t y = arg4 m (ix3 k (down t.val t.isLt r) q) := by
  obtain rfl : y = ix3 k r q := (eq_ix3 y).trans (by rw [Fin.ext hk, Fin.ext hr, Fin.ext hq])
  exact iblk12_at m hO t _

theorem emb15 (t : Fin (cfgM m hO).N) (y : S128x1024.Idx) :
    (((cfgM m hO).win 15).blk t).view.emb y = (ix2 (down t.val t.isLt (y 0)) (y 1) : S128x1024.Idx) := by
  have e : ((cfgM m hO).win 15).index t = ![t.val, 0] := idx15 t
  refine funext fun a => Fin.ext ?_
  refine (((cfgM m hO).win 15).rect_emb_val t y a rfl).trans ?_
  rw [e]
  match a with
  | ⟨0, _⟩ => rfl
  | ⟨1, _⟩ => exact (congrArg (· + (y 1).val) (Nat.zero_mul 1024)).trans (Nat.zero_add _)

theorem emb16 (t : Fin (cfgM m hO).N) (y : S3x128x1024.Idx) :
    (((cfgM m hO).win 16).blk t).view.emb y = (ix3 (y 0) (down t.val t.isLt (y 1)) (y 2) : S3x128x1024.Idx) := by
  have e : ((cfgM m hO).win 16).index t = ![0, t.val, 0] := idx16 t
  refine funext fun a => Fin.ext ?_
  refine (((cfgM m hO).win 16).rect_emb_val t y a rfl).trans ?_
  rw [e]
  match a with
  | ⟨0, _⟩ => exact (congrArg (· + (y 0).val) (Nat.zero_mul 3)).trans (Nat.zero_add _)
  | ⟨1, _⟩ => rfl
  | ⟨2, _⟩ => exact (congrArg (· + (y 2).val) (Nat.zero_mul 1024)).trans (Nat.zero_add _)

/-- The blocks of the two results cover them. -/
theorem covers15 : ((cfgM m hO).win 15).Covers := by
  have n0 : ((cfgM m hO).win 15).nblk (0 : Fin 2) = 1 := (by decide : (128 + 128 - 1) / 128 = 1)
  have n1 : ((cfgM m hO).win 15).nblk (1 : Fin 2) = 1 := (by decide : (1024 + 1024 - 1) / 1024 = 1)
  refine ⟨fun a => ?_, fun β => ?_⟩
  · match a with
    | ⟨0, _⟩ => exact (by decide : 0 < 128)
    | ⟨1, _⟩ => exact (by decide : 0 < 1024)
  · have b0 : (β (0 : Fin 2)).val < 1 := lt_of_lt_of_eq (β (0 : Fin 2)).isLt n0
    have b1 : (β (1 : Fin 2)).val < 1 := lt_of_lt_of_eq (β (1 : Fin 2)).isLt n1
    have e : ((cfgM m hO).win 15).index ⟨_, b0⟩ = ![(β (0 : Fin 2)).val, 0] := idx15 ⟨_, b0⟩
    refine ⟨⟨_, b0⟩, flush0_15 (adm m hO) _, fun a => ⟨?_, .inl rfl⟩⟩
    rw [e]
    match a with
    | ⟨0, _⟩ => rfl
    | ⟨1, _⟩ => exact (Nat.lt_one_iff.mp b1).symm

theorem covers16 : ((cfgM m hO).win 16).Covers := by
  have n0 : ((cfgM m hO).win 16).nblk (0 : Fin 3) = 1 := (by decide : (3 + 3 - 1) / 3 = 1)
  have n1 : ((cfgM m hO).win 16).nblk (1 : Fin 3) = 1 := (by decide : (128 + 128 - 1) / 128 = 1)
  have n2 : ((cfgM m hO).win 16).nblk (2 : Fin 3) = 1 := (by decide : (1024 + 1024 - 1) / 1024 = 1)
  refine ⟨fun a => ?_, fun β => ?_⟩
  · match a with
    | ⟨0, _⟩ => exact (by decide : 0 < 3)
    | ⟨1, _⟩ => exact (by decide : 0 < 128)
    | ⟨2, _⟩ => exact (by decide : 0 < 1024)
  · have b0 : (β (0 : Fin 3)).val < 1 := lt_of_lt_of_eq (β (0 : Fin 3)).isLt n0
    have b1 : (β (1 : Fin 3)).val < 1 := lt_of_lt_of_eq (β (1 : Fin 3)).isLt n1
    have b2 : (β (2 : Fin 3)).val < 1 := lt_of_lt_of_eq (β (2 : Fin 3)).isLt n2
    have e : ((cfgM m hO).win 16).index ⟨_, b1⟩ = ![0, (β (1 : Fin 3)).val, 0] := idx16 ⟨_, b1⟩
    refine ⟨⟨_, b1⟩, flush0_16 (adm m hO) _, fun a => ⟨?_, .inl rfl⟩⟩
    rw [e]
    match a with
    | ⟨0, _⟩ => exact (Nat.lt_one_iff.mp b0).symm
    | ⟨1, _⟩ => rfl
    | ⟨2, _⟩ => exact (Nat.lt_one_iff.mp b2).symm

theorem iblk13_at (t : Fin (cfgM m hO).N) (y : S4x128x1024.Idx) :
    iblk m hO 0 13 t y = arg5 m (ix3 (y 0) (down t.val t.isLt (y 1)) (y 2)) := by
  have e : ((cfgM m hO).win 13).index t = ![0, t.val, 0] := idx13 t
  refine congrArg (arg5 m) (funext fun a => Fin.ext ?_)
  refine (((cfgM m hO).win 13).rect_emb_val t y a rfl).trans ?_
  rw [e]
  match a with
  | ⟨0, _⟩ => exact (congrArg (· + (y 0).val) (Nat.zero_mul 4)).trans (Nat.zero_add _)
  | ⟨1, _⟩ => rfl
  | ⟨2, _⟩ => exact (congrArg (· + (y 2).val) (Nat.zero_mul 1024)).trans (Nat.zero_add _)

theorem iblk13_at' (t : Fin (cfgM m hO).N) (y : S4x128x1024.Idx) (k : Fin 4) (r : Fin 128) (q : Fin 1024)
    (hk : (y 0).val = k.val) (hr : (y 1).val = r.val) (hq : (y 2).val = q.val) :
    iblk m hO 0 13 t y = arg5 m (ix3 k (down t.val t.isLt r) q) := by
  obtain rfl : y = ix3 k r q := (eq_ix3 y).trans (by rw [Fin.ext hk, Fin.ext hr, Fin.ext hq])
  exact iblk13_at m hO t _

theorem emb17 (t : Fin (cfgM m hO).N) (y : S128x1024.Idx) :
    (((cfgM m hO).win 17).blk t).view.emb y = (ix2 (down t.val t.isLt (y 0)) (y 1) : S128x1024.Idx) := by
  have e : ((cfgM m hO).win 17).index t = ![t.val, 0] := idx17 t
  refine funext fun a => Fin.ext ?_
  refine (((cfgM m hO).win 17).rect_emb_val t y a rfl).trans ?_
  rw [e]
  match a with
  | ⟨0, _⟩ => rfl
  | ⟨1, _⟩ => exact (congrArg (· + (y 1).val) (Nat.zero_mul 1024)).trans (Nat.zero_add _)

theorem emb18 (t : Fin (cfgM m hO).N) (y : S3x128x1024.Idx) :
    (((cfgM m hO).win 18).blk t).view.emb y = (ix3 (y 0) (down t.val t.isLt (y 1)) (y 2) : S3x128x1024.Idx) := by
  have e : ((cfgM m hO).win 18).index t = ![0, t.val, 0] := idx18 t
  refine funext fun a => Fin.ext ?_
  refine (((cfgM m hO).win 18).rect_emb_val t y a rfl).trans ?_
  rw [e]
  match a with
  | ⟨0, _⟩ => exact (congrArg (· + (y 0).val) (Nat.zero_mul 3)).trans (Nat.zero_add _)
  | ⟨1, _⟩ => rfl
  | ⟨2, _⟩ => exact (congrArg (· + (y 2).val) (Nat.zero_mul 1024)).trans (Nat.zero_add _)

/-- The blocks of the two results cover them. -/
theorem covers17 : ((cfgM m hO).win 17).Covers := by
  have n0 : ((cfgM m hO).win 17).nblk (0 : Fin 2) = 1 := (by decide : (128 + 128 - 1) / 128 = 1)
  have n1 : ((cfgM m hO).win 17).nblk (1 : Fin 2) = 1 := (by decide : (1024 + 1024 - 1) / 1024 = 1)
  refine ⟨fun a => ?_, fun β => ?_⟩
  · match a with
    | ⟨0, _⟩ => exact (by decide : 0 < 128)
    | ⟨1, _⟩ => exact (by decide : 0 < 1024)
  · have b0 : (β (0 : Fin 2)).val < 1 := lt_of_lt_of_eq (β (0 : Fin 2)).isLt n0
    have b1 : (β (1 : Fin 2)).val < 1 := lt_of_lt_of_eq (β (1 : Fin 2)).isLt n1
    have e : ((cfgM m hO).win 17).index ⟨_, b0⟩ = ![(β (0 : Fin 2)).val, 0] := idx17 ⟨_, b0⟩
    refine ⟨⟨_, b0⟩, flush0_17 (adm m hO) _, fun a => ⟨?_, .inl rfl⟩⟩
    rw [e]
    match a with
    | ⟨0, _⟩ => rfl
    | ⟨1, _⟩ => exact (Nat.lt_one_iff.mp b1).symm

theorem covers18 : ((cfgM m hO).win 18).Covers := by
  have n0 : ((cfgM m hO).win 18).nblk (0 : Fin 3) = 1 := (by decide : (3 + 3 - 1) / 3 = 1)
  have n1 : ((cfgM m hO).win 18).nblk (1 : Fin 3) = 1 := (by decide : (128 + 128 - 1) / 128 = 1)
  have n2 : ((cfgM m hO).win 18).nblk (2 : Fin 3) = 1 := (by decide : (1024 + 1024 - 1) / 1024 = 1)
  refine ⟨fun a => ?_, fun β => ?_⟩
  · match a with
    | ⟨0, _⟩ => exact (by decide : 0 < 3)
    | ⟨1, _⟩ => exact (by decide : 0 < 128)
    | ⟨2, _⟩ => exact (by decide : 0 < 1024)
  · have b0 : (β (0 : Fin 3)).val < 1 := lt_of_lt_of_eq (β (0 : Fin 3)).isLt n0
    have b1 : (β (1 : Fin 3)).val < 1 := lt_of_lt_of_eq (β (1 : Fin 3)).isLt n1
    have b2 : (β (2 : Fin 3)).val < 1 := lt_of_lt_of_eq (β (2 : Fin 3)).isLt n2
    have e : ((cfgM m hO).win 18).index ⟨_, b1⟩ = ![0, (β (1 : Fin 3)).val, 0] := idx18 ⟨_, b1⟩
    refine ⟨⟨_, b1⟩, flush0_18 (adm m hO) _, fun a => ⟨?_, .inl rfl⟩⟩
    rw [e]
    match a with
    | ⟨0, _⟩ => exact (Nat.lt_one_iff.mp b0).symm
    | ⟨1, _⟩ => rfl
    | ⟨2, _⟩ => exact (Nat.lt_one_iff.mp b2).symm

theorem iblk14_at (t : Fin (cfgM m hO).N) (y : S4x128x256.Idx) :
    iblk m hO 0 14 t y = arg6 m (ix3 (y 0) (down t.val t.isLt (y 1)) (y 2)) := by
  have e : ((cfgM m hO).win 14).index t = ![0, t.val, 0] := idx14 t
  refine congrArg (arg6 m) (funext fun a => Fin.ext ?_)
  refine (((cfgM m hO).win 14).rect_emb_val t y a rfl).trans ?_
  rw [e]
  match a with
  | ⟨0, _⟩ => exact (congrArg (· + (y 0).val) (Nat.zero_mul 4)).trans (Nat.zero_add _)
  | ⟨1, _⟩ => rfl
  | ⟨2, _⟩ => exact (congrArg (· + (y 2).val) (Nat.zero_mul 256)).trans (Nat.zero_add _)

theorem iblk14_at' (t : Fin (cfgM m hO).N) (y : S4x128x256.Idx) (k : Fin 4) (r : Fin 128) (q : Fin 256)
    (hk : (y 0).val = k.val) (hr : (y 1).val = r.val) (hq : (y 2).val = q.val) :
    iblk m hO 0 14 t y = arg6 m (ix3 k (down t.val t.isLt r) q) := by
  obtain rfl : y = ix3 k r q := (eq_ix3 y).trans (by rw [Fin.ext hk, Fin.ext hr, Fin.ext hq])
  exact iblk14_at m hO t _

theorem emb19 (t : Fin (cfgM m hO).N) (y : S128x256.Idx) :
    (((cfgM m hO).win 19).blk t).view.emb y = (ix2 (down t.val t.isLt (y 0)) (y 1) : S128x256.Idx) := by
  have e : ((cfgM m hO).win 19).index t = ![t.val, 0] := idx19 t
  refine funext fun a => Fin.ext ?_
  refine (((cfgM m hO).win 19).rect_emb_val t y a rfl).trans ?_
  rw [e]
  match a with
  | ⟨0, _⟩ => rfl
  | ⟨1, _⟩ => exact (congrArg (· + (y 1).val) (Nat.zero_mul 256)).trans (Nat.zero_add _)

theorem emb20 (t : Fin (cfgM m hO).N) (y : S3x128x256.Idx) :
    (((cfgM m hO).win 20).blk t).view.emb y = (ix3 (y 0) (down t.val t.isLt (y 1)) (y 2) : S3x128x256.Idx) := by
  have e : ((cfgM m hO).win 20).index t = ![0, t.val, 0] := idx20 t
  refine funext fun a => Fin.ext ?_
  refine (((cfgM m hO).win 20).rect_emb_val t y a rfl).trans ?_
  rw [e]
  match a with
  | ⟨0, _⟩ => exact (congrArg (· + (y 0).val) (Nat.zero_mul 3)).trans (Nat.zero_add _)
  | ⟨1, _⟩ => rfl
  | ⟨2, _⟩ => exact (congrArg (· + (y 2).val) (Nat.zero_mul 256)).trans (Nat.zero_add _)

/-- The blocks of the two results cover them. -/
theorem covers19 : ((cfgM m hO).win 19).Covers := by
  have n0 : ((cfgM m hO).win 19).nblk (0 : Fin 2) = 1 := (by decide : (128 + 128 - 1) / 128 = 1)
  have n1 : ((cfgM m hO).win 19).nblk (1 : Fin 2) = 1 := (by decide : (256 + 256 - 1) / 256 = 1)
  refine ⟨fun a => ?_, fun β => ?_⟩
  · match a with
    | ⟨0, _⟩ => exact (by decide : 0 < 128)
    | ⟨1, _⟩ => exact (by decide : 0 < 256)
  · have b0 : (β (0 : Fin 2)).val < 1 := lt_of_lt_of_eq (β (0 : Fin 2)).isLt n0
    have b1 : (β (1 : Fin 2)).val < 1 := lt_of_lt_of_eq (β (1 : Fin 2)).isLt n1
    have e : ((cfgM m hO).win 19).index ⟨_, b0⟩ = ![(β (0 : Fin 2)).val, 0] := idx19 ⟨_, b0⟩
    refine ⟨⟨_, b0⟩, flush0_19 (adm m hO) _, fun a => ⟨?_, .inl rfl⟩⟩
    rw [e]
    match a with
    | ⟨0, _⟩ => rfl
    | ⟨1, _⟩ => exact (Nat.lt_one_iff.mp b1).symm

theorem covers20 : ((cfgM m hO).win 20).Covers := by
  have n0 : ((cfgM m hO).win 20).nblk (0 : Fin 3) = 1 := (by decide : (3 + 3 - 1) / 3 = 1)
  have n1 : ((cfgM m hO).win 20).nblk (1 : Fin 3) = 1 := (by decide : (128 + 128 - 1) / 128 = 1)
  have n2 : ((cfgM m hO).win 20).nblk (2 : Fin 3) = 1 := (by decide : (256 + 256 - 1) / 256 = 1)
  refine ⟨fun a => ?_, fun β => ?_⟩
  · match a with
    | ⟨0, _⟩ => exact (by decide : 0 < 3)
    | ⟨1, _⟩ => exact (by decide : 0 < 128)
    | ⟨2, _⟩ => exact (by decide : 0 < 256)
  · have b0 : (β (0 : Fin 3)).val < 1 := lt_of_lt_of_eq (β (0 : Fin 3)).isLt n0
    have b1 : (β (1 : Fin 3)).val < 1 := lt_of_lt_of_eq (β (1 : Fin 3)).isLt n1
    have b2 : (β (2 : Fin 3)).val < 1 := lt_of_lt_of_eq (β (2 : Fin 3)).isLt n2
    have e : ((cfgM m hO).win 20).index ⟨_, b1⟩ = ![0, (β (1 : Fin 3)).val, 0] := idx20 ⟨_, b1⟩
    refine ⟨⟨_, b1⟩, flush0_20 (adm m hO) _, fun a => ⟨?_, .inl rfl⟩⟩
    rw [e]
    match a with
    | ⟨0, _⟩ => exact (Nat.lt_one_iff.mp b0).symm
    | ⟨1, _⟩ => rfl
    | ⟨2, _⟩ => exact (Nat.lt_one_iff.mp b2).symm

include hw

theorem final15 (c : Dev nD) : (dats m hO 0 c).arrAt 15 (cfgM m hO).N
    = Cert.PairRestRefIdeal.Rows1024.mine (m ((c : Thread nD τ).loc main_arg0)) (m ((c : Thread nD τ).loc main_arg1))
        (m ((c : Thread nD τ).loc main_arg4)) := by
  obtain rfl : c = 0 := Subsingleton.elim _ _
  refine (dats m hO 0 0).arrAt_eq_of_covers 15 _ (covers15 m hO) fun t _ y => ?_
  change S128x1024.Idx at y
  refine Eq.trans ?_ ((congrArg (Cert.PairRestRefIdeal.Rows1024.mine (arg0 m) (arg1 m) (arg4 m)) (emb15 m hO t y)).trans
    (Cert.PairRestRefIdeal.Rows1024.mine_at (arg0 m) (arg1 m) (arg4 m) hw _)).symm
  blk_simp
  rw [after0_15]; unfold outsAt0 out0_A_15; frame_out
  refine (pay_mine0 _ _ y).trans ?_
  exact congrArg₂ (· + ·) ((congrFun (Memref.IsWhole.read_unread _ _) y).trans (iblk0_at m hO hw t y))
    ((congrFun (Memref.IsWhole.read_unread _ _) _).trans (iblk12_at' m hO t _ 0 (y 0) (y 1) rfl
      (by simp) (by simp)))

theorem final16 (c : Dev nD) : (dats m hO 0 c).arrAt 16 (cfgM m hO).N
    = Cert.PairRestRefIdeal.Rows1024.send (m ((c : Thread nD τ).loc main_arg0)) (m ((c : Thread nD τ).loc main_arg1))
        (m ((c : Thread nD τ).loc main_arg4)) := by
  obtain rfl : c = 0 := Subsingleton.elim _ _
  refine (dats m hO 0 0).arrAt_eq_of_covers 16 _ (covers16 m hO) fun t _ y => ?_
  change S3x128x1024.Idx at y
  refine Eq.trans ?_ ((congrArg (Cert.PairRestRefIdeal.Rows1024.send (arg0 m) (arg1 m) (arg4 m)) (emb16 m hO t y)).trans
    (Cert.PairRestRefIdeal.Rows1024.send_at (arg0 m) (arg1 m) (arg4 m) hw _)).symm
  blk_simp
  rw [after0_16]; unfold outsAt0 out0_A_16; frame_out
  canon_tiles x h
  · refine (pay_send03 _ _ x).trans ?_
    obtain rfl : y = ix3 ((2 : Fin 3)) (x 1) (x 2) := (eq_ix3 y).trans (by
      rw [Fin.ext (show (y 0).val = ((2 : Fin 3)).val by have : ((2 : Fin 3)).val = 2 := rfl; omega), Fin.ext h1, Fin.ext h2]; rfl)
    exact congrArg₂ (· + ·) ((congrFun (Memref.IsWhole.read_unread _ _) _).trans (iblk3_at m hO hw t (ix2 (x 1) (x 2))))
      ((congrFun (Memref.IsWhole.read_unread _ _) _).trans (iblk12_at' m hO t _ 3 (x 1) (x 2) rfl (by simp) (by simp)))
  · refine (pay_send02 _ _ x).trans ?_
    obtain rfl : y = ix3 ((1 : Fin 3)) (x 1) (x 2) := (eq_ix3 y).trans (by
      rw [Fin.ext (show (y 0).val = ((1 : Fin 3)).val by have : ((1 : Fin 3)).val = 1 := rfl; omega), Fin.ext h1, Fin.ext h2]; rfl)
    exact congrArg₂ (· + ·) ((congrFun (Memref.IsWhole.read_unread _ _) _).trans (iblk2_at m hO hw t (ix2 (x 1) (x 2))))
      ((congrFun (Memref.IsWhole.read_unread _ _) _).trans (iblk12_at' m hO t _ 2 (x 1) (x 2) rfl (by simp) (by simp)))
  · refine (pay_send01 _ _ x).trans ?_
    obtain rfl : y = ix3 ((0 : Fin 3)) (x 1) (x 2) := (eq_ix3 y).trans (by
      rw [Fin.ext (show (y 0).val = ((0 : Fin 3)).val by have : ((0 : Fin 3)).val = 0 := rfl; omega), Fin.ext h1, Fin.ext h2]; rfl)
    exact congrArg₂ (· + ·) ((congrFun (Memref.IsWhole.read_unread _ _) _).trans (iblk1_at m hO hw t (ix2 (x 1) (x 2))))
      ((congrFun (Memref.IsWhole.read_unread _ _) _).trans (iblk12_at' m hO t _ 1 (x 1) (x 2) rfl (by simp) (by simp)))

theorem final17 (c : Dev nD) : (dats m hO 0 c).arrAt 17 (cfgM m hO).N
    = Cert.PairRestRefIdeal.Rows1024.mine (m ((c : Thread nD τ).loc main_arg0)) (m ((c : Thread nD τ).loc main_arg2))
        (m ((c : Thread nD τ).loc main_arg5)) := by
  obtain rfl : c = 0 := Subsingleton.elim _ _
  refine (dats m hO 0 0).arrAt_eq_of_covers 17 _ (covers17 m hO) fun t _ y => ?_
  change S128x1024.Idx at y
  refine Eq.trans ?_ ((congrArg (Cert.PairRestRefIdeal.Rows1024.mine (arg0 m) (arg2 m) (arg5 m)) (emb17 m hO t y)).trans
    (Cert.PairRestRefIdeal.Rows1024.mine_at (arg0 m) (arg2 m) (arg5 m) hw _)).symm
  blk_simp
  rw [after0_17]; unfold outsAt0 out0_A_17; frame_out
  refine (pay_mine1 _ _ y).trans ?_
  exact congrArg₂ (· + ·) ((congrFun (Memref.IsWhole.read_unread _ _) y).trans (iblk4_at m hO hw t y))
    ((congrFun (Memref.IsWhole.read_unread _ _) _).trans (iblk13_at' m hO t _ 0 (y 0) (y 1) rfl
      (by simp) (by simp)))

theorem final18 (c : Dev nD) : (dats m hO 0 c).arrAt 18 (cfgM m hO).N
    = Cert.PairRestRefIdeal.Rows1024.send (m ((c : Thread nD τ).loc main_arg0)) (m ((c : Thread nD τ).loc main_arg2))
        (m ((c : Thread nD τ).loc main_arg5)) := by
  obtain rfl : c = 0 := Subsingleton.elim _ _
  refine (dats m hO 0 0).arrAt_eq_of_covers 18 _ (covers18 m hO) fun t _ y => ?_
  change S3x128x1024.Idx at y
  refine Eq.trans ?_ ((congrArg (Cert.PairRestRefIdeal.Rows1024.send (arg0 m) (arg2 m) (arg5 m)) (emb18 m hO t y)).trans
    (Cert.PairRestRefIdeal.Rows1024.send_at (arg0 m) (arg2 m) (arg5 m) hw _)).symm
  blk_simp
  rw [after0_18]; unfold outsAt0 out0_A_18; frame_out
  canon_tiles x h
  · refine (pay_send13 _ _ x).trans ?_
    obtain rfl : y = ix3 ((2 : Fin 3)) (x 1) (x 2) := (eq_ix3 y).trans (by
      rw [Fin.ext (show (y 0).val = ((2 : Fin 3)).val by have : ((2 : Fin 3)).val = 2 := rfl; omega), Fin.ext h1, Fin.ext h2]; rfl)
    exact congrArg₂ (· + ·) ((congrFun (Memref.IsWhole.read_unread _ _) _).trans (iblk7_at m hO hw t (ix2 (x 1) (x 2))))
      ((congrFun (Memref.IsWhole.read_unread _ _) _).trans (iblk13_at' m hO t _ 3 (x 1) (x 2) rfl (by simp) (by simp)))
  · refine (pay_send12 _ _ x).trans ?_
    obtain rfl : y = ix3 ((1 : Fin 3)) (x 1) (x 2) := (eq_ix3 y).trans (by
      rw [Fin.ext (show (y 0).val = ((1 : Fin 3)).val by have : ((1 : Fin 3)).val = 1 := rfl; omega), Fin.ext h1, Fin.ext h2]; rfl)
    exact congrArg₂ (· + ·) ((congrFun (Memref.IsWhole.read_unread _ _) _).trans (iblk6_at m hO hw t (ix2 (x 1) (x 2))))
      ((congrFun (Memref.IsWhole.read_unread _ _) _).trans (iblk13_at' m hO t _ 2 (x 1) (x 2) rfl (by simp) (by simp)))
  · refine (pay_send11 _ _ x).trans ?_
    obtain rfl : y = ix3 ((0 : Fin 3)) (x 1) (x 2) := (eq_ix3 y).trans (by
      rw [Fin.ext (show (y 0).val = ((0 : Fin 3)).val by have : ((0 : Fin 3)).val = 0 := rfl; omega), Fin.ext h1, Fin.ext h2]; rfl)
    exact congrArg₂ (· + ·) ((congrFun (Memref.IsWhole.read_unread _ _) _).trans (iblk5_at m hO hw t (ix2 (x 1) (x 2))))
      ((congrFun (Memref.IsWhole.read_unread _ _) _).trans (iblk13_at' m hO t _ 1 (x 1) (x 2) rfl (by simp) (by simp)))

theorem final19 (c : Dev nD) : (dats m hO 0 c).arrAt 19 (cfgM m hO).N
    = Cert.PairRestRefIdeal.Rows256.mine (m ((c : Thread nD τ).loc main_arg0)) (m ((c : Thread nD τ).loc main_arg3))
        (m ((c : Thread nD τ).loc main_arg6)) := by
  obtain rfl : c = 0 := Subsingleton.elim _ _
  refine (dats m hO 0 0).arrAt_eq_of_covers 19 _ (covers19 m hO) fun t _ y => ?_
  change S128x256.Idx at y
  refine Eq.trans ?_ ((congrArg (Cert.PairRestRefIdeal.Rows256.mine (arg0 m) (arg3 m) (arg6 m)) (emb19 m hO t y)).trans
    (Cert.PairRestRefIdeal.Rows256.mine_at (arg0 m) (arg3 m) (arg6 m) hw _)).symm
  blk_simp
  rw [after0_19]; unfold outsAt0 out0_A_19; frame_out
  refine (pay_mine2 _ _ y).trans ?_
  exact congrArg₂ (· + ·) ((congrFun (Memref.IsWhole.read_unread _ _) y).trans (iblk8_at m hO hw t y))
    ((congrFun (Memref.IsWhole.read_unread _ _) _).trans (iblk14_at' m hO t _ 0 (y 0) (y 1) rfl
      (by simp) (by simp)))

theorem final20 (c : Dev nD) : (dats m hO 0 c).arrAt 20 (cfgM m hO).N
    = Cert.PairRestRefIdeal.Rows256.send (m ((c : Thread nD τ).loc main_arg0)) (m ((c : Thread nD τ).loc main_arg3))
        (m ((c : Thread nD τ).loc main_arg6)) := by
  obtain rfl : c = 0 := Subsingleton.elim _ _
  refine (dats m hO 0 0).arrAt_eq_of_covers 20 _ (covers20 m hO) fun t _ y => ?_
  change S3x128x256.Idx at y
  refine Eq.trans ?_ ((congrArg (Cert.PairRestRefIdeal.Rows256.send (arg0 m) (arg3 m) (arg6 m)) (emb20 m hO t y)).trans
    (Cert.PairRestRefIdeal.Rows256.send_at (arg0 m) (arg3 m) (arg6 m) hw _)).symm
  blk_simp
  rw [after0_20]; unfold outsAt0 out0_A_20; frame_out
  canon_tiles x h
  · refine (pay_send23 _ _ x).trans ?_
    obtain rfl : y = ix3 ((2 : Fin 3)) (x 1) (x 2) := (eq_ix3 y).trans (by
      rw [Fin.ext (show (y 0).val = ((2 : Fin 3)).val by have : ((2 : Fin 3)).val = 2 := rfl; omega), Fin.ext h1, Fin.ext h2]; rfl)
    exact congrArg₂ (· + ·) ((congrFun (Memref.IsWhole.read_unread _ _) _).trans (iblk11_at m hO hw t (ix2 (x 1) (x 2))))
      ((congrFun (Memref.IsWhole.read_unread _ _) _).trans (iblk14_at' m hO t _ 3 (x 1) (x 2) rfl (by simp) (by simp)))
  · refine (pay_send22 _ _ x).trans ?_
    obtain rfl : y = ix3 ((1 : Fin 3)) (x 1) (x 2) := (eq_ix3 y).trans (by
      rw [Fin.ext (show (y 0).val = ((1 : Fin 3)).val by have : ((1 : Fin 3)).val = 1 := rfl; omega), Fin.ext h1, Fin.ext h2]; rfl)
    exact congrArg₂ (· + ·) ((congrFun (Memref.IsWhole.read_unread _ _) _).trans (iblk10_at m hO hw t (ix2 (x 1) (x 2))))
      ((congrFun (Memref.IsWhole.read_unread _ _) _).trans (iblk14_at' m hO t _ 2 (x 1) (x 2) rfl (by simp) (by simp)))
  · refine (pay_send21 _ _ x).trans ?_
    obtain rfl : y = ix3 ((0 : Fin 3)) (x 1) (x 2) := (eq_ix3 y).trans (by
      rw [Fin.ext (show (y 0).val = ((0 : Fin 3)).val by have : ((0 : Fin 3)).val = 0 := rfl; omega), Fin.ext h1, Fin.ext h2]; rfl)
    exact congrArg₂ (· + ·) ((congrFun (Memref.IsWhole.read_unread _ _) _).trans (iblk9_at m hO hw t (ix2 (x 1) (x 2))))
      ((congrFun (Memref.IsWhole.read_unread _ _) _).trans (iblk14_at' m hO t _ 1 (x 1) (x 2) rfl (by simp) (by simp)))

include hO in
/-- The run ends with the results the reference's, and the arguments as they were. -/
theorem ends (ρ : Dev nD → PrngReg) : θ_run (defs (F := Ideal)) (onTc (τ := τ) (main (F := Ideal))) ⟨m, fun _ => 0, ρ⟩ (fun r => ∀ c : Dev nD,
    r.2.mem ((c.tc : Thread nD τ).loc main_v0_0) = Cert.PairRestRefIdeal.Rows1024.mine (m ((c : Thread nD τ).loc main_arg0))
        (m ((c : Thread nD τ).loc main_arg1)) (m ((c : Thread nD τ).loc main_arg4)) ∧
    r.2.mem ((c.tc : Thread nD τ).loc main_v0_1) = Cert.PairRestRefIdeal.Rows1024.send (m ((c : Thread nD τ).loc main_arg0))
        (m ((c : Thread nD τ).loc main_arg1)) (m ((c : Thread nD τ).loc main_arg4)) ∧
    r.2.mem ((c.tc : Thread nD τ).loc main_v0_2) = Cert.PairRestRefIdeal.Rows1024.mine (m ((c : Thread nD τ).loc main_arg0))
        (m ((c : Thread nD τ).loc main_arg2)) (m ((c : Thread nD τ).loc main_arg5)) ∧
    r.2.mem ((c.tc : Thread nD τ).loc main_v0_3) = Cert.PairRestRefIdeal.Rows1024.send (m ((c : Thread nD τ).loc main_arg0))
        (m ((c : Thread nD τ).loc main_arg2)) (m ((c : Thread nD τ).loc main_arg5)) ∧
    r.2.mem ((c.tc : Thread nD τ).loc main_v0_4) = Cert.PairRestRefIdeal.Rows256.mine (m ((c : Thread nD τ).loc main_arg0))
        (m ((c : Thread nD τ).loc main_arg3)) (m ((c : Thread nD τ).loc main_arg6)) ∧
    r.2.mem ((c.tc : Thread nD τ).loc main_v0_5) = Cert.PairRestRefIdeal.Rows256.send (m ((c : Thread nD τ).loc main_arg0))
        (m ((c : Thread nD τ).loc main_arg3)) (m ((c : Thread nD τ).loc main_arg6)) ∧
    r.2.mem ((c.tc : Thread nD τ).loc main_arg0) = m ((c.tc : Thread nD τ).loc main_arg0) ∧
    r.2.mem ((c.tc : Thread nD τ).loc main_arg1) = m ((c.tc : Thread nD τ).loc main_arg1) ∧
    r.2.mem ((c.tc : Thread nD τ).loc main_arg2) = m ((c.tc : Thread nD τ).loc main_arg2) ∧
    r.2.mem ((c.tc : Thread nD τ).loc main_arg3) = m ((c.tc : Thread nD τ).loc main_arg3) ∧
    r.2.mem ((c.tc : Thread nD τ).loc main_arg4) = m ((c.tc : Thread nD τ).loc main_arg4) ∧
    r.2.mem ((c.tc : Thread nD τ).loc main_arg5) = m ((c.tc : Thread nD τ).loc main_arg5) ∧
    r.2.mem ((c.tc : Thread nD τ).loc main_arg6) = m ((c.tc : Thread nD τ).loc main_arg6)) :=
  (θ_run defs _ _).mono (fun _ h c => ⟨((h c).1 15).trans (final15 m hO hw c),
      ((h c).1 16).trans (final16 m hO hw c),
      ((h c).1 17).trans (final17 m hO hw c),
      ((h c).1 18).trans (final18 m hO hw c),
      ((h c).1 19).trans (final19 m hO hw c),
      ((h c).1 20).trans (final20 m hO hw c),
      ((h c).2 main_arg0 (by decide : main_arg0 ∈ Pipeline.restRefs sig spec0)).trans (V_main_arg0 m c),
      ((h c).1 3).trans (((dats m hO 0 c).arrAt_in 3 rfl _).trans ((A_eq m hO c 3).trans (V_main_arg1 m c))),
      ((h c).1 7).trans (((dats m hO 0 c).arrAt_in 7 rfl _).trans ((A_eq m hO c 7).trans (V_main_arg2 m c))),
      ((h c).1 11).trans (((dats m hO 0 c).arrAt_in 11 rfl _).trans ((A_eq m hO c 11).trans (V_main_arg3 m c))),
      ((h c).1 12).trans (((dats m hO 0 c).arrAt_in 12 rfl _).trans ((A_eq m hO c 12).trans (V_main_arg4 m c))),
      ((h c).1 13).trans (((dats m hO 0 c).arrAt_in 13 rfl _).trans ((A_eq m hO c 13).trans (V_main_arg5 m c))),
      ((h c).1 14).trans (((dats m hO 0 c).arrAt_in 14 rfl _).trans ((A_eq m hO c 14).trans (V_main_arg6 m c)))⟩)
    (run_main m ρ hO)

end Cert.PairRestIdeal.Rows
-- ==== Proof.lean ====
/-
  The claims about four calls of the backward pass: the gradient of the hidden rows with the tokens' own gradient and the
  sums of shift and scale (`GradH`), the in-projection's weight gradient (`GradWIn`), and the weight gradients of the
  narrower products (`GradWOut`, `GradWAttn`); about the last sum of three weight gradients (`FinalSums`) and the
  sums over pairs of devices before it (`PairSums`, `PairRest`); and of the
  optimiser's calls, which end a gradient and take the AdamW step:
  for the in-projection (`AdamIn`), the attention's output projection (`AdamAttn`), the conditioning (`AdamAda`) and
  the other eight weights (`AdamRest`).
  The mathematics of each is in the module of its name; here the runs are put together with the references' runs.
-/

import proofs.«01_k».proof.Defs
import proofs.«01_k».proof.Proof.Gen.GradH
import proofs.«01_k».proof.Proof.Gen.GradH.Skeleton
import proofs.«01_k».proof.Proof.Gen.GradH.Launch
import proofs.«01_k».proof.Proof.Gen.GradH.Points
import proofs.«01_k».proof.Proof.Gen.GradH.Frame
import proofs.«01_k».proof.Proof.Gen.GradHIdeal
import proofs.«01_k».proof.Proof.Gen.GradHIdeal.Skeleton
import proofs.«01_k».proof.Proof.Gen.GradHIdeal.Launch
import proofs.«01_k».proof.Proof.Gen.GradHIdeal.Points
import proofs.«01_k».proof.Proof.Gen.GradHIdeal.Frame
import proofs.«01_k».proof.Proof.Gen.GradHRefIdeal
import proofs.«01_k».proof.Proof.Gen.GradWIn
import proofs.«01_k».proof.Proof.Gen.GradWIn.Skeleton
import proofs.«01_k».proof.Proof.Gen.GradWIn.Launch
import proofs.«01_k».proof.Proof.Gen.GradWIn.Points
import proofs.«01_k».proof.Proof.Gen.GradWIn.Frame
import proofs.«01_k».proof.Proof.Gen.GradWInIdeal
import proofs.«01_k».proof.Proof.Gen.GradWInIdeal.Skeleton
import proofs.«01_k».proof.Proof.Gen.GradWInIdeal.Launch
import proofs.«01_k».proof.Proof.Gen.GradWInIdeal.Points
import proofs.«01_k».proof.Proof.Gen.GradWInIdeal.Frame
import proofs.«01_k».proof.Proof.Gen.GradWInRefIdeal
import proofs.«01_k».proof.Proof.Gen.GradWOut
import proofs.«01_k».proof.Proof.Gen.GradWOut.Skeleton
import proofs.«01_k».proof.Proof.Gen.GradWOut.Launch
import proofs.«01_k».proof.Proof.Gen.GradWOut.Points
import proofs.«01_k».proof.Proof.Gen.GradWOut.Frame
import proofs.«01_k».proof.Proof.Gen.GradWOutIdeal
import proofs.«01_k».proof.Proof.Gen.GradWOutIdeal.Skeleton
import proofs.«01_k».proof.Proof.Gen.GradWOutIdeal.Launch
import proofs.«01_k».proof.Proof.Gen.GradWOutIdeal.Points
import proofs.«01_k».proof.Proof.Gen.GradWOutIdeal.Frame
import proofs.«01_k».proof.Proof.Gen.GradWOutRefIdeal
import proofs.«01_k».proof.Proof.Gen.GradWAttn
import proofs.«01_k».proof.Proof.Gen.GradWAttn.Skeleton
import proofs.«01_k».proof.Proof.Gen.GradWAttn.Launch
import proofs.«01_k».proof.Proof.Gen.GradWAttn.Points
import proofs.«01_k».proof.Proof.Gen.GradWAttn.Frame
import proofs.«01_k».proof.Proof.Gen.GradWAttnIdeal
import proofs.«01_k».proof.Proof.Gen.GradWAttnIdeal.Skeleton
import proofs.«01_k».proof.Proof.Gen.GradWAttnIdeal.Launch
import proofs.«01_k».proof.Proof.Gen.GradWAttnIdeal.Points
import proofs.«01_k».proof.Proof.Gen.GradWAttnIdeal.Frame
import proofs.«01_k».proof.Proof.Gen.GradWAttnRefIdeal
import proofs.«01_k».proof.Proof.Gen.AdamIn
import proofs.«01_k».proof.Proof.Gen.AdamIn.Skeleton
import proofs.«01_k».proof.Proof.Gen.AdamIn.Launch
import proofs.«01_k».proof.Proof.Gen.AdamIn.Points
import proofs.«01_k».proof.Proof.Gen.AdamIn.Frame
import proofs.«01_k».proof.Proof.Gen.AdamInIdeal
import proofs.«01_k».proof.Proof.Gen.AdamInIdeal.Skeleton
import proofs.«01_k».proof.Proof.Gen.AdamInIdeal.Launch
import proofs.«01_k».proof.Proof.Gen.AdamInIdeal.Points
import proofs.«01_k».proof.Proof.Gen.AdamInIdeal.Frame
import proofs.«01_k».proof.Proof.Gen.AdamInRefIdeal
import proofs.«01_k».proof.Proof.Gen.AdamAttn
import proofs.«01_k».proof.Proof.Gen.AdamAttn.Skeleton
import proofs.«01_k».proof.Proof.Gen.AdamAttn.Launch
import proofs.«01_k».proof.Proof.Gen.AdamAttn.Points
import proofs.«01_k».proof.Proof.Gen.AdamAttn.Frame
import proofs.«01_k».proof.Proof.Gen.AdamAttnIdeal
import proofs.«01_k».proof.Proof.Gen.AdamAttnIdeal.Skeleton
import proofs.«01_k».proof.Proof.Gen.AdamAttnIdeal.Launch
import proofs.«01_k».proof.Proof.Gen.AdamAttnIdeal.Points
import proofs.«01_k».proof.Proof.Gen.AdamAttnIdeal.Frame
import proofs.«01_k».proof.Proof.Gen.AdamAttnRefIdeal
import proofs.«01_k».proof.Proof.Gen.AdamAda
import proofs.«01_k».proof.Proof.Gen.AdamAda.Skeleton
import proofs.«01_k».proof.Proof.Gen.AdamAda.Launch
import proofs.«01_k».proof.Proof.Gen.AdamAda.Points
import proofs.«01_k».proof.Proof.Gen.AdamAda.Frame
import proofs.«01_k».proof.Proof.Gen.AdamAdaIdeal
import proofs.«01_k».proof.Proof.Gen.AdamAdaIdeal.Skeleton
import proofs.«01_k».proof.Proof.Gen.AdamAdaIdeal.Launch
import proofs.«01_k».proof.Proof.Gen.AdamAdaIdeal.Points
import proofs.«01_k».proof.Proof.Gen.AdamAdaIdeal.Frame
import proofs.«01_k».proof.Proof.Gen.AdamAdaRefIdeal
import proofs.«01_k».proof.Proof.Gen.AdamRest
import proofs.«01_k».proof.Proof.Gen.AdamRest.Skeleton
import proofs.«01_k».proof.Proof.Gen.AdamRest.Launch
import proofs.«01_k».proof.Proof.Gen.AdamRest.Points
import proofs.«01_k».proof.Proof.Gen.AdamRestIdeal
import proofs.«01_k».proof.Proof.Gen.AdamRestIdeal.Skeleton
import proofs.«01_k».proof.Proof.Gen.AdamRestIdeal.Launch
import proofs.«01_k».proof.Proof.Gen.AdamRestIdeal.Points
import proofs.«01_k».proof.Proof.Gen.AdamRestRefIdeal
import proofs.«01_k».proof.Proof.GradHValue
import proofs.«01_k».proof.Proof.GradWInValue
import proofs.«01_k».proof.Proof.GradWOutValue
import proofs.«01_k».proof.Proof.GradWAttnValue
import proofs.«01_k».proof.Proof.Gen.GradHRefIdeal.Run
import proofs.«01_k».proof.Proof.Gen.GradWInRefIdeal.Run
import proofs.«01_k».proof.Proof.Gen.GradWOutRefIdeal.Run
import proofs.«01_k».proof.Proof.Gen.GradWAttnRefIdeal.Run
import proofs.«01_k».proof.Proof.AdamInValue
import proofs.«01_k».proof.Proof.AdamAttnValue
import proofs.«01_k».proof.Proof.AdamAdaValue
import proofs.«01_k».proof.Proof.AdamRestValue
import proofs.«01_k».proof.Proof.AdamRestPair
import proofs.«01_k».proof.Proof.Gen.AdamInRefIdeal.Run
import proofs.«01_k».proof.Proof.Gen.AdamAttnRefIdeal.Run
import proofs.«01_k».proof.Proof.Gen.AdamAdaRefIdeal.Run
import proofs.«01_k».proof.Proof.Gen.AdamRestRefIdeal.Run
import proofs.«01_k».proof.Proof.Gen.FinalSums
import proofs.«01_k».proof.Proof.Gen.FinalSums.Skeleton
import proofs.«01_k».proof.Proof.Gen.FinalSums.Launch
import proofs.«01_k».proof.Proof.Gen.FinalSums.Points
import proofs.«01_k».proof.Proof.Gen.FinalSums.Frame
import proofs.«01_k».proof.Proof.Gen.FinalSumsIdeal
import proofs.«01_k».proof.Proof.Gen.FinalSumsIdeal.Skeleton
import proofs.«01_k».proof.Proof.Gen.FinalSumsIdeal.Launch
import proofs.«01_k».proof.Proof.Gen.FinalSumsIdeal.Points
import proofs.«01_k».proof.Proof.Gen.FinalSumsIdeal.Frame
import proofs.«01_k».proof.Proof.Gen.FinalSumsRefIdeal
import proofs.«01_k».proof.Proof.Gen.FinalSumsRefIdeal.Run
import proofs.«01_k».proof.Proof.FinalSumsValue
import proofs.«01_k».proof.Proof.Gen.PairSums
import proofs.«01_k».proof.Proof.Gen.PairSums.Skeleton
import proofs.«01_k».proof.Proof.Gen.PairSums.Launch
import proofs.«01_k».proof.Proof.Gen.PairSums.Points
import proofs.«01_k».proof.Proof.Gen.PairSums.Frame
import proofs.«01_k».proof.Proof.Gen.PairSumsIdeal
import proofs.«01_k».proof.Proof.Gen.PairSumsIdeal.Skeleton
import proofs.«01_k».proof.Proof.Gen.PairSumsIdeal.Launch
import proofs.«01_k».proof.Proof.Gen.PairSumsIdeal.Points
import proofs.«01_k».proof.Proof.Gen.PairSumsIdeal.Frame
import proofs.«01_k».proof.Proof.Gen.PairSumsRefIdeal
import proofs.«01_k».proof.Proof.Gen.PairSumsRefIdeal.Run
import proofs.«01_k».proof.Proof.Gen.Pre_in_mesh
import proofs.«01_k».proof.Proof.PairSumsValue
import proofs.«01_k».proof.Proof.Gen.PairRest
import proofs.«01_k».proof.Proof.Gen.PairRest.Skeleton
import proofs.«01_k».proof.Proof.Gen.PairRest.Launch
import proofs.«01_k».proof.Proof.Gen.PairRest.Points
import proofs.«01_k».proof.Proof.Gen.PairRest.Frame
import proofs.«01_k».proof.Proof.Gen.PairRestIdeal
import proofs.«01_k».proof.Proof.Gen.PairRestIdeal.Skeleton
import proofs.«01_k».proof.Proof.Gen.PairRestIdeal.Launch
import proofs.«01_k».proof.Proof.Gen.PairRestIdeal.Points
import proofs.«01_k».proof.Proof.Gen.PairRestIdeal.Frame
import proofs.«01_k».proof.Proof.Gen.PairRestRefIdeal
import proofs.«01_k».proof.Proof.Gen.PairRestRefIdeal.Run
import proofs.«01_k».proof.Proof.Gen.Pre_in_mesh_rest
import proofs.«01_k».proof.Proof.PairRestValue
import proofs.«01_k».proof.Proof.AdamRestFrame
import proofs.«01_k».proof.Proof.AdamRestIdealFrame
import Idealize.ShloMosaic.Lib.Claim
import Idealize.ShloMosaic.Adequacy
import Idealize.ShloMosaic.Init

noncomputable section

namespace Cert.Proof

open Idealize.ShloMosaic Idealize.SL.Sem

theorem frame_GradH : Cert.quiescent_GradHIdeal := fun m ρ _ => Cert.GradHIdeal.Gen.frame m ρ

theorem frame_GradH_bits : Cert.quiescent_GradH := fun m ρ _ => Cert.GradH.Gen.frame m ρ

theorem frame_GradHRef : Cert.quiescent_GradHRefIdeal := fun m ρ _ =>
  (θ_run Cert.GradHRefIdeal.defs _ _).mono (fun r h => ⟨fun c => (h c).2.2, sem_eq_zero_of_no_sems rfl r.2⟩)
    (Cert.GradHRefIdeal.Value.run m ρ)

theorem equal_GradH : Cert.algebraic_GradHIdeal_GradHRefIdeal := by
  pair_intro
  · run_from Cert.GradHIdeal.Gen.run_main m g
  · run_from Cert.GradHRefIdeal.Value.run m' g'
    · exact (Cert.GradHIdeal.Rows.final5 m c).symm
    · exact (congrArg (Cert.GradHRefIdeal.Read.val_main_v36 (F := Ideal) _ _) (hagree c).2.2.2.1).trans
        (Cert.GradHIdeal.Rows.final6 m c).symm

theorem frame_GradWIn : Cert.quiescent_GradWInIdeal := fun m ρ _ => Cert.GradWInIdeal.Gen.frame m ρ

theorem frame_GradWIn_bits : Cert.quiescent_GradWIn := fun m ρ _ => Cert.GradWIn.Gen.frame m ρ

theorem frame_GradWInRef : Cert.quiescent_GradWInRefIdeal := fun m ρ _ =>
  (θ_run Cert.GradWInRefIdeal.defs _ _).mono (fun r h => ⟨fun c => (h c).2, sem_eq_zero_of_no_sems rfl r.2⟩)
    (Cert.GradWInRefIdeal.Value.run m ρ)

theorem equal_GradWIn : Cert.algebraic_GradWInIdeal_GradWInRefIdeal := by
  pair_intro
  · run_from Cert.GradWInIdeal.Gen.run_main m g
  · run_from Cert.GradWInRefIdeal.Value.run m' g'
    · exact (Cert.GradWInIdeal.Slabs.final m c).symm

theorem frame_GradWOut : Cert.quiescent_GradWOutIdeal := fun m ρ _ => Cert.GradWOutIdeal.Gen.frame m ρ

theorem frame_GradWOut_bits : Cert.quiescent_GradWOut := fun m ρ _ => Cert.GradWOut.Gen.frame m ρ

theorem frame_GradWOutRef : Cert.quiescent_GradWOutRefIdeal := fun m ρ _ =>
  (θ_run Cert.GradWOutRefIdeal.defs _ _).mono (fun r h => ⟨fun c => (h c).2, sem_eq_zero_of_no_sems rfl r.2⟩)
    (Cert.GradWOutRefIdeal.Value.run m ρ)

theorem equal_GradWOut : Cert.algebraic_GradWOutIdeal_GradWOutRefIdeal := by
  pair_intro
  · run_from Cert.GradWOutIdeal.Gen.run_main m g
  · run_from Cert.GradWOutRefIdeal.Value.run m' g'
    · exact (Cert.GradWOutIdeal.Rows.final m c).symm

theorem frame_GradWAttn : Cert.quiescent_GradWAttnIdeal := fun m ρ _ => Cert.GradWAttnIdeal.Gen.frame m ρ

theorem frame_GradWAttn_bits : Cert.quiescent_GradWAttn := fun m ρ _ => Cert.GradWAttn.Gen.frame m ρ

theorem frame_GradWAttnRef : Cert.quiescent_GradWAttnRefIdeal := fun m ρ _ =>
  (θ_run Cert.GradWAttnRefIdeal.defs _ _).mono (fun r h => ⟨fun c => (h c).2, sem_eq_zero_of_no_sems rfl r.2⟩)
    (Cert.GradWAttnRefIdeal.Value.run m ρ)

theorem equal_GradWAttn : Cert.algebraic_GradWAttnIdeal_GradWAttnRefIdeal := by
  pair_intro
  · run_from Cert.GradWAttnIdeal.Gen.run_main m g
  · run_from Cert.GradWAttnRefIdeal.Value.run m' g'
    · exact (Cert.GradWAttnIdeal.Rows.final m c).symm

theorem frame_AdamIn : Cert.quiescent_AdamInIdeal := fun m ρ _ => Cert.AdamInIdeal.Gen.frame m ρ

theorem frame_AdamIn_bits : Cert.quiescent_AdamIn := fun m ρ _ => Cert.AdamIn.Gen.frame m ρ

theorem frame_AdamInRef : Cert.quiescent_AdamInRefIdeal := fun m ρ _ =>
  (θ_run Cert.AdamInRefIdeal.defs _ _).mono (fun r h => ⟨fun c => (h c).2.2.2.2, sem_eq_zero_of_no_sems rfl r.2⟩)
    (Cert.AdamInRefIdeal.Value.run m ρ)

theorem equal_AdamIn : Cert.algebraic_AdamInIdeal_AdamInRefIdeal := by
  pair_intro
  · run_from Cert.AdamInIdeal.Gen.run_main m g
  · run_from Cert.AdamInRefIdeal.Value.run m' g'
    · exact (Cert.AdamInIdeal.Rows.final5 m c).symm
    · exact (Cert.AdamInIdeal.Rows.final6 m c).symm
    · exact (Cert.AdamInIdeal.Rows.final7 m c).symm
    · exact (Cert.AdamInIdeal.Rows.final8 m c).symm

theorem frame_AdamAttn : Cert.quiescent_AdamAttnIdeal := fun m ρ _ => Cert.AdamAttnIdeal.Gen.frame m ρ

theorem frame_AdamAttn_bits : Cert.quiescent_AdamAttn := fun m ρ _ => Cert.AdamAttn.Gen.frame m ρ

theorem frame_AdamAttnRef : Cert.quiescent_AdamAttnRefIdeal := fun m ρ _ =>
  (θ_run Cert.AdamAttnRefIdeal.defs _ _).mono (fun r h => ⟨fun c => (h c).2.2.2.2, sem_eq_zero_of_no_sems rfl r.2⟩)
    (Cert.AdamAttnRefIdeal.Value.run m ρ)

theorem equal_AdamAttn : Cert.algebraic_AdamAttnIdeal_AdamAttnRefIdeal := by
  pair_intro
  · run_from Cert.AdamAttnIdeal.Gen.run_main m g
  · run_from Cert.AdamAttnRefIdeal.Value.run m' g'
    · exact (Cert.AdamAttnIdeal.Turned.final4 m c).symm
    · exact (Cert.AdamAttnIdeal.Turned.final5 m c).symm
    · exact (Cert.AdamAttnIdeal.Turned.final6 m c).symm
    · exact (Cert.AdamAttnIdeal.Turned.final7 m c).symm

theorem frame_AdamAda : Cert.quiescent_AdamAdaIdeal := fun m ρ _ => Cert.AdamAdaIdeal.Gen.frame m ρ

theorem frame_AdamAda_bits : Cert.quiescent_AdamAda := fun m ρ _ => Cert.AdamAda.Gen.frame m ρ

theorem frame_AdamAdaRef : Cert.quiescent_AdamAdaRefIdeal := fun m ρ _ =>
  (θ_run Cert.AdamAdaRefIdeal.defs _ _).mono (fun r h => ⟨fun c => (h c).2.2.2.2, sem_eq_zero_of_no_sems rfl r.2⟩)
    (Cert.AdamAdaRefIdeal.Value.run m ρ)

theorem equal_AdamAda : Cert.algebraic_AdamAdaIdeal_AdamAdaRefIdeal := by
  pair_intro
  · run_from Cert.AdamAdaIdeal.Gen.run_main m g
  · run_from Cert.AdamAdaRefIdeal.Value.run m' g'
    · exact (Cert.AdamAdaIdeal.Whole.final5 m c).symm
    · exact (Cert.AdamAdaIdeal.Whole.final6 m c).symm
    · exact (Cert.AdamAdaIdeal.Whole.final7 m c).symm
    · exact (Cert.AdamAdaIdeal.Whole.final8 m c).symm

theorem frame_AdamRest : Cert.quiescent_AdamRestIdeal := fun m ρ _ => Cert.AdamRestIdeal.Whole.frame m ρ

theorem frame_AdamRest_bits : Cert.quiescent_AdamRest := fun m ρ _ => Cert.AdamRest.Whole.frame m ρ

theorem frame_AdamRestRef : Cert.quiescent_AdamRestRefIdeal := fun m ρ _ =>
  (θ_run Cert.AdamRestRefIdeal.defs _ _).mono (fun r h => ⟨fun c => (h c).2.2.2.2.2.2.2.2.2.2.2.2.2.2.2.2.2.2.2.2.2.2.2.2, sem_eq_zero_of_no_sems rfl r.2⟩)
    (Cert.AdamRestRefIdeal.Value.run m ρ)

theorem equal_AdamRest : Cert.algebraic_AdamRestIdeal_AdamRestRefIdeal := Cert.AdamRestPair.equal

theorem frame_FinalSums : Cert.quiescent_FinalSumsIdeal := fun m ρ _ => Cert.FinalSumsIdeal.Gen.frame m ρ

theorem frame_FinalSums_bits : Cert.quiescent_FinalSums := fun m ρ _ => Cert.FinalSums.Gen.frame m ρ

theorem frame_FinalSumsRef : Cert.quiescent_FinalSumsRefIdeal := fun m ρ _ =>
  (θ_run Cert.FinalSumsRefIdeal.defs _ _).mono (fun r h => ⟨fun c => (h c).2.2.2, sem_eq_zero_of_no_sems rfl r.2⟩)
    (Cert.FinalSumsRefIdeal.Value.run m ρ)

theorem equal_FinalSums : Cert.algebraic_FinalSumsIdeal_FinalSumsRefIdeal := by
  pair_intro
  · run_from Cert.FinalSumsIdeal.Gen.run_main m g
  · run_from Cert.FinalSumsRefIdeal.Value.run m' g'
    · exact (Cert.FinalSumsIdeal.Whole.final6 m c).symm
    · exact (Cert.FinalSumsIdeal.Whole.final7 m c).symm
    · exact (Cert.FinalSumsIdeal.Whole.final8 m c).symm

theorem frame_PairSums : Cert.quiescent_PairSumsIdeal := fun m ρ h =>
  Cert.PairSumsIdeal.Gen.frame m ρ (Cert.PairSumsIdeal.Table.ok_of_pre m h)

theorem frame_PairSums_bits : Cert.quiescent_PairSums := fun m ρ h =>
  Cert.PairSums.Gen.frame m ρ (Cert.PairSums.Table.ok_of_pre m h)

theorem frame_PairSumsRef : Cert.quiescent_PairSumsRefIdeal := fun m ρ _ =>
  (θ_run Cert.PairSumsRefIdeal.defs _ _).mono (fun r h => ⟨fun c => (h c).2.2, sem_eq_zero_of_no_sems rfl r.2⟩)
    (Cert.PairSumsRefIdeal.Value.run m ρ)

theorem equal_PairSums : Cert.algebraic_PairSumsIdeal_PairSumsRefIdeal := by
  intro m g m' g' hpre hagree
  refine ⟨_, _, Cert.PairSumsIdeal.Rows.ends m (Cert.PairSumsIdeal.Table.ok_of_pre m hpre) (Cert.PairSumsIdeal.Table.lt_of_pre m hpre) g,
    (θ_run Cert.PairSumsRefIdeal.defs _ _).mono (fun r h c => ⟨(h c).1.trans ?_, (h c).2.1.trans ?_, (h c).2.2⟩)
      (Cert.PairSumsRefIdeal.Value.run m' g')⟩
  · rw [(hagree c).1, (hagree c).2.1, (hagree c).2.2]; rfl
  · rw [(hagree c).1, (hagree c).2.1, (hagree c).2.2]; rfl

theorem frame_PairRest : Cert.quiescent_PairRestIdeal := fun m ρ h =>
  Cert.PairRestIdeal.Gen.frame m ρ (Cert.PairRestIdeal.Table.ok_of_pre m h)

theorem frame_PairRest_bits : Cert.quiescent_PairRest := fun m ρ h =>
  Cert.PairRest.Gen.frame m ρ (Cert.PairRest.Table.ok_of_pre m h)

theorem frame_PairRestRef : Cert.quiescent_PairRestRefIdeal := fun m ρ _ =>
  (θ_run Cert.PairRestRefIdeal.defs _ _).mono (fun r h => ⟨fun c => (h c).2.2.2.2.2.2, sem_eq_zero_of_no_sems rfl r.2⟩)
    (Cert.PairRestRefIdeal.Value.run m ρ)

theorem equal_PairRest : Cert.algebraic_PairRestIdeal_PairRestRefIdeal := by
  intro m g m' g' hpre hagree
  refine ⟨_, _, _, _, _, _, Cert.PairRestIdeal.Rows.ends m (Cert.PairRestIdeal.Table.ok_of_pre m hpre)
      (Cert.PairRestIdeal.Table.lt_of_pre m hpre) g,
    (θ_run Cert.PairRestRefIdeal.defs _ _).mono (fun r h c => ⟨(h c).1.trans ?_, (h c).2.1.trans ?_, (h c).2.2.1.trans ?_,
        (h c).2.2.2.1.trans ?_, (h c).2.2.2.2.1.trans ?_, (h c).2.2.2.2.2.1.trans ?_, (h c).2.2.2.2.2.2⟩)
      (Cert.PairRestRefIdeal.Value.run m' g')⟩
  · rw [(hagree c).1, (hagree c).2.1, (hagree c).2.2.2.2.1]; rfl
  · rw [(hagree c).1, (hagree c).2.1, (hagree c).2.2.2.2.1]; rfl
  · rw [(hagree c).1, (hagree c).2.2.1, (hagree c).2.2.2.2.2.1]; rfl
  · rw [(hagree c).1, (hagree c).2.2.1, (hagree c).2.2.2.2.2.1]; rfl
  · rw [(hagree c).1, (hagree c).2.2.2.1, (hagree c).2.2.2.2.2.2]; rfl
  · rw [(hagree c).1, (hagree c).2.2.2.1, (hagree c).2.2.2.2.2.2]; rfl

theorem claim : Cert.Claim := ⟨Cert.GradH.Gen.facts, Cert.GradHIdeal.Gen.facts, Cert.GradHRefIdeal.Gen.facts, Cert.GradWIn.Gen.facts, Cert.GradWInIdeal.Gen.facts, Cert.GradWInRefIdeal.Gen.facts, Cert.GradWOut.Gen.facts, Cert.GradWOutIdeal.Gen.facts, Cert.GradWOutRefIdeal.Gen.facts, Cert.GradWAttn.Gen.facts, Cert.GradWAttnIdeal.Gen.facts, Cert.GradWAttnRefIdeal.Gen.facts, Cert.AdamIn.Gen.facts, Cert.AdamInIdeal.Gen.facts, Cert.AdamInRefIdeal.Gen.facts, Cert.AdamAttn.Gen.facts, Cert.AdamAttnIdeal.Gen.facts, Cert.AdamAttnRefIdeal.Gen.facts, Cert.AdamAda.Gen.facts, Cert.AdamAdaIdeal.Gen.facts, Cert.AdamAdaRefIdeal.Gen.facts, Cert.AdamRest.Gen.facts, Cert.AdamRestIdeal.Gen.facts, Cert.AdamRestRefIdeal.Gen.facts, Cert.FinalSums.Gen.facts, Cert.FinalSumsIdeal.Gen.facts, Cert.FinalSumsRefIdeal.Gen.facts, Cert.PairSums.Gen.facts, Cert.PairSumsIdeal.Gen.facts, Cert.PairSumsRefIdeal.Gen.facts, Cert.PairRest.Gen.facts, Cert.PairRestIdeal.Gen.facts, Cert.PairRestRefIdeal.Gen.facts, Cert.Pre_in_mesh.Gen.facts, Cert.Pre_in_mesh_rest.Gen.facts,
  frame_GradH_bits, frame_GradH, frame_GradHRef, frame_GradWIn_bits, frame_GradWIn, frame_GradWInRef, frame_GradWOut_bits, frame_GradWOut, frame_GradWOutRef, frame_GradWAttn_bits, frame_GradWAttn, frame_GradWAttnRef, frame_AdamIn_bits, frame_AdamIn, frame_AdamInRef, frame_AdamAttn_bits, frame_AdamAttn, frame_AdamAttnRef, frame_AdamAda_bits, frame_AdamAda, frame_AdamAdaRef, frame_AdamRest_bits, frame_AdamRest, frame_AdamRestRef, frame_FinalSums_bits, frame_FinalSums, frame_FinalSumsRef, frame_PairSums_bits, frame_PairSums, frame_PairSumsRef, frame_PairRest_bits, frame_PairRest, frame_PairRestRef, trivial, equal_GradH, trivial, equal_GradWIn, trivial, equal_GradWOut, trivial, equal_GradWAttn, trivial, equal_AdamIn, trivial, equal_AdamAttn, trivial, equal_AdamAda, trivial, equal_AdamRest, trivial, equal_FinalSums, trivial, equal_PairSums, trivial, equal_PairRest⟩

end Cert.Proof
